-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_names_a_sample [hPre_names_a_sample : Cert.Pre_names_a_sample.Facts] (m : (ℓ : Loc Cert.KernelIdeal.nD Cert.KernelIdeal.τ Cert.KernelIdeal.sig) → Buf (Elt Ideal) ℓ) : Prop :=
  ∀ c : Dev Cert.KernelIdeal.nD,
    (Cert.Pre_names_a_sample.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_names_a_sample [hPre_names_a_sample : Cert.Pre_names_a_sample.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_names_a_sample.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_names_a_sample [hKernelIdeal : Cert.KernelIdeal.Facts] [hPre_names_a_sample : Cert.Pre_names_a_sample.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_names_a_sample m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_names_a_sample [hReferenceIdeal : Cert.ReferenceIdeal.Facts] [hPre_names_a_sample : Cert.Pre_names_a_sample.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_names_a_sample m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "five_sixths" .f32 0x3F555555#32 ((5 / 6 : ℝ) : EReal)
  ∧ IdealRules.named_const.Statement Cert.KernelIdeal.κ "sixth" .f32 0x3E2AAAAB#32 ((1 / 6 : ℝ) : EReal)
  ∧ IdealRules.named_const.Statement Cert.KernelIdeal.κ "third" .f32 0x3EAAAAAB#32 ((1 / 3 : ℝ) : EReal)
  ∧ IdealRules.named_const.Statement Cert.KernelIdeal.κ "two_thirds" .f32 0x3F2AAAAB#32 ((2 / 3 : ℝ) : EReal)

def algebraic_KernelIdeal_ReferenceIdeal_pre_names_a_sample [hKernelIdeal : Cert.KernelIdeal.Facts] [hReferenceIdeal : Cert.ReferenceIdeal.Facts] [hPre_names_a_sample : Cert.Pre_names_a_sample.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_names_a_sample m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_names_a_sample : Cert.Pre_names_a_sample.Facts),
    quiescent_Kernel (hKernel := hKernel)
    ∧ quiescent_KernelIdeal (hKernelIdeal := hKernelIdeal)
    ∧ quiescent_KernelIdeal_pre_names_a_sample (hKernelIdeal := hKernelIdeal) (hPre_names_a_sample := hPre_names_a_sample)
    ∧ quiescent_ReferenceIdeal (hReferenceIdeal := hReferenceIdeal)
    ∧ quiescent_ReferenceIdeal_pre_names_a_sample (hReferenceIdeal := hReferenceIdeal) (hPre_names_a_sample := hPre_names_a_sample)
    ∧ preserves_Kernel_KernelIdeal
    ∧ algebraic_KernelIdeal_ReferenceIdeal_pre_names_a_sample (hKernelIdeal := hKernelIdeal) (hReferenceIdeal := hReferenceIdeal) (hPre_names_a_sample := hPre_names_a_sample)
-- ==== Pre_names_a_sample.lean ====
abbrev S2x128x32x64x64 : Shape := ⟨5, ![2, 128, 32, 64, 64]⟩
abbrev S1000x7 : Shape := ⟨2, ![1000, 7]⟩
abbrev S1000x1 : Shape := ⟨2, ![1000, 1]⟩
abbrev S1000 : Shape := ⟨1, ![1000]⟩
abbrev S_ : Shape := ⟨0, ![]⟩

class Facts : Prop where
  slices_S1000x7_S1000x1_0_0 : S1000x7.Slices ![0, 0] S1000x1
  shapeCasts_S1000x1_S1000 : S1000x1.ShapeCasts S1000
  bcast_S_S1000 : S_.BroadcastsInDim S1000 (![] : Fin 0 → Fin S1000.rank)
  reducesTo_S1000_S_d0 : S1000.ReducesTo [0] S_
  h_S_ : 0 < S_.numel

variable [Facts]

def fn {F : FTy → Type} [FloatOps F] (main_arg0 : FVec F S2x128x32x64x64 .f32) (main_arg1 : FVec F S1000x7 .f32) : IVec S_ 1 :=
  let main_v0 : FVec F S1000x1 .f32 := (extractStridedSlice S1000x1 ![0, 0] · slices_S1000x7_S1000x1_0_0) main_arg1
  let main_v1 : FVec F S1000 .f32 := shapeCast S1000 main_v0 shapeCasts_S1000x1_S1000
  let main_cst : FVec F S_ .f32 := constant S_ .f32 0xBF800000#32
  let main_v2 : FVec F S1000 .f32 := broadcastInDim S1000 ![] bcast_S_S1000 main_cst
  let main_v3 : IVec S1000 1 := cmpf .ogt main_v1 main_v2
  let main_v4 : FVec F S1000x1 .f32 := (extractStridedSlice S1000x1 ![0, 0] · slices_S1000x7_S1000x1_0_0) main_arg1
  let main_v5 : FVec F S1000 .f32 := shapeCast S1000 main_v4 shapeCasts_S1000x1_S1000
  let main_cst_0 : FVec F S_ .f32 := constant S_ .f32 0x40000000#32
  let main_v6 : FVec F S1000 .f32 := broadcastInDim S1000 ![] bcast_S_S1000 main_cst_0
  let main_v7 : IVec S1000 1 := cmpf .olt main_v5 main_v6
  let main_v8 : IVec S1000 1 := andi main_v3 main_v7
  let main_c : IVec S_ 1 := constantI S_ 1 1#1
  let main_v9 : IVec S_ 1 := (fun x v => Host.reduce IntOp.andi x v reducesTo_S1000_S_d0 h_S_) main_v8 main_c
  main_v9
-- ==== Kernel.lean ====
abbrev S2x128x32x64x64 : Shape := ⟨5, ![2, 128, 32, 64, 64]⟩
abbrev S1000x7 : Shape := ⟨2, ![1000, 7]⟩
abbrev S2x32x64x64x128 : Shape := ⟨5, ![2, 32, 64, 64, 128]⟩
abbrev S262144x128 : Shape := ⟨2, ![262144, 128]⟩
abbrev S_ : Shape := ⟨0, ![]⟩
abbrev S1024x8 : Shape := ⟨2, ![1024, 8]⟩
abbrev S8192 : Shape := ⟨1, ![8192]⟩
abbrev S343000x128 : Shape := ⟨2, ![343000, 128]⟩
abbrev S21008 : Shape := ⟨1, ![21008]⟩
abbrev S22008 : Shape := ⟨1, ![22008]⟩
abbrev S64x128 : Shape := ⟨2, ![64, 128]⟩
abbrev S48x128 : Shape := ⟨2, ![48, 128]⟩
abbrev S8x128 : Shape := ⟨2, ![8, 128]⟩
abbrev S16 : Shape := ⟨1, ![16]⟩
abbrev S64 : Shape := ⟨1, ![64]⟩
abbrev S48 : Shape := ⟨1, ![48]⟩
abbrev S8 : Shape := ⟨1, ![8]⟩
abbrev S7x7x7x1000x128 : Shape := ⟨5, ![7, 7, 7, 1000, 128]⟩
abbrev S1000x128x7x7x7 : Shape := ⟨5, ![1000, 128, 7, 7, 7]⟩

abbrev nBuf : Table → Nat
  | .hbm => 11
  | .local .scVector .vmem => 13
  | _ => 0

abbrev bufTy : (tb : Table) → Fin (nBuf tb) → BufTy
  | .hbm, ⟨0, _⟩ => ⟨S2x128x32x64x64, .f32⟩
  | .hbm, ⟨1, _⟩ => ⟨S1000x7, .f32⟩
  | .hbm, ⟨2, _⟩ => ⟨S2x32x64x64x128, .f32⟩
  | .hbm, ⟨3, _⟩ => ⟨S262144x128, .f32⟩
  | .hbm, ⟨4, _⟩ => ⟨S_, .i32⟩
  | .hbm, ⟨5, _⟩ => ⟨S_, .f32⟩
  | .hbm, ⟨6, _⟩ => ⟨S1024x8, .f32⟩
  | .hbm, ⟨7, _⟩ => ⟨S8192, .f32⟩
  | .hbm, ⟨8, _⟩ => ⟨S343000x128, .f32⟩
  | .hbm, ⟨9, _⟩ => ⟨S7x7x7x1000x128, .f32⟩
  | .hbm, ⟨10, _⟩ => ⟨S1000x128x7x7x7, .f32⟩
  | .local .scVector .vmem, ⟨0, _⟩ => ⟨S8192, .f32⟩
  | .local .scVector .vmem, ⟨1, _⟩ => ⟨S21008, .i32⟩
  | .local .scVector .vmem, ⟨2, _⟩ => ⟨S22008, .i32⟩
  | .local .scVector .vmem, ⟨3, _⟩ => ⟨S64x128, .f32⟩
  | .local .scVector .vmem, ⟨4, _⟩ => ⟨S64x128, .f32⟩
  | .local .scVector .vmem, ⟨5, _⟩ => ⟨S64x128, .f32⟩
  | .local .scVector .vmem, ⟨6, _⟩ => ⟨S64x128, .f32⟩
  | .local .scVector .vmem, ⟨7, _⟩ => ⟨S64x128, .f32⟩
  | .local .scVector .vmem, ⟨8, _⟩ => ⟨S64x128, .f32⟩
  | .local .scVector .vmem, ⟨9, _⟩ => ⟨S64x128, .f32⟩
  | .local .scVector .vmem, ⟨10, _⟩ => ⟨S64x128, .f32⟩
  | .local .scVector .vmem, ⟨11, _⟩ => ⟨S48x128, .f32⟩
  | .local .scVector .vmem, ⟨12, _⟩ => ⟨S8x128, .f32⟩
  | _, _ => ⟨S2x128x32x64x64, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 21 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | _ => false

abbrev sig : RefSig :=
  ofTables nBuf rfl bufTy 4 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v1_scv : Ref sig .scVector := ⟨.hbm, 3, rfl⟩
abbrev main_v3_scv : Ref sig .scVector := ⟨.hbm, 7, rfl⟩
abbrev main_v4_scv : Ref sig .scVector := ⟨.hbm, 8, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc0_scratch9 : Ref sig .scVector := ⟨.vmem, 9, rfl⟩
abbrev cc0_scratch10 : Ref sig .scVector := ⟨.vmem, 10, rfl⟩
abbrev cc0_scratch27 : Ref sig .scVector := ⟨.vmem, 11, rfl⟩
abbrev cc0_scratch28 : Ref sig .scVector := ⟨.vmem, 12, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg0 : BitVec 32 := BitVec.ofNat 32 (i 0).val
  let c0_i32_10 : BitVec 32 := 0#32
  let v28 : BitVec 1 := Scalar.cmpi .eq arg0 c0_i32_10
  let v29 : BitVec 32 := Scalar.extui v28
  let c0_i32_11 : BitVec 32 := 0#32
  let v30 : BitVec 1 := Scalar.cmpi .ne v29 c0_i32_11
  v30

@[reducible] def k0_t1_loop : Scf.Loop 32 :=
  let c0_i32_36 : BitVec 32 := 0#32
  let c62_i32 : BitVec 32 := 62#32
  let v82 : BitVec 32 := Scalar.addi c0_i32_36 c62_i32
  let c1_i32_37 : BitVec 32 := 1#32
  ⟨c0_i32_36, v82, c1_i32_37⟩

def k0_chk1 (i : grid0.Coords) (v2037 : IVec S16 32) : Prop :=
  (∀ (k0_h1 : k0_cond1 i = 1#1), ∀ a x, ((![v2037] : Fin 1 → IVec S16 32) a x).toNat < S8192.size a)
theorem k0_idx1_inb : ∀ (i : grid0.Coords) (v2037 : IVec S16 32) (k0_hw1 : k0_chk1 i v2037), ∀ (k0_h1 : k0_cond1 i = 1#1), ∀ a x, ((![v2037] : Fin 1 → IVec S16 32) a x).toNat < S8192.size a := fun i v2037 k0_hw1 k0_h1 => k0_hw1 k0_h1

def k0_chk2 (i : grid0.Coords) (v2045 : IVec S16 32) : Prop :=
  (∀ (k0_h1 : k0_cond1 i = 1#1), ∀ a x, ((![v2045] : Fin 1 → IVec S16 32) a x).toNat < S8192.size a)
theorem k0_idx2_inb : ∀ (i : grid0.Coords) (v2045 : IVec S16 32) (k0_hw2 : k0_chk2 i v2045), ∀ (k0_h1 : k0_cond1 i = 1#1), ∀ a x, ((![v2045] : Fin 1 → IVec S16 32) a x).toNat < S8192.size a := fun i v2045 k0_hw2 k0_h1 => k0_hw2 k0_h1

def k0_chk3 (i : grid0.Coords) (v2048 : IVec S16 32) : Prop :=
  (∀ (k0_h1 : k0_cond1 i = 1#1), ∀ a x, ((![v2048] : Fin 1 → IVec S16 32) a x).toNat < S8192.size a)
theorem k0_idx3_inb : ∀ (i : grid0.Coords) (v2048 : IVec S16 32) (k0_hw3 : k0_chk3 i v2048), ∀ (k0_h1 : k0_cond1 i = 1#1), ∀ a x, ((![v2048] : Fin 1 → IVec S16 32) a x).toNat < S8192.size a := fun i v2048 k0_hw3 k0_h1 => k0_hw3 k0_h1

def k0_chk4 (i : grid0.Coords) (v2051 : IVec S16 32) : Prop :=
  (∀ (k0_h1 : k0_cond1 i = 1#1), ∀ a x, ((![v2051] : Fin 1 → IVec S16 32) a x).toNat < S8192.size a)
theorem k0_idx4_inb : ∀ (i : grid0.Coords) (v2051 : IVec S16 32) (k0_hw4 : k0_chk4 i v2051), ∀ (k0_h1 : k0_cond1 i = 1#1), ∀ a x, ((![v2051] : Fin 1 → IVec S16 32) a x).toNat < S8192.size a := fun i v2051 k0_hw4 k0_h1 => k0_hw4 k0_h1

def k0_chk5 (i : grid0.Coords) (v2054 : IVec S16 32) : Prop :=
  (∀ (k0_h1 : k0_cond1 i = 1#1), ∀ a x, ((![v2054] : Fin 1 → IVec S16 32) a x).toNat < S8192.size a)
theorem k0_idx5_inb : ∀ (i : grid0.Coords) (v2054 : IVec S16 32) (k0_hw5 : k0_chk5 i v2054), ∀ (k0_h1 : k0_cond1 i = 1#1), ∀ a x, ((![v2054] : Fin 1 → IVec S16 32) a x).toNat < S8192.size a := fun i v2054 k0_hw5 k0_h1 => k0_hw5 k0_h1

def k0_chk6 (i : grid0.Coords) (v2057 : IVec S16 32) : Prop :=
  (∀ (k0_h1 : k0_cond1 i = 1#1), ∀ a x, ((![v2057] : Fin 1 → IVec S16 32) a x).toNat < S8192.size a)
theorem k0_idx6_inb : ∀ (i : grid0.Coords) (v2057 : IVec S16 32) (k0_hw6 : k0_chk6 i v2057), ∀ (k0_h1 : k0_cond1 i = 1#1), ∀ a x, ((![v2057] : Fin 1 → IVec S16 32) a x).toNat < S8192.size a := fun i v2057 k0_hw6 k0_h1 => k0_hw6 k0_h1

def k0_chk7 (i : grid0.Coords) (v2060 : IVec S16 32) : Prop :=
  (∀ (k0_h1 : k0_cond1 i = 1#1), ∀ a x, ((![v2060] : Fin 1 → IVec S16 32) a x).toNat < S8192.size a)
theorem k0_idx7_inb : ∀ (i : grid0.Coords) (v2060 : IVec S16 32) (k0_hw7 : k0_chk7 i v2060), ∀ (k0_h1 : k0_cond1 i = 1#1), ∀ a x, ((![v2060] : Fin 1 → IVec S16 32) a x).toNat < S8192.size a := fun i v2060 k0_hw7 k0_h1 => k0_hw7 k0_h1
def k0_off1 (k0_t1 : Fin k0_t1_loop.trips) (c0_i32_1049 : BitVec 32) : Fin 1 → Nat :=
  let c0_i32_36 : BitVec 32 := 0#32
  let c1_i32_37 : BitVec 32 := 1#32
  let arg38 : BitVec 32 := Scf.iv c0_i32_36 c1_i32_37 k0_t1
  let c16_i32_1048 : BitVec 32 := 16#32
  let v2327 : BitVec 32 := Scalar.muli arg38 c16_i32_1048
  let v2328 : BitVec 32 := Scalar.addi c0_i32_1049 v2327
  let v2329 : Index := Scalar.indexCast v2328
  ![v2329.toNat]

def k0_chk8 (i : grid0.Coords) (v88 : IVec S16 32) : Prop :=
  (∀ (k0_h1 : k0_cond1 i = 1#1), ∀ a x, ((![v88] : Fin 1 → IVec S16 32) a x).toNat < S8192.size a)
theorem k0_idx8_inb : ∀ (i : grid0.Coords) (v88 : IVec S16 32) (k0_hw8 : k0_chk8 i v88), ∀ (k0_h1 : k0_cond1 i = 1#1), ∀ a x, ((![v88] : Fin 1 → IVec S16 32) a x).toNat < S8192.size a := fun i v88 k0_hw8 k0_h1 => k0_hw8 k0_h1

def k0_chk9 (i : grid0.Coords) (v96 : IVec S16 32) : Prop :=
  (∀ (k0_h1 : k0_cond1 i = 1#1), ∀ a x, ((![v96] : Fin 1 → IVec S16 32) a x).toNat < S8192.size a)
theorem k0_idx9_inb : ∀ (i : grid0.Coords) (v96 : IVec S16 32) (k0_hw9 : k0_chk9 i v96), ∀ (k0_h1 : k0_cond1 i = 1#1), ∀ a x, ((![v96] : Fin 1 → IVec S16 32) a x).toNat < S8192.size a := fun i v96 k0_hw9 k0_h1 => k0_hw9 k0_h1

def k0_chk10 (i : grid0.Coords) (v99 : IVec S16 32) : Prop :=
  (∀ (k0_h1 : k0_cond1 i = 1#1), ∀ a x, ((![v99] : Fin 1 → IVec S16 32) a x).toNat < S8192.size a)
theorem k0_idx10_inb : ∀ (i : grid0.Coords) (v99 : IVec S16 32) (k0_hw10 : k0_chk10 i v99), ∀ (k0_h1 : k0_cond1 i = 1#1), ∀ a x, ((![v99] : Fin 1 → IVec S16 32) a x).toNat < S8192.size a := fun i v99 k0_hw10 k0_h1 => k0_hw10 k0_h1

def k0_chk11 (i : grid0.Coords) (v102 : IVec S16 32) : Prop :=
  (∀ (k0_h1 : k0_cond1 i = 1#1), ∀ a x, ((![v102] : Fin 1 → IVec S16 32) a x).toNat < S8192.size a)
theorem k0_idx11_inb : ∀ (i : grid0.Coords) (v102 : IVec S16 32) (k0_hw11 : k0_chk11 i v102), ∀ (k0_h1 : k0_cond1 i = 1#1), ∀ a x, ((![v102] : Fin 1 → IVec S16 32) a x).toNat < S8192.size a := fun i v102 k0_hw11 k0_h1 => k0_hw11 k0_h1

def k0_chk12 (i : grid0.Coords) (v105 : IVec S16 32) : Prop :=
  (∀ (k0_h1 : k0_cond1 i = 1#1), ∀ a x, ((![v105] : Fin 1 → IVec S16 32) a x).toNat < S8192.size a)
theorem k0_idx12_inb : ∀ (i : grid0.Coords) (v105 : IVec S16 32) (k0_hw12 : k0_chk12 i v105), ∀ (k0_h1 : k0_cond1 i = 1#1), ∀ a x, ((![v105] : Fin 1 → IVec S16 32) a x).toNat < S8192.size a := fun i v105 k0_hw12 k0_h1 => k0_hw12 k0_h1

def k0_chk13 (i : grid0.Coords) (v108 : IVec S16 32) : Prop :=
  (∀ (k0_h1 : k0_cond1 i = 1#1), ∀ a x, ((![v108] : Fin 1 → IVec S16 32) a x).toNat < S8192.size a)
theorem k0_idx13_inb : ∀ (i : grid0.Coords) (v108 : IVec S16 32) (k0_hw13 : k0_chk13 i v108), ∀ (k0_h1 : k0_cond1 i = 1#1), ∀ a x, ((![v108] : Fin 1 → IVec S16 32) a x).toNat < S8192.size a := fun i v108 k0_hw13 k0_h1 => k0_hw13 k0_h1

def k0_chk14 (i : grid0.Coords) (v111 : IVec S16 32) : Prop :=
  (∀ (k0_h1 : k0_cond1 i = 1#1), ∀ a x, ((![v111] : Fin 1 → IVec S16 32) a x).toNat < S8192.size a)
theorem k0_idx14_inb : ∀ (i : grid0.Coords) (v111 : IVec S16 32) (k0_hw14 : k0_chk14 i v111), ∀ (k0_h1 : k0_cond1 i = 1#1), ∀ a x, ((![v111] : Fin 1 → IVec S16 32) a x).toNat < S8192.size a := fun i v111 k0_hw14 k0_h1 => k0_hw14 k0_h1

def k0_chk15 (i : grid0.Coords) (v383 : IVec S16 32) : Prop :=
  (∀ (k0_h1 : k0_cond1 i = 1#1), ∀ a x, ((![v383] : Fin 1 → IVec S16 32) a x).toNat < S21008.size a)
theorem k0_idx15_inb : ∀ (i : grid0.Coords) (v383 : IVec S16 32) (k0_hw15 : k0_chk15 i v383), ∀ (k0_h1 : k0_cond1 i = 1#1), ∀ a x, ((![v383] : Fin 1 → IVec S16 32) a x).toNat < S21008.size a := fun i v383 k0_hw15 k0_h1 => k0_hw15 k0_h1

def k0_chk16 (i : grid0.Coords) (v385 : IVec S16 32) : Prop :=
  (∀ (k0_h1 : k0_cond1 i = 1#1), ∀ a x, ((![v385] : Fin 1 → IVec S16 32) a x).toNat < S21008.size a)
theorem k0_idx16_inb : ∀ (i : grid0.Coords) (v385 : IVec S16 32) (k0_hw16 : k0_chk16 i v385), ∀ (k0_h1 : k0_cond1 i = 1#1), ∀ a x, ((![v385] : Fin 1 → IVec S16 32) a x).toNat < S21008.size a := fun i v385 k0_hw16 k0_h1 => k0_hw16 k0_h1

def k0_chk17 (i : grid0.Coords) (v387 : IVec S16 32) : Prop :=
  (∀ (k0_h1 : k0_cond1 i = 1#1), ∀ a x, ((![v387] : Fin 1 → IVec S16 32) a x).toNat < S21008.size a)
theorem k0_idx17_inb : ∀ (i : grid0.Coords) (v387 : IVec S16 32) (k0_hw17 : k0_chk17 i v387), ∀ (k0_h1 : k0_cond1 i = 1#1), ∀ a x, ((![v387] : Fin 1 → IVec S16 32) a x).toNat < S21008.size a := fun i v387 k0_hw17 k0_h1 => k0_hw17 k0_h1

def k0_chk18 (i : grid0.Coords) (v389 : IVec S16 32) : Prop :=
  (∀ (k0_h1 : k0_cond1 i = 1#1), ∀ a x, ((![v389] : Fin 1 → IVec S16 32) a x).toNat < S21008.size a)
theorem k0_idx18_inb : ∀ (i : grid0.Coords) (v389 : IVec S16 32) (k0_hw18 : k0_chk18 i v389), ∀ (k0_h1 : k0_cond1 i = 1#1), ∀ a x, ((![v389] : Fin 1 → IVec S16 32) a x).toNat < S21008.size a := fun i v389 k0_hw18 k0_h1 => k0_hw18 k0_h1

def k0_chk19 (i : grid0.Coords) (v391 : IVec S16 32) : Prop :=
  (∀ (k0_h1 : k0_cond1 i = 1#1), ∀ a x, ((![v391] : Fin 1 → IVec S16 32) a x).toNat < S21008.size a)
theorem k0_idx19_inb : ∀ (i : grid0.Coords) (v391 : IVec S16 32) (k0_hw19 : k0_chk19 i v391), ∀ (k0_h1 : k0_cond1 i = 1#1), ∀ a x, ((![v391] : Fin 1 → IVec S16 32) a x).toNat < S21008.size a := fun i v391 k0_hw19 k0_h1 => k0_hw19 k0_h1

def k0_chk20 (i : grid0.Coords) (v393 : IVec S16 32) : Prop :=
  (∀ (k0_h1 : k0_cond1 i = 1#1), ∀ a x, ((![v393] : Fin 1 → IVec S16 32) a x).toNat < S21008.size a)
theorem k0_idx20_inb : ∀ (i : grid0.Coords) (v393 : IVec S16 32) (k0_hw20 : k0_chk20 i v393), ∀ (k0_h1 : k0_cond1 i = 1#1), ∀ a x, ((![v393] : Fin 1 → IVec S16 32) a x).toNat < S21008.size a := fun i v393 k0_hw20 k0_h1 => k0_hw20 k0_h1

def k0_chk21 (i : grid0.Coords) (v395 : IVec S16 32) : Prop :=
  (∀ (k0_h1 : k0_cond1 i = 1#1), ∀ a x, ((![v395] : Fin 1 → IVec S16 32) a x).toNat < S21008.size a)
theorem k0_idx21_inb : ∀ (i : grid0.Coords) (v395 : IVec S16 32) (k0_hw21 : k0_chk21 i v395), ∀ (k0_h1 : k0_cond1 i = 1#1), ∀ a x, ((![v395] : Fin 1 → IVec S16 32) a x).toNat < S21008.size a := fun i v395 k0_hw21 k0_h1 => k0_hw21 k0_h1

def k0_chk22 (i : grid0.Coords) (v397 : IVec S16 32) : Prop :=
  (∀ (k0_h1 : k0_cond1 i = 1#1), ∀ a x, ((![v397] : Fin 1 → IVec S16 32) a x).toNat < S21008.size a)
theorem k0_idx22_inb : ∀ (i : grid0.Coords) (v397 : IVec S16 32) (k0_hw22 : k0_chk22 i v397), ∀ (k0_h1 : k0_cond1 i = 1#1), ∀ a x, ((![v397] : Fin 1 → IVec S16 32) a x).toNat < S21008.size a := fun i v397 k0_hw22 k0_h1 => k0_hw22 k0_h1

def k0_chk23 (i : grid0.Coords) (v399 : IVec S16 32) : Prop :=
  (∀ (k0_h1 : k0_cond1 i = 1#1), ∀ a x, ((![v399] : Fin 1 → IVec S16 32) a x).toNat < S21008.size a)
theorem k0_idx23_inb : ∀ (i : grid0.Coords) (v399 : IVec S16 32) (k0_hw23 : k0_chk23 i v399), ∀ (k0_h1 : k0_cond1 i = 1#1), ∀ a x, ((![v399] : Fin 1 → IVec S16 32) a x).toNat < S21008.size a := fun i v399 k0_hw23 k0_h1 => k0_hw23 k0_h1

def k0_chk24 (i : grid0.Coords) (v401 : IVec S16 32) : Prop :=
  (∀ (k0_h1 : k0_cond1 i = 1#1), ∀ a x, ((![v401] : Fin 1 → IVec S16 32) a x).toNat < S21008.size a)
theorem k0_idx24_inb : ∀ (i : grid0.Coords) (v401 : IVec S16 32) (k0_hw24 : k0_chk24 i v401), ∀ (k0_h1 : k0_cond1 i = 1#1), ∀ a x, ((![v401] : Fin 1 → IVec S16 32) a x).toNat < S21008.size a := fun i v401 k0_hw24 k0_h1 => k0_hw24 k0_h1

def k0_chk25 (i : grid0.Coords) (v403 : IVec S16 32) : Prop :=
  (∀ (k0_h1 : k0_cond1 i = 1#1), ∀ a x, ((![v403] : Fin 1 → IVec S16 32) a x).toNat < S21008.size a)
theorem k0_idx25_inb : ∀ (i : grid0.Coords) (v403 : IVec S16 32) (k0_hw25 : k0_chk25 i v403), ∀ (k0_h1 : k0_cond1 i = 1#1), ∀ a x, ((![v403] : Fin 1 → IVec S16 32) a x).toNat < S21008.size a := fun i v403 k0_hw25 k0_h1 => k0_hw25 k0_h1

def k0_chk26 (i : grid0.Coords) (v405 : IVec S16 32) : Prop :=
  (∀ (k0_h1 : k0_cond1 i = 1#1), ∀ a x, ((![v405] : Fin 1 → IVec S16 32) a x).toNat < S21008.size a)
theorem k0_idx26_inb : ∀ (i : grid0.Coords) (v405 : IVec S16 32) (k0_hw26 : k0_chk26 i v405), ∀ (k0_h1 : k0_cond1 i = 1#1), ∀ a x, ((![v405] : Fin 1 → IVec S16 32) a x).toNat < S21008.size a := fun i v405 k0_hw26 k0_h1 => k0_hw26 k0_h1

def k0_chk27 (i : grid0.Coords) (v407 : IVec S16 32) : Prop :=
  (∀ (k0_h1 : k0_cond1 i = 1#1), ∀ a x, ((![v407] : Fin 1 → IVec S16 32) a x).toNat < S21008.size a)
theorem k0_idx27_inb : ∀ (i : grid0.Coords) (v407 : IVec S16 32) (k0_hw27 : k0_chk27 i v407), ∀ (k0_h1 : k0_cond1 i = 1#1), ∀ a x, ((![v407] : Fin 1 → IVec S16 32) a x).toNat < S21008.size a := fun i v407 k0_hw27 k0_h1 => k0_hw27 k0_h1

def k0_chk28 (i : grid0.Coords) (v409 : IVec S16 32) : Prop :=
  (∀ (k0_h1 : k0_cond1 i = 1#1), ∀ a x, ((![v409] : Fin 1 → IVec S16 32) a x).toNat < S21008.size a)
theorem k0_idx28_inb : ∀ (i : grid0.Coords) (v409 : IVec S16 32) (k0_hw28 : k0_chk28 i v409), ∀ (k0_h1 : k0_cond1 i = 1#1), ∀ a x, ((![v409] : Fin 1 → IVec S16 32) a x).toNat < S21008.size a := fun i v409 k0_hw28 k0_h1 => k0_hw28 k0_h1

def k0_chk29 (i : grid0.Coords) (v411 : IVec S16 32) : Prop :=
  (∀ (k0_h1 : k0_cond1 i = 1#1), ∀ a x, ((![v411] : Fin 1 → IVec S16 32) a x).toNat < S21008.size a)
theorem k0_idx29_inb : ∀ (i : grid0.Coords) (v411 : IVec S16 32) (k0_hw29 : k0_chk29 i v411), ∀ (k0_h1 : k0_cond1 i = 1#1), ∀ a x, ((![v411] : Fin 1 → IVec S16 32) a x).toNat < S21008.size a := fun i v411 k0_hw29 k0_h1 => k0_hw29 k0_h1

def k0_chk30 (i : grid0.Coords) (v413 : IVec S16 32) : Prop :=
  (∀ (k0_h1 : k0_cond1 i = 1#1), ∀ a x, ((![v413] : Fin 1 → IVec S16 32) a x).toNat < S21008.size a)
theorem k0_idx30_inb : ∀ (i : grid0.Coords) (v413 : IVec S16 32) (k0_hw30 : k0_chk30 i v413), ∀ (k0_h1 : k0_cond1 i = 1#1), ∀ a x, ((![v413] : Fin 1 → IVec S16 32) a x).toNat < S21008.size a := fun i v413 k0_hw30 k0_h1 => k0_hw30 k0_h1

def k0_chk31 (i : grid0.Coords) (v415 : IVec S16 32) : Prop :=
  (∀ (k0_h1 : k0_cond1 i = 1#1), ∀ a x, ((![v415] : Fin 1 → IVec S16 32) a x).toNat < S21008.size a)
theorem k0_idx31_inb : ∀ (i : grid0.Coords) (v415 : IVec S16 32) (k0_hw31 : k0_chk31 i v415), ∀ (k0_h1 : k0_cond1 i = 1#1), ∀ a x, ((![v415] : Fin 1 → IVec S16 32) a x).toNat < S21008.size a := fun i v415 k0_hw31 k0_h1 => k0_hw31 k0_h1

def k0_chk32 (i : grid0.Coords) (v417 : IVec S16 32) : Prop :=
  (∀ (k0_h1 : k0_cond1 i = 1#1), ∀ a x, ((![v417] : Fin 1 → IVec S16 32) a x).toNat < S21008.size a)
theorem k0_idx32_inb : ∀ (i : grid0.Coords) (v417 : IVec S16 32) (k0_hw32 : k0_chk32 i v417), ∀ (k0_h1 : k0_cond1 i = 1#1), ∀ a x, ((![v417] : Fin 1 → IVec S16 32) a x).toNat < S21008.size a := fun i v417 k0_hw32 k0_h1 => k0_hw32 k0_h1

def k0_chk33 (i : grid0.Coords) (v419 : IVec S16 32) : Prop :=
  (∀ (k0_h1 : k0_cond1 i = 1#1), ∀ a x, ((![v419] : Fin 1 → IVec S16 32) a x).toNat < S21008.size a)
theorem k0_idx33_inb : ∀ (i : grid0.Coords) (v419 : IVec S16 32) (k0_hw33 : k0_chk33 i v419), ∀ (k0_h1 : k0_cond1 i = 1#1), ∀ a x, ((![v419] : Fin 1 → IVec S16 32) a x).toNat < S21008.size a := fun i v419 k0_hw33 k0_h1 => k0_hw33 k0_h1

def k0_chk34 (i : grid0.Coords) (v421 : IVec S16 32) : Prop :=
  (∀ (k0_h1 : k0_cond1 i = 1#1), ∀ a x, ((![v421] : Fin 1 → IVec S16 32) a x).toNat < S21008.size a)
theorem k0_idx34_inb : ∀ (i : grid0.Coords) (v421 : IVec S16 32) (k0_hw34 : k0_chk34 i v421), ∀ (k0_h1 : k0_cond1 i = 1#1), ∀ a x, ((![v421] : Fin 1 → IVec S16 32) a x).toNat < S21008.size a := fun i v421 k0_hw34 k0_h1 => k0_hw34 k0_h1

def k0_chk35 (i : grid0.Coords) (v423 : IVec S16 32) : Prop :=
  (∀ (k0_h1 : k0_cond1 i = 1#1), ∀ a x, ((![v423] : Fin 1 → IVec S16 32) a x).toNat < S21008.size a)
theorem k0_idx35_inb : ∀ (i : grid0.Coords) (v423 : IVec S16 32) (k0_hw35 : k0_chk35 i v423), ∀ (k0_h1 : k0_cond1 i = 1#1), ∀ a x, ((![v423] : Fin 1 → IVec S16 32) a x).toNat < S21008.size a := fun i v423 k0_hw35 k0_h1 => k0_hw35 k0_h1
@[reducible] def k0_t2_loop : Scf.Loop 32 :=
  let c0_i32_853 : BitVec 32 := 0#32
  let c62_i32_854 : BitVec 32 := 62#32
  let v1744 : BitVec 32 := Scalar.addi c0_i32_853 c62_i32_854
  let c1_i32_855 : BitVec 32 := 1#32
  ⟨c0_i32_853, v1744, c1_i32_855⟩
def k0_off2 (i : grid0.Coords) (k0_t2 : Fin k0_t2_loop.trips) (c0_i32_161 : BitVec 32) : Fin 1 → Nat :=
  let arg1 : BitVec 32 := BitVec.ofNat 32 (i 1).val
  let c7_i32 : BitVec 32 := 7#32
  let v0 : BitVec 1 := Scalar.cmpi .slt arg1 c7_i32
  let c22_i32 : BitVec 32 := 22#32
  let v1 : BitVec 32 := Scalar.muli arg1 c22_i32
  let c21_i32 : BitVec 32 := 21#32
  let v2 : BitVec 32 := Scalar.muli c21_i32 arg1
  let c7_i32_0 : BitVec 32 := 7#32
  let v3 : BitVec 32 := Scalar.addi v2 c7_i32_0
  let v4 : BitVec 32 := Scalar.select v0 v1 v3
  let v424 : BitVec 32 := Scalar.addi v4 c0_i32_161
  let c0_i32_162 : BitVec 32 := 0#32
  let v426 : BitVec 1 := Scalar.cmpi .sgt v424 c0_i32_162
  let v427 : BitVec 32 := Scalar.extui v426
  let c0_i32_163 : BitVec 32 := 0#32
  let v428 : BitVec 1 := Scalar.cmpi .slt v424 c0_i32_163
  let v429 : BitVec 32 := Scalar.extui v428
  let v430 : BitVec 32 := Scalar.subi v427 v429
  let c49_i32 : BitVec 32 := 49#32
  let c0_i32_164 : BitVec 32 := 0#32
  let v431 : BitVec 1 := Scalar.cmpi .sgt c49_i32 c0_i32_164
  let v432 : BitVec 32 := Scalar.extui v431
  let c0_i32_165 : BitVec 32 := 0#32
  let v433 : BitVec 1 := Scalar.cmpi .slt c49_i32 c0_i32_165
  let v434 : BitVec 32 := Scalar.extui v433
  let v435 : BitVec 32 := Scalar.subi v432 v434
  let v436 : BitVec 1 := Scalar.cmpi .ne v430 v435
  let v437 : BitVec 32 := Scalar.remsi v424 c49_i32
  let c0_i32_166 : BitVec 32 := 0#32
  let v438 : BitVec 1 := Scalar.cmpi .ne v437 c0_i32_166
  let v439 : BitVec 1 := Scalar.andi v436 v438
  let v425 : BitVec 32 := Scalar.divsi v424 c49_i32
  let c1_i32_167 : BitVec 32 := 1#32
  let v440 : BitVec 32 := Scalar.subi v425 c1_i32_167
  let v441 : BitVec 32 := Scalar.select v439 v440 v425
  let c1000_i32_187 : BitVec 32 := 1000#32
  let v479 : BitVec 32 := Scalar.muli v441 c1000_i32_187
  let c0_i32_853 : BitVec 32 := 0#32
  let c1_i32_855 : BitVec 32 := 1#32
  let arg38 : BitVec 32 := Scf.iv c0_i32_853 c1_i32_855 k0_t2
  let c16_i32_924 : BitVec 32 := 16#32
  let v2031 : BitVec 32 := Scalar.muli arg38 c16_i32_924
  let v2032 : BitVec 32 := Scalar.addi v479 v2031
  let v2033 : Index := Scalar.indexCast v2032
  ![v2033.toNat]
def k0_off3 (i : grid0.Coords) (k0_t2 : Fin k0_t2_loop.trips) (c0_i32_161 : BitVec 32) : Fin 1 → Nat :=
  let c7_i32_188 : BitVec 32 := 7#32
  let arg1 : BitVec 32 := BitVec.ofNat 32 (i 1).val
  let c7_i32 : BitVec 32 := 7#32
  let v0 : BitVec 1 := Scalar.cmpi .slt arg1 c7_i32
  let c22_i32 : BitVec 32 := 22#32
  let v1 : BitVec 32 := Scalar.muli arg1 c22_i32
  let c21_i32 : BitVec 32 := 21#32
  let v2 : BitVec 32 := Scalar.muli c21_i32 arg1
  let c7_i32_0 : BitVec 32 := 7#32
  let v3 : BitVec 32 := Scalar.addi v2 c7_i32_0
  let v4 : BitVec 32 := Scalar.select v0 v1 v3
  let v424 : BitVec 32 := Scalar.addi v4 c0_i32_161
  let c0_i32_169 : BitVec 32 := 0#32
  let v443 : BitVec 1 := Scalar.cmpi .sgt v424 c0_i32_169
  let v444 : BitVec 32 := Scalar.extui v443
  let c0_i32_170 : BitVec 32 := 0#32
  let v445 : BitVec 1 := Scalar.cmpi .slt v424 c0_i32_170
  let v446 : BitVec 32 := Scalar.extui v445
  let v447 : BitVec 32 := Scalar.subi v444 v446
  let c7_i32_168 : BitVec 32 := 7#32
  let c0_i32_171 : BitVec 32 := 0#32
  let v448 : BitVec 1 := Scalar.cmpi .sgt c7_i32_168 c0_i32_171
  let v449 : BitVec 32 := Scalar.extui v448
  let c0_i32_172 : BitVec 32 := 0#32
  let v450 : BitVec 1 := Scalar.cmpi .slt c7_i32_168 c0_i32_172
  let v451 : BitVec 32 := Scalar.extui v450
  let v452 : BitVec 32 := Scalar.subi v449 v451
  let v453 : BitVec 1 := Scalar.cmpi .ne v447 v452
  let v454 : BitVec 32 := Scalar.remsi v424 c7_i32_168
  let c0_i32_173 : BitVec 32 := 0#32
  let v455 : BitVec 1 := Scalar.cmpi .ne v454 c0_i32_173
  let v456 : BitVec 1 := Scalar.andi v453 v455
  let v442 : BitVec 32 := Scalar.divsi v424 c7_i32_168
  let c1_i32_174 : BitVec 32 := 1#32
  let v457 : BitVec 32 := Scalar.subi v442 c1_i32_174
  let v458 : BitVec 32 := Scalar.select v456 v457 v442
  let c7_i32_175 : BitVec 32 := 7#32
  let c0_i32_176 : BitVec 32 := 0#32
  let v459 : BitVec 1 := Scalar.cmpi .eq c7_i32_175 c0_i32_176
  let c1_i32_177 : BitVec 32 := 1#32
  let v460 : BitVec 32 := Scalar.select v459 c1_i32_177 c7_i32_175
  let v461 : BitVec 32 := Scalar.remsi v458 v460
  let c0_i32_179 : BitVec 32 := 0#32
  let v463 : BitVec 1 := Scalar.cmpi .slt v461 c0_i32_179
  let c0_i32_180 : BitVec 32 := 0#32
  let v464 : BitVec 1 := Scalar.cmpi .slt v460 c0_i32_180
  let v465 : BitVec 1 := Scalar.xori v463 v464
  let c0_i32_178 : BitVec 32 := 0#32
  let v462 : BitVec 1 := Scalar.cmpi .ne v461 c0_i32_178
  let v466 : BitVec 1 := Scalar.andi v465 v462
  let v467 : BitVec 32 := Scalar.addi v461 v460
  let v468 : BitVec 32 := Scalar.select v466 v467 v461
  let v480 : BitVec 32 := Scalar.addi c7_i32_188 v468
  let c1000_i32_189 : BitVec 32 := 1000#32
  let v481 : BitVec 32 := Scalar.muli v480 c1000_i32_189
  let c0_i32_853 : BitVec 32 := 0#32
  let c1_i32_855 : BitVec 32 := 1#32
  let arg38 : BitVec 32 := Scf.iv c0_i32_853 c1_i32_855 k0_t2
  let c16_i32_924 : BitVec 32 := 16#32
  let v2031 : BitVec 32 := Scalar.muli arg38 c16_i32_924
  let v2035 : BitVec 32 := Scalar.addi v481 v2031
  let v2036 : Index := Scalar.indexCast v2035
  ![v2036.toNat]
def k0_off4 (i : grid0.Coords) (k0_t2 : Fin k0_t2_loop.trips) (c0_i32_161 : BitVec 32) : Fin 1 → Nat :=
  let c14_i32_190 : BitVec 32 := 14#32
  let arg1 : BitVec 32 := BitVec.ofNat 32 (i 1).val
  let c7_i32 : BitVec 32 := 7#32
  let v0 : BitVec 1 := Scalar.cmpi .slt arg1 c7_i32
  let c22_i32 : BitVec 32 := 22#32
  let v1 : BitVec 32 := Scalar.muli arg1 c22_i32
  let c21_i32 : BitVec 32 := 21#32
  let v2 : BitVec 32 := Scalar.muli c21_i32 arg1
  let c7_i32_0 : BitVec 32 := 7#32
  let v3 : BitVec 32 := Scalar.addi v2 c7_i32_0
  let v4 : BitVec 32 := Scalar.select v0 v1 v3
  let v424 : BitVec 32 := Scalar.addi v4 c0_i32_161
  let c7_i32_181 : BitVec 32 := 7#32
  let c0_i32_182 : BitVec 32 := 0#32
  let v469 : BitVec 1 := Scalar.cmpi .eq c7_i32_181 c0_i32_182
  let c1_i32_183 : BitVec 32 := 1#32
  let v470 : BitVec 32 := Scalar.select v469 c1_i32_183 c7_i32_181
  let v471 : BitVec 32 := Scalar.remsi v424 v470
  let c0_i32_185 : BitVec 32 := 0#32
  let v473 : BitVec 1 := Scalar.cmpi .slt v471 c0_i32_185
  let c0_i32_186 : BitVec 32 := 0#32
  let v474 : BitVec 1 := Scalar.cmpi .slt v470 c0_i32_186
  let v475 : BitVec 1 := Scalar.xori v473 v474
  let c0_i32_184 : BitVec 32 := 0#32
  let v472 : BitVec 1 := Scalar.cmpi .ne v471 c0_i32_184
  let v476 : BitVec 1 := Scalar.andi v475 v472
  let v477 : BitVec 32 := Scalar.addi v471 v470
  let v478 : BitVec 32 := Scalar.select v476 v477 v471
  let v482 : BitVec 32 := Scalar.addi c14_i32_190 v478
  let c1000_i32_191 : BitVec 32 := 1000#32
  let v483 : BitVec 32 := Scalar.muli v482 c1000_i32_191
  let c0_i32_853 : BitVec 32 := 0#32
  let c1_i32_855 : BitVec 32 := 1#32
  let arg38 : BitVec 32 := Scf.iv c0_i32_853 c1_i32_855 k0_t2
  let c16_i32_924 : BitVec 32 := 16#32
  let v2031 : BitVec 32 := Scalar.muli arg38 c16_i32_924
  let v2039 : BitVec 32 := Scalar.addi v483 v2031
  let v2040 : Index := Scalar.indexCast v2039
  ![v2040.toNat]
def k0_off5 (k0_t2 : Fin k0_t2_loop.trips) (c0_i32_925 : BitVec 32) : Fin 1 → Nat :=
  let c0_i32_853 : BitVec 32 := 0#32
  let c1_i32_855 : BitVec 32 := 1#32
  let arg38 : BitVec 32 := Scf.iv c0_i32_853 c1_i32_855 k0_t2
  let c16_i32_924 : BitVec 32 := 16#32
  let v2031 : BitVec 32 := Scalar.muli arg38 c16_i32_924
  let v2043 : BitVec 32 := Scalar.addi c0_i32_925 v2031
  let v2044 : Index := Scalar.indexCast v2043
  ![v2044.toNat]
def k0_off6 (i : grid0.Coords) : Fin 1 → Nat :=
  let arg1 : BitVec 32 := BitVec.ofNat 32 (i 1).val
  let c7_i32 : BitVec 32 := 7#32
  let v0 : BitVec 1 := Scalar.cmpi .slt arg1 c7_i32
  let c22_i32 : BitVec 32 := 22#32
  let v1 : BitVec 32 := Scalar.muli arg1 c22_i32
  let c21_i32 : BitVec 32 := 21#32
  let v2 : BitVec 32 := Scalar.muli c21_i32 arg1
  let c7_i32_0 : BitVec 32 := 7#32
  let v3 : BitVec 32 := Scalar.addi v2 c7_i32_0
  let v4 : BitVec 32 := Scalar.select v0 v1 v3
  let c0_i32_161 : BitVec 32 := 0#32
  let v424 : BitVec 32 := Scalar.addi v4 c0_i32_161
  let c0_i32_162 : BitVec 32 := 0#32
  let v426 : BitVec 1 := Scalar.cmpi .sgt v424 c0_i32_162
  let v427 : BitVec 32 := Scalar.extui v426
  let c0_i32_163 : BitVec 32 := 0#32
  let v428 : BitVec 1 := Scalar.cmpi .slt v424 c0_i32_163
  let v429 : BitVec 32 := Scalar.extui v428
  let v430 : BitVec 32 := Scalar.subi v427 v429
  let c49_i32 : BitVec 32 := 49#32
  let c0_i32_164 : BitVec 32 := 0#32
  let v431 : BitVec 1 := Scalar.cmpi .sgt c49_i32 c0_i32_164
  let v432 : BitVec 32 := Scalar.extui v431
  let c0_i32_165 : BitVec 32 := 0#32
  let v433 : BitVec 1 := Scalar.cmpi .slt c49_i32 c0_i32_165
  let v434 : BitVec 32 := Scalar.extui v433
  let v435 : BitVec 32 := Scalar.subi v432 v434
  let v436 : BitVec 1 := Scalar.cmpi .ne v430 v435
  let v437 : BitVec 32 := Scalar.remsi v424 c49_i32
  let c0_i32_166 : BitVec 32 := 0#32
  let v438 : BitVec 1 := Scalar.cmpi .ne v437 c0_i32_166
  let v439 : BitVec 1 := Scalar.andi v436 v438
  let v425 : BitVec 32 := Scalar.divsi v424 c49_i32
  let c1_i32_167 : BitVec 32 := 1#32
  let v440 : BitVec 32 := Scalar.subi v425 c1_i32_167
  let v441 : BitVec 32 := Scalar.select v439 v440 v425
  let c1000_i32_187 : BitVec 32 := 1000#32
  let v479 : BitVec 32 := Scalar.muli v441 c1000_i32_187
  let c992_i32_857 : BitVec 32 := 992#32
  let v1745 : BitVec 32 := Scalar.addi v479 c992_i32_857
  let v1746 : Index := Scalar.indexCast v1745
  ![v1746.toNat]
def k0_off7 (i : grid0.Coords) : Fin 1 → Nat :=
  let c7_i32_188 : BitVec 32 := 7#32
  let arg1 : BitVec 32 := BitVec.ofNat 32 (i 1).val
  let c7_i32 : BitVec 32 := 7#32
  let v0 : BitVec 1 := Scalar.cmpi .slt arg1 c7_i32
  let c22_i32 : BitVec 32 := 22#32
  let v1 : BitVec 32 := Scalar.muli arg1 c22_i32
  let c21_i32 : BitVec 32 := 21#32
  let v2 : BitVec 32 := Scalar.muli c21_i32 arg1
  let c7_i32_0 : BitVec 32 := 7#32
  let v3 : BitVec 32 := Scalar.addi v2 c7_i32_0
  let v4 : BitVec 32 := Scalar.select v0 v1 v3
  let c0_i32_161 : BitVec 32 := 0#32
  let v424 : BitVec 32 := Scalar.addi v4 c0_i32_161
  let c0_i32_169 : BitVec 32 := 0#32
  let v443 : BitVec 1 := Scalar.cmpi .sgt v424 c0_i32_169
  let v444 : BitVec 32 := Scalar.extui v443
  let c0_i32_170 : BitVec 32 := 0#32
  let v445 : BitVec 1 := Scalar.cmpi .slt v424 c0_i32_170
  let v446 : BitVec 32 := Scalar.extui v445
  let v447 : BitVec 32 := Scalar.subi v444 v446
  let c7_i32_168 : BitVec 32 := 7#32
  let c0_i32_171 : BitVec 32 := 0#32
  let v448 : BitVec 1 := Scalar.cmpi .sgt c7_i32_168 c0_i32_171
  let v449 : BitVec 32 := Scalar.extui v448
  let c0_i32_172 : BitVec 32 := 0#32
  let v450 : BitVec 1 := Scalar.cmpi .slt c7_i32_168 c0_i32_172
  let v451 : BitVec 32 := Scalar.extui v450
  let v452 : BitVec 32 := Scalar.subi v449 v451
  let v453 : BitVec 1 := Scalar.cmpi .ne v447 v452
  let v454 : BitVec 32 := Scalar.remsi v424 c7_i32_168
  let c0_i32_173 : BitVec 32 := 0#32
  let v455 : BitVec 1 := Scalar.cmpi .ne v454 c0_i32_173
  let v456 : BitVec 1 := Scalar.andi v453 v455
  let v442 : BitVec 32 := Scalar.divsi v424 c7_i32_168
  let c1_i32_174 : BitVec 32 := 1#32
  let v457 : BitVec 32 := Scalar.subi v442 c1_i32_174
  let v458 : BitVec 32 := Scalar.select v456 v457 v442
  let c7_i32_175 : BitVec 32 := 7#32
  let c0_i32_176 : BitVec 32 := 0#32
  let v459 : BitVec 1 := Scalar.cmpi .eq c7_i32_175 c0_i32_176
  let c1_i32_177 : BitVec 32 := 1#32
  let v460 : BitVec 32 := Scalar.select v459 c1_i32_177 c7_i32_175
  let v461 : BitVec 32 := Scalar.remsi v458 v460
  let c0_i32_179 : BitVec 32 := 0#32
  let v463 : BitVec 1 := Scalar.cmpi .slt v461 c0_i32_179
  let c0_i32_180 : BitVec 32 := 0#32
  let v464 : BitVec 1 := Scalar.cmpi .slt v460 c0_i32_180
  let v465 : BitVec 1 := Scalar.xori v463 v464
  let c0_i32_178 : BitVec 32 := 0#32
  let v462 : BitVec 1 := Scalar.cmpi .ne v461 c0_i32_178
  let v466 : BitVec 1 := Scalar.andi v465 v462
  let v467 : BitVec 32 := Scalar.addi v461 v460
  let v468 : BitVec 32 := Scalar.select v466 v467 v461
  let v480 : BitVec 32 := Scalar.addi c7_i32_188 v468
  let c1000_i32_189 : BitVec 32 := 1000#32
  let v481 : BitVec 32 := Scalar.muli v480 c1000_i32_189
  let c992_i32_858 : BitVec 32 := 992#32
  let v1748 : BitVec 32 := Scalar.addi v481 c992_i32_858
  let v1749 : Index := Scalar.indexCast v1748
  ![v1749.toNat]
def k0_off8 (i : grid0.Coords) : Fin 1 → Nat :=
  let c14_i32_190 : BitVec 32 := 14#32
  let arg1 : BitVec 32 := BitVec.ofNat 32 (i 1).val
  let c7_i32 : BitVec 32 := 7#32
  let v0 : BitVec 1 := Scalar.cmpi .slt arg1 c7_i32
  let c22_i32 : BitVec 32 := 22#32
  let v1 : BitVec 32 := Scalar.muli arg1 c22_i32
  let c21_i32 : BitVec 32 := 21#32
  let v2 : BitVec 32 := Scalar.muli c21_i32 arg1
  let c7_i32_0 : BitVec 32 := 7#32
  let v3 : BitVec 32 := Scalar.addi v2 c7_i32_0
  let v4 : BitVec 32 := Scalar.select v0 v1 v3
  let c0_i32_161 : BitVec 32 := 0#32
  let v424 : BitVec 32 := Scalar.addi v4 c0_i32_161
  let c7_i32_181 : BitVec 32 := 7#32
  let c0_i32_182 : BitVec 32 := 0#32
  let v469 : BitVec 1 := Scalar.cmpi .eq c7_i32_181 c0_i32_182
  let c1_i32_183 : BitVec 32 := 1#32
  let v470 : BitVec 32 := Scalar.select v469 c1_i32_183 c7_i32_181
  let v471 : BitVec 32 := Scalar.remsi v424 v470
  let c0_i32_185 : BitVec 32 := 0#32
  let v473 : BitVec 1 := Scalar.cmpi .slt v471 c0_i32_185
  let c0_i32_186 : BitVec 32 := 0#32
  let v474 : BitVec 1 := Scalar.cmpi .slt v470 c0_i32_186
  let v475 : BitVec 1 := Scalar.xori v473 v474
  let c0_i32_184 : BitVec 32 := 0#32
  let v472 : BitVec 1 := Scalar.cmpi .ne v471 c0_i32_184
  let v476 : BitVec 1 := Scalar.andi v475 v472
  let v477 : BitVec 32 := Scalar.addi v471 v470
  let v478 : BitVec 32 := Scalar.select v476 v477 v471
  let v482 : BitVec 32 := Scalar.addi c14_i32_190 v478
  let c1000_i32_191 : BitVec 32 := 1000#32
  let v483 : BitVec 32 := Scalar.muli v482 c1000_i32_191
  let c992_i32_859 : BitVec 32 := 992#32
  let v1752 : BitVec 32 := Scalar.addi v483 c992_i32_859
  let v1753 : Index := Scalar.indexCast v1752
  ![v1753.toNat]

def k0_chk36 (i : grid0.Coords) (v1757 : IVec S16 32) : Prop :=
  (∀ (k0_h1 : k0_cond1 i = 1#1), ∀ a x, ((![v1757] : Fin 1 → IVec S16 32) a x).toNat < S22008.size a)
theorem k0_idx36_inb : ∀ (i : grid0.Coords) (v1757 : IVec S16 32) (k0_hw36 : k0_chk36 i v1757), ∀ (k0_h1 : k0_cond1 i = 1#1), ∀ a x, ((![v1757] : Fin 1 → IVec S16 32) a x).toNat < S22008.size a := fun i v1757 k0_hw36 k0_h1 => k0_hw36 k0_h1
def k0_off9 (i : grid0.Coords) : Fin 1 → Nat :=
  let arg1 : BitVec 32 := BitVec.ofNat 32 (i 1).val
  let c7_i32 : BitVec 32 := 7#32
  let v0 : BitVec 1 := Scalar.cmpi .slt arg1 c7_i32
  let c22_i32 : BitVec 32 := 22#32
  let v1 : BitVec 32 := Scalar.muli arg1 c22_i32
  let c21_i32 : BitVec 32 := 21#32
  let v2 : BitVec 32 := Scalar.muli c21_i32 arg1
  let c7_i32_0 : BitVec 32 := 7#32
  let v3 : BitVec 32 := Scalar.addi v2 c7_i32_0
  let v4 : BitVec 32 := Scalar.select v0 v1 v3
  let c1_i32_192 : BitVec 32 := 1#32
  let v484 : BitVec 32 := Scalar.addi v4 c1_i32_192
  let c0_i32_194 : BitVec 32 := 0#32
  let v486 : BitVec 1 := Scalar.cmpi .sgt v484 c0_i32_194
  let v487 : BitVec 32 := Scalar.extui v486
  let c0_i32_195 : BitVec 32 := 0#32
  let v488 : BitVec 1 := Scalar.cmpi .slt v484 c0_i32_195
  let v489 : BitVec 32 := Scalar.extui v488
  let v490 : BitVec 32 := Scalar.subi v487 v489
  let c49_i32_193 : BitVec 32 := 49#32
  let c0_i32_196 : BitVec 32 := 0#32
  let v491 : BitVec 1 := Scalar.cmpi .sgt c49_i32_193 c0_i32_196
  let v492 : BitVec 32 := Scalar.extui v491
  let c0_i32_197 : BitVec 32 := 0#32
  let v493 : BitVec 1 := Scalar.cmpi .slt c49_i32_193 c0_i32_197
  let v494 : BitVec 32 := Scalar.extui v493
  let v495 : BitVec 32 := Scalar.subi v492 v494
  let v496 : BitVec 1 := Scalar.cmpi .ne v490 v495
  let v497 : BitVec 32 := Scalar.remsi v484 c49_i32_193
  let c0_i32_198 : BitVec 32 := 0#32
  let v498 : BitVec 1 := Scalar.cmpi .ne v497 c0_i32_198
  let v499 : BitVec 1 := Scalar.andi v496 v498
  let v485 : BitVec 32 := Scalar.divsi v484 c49_i32_193
  let c1_i32_199 : BitVec 32 := 1#32
  let v500 : BitVec 32 := Scalar.subi v485 c1_i32_199
  let v501 : BitVec 32 := Scalar.select v499 v500 v485
  let c1000_i32_219 : BitVec 32 := 1000#32
  let v539 : BitVec 32 := Scalar.muli v501 c1000_i32_219
  let c992_i32_861 : BitVec 32 := 992#32
  let v1758 : BitVec 32 := Scalar.addi v539 c992_i32_861
  let v1759 : Index := Scalar.indexCast v1758
  ![v1759.toNat]
def k0_off10 (i : grid0.Coords) : Fin 1 → Nat :=
  let c7_i32_220 : BitVec 32 := 7#32
  let arg1 : BitVec 32 := BitVec.ofNat 32 (i 1).val
  let c7_i32 : BitVec 32 := 7#32
  let v0 : BitVec 1 := Scalar.cmpi .slt arg1 c7_i32
  let c22_i32 : BitVec 32 := 22#32
  let v1 : BitVec 32 := Scalar.muli arg1 c22_i32
  let c21_i32 : BitVec 32 := 21#32
  let v2 : BitVec 32 := Scalar.muli c21_i32 arg1
  let c7_i32_0 : BitVec 32 := 7#32
  let v3 : BitVec 32 := Scalar.addi v2 c7_i32_0
  let v4 : BitVec 32 := Scalar.select v0 v1 v3
  let c1_i32_192 : BitVec 32 := 1#32
  let v484 : BitVec 32 := Scalar.addi v4 c1_i32_192
  let c0_i32_201 : BitVec 32 := 0#32
  let v503 : BitVec 1 := Scalar.cmpi .sgt v484 c0_i32_201
  let v504 : BitVec 32 := Scalar.extui v503
  let c0_i32_202 : BitVec 32 := 0#32
  let v505 : BitVec 1 := Scalar.cmpi .slt v484 c0_i32_202
  let v506 : BitVec 32 := Scalar.extui v505
  let v507 : BitVec 32 := Scalar.subi v504 v506
  let c7_i32_200 : BitVec 32 := 7#32
  let c0_i32_203 : BitVec 32 := 0#32
  let v508 : BitVec 1 := Scalar.cmpi .sgt c7_i32_200 c0_i32_203
  let v509 : BitVec 32 := Scalar.extui v508
  let c0_i32_204 : BitVec 32 := 0#32
  let v510 : BitVec 1 := Scalar.cmpi .slt c7_i32_200 c0_i32_204
  let v511 : BitVec 32 := Scalar.extui v510
  let v512 : BitVec 32 := Scalar.subi v509 v511
  let v513 : BitVec 1 := Scalar.cmpi .ne v507 v512
  let v514 : BitVec 32 := Scalar.remsi v484 c7_i32_200
  let c0_i32_205 : BitVec 32 := 0#32
  let v515 : BitVec 1 := Scalar.cmpi .ne v514 c0_i32_205
  let v516 : BitVec 1 := Scalar.andi v513 v515
  let v502 : BitVec 32 := Scalar.divsi v484 c7_i32_200
  let c1_i32_206 : BitVec 32 := 1#32
  let v517 : BitVec 32 := Scalar.subi v502 c1_i32_206
  let v518 : BitVec 32 := Scalar.select v516 v517 v502
  let c7_i32_207 : BitVec 32 := 7#32
  let c0_i32_208 : BitVec 32 := 0#32
  let v519 : BitVec 1 := Scalar.cmpi .eq c7_i32_207 c0_i32_208
  let c1_i32_209 : BitVec 32 := 1#32
  let v520 : BitVec 32 := Scalar.select v519 c1_i32_209 c7_i32_207
  let v521 : BitVec 32 := Scalar.remsi v518 v520
  let c0_i32_211 : BitVec 32 := 0#32
  let v523 : BitVec 1 := Scalar.cmpi .slt v521 c0_i32_211
  let c0_i32_212 : BitVec 32 := 0#32
  let v524 : BitVec 1 := Scalar.cmpi .slt v520 c0_i32_212
  let v525 : BitVec 1 := Scalar.xori v523 v524
  let c0_i32_210 : BitVec 32 := 0#32
  let v522 : BitVec 1 := Scalar.cmpi .ne v521 c0_i32_210
  let v526 : BitVec 1 := Scalar.andi v525 v522
  let v527 : BitVec 32 := Scalar.addi v521 v520
  let v528 : BitVec 32 := Scalar.select v526 v527 v521
  let v540 : BitVec 32 := Scalar.addi c7_i32_220 v528
  let c1000_i32_221 : BitVec 32 := 1000#32
  let v541 : BitVec 32 := Scalar.muli v540 c1000_i32_221
  let c992_i32_862 : BitVec 32 := 992#32
  let v1761 : BitVec 32 := Scalar.addi v541 c992_i32_862
  let v1762 : Index := Scalar.indexCast v1761
  ![v1762.toNat]
def k0_off11 (i : grid0.Coords) : Fin 1 → Nat :=
  let c14_i32_222 : BitVec 32 := 14#32
  let arg1 : BitVec 32 := BitVec.ofNat 32 (i 1).val
  let c7_i32 : BitVec 32 := 7#32
  let v0 : BitVec 1 := Scalar.cmpi .slt arg1 c7_i32
  let c22_i32 : BitVec 32 := 22#32
  let v1 : BitVec 32 := Scalar.muli arg1 c22_i32
  let c21_i32 : BitVec 32 := 21#32
  let v2 : BitVec 32 := Scalar.muli c21_i32 arg1
  let c7_i32_0 : BitVec 32 := 7#32
  let v3 : BitVec 32 := Scalar.addi v2 c7_i32_0
  let v4 : BitVec 32 := Scalar.select v0 v1 v3
  let c1_i32_192 : BitVec 32 := 1#32
  let v484 : BitVec 32 := Scalar.addi v4 c1_i32_192
  let c7_i32_213 : BitVec 32 := 7#32
  let c0_i32_214 : BitVec 32 := 0#32
  let v529 : BitVec 1 := Scalar.cmpi .eq c7_i32_213 c0_i32_214
  let c1_i32_215 : BitVec 32 := 1#32
  let v530 : BitVec 32 := Scalar.select v529 c1_i32_215 c7_i32_213
  let v531 : BitVec 32 := Scalar.remsi v484 v530
  let c0_i32_217 : BitVec 32 := 0#32
  let v533 : BitVec 1 := Scalar.cmpi .slt v531 c0_i32_217
  let c0_i32_218 : BitVec 32 := 0#32
  let v534 : BitVec 1 := Scalar.cmpi .slt v530 c0_i32_218
  let v535 : BitVec 1 := Scalar.xori v533 v534
  let c0_i32_216 : BitVec 32 := 0#32
  let v532 : BitVec 1 := Scalar.cmpi .ne v531 c0_i32_216
  let v536 : BitVec 1 := Scalar.andi v535 v532
  let v537 : BitVec 32 := Scalar.addi v531 v530
  let v538 : BitVec 32 := Scalar.select v536 v537 v531
  let v542 : BitVec 32 := Scalar.addi c14_i32_222 v538
  let c1000_i32_223 : BitVec 32 := 1000#32
  let v543 : BitVec 32 := Scalar.muli v542 c1000_i32_223
  let c992_i32_863 : BitVec 32 := 992#32
  let v1765 : BitVec 32 := Scalar.addi v543 c992_i32_863
  let v1766 : Index := Scalar.indexCast v1765
  ![v1766.toNat]

def k0_chk37 (i : grid0.Coords) (v1770 : IVec S16 32) : Prop :=
  (∀ (k0_h1 : k0_cond1 i = 1#1), ∀ a x, ((![v1770] : Fin 1 → IVec S16 32) a x).toNat < S22008.size a)
theorem k0_idx37_inb : ∀ (i : grid0.Coords) (v1770 : IVec S16 32) (k0_hw37 : k0_chk37 i v1770), ∀ (k0_h1 : k0_cond1 i = 1#1), ∀ a x, ((![v1770] : Fin 1 → IVec S16 32) a x).toNat < S22008.size a := fun i v1770 k0_hw37 k0_h1 => k0_hw37 k0_h1
def k0_off12 (i : grid0.Coords) : Fin 1 → Nat :=
  let arg1 : BitVec 32 := BitVec.ofNat 32 (i 1).val
  let c7_i32 : BitVec 32 := 7#32
  let v0 : BitVec 1 := Scalar.cmpi .slt arg1 c7_i32
  let c22_i32 : BitVec 32 := 22#32
  let v1 : BitVec 32 := Scalar.muli arg1 c22_i32
  let c21_i32 : BitVec 32 := 21#32
  let v2 : BitVec 32 := Scalar.muli c21_i32 arg1
  let c7_i32_0 : BitVec 32 := 7#32
  let v3 : BitVec 32 := Scalar.addi v2 c7_i32_0
  let v4 : BitVec 32 := Scalar.select v0 v1 v3
  let c2_i32_224 : BitVec 32 := 2#32
  let v544 : BitVec 32 := Scalar.addi v4 c2_i32_224
  let c0_i32_226 : BitVec 32 := 0#32
  let v546 : BitVec 1 := Scalar.cmpi .sgt v544 c0_i32_226
  let v547 : BitVec 32 := Scalar.extui v546
  let c0_i32_227 : BitVec 32 := 0#32
  let v548 : BitVec 1 := Scalar.cmpi .slt v544 c0_i32_227
  let v549 : BitVec 32 := Scalar.extui v548
  let v550 : BitVec 32 := Scalar.subi v547 v549
  let c49_i32_225 : BitVec 32 := 49#32
  let c0_i32_228 : BitVec 32 := 0#32
  let v551 : BitVec 1 := Scalar.cmpi .sgt c49_i32_225 c0_i32_228
  let v552 : BitVec 32 := Scalar.extui v551
  let c0_i32_229 : BitVec 32 := 0#32
  let v553 : BitVec 1 := Scalar.cmpi .slt c49_i32_225 c0_i32_229
  let v554 : BitVec 32 := Scalar.extui v553
  let v555 : BitVec 32 := Scalar.subi v552 v554
  let v556 : BitVec 1 := Scalar.cmpi .ne v550 v555
  let v557 : BitVec 32 := Scalar.remsi v544 c49_i32_225
  let c0_i32_230 : BitVec 32 := 0#32
  let v558 : BitVec 1 := Scalar.cmpi .ne v557 c0_i32_230
  let v559 : BitVec 1 := Scalar.andi v556 v558
  let v545 : BitVec 32 := Scalar.divsi v544 c49_i32_225
  let c1_i32_231 : BitVec 32 := 1#32
  let v560 : BitVec 32 := Scalar.subi v545 c1_i32_231
  let v561 : BitVec 32 := Scalar.select v559 v560 v545
  let c1000_i32_251 : BitVec 32 := 1000#32
  let v599 : BitVec 32 := Scalar.muli v561 c1000_i32_251
  let c992_i32_864 : BitVec 32 := 992#32
  let v1771 : BitVec 32 := Scalar.addi v599 c992_i32_864
  let v1772 : Index := Scalar.indexCast v1771
  ![v1772.toNat]
def k0_off13 (i : grid0.Coords) : Fin 1 → Nat :=
  let c7_i32_252 : BitVec 32 := 7#32
  let arg1 : BitVec 32 := BitVec.ofNat 32 (i 1).val
  let c7_i32 : BitVec 32 := 7#32
  let v0 : BitVec 1 := Scalar.cmpi .slt arg1 c7_i32
  let c22_i32 : BitVec 32 := 22#32
  let v1 : BitVec 32 := Scalar.muli arg1 c22_i32
  let c21_i32 : BitVec 32 := 21#32
  let v2 : BitVec 32 := Scalar.muli c21_i32 arg1
  let c7_i32_0 : BitVec 32 := 7#32
  let v3 : BitVec 32 := Scalar.addi v2 c7_i32_0
  let v4 : BitVec 32 := Scalar.select v0 v1 v3
  let c2_i32_224 : BitVec 32 := 2#32
  let v544 : BitVec 32 := Scalar.addi v4 c2_i32_224
  let c0_i32_233 : BitVec 32 := 0#32
  let v563 : BitVec 1 := Scalar.cmpi .sgt v544 c0_i32_233
  let v564 : BitVec 32 := Scalar.extui v563
  let c0_i32_234 : BitVec 32 := 0#32
  let v565 : BitVec 1 := Scalar.cmpi .slt v544 c0_i32_234
  let v566 : BitVec 32 := Scalar.extui v565
  let v567 : BitVec 32 := Scalar.subi v564 v566
  let c7_i32_232 : BitVec 32 := 7#32
  let c0_i32_235 : BitVec 32 := 0#32
  let v568 : BitVec 1 := Scalar.cmpi .sgt c7_i32_232 c0_i32_235
  let v569 : BitVec 32 := Scalar.extui v568
  let c0_i32_236 : BitVec 32 := 0#32
  let v570 : BitVec 1 := Scalar.cmpi .slt c7_i32_232 c0_i32_236
  let v571 : BitVec 32 := Scalar.extui v570
  let v572 : BitVec 32 := Scalar.subi v569 v571
  let v573 : BitVec 1 := Scalar.cmpi .ne v567 v572
  let v574 : BitVec 32 := Scalar.remsi v544 c7_i32_232
  let c0_i32_237 : BitVec 32 := 0#32
  let v575 : BitVec 1 := Scalar.cmpi .ne v574 c0_i32_237
  let v576 : BitVec 1 := Scalar.andi v573 v575
  let v562 : BitVec 32 := Scalar.divsi v544 c7_i32_232
  let c1_i32_238 : BitVec 32 := 1#32
  let v577 : BitVec 32 := Scalar.subi v562 c1_i32_238
  let v578 : BitVec 32 := Scalar.select v576 v577 v562
  let c7_i32_239 : BitVec 32 := 7#32
  let c0_i32_240 : BitVec 32 := 0#32
  let v579 : BitVec 1 := Scalar.cmpi .eq c7_i32_239 c0_i32_240
  let c1_i32_241 : BitVec 32 := 1#32
  let v580 : BitVec 32 := Scalar.select v579 c1_i32_241 c7_i32_239
  let v581 : BitVec 32 := Scalar.remsi v578 v580
  let c0_i32_243 : BitVec 32 := 0#32
  let v583 : BitVec 1 := Scalar.cmpi .slt v581 c0_i32_243
  let c0_i32_244 : BitVec 32 := 0#32
  let v584 : BitVec 1 := Scalar.cmpi .slt v580 c0_i32_244
  let v585 : BitVec 1 := Scalar.xori v583 v584
  let c0_i32_242 : BitVec 32 := 0#32
  let v582 : BitVec 1 := Scalar.cmpi .ne v581 c0_i32_242
  let v586 : BitVec 1 := Scalar.andi v585 v582
  let v587 : BitVec 32 := Scalar.addi v581 v580
  let v588 : BitVec 32 := Scalar.select v586 v587 v581
  let v600 : BitVec 32 := Scalar.addi c7_i32_252 v588
  let c1000_i32_253 : BitVec 32 := 1000#32
  let v601 : BitVec 32 := Scalar.muli v600 c1000_i32_253
  let c992_i32_865 : BitVec 32 := 992#32
  let v1774 : BitVec 32 := Scalar.addi v601 c992_i32_865
  let v1775 : Index := Scalar.indexCast v1774
  ![v1775.toNat]
def k0_off14 (i : grid0.Coords) : Fin 1 → Nat :=
  let c14_i32_254 : BitVec 32 := 14#32
  let arg1 : BitVec 32 := BitVec.ofNat 32 (i 1).val
  let c7_i32 : BitVec 32 := 7#32
  let v0 : BitVec 1 := Scalar.cmpi .slt arg1 c7_i32
  let c22_i32 : BitVec 32 := 22#32
  let v1 : BitVec 32 := Scalar.muli arg1 c22_i32
  let c21_i32 : BitVec 32 := 21#32
  let v2 : BitVec 32 := Scalar.muli c21_i32 arg1
  let c7_i32_0 : BitVec 32 := 7#32
  let v3 : BitVec 32 := Scalar.addi v2 c7_i32_0
  let v4 : BitVec 32 := Scalar.select v0 v1 v3
  let c2_i32_224 : BitVec 32 := 2#32
  let v544 : BitVec 32 := Scalar.addi v4 c2_i32_224
  let c7_i32_245 : BitVec 32 := 7#32
  let c0_i32_246 : BitVec 32 := 0#32
  let v589 : BitVec 1 := Scalar.cmpi .eq c7_i32_245 c0_i32_246
  let c1_i32_247 : BitVec 32 := 1#32
  let v590 : BitVec 32 := Scalar.select v589 c1_i32_247 c7_i32_245
  let v591 : BitVec 32 := Scalar.remsi v544 v590
  let c0_i32_249 : BitVec 32 := 0#32
  let v593 : BitVec 1 := Scalar.cmpi .slt v591 c0_i32_249
  let c0_i32_250 : BitVec 32 := 0#32
  let v594 : BitVec 1 := Scalar.cmpi .slt v590 c0_i32_250
  let v595 : BitVec 1 := Scalar.xori v593 v594
  let c0_i32_248 : BitVec 32 := 0#32
  let v592 : BitVec 1 := Scalar.cmpi .ne v591 c0_i32_248
  let v596 : BitVec 1 := Scalar.andi v595 v592
  let v597 : BitVec 32 := Scalar.addi v591 v590
  let v598 : BitVec 32 := Scalar.select v596 v597 v591
  let v602 : BitVec 32 := Scalar.addi c14_i32_254 v598
  let c1000_i32_255 : BitVec 32 := 1000#32
  let v603 : BitVec 32 := Scalar.muli v602 c1000_i32_255
  let c992_i32_866 : BitVec 32 := 992#32
  let v1778 : BitVec 32 := Scalar.addi v603 c992_i32_866
  let v1779 : Index := Scalar.indexCast v1778
  ![v1779.toNat]

def k0_chk38 (i : grid0.Coords) (v1783 : IVec S16 32) : Prop :=
  (∀ (k0_h1 : k0_cond1 i = 1#1), ∀ a x, ((![v1783] : Fin 1 → IVec S16 32) a x).toNat < S22008.size a)
theorem k0_idx38_inb : ∀ (i : grid0.Coords) (v1783 : IVec S16 32) (k0_hw38 : k0_chk38 i v1783), ∀ (k0_h1 : k0_cond1 i = 1#1), ∀ a x, ((![v1783] : Fin 1 → IVec S16 32) a x).toNat < S22008.size a := fun i v1783 k0_hw38 k0_h1 => k0_hw38 k0_h1
def k0_off15 (i : grid0.Coords) : Fin 1 → Nat :=
  let arg1 : BitVec 32 := BitVec.ofNat 32 (i 1).val
  let c7_i32 : BitVec 32 := 7#32
  let v0 : BitVec 1 := Scalar.cmpi .slt arg1 c7_i32
  let c22_i32 : BitVec 32 := 22#32
  let v1 : BitVec 32 := Scalar.muli arg1 c22_i32
  let c21_i32 : BitVec 32 := 21#32
  let v2 : BitVec 32 := Scalar.muli c21_i32 arg1
  let c7_i32_0 : BitVec 32 := 7#32
  let v3 : BitVec 32 := Scalar.addi v2 c7_i32_0
  let v4 : BitVec 32 := Scalar.select v0 v1 v3
  let c3_i32_256 : BitVec 32 := 3#32
  let v604 : BitVec 32 := Scalar.addi v4 c3_i32_256
  let c0_i32_258 : BitVec 32 := 0#32
  let v606 : BitVec 1 := Scalar.cmpi .sgt v604 c0_i32_258
  let v607 : BitVec 32 := Scalar.extui v606
  let c0_i32_259 : BitVec 32 := 0#32
  let v608 : BitVec 1 := Scalar.cmpi .slt v604 c0_i32_259
  let v609 : BitVec 32 := Scalar.extui v608
  let v610 : BitVec 32 := Scalar.subi v607 v609
  let c49_i32_257 : BitVec 32 := 49#32
  let c0_i32_260 : BitVec 32 := 0#32
  let v611 : BitVec 1 := Scalar.cmpi .sgt c49_i32_257 c0_i32_260
  let v612 : BitVec 32 := Scalar.extui v611
  let c0_i32_261 : BitVec 32 := 0#32
  let v613 : BitVec 1 := Scalar.cmpi .slt c49_i32_257 c0_i32_261
  let v614 : BitVec 32 := Scalar.extui v613
  let v615 : BitVec 32 := Scalar.subi v612 v614
  let v616 : BitVec 1 := Scalar.cmpi .ne v610 v615
  let v617 : BitVec 32 := Scalar.remsi v604 c49_i32_257
  let c0_i32_262 : BitVec 32 := 0#32
  let v618 : BitVec 1 := Scalar.cmpi .ne v617 c0_i32_262
  let v619 : BitVec 1 := Scalar.andi v616 v618
  let v605 : BitVec 32 := Scalar.divsi v604 c49_i32_257
  let c1_i32_263 : BitVec 32 := 1#32
  let v620 : BitVec 32 := Scalar.subi v605 c1_i32_263
  let v621 : BitVec 32 := Scalar.select v619 v620 v605
  let c1000_i32_283 : BitVec 32 := 1000#32
  let v659 : BitVec 32 := Scalar.muli v621 c1000_i32_283
  let c992_i32_867 : BitVec 32 := 992#32
  let v1784 : BitVec 32 := Scalar.addi v659 c992_i32_867
  let v1785 : Index := Scalar.indexCast v1784
  ![v1785.toNat]
def k0_off16 (i : grid0.Coords) : Fin 1 → Nat :=
  let c7_i32_284 : BitVec 32 := 7#32
  let arg1 : BitVec 32 := BitVec.ofNat 32 (i 1).val
  let c7_i32 : BitVec 32 := 7#32
  let v0 : BitVec 1 := Scalar.cmpi .slt arg1 c7_i32
  let c22_i32 : BitVec 32 := 22#32
  let v1 : BitVec 32 := Scalar.muli arg1 c22_i32
  let c21_i32 : BitVec 32 := 21#32
  let v2 : BitVec 32 := Scalar.muli c21_i32 arg1
  let c7_i32_0 : BitVec 32 := 7#32
  let v3 : BitVec 32 := Scalar.addi v2 c7_i32_0
  let v4 : BitVec 32 := Scalar.select v0 v1 v3
  let c3_i32_256 : BitVec 32 := 3#32
  let v604 : BitVec 32 := Scalar.addi v4 c3_i32_256
  let c0_i32_265 : BitVec 32 := 0#32
  let v623 : BitVec 1 := Scalar.cmpi .sgt v604 c0_i32_265
  let v624 : BitVec 32 := Scalar.extui v623
  let c0_i32_266 : BitVec 32 := 0#32
  let v625 : BitVec 1 := Scalar.cmpi .slt v604 c0_i32_266
  let v626 : BitVec 32 := Scalar.extui v625
  let v627 : BitVec 32 := Scalar.subi v624 v626
  let c7_i32_264 : BitVec 32 := 7#32
  let c0_i32_267 : BitVec 32 := 0#32
  let v628 : BitVec 1 := Scalar.cmpi .sgt c7_i32_264 c0_i32_267
  let v629 : BitVec 32 := Scalar.extui v628
  let c0_i32_268 : BitVec 32 := 0#32
  let v630 : BitVec 1 := Scalar.cmpi .slt c7_i32_264 c0_i32_268
  let v631 : BitVec 32 := Scalar.extui v630
  let v632 : BitVec 32 := Scalar.subi v629 v631
  let v633 : BitVec 1 := Scalar.cmpi .ne v627 v632
  let v634 : BitVec 32 := Scalar.remsi v604 c7_i32_264
  let c0_i32_269 : BitVec 32 := 0#32
  let v635 : BitVec 1 := Scalar.cmpi .ne v634 c0_i32_269
  let v636 : BitVec 1 := Scalar.andi v633 v635
  let v622 : BitVec 32 := Scalar.divsi v604 c7_i32_264
  let c1_i32_270 : BitVec 32 := 1#32
  let v637 : BitVec 32 := Scalar.subi v622 c1_i32_270
  let v638 : BitVec 32 := Scalar.select v636 v637 v622
  let c7_i32_271 : BitVec 32 := 7#32
  let c0_i32_272 : BitVec 32 := 0#32
  let v639 : BitVec 1 := Scalar.cmpi .eq c7_i32_271 c0_i32_272
  let c1_i32_273 : BitVec 32 := 1#32
  let v640 : BitVec 32 := Scalar.select v639 c1_i32_273 c7_i32_271
  let v641 : BitVec 32 := Scalar.remsi v638 v640
  let c0_i32_275 : BitVec 32 := 0#32
  let v643 : BitVec 1 := Scalar.cmpi .slt v641 c0_i32_275
  let c0_i32_276 : BitVec 32 := 0#32
  let v644 : BitVec 1 := Scalar.cmpi .slt v640 c0_i32_276
  let v645 : BitVec 1 := Scalar.xori v643 v644
  let c0_i32_274 : BitVec 32 := 0#32
  let v642 : BitVec 1 := Scalar.cmpi .ne v641 c0_i32_274
  let v646 : BitVec 1 := Scalar.andi v645 v642
  let v647 : BitVec 32 := Scalar.addi v641 v640
  let v648 : BitVec 32 := Scalar.select v646 v647 v641
  let v660 : BitVec 32 := Scalar.addi c7_i32_284 v648
  let c1000_i32_285 : BitVec 32 := 1000#32
  let v661 : BitVec 32 := Scalar.muli v660 c1000_i32_285
  let c992_i32_868 : BitVec 32 := 992#32
  let v1787 : BitVec 32 := Scalar.addi v661 c992_i32_868
  let v1788 : Index := Scalar.indexCast v1787
  ![v1788.toNat]
def k0_off17 (i : grid0.Coords) : Fin 1 → Nat :=
  let c14_i32_286 : BitVec 32 := 14#32
  let arg1 : BitVec 32 := BitVec.ofNat 32 (i 1).val
  let c7_i32 : BitVec 32 := 7#32
  let v0 : BitVec 1 := Scalar.cmpi .slt arg1 c7_i32
  let c22_i32 : BitVec 32 := 22#32
  let v1 : BitVec 32 := Scalar.muli arg1 c22_i32
  let c21_i32 : BitVec 32 := 21#32
  let v2 : BitVec 32 := Scalar.muli c21_i32 arg1
  let c7_i32_0 : BitVec 32 := 7#32
  let v3 : BitVec 32 := Scalar.addi v2 c7_i32_0
  let v4 : BitVec 32 := Scalar.select v0 v1 v3
  let c3_i32_256 : BitVec 32 := 3#32
  let v604 : BitVec 32 := Scalar.addi v4 c3_i32_256
  let c7_i32_277 : BitVec 32 := 7#32
  let c0_i32_278 : BitVec 32 := 0#32
  let v649 : BitVec 1 := Scalar.cmpi .eq c7_i32_277 c0_i32_278
  let c1_i32_279 : BitVec 32 := 1#32
  let v650 : BitVec 32 := Scalar.select v649 c1_i32_279 c7_i32_277
  let v651 : BitVec 32 := Scalar.remsi v604 v650
  let c0_i32_281 : BitVec 32 := 0#32
  let v653 : BitVec 1 := Scalar.cmpi .slt v651 c0_i32_281
  let c0_i32_282 : BitVec 32 := 0#32
  let v654 : BitVec 1 := Scalar.cmpi .slt v650 c0_i32_282
  let v655 : BitVec 1 := Scalar.xori v653 v654
  let c0_i32_280 : BitVec 32 := 0#32
  let v652 : BitVec 1 := Scalar.cmpi .ne v651 c0_i32_280
  let v656 : BitVec 1 := Scalar.andi v655 v652
  let v657 : BitVec 32 := Scalar.addi v651 v650
  let v658 : BitVec 32 := Scalar.select v656 v657 v651
  let v662 : BitVec 32 := Scalar.addi c14_i32_286 v658
  let c1000_i32_287 : BitVec 32 := 1000#32
  let v663 : BitVec 32 := Scalar.muli v662 c1000_i32_287
  let c992_i32_869 : BitVec 32 := 992#32
  let v1791 : BitVec 32 := Scalar.addi v663 c992_i32_869
  let v1792 : Index := Scalar.indexCast v1791
  ![v1792.toNat]

def k0_chk39 (i : grid0.Coords) (v1796 : IVec S16 32) : Prop :=
  (∀ (k0_h1 : k0_cond1 i = 1#1), ∀ a x, ((![v1796] : Fin 1 → IVec S16 32) a x).toNat < S22008.size a)
theorem k0_idx39_inb : ∀ (i : grid0.Coords) (v1796 : IVec S16 32) (k0_hw39 : k0_chk39 i v1796), ∀ (k0_h1 : k0_cond1 i = 1#1), ∀ a x, ((![v1796] : Fin 1 → IVec S16 32) a x).toNat < S22008.size a := fun i v1796 k0_hw39 k0_h1 => k0_hw39 k0_h1
def k0_off18 (i : grid0.Coords) : Fin 1 → Nat :=
  let arg1 : BitVec 32 := BitVec.ofNat 32 (i 1).val
  let c7_i32 : BitVec 32 := 7#32
  let v0 : BitVec 1 := Scalar.cmpi .slt arg1 c7_i32
  let c22_i32 : BitVec 32 := 22#32
  let v1 : BitVec 32 := Scalar.muli arg1 c22_i32
  let c21_i32 : BitVec 32 := 21#32
  let v2 : BitVec 32 := Scalar.muli c21_i32 arg1
  let c7_i32_0 : BitVec 32 := 7#32
  let v3 : BitVec 32 := Scalar.addi v2 c7_i32_0
  let v4 : BitVec 32 := Scalar.select v0 v1 v3
  let c4_i32_288 : BitVec 32 := 4#32
  let v664 : BitVec 32 := Scalar.addi v4 c4_i32_288
  let c0_i32_290 : BitVec 32 := 0#32
  let v666 : BitVec 1 := Scalar.cmpi .sgt v664 c0_i32_290
  let v667 : BitVec 32 := Scalar.extui v666
  let c0_i32_291 : BitVec 32 := 0#32
  let v668 : BitVec 1 := Scalar.cmpi .slt v664 c0_i32_291
  let v669 : BitVec 32 := Scalar.extui v668
  let v670 : BitVec 32 := Scalar.subi v667 v669
  let c49_i32_289 : BitVec 32 := 49#32
  let c0_i32_292 : BitVec 32 := 0#32
  let v671 : BitVec 1 := Scalar.cmpi .sgt c49_i32_289 c0_i32_292
  let v672 : BitVec 32 := Scalar.extui v671
  let c0_i32_293 : BitVec 32 := 0#32
  let v673 : BitVec 1 := Scalar.cmpi .slt c49_i32_289 c0_i32_293
  let v674 : BitVec 32 := Scalar.extui v673
  let v675 : BitVec 32 := Scalar.subi v672 v674
  let v676 : BitVec 1 := Scalar.cmpi .ne v670 v675
  let v677 : BitVec 32 := Scalar.remsi v664 c49_i32_289
  let c0_i32_294 : BitVec 32 := 0#32
  let v678 : BitVec 1 := Scalar.cmpi .ne v677 c0_i32_294
  let v679 : BitVec 1 := Scalar.andi v676 v678
  let v665 : BitVec 32 := Scalar.divsi v664 c49_i32_289
  let c1_i32_295 : BitVec 32 := 1#32
  let v680 : BitVec 32 := Scalar.subi v665 c1_i32_295
  let v681 : BitVec 32 := Scalar.select v679 v680 v665
  let c1000_i32_315 : BitVec 32 := 1000#32
  let v719 : BitVec 32 := Scalar.muli v681 c1000_i32_315
  let c992_i32_870 : BitVec 32 := 992#32
  let v1797 : BitVec 32 := Scalar.addi v719 c992_i32_870
  let v1798 : Index := Scalar.indexCast v1797
  ![v1798.toNat]
def k0_off19 (i : grid0.Coords) : Fin 1 → Nat :=
  let c7_i32_316 : BitVec 32 := 7#32
  let arg1 : BitVec 32 := BitVec.ofNat 32 (i 1).val
  let c7_i32 : BitVec 32 := 7#32
  let v0 : BitVec 1 := Scalar.cmpi .slt arg1 c7_i32
  let c22_i32 : BitVec 32 := 22#32
  let v1 : BitVec 32 := Scalar.muli arg1 c22_i32
  let c21_i32 : BitVec 32 := 21#32
  let v2 : BitVec 32 := Scalar.muli c21_i32 arg1
  let c7_i32_0 : BitVec 32 := 7#32
  let v3 : BitVec 32 := Scalar.addi v2 c7_i32_0
  let v4 : BitVec 32 := Scalar.select v0 v1 v3
  let c4_i32_288 : BitVec 32 := 4#32
  let v664 : BitVec 32 := Scalar.addi v4 c4_i32_288
  let c0_i32_297 : BitVec 32 := 0#32
  let v683 : BitVec 1 := Scalar.cmpi .sgt v664 c0_i32_297
  let v684 : BitVec 32 := Scalar.extui v683
  let c0_i32_298 : BitVec 32 := 0#32
  let v685 : BitVec 1 := Scalar.cmpi .slt v664 c0_i32_298
  let v686 : BitVec 32 := Scalar.extui v685
  let v687 : BitVec 32 := Scalar.subi v684 v686
  let c7_i32_296 : BitVec 32 := 7#32
  let c0_i32_299 : BitVec 32 := 0#32
  let v688 : BitVec 1 := Scalar.cmpi .sgt c7_i32_296 c0_i32_299
  let v689 : BitVec 32 := Scalar.extui v688
  let c0_i32_300 : BitVec 32 := 0#32
  let v690 : BitVec 1 := Scalar.cmpi .slt c7_i32_296 c0_i32_300
  let v691 : BitVec 32 := Scalar.extui v690
  let v692 : BitVec 32 := Scalar.subi v689 v691
  let v693 : BitVec 1 := Scalar.cmpi .ne v687 v692
  let v694 : BitVec 32 := Scalar.remsi v664 c7_i32_296
  let c0_i32_301 : BitVec 32 := 0#32
  let v695 : BitVec 1 := Scalar.cmpi .ne v694 c0_i32_301
  let v696 : BitVec 1 := Scalar.andi v693 v695
  let v682 : BitVec 32 := Scalar.divsi v664 c7_i32_296
  let c1_i32_302 : BitVec 32 := 1#32
  let v697 : BitVec 32 := Scalar.subi v682 c1_i32_302
  let v698 : BitVec 32 := Scalar.select v696 v697 v682
  let c7_i32_303 : BitVec 32 := 7#32
  let c0_i32_304 : BitVec 32 := 0#32
  let v699 : BitVec 1 := Scalar.cmpi .eq c7_i32_303 c0_i32_304
  let c1_i32_305 : BitVec 32 := 1#32
  let v700 : BitVec 32 := Scalar.select v699 c1_i32_305 c7_i32_303
  let v701 : BitVec 32 := Scalar.remsi v698 v700
  let c0_i32_307 : BitVec 32 := 0#32
  let v703 : BitVec 1 := Scalar.cmpi .slt v701 c0_i32_307
  let c0_i32_308 : BitVec 32 := 0#32
  let v704 : BitVec 1 := Scalar.cmpi .slt v700 c0_i32_308
  let v705 : BitVec 1 := Scalar.xori v703 v704
  let c0_i32_306 : BitVec 32 := 0#32
  let v702 : BitVec 1 := Scalar.cmpi .ne v701 c0_i32_306
  let v706 : BitVec 1 := Scalar.andi v705 v702
  let v707 : BitVec 32 := Scalar.addi v701 v700
  let v708 : BitVec 32 := Scalar.select v706 v707 v701
  let v720 : BitVec 32 := Scalar.addi c7_i32_316 v708
  let c1000_i32_317 : BitVec 32 := 1000#32
  let v721 : BitVec 32 := Scalar.muli v720 c1000_i32_317
  let c992_i32_871 : BitVec 32 := 992#32
  let v1800 : BitVec 32 := Scalar.addi v721 c992_i32_871
  let v1801 : Index := Scalar.indexCast v1800
  ![v1801.toNat]
def k0_off20 (i : grid0.Coords) : Fin 1 → Nat :=
  let c14_i32_318 : BitVec 32 := 14#32
  let arg1 : BitVec 32 := BitVec.ofNat 32 (i 1).val
  let c7_i32 : BitVec 32 := 7#32
  let v0 : BitVec 1 := Scalar.cmpi .slt arg1 c7_i32
  let c22_i32 : BitVec 32 := 22#32
  let v1 : BitVec 32 := Scalar.muli arg1 c22_i32
  let c21_i32 : BitVec 32 := 21#32
  let v2 : BitVec 32 := Scalar.muli c21_i32 arg1
  let c7_i32_0 : BitVec 32 := 7#32
  let v3 : BitVec 32 := Scalar.addi v2 c7_i32_0
  let v4 : BitVec 32 := Scalar.select v0 v1 v3
  let c4_i32_288 : BitVec 32 := 4#32
  let v664 : BitVec 32 := Scalar.addi v4 c4_i32_288
  let c7_i32_309 : BitVec 32 := 7#32
  let c0_i32_310 : BitVec 32 := 0#32
  let v709 : BitVec 1 := Scalar.cmpi .eq c7_i32_309 c0_i32_310
  let c1_i32_311 : BitVec 32 := 1#32
  let v710 : BitVec 32 := Scalar.select v709 c1_i32_311 c7_i32_309
  let v711 : BitVec 32 := Scalar.remsi v664 v710
  let c0_i32_313 : BitVec 32 := 0#32
  let v713 : BitVec 1 := Scalar.cmpi .slt v711 c0_i32_313
  let c0_i32_314 : BitVec 32 := 0#32
  let v714 : BitVec 1 := Scalar.cmpi .slt v710 c0_i32_314
  let v715 : BitVec 1 := Scalar.xori v713 v714
  let c0_i32_312 : BitVec 32 := 0#32
  let v712 : BitVec 1 := Scalar.cmpi .ne v711 c0_i32_312
  let v716 : BitVec 1 := Scalar.andi v715 v712
  let v717 : BitVec 32 := Scalar.addi v711 v710
  let v718 : BitVec 32 := Scalar.select v716 v717 v711
  let v722 : BitVec 32 := Scalar.addi c14_i32_318 v718
  let c1000_i32_319 : BitVec 32 := 1000#32
  let v723 : BitVec 32 := Scalar.muli v722 c1000_i32_319
  let c992_i32_872 : BitVec 32 := 992#32
  let v1804 : BitVec 32 := Scalar.addi v723 c992_i32_872
  let v1805 : Index := Scalar.indexCast v1804
  ![v1805.toNat]

def k0_chk40 (i : grid0.Coords) (v1809 : IVec S16 32) : Prop :=
  (∀ (k0_h1 : k0_cond1 i = 1#1), ∀ a x, ((![v1809] : Fin 1 → IVec S16 32) a x).toNat < S22008.size a)
theorem k0_idx40_inb : ∀ (i : grid0.Coords) (v1809 : IVec S16 32) (k0_hw40 : k0_chk40 i v1809), ∀ (k0_h1 : k0_cond1 i = 1#1), ∀ a x, ((![v1809] : Fin 1 → IVec S16 32) a x).toNat < S22008.size a := fun i v1809 k0_hw40 k0_h1 => k0_hw40 k0_h1
def k0_off21 (i : grid0.Coords) : Fin 1 → Nat :=
  let arg1 : BitVec 32 := BitVec.ofNat 32 (i 1).val
  let c7_i32 : BitVec 32 := 7#32
  let v0 : BitVec 1 := Scalar.cmpi .slt arg1 c7_i32
  let c22_i32 : BitVec 32 := 22#32
  let v1 : BitVec 32 := Scalar.muli arg1 c22_i32
  let c21_i32 : BitVec 32 := 21#32
  let v2 : BitVec 32 := Scalar.muli c21_i32 arg1
  let c7_i32_0 : BitVec 32 := 7#32
  let v3 : BitVec 32 := Scalar.addi v2 c7_i32_0
  let v4 : BitVec 32 := Scalar.select v0 v1 v3
  let c5_i32_320 : BitVec 32 := 5#32
  let v724 : BitVec 32 := Scalar.addi v4 c5_i32_320
  let c0_i32_322 : BitVec 32 := 0#32
  let v726 : BitVec 1 := Scalar.cmpi .sgt v724 c0_i32_322
  let v727 : BitVec 32 := Scalar.extui v726
  let c0_i32_323 : BitVec 32 := 0#32
  let v728 : BitVec 1 := Scalar.cmpi .slt v724 c0_i32_323
  let v729 : BitVec 32 := Scalar.extui v728
  let v730 : BitVec 32 := Scalar.subi v727 v729
  let c49_i32_321 : BitVec 32 := 49#32
  let c0_i32_324 : BitVec 32 := 0#32
  let v731 : BitVec 1 := Scalar.cmpi .sgt c49_i32_321 c0_i32_324
  let v732 : BitVec 32 := Scalar.extui v731
  let c0_i32_325 : BitVec 32 := 0#32
  let v733 : BitVec 1 := Scalar.cmpi .slt c49_i32_321 c0_i32_325
  let v734 : BitVec 32 := Scalar.extui v733
  let v735 : BitVec 32 := Scalar.subi v732 v734
  let v736 : BitVec 1 := Scalar.cmpi .ne v730 v735
  let v737 : BitVec 32 := Scalar.remsi v724 c49_i32_321
  let c0_i32_326 : BitVec 32 := 0#32
  let v738 : BitVec 1 := Scalar.cmpi .ne v737 c0_i32_326
  let v739 : BitVec 1 := Scalar.andi v736 v738
  let v725 : BitVec 32 := Scalar.divsi v724 c49_i32_321
  let c1_i32_327 : BitVec 32 := 1#32
  let v740 : BitVec 32 := Scalar.subi v725 c1_i32_327
  let v741 : BitVec 32 := Scalar.select v739 v740 v725
  let c1000_i32_347 : BitVec 32 := 1000#32
  let v779 : BitVec 32 := Scalar.muli v741 c1000_i32_347
  let c992_i32_873 : BitVec 32 := 992#32
  let v1810 : BitVec 32 := Scalar.addi v779 c992_i32_873
  let v1811 : Index := Scalar.indexCast v1810
  ![v1811.toNat]
def k0_off22 (i : grid0.Coords) : Fin 1 → Nat :=
  let c7_i32_348 : BitVec 32 := 7#32
  let arg1 : BitVec 32 := BitVec.ofNat 32 (i 1).val
  let c7_i32 : BitVec 32 := 7#32
  let v0 : BitVec 1 := Scalar.cmpi .slt arg1 c7_i32
  let c22_i32 : BitVec 32 := 22#32
  let v1 : BitVec 32 := Scalar.muli arg1 c22_i32
  let c21_i32 : BitVec 32 := 21#32
  let v2 : BitVec 32 := Scalar.muli c21_i32 arg1
  let c7_i32_0 : BitVec 32 := 7#32
  let v3 : BitVec 32 := Scalar.addi v2 c7_i32_0
  let v4 : BitVec 32 := Scalar.select v0 v1 v3
  let c5_i32_320 : BitVec 32 := 5#32
  let v724 : BitVec 32 := Scalar.addi v4 c5_i32_320
  let c0_i32_329 : BitVec 32 := 0#32
  let v743 : BitVec 1 := Scalar.cmpi .sgt v724 c0_i32_329
  let v744 : BitVec 32 := Scalar.extui v743
  let c0_i32_330 : BitVec 32 := 0#32
  let v745 : BitVec 1 := Scalar.cmpi .slt v724 c0_i32_330
  let v746 : BitVec 32 := Scalar.extui v745
  let v747 : BitVec 32 := Scalar.subi v744 v746
  let c7_i32_328 : BitVec 32 := 7#32
  let c0_i32_331 : BitVec 32 := 0#32
  let v748 : BitVec 1 := Scalar.cmpi .sgt c7_i32_328 c0_i32_331
  let v749 : BitVec 32 := Scalar.extui v748
  let c0_i32_332 : BitVec 32 := 0#32
  let v750 : BitVec 1 := Scalar.cmpi .slt c7_i32_328 c0_i32_332
  let v751 : BitVec 32 := Scalar.extui v750
  let v752 : BitVec 32 := Scalar.subi v749 v751
  let v753 : BitVec 1 := Scalar.cmpi .ne v747 v752
  let v754 : BitVec 32 := Scalar.remsi v724 c7_i32_328
  let c0_i32_333 : BitVec 32 := 0#32
  let v755 : BitVec 1 := Scalar.cmpi .ne v754 c0_i32_333
  let v756 : BitVec 1 := Scalar.andi v753 v755
  let v742 : BitVec 32 := Scalar.divsi v724 c7_i32_328
  let c1_i32_334 : BitVec 32 := 1#32
  let v757 : BitVec 32 := Scalar.subi v742 c1_i32_334
  let v758 : BitVec 32 := Scalar.select v756 v757 v742
  let c7_i32_335 : BitVec 32 := 7#32
  let c0_i32_336 : BitVec 32 := 0#32
  let v759 : BitVec 1 := Scalar.cmpi .eq c7_i32_335 c0_i32_336
  let c1_i32_337 : BitVec 32 := 1#32
  let v760 : BitVec 32 := Scalar.select v759 c1_i32_337 c7_i32_335
  let v761 : BitVec 32 := Scalar.remsi v758 v760
  let c0_i32_339 : BitVec 32 := 0#32
  let v763 : BitVec 1 := Scalar.cmpi .slt v761 c0_i32_339
  let c0_i32_340 : BitVec 32 := 0#32
  let v764 : BitVec 1 := Scalar.cmpi .slt v760 c0_i32_340
  let v765 : BitVec 1 := Scalar.xori v763 v764
  let c0_i32_338 : BitVec 32 := 0#32
  let v762 : BitVec 1 := Scalar.cmpi .ne v761 c0_i32_338
  let v766 : BitVec 1 := Scalar.andi v765 v762
  let v767 : BitVec 32 := Scalar.addi v761 v760
  let v768 : BitVec 32 := Scalar.select v766 v767 v761
  let v780 : BitVec 32 := Scalar.addi c7_i32_348 v768
  let c1000_i32_349 : BitVec 32 := 1000#32
  let v781 : BitVec 32 := Scalar.muli v780 c1000_i32_349
  let c992_i32_874 : BitVec 32 := 992#32
  let v1813 : BitVec 32 := Scalar.addi v781 c992_i32_874
  let v1814 : Index := Scalar.indexCast v1813
  ![v1814.toNat]
def k0_off23 (i : grid0.Coords) : Fin 1 → Nat :=
  let c14_i32_350 : BitVec 32 := 14#32
  let arg1 : BitVec 32 := BitVec.ofNat 32 (i 1).val
  let c7_i32 : BitVec 32 := 7#32
  let v0 : BitVec 1 := Scalar.cmpi .slt arg1 c7_i32
  let c22_i32 : BitVec 32 := 22#32
  let v1 : BitVec 32 := Scalar.muli arg1 c22_i32
  let c21_i32 : BitVec 32 := 21#32
  let v2 : BitVec 32 := Scalar.muli c21_i32 arg1
  let c7_i32_0 : BitVec 32 := 7#32
  let v3 : BitVec 32 := Scalar.addi v2 c7_i32_0
  let v4 : BitVec 32 := Scalar.select v0 v1 v3
  let c5_i32_320 : BitVec 32 := 5#32
  let v724 : BitVec 32 := Scalar.addi v4 c5_i32_320
  let c7_i32_341 : BitVec 32 := 7#32
  let c0_i32_342 : BitVec 32 := 0#32
  let v769 : BitVec 1 := Scalar.cmpi .eq c7_i32_341 c0_i32_342
  let c1_i32_343 : BitVec 32 := 1#32
  let v770 : BitVec 32 := Scalar.select v769 c1_i32_343 c7_i32_341
  let v771 : BitVec 32 := Scalar.remsi v724 v770
  let c0_i32_345 : BitVec 32 := 0#32
  let v773 : BitVec 1 := Scalar.cmpi .slt v771 c0_i32_345
  let c0_i32_346 : BitVec 32 := 0#32
  let v774 : BitVec 1 := Scalar.cmpi .slt v770 c0_i32_346
  let v775 : BitVec 1 := Scalar.xori v773 v774
  let c0_i32_344 : BitVec 32 := 0#32
  let v772 : BitVec 1 := Scalar.cmpi .ne v771 c0_i32_344
  let v776 : BitVec 1 := Scalar.andi v775 v772
  let v777 : BitVec 32 := Scalar.addi v771 v770
  let v778 : BitVec 32 := Scalar.select v776 v777 v771
  let v782 : BitVec 32 := Scalar.addi c14_i32_350 v778
  let c1000_i32_351 : BitVec 32 := 1000#32
  let v783 : BitVec 32 := Scalar.muli v782 c1000_i32_351
  let c992_i32_875 : BitVec 32 := 992#32
  let v1817 : BitVec 32 := Scalar.addi v783 c992_i32_875
  let v1818 : Index := Scalar.indexCast v1817
  ![v1818.toNat]

def k0_chk41 (i : grid0.Coords) (v1822 : IVec S16 32) : Prop :=
  (∀ (k0_h1 : k0_cond1 i = 1#1), ∀ a x, ((![v1822] : Fin 1 → IVec S16 32) a x).toNat < S22008.size a)
theorem k0_idx41_inb : ∀ (i : grid0.Coords) (v1822 : IVec S16 32) (k0_hw41 : k0_chk41 i v1822), ∀ (k0_h1 : k0_cond1 i = 1#1), ∀ a x, ((![v1822] : Fin 1 → IVec S16 32) a x).toNat < S22008.size a := fun i v1822 k0_hw41 k0_h1 => k0_hw41 k0_h1
def k0_off24 (i : grid0.Coords) : Fin 1 → Nat :=
  let arg1 : BitVec 32 := BitVec.ofNat 32 (i 1).val
  let c7_i32 : BitVec 32 := 7#32
  let v0 : BitVec 1 := Scalar.cmpi .slt arg1 c7_i32
  let c22_i32 : BitVec 32 := 22#32
  let v1 : BitVec 32 := Scalar.muli arg1 c22_i32
  let c21_i32 : BitVec 32 := 21#32
  let v2 : BitVec 32 := Scalar.muli c21_i32 arg1
  let c7_i32_0 : BitVec 32 := 7#32
  let v3 : BitVec 32 := Scalar.addi v2 c7_i32_0
  let v4 : BitVec 32 := Scalar.select v0 v1 v3
  let c6_i32_352 : BitVec 32 := 6#32
  let v784 : BitVec 32 := Scalar.addi v4 c6_i32_352
  let c0_i32_354 : BitVec 32 := 0#32
  let v786 : BitVec 1 := Scalar.cmpi .sgt v784 c0_i32_354
  let v787 : BitVec 32 := Scalar.extui v786
  let c0_i32_355 : BitVec 32 := 0#32
  let v788 : BitVec 1 := Scalar.cmpi .slt v784 c0_i32_355
  let v789 : BitVec 32 := Scalar.extui v788
  let v790 : BitVec 32 := Scalar.subi v787 v789
  let c49_i32_353 : BitVec 32 := 49#32
  let c0_i32_356 : BitVec 32 := 0#32
  let v791 : BitVec 1 := Scalar.cmpi .sgt c49_i32_353 c0_i32_356
  let v792 : BitVec 32 := Scalar.extui v791
  let c0_i32_357 : BitVec 32 := 0#32
  let v793 : BitVec 1 := Scalar.cmpi .slt c49_i32_353 c0_i32_357
  let v794 : BitVec 32 := Scalar.extui v793
  let v795 : BitVec 32 := Scalar.subi v792 v794
  let v796 : BitVec 1 := Scalar.cmpi .ne v790 v795
  let v797 : BitVec 32 := Scalar.remsi v784 c49_i32_353
  let c0_i32_358 : BitVec 32 := 0#32
  let v798 : BitVec 1 := Scalar.cmpi .ne v797 c0_i32_358
  let v799 : BitVec 1 := Scalar.andi v796 v798
  let v785 : BitVec 32 := Scalar.divsi v784 c49_i32_353
  let c1_i32_359 : BitVec 32 := 1#32
  let v800 : BitVec 32 := Scalar.subi v785 c1_i32_359
  let v801 : BitVec 32 := Scalar.select v799 v800 v785
  let c1000_i32_379 : BitVec 32 := 1000#32
  let v839 : BitVec 32 := Scalar.muli v801 c1000_i32_379
  let c992_i32_876 : BitVec 32 := 992#32
  let v1823 : BitVec 32 := Scalar.addi v839 c992_i32_876
  let v1824 : Index := Scalar.indexCast v1823
  ![v1824.toNat]
def k0_off25 (i : grid0.Coords) : Fin 1 → Nat :=
  let c7_i32_380 : BitVec 32 := 7#32
  let arg1 : BitVec 32 := BitVec.ofNat 32 (i 1).val
  let c7_i32 : BitVec 32 := 7#32
  let v0 : BitVec 1 := Scalar.cmpi .slt arg1 c7_i32
  let c22_i32 : BitVec 32 := 22#32
  let v1 : BitVec 32 := Scalar.muli arg1 c22_i32
  let c21_i32 : BitVec 32 := 21#32
  let v2 : BitVec 32 := Scalar.muli c21_i32 arg1
  let c7_i32_0 : BitVec 32 := 7#32
  let v3 : BitVec 32 := Scalar.addi v2 c7_i32_0
  let v4 : BitVec 32 := Scalar.select v0 v1 v3
  let c6_i32_352 : BitVec 32 := 6#32
  let v784 : BitVec 32 := Scalar.addi v4 c6_i32_352
  let c0_i32_361 : BitVec 32 := 0#32
  let v803 : BitVec 1 := Scalar.cmpi .sgt v784 c0_i32_361
  let v804 : BitVec 32 := Scalar.extui v803
  let c0_i32_362 : BitVec 32 := 0#32
  let v805 : BitVec 1 := Scalar.cmpi .slt v784 c0_i32_362
  let v806 : BitVec 32 := Scalar.extui v805
  let v807 : BitVec 32 := Scalar.subi v804 v806
  let c7_i32_360 : BitVec 32 := 7#32
  let c0_i32_363 : BitVec 32 := 0#32
  let v808 : BitVec 1 := Scalar.cmpi .sgt c7_i32_360 c0_i32_363
  let v809 : BitVec 32 := Scalar.extui v808
  let c0_i32_364 : BitVec 32 := 0#32
  let v810 : BitVec 1 := Scalar.cmpi .slt c7_i32_360 c0_i32_364
  let v811 : BitVec 32 := Scalar.extui v810
  let v812 : BitVec 32 := Scalar.subi v809 v811
  let v813 : BitVec 1 := Scalar.cmpi .ne v807 v812
  let v814 : BitVec 32 := Scalar.remsi v784 c7_i32_360
  let c0_i32_365 : BitVec 32 := 0#32
  let v815 : BitVec 1 := Scalar.cmpi .ne v814 c0_i32_365
  let v816 : BitVec 1 := Scalar.andi v813 v815
  let v802 : BitVec 32 := Scalar.divsi v784 c7_i32_360
  let c1_i32_366 : BitVec 32 := 1#32
  let v817 : BitVec 32 := Scalar.subi v802 c1_i32_366
  let v818 : BitVec 32 := Scalar.select v816 v817 v802
  let c7_i32_367 : BitVec 32 := 7#32
  let c0_i32_368 : BitVec 32 := 0#32
  let v819 : BitVec 1 := Scalar.cmpi .eq c7_i32_367 c0_i32_368
  let c1_i32_369 : BitVec 32 := 1#32
  let v820 : BitVec 32 := Scalar.select v819 c1_i32_369 c7_i32_367
  let v821 : BitVec 32 := Scalar.remsi v818 v820
  let c0_i32_371 : BitVec 32 := 0#32
  let v823 : BitVec 1 := Scalar.cmpi .slt v821 c0_i32_371
  let c0_i32_372 : BitVec 32 := 0#32
  let v824 : BitVec 1 := Scalar.cmpi .slt v820 c0_i32_372
  let v825 : BitVec 1 := Scalar.xori v823 v824
  let c0_i32_370 : BitVec 32 := 0#32
  let v822 : BitVec 1 := Scalar.cmpi .ne v821 c0_i32_370
  let v826 : BitVec 1 := Scalar.andi v825 v822
  let v827 : BitVec 32 := Scalar.addi v821 v820
  let v828 : BitVec 32 := Scalar.select v826 v827 v821
  let v840 : BitVec 32 := Scalar.addi c7_i32_380 v828
  let c1000_i32_381 : BitVec 32 := 1000#32
  let v841 : BitVec 32 := Scalar.muli v840 c1000_i32_381
  let c992_i32_877 : BitVec 32 := 992#32
  let v1826 : BitVec 32 := Scalar.addi v841 c992_i32_877
  let v1827 : Index := Scalar.indexCast v1826
  ![v1827.toNat]
def k0_off26 (i : grid0.Coords) : Fin 1 → Nat :=
  let c14_i32_382 : BitVec 32 := 14#32
  let arg1 : BitVec 32 := BitVec.ofNat 32 (i 1).val
  let c7_i32 : BitVec 32 := 7#32
  let v0 : BitVec 1 := Scalar.cmpi .slt arg1 c7_i32
  let c22_i32 : BitVec 32 := 22#32
  let v1 : BitVec 32 := Scalar.muli arg1 c22_i32
  let c21_i32 : BitVec 32 := 21#32
  let v2 : BitVec 32 := Scalar.muli c21_i32 arg1
  let c7_i32_0 : BitVec 32 := 7#32
  let v3 : BitVec 32 := Scalar.addi v2 c7_i32_0
  let v4 : BitVec 32 := Scalar.select v0 v1 v3
  let c6_i32_352 : BitVec 32 := 6#32
  let v784 : BitVec 32 := Scalar.addi v4 c6_i32_352
  let c7_i32_373 : BitVec 32 := 7#32
  let c0_i32_374 : BitVec 32 := 0#32
  let v829 : BitVec 1 := Scalar.cmpi .eq c7_i32_373 c0_i32_374
  let c1_i32_375 : BitVec 32 := 1#32
  let v830 : BitVec 32 := Scalar.select v829 c1_i32_375 c7_i32_373
  let v831 : BitVec 32 := Scalar.remsi v784 v830
  let c0_i32_377 : BitVec 32 := 0#32
  let v833 : BitVec 1 := Scalar.cmpi .slt v831 c0_i32_377
  let c0_i32_378 : BitVec 32 := 0#32
  let v834 : BitVec 1 := Scalar.cmpi .slt v830 c0_i32_378
  let v835 : BitVec 1 := Scalar.xori v833 v834
  let c0_i32_376 : BitVec 32 := 0#32
  let v832 : BitVec 1 := Scalar.cmpi .ne v831 c0_i32_376
  let v836 : BitVec 1 := Scalar.andi v835 v832
  let v837 : BitVec 32 := Scalar.addi v831 v830
  let v838 : BitVec 32 := Scalar.select v836 v837 v831
  let v842 : BitVec 32 := Scalar.addi c14_i32_382 v838
  let c1000_i32_383 : BitVec 32 := 1000#32
  let v843 : BitVec 32 := Scalar.muli v842 c1000_i32_383
  let c992_i32_878 : BitVec 32 := 992#32
  let v1830 : BitVec 32 := Scalar.addi v843 c992_i32_878
  let v1831 : Index := Scalar.indexCast v1830
  ![v1831.toNat]

def k0_chk42 (i : grid0.Coords) (v1835 : IVec S16 32) : Prop :=
  (∀ (k0_h1 : k0_cond1 i = 1#1), ∀ a x, ((![v1835] : Fin 1 → IVec S16 32) a x).toNat < S22008.size a)
theorem k0_idx42_inb : ∀ (i : grid0.Coords) (v1835 : IVec S16 32) (k0_hw42 : k0_chk42 i v1835), ∀ (k0_h1 : k0_cond1 i = 1#1), ∀ a x, ((![v1835] : Fin 1 → IVec S16 32) a x).toNat < S22008.size a := fun i v1835 k0_hw42 k0_h1 => k0_hw42 k0_h1
def k0_off27 (i : grid0.Coords) : Fin 1 → Nat :=
  let arg1 : BitVec 32 := BitVec.ofNat 32 (i 1).val
  let c7_i32 : BitVec 32 := 7#32
  let v0 : BitVec 1 := Scalar.cmpi .slt arg1 c7_i32
  let c22_i32 : BitVec 32 := 22#32
  let v1 : BitVec 32 := Scalar.muli arg1 c22_i32
  let c21_i32 : BitVec 32 := 21#32
  let v2 : BitVec 32 := Scalar.muli c21_i32 arg1
  let c7_i32_0 : BitVec 32 := 7#32
  let v3 : BitVec 32 := Scalar.addi v2 c7_i32_0
  let v4 : BitVec 32 := Scalar.select v0 v1 v3
  let c7_i32_384 : BitVec 32 := 7#32
  let v844 : BitVec 32 := Scalar.addi v4 c7_i32_384
  let c0_i32_386 : BitVec 32 := 0#32
  let v846 : BitVec 1 := Scalar.cmpi .sgt v844 c0_i32_386
  let v847 : BitVec 32 := Scalar.extui v846
  let c0_i32_387 : BitVec 32 := 0#32
  let v848 : BitVec 1 := Scalar.cmpi .slt v844 c0_i32_387
  let v849 : BitVec 32 := Scalar.extui v848
  let v850 : BitVec 32 := Scalar.subi v847 v849
  let c49_i32_385 : BitVec 32 := 49#32
  let c0_i32_388 : BitVec 32 := 0#32
  let v851 : BitVec 1 := Scalar.cmpi .sgt c49_i32_385 c0_i32_388
  let v852 : BitVec 32 := Scalar.extui v851
  let c0_i32_389 : BitVec 32 := 0#32
  let v853 : BitVec 1 := Scalar.cmpi .slt c49_i32_385 c0_i32_389
  let v854 : BitVec 32 := Scalar.extui v853
  let v855 : BitVec 32 := Scalar.subi v852 v854
  let v856 : BitVec 1 := Scalar.cmpi .ne v850 v855
  let v857 : BitVec 32 := Scalar.remsi v844 c49_i32_385
  let c0_i32_390 : BitVec 32 := 0#32
  let v858 : BitVec 1 := Scalar.cmpi .ne v857 c0_i32_390
  let v859 : BitVec 1 := Scalar.andi v856 v858
  let v845 : BitVec 32 := Scalar.divsi v844 c49_i32_385
  let c1_i32_391 : BitVec 32 := 1#32
  let v860 : BitVec 32 := Scalar.subi v845 c1_i32_391
  let v861 : BitVec 32 := Scalar.select v859 v860 v845
  let c1000_i32_411 : BitVec 32 := 1000#32
  let v899 : BitVec 32 := Scalar.muli v861 c1000_i32_411
  let c992_i32_879 : BitVec 32 := 992#32
  let v1836 : BitVec 32 := Scalar.addi v899 c992_i32_879
  let v1837 : Index := Scalar.indexCast v1836
  ![v1837.toNat]
def k0_off28 (i : grid0.Coords) : Fin 1 → Nat :=
  let c7_i32_412 : BitVec 32 := 7#32
  let arg1 : BitVec 32 := BitVec.ofNat 32 (i 1).val
  let c7_i32 : BitVec 32 := 7#32
  let v0 : BitVec 1 := Scalar.cmpi .slt arg1 c7_i32
  let c22_i32 : BitVec 32 := 22#32
  let v1 : BitVec 32 := Scalar.muli arg1 c22_i32
  let c21_i32 : BitVec 32 := 21#32
  let v2 : BitVec 32 := Scalar.muli c21_i32 arg1
  let c7_i32_0 : BitVec 32 := 7#32
  let v3 : BitVec 32 := Scalar.addi v2 c7_i32_0
  let v4 : BitVec 32 := Scalar.select v0 v1 v3
  let c7_i32_384 : BitVec 32 := 7#32
  let v844 : BitVec 32 := Scalar.addi v4 c7_i32_384
  let c0_i32_393 : BitVec 32 := 0#32
  let v863 : BitVec 1 := Scalar.cmpi .sgt v844 c0_i32_393
  let v864 : BitVec 32 := Scalar.extui v863
  let c0_i32_394 : BitVec 32 := 0#32
  let v865 : BitVec 1 := Scalar.cmpi .slt v844 c0_i32_394
  let v866 : BitVec 32 := Scalar.extui v865
  let v867 : BitVec 32 := Scalar.subi v864 v866
  let c7_i32_392 : BitVec 32 := 7#32
  let c0_i32_395 : BitVec 32 := 0#32
  let v868 : BitVec 1 := Scalar.cmpi .sgt c7_i32_392 c0_i32_395
  let v869 : BitVec 32 := Scalar.extui v868
  let c0_i32_396 : BitVec 32 := 0#32
  let v870 : BitVec 1 := Scalar.cmpi .slt c7_i32_392 c0_i32_396
  let v871 : BitVec 32 := Scalar.extui v870
  let v872 : BitVec 32 := Scalar.subi v869 v871
  let v873 : BitVec 1 := Scalar.cmpi .ne v867 v872
  let v874 : BitVec 32 := Scalar.remsi v844 c7_i32_392
  let c0_i32_397 : BitVec 32 := 0#32
  let v875 : BitVec 1 := Scalar.cmpi .ne v874 c0_i32_397
  let v876 : BitVec 1 := Scalar.andi v873 v875
  let v862 : BitVec 32 := Scalar.divsi v844 c7_i32_392
  let c1_i32_398 : BitVec 32 := 1#32
  let v877 : BitVec 32 := Scalar.subi v862 c1_i32_398
  let v878 : BitVec 32 := Scalar.select v876 v877 v862
  let c7_i32_399 : BitVec 32 := 7#32
  let c0_i32_400 : BitVec 32 := 0#32
  let v879 : BitVec 1 := Scalar.cmpi .eq c7_i32_399 c0_i32_400
  let c1_i32_401 : BitVec 32 := 1#32
  let v880 : BitVec 32 := Scalar.select v879 c1_i32_401 c7_i32_399
  let v881 : BitVec 32 := Scalar.remsi v878 v880
  let c0_i32_403 : BitVec 32 := 0#32
  let v883 : BitVec 1 := Scalar.cmpi .slt v881 c0_i32_403
  let c0_i32_404 : BitVec 32 := 0#32
  let v884 : BitVec 1 := Scalar.cmpi .slt v880 c0_i32_404
  let v885 : BitVec 1 := Scalar.xori v883 v884
  let c0_i32_402 : BitVec 32 := 0#32
  let v882 : BitVec 1 := Scalar.cmpi .ne v881 c0_i32_402
  let v886 : BitVec 1 := Scalar.andi v885 v882
  let v887 : BitVec 32 := Scalar.addi v881 v880
  let v888 : BitVec 32 := Scalar.select v886 v887 v881
  let v900 : BitVec 32 := Scalar.addi c7_i32_412 v888
  let c1000_i32_413 : BitVec 32 := 1000#32
  let v901 : BitVec 32 := Scalar.muli v900 c1000_i32_413
  let c992_i32_880 : BitVec 32 := 992#32
  let v1839 : BitVec 32 := Scalar.addi v901 c992_i32_880
  let v1840 : Index := Scalar.indexCast v1839
  ![v1840.toNat]
def k0_off29 (i : grid0.Coords) : Fin 1 → Nat :=
  let c14_i32_414 : BitVec 32 := 14#32
  let arg1 : BitVec 32 := BitVec.ofNat 32 (i 1).val
  let c7_i32 : BitVec 32 := 7#32
  let v0 : BitVec 1 := Scalar.cmpi .slt arg1 c7_i32
  let c22_i32 : BitVec 32 := 22#32
  let v1 : BitVec 32 := Scalar.muli arg1 c22_i32
  let c21_i32 : BitVec 32 := 21#32
  let v2 : BitVec 32 := Scalar.muli c21_i32 arg1
  let c7_i32_0 : BitVec 32 := 7#32
  let v3 : BitVec 32 := Scalar.addi v2 c7_i32_0
  let v4 : BitVec 32 := Scalar.select v0 v1 v3
  let c7_i32_384 : BitVec 32 := 7#32
  let v844 : BitVec 32 := Scalar.addi v4 c7_i32_384
  let c7_i32_405 : BitVec 32 := 7#32
  let c0_i32_406 : BitVec 32 := 0#32
  let v889 : BitVec 1 := Scalar.cmpi .eq c7_i32_405 c0_i32_406
  let c1_i32_407 : BitVec 32 := 1#32
  let v890 : BitVec 32 := Scalar.select v889 c1_i32_407 c7_i32_405
  let v891 : BitVec 32 := Scalar.remsi v844 v890
  let c0_i32_409 : BitVec 32 := 0#32
  let v893 : BitVec 1 := Scalar.cmpi .slt v891 c0_i32_409
  let c0_i32_410 : BitVec 32 := 0#32
  let v894 : BitVec 1 := Scalar.cmpi .slt v890 c0_i32_410
  let v895 : BitVec 1 := Scalar.xori v893 v894
  let c0_i32_408 : BitVec 32 := 0#32
  let v892 : BitVec 1 := Scalar.cmpi .ne v891 c0_i32_408
  let v896 : BitVec 1 := Scalar.andi v895 v892
  let v897 : BitVec 32 := Scalar.addi v891 v890
  let v898 : BitVec 32 := Scalar.select v896 v897 v891
  let v902 : BitVec 32 := Scalar.addi c14_i32_414 v898
  let c1000_i32_415 : BitVec 32 := 1000#32
  let v903 : BitVec 32 := Scalar.muli v902 c1000_i32_415
  let c992_i32_881 : BitVec 32 := 992#32
  let v1843 : BitVec 32 := Scalar.addi v903 c992_i32_881
  let v1844 : Index := Scalar.indexCast v1843
  ![v1844.toNat]

def k0_chk43 (i : grid0.Coords) (v1848 : IVec S16 32) : Prop :=
  (∀ (k0_h1 : k0_cond1 i = 1#1), ∀ a x, ((![v1848] : Fin 1 → IVec S16 32) a x).toNat < S22008.size a)
theorem k0_idx43_inb : ∀ (i : grid0.Coords) (v1848 : IVec S16 32) (k0_hw43 : k0_chk43 i v1848), ∀ (k0_h1 : k0_cond1 i = 1#1), ∀ a x, ((![v1848] : Fin 1 → IVec S16 32) a x).toNat < S22008.size a := fun i v1848 k0_hw43 k0_h1 => k0_hw43 k0_h1
def k0_off30 (i : grid0.Coords) : Fin 1 → Nat :=
  let arg1 : BitVec 32 := BitVec.ofNat 32 (i 1).val
  let c7_i32 : BitVec 32 := 7#32
  let v0 : BitVec 1 := Scalar.cmpi .slt arg1 c7_i32
  let c22_i32 : BitVec 32 := 22#32
  let v1 : BitVec 32 := Scalar.muli arg1 c22_i32
  let c21_i32 : BitVec 32 := 21#32
  let v2 : BitVec 32 := Scalar.muli c21_i32 arg1
  let c7_i32_0 : BitVec 32 := 7#32
  let v3 : BitVec 32 := Scalar.addi v2 c7_i32_0
  let v4 : BitVec 32 := Scalar.select v0 v1 v3
  let c8_i32_416 : BitVec 32 := 8#32
  let v904 : BitVec 32 := Scalar.addi v4 c8_i32_416
  let c0_i32_418 : BitVec 32 := 0#32
  let v906 : BitVec 1 := Scalar.cmpi .sgt v904 c0_i32_418
  let v907 : BitVec 32 := Scalar.extui v906
  let c0_i32_419 : BitVec 32 := 0#32
  let v908 : BitVec 1 := Scalar.cmpi .slt v904 c0_i32_419
  let v909 : BitVec 32 := Scalar.extui v908
  let v910 : BitVec 32 := Scalar.subi v907 v909
  let c49_i32_417 : BitVec 32 := 49#32
  let c0_i32_420 : BitVec 32 := 0#32
  let v911 : BitVec 1 := Scalar.cmpi .sgt c49_i32_417 c0_i32_420
  let v912 : BitVec 32 := Scalar.extui v911
  let c0_i32_421 : BitVec 32 := 0#32
  let v913 : BitVec 1 := Scalar.cmpi .slt c49_i32_417 c0_i32_421
  let v914 : BitVec 32 := Scalar.extui v913
  let v915 : BitVec 32 := Scalar.subi v912 v914
  let v916 : BitVec 1 := Scalar.cmpi .ne v910 v915
  let v917 : BitVec 32 := Scalar.remsi v904 c49_i32_417
  let c0_i32_422 : BitVec 32 := 0#32
  let v918 : BitVec 1 := Scalar.cmpi .ne v917 c0_i32_422
  let v919 : BitVec 1 := Scalar.andi v916 v918
  let v905 : BitVec 32 := Scalar.divsi v904 c49_i32_417
  let c1_i32_423 : BitVec 32 := 1#32
  let v920 : BitVec 32 := Scalar.subi v905 c1_i32_423
  let v921 : BitVec 32 := Scalar.select v919 v920 v905
  let c1000_i32_443 : BitVec 32 := 1000#32
  let v959 : BitVec 32 := Scalar.muli v921 c1000_i32_443
  let c992_i32_882 : BitVec 32 := 992#32
  let v1849 : BitVec 32 := Scalar.addi v959 c992_i32_882
  let v1850 : Index := Scalar.indexCast v1849
  ![v1850.toNat]
def k0_off31 (i : grid0.Coords) : Fin 1 → Nat :=
  let c7_i32_444 : BitVec 32 := 7#32
  let arg1 : BitVec 32 := BitVec.ofNat 32 (i 1).val
  let c7_i32 : BitVec 32 := 7#32
  let v0 : BitVec 1 := Scalar.cmpi .slt arg1 c7_i32
  let c22_i32 : BitVec 32 := 22#32
  let v1 : BitVec 32 := Scalar.muli arg1 c22_i32
  let c21_i32 : BitVec 32 := 21#32
  let v2 : BitVec 32 := Scalar.muli c21_i32 arg1
  let c7_i32_0 : BitVec 32 := 7#32
  let v3 : BitVec 32 := Scalar.addi v2 c7_i32_0
  let v4 : BitVec 32 := Scalar.select v0 v1 v3
  let c8_i32_416 : BitVec 32 := 8#32
  let v904 : BitVec 32 := Scalar.addi v4 c8_i32_416
  let c0_i32_425 : BitVec 32 := 0#32
  let v923 : BitVec 1 := Scalar.cmpi .sgt v904 c0_i32_425
  let v924 : BitVec 32 := Scalar.extui v923
  let c0_i32_426 : BitVec 32 := 0#32
  let v925 : BitVec 1 := Scalar.cmpi .slt v904 c0_i32_426
  let v926 : BitVec 32 := Scalar.extui v925
  let v927 : BitVec 32 := Scalar.subi v924 v926
  let c7_i32_424 : BitVec 32 := 7#32
  let c0_i32_427 : BitVec 32 := 0#32
  let v928 : BitVec 1 := Scalar.cmpi .sgt c7_i32_424 c0_i32_427
  let v929 : BitVec 32 := Scalar.extui v928
  let c0_i32_428 : BitVec 32 := 0#32
  let v930 : BitVec 1 := Scalar.cmpi .slt c7_i32_424 c0_i32_428
  let v931 : BitVec 32 := Scalar.extui v930
  let v932 : BitVec 32 := Scalar.subi v929 v931
  let v933 : BitVec 1 := Scalar.cmpi .ne v927 v932
  let v934 : BitVec 32 := Scalar.remsi v904 c7_i32_424
  let c0_i32_429 : BitVec 32 := 0#32
  let v935 : BitVec 1 := Scalar.cmpi .ne v934 c0_i32_429
  let v936 : BitVec 1 := Scalar.andi v933 v935
  let v922 : BitVec 32 := Scalar.divsi v904 c7_i32_424
  let c1_i32_430 : BitVec 32 := 1#32
  let v937 : BitVec 32 := Scalar.subi v922 c1_i32_430
  let v938 : BitVec 32 := Scalar.select v936 v937 v922
  let c7_i32_431 : BitVec 32 := 7#32
  let c0_i32_432 : BitVec 32 := 0#32
  let v939 : BitVec 1 := Scalar.cmpi .eq c7_i32_431 c0_i32_432
  let c1_i32_433 : BitVec 32 := 1#32
  let v940 : BitVec 32 := Scalar.select v939 c1_i32_433 c7_i32_431
  let v941 : BitVec 32 := Scalar.remsi v938 v940
  let c0_i32_435 : BitVec 32 := 0#32
  let v943 : BitVec 1 := Scalar.cmpi .slt v941 c0_i32_435
  let c0_i32_436 : BitVec 32 := 0#32
  let v944 : BitVec 1 := Scalar.cmpi .slt v940 c0_i32_436
  let v945 : BitVec 1 := Scalar.xori v943 v944
  let c0_i32_434 : BitVec 32 := 0#32
  let v942 : BitVec 1 := Scalar.cmpi .ne v941 c0_i32_434
  let v946 : BitVec 1 := Scalar.andi v945 v942
  let v947 : BitVec 32 := Scalar.addi v941 v940
  let v948 : BitVec 32 := Scalar.select v946 v947 v941
  let v960 : BitVec 32 := Scalar.addi c7_i32_444 v948
  let c1000_i32_445 : BitVec 32 := 1000#32
  let v961 : BitVec 32 := Scalar.muli v960 c1000_i32_445
  let c992_i32_883 : BitVec 32 := 992#32
  let v1852 : BitVec 32 := Scalar.addi v961 c992_i32_883
  let v1853 : Index := Scalar.indexCast v1852
  ![v1853.toNat]
def k0_off32 (i : grid0.Coords) : Fin 1 → Nat :=
  let c14_i32_446 : BitVec 32 := 14#32
  let arg1 : BitVec 32 := BitVec.ofNat 32 (i 1).val
  let c7_i32 : BitVec 32 := 7#32
  let v0 : BitVec 1 := Scalar.cmpi .slt arg1 c7_i32
  let c22_i32 : BitVec 32 := 22#32
  let v1 : BitVec 32 := Scalar.muli arg1 c22_i32
  let c21_i32 : BitVec 32 := 21#32
  let v2 : BitVec 32 := Scalar.muli c21_i32 arg1
  let c7_i32_0 : BitVec 32 := 7#32
  let v3 : BitVec 32 := Scalar.addi v2 c7_i32_0
  let v4 : BitVec 32 := Scalar.select v0 v1 v3
  let c8_i32_416 : BitVec 32 := 8#32
  let v904 : BitVec 32 := Scalar.addi v4 c8_i32_416
  let c7_i32_437 : BitVec 32 := 7#32
  let c0_i32_438 : BitVec 32 := 0#32
  let v949 : BitVec 1 := Scalar.cmpi .eq c7_i32_437 c0_i32_438
  let c1_i32_439 : BitVec 32 := 1#32
  let v950 : BitVec 32 := Scalar.select v949 c1_i32_439 c7_i32_437
  let v951 : BitVec 32 := Scalar.remsi v904 v950
  let c0_i32_441 : BitVec 32 := 0#32
  let v953 : BitVec 1 := Scalar.cmpi .slt v951 c0_i32_441
  let c0_i32_442 : BitVec 32 := 0#32
  let v954 : BitVec 1 := Scalar.cmpi .slt v950 c0_i32_442
  let v955 : BitVec 1 := Scalar.xori v953 v954
  let c0_i32_440 : BitVec 32 := 0#32
  let v952 : BitVec 1 := Scalar.cmpi .ne v951 c0_i32_440
  let v956 : BitVec 1 := Scalar.andi v955 v952
  let v957 : BitVec 32 := Scalar.addi v951 v950
  let v958 : BitVec 32 := Scalar.select v956 v957 v951
  let v962 : BitVec 32 := Scalar.addi c14_i32_446 v958
  let c1000_i32_447 : BitVec 32 := 1000#32
  let v963 : BitVec 32 := Scalar.muli v962 c1000_i32_447
  let c992_i32_884 : BitVec 32 := 992#32
  let v1856 : BitVec 32 := Scalar.addi v963 c992_i32_884
  let v1857 : Index := Scalar.indexCast v1856
  ![v1857.toNat]

def k0_chk44 (i : grid0.Coords) (v1861 : IVec S16 32) : Prop :=
  (∀ (k0_h1 : k0_cond1 i = 1#1), ∀ a x, ((![v1861] : Fin 1 → IVec S16 32) a x).toNat < S22008.size a)
theorem k0_idx44_inb : ∀ (i : grid0.Coords) (v1861 : IVec S16 32) (k0_hw44 : k0_chk44 i v1861), ∀ (k0_h1 : k0_cond1 i = 1#1), ∀ a x, ((![v1861] : Fin 1 → IVec S16 32) a x).toNat < S22008.size a := fun i v1861 k0_hw44 k0_h1 => k0_hw44 k0_h1
def k0_off33 (i : grid0.Coords) : Fin 1 → Nat :=
  let arg1 : BitVec 32 := BitVec.ofNat 32 (i 1).val
  let c7_i32 : BitVec 32 := 7#32
  let v0 : BitVec 1 := Scalar.cmpi .slt arg1 c7_i32
  let c22_i32 : BitVec 32 := 22#32
  let v1 : BitVec 32 := Scalar.muli arg1 c22_i32
  let c21_i32 : BitVec 32 := 21#32
  let v2 : BitVec 32 := Scalar.muli c21_i32 arg1
  let c7_i32_0 : BitVec 32 := 7#32
  let v3 : BitVec 32 := Scalar.addi v2 c7_i32_0
  let v4 : BitVec 32 := Scalar.select v0 v1 v3
  let c9_i32 : BitVec 32 := 9#32
  let v964 : BitVec 32 := Scalar.addi v4 c9_i32
  let c0_i32_449 : BitVec 32 := 0#32
  let v966 : BitVec 1 := Scalar.cmpi .sgt v964 c0_i32_449
  let v967 : BitVec 32 := Scalar.extui v966
  let c0_i32_450 : BitVec 32 := 0#32
  let v968 : BitVec 1 := Scalar.cmpi .slt v964 c0_i32_450
  let v969 : BitVec 32 := Scalar.extui v968
  let v970 : BitVec 32 := Scalar.subi v967 v969
  let c49_i32_448 : BitVec 32 := 49#32
  let c0_i32_451 : BitVec 32 := 0#32
  let v971 : BitVec 1 := Scalar.cmpi .sgt c49_i32_448 c0_i32_451
  let v972 : BitVec 32 := Scalar.extui v971
  let c0_i32_452 : BitVec 32 := 0#32
  let v973 : BitVec 1 := Scalar.cmpi .slt c49_i32_448 c0_i32_452
  let v974 : BitVec 32 := Scalar.extui v973
  let v975 : BitVec 32 := Scalar.subi v972 v974
  let v976 : BitVec 1 := Scalar.cmpi .ne v970 v975
  let v977 : BitVec 32 := Scalar.remsi v964 c49_i32_448
  let c0_i32_453 : BitVec 32 := 0#32
  let v978 : BitVec 1 := Scalar.cmpi .ne v977 c0_i32_453
  let v979 : BitVec 1 := Scalar.andi v976 v978
  let v965 : BitVec 32 := Scalar.divsi v964 c49_i32_448
  let c1_i32_454 : BitVec 32 := 1#32
  let v980 : BitVec 32 := Scalar.subi v965 c1_i32_454
  let v981 : BitVec 32 := Scalar.select v979 v980 v965
  let c1000_i32_474 : BitVec 32 := 1000#32
  let v1019 : BitVec 32 := Scalar.muli v981 c1000_i32_474
  let c992_i32_885 : BitVec 32 := 992#32
  let v1862 : BitVec 32 := Scalar.addi v1019 c992_i32_885
  let v1863 : Index := Scalar.indexCast v1862
  ![v1863.toNat]
def k0_off34 (i : grid0.Coords) : Fin 1 → Nat :=
  let c7_i32_475 : BitVec 32 := 7#32
  let arg1 : BitVec 32 := BitVec.ofNat 32 (i 1).val
  let c7_i32 : BitVec 32 := 7#32
  let v0 : BitVec 1 := Scalar.cmpi .slt arg1 c7_i32
  let c22_i32 : BitVec 32 := 22#32
  let v1 : BitVec 32 := Scalar.muli arg1 c22_i32
  let c21_i32 : BitVec 32 := 21#32
  let v2 : BitVec 32 := Scalar.muli c21_i32 arg1
  let c7_i32_0 : BitVec 32 := 7#32
  let v3 : BitVec 32 := Scalar.addi v2 c7_i32_0
  let v4 : BitVec 32 := Scalar.select v0 v1 v3
  let c9_i32 : BitVec 32 := 9#32
  let v964 : BitVec 32 := Scalar.addi v4 c9_i32
  let c0_i32_456 : BitVec 32 := 0#32
  let v983 : BitVec 1 := Scalar.cmpi .sgt v964 c0_i32_456
  let v984 : BitVec 32 := Scalar.extui v983
  let c0_i32_457 : BitVec 32 := 0#32
  let v985 : BitVec 1 := Scalar.cmpi .slt v964 c0_i32_457
  let v986 : BitVec 32 := Scalar.extui v985
  let v987 : BitVec 32 := Scalar.subi v984 v986
  let c7_i32_455 : BitVec 32 := 7#32
  let c0_i32_458 : BitVec 32 := 0#32
  let v988 : BitVec 1 := Scalar.cmpi .sgt c7_i32_455 c0_i32_458
  let v989 : BitVec 32 := Scalar.extui v988
  let c0_i32_459 : BitVec 32 := 0#32
  let v990 : BitVec 1 := Scalar.cmpi .slt c7_i32_455 c0_i32_459
  let v991 : BitVec 32 := Scalar.extui v990
  let v992 : BitVec 32 := Scalar.subi v989 v991
  let v993 : BitVec 1 := Scalar.cmpi .ne v987 v992
  let v994 : BitVec 32 := Scalar.remsi v964 c7_i32_455
  let c0_i32_460 : BitVec 32 := 0#32
  let v995 : BitVec 1 := Scalar.cmpi .ne v994 c0_i32_460
  let v996 : BitVec 1 := Scalar.andi v993 v995
  let v982 : BitVec 32 := Scalar.divsi v964 c7_i32_455
  let c1_i32_461 : BitVec 32 := 1#32
  let v997 : BitVec 32 := Scalar.subi v982 c1_i32_461
  let v998 : BitVec 32 := Scalar.select v996 v997 v982
  let c7_i32_462 : BitVec 32 := 7#32
  let c0_i32_463 : BitVec 32 := 0#32
  let v999 : BitVec 1 := Scalar.cmpi .eq c7_i32_462 c0_i32_463
  let c1_i32_464 : BitVec 32 := 1#32
  let v1000 : BitVec 32 := Scalar.select v999 c1_i32_464 c7_i32_462
  let v1001 : BitVec 32 := Scalar.remsi v998 v1000
  let c0_i32_466 : BitVec 32 := 0#32
  let v1003 : BitVec 1 := Scalar.cmpi .slt v1001 c0_i32_466
  let c0_i32_467 : BitVec 32 := 0#32
  let v1004 : BitVec 1 := Scalar.cmpi .slt v1000 c0_i32_467
  let v1005 : BitVec 1 := Scalar.xori v1003 v1004
  let c0_i32_465 : BitVec 32 := 0#32
  let v1002 : BitVec 1 := Scalar.cmpi .ne v1001 c0_i32_465
  let v1006 : BitVec 1 := Scalar.andi v1005 v1002
  let v1007 : BitVec 32 := Scalar.addi v1001 v1000
  let v1008 : BitVec 32 := Scalar.select v1006 v1007 v1001
  let v1020 : BitVec 32 := Scalar.addi c7_i32_475 v1008
  let c1000_i32_476 : BitVec 32 := 1000#32
  let v1021 : BitVec 32 := Scalar.muli v1020 c1000_i32_476
  let c992_i32_886 : BitVec 32 := 992#32
  let v1865 : BitVec 32 := Scalar.addi v1021 c992_i32_886
  let v1866 : Index := Scalar.indexCast v1865
  ![v1866.toNat]
def k0_off35 (i : grid0.Coords) : Fin 1 → Nat :=
  let c14_i32_477 : BitVec 32 := 14#32
  let arg1 : BitVec 32 := BitVec.ofNat 32 (i 1).val
  let c7_i32 : BitVec 32 := 7#32
  let v0 : BitVec 1 := Scalar.cmpi .slt arg1 c7_i32
  let c22_i32 : BitVec 32 := 22#32
  let v1 : BitVec 32 := Scalar.muli arg1 c22_i32
  let c21_i32 : BitVec 32 := 21#32
  let v2 : BitVec 32 := Scalar.muli c21_i32 arg1
  let c7_i32_0 : BitVec 32 := 7#32
  let v3 : BitVec 32 := Scalar.addi v2 c7_i32_0
  let v4 : BitVec 32 := Scalar.select v0 v1 v3
  let c9_i32 : BitVec 32 := 9#32
  let v964 : BitVec 32 := Scalar.addi v4 c9_i32
  let c7_i32_468 : BitVec 32 := 7#32
  let c0_i32_469 : BitVec 32 := 0#32
  let v1009 : BitVec 1 := Scalar.cmpi .eq c7_i32_468 c0_i32_469
  let c1_i32_470 : BitVec 32 := 1#32
  let v1010 : BitVec 32 := Scalar.select v1009 c1_i32_470 c7_i32_468
  let v1011 : BitVec 32 := Scalar.remsi v964 v1010
  let c0_i32_472 : BitVec 32 := 0#32
  let v1013 : BitVec 1 := Scalar.cmpi .slt v1011 c0_i32_472
  let c0_i32_473 : BitVec 32 := 0#32
  let v1014 : BitVec 1 := Scalar.cmpi .slt v1010 c0_i32_473
  let v1015 : BitVec 1 := Scalar.xori v1013 v1014
  let c0_i32_471 : BitVec 32 := 0#32
  let v1012 : BitVec 1 := Scalar.cmpi .ne v1011 c0_i32_471
  let v1016 : BitVec 1 := Scalar.andi v1015 v1012
  let v1017 : BitVec 32 := Scalar.addi v1011 v1010
  let v1018 : BitVec 32 := Scalar.select v1016 v1017 v1011
  let v1022 : BitVec 32 := Scalar.addi c14_i32_477 v1018
  let c1000_i32_478 : BitVec 32 := 1000#32
  let v1023 : BitVec 32 := Scalar.muli v1022 c1000_i32_478
  let c992_i32_887 : BitVec 32 := 992#32
  let v1869 : BitVec 32 := Scalar.addi v1023 c992_i32_887
  let v1870 : Index := Scalar.indexCast v1869
  ![v1870.toNat]

def k0_chk45 (i : grid0.Coords) (v1874 : IVec S16 32) : Prop :=
  (∀ (k0_h1 : k0_cond1 i = 1#1), ∀ a x, ((![v1874] : Fin 1 → IVec S16 32) a x).toNat < S22008.size a)
theorem k0_idx45_inb : ∀ (i : grid0.Coords) (v1874 : IVec S16 32) (k0_hw45 : k0_chk45 i v1874), ∀ (k0_h1 : k0_cond1 i = 1#1), ∀ a x, ((![v1874] : Fin 1 → IVec S16 32) a x).toNat < S22008.size a := fun i v1874 k0_hw45 k0_h1 => k0_hw45 k0_h1
def k0_off36 (i : grid0.Coords) : Fin 1 → Nat :=
  let arg1 : BitVec 32 := BitVec.ofNat 32 (i 1).val
  let c7_i32 : BitVec 32 := 7#32
  let v0 : BitVec 1 := Scalar.cmpi .slt arg1 c7_i32
  let c22_i32 : BitVec 32 := 22#32
  let v1 : BitVec 32 := Scalar.muli arg1 c22_i32
  let c21_i32 : BitVec 32 := 21#32
  let v2 : BitVec 32 := Scalar.muli c21_i32 arg1
  let c7_i32_0 : BitVec 32 := 7#32
  let v3 : BitVec 32 := Scalar.addi v2 c7_i32_0
  let v4 : BitVec 32 := Scalar.select v0 v1 v3
  let c10_i32 : BitVec 32 := 10#32
  let v1024 : BitVec 32 := Scalar.addi v4 c10_i32
  let c0_i32_480 : BitVec 32 := 0#32
  let v1026 : BitVec 1 := Scalar.cmpi .sgt v1024 c0_i32_480
  let v1027 : BitVec 32 := Scalar.extui v1026
  let c0_i32_481 : BitVec 32 := 0#32
  let v1028 : BitVec 1 := Scalar.cmpi .slt v1024 c0_i32_481
  let v1029 : BitVec 32 := Scalar.extui v1028
  let v1030 : BitVec 32 := Scalar.subi v1027 v1029
  let c49_i32_479 : BitVec 32 := 49#32
  let c0_i32_482 : BitVec 32 := 0#32
  let v1031 : BitVec 1 := Scalar.cmpi .sgt c49_i32_479 c0_i32_482
  let v1032 : BitVec 32 := Scalar.extui v1031
  let c0_i32_483 : BitVec 32 := 0#32
  let v1033 : BitVec 1 := Scalar.cmpi .slt c49_i32_479 c0_i32_483
  let v1034 : BitVec 32 := Scalar.extui v1033
  let v1035 : BitVec 32 := Scalar.subi v1032 v1034
  let v1036 : BitVec 1 := Scalar.cmpi .ne v1030 v1035
  let v1037 : BitVec 32 := Scalar.remsi v1024 c49_i32_479
  let c0_i32_484 : BitVec 32 := 0#32
  let v1038 : BitVec 1 := Scalar.cmpi .ne v1037 c0_i32_484
  let v1039 : BitVec 1 := Scalar.andi v1036 v1038
  let v1025 : BitVec 32 := Scalar.divsi v1024 c49_i32_479
  let c1_i32_485 : BitVec 32 := 1#32
  let v1040 : BitVec 32 := Scalar.subi v1025 c1_i32_485
  let v1041 : BitVec 32 := Scalar.select v1039 v1040 v1025
  let c1000_i32_505 : BitVec 32 := 1000#32
  let v1079 : BitVec 32 := Scalar.muli v1041 c1000_i32_505
  let c992_i32_888 : BitVec 32 := 992#32
  let v1875 : BitVec 32 := Scalar.addi v1079 c992_i32_888
  let v1876 : Index := Scalar.indexCast v1875
  ![v1876.toNat]
def k0_off37 (i : grid0.Coords) : Fin 1 → Nat :=
  let c7_i32_506 : BitVec 32 := 7#32
  let arg1 : BitVec 32 := BitVec.ofNat 32 (i 1).val
  let c7_i32 : BitVec 32 := 7#32
  let v0 : BitVec 1 := Scalar.cmpi .slt arg1 c7_i32
  let c22_i32 : BitVec 32 := 22#32
  let v1 : BitVec 32 := Scalar.muli arg1 c22_i32
  let c21_i32 : BitVec 32 := 21#32
  let v2 : BitVec 32 := Scalar.muli c21_i32 arg1
  let c7_i32_0 : BitVec 32 := 7#32
  let v3 : BitVec 32 := Scalar.addi v2 c7_i32_0
  let v4 : BitVec 32 := Scalar.select v0 v1 v3
  let c10_i32 : BitVec 32 := 10#32
  let v1024 : BitVec 32 := Scalar.addi v4 c10_i32
  let c0_i32_487 : BitVec 32 := 0#32
  let v1043 : BitVec 1 := Scalar.cmpi .sgt v1024 c0_i32_487
  let v1044 : BitVec 32 := Scalar.extui v1043
  let c0_i32_488 : BitVec 32 := 0#32
  let v1045 : BitVec 1 := Scalar.cmpi .slt v1024 c0_i32_488
  let v1046 : BitVec 32 := Scalar.extui v1045
  let v1047 : BitVec 32 := Scalar.subi v1044 v1046
  let c7_i32_486 : BitVec 32 := 7#32
  let c0_i32_489 : BitVec 32 := 0#32
  let v1048 : BitVec 1 := Scalar.cmpi .sgt c7_i32_486 c0_i32_489
  let v1049 : BitVec 32 := Scalar.extui v1048
  let c0_i32_490 : BitVec 32 := 0#32
  let v1050 : BitVec 1 := Scalar.cmpi .slt c7_i32_486 c0_i32_490
  let v1051 : BitVec 32 := Scalar.extui v1050
  let v1052 : BitVec 32 := Scalar.subi v1049 v1051
  let v1053 : BitVec 1 := Scalar.cmpi .ne v1047 v1052
  let v1054 : BitVec 32 := Scalar.remsi v1024 c7_i32_486
  let c0_i32_491 : BitVec 32 := 0#32
  let v1055 : BitVec 1 := Scalar.cmpi .ne v1054 c0_i32_491
  let v1056 : BitVec 1 := Scalar.andi v1053 v1055
  let v1042 : BitVec 32 := Scalar.divsi v1024 c7_i32_486
  let c1_i32_492 : BitVec 32 := 1#32
  let v1057 : BitVec 32 := Scalar.subi v1042 c1_i32_492
  let v1058 : BitVec 32 := Scalar.select v1056 v1057 v1042
  let c7_i32_493 : BitVec 32 := 7#32
  let c0_i32_494 : BitVec 32 := 0#32
  let v1059 : BitVec 1 := Scalar.cmpi .eq c7_i32_493 c0_i32_494
  let c1_i32_495 : BitVec 32 := 1#32
  let v1060 : BitVec 32 := Scalar.select v1059 c1_i32_495 c7_i32_493
  let v1061 : BitVec 32 := Scalar.remsi v1058 v1060
  let c0_i32_497 : BitVec 32 := 0#32
  let v1063 : BitVec 1 := Scalar.cmpi .slt v1061 c0_i32_497
  let c0_i32_498 : BitVec 32 := 0#32
  let v1064 : BitVec 1 := Scalar.cmpi .slt v1060 c0_i32_498
  let v1065 : BitVec 1 := Scalar.xori v1063 v1064
  let c0_i32_496 : BitVec 32 := 0#32
  let v1062 : BitVec 1 := Scalar.cmpi .ne v1061 c0_i32_496
  let v1066 : BitVec 1 := Scalar.andi v1065 v1062
  let v1067 : BitVec 32 := Scalar.addi v1061 v1060
  let v1068 : BitVec 32 := Scalar.select v1066 v1067 v1061
  let v1080 : BitVec 32 := Scalar.addi c7_i32_506 v1068
  let c1000_i32_507 : BitVec 32 := 1000#32
  let v1081 : BitVec 32 := Scalar.muli v1080 c1000_i32_507
  let c992_i32_889 : BitVec 32 := 992#32
  let v1878 : BitVec 32 := Scalar.addi v1081 c992_i32_889
  let v1879 : Index := Scalar.indexCast v1878
  ![v1879.toNat]
def k0_off38 (i : grid0.Coords) : Fin 1 → Nat :=
  let c14_i32_508 : BitVec 32 := 14#32
  let arg1 : BitVec 32 := BitVec.ofNat 32 (i 1).val
  let c7_i32 : BitVec 32 := 7#32
  let v0 : BitVec 1 := Scalar.cmpi .slt arg1 c7_i32
  let c22_i32 : BitVec 32 := 22#32
  let v1 : BitVec 32 := Scalar.muli arg1 c22_i32
  let c21_i32 : BitVec 32 := 21#32
  let v2 : BitVec 32 := Scalar.muli c21_i32 arg1
  let c7_i32_0 : BitVec 32 := 7#32
  let v3 : BitVec 32 := Scalar.addi v2 c7_i32_0
  let v4 : BitVec 32 := Scalar.select v0 v1 v3
  let c10_i32 : BitVec 32 := 10#32
  let v1024 : BitVec 32 := Scalar.addi v4 c10_i32
  let c7_i32_499 : BitVec 32 := 7#32
  let c0_i32_500 : BitVec 32 := 0#32
  let v1069 : BitVec 1 := Scalar.cmpi .eq c7_i32_499 c0_i32_500
  let c1_i32_501 : BitVec 32 := 1#32
  let v1070 : BitVec 32 := Scalar.select v1069 c1_i32_501 c7_i32_499
  let v1071 : BitVec 32 := Scalar.remsi v1024 v1070
  let c0_i32_503 : BitVec 32 := 0#32
  let v1073 : BitVec 1 := Scalar.cmpi .slt v1071 c0_i32_503
  let c0_i32_504 : BitVec 32 := 0#32
  let v1074 : BitVec 1 := Scalar.cmpi .slt v1070 c0_i32_504
  let v1075 : BitVec 1 := Scalar.xori v1073 v1074
  let c0_i32_502 : BitVec 32 := 0#32
  let v1072 : BitVec 1 := Scalar.cmpi .ne v1071 c0_i32_502
  let v1076 : BitVec 1 := Scalar.andi v1075 v1072
  let v1077 : BitVec 32 := Scalar.addi v1071 v1070
  let v1078 : BitVec 32 := Scalar.select v1076 v1077 v1071
  let v1082 : BitVec 32 := Scalar.addi c14_i32_508 v1078
  let c1000_i32_509 : BitVec 32 := 1000#32
  let v1083 : BitVec 32 := Scalar.muli v1082 c1000_i32_509
  let c992_i32_890 : BitVec 32 := 992#32
  let v1882 : BitVec 32 := Scalar.addi v1083 c992_i32_890
  let v1883 : Index := Scalar.indexCast v1882
  ![v1883.toNat]

def k0_chk46 (i : grid0.Coords) (v1887 : IVec S16 32) : Prop :=
  (∀ (k0_h1 : k0_cond1 i = 1#1), ∀ a x, ((![v1887] : Fin 1 → IVec S16 32) a x).toNat < S22008.size a)
theorem k0_idx46_inb : ∀ (i : grid0.Coords) (v1887 : IVec S16 32) (k0_hw46 : k0_chk46 i v1887), ∀ (k0_h1 : k0_cond1 i = 1#1), ∀ a x, ((![v1887] : Fin 1 → IVec S16 32) a x).toNat < S22008.size a := fun i v1887 k0_hw46 k0_h1 => k0_hw46 k0_h1
def k0_off39 (i : grid0.Coords) : Fin 1 → Nat :=
  let arg1 : BitVec 32 := BitVec.ofNat 32 (i 1).val
  let c7_i32 : BitVec 32 := 7#32
  let v0 : BitVec 1 := Scalar.cmpi .slt arg1 c7_i32
  let c22_i32 : BitVec 32 := 22#32
  let v1 : BitVec 32 := Scalar.muli arg1 c22_i32
  let c21_i32 : BitVec 32 := 21#32
  let v2 : BitVec 32 := Scalar.muli c21_i32 arg1
  let c7_i32_0 : BitVec 32 := 7#32
  let v3 : BitVec 32 := Scalar.addi v2 c7_i32_0
  let v4 : BitVec 32 := Scalar.select v0 v1 v3
  let c11_i32 : BitVec 32 := 11#32
  let v1084 : BitVec 32 := Scalar.addi v4 c11_i32
  let c0_i32_511 : BitVec 32 := 0#32
  let v1086 : BitVec 1 := Scalar.cmpi .sgt v1084 c0_i32_511
  let v1087 : BitVec 32 := Scalar.extui v1086
  let c0_i32_512 : BitVec 32 := 0#32
  let v1088 : BitVec 1 := Scalar.cmpi .slt v1084 c0_i32_512
  let v1089 : BitVec 32 := Scalar.extui v1088
  let v1090 : BitVec 32 := Scalar.subi v1087 v1089
  let c49_i32_510 : BitVec 32 := 49#32
  let c0_i32_513 : BitVec 32 := 0#32
  let v1091 : BitVec 1 := Scalar.cmpi .sgt c49_i32_510 c0_i32_513
  let v1092 : BitVec 32 := Scalar.extui v1091
  let c0_i32_514 : BitVec 32 := 0#32
  let v1093 : BitVec 1 := Scalar.cmpi .slt c49_i32_510 c0_i32_514
  let v1094 : BitVec 32 := Scalar.extui v1093
  let v1095 : BitVec 32 := Scalar.subi v1092 v1094
  let v1096 : BitVec 1 := Scalar.cmpi .ne v1090 v1095
  let v1097 : BitVec 32 := Scalar.remsi v1084 c49_i32_510
  let c0_i32_515 : BitVec 32 := 0#32
  let v1098 : BitVec 1 := Scalar.cmpi .ne v1097 c0_i32_515
  let v1099 : BitVec 1 := Scalar.andi v1096 v1098
  let v1085 : BitVec 32 := Scalar.divsi v1084 c49_i32_510
  let c1_i32_516 : BitVec 32 := 1#32
  let v1100 : BitVec 32 := Scalar.subi v1085 c1_i32_516
  let v1101 : BitVec 32 := Scalar.select v1099 v1100 v1085
  let c1000_i32_536 : BitVec 32 := 1000#32
  let v1139 : BitVec 32 := Scalar.muli v1101 c1000_i32_536
  let c992_i32_891 : BitVec 32 := 992#32
  let v1888 : BitVec 32 := Scalar.addi v1139 c992_i32_891
  let v1889 : Index := Scalar.indexCast v1888
  ![v1889.toNat]
def k0_off40 (i : grid0.Coords) : Fin 1 → Nat :=
  let c7_i32_537 : BitVec 32 := 7#32
  let arg1 : BitVec 32 := BitVec.ofNat 32 (i 1).val
  let c7_i32 : BitVec 32 := 7#32
  let v0 : BitVec 1 := Scalar.cmpi .slt arg1 c7_i32
  let c22_i32 : BitVec 32 := 22#32
  let v1 : BitVec 32 := Scalar.muli arg1 c22_i32
  let c21_i32 : BitVec 32 := 21#32
  let v2 : BitVec 32 := Scalar.muli c21_i32 arg1
  let c7_i32_0 : BitVec 32 := 7#32
  let v3 : BitVec 32 := Scalar.addi v2 c7_i32_0
  let v4 : BitVec 32 := Scalar.select v0 v1 v3
  let c11_i32 : BitVec 32 := 11#32
  let v1084 : BitVec 32 := Scalar.addi v4 c11_i32
  let c0_i32_518 : BitVec 32 := 0#32
  let v1103 : BitVec 1 := Scalar.cmpi .sgt v1084 c0_i32_518
  let v1104 : BitVec 32 := Scalar.extui v1103
  let c0_i32_519 : BitVec 32 := 0#32
  let v1105 : BitVec 1 := Scalar.cmpi .slt v1084 c0_i32_519
  let v1106 : BitVec 32 := Scalar.extui v1105
  let v1107 : BitVec 32 := Scalar.subi v1104 v1106
  let c7_i32_517 : BitVec 32 := 7#32
  let c0_i32_520 : BitVec 32 := 0#32
  let v1108 : BitVec 1 := Scalar.cmpi .sgt c7_i32_517 c0_i32_520
  let v1109 : BitVec 32 := Scalar.extui v1108
  let c0_i32_521 : BitVec 32 := 0#32
  let v1110 : BitVec 1 := Scalar.cmpi .slt c7_i32_517 c0_i32_521
  let v1111 : BitVec 32 := Scalar.extui v1110
  let v1112 : BitVec 32 := Scalar.subi v1109 v1111
  let v1113 : BitVec 1 := Scalar.cmpi .ne v1107 v1112
  let v1114 : BitVec 32 := Scalar.remsi v1084 c7_i32_517
  let c0_i32_522 : BitVec 32 := 0#32
  let v1115 : BitVec 1 := Scalar.cmpi .ne v1114 c0_i32_522
  let v1116 : BitVec 1 := Scalar.andi v1113 v1115
  let v1102 : BitVec 32 := Scalar.divsi v1084 c7_i32_517
  let c1_i32_523 : BitVec 32 := 1#32
  let v1117 : BitVec 32 := Scalar.subi v1102 c1_i32_523
  let v1118 : BitVec 32 := Scalar.select v1116 v1117 v1102
  let c7_i32_524 : BitVec 32 := 7#32
  let c0_i32_525 : BitVec 32 := 0#32
  let v1119 : BitVec 1 := Scalar.cmpi .eq c7_i32_524 c0_i32_525
  let c1_i32_526 : BitVec 32 := 1#32
  let v1120 : BitVec 32 := Scalar.select v1119 c1_i32_526 c7_i32_524
  let v1121 : BitVec 32 := Scalar.remsi v1118 v1120
  let c0_i32_528 : BitVec 32 := 0#32
  let v1123 : BitVec 1 := Scalar.cmpi .slt v1121 c0_i32_528
  let c0_i32_529 : BitVec 32 := 0#32
  let v1124 : BitVec 1 := Scalar.cmpi .slt v1120 c0_i32_529
  let v1125 : BitVec 1 := Scalar.xori v1123 v1124
  let c0_i32_527 : BitVec 32 := 0#32
  let v1122 : BitVec 1 := Scalar.cmpi .ne v1121 c0_i32_527
  let v1126 : BitVec 1 := Scalar.andi v1125 v1122
  let v1127 : BitVec 32 := Scalar.addi v1121 v1120
  let v1128 : BitVec 32 := Scalar.select v1126 v1127 v1121
  let v1140 : BitVec 32 := Scalar.addi c7_i32_537 v1128
  let c1000_i32_538 : BitVec 32 := 1000#32
  let v1141 : BitVec 32 := Scalar.muli v1140 c1000_i32_538
  let c992_i32_892 : BitVec 32 := 992#32
  let v1891 : BitVec 32 := Scalar.addi v1141 c992_i32_892
  let v1892 : Index := Scalar.indexCast v1891
  ![v1892.toNat]
def k0_off41 (i : grid0.Coords) : Fin 1 → Nat :=
  let c14_i32_539 : BitVec 32 := 14#32
  let arg1 : BitVec 32 := BitVec.ofNat 32 (i 1).val
  let c7_i32 : BitVec 32 := 7#32
  let v0 : BitVec 1 := Scalar.cmpi .slt arg1 c7_i32
  let c22_i32 : BitVec 32 := 22#32
  let v1 : BitVec 32 := Scalar.muli arg1 c22_i32
  let c21_i32 : BitVec 32 := 21#32
  let v2 : BitVec 32 := Scalar.muli c21_i32 arg1
  let c7_i32_0 : BitVec 32 := 7#32
  let v3 : BitVec 32 := Scalar.addi v2 c7_i32_0
  let v4 : BitVec 32 := Scalar.select v0 v1 v3
  let c11_i32 : BitVec 32 := 11#32
  let v1084 : BitVec 32 := Scalar.addi v4 c11_i32
  let c7_i32_530 : BitVec 32 := 7#32
  let c0_i32_531 : BitVec 32 := 0#32
  let v1129 : BitVec 1 := Scalar.cmpi .eq c7_i32_530 c0_i32_531
  let c1_i32_532 : BitVec 32 := 1#32
  let v1130 : BitVec 32 := Scalar.select v1129 c1_i32_532 c7_i32_530
  let v1131 : BitVec 32 := Scalar.remsi v1084 v1130
  let c0_i32_534 : BitVec 32 := 0#32
  let v1133 : BitVec 1 := Scalar.cmpi .slt v1131 c0_i32_534
  let c0_i32_535 : BitVec 32 := 0#32
  let v1134 : BitVec 1 := Scalar.cmpi .slt v1130 c0_i32_535
  let v1135 : BitVec 1 := Scalar.xori v1133 v1134
  let c0_i32_533 : BitVec 32 := 0#32
  let v1132 : BitVec 1 := Scalar.cmpi .ne v1131 c0_i32_533
  let v1136 : BitVec 1 := Scalar.andi v1135 v1132
  let v1137 : BitVec 32 := Scalar.addi v1131 v1130
  let v1138 : BitVec 32 := Scalar.select v1136 v1137 v1131
  let v1142 : BitVec 32 := Scalar.addi c14_i32_539 v1138
  let c1000_i32_540 : BitVec 32 := 1000#32
  let v1143 : BitVec 32 := Scalar.muli v1142 c1000_i32_540
  let c992_i32_893 : BitVec 32 := 992#32
  let v1895 : BitVec 32 := Scalar.addi v1143 c992_i32_893
  let v1896 : Index := Scalar.indexCast v1895
  ![v1896.toNat]

def k0_chk47 (i : grid0.Coords) (v1900 : IVec S16 32) : Prop :=
  (∀ (k0_h1 : k0_cond1 i = 1#1), ∀ a x, ((![v1900] : Fin 1 → IVec S16 32) a x).toNat < S22008.size a)
theorem k0_idx47_inb : ∀ (i : grid0.Coords) (v1900 : IVec S16 32) (k0_hw47 : k0_chk47 i v1900), ∀ (k0_h1 : k0_cond1 i = 1#1), ∀ a x, ((![v1900] : Fin 1 → IVec S16 32) a x).toNat < S22008.size a := fun i v1900 k0_hw47 k0_h1 => k0_hw47 k0_h1
def k0_off42 (i : grid0.Coords) : Fin 1 → Nat :=
  let arg1 : BitVec 32 := BitVec.ofNat 32 (i 1).val
  let c7_i32 : BitVec 32 := 7#32
  let v0 : BitVec 1 := Scalar.cmpi .slt arg1 c7_i32
  let c22_i32 : BitVec 32 := 22#32
  let v1 : BitVec 32 := Scalar.muli arg1 c22_i32
  let c21_i32 : BitVec 32 := 21#32
  let v2 : BitVec 32 := Scalar.muli c21_i32 arg1
  let c7_i32_0 : BitVec 32 := 7#32
  let v3 : BitVec 32 := Scalar.addi v2 c7_i32_0
  let v4 : BitVec 32 := Scalar.select v0 v1 v3
  let c12_i32 : BitVec 32 := 12#32
  let v1144 : BitVec 32 := Scalar.addi v4 c12_i32
  let c0_i32_542 : BitVec 32 := 0#32
  let v1146 : BitVec 1 := Scalar.cmpi .sgt v1144 c0_i32_542
  let v1147 : BitVec 32 := Scalar.extui v1146
  let c0_i32_543 : BitVec 32 := 0#32
  let v1148 : BitVec 1 := Scalar.cmpi .slt v1144 c0_i32_543
  let v1149 : BitVec 32 := Scalar.extui v1148
  let v1150 : BitVec 32 := Scalar.subi v1147 v1149
  let c49_i32_541 : BitVec 32 := 49#32
  let c0_i32_544 : BitVec 32 := 0#32
  let v1151 : BitVec 1 := Scalar.cmpi .sgt c49_i32_541 c0_i32_544
  let v1152 : BitVec 32 := Scalar.extui v1151
  let c0_i32_545 : BitVec 32 := 0#32
  let v1153 : BitVec 1 := Scalar.cmpi .slt c49_i32_541 c0_i32_545
  let v1154 : BitVec 32 := Scalar.extui v1153
  let v1155 : BitVec 32 := Scalar.subi v1152 v1154
  let v1156 : BitVec 1 := Scalar.cmpi .ne v1150 v1155
  let v1157 : BitVec 32 := Scalar.remsi v1144 c49_i32_541
  let c0_i32_546 : BitVec 32 := 0#32
  let v1158 : BitVec 1 := Scalar.cmpi .ne v1157 c0_i32_546
  let v1159 : BitVec 1 := Scalar.andi v1156 v1158
  let v1145 : BitVec 32 := Scalar.divsi v1144 c49_i32_541
  let c1_i32_547 : BitVec 32 := 1#32
  let v1160 : BitVec 32 := Scalar.subi v1145 c1_i32_547
  let v1161 : BitVec 32 := Scalar.select v1159 v1160 v1145
  let c1000_i32_567 : BitVec 32 := 1000#32
  let v1199 : BitVec 32 := Scalar.muli v1161 c1000_i32_567
  let c992_i32_894 : BitVec 32 := 992#32
  let v1901 : BitVec 32 := Scalar.addi v1199 c992_i32_894
  let v1902 : Index := Scalar.indexCast v1901
  ![v1902.toNat]
def k0_off43 (i : grid0.Coords) : Fin 1 → Nat :=
  let c7_i32_568 : BitVec 32 := 7#32
  let arg1 : BitVec 32 := BitVec.ofNat 32 (i 1).val
  let c7_i32 : BitVec 32 := 7#32
  let v0 : BitVec 1 := Scalar.cmpi .slt arg1 c7_i32
  let c22_i32 : BitVec 32 := 22#32
  let v1 : BitVec 32 := Scalar.muli arg1 c22_i32
  let c21_i32 : BitVec 32 := 21#32
  let v2 : BitVec 32 := Scalar.muli c21_i32 arg1
  let c7_i32_0 : BitVec 32 := 7#32
  let v3 : BitVec 32 := Scalar.addi v2 c7_i32_0
  let v4 : BitVec 32 := Scalar.select v0 v1 v3
  let c12_i32 : BitVec 32 := 12#32
  let v1144 : BitVec 32 := Scalar.addi v4 c12_i32
  let c0_i32_549 : BitVec 32 := 0#32
  let v1163 : BitVec 1 := Scalar.cmpi .sgt v1144 c0_i32_549
  let v1164 : BitVec 32 := Scalar.extui v1163
  let c0_i32_550 : BitVec 32 := 0#32
  let v1165 : BitVec 1 := Scalar.cmpi .slt v1144 c0_i32_550
  let v1166 : BitVec 32 := Scalar.extui v1165
  let v1167 : BitVec 32 := Scalar.subi v1164 v1166
  let c7_i32_548 : BitVec 32 := 7#32
  let c0_i32_551 : BitVec 32 := 0#32
  let v1168 : BitVec 1 := Scalar.cmpi .sgt c7_i32_548 c0_i32_551
  let v1169 : BitVec 32 := Scalar.extui v1168
  let c0_i32_552 : BitVec 32 := 0#32
  let v1170 : BitVec 1 := Scalar.cmpi .slt c7_i32_548 c0_i32_552
  let v1171 : BitVec 32 := Scalar.extui v1170
  let v1172 : BitVec 32 := Scalar.subi v1169 v1171
  let v1173 : BitVec 1 := Scalar.cmpi .ne v1167 v1172
  let v1174 : BitVec 32 := Scalar.remsi v1144 c7_i32_548
  let c0_i32_553 : BitVec 32 := 0#32
  let v1175 : BitVec 1 := Scalar.cmpi .ne v1174 c0_i32_553
  let v1176 : BitVec 1 := Scalar.andi v1173 v1175
  let v1162 : BitVec 32 := Scalar.divsi v1144 c7_i32_548
  let c1_i32_554 : BitVec 32 := 1#32
  let v1177 : BitVec 32 := Scalar.subi v1162 c1_i32_554
  let v1178 : BitVec 32 := Scalar.select v1176 v1177 v1162
  let c7_i32_555 : BitVec 32 := 7#32
  let c0_i32_556 : BitVec 32 := 0#32
  let v1179 : BitVec 1 := Scalar.cmpi .eq c7_i32_555 c0_i32_556
  let c1_i32_557 : BitVec 32 := 1#32
  let v1180 : BitVec 32 := Scalar.select v1179 c1_i32_557 c7_i32_555
  let v1181 : BitVec 32 := Scalar.remsi v1178 v1180
  let c0_i32_559 : BitVec 32 := 0#32
  let v1183 : BitVec 1 := Scalar.cmpi .slt v1181 c0_i32_559
  let c0_i32_560 : BitVec 32 := 0#32
  let v1184 : BitVec 1 := Scalar.cmpi .slt v1180 c0_i32_560
  let v1185 : BitVec 1 := Scalar.xori v1183 v1184
  let c0_i32_558 : BitVec 32 := 0#32
  let v1182 : BitVec 1 := Scalar.cmpi .ne v1181 c0_i32_558
  let v1186 : BitVec 1 := Scalar.andi v1185 v1182
  let v1187 : BitVec 32 := Scalar.addi v1181 v1180
  let v1188 : BitVec 32 := Scalar.select v1186 v1187 v1181
  let v1200 : BitVec 32 := Scalar.addi c7_i32_568 v1188
  let c1000_i32_569 : BitVec 32 := 1000#32
  let v1201 : BitVec 32 := Scalar.muli v1200 c1000_i32_569
  let c992_i32_895 : BitVec 32 := 992#32
  let v1904 : BitVec 32 := Scalar.addi v1201 c992_i32_895
  let v1905 : Index := Scalar.indexCast v1904
  ![v1905.toNat]
def k0_off44 (i : grid0.Coords) : Fin 1 → Nat :=
  let c14_i32_570 : BitVec 32 := 14#32
  let arg1 : BitVec 32 := BitVec.ofNat 32 (i 1).val
  let c7_i32 : BitVec 32 := 7#32
  let v0 : BitVec 1 := Scalar.cmpi .slt arg1 c7_i32
  let c22_i32 : BitVec 32 := 22#32
  let v1 : BitVec 32 := Scalar.muli arg1 c22_i32
  let c21_i32 : BitVec 32 := 21#32
  let v2 : BitVec 32 := Scalar.muli c21_i32 arg1
  let c7_i32_0 : BitVec 32 := 7#32
  let v3 : BitVec 32 := Scalar.addi v2 c7_i32_0
  let v4 : BitVec 32 := Scalar.select v0 v1 v3
  let c12_i32 : BitVec 32 := 12#32
  let v1144 : BitVec 32 := Scalar.addi v4 c12_i32
  let c7_i32_561 : BitVec 32 := 7#32
  let c0_i32_562 : BitVec 32 := 0#32
  let v1189 : BitVec 1 := Scalar.cmpi .eq c7_i32_561 c0_i32_562
  let c1_i32_563 : BitVec 32 := 1#32
  let v1190 : BitVec 32 := Scalar.select v1189 c1_i32_563 c7_i32_561
  let v1191 : BitVec 32 := Scalar.remsi v1144 v1190
  let c0_i32_565 : BitVec 32 := 0#32
  let v1193 : BitVec 1 := Scalar.cmpi .slt v1191 c0_i32_565
  let c0_i32_566 : BitVec 32 := 0#32
  let v1194 : BitVec 1 := Scalar.cmpi .slt v1190 c0_i32_566
  let v1195 : BitVec 1 := Scalar.xori v1193 v1194
  let c0_i32_564 : BitVec 32 := 0#32
  let v1192 : BitVec 1 := Scalar.cmpi .ne v1191 c0_i32_564
  let v1196 : BitVec 1 := Scalar.andi v1195 v1192
  let v1197 : BitVec 32 := Scalar.addi v1191 v1190
  let v1198 : BitVec 32 := Scalar.select v1196 v1197 v1191
  let v1202 : BitVec 32 := Scalar.addi c14_i32_570 v1198
  let c1000_i32_571 : BitVec 32 := 1000#32
  let v1203 : BitVec 32 := Scalar.muli v1202 c1000_i32_571
  let c992_i32_896 : BitVec 32 := 992#32
  let v1908 : BitVec 32 := Scalar.addi v1203 c992_i32_896
  let v1909 : Index := Scalar.indexCast v1908
  ![v1909.toNat]

def k0_chk48 (i : grid0.Coords) (v1913 : IVec S16 32) : Prop :=
  (∀ (k0_h1 : k0_cond1 i = 1#1), ∀ a x, ((![v1913] : Fin 1 → IVec S16 32) a x).toNat < S22008.size a)
theorem k0_idx48_inb : ∀ (i : grid0.Coords) (v1913 : IVec S16 32) (k0_hw48 : k0_chk48 i v1913), ∀ (k0_h1 : k0_cond1 i = 1#1), ∀ a x, ((![v1913] : Fin 1 → IVec S16 32) a x).toNat < S22008.size a := fun i v1913 k0_hw48 k0_h1 => k0_hw48 k0_h1
def k0_off45 (i : grid0.Coords) : Fin 1 → Nat :=
  let arg1 : BitVec 32 := BitVec.ofNat 32 (i 1).val
  let c7_i32 : BitVec 32 := 7#32
  let v0 : BitVec 1 := Scalar.cmpi .slt arg1 c7_i32
  let c22_i32 : BitVec 32 := 22#32
  let v1 : BitVec 32 := Scalar.muli arg1 c22_i32
  let c21_i32 : BitVec 32 := 21#32
  let v2 : BitVec 32 := Scalar.muli c21_i32 arg1
  let c7_i32_0 : BitVec 32 := 7#32
  let v3 : BitVec 32 := Scalar.addi v2 c7_i32_0
  let v4 : BitVec 32 := Scalar.select v0 v1 v3
  let c13_i32 : BitVec 32 := 13#32
  let v1204 : BitVec 32 := Scalar.addi v4 c13_i32
  let c0_i32_573 : BitVec 32 := 0#32
  let v1206 : BitVec 1 := Scalar.cmpi .sgt v1204 c0_i32_573
  let v1207 : BitVec 32 := Scalar.extui v1206
  let c0_i32_574 : BitVec 32 := 0#32
  let v1208 : BitVec 1 := Scalar.cmpi .slt v1204 c0_i32_574
  let v1209 : BitVec 32 := Scalar.extui v1208
  let v1210 : BitVec 32 := Scalar.subi v1207 v1209
  let c49_i32_572 : BitVec 32 := 49#32
  let c0_i32_575 : BitVec 32 := 0#32
  let v1211 : BitVec 1 := Scalar.cmpi .sgt c49_i32_572 c0_i32_575
  let v1212 : BitVec 32 := Scalar.extui v1211
  let c0_i32_576 : BitVec 32 := 0#32
  let v1213 : BitVec 1 := Scalar.cmpi .slt c49_i32_572 c0_i32_576
  let v1214 : BitVec 32 := Scalar.extui v1213
  let v1215 : BitVec 32 := Scalar.subi v1212 v1214
  let v1216 : BitVec 1 := Scalar.cmpi .ne v1210 v1215
  let v1217 : BitVec 32 := Scalar.remsi v1204 c49_i32_572
  let c0_i32_577 : BitVec 32 := 0#32
  let v1218 : BitVec 1 := Scalar.cmpi .ne v1217 c0_i32_577
  let v1219 : BitVec 1 := Scalar.andi v1216 v1218
  let v1205 : BitVec 32 := Scalar.divsi v1204 c49_i32_572
  let c1_i32_578 : BitVec 32 := 1#32
  let v1220 : BitVec 32 := Scalar.subi v1205 c1_i32_578
  let v1221 : BitVec 32 := Scalar.select v1219 v1220 v1205
  let c1000_i32_598 : BitVec 32 := 1000#32
  let v1259 : BitVec 32 := Scalar.muli v1221 c1000_i32_598
  let c992_i32_897 : BitVec 32 := 992#32
  let v1914 : BitVec 32 := Scalar.addi v1259 c992_i32_897
  let v1915 : Index := Scalar.indexCast v1914
  ![v1915.toNat]
def k0_off46 (i : grid0.Coords) : Fin 1 → Nat :=
  let c7_i32_599 : BitVec 32 := 7#32
  let arg1 : BitVec 32 := BitVec.ofNat 32 (i 1).val
  let c7_i32 : BitVec 32 := 7#32
  let v0 : BitVec 1 := Scalar.cmpi .slt arg1 c7_i32
  let c22_i32 : BitVec 32 := 22#32
  let v1 : BitVec 32 := Scalar.muli arg1 c22_i32
  let c21_i32 : BitVec 32 := 21#32
  let v2 : BitVec 32 := Scalar.muli c21_i32 arg1
  let c7_i32_0 : BitVec 32 := 7#32
  let v3 : BitVec 32 := Scalar.addi v2 c7_i32_0
  let v4 : BitVec 32 := Scalar.select v0 v1 v3
  let c13_i32 : BitVec 32 := 13#32
  let v1204 : BitVec 32 := Scalar.addi v4 c13_i32
  let c0_i32_580 : BitVec 32 := 0#32
  let v1223 : BitVec 1 := Scalar.cmpi .sgt v1204 c0_i32_580
  let v1224 : BitVec 32 := Scalar.extui v1223
  let c0_i32_581 : BitVec 32 := 0#32
  let v1225 : BitVec 1 := Scalar.cmpi .slt v1204 c0_i32_581
  let v1226 : BitVec 32 := Scalar.extui v1225
  let v1227 : BitVec 32 := Scalar.subi v1224 v1226
  let c7_i32_579 : BitVec 32 := 7#32
  let c0_i32_582 : BitVec 32 := 0#32
  let v1228 : BitVec 1 := Scalar.cmpi .sgt c7_i32_579 c0_i32_582
  let v1229 : BitVec 32 := Scalar.extui v1228
  let c0_i32_583 : BitVec 32 := 0#32
  let v1230 : BitVec 1 := Scalar.cmpi .slt c7_i32_579 c0_i32_583
  let v1231 : BitVec 32 := Scalar.extui v1230
  let v1232 : BitVec 32 := Scalar.subi v1229 v1231
  let v1233 : BitVec 1 := Scalar.cmpi .ne v1227 v1232
  let v1234 : BitVec 32 := Scalar.remsi v1204 c7_i32_579
  let c0_i32_584 : BitVec 32 := 0#32
  let v1235 : BitVec 1 := Scalar.cmpi .ne v1234 c0_i32_584
  let v1236 : BitVec 1 := Scalar.andi v1233 v1235
  let v1222 : BitVec 32 := Scalar.divsi v1204 c7_i32_579
  let c1_i32_585 : BitVec 32 := 1#32
  let v1237 : BitVec 32 := Scalar.subi v1222 c1_i32_585
  let v1238 : BitVec 32 := Scalar.select v1236 v1237 v1222
  let c7_i32_586 : BitVec 32 := 7#32
  let c0_i32_587 : BitVec 32 := 0#32
  let v1239 : BitVec 1 := Scalar.cmpi .eq c7_i32_586 c0_i32_587
  let c1_i32_588 : BitVec 32 := 1#32
  let v1240 : BitVec 32 := Scalar.select v1239 c1_i32_588 c7_i32_586
  let v1241 : BitVec 32 := Scalar.remsi v1238 v1240
  let c0_i32_590 : BitVec 32 := 0#32
  let v1243 : BitVec 1 := Scalar.cmpi .slt v1241 c0_i32_590
  let c0_i32_591 : BitVec 32 := 0#32
  let v1244 : BitVec 1 := Scalar.cmpi .slt v1240 c0_i32_591
  let v1245 : BitVec 1 := Scalar.xori v1243 v1244
  let c0_i32_589 : BitVec 32 := 0#32
  let v1242 : BitVec 1 := Scalar.cmpi .ne v1241 c0_i32_589
  let v1246 : BitVec 1 := Scalar.andi v1245 v1242
  let v1247 : BitVec 32 := Scalar.addi v1241 v1240
  let v1248 : BitVec 32 := Scalar.select v1246 v1247 v1241
  let v1260 : BitVec 32 := Scalar.addi c7_i32_599 v1248
  let c1000_i32_600 : BitVec 32 := 1000#32
  let v1261 : BitVec 32 := Scalar.muli v1260 c1000_i32_600
  let c992_i32_898 : BitVec 32 := 992#32
  let v1917 : BitVec 32 := Scalar.addi v1261 c992_i32_898
  let v1918 : Index := Scalar.indexCast v1917
  ![v1918.toNat]
def k0_off47 (i : grid0.Coords) : Fin 1 → Nat :=
  let c14_i32_601 : BitVec 32 := 14#32
  let arg1 : BitVec 32 := BitVec.ofNat 32 (i 1).val
  let c7_i32 : BitVec 32 := 7#32
  let v0 : BitVec 1 := Scalar.cmpi .slt arg1 c7_i32
  let c22_i32 : BitVec 32 := 22#32
  let v1 : BitVec 32 := Scalar.muli arg1 c22_i32
  let c21_i32 : BitVec 32 := 21#32
  let v2 : BitVec 32 := Scalar.muli c21_i32 arg1
  let c7_i32_0 : BitVec 32 := 7#32
  let v3 : BitVec 32 := Scalar.addi v2 c7_i32_0
  let v4 : BitVec 32 := Scalar.select v0 v1 v3
  let c13_i32 : BitVec 32 := 13#32
  let v1204 : BitVec 32 := Scalar.addi v4 c13_i32
  let c7_i32_592 : BitVec 32 := 7#32
  let c0_i32_593 : BitVec 32 := 0#32
  let v1249 : BitVec 1 := Scalar.cmpi .eq c7_i32_592 c0_i32_593
  let c1_i32_594 : BitVec 32 := 1#32
  let v1250 : BitVec 32 := Scalar.select v1249 c1_i32_594 c7_i32_592
  let v1251 : BitVec 32 := Scalar.remsi v1204 v1250
  let c0_i32_596 : BitVec 32 := 0#32
  let v1253 : BitVec 1 := Scalar.cmpi .slt v1251 c0_i32_596
  let c0_i32_597 : BitVec 32 := 0#32
  let v1254 : BitVec 1 := Scalar.cmpi .slt v1250 c0_i32_597
  let v1255 : BitVec 1 := Scalar.xori v1253 v1254
  let c0_i32_595 : BitVec 32 := 0#32
  let v1252 : BitVec 1 := Scalar.cmpi .ne v1251 c0_i32_595
  let v1256 : BitVec 1 := Scalar.andi v1255 v1252
  let v1257 : BitVec 32 := Scalar.addi v1251 v1250
  let v1258 : BitVec 32 := Scalar.select v1256 v1257 v1251
  let v1262 : BitVec 32 := Scalar.addi c14_i32_601 v1258
  let c1000_i32_602 : BitVec 32 := 1000#32
  let v1263 : BitVec 32 := Scalar.muli v1262 c1000_i32_602
  let c992_i32_899 : BitVec 32 := 992#32
  let v1921 : BitVec 32 := Scalar.addi v1263 c992_i32_899
  let v1922 : Index := Scalar.indexCast v1921
  ![v1922.toNat]

def k0_chk49 (i : grid0.Coords) (v1926 : IVec S16 32) : Prop :=
  (∀ (k0_h1 : k0_cond1 i = 1#1), ∀ a x, ((![v1926] : Fin 1 → IVec S16 32) a x).toNat < S22008.size a)
theorem k0_idx49_inb : ∀ (i : grid0.Coords) (v1926 : IVec S16 32) (k0_hw49 : k0_chk49 i v1926), ∀ (k0_h1 : k0_cond1 i = 1#1), ∀ a x, ((![v1926] : Fin 1 → IVec S16 32) a x).toNat < S22008.size a := fun i v1926 k0_hw49 k0_h1 => k0_hw49 k0_h1
def k0_off48 (i : grid0.Coords) : Fin 1 → Nat :=
  let arg1 : BitVec 32 := BitVec.ofNat 32 (i 1).val
  let c7_i32 : BitVec 32 := 7#32
  let v0 : BitVec 1 := Scalar.cmpi .slt arg1 c7_i32
  let c22_i32 : BitVec 32 := 22#32
  let v1 : BitVec 32 := Scalar.muli arg1 c22_i32
  let c21_i32 : BitVec 32 := 21#32
  let v2 : BitVec 32 := Scalar.muli c21_i32 arg1
  let c7_i32_0 : BitVec 32 := 7#32
  let v3 : BitVec 32 := Scalar.addi v2 c7_i32_0
  let v4 : BitVec 32 := Scalar.select v0 v1 v3
  let c14_i32_603 : BitVec 32 := 14#32
  let v1264 : BitVec 32 := Scalar.addi v4 c14_i32_603
  let c0_i32_605 : BitVec 32 := 0#32
  let v1266 : BitVec 1 := Scalar.cmpi .sgt v1264 c0_i32_605
  let v1267 : BitVec 32 := Scalar.extui v1266
  let c0_i32_606 : BitVec 32 := 0#32
  let v1268 : BitVec 1 := Scalar.cmpi .slt v1264 c0_i32_606
  let v1269 : BitVec 32 := Scalar.extui v1268
  let v1270 : BitVec 32 := Scalar.subi v1267 v1269
  let c49_i32_604 : BitVec 32 := 49#32
  let c0_i32_607 : BitVec 32 := 0#32
  let v1271 : BitVec 1 := Scalar.cmpi .sgt c49_i32_604 c0_i32_607
  let v1272 : BitVec 32 := Scalar.extui v1271
  let c0_i32_608 : BitVec 32 := 0#32
  let v1273 : BitVec 1 := Scalar.cmpi .slt c49_i32_604 c0_i32_608
  let v1274 : BitVec 32 := Scalar.extui v1273
  let v1275 : BitVec 32 := Scalar.subi v1272 v1274
  let v1276 : BitVec 1 := Scalar.cmpi .ne v1270 v1275
  let v1277 : BitVec 32 := Scalar.remsi v1264 c49_i32_604
  let c0_i32_609 : BitVec 32 := 0#32
  let v1278 : BitVec 1 := Scalar.cmpi .ne v1277 c0_i32_609
  let v1279 : BitVec 1 := Scalar.andi v1276 v1278
  let v1265 : BitVec 32 := Scalar.divsi v1264 c49_i32_604
  let c1_i32_610 : BitVec 32 := 1#32
  let v1280 : BitVec 32 := Scalar.subi v1265 c1_i32_610
  let v1281 : BitVec 32 := Scalar.select v1279 v1280 v1265
  let c1000_i32_630 : BitVec 32 := 1000#32
  let v1319 : BitVec 32 := Scalar.muli v1281 c1000_i32_630
  let c992_i32_900 : BitVec 32 := 992#32
  let v1927 : BitVec 32 := Scalar.addi v1319 c992_i32_900
  let v1928 : Index := Scalar.indexCast v1927
  ![v1928.toNat]
def k0_off49 (i : grid0.Coords) : Fin 1 → Nat :=
  let c7_i32_631 : BitVec 32 := 7#32
  let arg1 : BitVec 32 := BitVec.ofNat 32 (i 1).val
  let c7_i32 : BitVec 32 := 7#32
  let v0 : BitVec 1 := Scalar.cmpi .slt arg1 c7_i32
  let c22_i32 : BitVec 32 := 22#32
  let v1 : BitVec 32 := Scalar.muli arg1 c22_i32
  let c21_i32 : BitVec 32 := 21#32
  let v2 : BitVec 32 := Scalar.muli c21_i32 arg1
  let c7_i32_0 : BitVec 32 := 7#32
  let v3 : BitVec 32 := Scalar.addi v2 c7_i32_0
  let v4 : BitVec 32 := Scalar.select v0 v1 v3
  let c14_i32_603 : BitVec 32 := 14#32
  let v1264 : BitVec 32 := Scalar.addi v4 c14_i32_603
  let c0_i32_612 : BitVec 32 := 0#32
  let v1283 : BitVec 1 := Scalar.cmpi .sgt v1264 c0_i32_612
  let v1284 : BitVec 32 := Scalar.extui v1283
  let c0_i32_613 : BitVec 32 := 0#32
  let v1285 : BitVec 1 := Scalar.cmpi .slt v1264 c0_i32_613
  let v1286 : BitVec 32 := Scalar.extui v1285
  let v1287 : BitVec 32 := Scalar.subi v1284 v1286
  let c7_i32_611 : BitVec 32 := 7#32
  let c0_i32_614 : BitVec 32 := 0#32
  let v1288 : BitVec 1 := Scalar.cmpi .sgt c7_i32_611 c0_i32_614
  let v1289 : BitVec 32 := Scalar.extui v1288
  let c0_i32_615 : BitVec 32 := 0#32
  let v1290 : BitVec 1 := Scalar.cmpi .slt c7_i32_611 c0_i32_615
  let v1291 : BitVec 32 := Scalar.extui v1290
  let v1292 : BitVec 32 := Scalar.subi v1289 v1291
  let v1293 : BitVec 1 := Scalar.cmpi .ne v1287 v1292
  let v1294 : BitVec 32 := Scalar.remsi v1264 c7_i32_611
  let c0_i32_616 : BitVec 32 := 0#32
  let v1295 : BitVec 1 := Scalar.cmpi .ne v1294 c0_i32_616
  let v1296 : BitVec 1 := Scalar.andi v1293 v1295
  let v1282 : BitVec 32 := Scalar.divsi v1264 c7_i32_611
  let c1_i32_617 : BitVec 32 := 1#32
  let v1297 : BitVec 32 := Scalar.subi v1282 c1_i32_617
  let v1298 : BitVec 32 := Scalar.select v1296 v1297 v1282
  let c7_i32_618 : BitVec 32 := 7#32
  let c0_i32_619 : BitVec 32 := 0#32
  let v1299 : BitVec 1 := Scalar.cmpi .eq c7_i32_618 c0_i32_619
  let c1_i32_620 : BitVec 32 := 1#32
  let v1300 : BitVec 32 := Scalar.select v1299 c1_i32_620 c7_i32_618
  let v1301 : BitVec 32 := Scalar.remsi v1298 v1300
  let c0_i32_622 : BitVec 32 := 0#32
  let v1303 : BitVec 1 := Scalar.cmpi .slt v1301 c0_i32_622
  let c0_i32_623 : BitVec 32 := 0#32
  let v1304 : BitVec 1 := Scalar.cmpi .slt v1300 c0_i32_623
  let v1305 : BitVec 1 := Scalar.xori v1303 v1304
  let c0_i32_621 : BitVec 32 := 0#32
  let v1302 : BitVec 1 := Scalar.cmpi .ne v1301 c0_i32_621
  let v1306 : BitVec 1 := Scalar.andi v1305 v1302
  let v1307 : BitVec 32 := Scalar.addi v1301 v1300
  let v1308 : BitVec 32 := Scalar.select v1306 v1307 v1301
  let v1320 : BitVec 32 := Scalar.addi c7_i32_631 v1308
  let c1000_i32_632 : BitVec 32 := 1000#32
  let v1321 : BitVec 32 := Scalar.muli v1320 c1000_i32_632
  let c992_i32_901 : BitVec 32 := 992#32
  let v1930 : BitVec 32 := Scalar.addi v1321 c992_i32_901
  let v1931 : Index := Scalar.indexCast v1930
  ![v1931.toNat]
def k0_off50 (i : grid0.Coords) : Fin 1 → Nat :=
  let c14_i32_633 : BitVec 32 := 14#32
  let arg1 : BitVec 32 := BitVec.ofNat 32 (i 1).val
  let c7_i32 : BitVec 32 := 7#32
  let v0 : BitVec 1 := Scalar.cmpi .slt arg1 c7_i32
  let c22_i32 : BitVec 32 := 22#32
  let v1 : BitVec 32 := Scalar.muli arg1 c22_i32
  let c21_i32 : BitVec 32 := 21#32
  let v2 : BitVec 32 := Scalar.muli c21_i32 arg1
  let c7_i32_0 : BitVec 32 := 7#32
  let v3 : BitVec 32 := Scalar.addi v2 c7_i32_0
  let v4 : BitVec 32 := Scalar.select v0 v1 v3
  let c14_i32_603 : BitVec 32 := 14#32
  let v1264 : BitVec 32 := Scalar.addi v4 c14_i32_603
  let c7_i32_624 : BitVec 32 := 7#32
  let c0_i32_625 : BitVec 32 := 0#32
  let v1309 : BitVec 1 := Scalar.cmpi .eq c7_i32_624 c0_i32_625
  let c1_i32_626 : BitVec 32 := 1#32
  let v1310 : BitVec 32 := Scalar.select v1309 c1_i32_626 c7_i32_624
  let v1311 : BitVec 32 := Scalar.remsi v1264 v1310
  let c0_i32_628 : BitVec 32 := 0#32
  let v1313 : BitVec 1 := Scalar.cmpi .slt v1311 c0_i32_628
  let c0_i32_629 : BitVec 32 := 0#32
  let v1314 : BitVec 1 := Scalar.cmpi .slt v1310 c0_i32_629
  let v1315 : BitVec 1 := Scalar.xori v1313 v1314
  let c0_i32_627 : BitVec 32 := 0#32
  let v1312 : BitVec 1 := Scalar.cmpi .ne v1311 c0_i32_627
  let v1316 : BitVec 1 := Scalar.andi v1315 v1312
  let v1317 : BitVec 32 := Scalar.addi v1311 v1310
  let v1318 : BitVec 32 := Scalar.select v1316 v1317 v1311
  let v1322 : BitVec 32 := Scalar.addi c14_i32_633 v1318
  let c1000_i32_634 : BitVec 32 := 1000#32
  let v1323 : BitVec 32 := Scalar.muli v1322 c1000_i32_634
  let c992_i32_902 : BitVec 32 := 992#32
  let v1934 : BitVec 32 := Scalar.addi v1323 c992_i32_902
  let v1935 : Index := Scalar.indexCast v1934
  ![v1935.toNat]

def k0_chk50 (i : grid0.Coords) (v1939 : IVec S16 32) : Prop :=
  (∀ (k0_h1 : k0_cond1 i = 1#1), ∀ a x, ((![v1939] : Fin 1 → IVec S16 32) a x).toNat < S22008.size a)
theorem k0_idx50_inb : ∀ (i : grid0.Coords) (v1939 : IVec S16 32) (k0_hw50 : k0_chk50 i v1939), ∀ (k0_h1 : k0_cond1 i = 1#1), ∀ a x, ((![v1939] : Fin 1 → IVec S16 32) a x).toNat < S22008.size a := fun i v1939 k0_hw50 k0_h1 => k0_hw50 k0_h1
def k0_off51 (i : grid0.Coords) : Fin 1 → Nat :=
  let arg1 : BitVec 32 := BitVec.ofNat 32 (i 1).val
  let c7_i32 : BitVec 32 := 7#32
  let v0 : BitVec 1 := Scalar.cmpi .slt arg1 c7_i32
  let c22_i32 : BitVec 32 := 22#32
  let v1 : BitVec 32 := Scalar.muli arg1 c22_i32
  let c21_i32 : BitVec 32 := 21#32
  let v2 : BitVec 32 := Scalar.muli c21_i32 arg1
  let c7_i32_0 : BitVec 32 := 7#32
  let v3 : BitVec 32 := Scalar.addi v2 c7_i32_0
  let v4 : BitVec 32 := Scalar.select v0 v1 v3
  let c15_i32 : BitVec 32 := 15#32
  let v1324 : BitVec 32 := Scalar.addi v4 c15_i32
  let c0_i32_636 : BitVec 32 := 0#32
  let v1326 : BitVec 1 := Scalar.cmpi .sgt v1324 c0_i32_636
  let v1327 : BitVec 32 := Scalar.extui v1326
  let c0_i32_637 : BitVec 32 := 0#32
  let v1328 : BitVec 1 := Scalar.cmpi .slt v1324 c0_i32_637
  let v1329 : BitVec 32 := Scalar.extui v1328
  let v1330 : BitVec 32 := Scalar.subi v1327 v1329
  let c49_i32_635 : BitVec 32 := 49#32
  let c0_i32_638 : BitVec 32 := 0#32
  let v1331 : BitVec 1 := Scalar.cmpi .sgt c49_i32_635 c0_i32_638
  let v1332 : BitVec 32 := Scalar.extui v1331
  let c0_i32_639 : BitVec 32 := 0#32
  let v1333 : BitVec 1 := Scalar.cmpi .slt c49_i32_635 c0_i32_639
  let v1334 : BitVec 32 := Scalar.extui v1333
  let v1335 : BitVec 32 := Scalar.subi v1332 v1334
  let v1336 : BitVec 1 := Scalar.cmpi .ne v1330 v1335
  let v1337 : BitVec 32 := Scalar.remsi v1324 c49_i32_635
  let c0_i32_640 : BitVec 32 := 0#32
  let v1338 : BitVec 1 := Scalar.cmpi .ne v1337 c0_i32_640
  let v1339 : BitVec 1 := Scalar.andi v1336 v1338
  let v1325 : BitVec 32 := Scalar.divsi v1324 c49_i32_635
  let c1_i32_641 : BitVec 32 := 1#32
  let v1340 : BitVec 32 := Scalar.subi v1325 c1_i32_641
  let v1341 : BitVec 32 := Scalar.select v1339 v1340 v1325
  let c1000_i32_661 : BitVec 32 := 1000#32
  let v1379 : BitVec 32 := Scalar.muli v1341 c1000_i32_661
  let c992_i32_903 : BitVec 32 := 992#32
  let v1940 : BitVec 32 := Scalar.addi v1379 c992_i32_903
  let v1941 : Index := Scalar.indexCast v1940
  ![v1941.toNat]
def k0_off52 (i : grid0.Coords) : Fin 1 → Nat :=
  let c7_i32_662 : BitVec 32 := 7#32
  let arg1 : BitVec 32 := BitVec.ofNat 32 (i 1).val
  let c7_i32 : BitVec 32 := 7#32
  let v0 : BitVec 1 := Scalar.cmpi .slt arg1 c7_i32
  let c22_i32 : BitVec 32 := 22#32
  let v1 : BitVec 32 := Scalar.muli arg1 c22_i32
  let c21_i32 : BitVec 32 := 21#32
  let v2 : BitVec 32 := Scalar.muli c21_i32 arg1
  let c7_i32_0 : BitVec 32 := 7#32
  let v3 : BitVec 32 := Scalar.addi v2 c7_i32_0
  let v4 : BitVec 32 := Scalar.select v0 v1 v3
  let c15_i32 : BitVec 32 := 15#32
  let v1324 : BitVec 32 := Scalar.addi v4 c15_i32
  let c0_i32_643 : BitVec 32 := 0#32
  let v1343 : BitVec 1 := Scalar.cmpi .sgt v1324 c0_i32_643
  let v1344 : BitVec 32 := Scalar.extui v1343
  let c0_i32_644 : BitVec 32 := 0#32
  let v1345 : BitVec 1 := Scalar.cmpi .slt v1324 c0_i32_644
  let v1346 : BitVec 32 := Scalar.extui v1345
  let v1347 : BitVec 32 := Scalar.subi v1344 v1346
  let c7_i32_642 : BitVec 32 := 7#32
  let c0_i32_645 : BitVec 32 := 0#32
  let v1348 : BitVec 1 := Scalar.cmpi .sgt c7_i32_642 c0_i32_645
  let v1349 : BitVec 32 := Scalar.extui v1348
  let c0_i32_646 : BitVec 32 := 0#32
  let v1350 : BitVec 1 := Scalar.cmpi .slt c7_i32_642 c0_i32_646
  let v1351 : BitVec 32 := Scalar.extui v1350
  let v1352 : BitVec 32 := Scalar.subi v1349 v1351
  let v1353 : BitVec 1 := Scalar.cmpi .ne v1347 v1352
  let v1354 : BitVec 32 := Scalar.remsi v1324 c7_i32_642
  let c0_i32_647 : BitVec 32 := 0#32
  let v1355 : BitVec 1 := Scalar.cmpi .ne v1354 c0_i32_647
  let v1356 : BitVec 1 := Scalar.andi v1353 v1355
  let v1342 : BitVec 32 := Scalar.divsi v1324 c7_i32_642
  let c1_i32_648 : BitVec 32 := 1#32
  let v1357 : BitVec 32 := Scalar.subi v1342 c1_i32_648
  let v1358 : BitVec 32 := Scalar.select v1356 v1357 v1342
  let c7_i32_649 : BitVec 32 := 7#32
  let c0_i32_650 : BitVec 32 := 0#32
  let v1359 : BitVec 1 := Scalar.cmpi .eq c7_i32_649 c0_i32_650
  let c1_i32_651 : BitVec 32 := 1#32
  let v1360 : BitVec 32 := Scalar.select v1359 c1_i32_651 c7_i32_649
  let v1361 : BitVec 32 := Scalar.remsi v1358 v1360
  let c0_i32_653 : BitVec 32 := 0#32
  let v1363 : BitVec 1 := Scalar.cmpi .slt v1361 c0_i32_653
  let c0_i32_654 : BitVec 32 := 0#32
  let v1364 : BitVec 1 := Scalar.cmpi .slt v1360 c0_i32_654
  let v1365 : BitVec 1 := Scalar.xori v1363 v1364
  let c0_i32_652 : BitVec 32 := 0#32
  let v1362 : BitVec 1 := Scalar.cmpi .ne v1361 c0_i32_652
  let v1366 : BitVec 1 := Scalar.andi v1365 v1362
  let v1367 : BitVec 32 := Scalar.addi v1361 v1360
  let v1368 : BitVec 32 := Scalar.select v1366 v1367 v1361
  let v1380 : BitVec 32 := Scalar.addi c7_i32_662 v1368
  let c1000_i32_663 : BitVec 32 := 1000#32
  let v1381 : BitVec 32 := Scalar.muli v1380 c1000_i32_663
  let c992_i32_904 : BitVec 32 := 992#32
  let v1943 : BitVec 32 := Scalar.addi v1381 c992_i32_904
  let v1944 : Index := Scalar.indexCast v1943
  ![v1944.toNat]
def k0_off53 (i : grid0.Coords) : Fin 1 → Nat :=
  let c14_i32_664 : BitVec 32 := 14#32
  let arg1 : BitVec 32 := BitVec.ofNat 32 (i 1).val
  let c7_i32 : BitVec 32 := 7#32
  let v0 : BitVec 1 := Scalar.cmpi .slt arg1 c7_i32
  let c22_i32 : BitVec 32 := 22#32
  let v1 : BitVec 32 := Scalar.muli arg1 c22_i32
  let c21_i32 : BitVec 32 := 21#32
  let v2 : BitVec 32 := Scalar.muli c21_i32 arg1
  let c7_i32_0 : BitVec 32 := 7#32
  let v3 : BitVec 32 := Scalar.addi v2 c7_i32_0
  let v4 : BitVec 32 := Scalar.select v0 v1 v3
  let c15_i32 : BitVec 32 := 15#32
  let v1324 : BitVec 32 := Scalar.addi v4 c15_i32
  let c7_i32_655 : BitVec 32 := 7#32
  let c0_i32_656 : BitVec 32 := 0#32
  let v1369 : BitVec 1 := Scalar.cmpi .eq c7_i32_655 c0_i32_656
  let c1_i32_657 : BitVec 32 := 1#32
  let v1370 : BitVec 32 := Scalar.select v1369 c1_i32_657 c7_i32_655
  let v1371 : BitVec 32 := Scalar.remsi v1324 v1370
  let c0_i32_659 : BitVec 32 := 0#32
  let v1373 : BitVec 1 := Scalar.cmpi .slt v1371 c0_i32_659
  let c0_i32_660 : BitVec 32 := 0#32
  let v1374 : BitVec 1 := Scalar.cmpi .slt v1370 c0_i32_660
  let v1375 : BitVec 1 := Scalar.xori v1373 v1374
  let c0_i32_658 : BitVec 32 := 0#32
  let v1372 : BitVec 1 := Scalar.cmpi .ne v1371 c0_i32_658
  let v1376 : BitVec 1 := Scalar.andi v1375 v1372
  let v1377 : BitVec 32 := Scalar.addi v1371 v1370
  let v1378 : BitVec 32 := Scalar.select v1376 v1377 v1371
  let v1382 : BitVec 32 := Scalar.addi c14_i32_664 v1378
  let c1000_i32_665 : BitVec 32 := 1000#32
  let v1383 : BitVec 32 := Scalar.muli v1382 c1000_i32_665
  let c992_i32_905 : BitVec 32 := 992#32
  let v1947 : BitVec 32 := Scalar.addi v1383 c992_i32_905
  let v1948 : Index := Scalar.indexCast v1947
  ![v1948.toNat]

def k0_chk51 (i : grid0.Coords) (v1952 : IVec S16 32) : Prop :=
  (∀ (k0_h1 : k0_cond1 i = 1#1), ∀ a x, ((![v1952] : Fin 1 → IVec S16 32) a x).toNat < S22008.size a)
theorem k0_idx51_inb : ∀ (i : grid0.Coords) (v1952 : IVec S16 32) (k0_hw51 : k0_chk51 i v1952), ∀ (k0_h1 : k0_cond1 i = 1#1), ∀ a x, ((![v1952] : Fin 1 → IVec S16 32) a x).toNat < S22008.size a := fun i v1952 k0_hw51 k0_h1 => k0_hw51 k0_h1
def k0_off54 (i : grid0.Coords) : Fin 1 → Nat :=
  let arg1 : BitVec 32 := BitVec.ofNat 32 (i 1).val
  let c7_i32 : BitVec 32 := 7#32
  let v0 : BitVec 1 := Scalar.cmpi .slt arg1 c7_i32
  let c22_i32 : BitVec 32 := 22#32
  let v1 : BitVec 32 := Scalar.muli arg1 c22_i32
  let c21_i32 : BitVec 32 := 21#32
  let v2 : BitVec 32 := Scalar.muli c21_i32 arg1
  let c7_i32_0 : BitVec 32 := 7#32
  let v3 : BitVec 32 := Scalar.addi v2 c7_i32_0
  let v4 : BitVec 32 := Scalar.select v0 v1 v3
  let c16_i32 : BitVec 32 := 16#32
  let v1384 : BitVec 32 := Scalar.addi v4 c16_i32
  let c0_i32_667 : BitVec 32 := 0#32
  let v1386 : BitVec 1 := Scalar.cmpi .sgt v1384 c0_i32_667
  let v1387 : BitVec 32 := Scalar.extui v1386
  let c0_i32_668 : BitVec 32 := 0#32
  let v1388 : BitVec 1 := Scalar.cmpi .slt v1384 c0_i32_668
  let v1389 : BitVec 32 := Scalar.extui v1388
  let v1390 : BitVec 32 := Scalar.subi v1387 v1389
  let c49_i32_666 : BitVec 32 := 49#32
  let c0_i32_669 : BitVec 32 := 0#32
  let v1391 : BitVec 1 := Scalar.cmpi .sgt c49_i32_666 c0_i32_669
  let v1392 : BitVec 32 := Scalar.extui v1391
  let c0_i32_670 : BitVec 32 := 0#32
  let v1393 : BitVec 1 := Scalar.cmpi .slt c49_i32_666 c0_i32_670
  let v1394 : BitVec 32 := Scalar.extui v1393
  let v1395 : BitVec 32 := Scalar.subi v1392 v1394
  let v1396 : BitVec 1 := Scalar.cmpi .ne v1390 v1395
  let v1397 : BitVec 32 := Scalar.remsi v1384 c49_i32_666
  let c0_i32_671 : BitVec 32 := 0#32
  let v1398 : BitVec 1 := Scalar.cmpi .ne v1397 c0_i32_671
  let v1399 : BitVec 1 := Scalar.andi v1396 v1398
  let v1385 : BitVec 32 := Scalar.divsi v1384 c49_i32_666
  let c1_i32_672 : BitVec 32 := 1#32
  let v1400 : BitVec 32 := Scalar.subi v1385 c1_i32_672
  let v1401 : BitVec 32 := Scalar.select v1399 v1400 v1385
  let c1000_i32_692 : BitVec 32 := 1000#32
  let v1439 : BitVec 32 := Scalar.muli v1401 c1000_i32_692
  let c992_i32_906 : BitVec 32 := 992#32
  let v1953 : BitVec 32 := Scalar.addi v1439 c992_i32_906
  let v1954 : Index := Scalar.indexCast v1953
  ![v1954.toNat]
def k0_off55 (i : grid0.Coords) : Fin 1 → Nat :=
  let c7_i32_693 : BitVec 32 := 7#32
  let arg1 : BitVec 32 := BitVec.ofNat 32 (i 1).val
  let c7_i32 : BitVec 32 := 7#32
  let v0 : BitVec 1 := Scalar.cmpi .slt arg1 c7_i32
  let c22_i32 : BitVec 32 := 22#32
  let v1 : BitVec 32 := Scalar.muli arg1 c22_i32
  let c21_i32 : BitVec 32 := 21#32
  let v2 : BitVec 32 := Scalar.muli c21_i32 arg1
  let c7_i32_0 : BitVec 32 := 7#32
  let v3 : BitVec 32 := Scalar.addi v2 c7_i32_0
  let v4 : BitVec 32 := Scalar.select v0 v1 v3
  let c16_i32 : BitVec 32 := 16#32
  let v1384 : BitVec 32 := Scalar.addi v4 c16_i32
  let c0_i32_674 : BitVec 32 := 0#32
  let v1403 : BitVec 1 := Scalar.cmpi .sgt v1384 c0_i32_674
  let v1404 : BitVec 32 := Scalar.extui v1403
  let c0_i32_675 : BitVec 32 := 0#32
  let v1405 : BitVec 1 := Scalar.cmpi .slt v1384 c0_i32_675
  let v1406 : BitVec 32 := Scalar.extui v1405
  let v1407 : BitVec 32 := Scalar.subi v1404 v1406
  let c7_i32_673 : BitVec 32 := 7#32
  let c0_i32_676 : BitVec 32 := 0#32
  let v1408 : BitVec 1 := Scalar.cmpi .sgt c7_i32_673 c0_i32_676
  let v1409 : BitVec 32 := Scalar.extui v1408
  let c0_i32_677 : BitVec 32 := 0#32
  let v1410 : BitVec 1 := Scalar.cmpi .slt c7_i32_673 c0_i32_677
  let v1411 : BitVec 32 := Scalar.extui v1410
  let v1412 : BitVec 32 := Scalar.subi v1409 v1411
  let v1413 : BitVec 1 := Scalar.cmpi .ne v1407 v1412
  let v1414 : BitVec 32 := Scalar.remsi v1384 c7_i32_673
  let c0_i32_678 : BitVec 32 := 0#32
  let v1415 : BitVec 1 := Scalar.cmpi .ne v1414 c0_i32_678
  let v1416 : BitVec 1 := Scalar.andi v1413 v1415
  let v1402 : BitVec 32 := Scalar.divsi v1384 c7_i32_673
  let c1_i32_679 : BitVec 32 := 1#32
  let v1417 : BitVec 32 := Scalar.subi v1402 c1_i32_679
  let v1418 : BitVec 32 := Scalar.select v1416 v1417 v1402
  let c7_i32_680 : BitVec 32 := 7#32
  let c0_i32_681 : BitVec 32 := 0#32
  let v1419 : BitVec 1 := Scalar.cmpi .eq c7_i32_680 c0_i32_681
  let c1_i32_682 : BitVec 32 := 1#32
  let v1420 : BitVec 32 := Scalar.select v1419 c1_i32_682 c7_i32_680
  let v1421 : BitVec 32 := Scalar.remsi v1418 v1420
  let c0_i32_684 : BitVec 32 := 0#32
  let v1423 : BitVec 1 := Scalar.cmpi .slt v1421 c0_i32_684
  let c0_i32_685 : BitVec 32 := 0#32
  let v1424 : BitVec 1 := Scalar.cmpi .slt v1420 c0_i32_685
  let v1425 : BitVec 1 := Scalar.xori v1423 v1424
  let c0_i32_683 : BitVec 32 := 0#32
  let v1422 : BitVec 1 := Scalar.cmpi .ne v1421 c0_i32_683
  let v1426 : BitVec 1 := Scalar.andi v1425 v1422
  let v1427 : BitVec 32 := Scalar.addi v1421 v1420
  let v1428 : BitVec 32 := Scalar.select v1426 v1427 v1421
  let v1440 : BitVec 32 := Scalar.addi c7_i32_693 v1428
  let c1000_i32_694 : BitVec 32 := 1000#32
  let v1441 : BitVec 32 := Scalar.muli v1440 c1000_i32_694
  let c992_i32_907 : BitVec 32 := 992#32
  let v1956 : BitVec 32 := Scalar.addi v1441 c992_i32_907
  let v1957 : Index := Scalar.indexCast v1956
  ![v1957.toNat]
def k0_off56 (i : grid0.Coords) : Fin 1 → Nat :=
  let c14_i32_695 : BitVec 32 := 14#32
  let arg1 : BitVec 32 := BitVec.ofNat 32 (i 1).val
  let c7_i32 : BitVec 32 := 7#32
  let v0 : BitVec 1 := Scalar.cmpi .slt arg1 c7_i32
  let c22_i32 : BitVec 32 := 22#32
  let v1 : BitVec 32 := Scalar.muli arg1 c22_i32
  let c21_i32 : BitVec 32 := 21#32
  let v2 : BitVec 32 := Scalar.muli c21_i32 arg1
  let c7_i32_0 : BitVec 32 := 7#32
  let v3 : BitVec 32 := Scalar.addi v2 c7_i32_0
  let v4 : BitVec 32 := Scalar.select v0 v1 v3
  let c16_i32 : BitVec 32 := 16#32
  let v1384 : BitVec 32 := Scalar.addi v4 c16_i32
  let c7_i32_686 : BitVec 32 := 7#32
  let c0_i32_687 : BitVec 32 := 0#32
  let v1429 : BitVec 1 := Scalar.cmpi .eq c7_i32_686 c0_i32_687
  let c1_i32_688 : BitVec 32 := 1#32
  let v1430 : BitVec 32 := Scalar.select v1429 c1_i32_688 c7_i32_686
  let v1431 : BitVec 32 := Scalar.remsi v1384 v1430
  let c0_i32_690 : BitVec 32 := 0#32
  let v1433 : BitVec 1 := Scalar.cmpi .slt v1431 c0_i32_690
  let c0_i32_691 : BitVec 32 := 0#32
  let v1434 : BitVec 1 := Scalar.cmpi .slt v1430 c0_i32_691
  let v1435 : BitVec 1 := Scalar.xori v1433 v1434
  let c0_i32_689 : BitVec 32 := 0#32
  let v1432 : BitVec 1 := Scalar.cmpi .ne v1431 c0_i32_689
  let v1436 : BitVec 1 := Scalar.andi v1435 v1432
  let v1437 : BitVec 32 := Scalar.addi v1431 v1430
  let v1438 : BitVec 32 := Scalar.select v1436 v1437 v1431
  let v1442 : BitVec 32 := Scalar.addi c14_i32_695 v1438
  let c1000_i32_696 : BitVec 32 := 1000#32
  let v1443 : BitVec 32 := Scalar.muli v1442 c1000_i32_696
  let c992_i32_908 : BitVec 32 := 992#32
  let v1960 : BitVec 32 := Scalar.addi v1443 c992_i32_908
  let v1961 : Index := Scalar.indexCast v1960
  ![v1961.toNat]

def k0_chk52 (i : grid0.Coords) (v1965 : IVec S16 32) : Prop :=
  (∀ (k0_h1 : k0_cond1 i = 1#1), ∀ a x, ((![v1965] : Fin 1 → IVec S16 32) a x).toNat < S22008.size a)
theorem k0_idx52_inb : ∀ (i : grid0.Coords) (v1965 : IVec S16 32) (k0_hw52 : k0_chk52 i v1965), ∀ (k0_h1 : k0_cond1 i = 1#1), ∀ a x, ((![v1965] : Fin 1 → IVec S16 32) a x).toNat < S22008.size a := fun i v1965 k0_hw52 k0_h1 => k0_hw52 k0_h1
def k0_off57 (i : grid0.Coords) : Fin 1 → Nat :=
  let arg1 : BitVec 32 := BitVec.ofNat 32 (i 1).val
  let c7_i32 : BitVec 32 := 7#32
  let v0 : BitVec 1 := Scalar.cmpi .slt arg1 c7_i32
  let c22_i32 : BitVec 32 := 22#32
  let v1 : BitVec 32 := Scalar.muli arg1 c22_i32
  let c21_i32 : BitVec 32 := 21#32
  let v2 : BitVec 32 := Scalar.muli c21_i32 arg1
  let c7_i32_0 : BitVec 32 := 7#32
  let v3 : BitVec 32 := Scalar.addi v2 c7_i32_0
  let v4 : BitVec 32 := Scalar.select v0 v1 v3
  let c17_i32 : BitVec 32 := 17#32
  let v1444 : BitVec 32 := Scalar.addi v4 c17_i32
  let c0_i32_698 : BitVec 32 := 0#32
  let v1446 : BitVec 1 := Scalar.cmpi .sgt v1444 c0_i32_698
  let v1447 : BitVec 32 := Scalar.extui v1446
  let c0_i32_699 : BitVec 32 := 0#32
  let v1448 : BitVec 1 := Scalar.cmpi .slt v1444 c0_i32_699
  let v1449 : BitVec 32 := Scalar.extui v1448
  let v1450 : BitVec 32 := Scalar.subi v1447 v1449
  let c49_i32_697 : BitVec 32 := 49#32
  let c0_i32_700 : BitVec 32 := 0#32
  let v1451 : BitVec 1 := Scalar.cmpi .sgt c49_i32_697 c0_i32_700
  let v1452 : BitVec 32 := Scalar.extui v1451
  let c0_i32_701 : BitVec 32 := 0#32
  let v1453 : BitVec 1 := Scalar.cmpi .slt c49_i32_697 c0_i32_701
  let v1454 : BitVec 32 := Scalar.extui v1453
  let v1455 : BitVec 32 := Scalar.subi v1452 v1454
  let v1456 : BitVec 1 := Scalar.cmpi .ne v1450 v1455
  let v1457 : BitVec 32 := Scalar.remsi v1444 c49_i32_697
  let c0_i32_702 : BitVec 32 := 0#32
  let v1458 : BitVec 1 := Scalar.cmpi .ne v1457 c0_i32_702
  let v1459 : BitVec 1 := Scalar.andi v1456 v1458
  let v1445 : BitVec 32 := Scalar.divsi v1444 c49_i32_697
  let c1_i32_703 : BitVec 32 := 1#32
  let v1460 : BitVec 32 := Scalar.subi v1445 c1_i32_703
  let v1461 : BitVec 32 := Scalar.select v1459 v1460 v1445
  let c1000_i32_723 : BitVec 32 := 1000#32
  let v1499 : BitVec 32 := Scalar.muli v1461 c1000_i32_723
  let c992_i32_909 : BitVec 32 := 992#32
  let v1966 : BitVec 32 := Scalar.addi v1499 c992_i32_909
  let v1967 : Index := Scalar.indexCast v1966
  ![v1967.toNat]
def k0_off58 (i : grid0.Coords) : Fin 1 → Nat :=
  let c7_i32_724 : BitVec 32 := 7#32
  let arg1 : BitVec 32 := BitVec.ofNat 32 (i 1).val
  let c7_i32 : BitVec 32 := 7#32
  let v0 : BitVec 1 := Scalar.cmpi .slt arg1 c7_i32
  let c22_i32 : BitVec 32 := 22#32
  let v1 : BitVec 32 := Scalar.muli arg1 c22_i32
  let c21_i32 : BitVec 32 := 21#32
  let v2 : BitVec 32 := Scalar.muli c21_i32 arg1
  let c7_i32_0 : BitVec 32 := 7#32
  let v3 : BitVec 32 := Scalar.addi v2 c7_i32_0
  let v4 : BitVec 32 := Scalar.select v0 v1 v3
  let c17_i32 : BitVec 32 := 17#32
  let v1444 : BitVec 32 := Scalar.addi v4 c17_i32
  let c0_i32_705 : BitVec 32 := 0#32
  let v1463 : BitVec 1 := Scalar.cmpi .sgt v1444 c0_i32_705
  let v1464 : BitVec 32 := Scalar.extui v1463
  let c0_i32_706 : BitVec 32 := 0#32
  let v1465 : BitVec 1 := Scalar.cmpi .slt v1444 c0_i32_706
  let v1466 : BitVec 32 := Scalar.extui v1465
  let v1467 : BitVec 32 := Scalar.subi v1464 v1466
  let c7_i32_704 : BitVec 32 := 7#32
  let c0_i32_707 : BitVec 32 := 0#32
  let v1468 : BitVec 1 := Scalar.cmpi .sgt c7_i32_704 c0_i32_707
  let v1469 : BitVec 32 := Scalar.extui v1468
  let c0_i32_708 : BitVec 32 := 0#32
  let v1470 : BitVec 1 := Scalar.cmpi .slt c7_i32_704 c0_i32_708
  let v1471 : BitVec 32 := Scalar.extui v1470
  let v1472 : BitVec 32 := Scalar.subi v1469 v1471
  let v1473 : BitVec 1 := Scalar.cmpi .ne v1467 v1472
  let v1474 : BitVec 32 := Scalar.remsi v1444 c7_i32_704
  let c0_i32_709 : BitVec 32 := 0#32
  let v1475 : BitVec 1 := Scalar.cmpi .ne v1474 c0_i32_709
  let v1476 : BitVec 1 := Scalar.andi v1473 v1475
  let v1462 : BitVec 32 := Scalar.divsi v1444 c7_i32_704
  let c1_i32_710 : BitVec 32 := 1#32
  let v1477 : BitVec 32 := Scalar.subi v1462 c1_i32_710
  let v1478 : BitVec 32 := Scalar.select v1476 v1477 v1462
  let c7_i32_711 : BitVec 32 := 7#32
  let c0_i32_712 : BitVec 32 := 0#32
  let v1479 : BitVec 1 := Scalar.cmpi .eq c7_i32_711 c0_i32_712
  let c1_i32_713 : BitVec 32 := 1#32
  let v1480 : BitVec 32 := Scalar.select v1479 c1_i32_713 c7_i32_711
  let v1481 : BitVec 32 := Scalar.remsi v1478 v1480
  let c0_i32_715 : BitVec 32 := 0#32
  let v1483 : BitVec 1 := Scalar.cmpi .slt v1481 c0_i32_715
  let c0_i32_716 : BitVec 32 := 0#32
  let v1484 : BitVec 1 := Scalar.cmpi .slt v1480 c0_i32_716
  let v1485 : BitVec 1 := Scalar.xori v1483 v1484
  let c0_i32_714 : BitVec 32 := 0#32
  let v1482 : BitVec 1 := Scalar.cmpi .ne v1481 c0_i32_714
  let v1486 : BitVec 1 := Scalar.andi v1485 v1482
  let v1487 : BitVec 32 := Scalar.addi v1481 v1480
  let v1488 : BitVec 32 := Scalar.select v1486 v1487 v1481
  let v1500 : BitVec 32 := Scalar.addi c7_i32_724 v1488
  let c1000_i32_725 : BitVec 32 := 1000#32
  let v1501 : BitVec 32 := Scalar.muli v1500 c1000_i32_725
  let c992_i32_910 : BitVec 32 := 992#32
  let v1969 : BitVec 32 := Scalar.addi v1501 c992_i32_910
  let v1970 : Index := Scalar.indexCast v1969
  ![v1970.toNat]
def k0_off59 (i : grid0.Coords) : Fin 1 → Nat :=
  let c14_i32_726 : BitVec 32 := 14#32
  let arg1 : BitVec 32 := BitVec.ofNat 32 (i 1).val
  let c7_i32 : BitVec 32 := 7#32
  let v0 : BitVec 1 := Scalar.cmpi .slt arg1 c7_i32
  let c22_i32 : BitVec 32 := 22#32
  let v1 : BitVec 32 := Scalar.muli arg1 c22_i32
  let c21_i32 : BitVec 32 := 21#32
  let v2 : BitVec 32 := Scalar.muli c21_i32 arg1
  let c7_i32_0 : BitVec 32 := 7#32
  let v3 : BitVec 32 := Scalar.addi v2 c7_i32_0
  let v4 : BitVec 32 := Scalar.select v0 v1 v3
  let c17_i32 : BitVec 32 := 17#32
  let v1444 : BitVec 32 := Scalar.addi v4 c17_i32
  let c7_i32_717 : BitVec 32 := 7#32
  let c0_i32_718 : BitVec 32 := 0#32
  let v1489 : BitVec 1 := Scalar.cmpi .eq c7_i32_717 c0_i32_718
  let c1_i32_719 : BitVec 32 := 1#32
  let v1490 : BitVec 32 := Scalar.select v1489 c1_i32_719 c7_i32_717
  let v1491 : BitVec 32 := Scalar.remsi v1444 v1490
  let c0_i32_721 : BitVec 32 := 0#32
  let v1493 : BitVec 1 := Scalar.cmpi .slt v1491 c0_i32_721
  let c0_i32_722 : BitVec 32 := 0#32
  let v1494 : BitVec 1 := Scalar.cmpi .slt v1490 c0_i32_722
  let v1495 : BitVec 1 := Scalar.xori v1493 v1494
  let c0_i32_720 : BitVec 32 := 0#32
  let v1492 : BitVec 1 := Scalar.cmpi .ne v1491 c0_i32_720
  let v1496 : BitVec 1 := Scalar.andi v1495 v1492
  let v1497 : BitVec 32 := Scalar.addi v1491 v1490
  let v1498 : BitVec 32 := Scalar.select v1496 v1497 v1491
  let v1502 : BitVec 32 := Scalar.addi c14_i32_726 v1498
  let c1000_i32_727 : BitVec 32 := 1000#32
  let v1503 : BitVec 32 := Scalar.muli v1502 c1000_i32_727
  let c992_i32_911 : BitVec 32 := 992#32
  let v1973 : BitVec 32 := Scalar.addi v1503 c992_i32_911
  let v1974 : Index := Scalar.indexCast v1973
  ![v1974.toNat]

def k0_chk53 (i : grid0.Coords) (v1978 : IVec S16 32) : Prop :=
  (∀ (k0_h1 : k0_cond1 i = 1#1), ∀ a x, ((![v1978] : Fin 1 → IVec S16 32) a x).toNat < S22008.size a)
theorem k0_idx53_inb : ∀ (i : grid0.Coords) (v1978 : IVec S16 32) (k0_hw53 : k0_chk53 i v1978), ∀ (k0_h1 : k0_cond1 i = 1#1), ∀ a x, ((![v1978] : Fin 1 → IVec S16 32) a x).toNat < S22008.size a := fun i v1978 k0_hw53 k0_h1 => k0_hw53 k0_h1
def k0_off60 (i : grid0.Coords) : Fin 1 → Nat :=
  let arg1 : BitVec 32 := BitVec.ofNat 32 (i 1).val
  let c7_i32 : BitVec 32 := 7#32
  let v0 : BitVec 1 := Scalar.cmpi .slt arg1 c7_i32
  let c22_i32 : BitVec 32 := 22#32
  let v1 : BitVec 32 := Scalar.muli arg1 c22_i32
  let c21_i32 : BitVec 32 := 21#32
  let v2 : BitVec 32 := Scalar.muli c21_i32 arg1
  let c7_i32_0 : BitVec 32 := 7#32
  let v3 : BitVec 32 := Scalar.addi v2 c7_i32_0
  let v4 : BitVec 32 := Scalar.select v0 v1 v3
  let c18_i32 : BitVec 32 := 18#32
  let v1504 : BitVec 32 := Scalar.addi v4 c18_i32
  let c0_i32_729 : BitVec 32 := 0#32
  let v1506 : BitVec 1 := Scalar.cmpi .sgt v1504 c0_i32_729
  let v1507 : BitVec 32 := Scalar.extui v1506
  let c0_i32_730 : BitVec 32 := 0#32
  let v1508 : BitVec 1 := Scalar.cmpi .slt v1504 c0_i32_730
  let v1509 : BitVec 32 := Scalar.extui v1508
  let v1510 : BitVec 32 := Scalar.subi v1507 v1509
  let c49_i32_728 : BitVec 32 := 49#32
  let c0_i32_731 : BitVec 32 := 0#32
  let v1511 : BitVec 1 := Scalar.cmpi .sgt c49_i32_728 c0_i32_731
  let v1512 : BitVec 32 := Scalar.extui v1511
  let c0_i32_732 : BitVec 32 := 0#32
  let v1513 : BitVec 1 := Scalar.cmpi .slt c49_i32_728 c0_i32_732
  let v1514 : BitVec 32 := Scalar.extui v1513
  let v1515 : BitVec 32 := Scalar.subi v1512 v1514
  let v1516 : BitVec 1 := Scalar.cmpi .ne v1510 v1515
  let v1517 : BitVec 32 := Scalar.remsi v1504 c49_i32_728
  let c0_i32_733 : BitVec 32 := 0#32
  let v1518 : BitVec 1 := Scalar.cmpi .ne v1517 c0_i32_733
  let v1519 : BitVec 1 := Scalar.andi v1516 v1518
  let v1505 : BitVec 32 := Scalar.divsi v1504 c49_i32_728
  let c1_i32_734 : BitVec 32 := 1#32
  let v1520 : BitVec 32 := Scalar.subi v1505 c1_i32_734
  let v1521 : BitVec 32 := Scalar.select v1519 v1520 v1505
  let c1000_i32_754 : BitVec 32 := 1000#32
  let v1559 : BitVec 32 := Scalar.muli v1521 c1000_i32_754
  let c992_i32_912 : BitVec 32 := 992#32
  let v1979 : BitVec 32 := Scalar.addi v1559 c992_i32_912
  let v1980 : Index := Scalar.indexCast v1979
  ![v1980.toNat]
def k0_off61 (i : grid0.Coords) : Fin 1 → Nat :=
  let c7_i32_755 : BitVec 32 := 7#32
  let arg1 : BitVec 32 := BitVec.ofNat 32 (i 1).val
  let c7_i32 : BitVec 32 := 7#32
  let v0 : BitVec 1 := Scalar.cmpi .slt arg1 c7_i32
  let c22_i32 : BitVec 32 := 22#32
  let v1 : BitVec 32 := Scalar.muli arg1 c22_i32
  let c21_i32 : BitVec 32 := 21#32
  let v2 : BitVec 32 := Scalar.muli c21_i32 arg1
  let c7_i32_0 : BitVec 32 := 7#32
  let v3 : BitVec 32 := Scalar.addi v2 c7_i32_0
  let v4 : BitVec 32 := Scalar.select v0 v1 v3
  let c18_i32 : BitVec 32 := 18#32
  let v1504 : BitVec 32 := Scalar.addi v4 c18_i32
  let c0_i32_736 : BitVec 32 := 0#32
  let v1523 : BitVec 1 := Scalar.cmpi .sgt v1504 c0_i32_736
  let v1524 : BitVec 32 := Scalar.extui v1523
  let c0_i32_737 : BitVec 32 := 0#32
  let v1525 : BitVec 1 := Scalar.cmpi .slt v1504 c0_i32_737
  let v1526 : BitVec 32 := Scalar.extui v1525
  let v1527 : BitVec 32 := Scalar.subi v1524 v1526
  let c7_i32_735 : BitVec 32 := 7#32
  let c0_i32_738 : BitVec 32 := 0#32
  let v1528 : BitVec 1 := Scalar.cmpi .sgt c7_i32_735 c0_i32_738
  let v1529 : BitVec 32 := Scalar.extui v1528
  let c0_i32_739 : BitVec 32 := 0#32
  let v1530 : BitVec 1 := Scalar.cmpi .slt c7_i32_735 c0_i32_739
  let v1531 : BitVec 32 := Scalar.extui v1530
  let v1532 : BitVec 32 := Scalar.subi v1529 v1531
  let v1533 : BitVec 1 := Scalar.cmpi .ne v1527 v1532
  let v1534 : BitVec 32 := Scalar.remsi v1504 c7_i32_735
  let c0_i32_740 : BitVec 32 := 0#32
  let v1535 : BitVec 1 := Scalar.cmpi .ne v1534 c0_i32_740
  let v1536 : BitVec 1 := Scalar.andi v1533 v1535
  let v1522 : BitVec 32 := Scalar.divsi v1504 c7_i32_735
  let c1_i32_741 : BitVec 32 := 1#32
  let v1537 : BitVec 32 := Scalar.subi v1522 c1_i32_741
  let v1538 : BitVec 32 := Scalar.select v1536 v1537 v1522
  let c7_i32_742 : BitVec 32 := 7#32
  let c0_i32_743 : BitVec 32 := 0#32
  let v1539 : BitVec 1 := Scalar.cmpi .eq c7_i32_742 c0_i32_743
  let c1_i32_744 : BitVec 32 := 1#32
  let v1540 : BitVec 32 := Scalar.select v1539 c1_i32_744 c7_i32_742
  let v1541 : BitVec 32 := Scalar.remsi v1538 v1540
  let c0_i32_746 : BitVec 32 := 0#32
  let v1543 : BitVec 1 := Scalar.cmpi .slt v1541 c0_i32_746
  let c0_i32_747 : BitVec 32 := 0#32
  let v1544 : BitVec 1 := Scalar.cmpi .slt v1540 c0_i32_747
  let v1545 : BitVec 1 := Scalar.xori v1543 v1544
  let c0_i32_745 : BitVec 32 := 0#32
  let v1542 : BitVec 1 := Scalar.cmpi .ne v1541 c0_i32_745
  let v1546 : BitVec 1 := Scalar.andi v1545 v1542
  let v1547 : BitVec 32 := Scalar.addi v1541 v1540
  let v1548 : BitVec 32 := Scalar.select v1546 v1547 v1541
  let v1560 : BitVec 32 := Scalar.addi c7_i32_755 v1548
  let c1000_i32_756 : BitVec 32 := 1000#32
  let v1561 : BitVec 32 := Scalar.muli v1560 c1000_i32_756
  let c992_i32_913 : BitVec 32 := 992#32
  let v1982 : BitVec 32 := Scalar.addi v1561 c992_i32_913
  let v1983 : Index := Scalar.indexCast v1982
  ![v1983.toNat]
def k0_off62 (i : grid0.Coords) : Fin 1 → Nat :=
  let c14_i32_757 : BitVec 32 := 14#32
  let arg1 : BitVec 32 := BitVec.ofNat 32 (i 1).val
  let c7_i32 : BitVec 32 := 7#32
  let v0 : BitVec 1 := Scalar.cmpi .slt arg1 c7_i32
  let c22_i32 : BitVec 32 := 22#32
  let v1 : BitVec 32 := Scalar.muli arg1 c22_i32
  let c21_i32 : BitVec 32 := 21#32
  let v2 : BitVec 32 := Scalar.muli c21_i32 arg1
  let c7_i32_0 : BitVec 32 := 7#32
  let v3 : BitVec 32 := Scalar.addi v2 c7_i32_0
  let v4 : BitVec 32 := Scalar.select v0 v1 v3
  let c18_i32 : BitVec 32 := 18#32
  let v1504 : BitVec 32 := Scalar.addi v4 c18_i32
  let c7_i32_748 : BitVec 32 := 7#32
  let c0_i32_749 : BitVec 32 := 0#32
  let v1549 : BitVec 1 := Scalar.cmpi .eq c7_i32_748 c0_i32_749
  let c1_i32_750 : BitVec 32 := 1#32
  let v1550 : BitVec 32 := Scalar.select v1549 c1_i32_750 c7_i32_748
  let v1551 : BitVec 32 := Scalar.remsi v1504 v1550
  let c0_i32_752 : BitVec 32 := 0#32
  let v1553 : BitVec 1 := Scalar.cmpi .slt v1551 c0_i32_752
  let c0_i32_753 : BitVec 32 := 0#32
  let v1554 : BitVec 1 := Scalar.cmpi .slt v1550 c0_i32_753
  let v1555 : BitVec 1 := Scalar.xori v1553 v1554
  let c0_i32_751 : BitVec 32 := 0#32
  let v1552 : BitVec 1 := Scalar.cmpi .ne v1551 c0_i32_751
  let v1556 : BitVec 1 := Scalar.andi v1555 v1552
  let v1557 : BitVec 32 := Scalar.addi v1551 v1550
  let v1558 : BitVec 32 := Scalar.select v1556 v1557 v1551
  let v1562 : BitVec 32 := Scalar.addi c14_i32_757 v1558
  let c1000_i32_758 : BitVec 32 := 1000#32
  let v1563 : BitVec 32 := Scalar.muli v1562 c1000_i32_758
  let c992_i32_914 : BitVec 32 := 992#32
  let v1986 : BitVec 32 := Scalar.addi v1563 c992_i32_914
  let v1987 : Index := Scalar.indexCast v1986
  ![v1987.toNat]

def k0_chk54 (i : grid0.Coords) (v1991 : IVec S16 32) : Prop :=
  (∀ (k0_h1 : k0_cond1 i = 1#1), ∀ a x, ((![v1991] : Fin 1 → IVec S16 32) a x).toNat < S22008.size a)
theorem k0_idx54_inb : ∀ (i : grid0.Coords) (v1991 : IVec S16 32) (k0_hw54 : k0_chk54 i v1991), ∀ (k0_h1 : k0_cond1 i = 1#1), ∀ a x, ((![v1991] : Fin 1 → IVec S16 32) a x).toNat < S22008.size a := fun i v1991 k0_hw54 k0_h1 => k0_hw54 k0_h1
def k0_off63 (i : grid0.Coords) : Fin 1 → Nat :=
  let arg1 : BitVec 32 := BitVec.ofNat 32 (i 1).val
  let c7_i32 : BitVec 32 := 7#32
  let v0 : BitVec 1 := Scalar.cmpi .slt arg1 c7_i32
  let c22_i32 : BitVec 32 := 22#32
  let v1 : BitVec 32 := Scalar.muli arg1 c22_i32
  let c21_i32 : BitVec 32 := 21#32
  let v2 : BitVec 32 := Scalar.muli c21_i32 arg1
  let c7_i32_0 : BitVec 32 := 7#32
  let v3 : BitVec 32 := Scalar.addi v2 c7_i32_0
  let v4 : BitVec 32 := Scalar.select v0 v1 v3
  let c19_i32 : BitVec 32 := 19#32
  let v1564 : BitVec 32 := Scalar.addi v4 c19_i32
  let c0_i32_760 : BitVec 32 := 0#32
  let v1566 : BitVec 1 := Scalar.cmpi .sgt v1564 c0_i32_760
  let v1567 : BitVec 32 := Scalar.extui v1566
  let c0_i32_761 : BitVec 32 := 0#32
  let v1568 : BitVec 1 := Scalar.cmpi .slt v1564 c0_i32_761
  let v1569 : BitVec 32 := Scalar.extui v1568
  let v1570 : BitVec 32 := Scalar.subi v1567 v1569
  let c49_i32_759 : BitVec 32 := 49#32
  let c0_i32_762 : BitVec 32 := 0#32
  let v1571 : BitVec 1 := Scalar.cmpi .sgt c49_i32_759 c0_i32_762
  let v1572 : BitVec 32 := Scalar.extui v1571
  let c0_i32_763 : BitVec 32 := 0#32
  let v1573 : BitVec 1 := Scalar.cmpi .slt c49_i32_759 c0_i32_763
  let v1574 : BitVec 32 := Scalar.extui v1573
  let v1575 : BitVec 32 := Scalar.subi v1572 v1574
  let v1576 : BitVec 1 := Scalar.cmpi .ne v1570 v1575
  let v1577 : BitVec 32 := Scalar.remsi v1564 c49_i32_759
  let c0_i32_764 : BitVec 32 := 0#32
  let v1578 : BitVec 1 := Scalar.cmpi .ne v1577 c0_i32_764
  let v1579 : BitVec 1 := Scalar.andi v1576 v1578
  let v1565 : BitVec 32 := Scalar.divsi v1564 c49_i32_759
  let c1_i32_765 : BitVec 32 := 1#32
  let v1580 : BitVec 32 := Scalar.subi v1565 c1_i32_765
  let v1581 : BitVec 32 := Scalar.select v1579 v1580 v1565
  let c1000_i32_785 : BitVec 32 := 1000#32
  let v1619 : BitVec 32 := Scalar.muli v1581 c1000_i32_785
  let c992_i32_915 : BitVec 32 := 992#32
  let v1992 : BitVec 32 := Scalar.addi v1619 c992_i32_915
  let v1993 : Index := Scalar.indexCast v1992
  ![v1993.toNat]
def k0_off64 (i : grid0.Coords) : Fin 1 → Nat :=
  let c7_i32_786 : BitVec 32 := 7#32
  let arg1 : BitVec 32 := BitVec.ofNat 32 (i 1).val
  let c7_i32 : BitVec 32 := 7#32
  let v0 : BitVec 1 := Scalar.cmpi .slt arg1 c7_i32
  let c22_i32 : BitVec 32 := 22#32
  let v1 : BitVec 32 := Scalar.muli arg1 c22_i32
  let c21_i32 : BitVec 32 := 21#32
  let v2 : BitVec 32 := Scalar.muli c21_i32 arg1
  let c7_i32_0 : BitVec 32 := 7#32
  let v3 : BitVec 32 := Scalar.addi v2 c7_i32_0
  let v4 : BitVec 32 := Scalar.select v0 v1 v3
  let c19_i32 : BitVec 32 := 19#32
  let v1564 : BitVec 32 := Scalar.addi v4 c19_i32
  let c0_i32_767 : BitVec 32 := 0#32
  let v1583 : BitVec 1 := Scalar.cmpi .sgt v1564 c0_i32_767
  let v1584 : BitVec 32 := Scalar.extui v1583
  let c0_i32_768 : BitVec 32 := 0#32
  let v1585 : BitVec 1 := Scalar.cmpi .slt v1564 c0_i32_768
  let v1586 : BitVec 32 := Scalar.extui v1585
  let v1587 : BitVec 32 := Scalar.subi v1584 v1586
  let c7_i32_766 : BitVec 32 := 7#32
  let c0_i32_769 : BitVec 32 := 0#32
  let v1588 : BitVec 1 := Scalar.cmpi .sgt c7_i32_766 c0_i32_769
  let v1589 : BitVec 32 := Scalar.extui v1588
  let c0_i32_770 : BitVec 32 := 0#32
  let v1590 : BitVec 1 := Scalar.cmpi .slt c7_i32_766 c0_i32_770
  let v1591 : BitVec 32 := Scalar.extui v1590
  let v1592 : BitVec 32 := Scalar.subi v1589 v1591
  let v1593 : BitVec 1 := Scalar.cmpi .ne v1587 v1592
  let v1594 : BitVec 32 := Scalar.remsi v1564 c7_i32_766
  let c0_i32_771 : BitVec 32 := 0#32
  let v1595 : BitVec 1 := Scalar.cmpi .ne v1594 c0_i32_771
  let v1596 : BitVec 1 := Scalar.andi v1593 v1595
  let v1582 : BitVec 32 := Scalar.divsi v1564 c7_i32_766
  let c1_i32_772 : BitVec 32 := 1#32
  let v1597 : BitVec 32 := Scalar.subi v1582 c1_i32_772
  let v1598 : BitVec 32 := Scalar.select v1596 v1597 v1582
  let c7_i32_773 : BitVec 32 := 7#32
  let c0_i32_774 : BitVec 32 := 0#32
  let v1599 : BitVec 1 := Scalar.cmpi .eq c7_i32_773 c0_i32_774
  let c1_i32_775 : BitVec 32 := 1#32
  let v1600 : BitVec 32 := Scalar.select v1599 c1_i32_775 c7_i32_773
  let v1601 : BitVec 32 := Scalar.remsi v1598 v1600
  let c0_i32_777 : BitVec 32 := 0#32
  let v1603 : BitVec 1 := Scalar.cmpi .slt v1601 c0_i32_777
  let c0_i32_778 : BitVec 32 := 0#32
  let v1604 : BitVec 1 := Scalar.cmpi .slt v1600 c0_i32_778
  let v1605 : BitVec 1 := Scalar.xori v1603 v1604
  let c0_i32_776 : BitVec 32 := 0#32
  let v1602 : BitVec 1 := Scalar.cmpi .ne v1601 c0_i32_776
  let v1606 : BitVec 1 := Scalar.andi v1605 v1602
  let v1607 : BitVec 32 := Scalar.addi v1601 v1600
  let v1608 : BitVec 32 := Scalar.select v1606 v1607 v1601
  let v1620 : BitVec 32 := Scalar.addi c7_i32_786 v1608
  let c1000_i32_787 : BitVec 32 := 1000#32
  let v1621 : BitVec 32 := Scalar.muli v1620 c1000_i32_787
  let c992_i32_916 : BitVec 32 := 992#32
  let v1995 : BitVec 32 := Scalar.addi v1621 c992_i32_916
  let v1996 : Index := Scalar.indexCast v1995
  ![v1996.toNat]
def k0_off65 (i : grid0.Coords) : Fin 1 → Nat :=
  let c14_i32_788 : BitVec 32 := 14#32
  let arg1 : BitVec 32 := BitVec.ofNat 32 (i 1).val
  let c7_i32 : BitVec 32 := 7#32
  let v0 : BitVec 1 := Scalar.cmpi .slt arg1 c7_i32
  let c22_i32 : BitVec 32 := 22#32
  let v1 : BitVec 32 := Scalar.muli arg1 c22_i32
  let c21_i32 : BitVec 32 := 21#32
  let v2 : BitVec 32 := Scalar.muli c21_i32 arg1
  let c7_i32_0 : BitVec 32 := 7#32
  let v3 : BitVec 32 := Scalar.addi v2 c7_i32_0
  let v4 : BitVec 32 := Scalar.select v0 v1 v3
  let c19_i32 : BitVec 32 := 19#32
  let v1564 : BitVec 32 := Scalar.addi v4 c19_i32
  let c7_i32_779 : BitVec 32 := 7#32
  let c0_i32_780 : BitVec 32 := 0#32
  let v1609 : BitVec 1 := Scalar.cmpi .eq c7_i32_779 c0_i32_780
  let c1_i32_781 : BitVec 32 := 1#32
  let v1610 : BitVec 32 := Scalar.select v1609 c1_i32_781 c7_i32_779
  let v1611 : BitVec 32 := Scalar.remsi v1564 v1610
  let c0_i32_783 : BitVec 32 := 0#32
  let v1613 : BitVec 1 := Scalar.cmpi .slt v1611 c0_i32_783
  let c0_i32_784 : BitVec 32 := 0#32
  let v1614 : BitVec 1 := Scalar.cmpi .slt v1610 c0_i32_784
  let v1615 : BitVec 1 := Scalar.xori v1613 v1614
  let c0_i32_782 : BitVec 32 := 0#32
  let v1612 : BitVec 1 := Scalar.cmpi .ne v1611 c0_i32_782
  let v1616 : BitVec 1 := Scalar.andi v1615 v1612
  let v1617 : BitVec 32 := Scalar.addi v1611 v1610
  let v1618 : BitVec 32 := Scalar.select v1616 v1617 v1611
  let v1622 : BitVec 32 := Scalar.addi c14_i32_788 v1618
  let c1000_i32_789 : BitVec 32 := 1000#32
  let v1623 : BitVec 32 := Scalar.muli v1622 c1000_i32_789
  let c992_i32_917 : BitVec 32 := 992#32
  let v1999 : BitVec 32 := Scalar.addi v1623 c992_i32_917
  let v2000 : Index := Scalar.indexCast v1999
  ![v2000.toNat]

def k0_chk55 (i : grid0.Coords) (v2004 : IVec S16 32) : Prop :=
  (∀ (k0_h1 : k0_cond1 i = 1#1), ∀ a x, ((![v2004] : Fin 1 → IVec S16 32) a x).toNat < S22008.size a)
theorem k0_idx55_inb : ∀ (i : grid0.Coords) (v2004 : IVec S16 32) (k0_hw55 : k0_chk55 i v2004), ∀ (k0_h1 : k0_cond1 i = 1#1), ∀ a x, ((![v2004] : Fin 1 → IVec S16 32) a x).toNat < S22008.size a := fun i v2004 k0_hw55 k0_h1 => k0_hw55 k0_h1
def k0_off66 (i : grid0.Coords) : Fin 1 → Nat :=
  let arg1 : BitVec 32 := BitVec.ofNat 32 (i 1).val
  let c7_i32 : BitVec 32 := 7#32
  let v0 : BitVec 1 := Scalar.cmpi .slt arg1 c7_i32
  let c22_i32 : BitVec 32 := 22#32
  let v1 : BitVec 32 := Scalar.muli arg1 c22_i32
  let c21_i32 : BitVec 32 := 21#32
  let v2 : BitVec 32 := Scalar.muli c21_i32 arg1
  let c7_i32_0 : BitVec 32 := 7#32
  let v3 : BitVec 32 := Scalar.addi v2 c7_i32_0
  let v4 : BitVec 32 := Scalar.select v0 v1 v3
  let c20_i32 : BitVec 32 := 20#32
  let v1624 : BitVec 32 := Scalar.addi v4 c20_i32
  let c0_i32_791 : BitVec 32 := 0#32
  let v1626 : BitVec 1 := Scalar.cmpi .sgt v1624 c0_i32_791
  let v1627 : BitVec 32 := Scalar.extui v1626
  let c0_i32_792 : BitVec 32 := 0#32
  let v1628 : BitVec 1 := Scalar.cmpi .slt v1624 c0_i32_792
  let v1629 : BitVec 32 := Scalar.extui v1628
  let v1630 : BitVec 32 := Scalar.subi v1627 v1629
  let c49_i32_790 : BitVec 32 := 49#32
  let c0_i32_793 : BitVec 32 := 0#32
  let v1631 : BitVec 1 := Scalar.cmpi .sgt c49_i32_790 c0_i32_793
  let v1632 : BitVec 32 := Scalar.extui v1631
  let c0_i32_794 : BitVec 32 := 0#32
  let v1633 : BitVec 1 := Scalar.cmpi .slt c49_i32_790 c0_i32_794
  let v1634 : BitVec 32 := Scalar.extui v1633
  let v1635 : BitVec 32 := Scalar.subi v1632 v1634
  let v1636 : BitVec 1 := Scalar.cmpi .ne v1630 v1635
  let v1637 : BitVec 32 := Scalar.remsi v1624 c49_i32_790
  let c0_i32_795 : BitVec 32 := 0#32
  let v1638 : BitVec 1 := Scalar.cmpi .ne v1637 c0_i32_795
  let v1639 : BitVec 1 := Scalar.andi v1636 v1638
  let v1625 : BitVec 32 := Scalar.divsi v1624 c49_i32_790
  let c1_i32_796 : BitVec 32 := 1#32
  let v1640 : BitVec 32 := Scalar.subi v1625 c1_i32_796
  let v1641 : BitVec 32 := Scalar.select v1639 v1640 v1625
  let c1000_i32_816 : BitVec 32 := 1000#32
  let v1679 : BitVec 32 := Scalar.muli v1641 c1000_i32_816
  let c992_i32_918 : BitVec 32 := 992#32
  let v2005 : BitVec 32 := Scalar.addi v1679 c992_i32_918
  let v2006 : Index := Scalar.indexCast v2005
  ![v2006.toNat]
def k0_off67 (i : grid0.Coords) : Fin 1 → Nat :=
  let c7_i32_817 : BitVec 32 := 7#32
  let arg1 : BitVec 32 := BitVec.ofNat 32 (i 1).val
  let c7_i32 : BitVec 32 := 7#32
  let v0 : BitVec 1 := Scalar.cmpi .slt arg1 c7_i32
  let c22_i32 : BitVec 32 := 22#32
  let v1 : BitVec 32 := Scalar.muli arg1 c22_i32
  let c21_i32 : BitVec 32 := 21#32
  let v2 : BitVec 32 := Scalar.muli c21_i32 arg1
  let c7_i32_0 : BitVec 32 := 7#32
  let v3 : BitVec 32 := Scalar.addi v2 c7_i32_0
  let v4 : BitVec 32 := Scalar.select v0 v1 v3
  let c20_i32 : BitVec 32 := 20#32
  let v1624 : BitVec 32 := Scalar.addi v4 c20_i32
  let c0_i32_798 : BitVec 32 := 0#32
  let v1643 : BitVec 1 := Scalar.cmpi .sgt v1624 c0_i32_798
  let v1644 : BitVec 32 := Scalar.extui v1643
  let c0_i32_799 : BitVec 32 := 0#32
  let v1645 : BitVec 1 := Scalar.cmpi .slt v1624 c0_i32_799
  let v1646 : BitVec 32 := Scalar.extui v1645
  let v1647 : BitVec 32 := Scalar.subi v1644 v1646
  let c7_i32_797 : BitVec 32 := 7#32
  let c0_i32_800 : BitVec 32 := 0#32
  let v1648 : BitVec 1 := Scalar.cmpi .sgt c7_i32_797 c0_i32_800
  let v1649 : BitVec 32 := Scalar.extui v1648
  let c0_i32_801 : BitVec 32 := 0#32
  let v1650 : BitVec 1 := Scalar.cmpi .slt c7_i32_797 c0_i32_801
  let v1651 : BitVec 32 := Scalar.extui v1650
  let v1652 : BitVec 32 := Scalar.subi v1649 v1651
  let v1653 : BitVec 1 := Scalar.cmpi .ne v1647 v1652
  let v1654 : BitVec 32 := Scalar.remsi v1624 c7_i32_797
  let c0_i32_802 : BitVec 32 := 0#32
  let v1655 : BitVec 1 := Scalar.cmpi .ne v1654 c0_i32_802
  let v1656 : BitVec 1 := Scalar.andi v1653 v1655
  let v1642 : BitVec 32 := Scalar.divsi v1624 c7_i32_797
  let c1_i32_803 : BitVec 32 := 1#32
  let v1657 : BitVec 32 := Scalar.subi v1642 c1_i32_803
  let v1658 : BitVec 32 := Scalar.select v1656 v1657 v1642
  let c7_i32_804 : BitVec 32 := 7#32
  let c0_i32_805 : BitVec 32 := 0#32
  let v1659 : BitVec 1 := Scalar.cmpi .eq c7_i32_804 c0_i32_805
  let c1_i32_806 : BitVec 32 := 1#32
  let v1660 : BitVec 32 := Scalar.select v1659 c1_i32_806 c7_i32_804
  let v1661 : BitVec 32 := Scalar.remsi v1658 v1660
  let c0_i32_808 : BitVec 32 := 0#32
  let v1663 : BitVec 1 := Scalar.cmpi .slt v1661 c0_i32_808
  let c0_i32_809 : BitVec 32 := 0#32
  let v1664 : BitVec 1 := Scalar.cmpi .slt v1660 c0_i32_809
  let v1665 : BitVec 1 := Scalar.xori v1663 v1664
  let c0_i32_807 : BitVec 32 := 0#32
  let v1662 : BitVec 1 := Scalar.cmpi .ne v1661 c0_i32_807
  let v1666 : BitVec 1 := Scalar.andi v1665 v1662
  let v1667 : BitVec 32 := Scalar.addi v1661 v1660
  let v1668 : BitVec 32 := Scalar.select v1666 v1667 v1661
  let v1680 : BitVec 32 := Scalar.addi c7_i32_817 v1668
  let c1000_i32_818 : BitVec 32 := 1000#32
  let v1681 : BitVec 32 := Scalar.muli v1680 c1000_i32_818
  let c992_i32_919 : BitVec 32 := 992#32
  let v2008 : BitVec 32 := Scalar.addi v1681 c992_i32_919
  let v2009 : Index := Scalar.indexCast v2008
  ![v2009.toNat]
def k0_off68 (i : grid0.Coords) : Fin 1 → Nat :=
  let c14_i32_819 : BitVec 32 := 14#32
  let arg1 : BitVec 32 := BitVec.ofNat 32 (i 1).val
  let c7_i32 : BitVec 32 := 7#32
  let v0 : BitVec 1 := Scalar.cmpi .slt arg1 c7_i32
  let c22_i32 : BitVec 32 := 22#32
  let v1 : BitVec 32 := Scalar.muli arg1 c22_i32
  let c21_i32 : BitVec 32 := 21#32
  let v2 : BitVec 32 := Scalar.muli c21_i32 arg1
  let c7_i32_0 : BitVec 32 := 7#32
  let v3 : BitVec 32 := Scalar.addi v2 c7_i32_0
  let v4 : BitVec 32 := Scalar.select v0 v1 v3
  let c20_i32 : BitVec 32 := 20#32
  let v1624 : BitVec 32 := Scalar.addi v4 c20_i32
  let c7_i32_810 : BitVec 32 := 7#32
  let c0_i32_811 : BitVec 32 := 0#32
  let v1669 : BitVec 1 := Scalar.cmpi .eq c7_i32_810 c0_i32_811
  let c1_i32_812 : BitVec 32 := 1#32
  let v1670 : BitVec 32 := Scalar.select v1669 c1_i32_812 c7_i32_810
  let v1671 : BitVec 32 := Scalar.remsi v1624 v1670
  let c0_i32_814 : BitVec 32 := 0#32
  let v1673 : BitVec 1 := Scalar.cmpi .slt v1671 c0_i32_814
  let c0_i32_815 : BitVec 32 := 0#32
  let v1674 : BitVec 1 := Scalar.cmpi .slt v1670 c0_i32_815
  let v1675 : BitVec 1 := Scalar.xori v1673 v1674
  let c0_i32_813 : BitVec 32 := 0#32
  let v1672 : BitVec 1 := Scalar.cmpi .ne v1671 c0_i32_813
  let v1676 : BitVec 1 := Scalar.andi v1675 v1672
  let v1677 : BitVec 32 := Scalar.addi v1671 v1670
  let v1678 : BitVec 32 := Scalar.select v1676 v1677 v1671
  let v1682 : BitVec 32 := Scalar.addi c14_i32_819 v1678
  let c1000_i32_820 : BitVec 32 := 1000#32
  let v1683 : BitVec 32 := Scalar.muli v1682 c1000_i32_820
  let c992_i32_920 : BitVec 32 := 992#32
  let v2012 : BitVec 32 := Scalar.addi v1683 c992_i32_920
  let v2013 : Index := Scalar.indexCast v2012
  ![v2013.toNat]

def k0_chk56 (i : grid0.Coords) (v2017 : IVec S16 32) : Prop :=
  (∀ (k0_h1 : k0_cond1 i = 1#1), ∀ a x, ((![v2017] : Fin 1 → IVec S16 32) a x).toNat < S22008.size a)
theorem k0_idx56_inb : ∀ (i : grid0.Coords) (v2017 : IVec S16 32) (k0_hw56 : k0_chk56 i v2017), ∀ (k0_h1 : k0_cond1 i = 1#1), ∀ a x, ((![v2017] : Fin 1 → IVec S16 32) a x).toNat < S22008.size a := fun i v2017 k0_hw56 k0_h1 => k0_hw56 k0_h1
def k0_off69 (i : grid0.Coords) : Fin 1 → Nat :=
  let arg1 : BitVec 32 := BitVec.ofNat 32 (i 1).val
  let c7_i32 : BitVec 32 := 7#32
  let v0 : BitVec 1 := Scalar.cmpi .slt arg1 c7_i32
  let c22_i32 : BitVec 32 := 22#32
  let v1 : BitVec 32 := Scalar.muli arg1 c22_i32
  let c21_i32 : BitVec 32 := 21#32
  let v2 : BitVec 32 := Scalar.muli c21_i32 arg1
  let c7_i32_0 : BitVec 32 := 7#32
  let v3 : BitVec 32 := Scalar.addi v2 c7_i32_0
  let v4 : BitVec 32 := Scalar.select v0 v1 v3
  let c21_i32_821 : BitVec 32 := 21#32
  let v1684 : BitVec 32 := Scalar.addi v4 c21_i32_821
  let c0_i32_823 : BitVec 32 := 0#32
  let v1686 : BitVec 1 := Scalar.cmpi .sgt v1684 c0_i32_823
  let v1687 : BitVec 32 := Scalar.extui v1686
  let c0_i32_824 : BitVec 32 := 0#32
  let v1688 : BitVec 1 := Scalar.cmpi .slt v1684 c0_i32_824
  let v1689 : BitVec 32 := Scalar.extui v1688
  let v1690 : BitVec 32 := Scalar.subi v1687 v1689
  let c49_i32_822 : BitVec 32 := 49#32
  let c0_i32_825 : BitVec 32 := 0#32
  let v1691 : BitVec 1 := Scalar.cmpi .sgt c49_i32_822 c0_i32_825
  let v1692 : BitVec 32 := Scalar.extui v1691
  let c0_i32_826 : BitVec 32 := 0#32
  let v1693 : BitVec 1 := Scalar.cmpi .slt c49_i32_822 c0_i32_826
  let v1694 : BitVec 32 := Scalar.extui v1693
  let v1695 : BitVec 32 := Scalar.subi v1692 v1694
  let v1696 : BitVec 1 := Scalar.cmpi .ne v1690 v1695
  let v1697 : BitVec 32 := Scalar.remsi v1684 c49_i32_822
  let c0_i32_827 : BitVec 32 := 0#32
  let v1698 : BitVec 1 := Scalar.cmpi .ne v1697 c0_i32_827
  let v1699 : BitVec 1 := Scalar.andi v1696 v1698
  let v1685 : BitVec 32 := Scalar.divsi v1684 c49_i32_822
  let c1_i32_828 : BitVec 32 := 1#32
  let v1700 : BitVec 32 := Scalar.subi v1685 c1_i32_828
  let v1701 : BitVec 32 := Scalar.select v1699 v1700 v1685
  let c1000_i32_848 : BitVec 32 := 1000#32
  let v1739 : BitVec 32 := Scalar.muli v1701 c1000_i32_848
  let c992_i32_921 : BitVec 32 := 992#32
  let v2018 : BitVec 32 := Scalar.addi v1739 c992_i32_921
  let v2019 : Index := Scalar.indexCast v2018
  ![v2019.toNat]
def k0_off70 (i : grid0.Coords) : Fin 1 → Nat :=
  let c7_i32_849 : BitVec 32 := 7#32
  let arg1 : BitVec 32 := BitVec.ofNat 32 (i 1).val
  let c7_i32 : BitVec 32 := 7#32
  let v0 : BitVec 1 := Scalar.cmpi .slt arg1 c7_i32
  let c22_i32 : BitVec 32 := 22#32
  let v1 : BitVec 32 := Scalar.muli arg1 c22_i32
  let c21_i32 : BitVec 32 := 21#32
  let v2 : BitVec 32 := Scalar.muli c21_i32 arg1
  let c7_i32_0 : BitVec 32 := 7#32
  let v3 : BitVec 32 := Scalar.addi v2 c7_i32_0
  let v4 : BitVec 32 := Scalar.select v0 v1 v3
  let c21_i32_821 : BitVec 32 := 21#32
  let v1684 : BitVec 32 := Scalar.addi v4 c21_i32_821
  let c0_i32_830 : BitVec 32 := 0#32
  let v1703 : BitVec 1 := Scalar.cmpi .sgt v1684 c0_i32_830
  let v1704 : BitVec 32 := Scalar.extui v1703
  let c0_i32_831 : BitVec 32 := 0#32
  let v1705 : BitVec 1 := Scalar.cmpi .slt v1684 c0_i32_831
  let v1706 : BitVec 32 := Scalar.extui v1705
  let v1707 : BitVec 32 := Scalar.subi v1704 v1706
  let c7_i32_829 : BitVec 32 := 7#32
  let c0_i32_832 : BitVec 32 := 0#32
  let v1708 : BitVec 1 := Scalar.cmpi .sgt c7_i32_829 c0_i32_832
  let v1709 : BitVec 32 := Scalar.extui v1708
  let c0_i32_833 : BitVec 32 := 0#32
  let v1710 : BitVec 1 := Scalar.cmpi .slt c7_i32_829 c0_i32_833
  let v1711 : BitVec 32 := Scalar.extui v1710
  let v1712 : BitVec 32 := Scalar.subi v1709 v1711
  let v1713 : BitVec 1 := Scalar.cmpi .ne v1707 v1712
  let v1714 : BitVec 32 := Scalar.remsi v1684 c7_i32_829
  let c0_i32_834 : BitVec 32 := 0#32
  let v1715 : BitVec 1 := Scalar.cmpi .ne v1714 c0_i32_834
  let v1716 : BitVec 1 := Scalar.andi v1713 v1715
  let v1702 : BitVec 32 := Scalar.divsi v1684 c7_i32_829
  let c1_i32_835 : BitVec 32 := 1#32
  let v1717 : BitVec 32 := Scalar.subi v1702 c1_i32_835
  let v1718 : BitVec 32 := Scalar.select v1716 v1717 v1702
  let c7_i32_836 : BitVec 32 := 7#32
  let c0_i32_837 : BitVec 32 := 0#32
  let v1719 : BitVec 1 := Scalar.cmpi .eq c7_i32_836 c0_i32_837
  let c1_i32_838 : BitVec 32 := 1#32
  let v1720 : BitVec 32 := Scalar.select v1719 c1_i32_838 c7_i32_836
  let v1721 : BitVec 32 := Scalar.remsi v1718 v1720
  let c0_i32_840 : BitVec 32 := 0#32
  let v1723 : BitVec 1 := Scalar.cmpi .slt v1721 c0_i32_840
  let c0_i32_841 : BitVec 32 := 0#32
  let v1724 : BitVec 1 := Scalar.cmpi .slt v1720 c0_i32_841
  let v1725 : BitVec 1 := Scalar.xori v1723 v1724
  let c0_i32_839 : BitVec 32 := 0#32
  let v1722 : BitVec 1 := Scalar.cmpi .ne v1721 c0_i32_839
  let v1726 : BitVec 1 := Scalar.andi v1725 v1722
  let v1727 : BitVec 32 := Scalar.addi v1721 v1720
  let v1728 : BitVec 32 := Scalar.select v1726 v1727 v1721
  let v1740 : BitVec 32 := Scalar.addi c7_i32_849 v1728
  let c1000_i32_850 : BitVec 32 := 1000#32
  let v1741 : BitVec 32 := Scalar.muli v1740 c1000_i32_850
  let c992_i32_922 : BitVec 32 := 992#32
  let v2021 : BitVec 32 := Scalar.addi v1741 c992_i32_922
  let v2022 : Index := Scalar.indexCast v2021
  ![v2022.toNat]
def k0_off71 (i : grid0.Coords) : Fin 1 → Nat :=
  let c14_i32_851 : BitVec 32 := 14#32
  let arg1 : BitVec 32 := BitVec.ofNat 32 (i 1).val
  let c7_i32 : BitVec 32 := 7#32
  let v0 : BitVec 1 := Scalar.cmpi .slt arg1 c7_i32
  let c22_i32 : BitVec 32 := 22#32
  let v1 : BitVec 32 := Scalar.muli arg1 c22_i32
  let c21_i32 : BitVec 32 := 21#32
  let v2 : BitVec 32 := Scalar.muli c21_i32 arg1
  let c7_i32_0 : BitVec 32 := 7#32
  let v3 : BitVec 32 := Scalar.addi v2 c7_i32_0
  let v4 : BitVec 32 := Scalar.select v0 v1 v3
  let c21_i32_821 : BitVec 32 := 21#32
  let v1684 : BitVec 32 := Scalar.addi v4 c21_i32_821
  let c7_i32_842 : BitVec 32 := 7#32
  let c0_i32_843 : BitVec 32 := 0#32
  let v1729 : BitVec 1 := Scalar.cmpi .eq c7_i32_842 c0_i32_843
  let c1_i32_844 : BitVec 32 := 1#32
  let v1730 : BitVec 32 := Scalar.select v1729 c1_i32_844 c7_i32_842
  let v1731 : BitVec 32 := Scalar.remsi v1684 v1730
  let c0_i32_846 : BitVec 32 := 0#32
  let v1733 : BitVec 1 := Scalar.cmpi .slt v1731 c0_i32_846
  let c0_i32_847 : BitVec 32 := 0#32
  let v1734 : BitVec 1 := Scalar.cmpi .slt v1730 c0_i32_847
  let v1735 : BitVec 1 := Scalar.xori v1733 v1734
  let c0_i32_845 : BitVec 32 := 0#32
  let v1732 : BitVec 1 := Scalar.cmpi .ne v1731 c0_i32_845
  let v1736 : BitVec 1 := Scalar.andi v1735 v1732
  let v1737 : BitVec 32 := Scalar.addi v1731 v1730
  let v1738 : BitVec 32 := Scalar.select v1736 v1737 v1731
  let v1742 : BitVec 32 := Scalar.addi c14_i32_851 v1738
  let c1000_i32_852 : BitVec 32 := 1000#32
  let v1743 : BitVec 32 := Scalar.muli v1742 c1000_i32_852
  let c992_i32_923 : BitVec 32 := 992#32
  let v2025 : BitVec 32 := Scalar.addi v1743 c992_i32_923
  let v2026 : Index := Scalar.indexCast v2025
  ![v2026.toNat]

def k0_chk57 (i : grid0.Coords) (v2030 : IVec S16 32) : Prop :=
  (∀ (k0_h1 : k0_cond1 i = 1#1), ∀ a x, ((![v2030] : Fin 1 → IVec S16 32) a x).toNat < S22008.size a)
theorem k0_idx57_inb : ∀ (i : grid0.Coords) (v2030 : IVec S16 32) (k0_hw57 : k0_chk57 i v2030), ∀ (k0_h1 : k0_cond1 i = 1#1), ∀ a x, ((![v2030] : Fin 1 → IVec S16 32) a x).toNat < S22008.size a := fun i v2030 k0_hw57 k0_h1 => k0_hw57 k0_h1
@[reducible] def k0_t3_loop (i : grid0.Coords) : Scf.Loop 32 :=
  let c0_i32_19 : BitVec 32 := 0#32
  let arg0 : BitVec 32 := BitVec.ofNat 32 (i 0).val
  let c0_i32 : BitVec 32 := 0#32
  let v7 : BitVec 1 := Scalar.cmpi .eq arg0 c0_i32
  let arg1 : BitVec 32 := BitVec.ofNat 32 (i 1).val
  let c7_i32_1 : BitVec 32 := 7#32
  let v5 : BitVec 1 := Scalar.cmpi .slt arg1 c7_i32_1
  let c22_i32_2 : BitVec 32 := 22#32
  let c21_i32_3 : BitVec 32 := 21#32
  let v6 : BitVec 32 := Scalar.select v5 c22_i32_2 c21_i32_3
  let c1000_i32 : BitVec 32 := 1000#32
  let v8 : BitVec 32 := Scalar.muli v6 c1000_i32
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c64_i32 : BitVec 32 := 64#32
  let c0_i32_6 : BitVec 32 := 0#32
  let v15 : BitVec 1 := Scalar.cmpi .sgt c64_i32 c0_i32_6
  let v16 : BitVec 32 := Scalar.extui v15
  let c0_i32_7 : BitVec 32 := 0#32
  let v17 : BitVec 1 := Scalar.cmpi .slt c64_i32 c0_i32_7
  let v18 : BitVec 32 := Scalar.extui v17
  let v19 : BitVec 32 := Scalar.subi v16 v18
  let v20 : BitVec 1 := Scalar.cmpi .ne v14 v19
  let v21 : BitVec 32 := Scalar.remsi v8 c64_i32
  let c0_i32_8 : BitVec 32 := 0#32
  let v22 : BitVec 1 := Scalar.cmpi .ne v21 c0_i32_8
  let v23 : BitVec 1 := Scalar.andi v20 v22
  let v9 : BitVec 32 := Scalar.divsi v8 c64_i32
  let c1_i32 : BitVec 32 := 1#32
  let v24 : BitVec 32 := Scalar.subi v9 c1_i32
  let v25 : BitVec 32 := Scalar.select v23 v24 v9
  let c0_i32_9 : BitVec 32 := 0#32
  let v26 : BitVec 32 := Scalar.select v7 v25 c0_i32_9
  let c14_i32 : BitVec 32 := 14#32
  let v32 : BitVec 32 := Scalar.addi v26 c14_i32
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c8_i32 : BitVec 32 := 8#32
  let c0_i32_15 : BitVec 32 := 0#32
  let v39 : BitVec 1 := Scalar.cmpi .sgt c8_i32 c0_i32_15
  let v40 : BitVec 32 := Scalar.extui v39
  let c0_i32_16 : BitVec 32 := 0#32
  let v41 : BitVec 1 := Scalar.cmpi .slt c8_i32 c0_i32_16
  let v42 : BitVec 32 := Scalar.extui v41
  let v43 : BitVec 32 := Scalar.subi v40 v42
  let v44 : BitVec 1 := Scalar.cmpi .ne v38 v43
  let v45 : BitVec 32 := Scalar.remsi v32 c8_i32
  let c0_i32_17 : BitVec 32 := 0#32
  let v46 : BitVec 1 := Scalar.cmpi .ne v45 c0_i32_17
  let v47 : BitVec 1 := Scalar.andi v44 v46
  let v33 : BitVec 32 := Scalar.divsi v32 c8_i32
  let c1_i32_18 : BitVec 32 := 1#32
  let v48 : BitVec 32 := Scalar.subi v33 c1_i32_18
  let v49 : BitVec 32 := Scalar.select v47 v48 v33
  let v50 : BitVec 32 := Scalar.subi v49 c0_i32_19
  let c1_i32_20 : BitVec 32 := 1#32
  let v52 : BitVec 32 := Scalar.divsi v50 c1_i32_20
  let v53 : BitVec 32 := Scalar.muli v52 c1_i32_20
  let v54 : BitVec 32 := Scalar.addi c0_i32_19 v53
  let c1_i32_21 : BitVec 32 := 1#32
  ⟨c0_i32_19, v54, c1_i32_21⟩
def k0_cond2 (i : grid0.Coords) (k0_t3 : Fin (k0_t3_loop i).trips) : BitVec 1 :=
  let c8_i32_36 : BitVec 32 := 8#32
  let c0_i32_19 : BitVec 32 := 0#32
  let c1_i32_21 : BitVec 32 := 1#32
  let arg38 : BitVec 32 := Scf.iv c0_i32_19 c1_i32_21 k0_t3
  let v82 : BitVec 32 := Scalar.muli c8_i32_36 arg38
  let c0_i32_37 : BitVec 32 := 0#32
  let v83 : BitVec 32 := Scalar.addi v82 c0_i32_37
  let arg0 : BitVec 32 := BitVec.ofNat 32 (i 0).val
  let c0_i32 : BitVec 32 := 0#32
  let v7 : BitVec 1 := Scalar.cmpi .eq arg0 c0_i32
  let arg1 : BitVec 32 := BitVec.ofNat 32 (i 1).val
  let c7_i32_1 : BitVec 32 := 7#32
  let v5 : BitVec 1 := Scalar.cmpi .slt arg1 c7_i32_1
  let c22_i32_2 : BitVec 32 := 22#32
  let c21_i32_3 : BitVec 32 := 21#32
  let v6 : BitVec 32 := Scalar.select v5 c22_i32_2 c21_i32_3
  let c1000_i32 : BitVec 32 := 1000#32
  let v8 : BitVec 32 := Scalar.muli v6 c1000_i32
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c64_i32 : BitVec 32 := 64#32
  let c0_i32_6 : BitVec 32 := 0#32
  let v15 : BitVec 1 := Scalar.cmpi .sgt c64_i32 c0_i32_6
  let v16 : BitVec 32 := Scalar.extui v15
  let c0_i32_7 : BitVec 32 := 0#32
  let v17 : BitVec 1 := Scalar.cmpi .slt c64_i32 c0_i32_7
  let v18 : BitVec 32 := Scalar.extui v17
  let v19 : BitVec 32 := Scalar.subi v16 v18
  let v20 : BitVec 1 := Scalar.cmpi .ne v14 v19
  let v21 : BitVec 32 := Scalar.remsi v8 c64_i32
  let c0_i32_8 : BitVec 32 := 0#32
  let v22 : BitVec 1 := Scalar.cmpi .ne v21 c0_i32_8
  let v23 : BitVec 1 := Scalar.andi v20 v22
  let v9 : BitVec 32 := Scalar.divsi v8 c64_i32
  let c1_i32 : BitVec 32 := 1#32
  let v24 : BitVec 32 := Scalar.subi v9 c1_i32
  let v25 : BitVec 32 := Scalar.select v23 v24 v9
  let c0_i32_9 : BitVec 32 := 0#32
  let v26 : BitVec 32 := Scalar.select v7 v25 c0_i32_9
  let v84 : BitVec 1 := Scalar.cmpi .slt v83 v26
  let v85 : BitVec 32 := Scalar.extui v84
  let c0_i32_38 : BitVec 32 := 0#32
  let v86 : BitVec 1 := Scalar.cmpi .ne v85 c0_i32_38
  v86

def k0_off72 (i : grid0.Coords) (k0_t3 : Fin (k0_t3_loop i).trips) : Fin 1 → Nat :=
  let c8_i32_36 : BitVec 32 := 8#32
  let c0_i32_19 : BitVec 32 := 0#32
  let c1_i32_21 : BitVec 32 := 1#32
  let arg38 : BitVec 32 := Scf.iv c0_i32_19 c1_i32_21 k0_t3
  let v82 : BitVec 32 := Scalar.muli c8_i32_36 arg38
  let c0_i32_37 : BitVec 32 := 0#32
  let v83 : BitVec 32 := Scalar.addi v82 c0_i32_37
  let c64_i32_86 : BitVec 32 := 64#32
  let v173 : BitVec 32 := Scalar.muli v83 c64_i32_86
  ![v173.toNat]
def k0_cond4 (i : grid0.Coords) (k0_t3 : Fin (k0_t3_loop i).trips) : BitVec 1 :=
  let c8_i32_36 : BitVec 32 := 8#32
  let c0_i32_19 : BitVec 32 := 0#32
  let c1_i32_21 : BitVec 32 := 1#32
  let arg38 : BitVec 32 := Scf.iv c0_i32_19 c1_i32_21 k0_t3
  let v82 : BitVec 32 := Scalar.muli c8_i32_36 arg38
  let c0_i32_37 : BitVec 32 := 0#32
  let v83 : BitVec 32 := Scalar.addi v82 c0_i32_37
  let c7_i32_39 : BitVec 32 := 7#32
  let v87 : BitVec 32 := Scalar.subi v83 c7_i32_39
  let c0_i32_40 : BitVec 32 := 0#32
  let v88 : BitVec 1 := Scalar.cmpi .sge v87 c0_i32_40
  let arg0 : BitVec 32 := BitVec.ofNat 32 (i 0).val
  let c0_i32 : BitVec 32 := 0#32
  let v7 : BitVec 1 := Scalar.cmpi .eq arg0 c0_i32
  let arg1 : BitVec 32 := BitVec.ofNat 32 (i 1).val
  let c7_i32_1 : BitVec 32 := 7#32
  let v5 : BitVec 1 := Scalar.cmpi .slt arg1 c7_i32_1
  let c22_i32_2 : BitVec 32 := 22#32
  let c21_i32_3 : BitVec 32 := 21#32
  let v6 : BitVec 32 := Scalar.select v5 c22_i32_2 c21_i32_3
  let c1000_i32 : BitVec 32 := 1000#32
  let v8 : BitVec 32 := Scalar.muli v6 c1000_i32
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c64_i32 : BitVec 32 := 64#32
  let c0_i32_6 : BitVec 32 := 0#32
  let v15 : BitVec 1 := Scalar.cmpi .sgt c64_i32 c0_i32_6
  let v16 : BitVec 32 := Scalar.extui v15
  let c0_i32_7 : BitVec 32 := 0#32
  let v17 : BitVec 1 := Scalar.cmpi .slt c64_i32 c0_i32_7
  let v18 : BitVec 32 := Scalar.extui v17
  let v19 : BitVec 32 := Scalar.subi v16 v18
  let v20 : BitVec 1 := Scalar.cmpi .ne v14 v19
  let v21 : BitVec 32 := Scalar.remsi v8 c64_i32
  let c0_i32_8 : BitVec 32 := 0#32
  let v22 : BitVec 1 := Scalar.cmpi .ne v21 c0_i32_8
  let v23 : BitVec 1 := Scalar.andi v20 v22
  let v9 : BitVec 32 := Scalar.divsi v8 c64_i32
  let c1_i32 : BitVec 32 := 1#32
  let v24 : BitVec 32 := Scalar.subi v9 c1_i32
  let v25 : BitVec 32 := Scalar.select v23 v24 v9
  let c0_i32_9 : BitVec 32 := 0#32
  let v26 : BitVec 32 := Scalar.select v7 v25 c0_i32_9
  let v89 : BitVec 1 := Scalar.cmpi .slt v87 v26
  let v90 : BitVec 1 := Scalar.andi v88 v89
  let v91 : BitVec 32 := Scalar.extui v90
  let c0_i32_41 : BitVec 32 := 0#32
  let v92 : BitVec 1 := Scalar.cmpi .ne v91 c0_i32_41
  v92

def k0_off73 (i : grid0.Coords) (k0_t3 : Fin (k0_t3_loop i).trips) : Fin 2 → Nat :=
  let arg1 : BitVec 32 := BitVec.ofNat 32 (i 1).val
  let c7_i32 : BitVec 32 := 7#32
  let v0 : BitVec 1 := Scalar.cmpi .slt arg1 c7_i32
  let c22_i32 : BitVec 32 := 22#32
  let v1 : BitVec 32 := Scalar.muli arg1 c22_i32
  let c21_i32 : BitVec 32 := 21#32
  let v2 : BitVec 32 := Scalar.muli c21_i32 arg1
  let c7_i32_0 : BitVec 32 := 7#32
  let v3 : BitVec 32 := Scalar.addi v2 c7_i32_0
  let v4 : BitVec 32 := Scalar.select v0 v1 v3
  let c1000_i32_12 : BitVec 32 := 1000#32
  let v31 : BitVec 32 := Scalar.muli v4 c1000_i32_12
  let c8_i32_36 : BitVec 32 := 8#32
  let c0_i32_19 : BitVec 32 := 0#32
  let c1_i32_21 : BitVec 32 := 1#32
  let arg38 : BitVec 32 := Scf.iv c0_i32_19 c1_i32_21 k0_t3
  let v82 : BitVec 32 := Scalar.muli c8_i32_36 arg38
  let c0_i32_37 : BitVec 32 := 0#32
  let v83 : BitVec 32 := Scalar.addi v82 c0_i32_37
  let c7_i32_39 : BitVec 32 := 7#32
  let v87 : BitVec 32 := Scalar.subi v83 c7_i32_39
  let c64_i32_87 : BitVec 32 := 64#32
  let v172 : BitVec 32 := Scalar.muli v87 c64_i32_87
  let v173 : BitVec 32 := Scalar.addi v31 v172
  let c0_i32_88 : BitVec 32 := 0#32
  ![v173.toNat, 0]
def k0_cond5 (i : grid0.Coords) (k0_t3 : Fin (k0_t3_loop i).trips) : BitVec 1 :=
  let c8_i32_42 : BitVec 32 := 8#32
  let c0_i32_19 : BitVec 32 := 0#32
  let c1_i32_21 : BitVec 32 := 1#32
  let arg38 : BitVec 32 := Scf.iv c0_i32_19 c1_i32_21 k0_t3
  let v93 : BitVec 32 := Scalar.muli c8_i32_42 arg38
  let c1_i32_43 : BitVec 32 := 1#32
  let v94 : BitVec 32 := Scalar.addi v93 c1_i32_43
  let arg0 : BitVec 32 := BitVec.ofNat 32 (i 0).val
  let c0_i32 : BitVec 32 := 0#32
  let v7 : BitVec 1 := Scalar.cmpi .eq arg0 c0_i32
  let arg1 : BitVec 32 := BitVec.ofNat 32 (i 1).val
  let c7_i32_1 : BitVec 32 := 7#32
  let v5 : BitVec 1 := Scalar.cmpi .slt arg1 c7_i32_1
  let c22_i32_2 : BitVec 32 := 22#32
  let c21_i32_3 : BitVec 32 := 21#32
  let v6 : BitVec 32 := Scalar.select v5 c22_i32_2 c21_i32_3
  let c1000_i32 : BitVec 32 := 1000#32
  let v8 : BitVec 32 := Scalar.muli v6 c1000_i32
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c64_i32 : BitVec 32 := 64#32
  let c0_i32_6 : BitVec 32 := 0#32
  let v15 : BitVec 1 := Scalar.cmpi .sgt c64_i32 c0_i32_6
  let v16 : BitVec 32 := Scalar.extui v15
  let c0_i32_7 : BitVec 32 := 0#32
  let v17 : BitVec 1 := Scalar.cmpi .slt c64_i32 c0_i32_7
  let v18 : BitVec 32 := Scalar.extui v17
  let v19 : BitVec 32 := Scalar.subi v16 v18
  let v20 : BitVec 1 := Scalar.cmpi .ne v14 v19
  let v21 : BitVec 32 := Scalar.remsi v8 c64_i32
  let c0_i32_8 : BitVec 32 := 0#32
  let v22 : BitVec 1 := Scalar.cmpi .ne v21 c0_i32_8
  let v23 : BitVec 1 := Scalar.andi v20 v22
  let v9 : BitVec 32 := Scalar.divsi v8 c64_i32
  let c1_i32 : BitVec 32 := 1#32
  let v24 : BitVec 32 := Scalar.subi v9 c1_i32
  let v25 : BitVec 32 := Scalar.select v23 v24 v9
  let c0_i32_9 : BitVec 32 := 0#32
  let v26 : BitVec 32 := Scalar.select v7 v25 c0_i32_9
  let v95 : BitVec 1 := Scalar.cmpi .slt v94 v26
  let v96 : BitVec 32 := Scalar.extui v95
  let c0_i32_44 : BitVec 32 := 0#32
  let v97 : BitVec 1 := Scalar.cmpi .ne v96 c0_i32_44
  v97

def k0_off74 (i : grid0.Coords) (k0_t3 : Fin (k0_t3_loop i).trips) : Fin 1 → Nat :=
  let c8_i32_42 : BitVec 32 := 8#32
  let c0_i32_19 : BitVec 32 := 0#32
  let c1_i32_21 : BitVec 32 := 1#32
  let arg38 : BitVec 32 := Scf.iv c0_i32_19 c1_i32_21 k0_t3
  let v93 : BitVec 32 := Scalar.muli c8_i32_42 arg38
  let c1_i32_43 : BitVec 32 := 1#32
  let v94 : BitVec 32 := Scalar.addi v93 c1_i32_43
  let c64_i32_86 : BitVec 32 := 64#32
  let v173 : BitVec 32 := Scalar.muli v94 c64_i32_86
  ![v173.toNat]
def k0_cond7 (i : grid0.Coords) (k0_t3 : Fin (k0_t3_loop i).trips) : BitVec 1 :=
  let c8_i32_42 : BitVec 32 := 8#32
  let c0_i32_19 : BitVec 32 := 0#32
  let c1_i32_21 : BitVec 32 := 1#32
  let arg38 : BitVec 32 := Scf.iv c0_i32_19 c1_i32_21 k0_t3
  let v93 : BitVec 32 := Scalar.muli c8_i32_42 arg38
  let c1_i32_43 : BitVec 32 := 1#32
  let v94 : BitVec 32 := Scalar.addi v93 c1_i32_43
  let c7_i32_45 : BitVec 32 := 7#32
  let v98 : BitVec 32 := Scalar.subi v94 c7_i32_45
  let c0_i32_46 : BitVec 32 := 0#32
  let v99 : BitVec 1 := Scalar.cmpi .sge v98 c0_i32_46
  let arg0 : BitVec 32 := BitVec.ofNat 32 (i 0).val
  let c0_i32 : BitVec 32 := 0#32
  let v7 : BitVec 1 := Scalar.cmpi .eq arg0 c0_i32
  let arg1 : BitVec 32 := BitVec.ofNat 32 (i 1).val
  let c7_i32_1 : BitVec 32 := 7#32
  let v5 : BitVec 1 := Scalar.cmpi .slt arg1 c7_i32_1
  let c22_i32_2 : BitVec 32 := 22#32
  let c21_i32_3 : BitVec 32 := 21#32
  let v6 : BitVec 32 := Scalar.select v5 c22_i32_2 c21_i32_3
  let c1000_i32 : BitVec 32 := 1000#32
  let v8 : BitVec 32 := Scalar.muli v6 c1000_i32
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c64_i32 : BitVec 32 := 64#32
  let c0_i32_6 : BitVec 32 := 0#32
  let v15 : BitVec 1 := Scalar.cmpi .sgt c64_i32 c0_i32_6
  let v16 : BitVec 32 := Scalar.extui v15
  let c0_i32_7 : BitVec 32 := 0#32
  let v17 : BitVec 1 := Scalar.cmpi .slt c64_i32 c0_i32_7
  let v18 : BitVec 32 := Scalar.extui v17
  let v19 : BitVec 32 := Scalar.subi v16 v18
  let v20 : BitVec 1 := Scalar.cmpi .ne v14 v19
  let v21 : BitVec 32 := Scalar.remsi v8 c64_i32
  let c0_i32_8 : BitVec 32 := 0#32
  let v22 : BitVec 1 := Scalar.cmpi .ne v21 c0_i32_8
  let v23 : BitVec 1 := Scalar.andi v20 v22
  let v9 : BitVec 32 := Scalar.divsi v8 c64_i32
  let c1_i32 : BitVec 32 := 1#32
  let v24 : BitVec 32 := Scalar.subi v9 c1_i32
  let v25 : BitVec 32 := Scalar.select v23 v24 v9
  let c0_i32_9 : BitVec 32 := 0#32
  let v26 : BitVec 32 := Scalar.select v7 v25 c0_i32_9
  let v100 : BitVec 1 := Scalar.cmpi .slt v98 v26
  let v101 : BitVec 1 := Scalar.andi v99 v100
  let v102 : BitVec 32 := Scalar.extui v101
  let c0_i32_47 : BitVec 32 := 0#32
  let v103 : BitVec 1 := Scalar.cmpi .ne v102 c0_i32_47
  v103

def k0_off75 (i : grid0.Coords) (k0_t3 : Fin (k0_t3_loop i).trips) : Fin 2 → Nat :=
  let arg1 : BitVec 32 := BitVec.ofNat 32 (i 1).val
  let c7_i32 : BitVec 32 := 7#32
  let v0 : BitVec 1 := Scalar.cmpi .slt arg1 c7_i32
  let c22_i32 : BitVec 32 := 22#32
  let v1 : BitVec 32 := Scalar.muli arg1 c22_i32
  let c21_i32 : BitVec 32 := 21#32
  let v2 : BitVec 32 := Scalar.muli c21_i32 arg1
  let c7_i32_0 : BitVec 32 := 7#32
  let v3 : BitVec 32 := Scalar.addi v2 c7_i32_0
  let v4 : BitVec 32 := Scalar.select v0 v1 v3
  let c1000_i32_12 : BitVec 32 := 1000#32
  let v31 : BitVec 32 := Scalar.muli v4 c1000_i32_12
  let c8_i32_42 : BitVec 32 := 8#32
  let c0_i32_19 : BitVec 32 := 0#32
  let c1_i32_21 : BitVec 32 := 1#32
  let arg38 : BitVec 32 := Scf.iv c0_i32_19 c1_i32_21 k0_t3
  let v93 : BitVec 32 := Scalar.muli c8_i32_42 arg38
  let c1_i32_43 : BitVec 32 := 1#32
  let v94 : BitVec 32 := Scalar.addi v93 c1_i32_43
  let c7_i32_45 : BitVec 32 := 7#32
  let v98 : BitVec 32 := Scalar.subi v94 c7_i32_45
  let c64_i32_87 : BitVec 32 := 64#32
  let v172 : BitVec 32 := Scalar.muli v98 c64_i32_87
  let v173 : BitVec 32 := Scalar.addi v31 v172
  let c0_i32_88 : BitVec 32 := 0#32
  ![v173.toNat, 0]
def k0_cond8 (i : grid0.Coords) (k0_t3 : Fin (k0_t3_loop i).trips) : BitVec 1 :=
  let c8_i32_48 : BitVec 32 := 8#32
  let c0_i32_19 : BitVec 32 := 0#32
  let c1_i32_21 : BitVec 32 := 1#32
  let arg38 : BitVec 32 := Scf.iv c0_i32_19 c1_i32_21 k0_t3
  let v104 : BitVec 32 := Scalar.muli c8_i32_48 arg38
  let c2_i32_49 : BitVec 32 := 2#32
  let v105 : BitVec 32 := Scalar.addi v104 c2_i32_49
  let arg0 : BitVec 32 := BitVec.ofNat 32 (i 0).val
  let c0_i32 : BitVec 32 := 0#32
  let v7 : BitVec 1 := Scalar.cmpi .eq arg0 c0_i32
  let arg1 : BitVec 32 := BitVec.ofNat 32 (i 1).val
  let c7_i32_1 : BitVec 32 := 7#32
  let v5 : BitVec 1 := Scalar.cmpi .slt arg1 c7_i32_1
  let c22_i32_2 : BitVec 32 := 22#32
  let c21_i32_3 : BitVec 32 := 21#32
  let v6 : BitVec 32 := Scalar.select v5 c22_i32_2 c21_i32_3
  let c1000_i32 : BitVec 32 := 1000#32
  let v8 : BitVec 32 := Scalar.muli v6 c1000_i32
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c64_i32 : BitVec 32 := 64#32
  let c0_i32_6 : BitVec 32 := 0#32
  let v15 : BitVec 1 := Scalar.cmpi .sgt c64_i32 c0_i32_6
  let v16 : BitVec 32 := Scalar.extui v15
  let c0_i32_7 : BitVec 32 := 0#32
  let v17 : BitVec 1 := Scalar.cmpi .slt c64_i32 c0_i32_7
  let v18 : BitVec 32 := Scalar.extui v17
  let v19 : BitVec 32 := Scalar.subi v16 v18
  let v20 : BitVec 1 := Scalar.cmpi .ne v14 v19
  let v21 : BitVec 32 := Scalar.remsi v8 c64_i32
  let c0_i32_8 : BitVec 32 := 0#32
  let v22 : BitVec 1 := Scalar.cmpi .ne v21 c0_i32_8
  let v23 : BitVec 1 := Scalar.andi v20 v22
  let v9 : BitVec 32 := Scalar.divsi v8 c64_i32
  let c1_i32 : BitVec 32 := 1#32
  let v24 : BitVec 32 := Scalar.subi v9 c1_i32
  let v25 : BitVec 32 := Scalar.select v23 v24 v9
  let c0_i32_9 : BitVec 32 := 0#32
  let v26 : BitVec 32 := Scalar.select v7 v25 c0_i32_9
  let v106 : BitVec 1 := Scalar.cmpi .slt v105 v26
  let v107 : BitVec 32 := Scalar.extui v106
  let c0_i32_50 : BitVec 32 := 0#32
  let v108 : BitVec 1 := Scalar.cmpi .ne v107 c0_i32_50
  v108

def k0_off76 (i : grid0.Coords) (k0_t3 : Fin (k0_t3_loop i).trips) : Fin 1 → Nat :=
  let c8_i32_48 : BitVec 32 := 8#32
  let c0_i32_19 : BitVec 32 := 0#32
  let c1_i32_21 : BitVec 32 := 1#32
  let arg38 : BitVec 32 := Scf.iv c0_i32_19 c1_i32_21 k0_t3
  let v104 : BitVec 32 := Scalar.muli c8_i32_48 arg38
  let c2_i32_49 : BitVec 32 := 2#32
  let v105 : BitVec 32 := Scalar.addi v104 c2_i32_49
  let c64_i32_86 : BitVec 32 := 64#32
  let v173 : BitVec 32 := Scalar.muli v105 c64_i32_86
  ![v173.toNat]
def k0_cond10 (i : grid0.Coords) (k0_t3 : Fin (k0_t3_loop i).trips) : BitVec 1 :=
  let c8_i32_48 : BitVec 32 := 8#32
  let c0_i32_19 : BitVec 32 := 0#32
  let c1_i32_21 : BitVec 32 := 1#32
  let arg38 : BitVec 32 := Scf.iv c0_i32_19 c1_i32_21 k0_t3
  let v104 : BitVec 32 := Scalar.muli c8_i32_48 arg38
  let c2_i32_49 : BitVec 32 := 2#32
  let v105 : BitVec 32 := Scalar.addi v104 c2_i32_49
  let c7_i32_51 : BitVec 32 := 7#32
  let v109 : BitVec 32 := Scalar.subi v105 c7_i32_51
  let c0_i32_52 : BitVec 32 := 0#32
  let v110 : BitVec 1 := Scalar.cmpi .sge v109 c0_i32_52
  let arg0 : BitVec 32 := BitVec.ofNat 32 (i 0).val
  let c0_i32 : BitVec 32 := 0#32
  let v7 : BitVec 1 := Scalar.cmpi .eq arg0 c0_i32
  let arg1 : BitVec 32 := BitVec.ofNat 32 (i 1).val
  let c7_i32_1 : BitVec 32 := 7#32
  let v5 : BitVec 1 := Scalar.cmpi .slt arg1 c7_i32_1
  let c22_i32_2 : BitVec 32 := 22#32
  let c21_i32_3 : BitVec 32 := 21#32
  let v6 : BitVec 32 := Scalar.select v5 c22_i32_2 c21_i32_3
  let c1000_i32 : BitVec 32 := 1000#32
  let v8 : BitVec 32 := Scalar.muli v6 c1000_i32
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c64_i32 : BitVec 32 := 64#32
  let c0_i32_6 : BitVec 32 := 0#32
  let v15 : BitVec 1 := Scalar.cmpi .sgt c64_i32 c0_i32_6
  let v16 : BitVec 32 := Scalar.extui v15
  let c0_i32_7 : BitVec 32 := 0#32
  let v17 : BitVec 1 := Scalar.cmpi .slt c64_i32 c0_i32_7
  let v18 : BitVec 32 := Scalar.extui v17
  let v19 : BitVec 32 := Scalar.subi v16 v18
  let v20 : BitVec 1 := Scalar.cmpi .ne v14 v19
  let v21 : BitVec 32 := Scalar.remsi v8 c64_i32
  let c0_i32_8 : BitVec 32 := 0#32
  let v22 : BitVec 1 := Scalar.cmpi .ne v21 c0_i32_8
  let v23 : BitVec 1 := Scalar.andi v20 v22
  let v9 : BitVec 32 := Scalar.divsi v8 c64_i32
  let c1_i32 : BitVec 32 := 1#32
  let v24 : BitVec 32 := Scalar.subi v9 c1_i32
  let v25 : BitVec 32 := Scalar.select v23 v24 v9
  let c0_i32_9 : BitVec 32 := 0#32
  let v26 : BitVec 32 := Scalar.select v7 v25 c0_i32_9
  let v111 : BitVec 1 := Scalar.cmpi .slt v109 v26
  let v112 : BitVec 1 := Scalar.andi v110 v111
  let v113 : BitVec 32 := Scalar.extui v112
  let c0_i32_53 : BitVec 32 := 0#32
  let v114 : BitVec 1 := Scalar.cmpi .ne v113 c0_i32_53
  v114

def k0_off77 (i : grid0.Coords) (k0_t3 : Fin (k0_t3_loop i).trips) : Fin 2 → Nat :=
  let arg1 : BitVec 32 := BitVec.ofNat 32 (i 1).val
  let c7_i32 : BitVec 32 := 7#32
  let v0 : BitVec 1 := Scalar.cmpi .slt arg1 c7_i32
  let c22_i32 : BitVec 32 := 22#32
  let v1 : BitVec 32 := Scalar.muli arg1 c22_i32
  let c21_i32 : BitVec 32 := 21#32
  let v2 : BitVec 32 := Scalar.muli c21_i32 arg1
  let c7_i32_0 : BitVec 32 := 7#32
  let v3 : BitVec 32 := Scalar.addi v2 c7_i32_0
  let v4 : BitVec 32 := Scalar.select v0 v1 v3
  let c1000_i32_12 : BitVec 32 := 1000#32
  let v31 : BitVec 32 := Scalar.muli v4 c1000_i32_12
  let c8_i32_48 : BitVec 32 := 8#32
  let c0_i32_19 : BitVec 32 := 0#32
  let c1_i32_21 : BitVec 32 := 1#32
  let arg38 : BitVec 32 := Scf.iv c0_i32_19 c1_i32_21 k0_t3
  let v104 : BitVec 32 := Scalar.muli c8_i32_48 arg38
  let c2_i32_49 : BitVec 32 := 2#32
  let v105 : BitVec 32 := Scalar.addi v104 c2_i32_49
  let c7_i32_51 : BitVec 32 := 7#32
  let v109 : BitVec 32 := Scalar.subi v105 c7_i32_51
  let c64_i32_87 : BitVec 32 := 64#32
  let v172 : BitVec 32 := Scalar.muli v109 c64_i32_87
  let v173 : BitVec 32 := Scalar.addi v31 v172
  let c0_i32_88 : BitVec 32 := 0#32
  ![v173.toNat, 0]
def k0_cond11 (i : grid0.Coords) (k0_t3 : Fin (k0_t3_loop i).trips) : BitVec 1 :=
  let c8_i32_54 : BitVec 32 := 8#32
  let c0_i32_19 : BitVec 32 := 0#32
  let c1_i32_21 : BitVec 32 := 1#32
  let arg38 : BitVec 32 := Scf.iv c0_i32_19 c1_i32_21 k0_t3
  let v115 : BitVec 32 := Scalar.muli c8_i32_54 arg38
  let c3_i32_55 : BitVec 32 := 3#32
  let v116 : BitVec 32 := Scalar.addi v115 c3_i32_55
  let arg0 : BitVec 32 := BitVec.ofNat 32 (i 0).val
  let c0_i32 : BitVec 32 := 0#32
  let v7 : BitVec 1 := Scalar.cmpi .eq arg0 c0_i32
  let arg1 : BitVec 32 := BitVec.ofNat 32 (i 1).val
  let c7_i32_1 : BitVec 32 := 7#32
  let v5 : BitVec 1 := Scalar.cmpi .slt arg1 c7_i32_1
  let c22_i32_2 : BitVec 32 := 22#32
  let c21_i32_3 : BitVec 32 := 21#32
  let v6 : BitVec 32 := Scalar.select v5 c22_i32_2 c21_i32_3
  let c1000_i32 : BitVec 32 := 1000#32
  let v8 : BitVec 32 := Scalar.muli v6 c1000_i32
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c64_i32 : BitVec 32 := 64#32
  let c0_i32_6 : BitVec 32 := 0#32
  let v15 : BitVec 1 := Scalar.cmpi .sgt c64_i32 c0_i32_6
  let v16 : BitVec 32 := Scalar.extui v15
  let c0_i32_7 : BitVec 32 := 0#32
  let v17 : BitVec 1 := Scalar.cmpi .slt c64_i32 c0_i32_7
  let v18 : BitVec 32 := Scalar.extui v17
  let v19 : BitVec 32 := Scalar.subi v16 v18
  let v20 : BitVec 1 := Scalar.cmpi .ne v14 v19
  let v21 : BitVec 32 := Scalar.remsi v8 c64_i32
  let c0_i32_8 : BitVec 32 := 0#32
  let v22 : BitVec 1 := Scalar.cmpi .ne v21 c0_i32_8
  let v23 : BitVec 1 := Scalar.andi v20 v22
  let v9 : BitVec 32 := Scalar.divsi v8 c64_i32
  let c1_i32 : BitVec 32 := 1#32
  let v24 : BitVec 32 := Scalar.subi v9 c1_i32
  let v25 : BitVec 32 := Scalar.select v23 v24 v9
  let c0_i32_9 : BitVec 32 := 0#32
  let v26 : BitVec 32 := Scalar.select v7 v25 c0_i32_9
  let v117 : BitVec 1 := Scalar.cmpi .slt v116 v26
  let v118 : BitVec 32 := Scalar.extui v117
  let c0_i32_56 : BitVec 32 := 0#32
  let v119 : BitVec 1 := Scalar.cmpi .ne v118 c0_i32_56
  v119

def k0_off78 (i : grid0.Coords) (k0_t3 : Fin (k0_t3_loop i).trips) : Fin 1 → Nat :=
  let c8_i32_54 : BitVec 32 := 8#32
  let c0_i32_19 : BitVec 32 := 0#32
  let c1_i32_21 : BitVec 32 := 1#32
  let arg38 : BitVec 32 := Scf.iv c0_i32_19 c1_i32_21 k0_t3
  let v115 : BitVec 32 := Scalar.muli c8_i32_54 arg38
  let c3_i32_55 : BitVec 32 := 3#32
  let v116 : BitVec 32 := Scalar.addi v115 c3_i32_55
  let c64_i32_86 : BitVec 32 := 64#32
  let v173 : BitVec 32 := Scalar.muli v116 c64_i32_86
  ![v173.toNat]
def k0_cond13 (i : grid0.Coords) (k0_t3 : Fin (k0_t3_loop i).trips) : BitVec 1 :=
  let c8_i32_54 : BitVec 32 := 8#32
  let c0_i32_19 : BitVec 32 := 0#32
  let c1_i32_21 : BitVec 32 := 1#32
  let arg38 : BitVec 32 := Scf.iv c0_i32_19 c1_i32_21 k0_t3
  let v115 : BitVec 32 := Scalar.muli c8_i32_54 arg38
  let c3_i32_55 : BitVec 32 := 3#32
  let v116 : BitVec 32 := Scalar.addi v115 c3_i32_55
  let c7_i32_57 : BitVec 32 := 7#32
  let v120 : BitVec 32 := Scalar.subi v116 c7_i32_57
  let c0_i32_58 : BitVec 32 := 0#32
  let v121 : BitVec 1 := Scalar.cmpi .sge v120 c0_i32_58
  let arg0 : BitVec 32 := BitVec.ofNat 32 (i 0).val
  let c0_i32 : BitVec 32 := 0#32
  let v7 : BitVec 1 := Scalar.cmpi .eq arg0 c0_i32
  let arg1 : BitVec 32 := BitVec.ofNat 32 (i 1).val
  let c7_i32_1 : BitVec 32 := 7#32
  let v5 : BitVec 1 := Scalar.cmpi .slt arg1 c7_i32_1
  let c22_i32_2 : BitVec 32 := 22#32
  let c21_i32_3 : BitVec 32 := 21#32
  let v6 : BitVec 32 := Scalar.select v5 c22_i32_2 c21_i32_3
  let c1000_i32 : BitVec 32 := 1000#32
  let v8 : BitVec 32 := Scalar.muli v6 c1000_i32
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c64_i32 : BitVec 32 := 64#32
  let c0_i32_6 : BitVec 32 := 0#32
  let v15 : BitVec 1 := Scalar.cmpi .sgt c64_i32 c0_i32_6
  let v16 : BitVec 32 := Scalar.extui v15
  let c0_i32_7 : BitVec 32 := 0#32
  let v17 : BitVec 1 := Scalar.cmpi .slt c64_i32 c0_i32_7
  let v18 : BitVec 32 := Scalar.extui v17
  let v19 : BitVec 32 := Scalar.subi v16 v18
  let v20 : BitVec 1 := Scalar.cmpi .ne v14 v19
  let v21 : BitVec 32 := Scalar.remsi v8 c64_i32
  let c0_i32_8 : BitVec 32 := 0#32
  let v22 : BitVec 1 := Scalar.cmpi .ne v21 c0_i32_8
  let v23 : BitVec 1 := Scalar.andi v20 v22
  let v9 : BitVec 32 := Scalar.divsi v8 c64_i32
  let c1_i32 : BitVec 32 := 1#32
  let v24 : BitVec 32 := Scalar.subi v9 c1_i32
  let v25 : BitVec 32 := Scalar.select v23 v24 v9
  let c0_i32_9 : BitVec 32 := 0#32
  let v26 : BitVec 32 := Scalar.select v7 v25 c0_i32_9
  let v122 : BitVec 1 := Scalar.cmpi .slt v120 v26
  let v123 : BitVec 1 := Scalar.andi v121 v122
  let v124 : BitVec 32 := Scalar.extui v123
  let c0_i32_59 : BitVec 32 := 0#32
  let v125 : BitVec 1 := Scalar.cmpi .ne v124 c0_i32_59
  v125

def k0_off79 (i : grid0.Coords) (k0_t3 : Fin (k0_t3_loop i).trips) : Fin 2 → Nat :=
  let arg1 : BitVec 32 := BitVec.ofNat 32 (i 1).val
  let c7_i32 : BitVec 32 := 7#32
  let v0 : BitVec 1 := Scalar.cmpi .slt arg1 c7_i32
  let c22_i32 : BitVec 32 := 22#32
  let v1 : BitVec 32 := Scalar.muli arg1 c22_i32
  let c21_i32 : BitVec 32 := 21#32
  let v2 : BitVec 32 := Scalar.muli c21_i32 arg1
  let c7_i32_0 : BitVec 32 := 7#32
  let v3 : BitVec 32 := Scalar.addi v2 c7_i32_0
  let v4 : BitVec 32 := Scalar.select v0 v1 v3
  let c1000_i32_12 : BitVec 32 := 1000#32
  let v31 : BitVec 32 := Scalar.muli v4 c1000_i32_12
  let c8_i32_54 : BitVec 32 := 8#32
  let c0_i32_19 : BitVec 32 := 0#32
  let c1_i32_21 : BitVec 32 := 1#32
  let arg38 : BitVec 32 := Scf.iv c0_i32_19 c1_i32_21 k0_t3
  let v115 : BitVec 32 := Scalar.muli c8_i32_54 arg38
  let c3_i32_55 : BitVec 32 := 3#32
  let v116 : BitVec 32 := Scalar.addi v115 c3_i32_55
  let c7_i32_57 : BitVec 32 := 7#32
  let v120 : BitVec 32 := Scalar.subi v116 c7_i32_57
  let c64_i32_87 : BitVec 32 := 64#32
  let v172 : BitVec 32 := Scalar.muli v120 c64_i32_87
  let v173 : BitVec 32 := Scalar.addi v31 v172
  let c0_i32_88 : BitVec 32 := 0#32
  ![v173.toNat, 0]
def k0_cond14 (i : grid0.Coords) (k0_t3 : Fin (k0_t3_loop i).trips) : BitVec 1 :=
  let c8_i32_60 : BitVec 32 := 8#32
  let c0_i32_19 : BitVec 32 := 0#32
  let c1_i32_21 : BitVec 32 := 1#32
  let arg38 : BitVec 32 := Scf.iv c0_i32_19 c1_i32_21 k0_t3
  let v126 : BitVec 32 := Scalar.muli c8_i32_60 arg38
  let c4_i32_61 : BitVec 32 := 4#32
  let v127 : BitVec 32 := Scalar.addi v126 c4_i32_61
  let arg0 : BitVec 32 := BitVec.ofNat 32 (i 0).val
  let c0_i32 : BitVec 32 := 0#32
  let v7 : BitVec 1 := Scalar.cmpi .eq arg0 c0_i32
  let arg1 : BitVec 32 := BitVec.ofNat 32 (i 1).val
  let c7_i32_1 : BitVec 32 := 7#32
  let v5 : BitVec 1 := Scalar.cmpi .slt arg1 c7_i32_1
  let c22_i32_2 : BitVec 32 := 22#32
  let c21_i32_3 : BitVec 32 := 21#32
  let v6 : BitVec 32 := Scalar.select v5 c22_i32_2 c21_i32_3
  let c1000_i32 : BitVec 32 := 1000#32
  let v8 : BitVec 32 := Scalar.muli v6 c1000_i32
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c64_i32 : BitVec 32 := 64#32
  let c0_i32_6 : BitVec 32 := 0#32
  let v15 : BitVec 1 := Scalar.cmpi .sgt c64_i32 c0_i32_6
  let v16 : BitVec 32 := Scalar.extui v15
  let c0_i32_7 : BitVec 32 := 0#32
  let v17 : BitVec 1 := Scalar.cmpi .slt c64_i32 c0_i32_7
  let v18 : BitVec 32 := Scalar.extui v17
  let v19 : BitVec 32 := Scalar.subi v16 v18
  let v20 : BitVec 1 := Scalar.cmpi .ne v14 v19
  let v21 : BitVec 32 := Scalar.remsi v8 c64_i32
  let c0_i32_8 : BitVec 32 := 0#32
  let v22 : BitVec 1 := Scalar.cmpi .ne v21 c0_i32_8
  let v23 : BitVec 1 := Scalar.andi v20 v22
  let v9 : BitVec 32 := Scalar.divsi v8 c64_i32
  let c1_i32 : BitVec 32 := 1#32
  let v24 : BitVec 32 := Scalar.subi v9 c1_i32
  let v25 : BitVec 32 := Scalar.select v23 v24 v9
  let c0_i32_9 : BitVec 32 := 0#32
  let v26 : BitVec 32 := Scalar.select v7 v25 c0_i32_9
  let v128 : BitVec 1 := Scalar.cmpi .slt v127 v26
  let v129 : BitVec 32 := Scalar.extui v128
  let c0_i32_62 : BitVec 32 := 0#32
  let v130 : BitVec 1 := Scalar.cmpi .ne v129 c0_i32_62
  v130

def k0_off80 (i : grid0.Coords) (k0_t3 : Fin (k0_t3_loop i).trips) : Fin 1 → Nat :=
  let c8_i32_60 : BitVec 32 := 8#32
  let c0_i32_19 : BitVec 32 := 0#32
  let c1_i32_21 : BitVec 32 := 1#32
  let arg38 : BitVec 32 := Scf.iv c0_i32_19 c1_i32_21 k0_t3
  let v126 : BitVec 32 := Scalar.muli c8_i32_60 arg38
  let c4_i32_61 : BitVec 32 := 4#32
  let v127 : BitVec 32 := Scalar.addi v126 c4_i32_61
  let c64_i32_86 : BitVec 32 := 64#32
  let v173 : BitVec 32 := Scalar.muli v127 c64_i32_86
  ![v173.toNat]
def k0_cond16 (i : grid0.Coords) (k0_t3 : Fin (k0_t3_loop i).trips) : BitVec 1 :=
  let c8_i32_60 : BitVec 32 := 8#32
  let c0_i32_19 : BitVec 32 := 0#32
  let c1_i32_21 : BitVec 32 := 1#32
  let arg38 : BitVec 32 := Scf.iv c0_i32_19 c1_i32_21 k0_t3
  let v126 : BitVec 32 := Scalar.muli c8_i32_60 arg38
  let c4_i32_61 : BitVec 32 := 4#32
  let v127 : BitVec 32 := Scalar.addi v126 c4_i32_61
  let c7_i32_63 : BitVec 32 := 7#32
  let v131 : BitVec 32 := Scalar.subi v127 c7_i32_63
  let c0_i32_64 : BitVec 32 := 0#32
  let v132 : BitVec 1 := Scalar.cmpi .sge v131 c0_i32_64
  let arg0 : BitVec 32 := BitVec.ofNat 32 (i 0).val
  let c0_i32 : BitVec 32 := 0#32
  let v7 : BitVec 1 := Scalar.cmpi .eq arg0 c0_i32
  let arg1 : BitVec 32 := BitVec.ofNat 32 (i 1).val
  let c7_i32_1 : BitVec 32 := 7#32
  let v5 : BitVec 1 := Scalar.cmpi .slt arg1 c7_i32_1
  let c22_i32_2 : BitVec 32 := 22#32
  let c21_i32_3 : BitVec 32 := 21#32
  let v6 : BitVec 32 := Scalar.select v5 c22_i32_2 c21_i32_3
  let c1000_i32 : BitVec 32 := 1000#32
  let v8 : BitVec 32 := Scalar.muli v6 c1000_i32
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c64_i32 : BitVec 32 := 64#32
  let c0_i32_6 : BitVec 32 := 0#32
  let v15 : BitVec 1 := Scalar.cmpi .sgt c64_i32 c0_i32_6
  let v16 : BitVec 32 := Scalar.extui v15
  let c0_i32_7 : BitVec 32 := 0#32
  let v17 : BitVec 1 := Scalar.cmpi .slt c64_i32 c0_i32_7
  let v18 : BitVec 32 := Scalar.extui v17
  let v19 : BitVec 32 := Scalar.subi v16 v18
  let v20 : BitVec 1 := Scalar.cmpi .ne v14 v19
  let v21 : BitVec 32 := Scalar.remsi v8 c64_i32
  let c0_i32_8 : BitVec 32 := 0#32
  let v22 : BitVec 1 := Scalar.cmpi .ne v21 c0_i32_8
  let v23 : BitVec 1 := Scalar.andi v20 v22
  let v9 : BitVec 32 := Scalar.divsi v8 c64_i32
  let c1_i32 : BitVec 32 := 1#32
  let v24 : BitVec 32 := Scalar.subi v9 c1_i32
  let v25 : BitVec 32 := Scalar.select v23 v24 v9
  let c0_i32_9 : BitVec 32 := 0#32
  let v26 : BitVec 32 := Scalar.select v7 v25 c0_i32_9
  let v133 : BitVec 1 := Scalar.cmpi .slt v131 v26
  let v134 : BitVec 1 := Scalar.andi v132 v133
  let v135 : BitVec 32 := Scalar.extui v134
  let c0_i32_65 : BitVec 32 := 0#32
  let v136 : BitVec 1 := Scalar.cmpi .ne v135 c0_i32_65
  v136

def k0_off81 (i : grid0.Coords) (k0_t3 : Fin (k0_t3_loop i).trips) : Fin 2 → Nat :=
  let arg1 : BitVec 32 := BitVec.ofNat 32 (i 1).val
  let c7_i32 : BitVec 32 := 7#32
  let v0 : BitVec 1 := Scalar.cmpi .slt arg1 c7_i32
  let c22_i32 : BitVec 32 := 22#32
  let v1 : BitVec 32 := Scalar.muli arg1 c22_i32
  let c21_i32 : BitVec 32 := 21#32
  let v2 : BitVec 32 := Scalar.muli c21_i32 arg1
  let c7_i32_0 : BitVec 32 := 7#32
  let v3 : BitVec 32 := Scalar.addi v2 c7_i32_0
  let v4 : BitVec 32 := Scalar.select v0 v1 v3
  let c1000_i32_12 : BitVec 32 := 1000#32
  let v31 : BitVec 32 := Scalar.muli v4 c1000_i32_12
  let c8_i32_60 : BitVec 32 := 8#32
  let c0_i32_19 : BitVec 32 := 0#32
  let c1_i32_21 : BitVec 32 := 1#32
  let arg38 : BitVec 32 := Scf.iv c0_i32_19 c1_i32_21 k0_t3
  let v126 : BitVec 32 := Scalar.muli c8_i32_60 arg38
  let c4_i32_61 : BitVec 32 := 4#32
  let v127 : BitVec 32 := Scalar.addi v126 c4_i32_61
  let c7_i32_63 : BitVec 32 := 7#32
  let v131 : BitVec 32 := Scalar.subi v127 c7_i32_63
  let c64_i32_87 : BitVec 32 := 64#32
  let v172 : BitVec 32 := Scalar.muli v131 c64_i32_87
  let v173 : BitVec 32 := Scalar.addi v31 v172
  let c0_i32_88 : BitVec 32 := 0#32
  ![v173.toNat, 0]
def k0_cond17 (i : grid0.Coords) (k0_t3 : Fin (k0_t3_loop i).trips) : BitVec 1 :=
  let c8_i32_66 : BitVec 32 := 8#32
  let c0_i32_19 : BitVec 32 := 0#32
  let c1_i32_21 : BitVec 32 := 1#32
  let arg38 : BitVec 32 := Scf.iv c0_i32_19 c1_i32_21 k0_t3
  let v137 : BitVec 32 := Scalar.muli c8_i32_66 arg38
  let c5_i32_67 : BitVec 32 := 5#32
  let v138 : BitVec 32 := Scalar.addi v137 c5_i32_67
  let arg0 : BitVec 32 := BitVec.ofNat 32 (i 0).val
  let c0_i32 : BitVec 32 := 0#32
  let v7 : BitVec 1 := Scalar.cmpi .eq arg0 c0_i32
  let arg1 : BitVec 32 := BitVec.ofNat 32 (i 1).val
  let c7_i32_1 : BitVec 32 := 7#32
  let v5 : BitVec 1 := Scalar.cmpi .slt arg1 c7_i32_1
  let c22_i32_2 : BitVec 32 := 22#32
  let c21_i32_3 : BitVec 32 := 21#32
  let v6 : BitVec 32 := Scalar.select v5 c22_i32_2 c21_i32_3
  let c1000_i32 : BitVec 32 := 1000#32
  let v8 : BitVec 32 := Scalar.muli v6 c1000_i32
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c64_i32 : BitVec 32 := 64#32
  let c0_i32_6 : BitVec 32 := 0#32
  let v15 : BitVec 1 := Scalar.cmpi .sgt c64_i32 c0_i32_6
  let v16 : BitVec 32 := Scalar.extui v15
  let c0_i32_7 : BitVec 32 := 0#32
  let v17 : BitVec 1 := Scalar.cmpi .slt c64_i32 c0_i32_7
  let v18 : BitVec 32 := Scalar.extui v17
  let v19 : BitVec 32 := Scalar.subi v16 v18
  let v20 : BitVec 1 := Scalar.cmpi .ne v14 v19
  let v21 : BitVec 32 := Scalar.remsi v8 c64_i32
  let c0_i32_8 : BitVec 32 := 0#32
  let v22 : BitVec 1 := Scalar.cmpi .ne v21 c0_i32_8
  let v23 : BitVec 1 := Scalar.andi v20 v22
  let v9 : BitVec 32 := Scalar.divsi v8 c64_i32
  let c1_i32 : BitVec 32 := 1#32
  let v24 : BitVec 32 := Scalar.subi v9 c1_i32
  let v25 : BitVec 32 := Scalar.select v23 v24 v9
  let c0_i32_9 : BitVec 32 := 0#32
  let v26 : BitVec 32 := Scalar.select v7 v25 c0_i32_9
  let v139 : BitVec 1 := Scalar.cmpi .slt v138 v26
  let v140 : BitVec 32 := Scalar.extui v139
  let c0_i32_68 : BitVec 32 := 0#32
  let v141 : BitVec 1 := Scalar.cmpi .ne v140 c0_i32_68
  v141

def k0_off82 (i : grid0.Coords) (k0_t3 : Fin (k0_t3_loop i).trips) : Fin 1 → Nat :=
  let c8_i32_66 : BitVec 32 := 8#32
  let c0_i32_19 : BitVec 32 := 0#32
  let c1_i32_21 : BitVec 32 := 1#32
  let arg38 : BitVec 32 := Scf.iv c0_i32_19 c1_i32_21 k0_t3
  let v137 : BitVec 32 := Scalar.muli c8_i32_66 arg38
  let c5_i32_67 : BitVec 32 := 5#32
  let v138 : BitVec 32 := Scalar.addi v137 c5_i32_67
  let c64_i32_86 : BitVec 32 := 64#32
  let v173 : BitVec 32 := Scalar.muli v138 c64_i32_86
  ![v173.toNat]
def k0_cond19 (i : grid0.Coords) (k0_t3 : Fin (k0_t3_loop i).trips) : BitVec 1 :=
  let c8_i32_66 : BitVec 32 := 8#32
  let c0_i32_19 : BitVec 32 := 0#32
  let c1_i32_21 : BitVec 32 := 1#32
  let arg38 : BitVec 32 := Scf.iv c0_i32_19 c1_i32_21 k0_t3
  let v137 : BitVec 32 := Scalar.muli c8_i32_66 arg38
  let c5_i32_67 : BitVec 32 := 5#32
  let v138 : BitVec 32 := Scalar.addi v137 c5_i32_67
  let c7_i32_69 : BitVec 32 := 7#32
  let v142 : BitVec 32 := Scalar.subi v138 c7_i32_69
  let c0_i32_70 : BitVec 32 := 0#32
  let v143 : BitVec 1 := Scalar.cmpi .sge v142 c0_i32_70
  let arg0 : BitVec 32 := BitVec.ofNat 32 (i 0).val
  let c0_i32 : BitVec 32 := 0#32
  let v7 : BitVec 1 := Scalar.cmpi .eq arg0 c0_i32
  let arg1 : BitVec 32 := BitVec.ofNat 32 (i 1).val
  let c7_i32_1 : BitVec 32 := 7#32
  let v5 : BitVec 1 := Scalar.cmpi .slt arg1 c7_i32_1
  let c22_i32_2 : BitVec 32 := 22#32
  let c21_i32_3 : BitVec 32 := 21#32
  let v6 : BitVec 32 := Scalar.select v5 c22_i32_2 c21_i32_3
  let c1000_i32 : BitVec 32 := 1000#32
  let v8 : BitVec 32 := Scalar.muli v6 c1000_i32
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c64_i32 : BitVec 32 := 64#32
  let c0_i32_6 : BitVec 32 := 0#32
  let v15 : BitVec 1 := Scalar.cmpi .sgt c64_i32 c0_i32_6
  let v16 : BitVec 32 := Scalar.extui v15
  let c0_i32_7 : BitVec 32 := 0#32
  let v17 : BitVec 1 := Scalar.cmpi .slt c64_i32 c0_i32_7
  let v18 : BitVec 32 := Scalar.extui v17
  let v19 : BitVec 32 := Scalar.subi v16 v18
  let v20 : BitVec 1 := Scalar.cmpi .ne v14 v19
  let v21 : BitVec 32 := Scalar.remsi v8 c64_i32
  let c0_i32_8 : BitVec 32 := 0#32
  let v22 : BitVec 1 := Scalar.cmpi .ne v21 c0_i32_8
  let v23 : BitVec 1 := Scalar.andi v20 v22
  let v9 : BitVec 32 := Scalar.divsi v8 c64_i32
  let c1_i32 : BitVec 32 := 1#32
  let v24 : BitVec 32 := Scalar.subi v9 c1_i32
  let v25 : BitVec 32 := Scalar.select v23 v24 v9
  let c0_i32_9 : BitVec 32 := 0#32
  let v26 : BitVec 32 := Scalar.select v7 v25 c0_i32_9
  let v144 : BitVec 1 := Scalar.cmpi .slt v142 v26
  let v145 : BitVec 1 := Scalar.andi v143 v144
  let v146 : BitVec 32 := Scalar.extui v145
  let c0_i32_71 : BitVec 32 := 0#32
  let v147 : BitVec 1 := Scalar.cmpi .ne v146 c0_i32_71
  v147

def k0_off83 (i : grid0.Coords) (k0_t3 : Fin (k0_t3_loop i).trips) : Fin 2 → Nat :=
  let arg1 : BitVec 32 := BitVec.ofNat 32 (i 1).val
  let c7_i32 : BitVec 32 := 7#32
  let v0 : BitVec 1 := Scalar.cmpi .slt arg1 c7_i32
  let c22_i32 : BitVec 32 := 22#32
  let v1 : BitVec 32 := Scalar.muli arg1 c22_i32
  let c21_i32 : BitVec 32 := 21#32
  let v2 : BitVec 32 := Scalar.muli c21_i32 arg1
  let c7_i32_0 : BitVec 32 := 7#32
  let v3 : BitVec 32 := Scalar.addi v2 c7_i32_0
  let v4 : BitVec 32 := Scalar.select v0 v1 v3
  let c1000_i32_12 : BitVec 32 := 1000#32
  let v31 : BitVec 32 := Scalar.muli v4 c1000_i32_12
  let c8_i32_66 : BitVec 32 := 8#32
  let c0_i32_19 : BitVec 32 := 0#32
  let c1_i32_21 : BitVec 32 := 1#32
  let arg38 : BitVec 32 := Scf.iv c0_i32_19 c1_i32_21 k0_t3
  let v137 : BitVec 32 := Scalar.muli c8_i32_66 arg38
  let c5_i32_67 : BitVec 32 := 5#32
  let v138 : BitVec 32 := Scalar.addi v137 c5_i32_67
  let c7_i32_69 : BitVec 32 := 7#32
  let v142 : BitVec 32 := Scalar.subi v138 c7_i32_69
  let c64_i32_87 : BitVec 32 := 64#32
  let v172 : BitVec 32 := Scalar.muli v142 c64_i32_87
  let v173 : BitVec 32 := Scalar.addi v31 v172
  let c0_i32_88 : BitVec 32 := 0#32
  ![v173.toNat, 0]
def k0_cond20 (i : grid0.Coords) (k0_t3 : Fin (k0_t3_loop i).trips) : BitVec 1 :=
  let c8_i32_72 : BitVec 32 := 8#32
  let c0_i32_19 : BitVec 32 := 0#32
  let c1_i32_21 : BitVec 32 := 1#32
  let arg38 : BitVec 32 := Scf.iv c0_i32_19 c1_i32_21 k0_t3
  let v148 : BitVec 32 := Scalar.muli c8_i32_72 arg38
  let c6_i32_73 : BitVec 32 := 6#32
  let v149 : BitVec 32 := Scalar.addi v148 c6_i32_73
  let arg0 : BitVec 32 := BitVec.ofNat 32 (i 0).val
  let c0_i32 : BitVec 32 := 0#32
  let v7 : BitVec 1 := Scalar.cmpi .eq arg0 c0_i32
  let arg1 : BitVec 32 := BitVec.ofNat 32 (i 1).val
  let c7_i32_1 : BitVec 32 := 7#32
  let v5 : BitVec 1 := Scalar.cmpi .slt arg1 c7_i32_1
  let c22_i32_2 : BitVec 32 := 22#32
  let c21_i32_3 : BitVec 32 := 21#32
  let v6 : BitVec 32 := Scalar.select v5 c22_i32_2 c21_i32_3
  let c1000_i32 : BitVec 32 := 1000#32
  let v8 : BitVec 32 := Scalar.muli v6 c1000_i32
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c64_i32 : BitVec 32 := 64#32
  let c0_i32_6 : BitVec 32 := 0#32
  let v15 : BitVec 1 := Scalar.cmpi .sgt c64_i32 c0_i32_6
  let v16 : BitVec 32 := Scalar.extui v15
  let c0_i32_7 : BitVec 32 := 0#32
  let v17 : BitVec 1 := Scalar.cmpi .slt c64_i32 c0_i32_7
  let v18 : BitVec 32 := Scalar.extui v17
  let v19 : BitVec 32 := Scalar.subi v16 v18
  let v20 : BitVec 1 := Scalar.cmpi .ne v14 v19
  let v21 : BitVec 32 := Scalar.remsi v8 c64_i32
  let c0_i32_8 : BitVec 32 := 0#32
  let v22 : BitVec 1 := Scalar.cmpi .ne v21 c0_i32_8
  let v23 : BitVec 1 := Scalar.andi v20 v22
  let v9 : BitVec 32 := Scalar.divsi v8 c64_i32
  let c1_i32 : BitVec 32 := 1#32
  let v24 : BitVec 32 := Scalar.subi v9 c1_i32
  let v25 : BitVec 32 := Scalar.select v23 v24 v9
  let c0_i32_9 : BitVec 32 := 0#32
  let v26 : BitVec 32 := Scalar.select v7 v25 c0_i32_9
  let v150 : BitVec 1 := Scalar.cmpi .slt v149 v26
  let v151 : BitVec 32 := Scalar.extui v150
  let c0_i32_74 : BitVec 32 := 0#32
  let v152 : BitVec 1 := Scalar.cmpi .ne v151 c0_i32_74
  v152

def k0_off84 (i : grid0.Coords) (k0_t3 : Fin (k0_t3_loop i).trips) : Fin 1 → Nat :=
  let c8_i32_72 : BitVec 32 := 8#32
  let c0_i32_19 : BitVec 32 := 0#32
  let c1_i32_21 : BitVec 32 := 1#32
  let arg38 : BitVec 32 := Scf.iv c0_i32_19 c1_i32_21 k0_t3
  let v148 : BitVec 32 := Scalar.muli c8_i32_72 arg38
  let c6_i32_73 : BitVec 32 := 6#32
  let v149 : BitVec 32 := Scalar.addi v148 c6_i32_73
  let c64_i32_86 : BitVec 32 := 64#32
  let v173 : BitVec 32 := Scalar.muli v149 c64_i32_86
  ![v173.toNat]
def k0_cond22 (i : grid0.Coords) (k0_t3 : Fin (k0_t3_loop i).trips) : BitVec 1 :=
  let c8_i32_72 : BitVec 32 := 8#32
  let c0_i32_19 : BitVec 32 := 0#32
  let c1_i32_21 : BitVec 32 := 1#32
  let arg38 : BitVec 32 := Scf.iv c0_i32_19 c1_i32_21 k0_t3
  let v148 : BitVec 32 := Scalar.muli c8_i32_72 arg38
  let c6_i32_73 : BitVec 32 := 6#32
  let v149 : BitVec 32 := Scalar.addi v148 c6_i32_73
  let c7_i32_75 : BitVec 32 := 7#32
  let v153 : BitVec 32 := Scalar.subi v149 c7_i32_75
  let c0_i32_76 : BitVec 32 := 0#32
  let v154 : BitVec 1 := Scalar.cmpi .sge v153 c0_i32_76
  let arg0 : BitVec 32 := BitVec.ofNat 32 (i 0).val
  let c0_i32 : BitVec 32 := 0#32
  let v7 : BitVec 1 := Scalar.cmpi .eq arg0 c0_i32
  let arg1 : BitVec 32 := BitVec.ofNat 32 (i 1).val
  let c7_i32_1 : BitVec 32 := 7#32
  let v5 : BitVec 1 := Scalar.cmpi .slt arg1 c7_i32_1
  let c22_i32_2 : BitVec 32 := 22#32
  let c21_i32_3 : BitVec 32 := 21#32
  let v6 : BitVec 32 := Scalar.select v5 c22_i32_2 c21_i32_3
  let c1000_i32 : BitVec 32 := 1000#32
  let v8 : BitVec 32 := Scalar.muli v6 c1000_i32
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c64_i32 : BitVec 32 := 64#32
  let c0_i32_6 : BitVec 32 := 0#32
  let v15 : BitVec 1 := Scalar.cmpi .sgt c64_i32 c0_i32_6
  let v16 : BitVec 32 := Scalar.extui v15
  let c0_i32_7 : BitVec 32 := 0#32
  let v17 : BitVec 1 := Scalar.cmpi .slt c64_i32 c0_i32_7
  let v18 : BitVec 32 := Scalar.extui v17
  let v19 : BitVec 32 := Scalar.subi v16 v18
  let v20 : BitVec 1 := Scalar.cmpi .ne v14 v19
  let v21 : BitVec 32 := Scalar.remsi v8 c64_i32
  let c0_i32_8 : BitVec 32 := 0#32
  let v22 : BitVec 1 := Scalar.cmpi .ne v21 c0_i32_8
  let v23 : BitVec 1 := Scalar.andi v20 v22
  let v9 : BitVec 32 := Scalar.divsi v8 c64_i32
  let c1_i32 : BitVec 32 := 1#32
  let v24 : BitVec 32 := Scalar.subi v9 c1_i32
  let v25 : BitVec 32 := Scalar.select v23 v24 v9
  let c0_i32_9 : BitVec 32 := 0#32
  let v26 : BitVec 32 := Scalar.select v7 v25 c0_i32_9
  let v155 : BitVec 1 := Scalar.cmpi .slt v153 v26
  let v156 : BitVec 1 := Scalar.andi v154 v155
  let v157 : BitVec 32 := Scalar.extui v156
  let c0_i32_77 : BitVec 32 := 0#32
  let v158 : BitVec 1 := Scalar.cmpi .ne v157 c0_i32_77
  v158

def k0_off85 (i : grid0.Coords) (k0_t3 : Fin (k0_t3_loop i).trips) : Fin 2 → Nat :=
  let arg1 : BitVec 32 := BitVec.ofNat 32 (i 1).val
  let c7_i32 : BitVec 32 := 7#32
  let v0 : BitVec 1 := Scalar.cmpi .slt arg1 c7_i32
  let c22_i32 : BitVec 32 := 22#32
  let v1 : BitVec 32 := Scalar.muli arg1 c22_i32
  let c21_i32 : BitVec 32 := 21#32
  let v2 : BitVec 32 := Scalar.muli c21_i32 arg1
  let c7_i32_0 : BitVec 32 := 7#32
  let v3 : BitVec 32 := Scalar.addi v2 c7_i32_0
  let v4 : BitVec 32 := Scalar.select v0 v1 v3
  let c1000_i32_12 : BitVec 32 := 1000#32
  let v31 : BitVec 32 := Scalar.muli v4 c1000_i32_12
  let c8_i32_72 : BitVec 32 := 8#32
  let c0_i32_19 : BitVec 32 := 0#32
  let c1_i32_21 : BitVec 32 := 1#32
  let arg38 : BitVec 32 := Scf.iv c0_i32_19 c1_i32_21 k0_t3
  let v148 : BitVec 32 := Scalar.muli c8_i32_72 arg38
  let c6_i32_73 : BitVec 32 := 6#32
  let v149 : BitVec 32 := Scalar.addi v148 c6_i32_73
  let c7_i32_75 : BitVec 32 := 7#32
  let v153 : BitVec 32 := Scalar.subi v149 c7_i32_75
  let c64_i32_87 : BitVec 32 := 64#32
  let v172 : BitVec 32 := Scalar.muli v153 c64_i32_87
  let v173 : BitVec 32 := Scalar.addi v31 v172
  let c0_i32_88 : BitVec 32 := 0#32
  ![v173.toNat, 0]
def k0_cond23 (i : grid0.Coords) (k0_t3 : Fin (k0_t3_loop i).trips) : BitVec 1 :=
  let c8_i32_78 : BitVec 32 := 8#32
  let c0_i32_19 : BitVec 32 := 0#32
  let c1_i32_21 : BitVec 32 := 1#32
  let arg38 : BitVec 32 := Scf.iv c0_i32_19 c1_i32_21 k0_t3
  let v159 : BitVec 32 := Scalar.muli c8_i32_78 arg38
  let c7_i32_79 : BitVec 32 := 7#32
  let v160 : BitVec 32 := Scalar.addi v159 c7_i32_79
  let arg0 : BitVec 32 := BitVec.ofNat 32 (i 0).val
  let c0_i32 : BitVec 32 := 0#32
  let v7 : BitVec 1 := Scalar.cmpi .eq arg0 c0_i32
  let arg1 : BitVec 32 := BitVec.ofNat 32 (i 1).val
  let c7_i32_1 : BitVec 32 := 7#32
  let v5 : BitVec 1 := Scalar.cmpi .slt arg1 c7_i32_1
  let c22_i32_2 : BitVec 32 := 22#32
  let c21_i32_3 : BitVec 32 := 21#32
  let v6 : BitVec 32 := Scalar.select v5 c22_i32_2 c21_i32_3
  let c1000_i32 : BitVec 32 := 1000#32
  let v8 : BitVec 32 := Scalar.muli v6 c1000_i32
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c64_i32 : BitVec 32 := 64#32
  let c0_i32_6 : BitVec 32 := 0#32
  let v15 : BitVec 1 := Scalar.cmpi .sgt c64_i32 c0_i32_6
  let v16 : BitVec 32 := Scalar.extui v15
  let c0_i32_7 : BitVec 32 := 0#32
  let v17 : BitVec 1 := Scalar.cmpi .slt c64_i32 c0_i32_7
  let v18 : BitVec 32 := Scalar.extui v17
  let v19 : BitVec 32 := Scalar.subi v16 v18
  let v20 : BitVec 1 := Scalar.cmpi .ne v14 v19
  let v21 : BitVec 32 := Scalar.remsi v8 c64_i32
  let c0_i32_8 : BitVec 32 := 0#32
  let v22 : BitVec 1 := Scalar.cmpi .ne v21 c0_i32_8
  let v23 : BitVec 1 := Scalar.andi v20 v22
  let v9 : BitVec 32 := Scalar.divsi v8 c64_i32
  let c1_i32 : BitVec 32 := 1#32
  let v24 : BitVec 32 := Scalar.subi v9 c1_i32
  let v25 : BitVec 32 := Scalar.select v23 v24 v9
  let c0_i32_9 : BitVec 32 := 0#32
  let v26 : BitVec 32 := Scalar.select v7 v25 c0_i32_9
  let v161 : BitVec 1 := Scalar.cmpi .slt v160 v26
  let v162 : BitVec 32 := Scalar.extui v161
  let c0_i32_80 : BitVec 32 := 0#32
  let v163 : BitVec 1 := Scalar.cmpi .ne v162 c0_i32_80
  v163

def k0_off86 (i : grid0.Coords) (k0_t3 : Fin (k0_t3_loop i).trips) : Fin 1 → Nat :=
  let c8_i32_78 : BitVec 32 := 8#32
  let c0_i32_19 : BitVec 32 := 0#32
  let c1_i32_21 : BitVec 32 := 1#32
  let arg38 : BitVec 32 := Scf.iv c0_i32_19 c1_i32_21 k0_t3
  let v159 : BitVec 32 := Scalar.muli c8_i32_78 arg38
  let c7_i32_79 : BitVec 32 := 7#32
  let v160 : BitVec 32 := Scalar.addi v159 c7_i32_79
  let c64_i32_86 : BitVec 32 := 64#32
  let v173 : BitVec 32 := Scalar.muli v160 c64_i32_86
  ![v173.toNat]
def k0_cond25 (i : grid0.Coords) (k0_t3 : Fin (k0_t3_loop i).trips) : BitVec 1 :=
  let c8_i32_78 : BitVec 32 := 8#32
  let c0_i32_19 : BitVec 32 := 0#32
  let c1_i32_21 : BitVec 32 := 1#32
  let arg38 : BitVec 32 := Scf.iv c0_i32_19 c1_i32_21 k0_t3
  let v159 : BitVec 32 := Scalar.muli c8_i32_78 arg38
  let c7_i32_79 : BitVec 32 := 7#32
  let v160 : BitVec 32 := Scalar.addi v159 c7_i32_79
  let c7_i32_81 : BitVec 32 := 7#32
  let v164 : BitVec 32 := Scalar.subi v160 c7_i32_81
  let c0_i32_82 : BitVec 32 := 0#32
  let v165 : BitVec 1 := Scalar.cmpi .sge v164 c0_i32_82
  let arg0 : BitVec 32 := BitVec.ofNat 32 (i 0).val
  let c0_i32 : BitVec 32 := 0#32
  let v7 : BitVec 1 := Scalar.cmpi .eq arg0 c0_i32
  let arg1 : BitVec 32 := BitVec.ofNat 32 (i 1).val
  let c7_i32_1 : BitVec 32 := 7#32
  let v5 : BitVec 1 := Scalar.cmpi .slt arg1 c7_i32_1
  let c22_i32_2 : BitVec 32 := 22#32
  let c21_i32_3 : BitVec 32 := 21#32
  let v6 : BitVec 32 := Scalar.select v5 c22_i32_2 c21_i32_3
  let c1000_i32 : BitVec 32 := 1000#32
  let v8 : BitVec 32 := Scalar.muli v6 c1000_i32
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c64_i32 : BitVec 32 := 64#32
  let c0_i32_6 : BitVec 32 := 0#32
  let v15 : BitVec 1 := Scalar.cmpi .sgt c64_i32 c0_i32_6
  let v16 : BitVec 32 := Scalar.extui v15
  let c0_i32_7 : BitVec 32 := 0#32
  let v17 : BitVec 1 := Scalar.cmpi .slt c64_i32 c0_i32_7
  let v18 : BitVec 32 := Scalar.extui v17
  let v19 : BitVec 32 := Scalar.subi v16 v18
  let v20 : BitVec 1 := Scalar.cmpi .ne v14 v19
  let v21 : BitVec 32 := Scalar.remsi v8 c64_i32
  let c0_i32_8 : BitVec 32 := 0#32
  let v22 : BitVec 1 := Scalar.cmpi .ne v21 c0_i32_8
  let v23 : BitVec 1 := Scalar.andi v20 v22
  let v9 : BitVec 32 := Scalar.divsi v8 c64_i32
  let c1_i32 : BitVec 32 := 1#32
  let v24 : BitVec 32 := Scalar.subi v9 c1_i32
  let v25 : BitVec 32 := Scalar.select v23 v24 v9
  let c0_i32_9 : BitVec 32 := 0#32
  let v26 : BitVec 32 := Scalar.select v7 v25 c0_i32_9
  let v166 : BitVec 1 := Scalar.cmpi .slt v164 v26
  let v167 : BitVec 1 := Scalar.andi v165 v166
  let v168 : BitVec 32 := Scalar.extui v167
  let c0_i32_83 : BitVec 32 := 0#32
  let v169 : BitVec 1 := Scalar.cmpi .ne v168 c0_i32_83
  v169

def k0_off87 (i : grid0.Coords) (k0_t3 : Fin (k0_t3_loop i).trips) : Fin 2 → Nat :=
  let arg1 : BitVec 32 := BitVec.ofNat 32 (i 1).val
  let c7_i32 : BitVec 32 := 7#32
  let v0 : BitVec 1 := Scalar.cmpi .slt arg1 c7_i32
  let c22_i32 : BitVec 32 := 22#32
  let v1 : BitVec 32 := Scalar.muli arg1 c22_i32
  let c21_i32 : BitVec 32 := 21#32
  let v2 : BitVec 32 := Scalar.muli c21_i32 arg1
  let c7_i32_0 : BitVec 32 := 7#32
  let v3 : BitVec 32 := Scalar.addi v2 c7_i32_0
  let v4 : BitVec 32 := Scalar.select v0 v1 v3
  let c1000_i32_12 : BitVec 32 := 1000#32
  let v31 : BitVec 32 := Scalar.muli v4 c1000_i32_12
  let c8_i32_78 : BitVec 32 := 8#32
  let c0_i32_19 : BitVec 32 := 0#32
  let c1_i32_21 : BitVec 32 := 1#32
  let arg38 : BitVec 32 := Scf.iv c0_i32_19 c1_i32_21 k0_t3
  let v159 : BitVec 32 := Scalar.muli c8_i32_78 arg38
  let c7_i32_79 : BitVec 32 := 7#32
  let v160 : BitVec 32 := Scalar.addi v159 c7_i32_79
  let c7_i32_81 : BitVec 32 := 7#32
  let v164 : BitVec 32 := Scalar.subi v160 c7_i32_81
  let c64_i32_87 : BitVec 32 := 64#32
  let v172 : BitVec 32 := Scalar.muli v164 c64_i32_87
  let v173 : BitVec 32 := Scalar.addi v31 v172
  let c0_i32_88 : BitVec 32 := 0#32
  ![v173.toNat, 0]
@[reducible] def k0_t4_loop (i : grid0.Coords) : Scf.Loop 32 :=
  let c0_i32_19 : BitVec 32 := 0#32
  let arg0 : BitVec 32 := BitVec.ofNat 32 (i 0).val
  let c0_i32 : BitVec 32 := 0#32
  let v7 : BitVec 1 := Scalar.cmpi .eq arg0 c0_i32
  let arg1 : BitVec 32 := BitVec.ofNat 32 (i 1).val
  let c7_i32_1 : BitVec 32 := 7#32
  let v5 : BitVec 1 := Scalar.cmpi .slt arg1 c7_i32_1
  let c22_i32_2 : BitVec 32 := 22#32
  let c21_i32_3 : BitVec 32 := 21#32
  let v6 : BitVec 32 := Scalar.select v5 c22_i32_2 c21_i32_3
  let c1000_i32 : BitVec 32 := 1000#32
  let v8 : BitVec 32 := Scalar.muli v6 c1000_i32
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c64_i32 : BitVec 32 := 64#32
  let c0_i32_6 : BitVec 32 := 0#32
  let v15 : BitVec 1 := Scalar.cmpi .sgt c64_i32 c0_i32_6
  let v16 : BitVec 32 := Scalar.extui v15
  let c0_i32_7 : BitVec 32 := 0#32
  let v17 : BitVec 1 := Scalar.cmpi .slt c64_i32 c0_i32_7
  let v18 : BitVec 32 := Scalar.extui v17
  let v19 : BitVec 32 := Scalar.subi v16 v18
  let v20 : BitVec 1 := Scalar.cmpi .ne v14 v19
  let v21 : BitVec 32 := Scalar.remsi v8 c64_i32
  let c0_i32_8 : BitVec 32 := 0#32
  let v22 : BitVec 1 := Scalar.cmpi .ne v21 c0_i32_8
  let v23 : BitVec 1 := Scalar.andi v20 v22
  let v9 : BitVec 32 := Scalar.divsi v8 c64_i32
  let c1_i32 : BitVec 32 := 1#32
  let v24 : BitVec 32 := Scalar.subi v9 c1_i32
  let v25 : BitVec 32 := Scalar.select v23 v24 v9
  let c0_i32_9 : BitVec 32 := 0#32
  let v26 : BitVec 32 := Scalar.select v7 v25 c0_i32_9
  let c14_i32 : BitVec 32 := 14#32
  let v32 : BitVec 32 := Scalar.addi v26 c14_i32
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c8_i32 : BitVec 32 := 8#32
  let c0_i32_15 : BitVec 32 := 0#32
  let v39 : BitVec 1 := Scalar.cmpi .sgt c8_i32 c0_i32_15
  let v40 : BitVec 32 := Scalar.extui v39
  let c0_i32_16 : BitVec 32 := 0#32
  let v41 : BitVec 1 := Scalar.cmpi .slt c8_i32 c0_i32_16
  let v42 : BitVec 32 := Scalar.extui v41
  let v43 : BitVec 32 := Scalar.subi v40 v42
  let v44 : BitVec 1 := Scalar.cmpi .ne v38 v43
  let v45 : BitVec 32 := Scalar.remsi v32 c8_i32
  let c0_i32_17 : BitVec 32 := 0#32
  let v46 : BitVec 1 := Scalar.cmpi .ne v45 c0_i32_17
  let v47 : BitVec 1 := Scalar.andi v44 v46
  let v33 : BitVec 32 := Scalar.divsi v32 c8_i32
  let c1_i32_18 : BitVec 32 := 1#32
  let v48 : BitVec 32 := Scalar.subi v33 c1_i32_18
  let v49 : BitVec 32 := Scalar.select v47 v48 v33
  let v50 : BitVec 32 := Scalar.subi v49 c0_i32_19
  let c1_i32_20 : BitVec 32 := 1#32
  let v52 : BitVec 32 := Scalar.divsi v50 c1_i32_20
  let v53 : BitVec 32 := Scalar.muli v52 c1_i32_20
  let v54 : BitVec 32 := Scalar.addi c0_i32_19 v53
  let v51 : BitVec 32 := Scalar.addi c0_i32_19 v50
  let c1_i32_22 : BitVec 32 := 1#32
  ⟨v54, v51, c1_i32_22⟩
def k0_cond26 (i : grid0.Coords) (k0_t4 : Fin (k0_t4_loop i).trips) : BitVec 1 :=
  let c8_i32_36 : BitVec 32 := 8#32
  let c0_i32_19 : BitVec 32 := 0#32
  let arg0 : BitVec 32 := BitVec.ofNat 32 (i 0).val
  let c0_i32 : BitVec 32 := 0#32
  let v7 : BitVec 1 := Scalar.cmpi .eq arg0 c0_i32
  let arg1 : BitVec 32 := BitVec.ofNat 32 (i 1).val
  let c7_i32_1 : BitVec 32 := 7#32
  let v5 : BitVec 1 := Scalar.cmpi .slt arg1 c7_i32_1
  let c22_i32_2 : BitVec 32 := 22#32
  let c21_i32_3 : BitVec 32 := 21#32
  let v6 : BitVec 32 := Scalar.select v5 c22_i32_2 c21_i32_3
  let c1000_i32 : BitVec 32 := 1000#32
  let v8 : BitVec 32 := Scalar.muli v6 c1000_i32
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c64_i32 : BitVec 32 := 64#32
  let c0_i32_6 : BitVec 32 := 0#32
  let v15 : BitVec 1 := Scalar.cmpi .sgt c64_i32 c0_i32_6
  let v16 : BitVec 32 := Scalar.extui v15
  let c0_i32_7 : BitVec 32 := 0#32
  let v17 : BitVec 1 := Scalar.cmpi .slt c64_i32 c0_i32_7
  let v18 : BitVec 32 := Scalar.extui v17
  let v19 : BitVec 32 := Scalar.subi v16 v18
  let v20 : BitVec 1 := Scalar.cmpi .ne v14 v19
  let v21 : BitVec 32 := Scalar.remsi v8 c64_i32
  let c0_i32_8 : BitVec 32 := 0#32
  let v22 : BitVec 1 := Scalar.cmpi .ne v21 c0_i32_8
  let v23 : BitVec 1 := Scalar.andi v20 v22
  let v9 : BitVec 32 := Scalar.divsi v8 c64_i32
  let c1_i32 : BitVec 32 := 1#32
  let v24 : BitVec 32 := Scalar.subi v9 c1_i32
  let v25 : BitVec 32 := Scalar.select v23 v24 v9
  let c0_i32_9 : BitVec 32 := 0#32
  let v26 : BitVec 32 := Scalar.select v7 v25 c0_i32_9
  let c14_i32 : BitVec 32 := 14#32
  let v32 : BitVec 32 := Scalar.addi v26 c14_i32
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c8_i32 : BitVec 32 := 8#32
  let c0_i32_15 : BitVec 32 := 0#32
  let v39 : BitVec 1 := Scalar.cmpi .sgt c8_i32 c0_i32_15
  let v40 : BitVec 32 := Scalar.extui v39
  let c0_i32_16 : BitVec 32 := 0#32
  let v41 : BitVec 1 := Scalar.cmpi .slt c8_i32 c0_i32_16
  let v42 : BitVec 32 := Scalar.extui v41
  let v43 : BitVec 32 := Scalar.subi v40 v42
  let v44 : BitVec 1 := Scalar.cmpi .ne v38 v43
  let v45 : BitVec 32 := Scalar.remsi v32 c8_i32
  let c0_i32_17 : BitVec 32 := 0#32
  let v46 : BitVec 1 := Scalar.cmpi .ne v45 c0_i32_17
  let v47 : BitVec 1 := Scalar.andi v44 v46
  let v33 : BitVec 32 := Scalar.divsi v32 c8_i32
  let c1_i32_18 : BitVec 32 := 1#32
  let v48 : BitVec 32 := Scalar.subi v33 c1_i32_18
  let v49 : BitVec 32 := Scalar.select v47 v48 v33
  let v50 : BitVec 32 := Scalar.subi v49 c0_i32_19
  let c1_i32_20 : BitVec 32 := 1#32
  let v52 : BitVec 32 := Scalar.divsi v50 c1_i32_20
  let v53 : BitVec 32 := Scalar.muli v52 c1_i32_20
  let v54 : BitVec 32 := Scalar.addi c0_i32_19 v53
  let c1_i32_22 : BitVec 32 := 1#32
  let arg38 : BitVec 32 := Scf.iv v54 c1_i32_22 k0_t4
  let v82 : BitVec 32 := Scalar.muli c8_i32_36 arg38
  let c0_i32_37 : BitVec 32 := 0#32
  let v83 : BitVec 32 := Scalar.addi v82 c0_i32_37
  let v84 : BitVec 1 := Scalar.cmpi .slt v83 v26
  let v85 : BitVec 32 := Scalar.extui v84
  let c0_i32_38 : BitVec 32 := 0#32
  let v86 : BitVec 1 := Scalar.cmpi .ne v85 c0_i32_38
  v86

def k0_off88 (i : grid0.Coords) (k0_t4 : Fin (k0_t4_loop i).trips) : Fin 1 → Nat :=
  let c8_i32_36 : BitVec 32 := 8#32
  let c0_i32_19 : BitVec 32 := 0#32
  let arg0 : BitVec 32 := BitVec.ofNat 32 (i 0).val
  let c0_i32 : BitVec 32 := 0#32
  let v7 : BitVec 1 := Scalar.cmpi .eq arg0 c0_i32
  let arg1 : BitVec 32 := BitVec.ofNat 32 (i 1).val
  let c7_i32_1 : BitVec 32 := 7#32
  let v5 : BitVec 1 := Scalar.cmpi .slt arg1 c7_i32_1
  let c22_i32_2 : BitVec 32 := 22#32
  let c21_i32_3 : BitVec 32 := 21#32
  let v6 : BitVec 32 := Scalar.select v5 c22_i32_2 c21_i32_3
  let c1000_i32 : BitVec 32 := 1000#32
  let v8 : BitVec 32 := Scalar.muli v6 c1000_i32
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c64_i32 : BitVec 32 := 64#32
  let c0_i32_6 : BitVec 32 := 0#32
  let v15 : BitVec 1 := Scalar.cmpi .sgt c64_i32 c0_i32_6
  let v16 : BitVec 32 := Scalar.extui v15
  let c0_i32_7 : BitVec 32 := 0#32
  let v17 : BitVec 1 := Scalar.cmpi .slt c64_i32 c0_i32_7
  let v18 : BitVec 32 := Scalar.extui v17
  let v19 : BitVec 32 := Scalar.subi v16 v18
  let v20 : BitVec 1 := Scalar.cmpi .ne v14 v19
  let v21 : BitVec 32 := Scalar.remsi v8 c64_i32
  let c0_i32_8 : BitVec 32 := 0#32
  let v22 : BitVec 1 := Scalar.cmpi .ne v21 c0_i32_8
  let v23 : BitVec 1 := Scalar.andi v20 v22
  let v9 : BitVec 32 := Scalar.divsi v8 c64_i32
  let c1_i32 : BitVec 32 := 1#32
  let v24 : BitVec 32 := Scalar.subi v9 c1_i32
  let v25 : BitVec 32 := Scalar.select v23 v24 v9
  let c0_i32_9 : BitVec 32 := 0#32
  let v26 : BitVec 32 := Scalar.select v7 v25 c0_i32_9
  let c14_i32 : BitVec 32 := 14#32
  let v32 : BitVec 32 := Scalar.addi v26 c14_i32
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c8_i32 : BitVec 32 := 8#32
  let c0_i32_15 : BitVec 32 := 0#32
  let v39 : BitVec 1 := Scalar.cmpi .sgt c8_i32 c0_i32_15
  let v40 : BitVec 32 := Scalar.extui v39
  let c0_i32_16 : BitVec 32 := 0#32
  let v41 : BitVec 1 := Scalar.cmpi .slt c8_i32 c0_i32_16
  let v42 : BitVec 32 := Scalar.extui v41
  let v43 : BitVec 32 := Scalar.subi v40 v42
  let v44 : BitVec 1 := Scalar.cmpi .ne v38 v43
  let v45 : BitVec 32 := Scalar.remsi v32 c8_i32
  let c0_i32_17 : BitVec 32 := 0#32
  let v46 : BitVec 1 := Scalar.cmpi .ne v45 c0_i32_17
  let v47 : BitVec 1 := Scalar.andi v44 v46
  let v33 : BitVec 32 := Scalar.divsi v32 c8_i32
  let c1_i32_18 : BitVec 32 := 1#32
  let v48 : BitVec 32 := Scalar.subi v33 c1_i32_18
  let v49 : BitVec 32 := Scalar.select v47 v48 v33
  let v50 : BitVec 32 := Scalar.subi v49 c0_i32_19
  let c1_i32_20 : BitVec 32 := 1#32
  let v52 : BitVec 32 := Scalar.divsi v50 c1_i32_20
  let v53 : BitVec 32 := Scalar.muli v52 c1_i32_20
  let v54 : BitVec 32 := Scalar.addi c0_i32_19 v53
  let c1_i32_22 : BitVec 32 := 1#32
  let arg38 : BitVec 32 := Scf.iv v54 c1_i32_22 k0_t4
  let v82 : BitVec 32 := Scalar.muli c8_i32_36 arg38
  let c0_i32_37 : BitVec 32 := 0#32
  let v83 : BitVec 32 := Scalar.addi v82 c0_i32_37
  let c64_i32_86 : BitVec 32 := 64#32
  let v173 : BitVec 32 := Scalar.muli v83 c64_i32_86
  ![v173.toNat]
def k0_cond28 (i : grid0.Coords) (k0_t4 : Fin (k0_t4_loop i).trips) : BitVec 1 :=
  let c8_i32_36 : BitVec 32 := 8#32
  let c0_i32_19 : BitVec 32 := 0#32
  let arg0 : BitVec 32 := BitVec.ofNat 32 (i 0).val
  let c0_i32 : BitVec 32 := 0#32
  let v7 : BitVec 1 := Scalar.cmpi .eq arg0 c0_i32
  let arg1 : BitVec 32 := BitVec.ofNat 32 (i 1).val
  let c7_i32_1 : BitVec 32 := 7#32
  let v5 : BitVec 1 := Scalar.cmpi .slt arg1 c7_i32_1
  let c22_i32_2 : BitVec 32 := 22#32
  let c21_i32_3 : BitVec 32 := 21#32
  let v6 : BitVec 32 := Scalar.select v5 c22_i32_2 c21_i32_3
  let c1000_i32 : BitVec 32 := 1000#32
  let v8 : BitVec 32 := Scalar.muli v6 c1000_i32
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c64_i32 : BitVec 32 := 64#32
  let c0_i32_6 : BitVec 32 := 0#32
  let v15 : BitVec 1 := Scalar.cmpi .sgt c64_i32 c0_i32_6
  let v16 : BitVec 32 := Scalar.extui v15
  let c0_i32_7 : BitVec 32 := 0#32
  let v17 : BitVec 1 := Scalar.cmpi .slt c64_i32 c0_i32_7
  let v18 : BitVec 32 := Scalar.extui v17
  let v19 : BitVec 32 := Scalar.subi v16 v18
  let v20 : BitVec 1 := Scalar.cmpi .ne v14 v19
  let v21 : BitVec 32 := Scalar.remsi v8 c64_i32
  let c0_i32_8 : BitVec 32 := 0#32
  let v22 : BitVec 1 := Scalar.cmpi .ne v21 c0_i32_8
  let v23 : BitVec 1 := Scalar.andi v20 v22
  let v9 : BitVec 32 := Scalar.divsi v8 c64_i32
  let c1_i32 : BitVec 32 := 1#32
  let v24 : BitVec 32 := Scalar.subi v9 c1_i32
  let v25 : BitVec 32 := Scalar.select v23 v24 v9
  let c0_i32_9 : BitVec 32 := 0#32
  let v26 : BitVec 32 := Scalar.select v7 v25 c0_i32_9
  let c14_i32 : BitVec 32 := 14#32
  let v32 : BitVec 32 := Scalar.addi v26 c14_i32
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c8_i32 : BitVec 32 := 8#32
  let c0_i32_15 : BitVec 32 := 0#32
  let v39 : BitVec 1 := Scalar.cmpi .sgt c8_i32 c0_i32_15
  let v40 : BitVec 32 := Scalar.extui v39
  let c0_i32_16 : BitVec 32 := 0#32
  let v41 : BitVec 1 := Scalar.cmpi .slt c8_i32 c0_i32_16
  let v42 : BitVec 32 := Scalar.extui v41
  let v43 : BitVec 32 := Scalar.subi v40 v42
  let v44 : BitVec 1 := Scalar.cmpi .ne v38 v43
  let v45 : BitVec 32 := Scalar.remsi v32 c8_i32
  let c0_i32_17 : BitVec 32 := 0#32
  let v46 : BitVec 1 := Scalar.cmpi .ne v45 c0_i32_17
  let v47 : BitVec 1 := Scalar.andi v44 v46
  let v33 : BitVec 32 := Scalar.divsi v32 c8_i32
  let c1_i32_18 : BitVec 32 := 1#32
  let v48 : BitVec 32 := Scalar.subi v33 c1_i32_18
  let v49 : BitVec 32 := Scalar.select v47 v48 v33
  let v50 : BitVec 32 := Scalar.subi v49 c0_i32_19
  let c1_i32_20 : BitVec 32 := 1#32
  let v52 : BitVec 32 := Scalar.divsi v50 c1_i32_20
  let v53 : BitVec 32 := Scalar.muli v52 c1_i32_20
  let v54 : BitVec 32 := Scalar.addi c0_i32_19 v53
  let c1_i32_22 : BitVec 32 := 1#32
  let arg38 : BitVec 32 := Scf.iv v54 c1_i32_22 k0_t4
  let v82 : BitVec 32 := Scalar.muli c8_i32_36 arg38
  let c0_i32_37 : BitVec 32 := 0#32
  let v83 : BitVec 32 := Scalar.addi v82 c0_i32_37
  let c7_i32_39 : BitVec 32 := 7#32
  let v87 : BitVec 32 := Scalar.subi v83 c7_i32_39
  let c0_i32_40 : BitVec 32 := 0#32
  let v88 : BitVec 1 := Scalar.cmpi .sge v87 c0_i32_40
  let v89 : BitVec 1 := Scalar.cmpi .slt v87 v26
  let v90 : BitVec 1 := Scalar.andi v88 v89
  let v91 : BitVec 32 := Scalar.extui v90
  let c0_i32_41 : BitVec 32 := 0#32
  let v92 : BitVec 1 := Scalar.cmpi .ne v91 c0_i32_41
  v92

def k0_off89 (i : grid0.Coords) (k0_t4 : Fin (k0_t4_loop i).trips) : Fin 2 → Nat :=
  let arg1 : BitVec 32 := BitVec.ofNat 32 (i 1).val
  let c7_i32 : BitVec 32 := 7#32
  let v0 : BitVec 1 := Scalar.cmpi .slt arg1 c7_i32
  let c22_i32 : BitVec 32 := 22#32
  let v1 : BitVec 32 := Scalar.muli arg1 c22_i32
  let c21_i32 : BitVec 32 := 21#32
  let v2 : BitVec 32 := Scalar.muli c21_i32 arg1
  let c7_i32_0 : BitVec 32 := 7#32
  let v3 : BitVec 32 := Scalar.addi v2 c7_i32_0
  let v4 : BitVec 32 := Scalar.select v0 v1 v3
  let c1000_i32_12 : BitVec 32 := 1000#32
  let v31 : BitVec 32 := Scalar.muli v4 c1000_i32_12
  let c8_i32_36 : BitVec 32 := 8#32
  let c0_i32_19 : BitVec 32 := 0#32
  let arg0 : BitVec 32 := BitVec.ofNat 32 (i 0).val
  let c0_i32 : BitVec 32 := 0#32
  let v7 : BitVec 1 := Scalar.cmpi .eq arg0 c0_i32
  let c7_i32_1 : BitVec 32 := 7#32
  let v5 : BitVec 1 := Scalar.cmpi .slt arg1 c7_i32_1
  let c22_i32_2 : BitVec 32 := 22#32
  let c21_i32_3 : BitVec 32 := 21#32
  let v6 : BitVec 32 := Scalar.select v5 c22_i32_2 c21_i32_3
  let c1000_i32 : BitVec 32 := 1000#32
  let v8 : BitVec 32 := Scalar.muli v6 c1000_i32
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c64_i32 : BitVec 32 := 64#32
  let c0_i32_6 : BitVec 32 := 0#32
  let v15 : BitVec 1 := Scalar.cmpi .sgt c64_i32 c0_i32_6
  let v16 : BitVec 32 := Scalar.extui v15
  let c0_i32_7 : BitVec 32 := 0#32
  let v17 : BitVec 1 := Scalar.cmpi .slt c64_i32 c0_i32_7
  let v18 : BitVec 32 := Scalar.extui v17
  let v19 : BitVec 32 := Scalar.subi v16 v18
  let v20 : BitVec 1 := Scalar.cmpi .ne v14 v19
  let v21 : BitVec 32 := Scalar.remsi v8 c64_i32
  let c0_i32_8 : BitVec 32 := 0#32
  let v22 : BitVec 1 := Scalar.cmpi .ne v21 c0_i32_8
  let v23 : BitVec 1 := Scalar.andi v20 v22
  let v9 : BitVec 32 := Scalar.divsi v8 c64_i32
  let c1_i32 : BitVec 32 := 1#32
  let v24 : BitVec 32 := Scalar.subi v9 c1_i32
  let v25 : BitVec 32 := Scalar.select v23 v24 v9
  let c0_i32_9 : BitVec 32 := 0#32
  let v26 : BitVec 32 := Scalar.select v7 v25 c0_i32_9
  let c14_i32 : BitVec 32 := 14#32
  let v32 : BitVec 32 := Scalar.addi v26 c14_i32
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c8_i32 : BitVec 32 := 8#32
  let c0_i32_15 : BitVec 32 := 0#32
  let v39 : BitVec 1 := Scalar.cmpi .sgt c8_i32 c0_i32_15
  let v40 : BitVec 32 := Scalar.extui v39
  let c0_i32_16 : BitVec 32 := 0#32
  let v41 : BitVec 1 := Scalar.cmpi .slt c8_i32 c0_i32_16
  let v42 : BitVec 32 := Scalar.extui v41
  let v43 : BitVec 32 := Scalar.subi v40 v42
  let v44 : BitVec 1 := Scalar.cmpi .ne v38 v43
  let v45 : BitVec 32 := Scalar.remsi v32 c8_i32
  let c0_i32_17 : BitVec 32 := 0#32
  let v46 : BitVec 1 := Scalar.cmpi .ne v45 c0_i32_17
  let v47 : BitVec 1 := Scalar.andi v44 v46
  let v33 : BitVec 32 := Scalar.divsi v32 c8_i32
  let c1_i32_18 : BitVec 32 := 1#32
  let v48 : BitVec 32 := Scalar.subi v33 c1_i32_18
  let v49 : BitVec 32 := Scalar.select v47 v48 v33
  let v50 : BitVec 32 := Scalar.subi v49 c0_i32_19
  let c1_i32_20 : BitVec 32 := 1#32
  let v52 : BitVec 32 := Scalar.divsi v50 c1_i32_20
  let v53 : BitVec 32 := Scalar.muli v52 c1_i32_20
  let v54 : BitVec 32 := Scalar.addi c0_i32_19 v53
  let c1_i32_22 : BitVec 32 := 1#32
  let arg38 : BitVec 32 := Scf.iv v54 c1_i32_22 k0_t4
  let v82 : BitVec 32 := Scalar.muli c8_i32_36 arg38
  let c0_i32_37 : BitVec 32 := 0#32
  let v83 : BitVec 32 := Scalar.addi v82 c0_i32_37
  let c7_i32_39 : BitVec 32 := 7#32
  let v87 : BitVec 32 := Scalar.subi v83 c7_i32_39
  let c64_i32_87 : BitVec 32 := 64#32
  let v172 : BitVec 32 := Scalar.muli v87 c64_i32_87
  let v173 : BitVec 32 := Scalar.addi v31 v172
  let c0_i32_88 : BitVec 32 := 0#32
  ![v173.toNat, 0]
def k0_cond29 (i : grid0.Coords) (k0_t4 : Fin (k0_t4_loop i).trips) : BitVec 1 :=
  let c8_i32_42 : BitVec 32 := 8#32
  let c0_i32_19 : BitVec 32 := 0#32
  let arg0 : BitVec 32 := BitVec.ofNat 32 (i 0).val
  let c0_i32 : BitVec 32 := 0#32
  let v7 : BitVec 1 := Scalar.cmpi .eq arg0 c0_i32
  let arg1 : BitVec 32 := BitVec.ofNat 32 (i 1).val
  let c7_i32_1 : BitVec 32 := 7#32
  let v5 : BitVec 1 := Scalar.cmpi .slt arg1 c7_i32_1
  let c22_i32_2 : BitVec 32 := 22#32
  let c21_i32_3 : BitVec 32 := 21#32
  let v6 : BitVec 32 := Scalar.select v5 c22_i32_2 c21_i32_3
  let c1000_i32 : BitVec 32 := 1000#32
  let v8 : BitVec 32 := Scalar.muli v6 c1000_i32
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c64_i32 : BitVec 32 := 64#32
  let c0_i32_6 : BitVec 32 := 0#32
  let v15 : BitVec 1 := Scalar.cmpi .sgt c64_i32 c0_i32_6
  let v16 : BitVec 32 := Scalar.extui v15
  let c0_i32_7 : BitVec 32 := 0#32
  let v17 : BitVec 1 := Scalar.cmpi .slt c64_i32 c0_i32_7
  let v18 : BitVec 32 := Scalar.extui v17
  let v19 : BitVec 32 := Scalar.subi v16 v18
  let v20 : BitVec 1 := Scalar.cmpi .ne v14 v19
  let v21 : BitVec 32 := Scalar.remsi v8 c64_i32
  let c0_i32_8 : BitVec 32 := 0#32
  let v22 : BitVec 1 := Scalar.cmpi .ne v21 c0_i32_8
  let v23 : BitVec 1 := Scalar.andi v20 v22
  let v9 : BitVec 32 := Scalar.divsi v8 c64_i32
  let c1_i32 : BitVec 32 := 1#32
  let v24 : BitVec 32 := Scalar.subi v9 c1_i32
  let v25 : BitVec 32 := Scalar.select v23 v24 v9
  let c0_i32_9 : BitVec 32 := 0#32
  let v26 : BitVec 32 := Scalar.select v7 v25 c0_i32_9
  let c14_i32 : BitVec 32 := 14#32
  let v32 : BitVec 32 := Scalar.addi v26 c14_i32
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c8_i32 : BitVec 32 := 8#32
  let c0_i32_15 : BitVec 32 := 0#32
  let v39 : BitVec 1 := Scalar.cmpi .sgt c8_i32 c0_i32_15
  let v40 : BitVec 32 := Scalar.extui v39
  let c0_i32_16 : BitVec 32 := 0#32
  let v41 : BitVec 1 := Scalar.cmpi .slt c8_i32 c0_i32_16
  let v42 : BitVec 32 := Scalar.extui v41
  let v43 : BitVec 32 := Scalar.subi v40 v42
  let v44 : BitVec 1 := Scalar.cmpi .ne v38 v43
  let v45 : BitVec 32 := Scalar.remsi v32 c8_i32
  let c0_i32_17 : BitVec 32 := 0#32
  let v46 : BitVec 1 := Scalar.cmpi .ne v45 c0_i32_17
  let v47 : BitVec 1 := Scalar.andi v44 v46
  let v33 : BitVec 32 := Scalar.divsi v32 c8_i32
  let c1_i32_18 : BitVec 32 := 1#32
  let v48 : BitVec 32 := Scalar.subi v33 c1_i32_18
  let v49 : BitVec 32 := Scalar.select v47 v48 v33
  let v50 : BitVec 32 := Scalar.subi v49 c0_i32_19
  let c1_i32_20 : BitVec 32 := 1#32
  let v52 : BitVec 32 := Scalar.divsi v50 c1_i32_20
  let v53 : BitVec 32 := Scalar.muli v52 c1_i32_20
  let v54 : BitVec 32 := Scalar.addi c0_i32_19 v53
  let c1_i32_22 : BitVec 32 := 1#32
  let arg38 : BitVec 32 := Scf.iv v54 c1_i32_22 k0_t4
  let v93 : BitVec 32 := Scalar.muli c8_i32_42 arg38
  let c1_i32_43 : BitVec 32 := 1#32
  let v94 : BitVec 32 := Scalar.addi v93 c1_i32_43
  let v95 : BitVec 1 := Scalar.cmpi .slt v94 v26
  let v96 : BitVec 32 := Scalar.extui v95
  let c0_i32_44 : BitVec 32 := 0#32
  let v97 : BitVec 1 := Scalar.cmpi .ne v96 c0_i32_44
  v97

def k0_off90 (i : grid0.Coords) (k0_t4 : Fin (k0_t4_loop i).trips) : Fin 1 → Nat :=
  let c8_i32_42 : BitVec 32 := 8#32
  let c0_i32_19 : BitVec 32 := 0#32
  let arg0 : BitVec 32 := BitVec.ofNat 32 (i 0).val
  let c0_i32 : BitVec 32 := 0#32
  let v7 : BitVec 1 := Scalar.cmpi .eq arg0 c0_i32
  let arg1 : BitVec 32 := BitVec.ofNat 32 (i 1).val
  let c7_i32_1 : BitVec 32 := 7#32
  let v5 : BitVec 1 := Scalar.cmpi .slt arg1 c7_i32_1
  let c22_i32_2 : BitVec 32 := 22#32
  let c21_i32_3 : BitVec 32 := 21#32
  let v6 : BitVec 32 := Scalar.select v5 c22_i32_2 c21_i32_3
  let c1000_i32 : BitVec 32 := 1000#32
  let v8 : BitVec 32 := Scalar.muli v6 c1000_i32
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c64_i32 : BitVec 32 := 64#32
  let c0_i32_6 : BitVec 32 := 0#32
  let v15 : BitVec 1 := Scalar.cmpi .sgt c64_i32 c0_i32_6
  let v16 : BitVec 32 := Scalar.extui v15
  let c0_i32_7 : BitVec 32 := 0#32
  let v17 : BitVec 1 := Scalar.cmpi .slt c64_i32 c0_i32_7
  let v18 : BitVec 32 := Scalar.extui v17
  let v19 : BitVec 32 := Scalar.subi v16 v18
  let v20 : BitVec 1 := Scalar.cmpi .ne v14 v19
  let v21 : BitVec 32 := Scalar.remsi v8 c64_i32
  let c0_i32_8 : BitVec 32 := 0#32
  let v22 : BitVec 1 := Scalar.cmpi .ne v21 c0_i32_8
  let v23 : BitVec 1 := Scalar.andi v20 v22
  let v9 : BitVec 32 := Scalar.divsi v8 c64_i32
  let c1_i32 : BitVec 32 := 1#32
  let v24 : BitVec 32 := Scalar.subi v9 c1_i32
  let v25 : BitVec 32 := Scalar.select v23 v24 v9
  let c0_i32_9 : BitVec 32 := 0#32
  let v26 : BitVec 32 := Scalar.select v7 v25 c0_i32_9
  let c14_i32 : BitVec 32 := 14#32
  let v32 : BitVec 32 := Scalar.addi v26 c14_i32
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c8_i32 : BitVec 32 := 8#32
  let c0_i32_15 : BitVec 32 := 0#32
  let v39 : BitVec 1 := Scalar.cmpi .sgt c8_i32 c0_i32_15
  let v40 : BitVec 32 := Scalar.extui v39
  let c0_i32_16 : BitVec 32 := 0#32
  let v41 : BitVec 1 := Scalar.cmpi .slt c8_i32 c0_i32_16
  let v42 : BitVec 32 := Scalar.extui v41
  let v43 : BitVec 32 := Scalar.subi v40 v42
  let v44 : BitVec 1 := Scalar.cmpi .ne v38 v43
  let v45 : BitVec 32 := Scalar.remsi v32 c8_i32
  let c0_i32_17 : BitVec 32 := 0#32
  let v46 : BitVec 1 := Scalar.cmpi .ne v45 c0_i32_17
  let v47 : BitVec 1 := Scalar.andi v44 v46
  let v33 : BitVec 32 := Scalar.divsi v32 c8_i32
  let c1_i32_18 : BitVec 32 := 1#32
  let v48 : BitVec 32 := Scalar.subi v33 c1_i32_18
  let v49 : BitVec 32 := Scalar.select v47 v48 v33
  let v50 : BitVec 32 := Scalar.subi v49 c0_i32_19
  let c1_i32_20 : BitVec 32 := 1#32
  let v52 : BitVec 32 := Scalar.divsi v50 c1_i32_20
  let v53 : BitVec 32 := Scalar.muli v52 c1_i32_20
  let v54 : BitVec 32 := Scalar.addi c0_i32_19 v53
  let c1_i32_22 : BitVec 32 := 1#32
  let arg38 : BitVec 32 := Scf.iv v54 c1_i32_22 k0_t4
  let v93 : BitVec 32 := Scalar.muli c8_i32_42 arg38
  let c1_i32_43 : BitVec 32 := 1#32
  let v94 : BitVec 32 := Scalar.addi v93 c1_i32_43
  let c64_i32_86 : BitVec 32 := 64#32
  let v173 : BitVec 32 := Scalar.muli v94 c64_i32_86
  ![v173.toNat]
def k0_cond31 (i : grid0.Coords) (k0_t4 : Fin (k0_t4_loop i).trips) : BitVec 1 :=
  let c8_i32_42 : BitVec 32 := 8#32
  let c0_i32_19 : BitVec 32 := 0#32
  let arg0 : BitVec 32 := BitVec.ofNat 32 (i 0).val
  let c0_i32 : BitVec 32 := 0#32
  let v7 : BitVec 1 := Scalar.cmpi .eq arg0 c0_i32
  let arg1 : BitVec 32 := BitVec.ofNat 32 (i 1).val
  let c7_i32_1 : BitVec 32 := 7#32
  let v5 : BitVec 1 := Scalar.cmpi .slt arg1 c7_i32_1
  let c22_i32_2 : BitVec 32 := 22#32
  let c21_i32_3 : BitVec 32 := 21#32
  let v6 : BitVec 32 := Scalar.select v5 c22_i32_2 c21_i32_3
  let c1000_i32 : BitVec 32 := 1000#32
  let v8 : BitVec 32 := Scalar.muli v6 c1000_i32
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c64_i32 : BitVec 32 := 64#32
  let c0_i32_6 : BitVec 32 := 0#32
  let v15 : BitVec 1 := Scalar.cmpi .sgt c64_i32 c0_i32_6
  let v16 : BitVec 32 := Scalar.extui v15
  let c0_i32_7 : BitVec 32 := 0#32
  let v17 : BitVec 1 := Scalar.cmpi .slt c64_i32 c0_i32_7
  let v18 : BitVec 32 := Scalar.extui v17
  let v19 : BitVec 32 := Scalar.subi v16 v18
  let v20 : BitVec 1 := Scalar.cmpi .ne v14 v19
  let v21 : BitVec 32 := Scalar.remsi v8 c64_i32
  let c0_i32_8 : BitVec 32 := 0#32
  let v22 : BitVec 1 := Scalar.cmpi .ne v21 c0_i32_8
  let v23 : BitVec 1 := Scalar.andi v20 v22
  let v9 : BitVec 32 := Scalar.divsi v8 c64_i32
  let c1_i32 : BitVec 32 := 1#32
  let v24 : BitVec 32 := Scalar.subi v9 c1_i32
  let v25 : BitVec 32 := Scalar.select v23 v24 v9
  let c0_i32_9 : BitVec 32 := 0#32
  let v26 : BitVec 32 := Scalar.select v7 v25 c0_i32_9
  let c14_i32 : BitVec 32 := 14#32
  let v32 : BitVec 32 := Scalar.addi v26 c14_i32
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c8_i32 : BitVec 32 := 8#32
  let c0_i32_15 : BitVec 32 := 0#32
  let v39 : BitVec 1 := Scalar.cmpi .sgt c8_i32 c0_i32_15
  let v40 : BitVec 32 := Scalar.extui v39
  let c0_i32_16 : BitVec 32 := 0#32
  let v41 : BitVec 1 := Scalar.cmpi .slt c8_i32 c0_i32_16
  let v42 : BitVec 32 := Scalar.extui v41
  let v43 : BitVec 32 := Scalar.subi v40 v42
  let v44 : BitVec 1 := Scalar.cmpi .ne v38 v43
  let v45 : BitVec 32 := Scalar.remsi v32 c8_i32
  let c0_i32_17 : BitVec 32 := 0#32
  let v46 : BitVec 1 := Scalar.cmpi .ne v45 c0_i32_17
  let v47 : BitVec 1 := Scalar.andi v44 v46
  let v33 : BitVec 32 := Scalar.divsi v32 c8_i32
  let c1_i32_18 : BitVec 32 := 1#32
  let v48 : BitVec 32 := Scalar.subi v33 c1_i32_18
  let v49 : BitVec 32 := Scalar.select v47 v48 v33
  let v50 : BitVec 32 := Scalar.subi v49 c0_i32_19
  let c1_i32_20 : BitVec 32 := 1#32
  let v52 : BitVec 32 := Scalar.divsi v50 c1_i32_20
  let v53 : BitVec 32 := Scalar.muli v52 c1_i32_20
  let v54 : BitVec 32 := Scalar.addi c0_i32_19 v53
  let c1_i32_22 : BitVec 32 := 1#32
  let arg38 : BitVec 32 := Scf.iv v54 c1_i32_22 k0_t4
  let v93 : BitVec 32 := Scalar.muli c8_i32_42 arg38
  let c1_i32_43 : BitVec 32 := 1#32
  let v94 : BitVec 32 := Scalar.addi v93 c1_i32_43
  let c7_i32_45 : BitVec 32 := 7#32
  let v98 : BitVec 32 := Scalar.subi v94 c7_i32_45
  let c0_i32_46 : BitVec 32 := 0#32
  let v99 : BitVec 1 := Scalar.cmpi .sge v98 c0_i32_46
  let v100 : BitVec 1 := Scalar.cmpi .slt v98 v26
  let v101 : BitVec 1 := Scalar.andi v99 v100
  let v102 : BitVec 32 := Scalar.extui v101
  let c0_i32_47 : BitVec 32 := 0#32
  let v103 : BitVec 1 := Scalar.cmpi .ne v102 c0_i32_47
  v103

def k0_off91 (i : grid0.Coords) (k0_t4 : Fin (k0_t4_loop i).trips) : Fin 2 → Nat :=
  let arg1 : BitVec 32 := BitVec.ofNat 32 (i 1).val
  let c7_i32 : BitVec 32 := 7#32
  let v0 : BitVec 1 := Scalar.cmpi .slt arg1 c7_i32
  let c22_i32 : BitVec 32 := 22#32
  let v1 : BitVec 32 := Scalar.muli arg1 c22_i32
  let c21_i32 : BitVec 32 := 21#32
  let v2 : BitVec 32 := Scalar.muli c21_i32 arg1
  let c7_i32_0 : BitVec 32 := 7#32
  let v3 : BitVec 32 := Scalar.addi v2 c7_i32_0
  let v4 : BitVec 32 := Scalar.select v0 v1 v3
  let c1000_i32_12 : BitVec 32 := 1000#32
  let v31 : BitVec 32 := Scalar.muli v4 c1000_i32_12
  let c8_i32_42 : BitVec 32 := 8#32
  let c0_i32_19 : BitVec 32 := 0#32
  let arg0 : BitVec 32 := BitVec.ofNat 32 (i 0).val
  let c0_i32 : BitVec 32 := 0#32
  let v7 : BitVec 1 := Scalar.cmpi .eq arg0 c0_i32
  let c7_i32_1 : BitVec 32 := 7#32
  let v5 : BitVec 1 := Scalar.cmpi .slt arg1 c7_i32_1
  let c22_i32_2 : BitVec 32 := 22#32
  let c21_i32_3 : BitVec 32 := 21#32
  let v6 : BitVec 32 := Scalar.select v5 c22_i32_2 c21_i32_3
  let c1000_i32 : BitVec 32 := 1000#32
  let v8 : BitVec 32 := Scalar.muli v6 c1000_i32
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c64_i32 : BitVec 32 := 64#32
  let c0_i32_6 : BitVec 32 := 0#32
  let v15 : BitVec 1 := Scalar.cmpi .sgt c64_i32 c0_i32_6
  let v16 : BitVec 32 := Scalar.extui v15
  let c0_i32_7 : BitVec 32 := 0#32
  let v17 : BitVec 1 := Scalar.cmpi .slt c64_i32 c0_i32_7
  let v18 : BitVec 32 := Scalar.extui v17
  let v19 : BitVec 32 := Scalar.subi v16 v18
  let v20 : BitVec 1 := Scalar.cmpi .ne v14 v19
  let v21 : BitVec 32 := Scalar.remsi v8 c64_i32
  let c0_i32_8 : BitVec 32 := 0#32
  let v22 : BitVec 1 := Scalar.cmpi .ne v21 c0_i32_8
  let v23 : BitVec 1 := Scalar.andi v20 v22
  let v9 : BitVec 32 := Scalar.divsi v8 c64_i32
  let c1_i32 : BitVec 32 := 1#32
  let v24 : BitVec 32 := Scalar.subi v9 c1_i32
  let v25 : BitVec 32 := Scalar.select v23 v24 v9
  let c0_i32_9 : BitVec 32 := 0#32
  let v26 : BitVec 32 := Scalar.select v7 v25 c0_i32_9
  let c14_i32 : BitVec 32 := 14#32
  let v32 : BitVec 32 := Scalar.addi v26 c14_i32
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c8_i32 : BitVec 32 := 8#32
  let c0_i32_15 : BitVec 32 := 0#32
  let v39 : BitVec 1 := Scalar.cmpi .sgt c8_i32 c0_i32_15
  let v40 : BitVec 32 := Scalar.extui v39
  let c0_i32_16 : BitVec 32 := 0#32
  let v41 : BitVec 1 := Scalar.cmpi .slt c8_i32 c0_i32_16
  let v42 : BitVec 32 := Scalar.extui v41
  let v43 : BitVec 32 := Scalar.subi v40 v42
  let v44 : BitVec 1 := Scalar.cmpi .ne v38 v43
  let v45 : BitVec 32 := Scalar.remsi v32 c8_i32
  let c0_i32_17 : BitVec 32 := 0#32
  let v46 : BitVec 1 := Scalar.cmpi .ne v45 c0_i32_17
  let v47 : BitVec 1 := Scalar.andi v44 v46
  let v33 : BitVec 32 := Scalar.divsi v32 c8_i32
  let c1_i32_18 : BitVec 32 := 1#32
  let v48 : BitVec 32 := Scalar.subi v33 c1_i32_18
  let v49 : BitVec 32 := Scalar.select v47 v48 v33
  let v50 : BitVec 32 := Scalar.subi v49 c0_i32_19
  let c1_i32_20 : BitVec 32 := 1#32
  let v52 : BitVec 32 := Scalar.divsi v50 c1_i32_20
  let v53 : BitVec 32 := Scalar.muli v52 c1_i32_20
  let v54 : BitVec 32 := Scalar.addi c0_i32_19 v53
  let c1_i32_22 : BitVec 32 := 1#32
  let arg38 : BitVec 32 := Scf.iv v54 c1_i32_22 k0_t4
  let v93 : BitVec 32 := Scalar.muli c8_i32_42 arg38
  let c1_i32_43 : BitVec 32 := 1#32
  let v94 : BitVec 32 := Scalar.addi v93 c1_i32_43
  let c7_i32_45 : BitVec 32 := 7#32
  let v98 : BitVec 32 := Scalar.subi v94 c7_i32_45
  let c64_i32_87 : BitVec 32 := 64#32
  let v172 : BitVec 32 := Scalar.muli v98 c64_i32_87
  let v173 : BitVec 32 := Scalar.addi v31 v172
  let c0_i32_88 : BitVec 32 := 0#32
  ![v173.toNat, 0]
def k0_cond32 (i : grid0.Coords) (k0_t4 : Fin (k0_t4_loop i).trips) : BitVec 1 :=
  let c8_i32_48 : BitVec 32 := 8#32
  let c0_i32_19 : BitVec 32 := 0#32
  let arg0 : BitVec 32 := BitVec.ofNat 32 (i 0).val
  let c0_i32 : BitVec 32 := 0#32
  let v7 : BitVec 1 := Scalar.cmpi .eq arg0 c0_i32
  let arg1 : BitVec 32 := BitVec.ofNat 32 (i 1).val
  let c7_i32_1 : BitVec 32 := 7#32
  let v5 : BitVec 1 := Scalar.cmpi .slt arg1 c7_i32_1
  let c22_i32_2 : BitVec 32 := 22#32
  let c21_i32_3 : BitVec 32 := 21#32
  let v6 : BitVec 32 := Scalar.select v5 c22_i32_2 c21_i32_3
  let c1000_i32 : BitVec 32 := 1000#32
  let v8 : BitVec 32 := Scalar.muli v6 c1000_i32
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c64_i32 : BitVec 32 := 64#32
  let c0_i32_6 : BitVec 32 := 0#32
  let v15 : BitVec 1 := Scalar.cmpi .sgt c64_i32 c0_i32_6
  let v16 : BitVec 32 := Scalar.extui v15
  let c0_i32_7 : BitVec 32 := 0#32
  let v17 : BitVec 1 := Scalar.cmpi .slt c64_i32 c0_i32_7
  let v18 : BitVec 32 := Scalar.extui v17
  let v19 : BitVec 32 := Scalar.subi v16 v18
  let v20 : BitVec 1 := Scalar.cmpi .ne v14 v19
  let v21 : BitVec 32 := Scalar.remsi v8 c64_i32
  let c0_i32_8 : BitVec 32 := 0#32
  let v22 : BitVec 1 := Scalar.cmpi .ne v21 c0_i32_8
  let v23 : BitVec 1 := Scalar.andi v20 v22
  let v9 : BitVec 32 := Scalar.divsi v8 c64_i32
  let c1_i32 : BitVec 32 := 1#32
  let v24 : BitVec 32 := Scalar.subi v9 c1_i32
  let v25 : BitVec 32 := Scalar.select v23 v24 v9
  let c0_i32_9 : BitVec 32 := 0#32
  let v26 : BitVec 32 := Scalar.select v7 v25 c0_i32_9
  let c14_i32 : BitVec 32 := 14#32
  let v32 : BitVec 32 := Scalar.addi v26 c14_i32
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c8_i32 : BitVec 32 := 8#32
  let c0_i32_15 : BitVec 32 := 0#32
  let v39 : BitVec 1 := Scalar.cmpi .sgt c8_i32 c0_i32_15
  let v40 : BitVec 32 := Scalar.extui v39
  let c0_i32_16 : BitVec 32 := 0#32
  let v41 : BitVec 1 := Scalar.cmpi .slt c8_i32 c0_i32_16
  let v42 : BitVec 32 := Scalar.extui v41
  let v43 : BitVec 32 := Scalar.subi v40 v42
  let v44 : BitVec 1 := Scalar.cmpi .ne v38 v43
  let v45 : BitVec 32 := Scalar.remsi v32 c8_i32
  let c0_i32_17 : BitVec 32 := 0#32
  let v46 : BitVec 1 := Scalar.cmpi .ne v45 c0_i32_17
  let v47 : BitVec 1 := Scalar.andi v44 v46
  let v33 : BitVec 32 := Scalar.divsi v32 c8_i32
  let c1_i32_18 : BitVec 32 := 1#32
  let v48 : BitVec 32 := Scalar.subi v33 c1_i32_18
  let v49 : BitVec 32 := Scalar.select v47 v48 v33
  let v50 : BitVec 32 := Scalar.subi v49 c0_i32_19
  let c1_i32_20 : BitVec 32 := 1#32
  let v52 : BitVec 32 := Scalar.divsi v50 c1_i32_20
  let v53 : BitVec 32 := Scalar.muli v52 c1_i32_20
  let v54 : BitVec 32 := Scalar.addi c0_i32_19 v53
  let c1_i32_22 : BitVec 32 := 1#32
  let arg38 : BitVec 32 := Scf.iv v54 c1_i32_22 k0_t4
  let v104 : BitVec 32 := Scalar.muli c8_i32_48 arg38
  let c2_i32_49 : BitVec 32 := 2#32
  let v105 : BitVec 32 := Scalar.addi v104 c2_i32_49
  let v106 : BitVec 1 := Scalar.cmpi .slt v105 v26
  let v107 : BitVec 32 := Scalar.extui v106
  let c0_i32_50 : BitVec 32 := 0#32
  let v108 : BitVec 1 := Scalar.cmpi .ne v107 c0_i32_50
  v108

def k0_off92 (i : grid0.Coords) (k0_t4 : Fin (k0_t4_loop i).trips) : Fin 1 → Nat :=
  let c8_i32_48 : BitVec 32 := 8#32
  let c0_i32_19 : BitVec 32 := 0#32
  let arg0 : BitVec 32 := BitVec.ofNat 32 (i 0).val
  let c0_i32 : BitVec 32 := 0#32
  let v7 : BitVec 1 := Scalar.cmpi .eq arg0 c0_i32
  let arg1 : BitVec 32 := BitVec.ofNat 32 (i 1).val
  let c7_i32_1 : BitVec 32 := 7#32
  let v5 : BitVec 1 := Scalar.cmpi .slt arg1 c7_i32_1
  let c22_i32_2 : BitVec 32 := 22#32
  let c21_i32_3 : BitVec 32 := 21#32
  let v6 : BitVec 32 := Scalar.select v5 c22_i32_2 c21_i32_3
  let c1000_i32 : BitVec 32 := 1000#32
  let v8 : BitVec 32 := Scalar.muli v6 c1000_i32
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c64_i32 : BitVec 32 := 64#32
  let c0_i32_6 : BitVec 32 := 0#32
  let v15 : BitVec 1 := Scalar.cmpi .sgt c64_i32 c0_i32_6
  let v16 : BitVec 32 := Scalar.extui v15
  let c0_i32_7 : BitVec 32 := 0#32
  let v17 : BitVec 1 := Scalar.cmpi .slt c64_i32 c0_i32_7
  let v18 : BitVec 32 := Scalar.extui v17
  let v19 : BitVec 32 := Scalar.subi v16 v18
  let v20 : BitVec 1 := Scalar.cmpi .ne v14 v19
  let v21 : BitVec 32 := Scalar.remsi v8 c64_i32
  let c0_i32_8 : BitVec 32 := 0#32
  let v22 : BitVec 1 := Scalar.cmpi .ne v21 c0_i32_8
  let v23 : BitVec 1 := Scalar.andi v20 v22
  let v9 : BitVec 32 := Scalar.divsi v8 c64_i32
  let c1_i32 : BitVec 32 := 1#32
  let v24 : BitVec 32 := Scalar.subi v9 c1_i32
  let v25 : BitVec 32 := Scalar.select v23 v24 v9
  let c0_i32_9 : BitVec 32 := 0#32
  let v26 : BitVec 32 := Scalar.select v7 v25 c0_i32_9
  let c14_i32 : BitVec 32 := 14#32
  let v32 : BitVec 32 := Scalar.addi v26 c14_i32
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c8_i32 : BitVec 32 := 8#32
  let c0_i32_15 : BitVec 32 := 0#32
  let v39 : BitVec 1 := Scalar.cmpi .sgt c8_i32 c0_i32_15
  let v40 : BitVec 32 := Scalar.extui v39
  let c0_i32_16 : BitVec 32 := 0#32
  let v41 : BitVec 1 := Scalar.cmpi .slt c8_i32 c0_i32_16
  let v42 : BitVec 32 := Scalar.extui v41
  let v43 : BitVec 32 := Scalar.subi v40 v42
  let v44 : BitVec 1 := Scalar.cmpi .ne v38 v43
  let v45 : BitVec 32 := Scalar.remsi v32 c8_i32
  let c0_i32_17 : BitVec 32 := 0#32
  let v46 : BitVec 1 := Scalar.cmpi .ne v45 c0_i32_17
  let v47 : BitVec 1 := Scalar.andi v44 v46
  let v33 : BitVec 32 := Scalar.divsi v32 c8_i32
  let c1_i32_18 : BitVec 32 := 1#32
  let v48 : BitVec 32 := Scalar.subi v33 c1_i32_18
  let v49 : BitVec 32 := Scalar.select v47 v48 v33
  let v50 : BitVec 32 := Scalar.subi v49 c0_i32_19
  let c1_i32_20 : BitVec 32 := 1#32
  let v52 : BitVec 32 := Scalar.divsi v50 c1_i32_20
  let v53 : BitVec 32 := Scalar.muli v52 c1_i32_20
  let v54 : BitVec 32 := Scalar.addi c0_i32_19 v53
  let c1_i32_22 : BitVec 32 := 1#32
  let arg38 : BitVec 32 := Scf.iv v54 c1_i32_22 k0_t4
  let v104 : BitVec 32 := Scalar.muli c8_i32_48 arg38
  let c2_i32_49 : BitVec 32 := 2#32
  let v105 : BitVec 32 := Scalar.addi v104 c2_i32_49
  let c64_i32_86 : BitVec 32 := 64#32
  let v173 : BitVec 32 := Scalar.muli v105 c64_i32_86
  ![v173.toNat]
def k0_cond34 (i : grid0.Coords) (k0_t4 : Fin (k0_t4_loop i).trips) : BitVec 1 :=
  let c8_i32_48 : BitVec 32 := 8#32
  let c0_i32_19 : BitVec 32 := 0#32
  let arg0 : BitVec 32 := BitVec.ofNat 32 (i 0).val
  let c0_i32 : BitVec 32 := 0#32
  let v7 : BitVec 1 := Scalar.cmpi .eq arg0 c0_i32
  let arg1 : BitVec 32 := BitVec.ofNat 32 (i 1).val
  let c7_i32_1 : BitVec 32 := 7#32
  let v5 : BitVec 1 := Scalar.cmpi .slt arg1 c7_i32_1
  let c22_i32_2 : BitVec 32 := 22#32
  let c21_i32_3 : BitVec 32 := 21#32
  let v6 : BitVec 32 := Scalar.select v5 c22_i32_2 c21_i32_3
  let c1000_i32 : BitVec 32 := 1000#32
  let v8 : BitVec 32 := Scalar.muli v6 c1000_i32
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c64_i32 : BitVec 32 := 64#32
  let c0_i32_6 : BitVec 32 := 0#32
  let v15 : BitVec 1 := Scalar.cmpi .sgt c64_i32 c0_i32_6
  let v16 : BitVec 32 := Scalar.extui v15
  let c0_i32_7 : BitVec 32 := 0#32
  let v17 : BitVec 1 := Scalar.cmpi .slt c64_i32 c0_i32_7
  let v18 : BitVec 32 := Scalar.extui v17
  let v19 : BitVec 32 := Scalar.subi v16 v18
  let v20 : BitVec 1 := Scalar.cmpi .ne v14 v19
  let v21 : BitVec 32 := Scalar.remsi v8 c64_i32
  let c0_i32_8 : BitVec 32 := 0#32
  let v22 : BitVec 1 := Scalar.cmpi .ne v21 c0_i32_8
  let v23 : BitVec 1 := Scalar.andi v20 v22
  let v9 : BitVec 32 := Scalar.divsi v8 c64_i32
  let c1_i32 : BitVec 32 := 1#32
  let v24 : BitVec 32 := Scalar.subi v9 c1_i32
  let v25 : BitVec 32 := Scalar.select v23 v24 v9
  let c0_i32_9 : BitVec 32 := 0#32
  let v26 : BitVec 32 := Scalar.select v7 v25 c0_i32_9
  let c14_i32 : BitVec 32 := 14#32
  let v32 : BitVec 32 := Scalar.addi v26 c14_i32
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c8_i32 : BitVec 32 := 8#32
  let c0_i32_15 : BitVec 32 := 0#32
  let v39 : BitVec 1 := Scalar.cmpi .sgt c8_i32 c0_i32_15
  let v40 : BitVec 32 := Scalar.extui v39
  let c0_i32_16 : BitVec 32 := 0#32
  let v41 : BitVec 1 := Scalar.cmpi .slt c8_i32 c0_i32_16
  let v42 : BitVec 32 := Scalar.extui v41
  let v43 : BitVec 32 := Scalar.subi v40 v42
  let v44 : BitVec 1 := Scalar.cmpi .ne v38 v43
  let v45 : BitVec 32 := Scalar.remsi v32 c8_i32
  let c0_i32_17 : BitVec 32 := 0#32
  let v46 : BitVec 1 := Scalar.cmpi .ne v45 c0_i32_17
  let v47 : BitVec 1 := Scalar.andi v44 v46
  let v33 : BitVec 32 := Scalar.divsi v32 c8_i32
  let c1_i32_18 : BitVec 32 := 1#32
  let v48 : BitVec 32 := Scalar.subi v33 c1_i32_18
  let v49 : BitVec 32 := Scalar.select v47 v48 v33
  let v50 : BitVec 32 := Scalar.subi v49 c0_i32_19
  let c1_i32_20 : BitVec 32 := 1#32
  let v52 : BitVec 32 := Scalar.divsi v50 c1_i32_20
  let v53 : BitVec 32 := Scalar.muli v52 c1_i32_20
  let v54 : BitVec 32 := Scalar.addi c0_i32_19 v53
  let c1_i32_22 : BitVec 32 := 1#32
  let arg38 : BitVec 32 := Scf.iv v54 c1_i32_22 k0_t4
  let v104 : BitVec 32 := Scalar.muli c8_i32_48 arg38
  let c2_i32_49 : BitVec 32 := 2#32
  let v105 : BitVec 32 := Scalar.addi v104 c2_i32_49
  let c7_i32_51 : BitVec 32 := 7#32
  let v109 : BitVec 32 := Scalar.subi v105 c7_i32_51
  let c0_i32_52 : BitVec 32 := 0#32
  let v110 : BitVec 1 := Scalar.cmpi .sge v109 c0_i32_52
  let v111 : BitVec 1 := Scalar.cmpi .slt v109 v26
  let v112 : BitVec 1 := Scalar.andi v110 v111
  let v113 : BitVec 32 := Scalar.extui v112
  let c0_i32_53 : BitVec 32 := 0#32
  let v114 : BitVec 1 := Scalar.cmpi .ne v113 c0_i32_53
  v114

def k0_off93 (i : grid0.Coords) (k0_t4 : Fin (k0_t4_loop i).trips) : Fin 2 → Nat :=
  let arg1 : BitVec 32 := BitVec.ofNat 32 (i 1).val
  let c7_i32 : BitVec 32 := 7#32
  let v0 : BitVec 1 := Scalar.cmpi .slt arg1 c7_i32
  let c22_i32 : BitVec 32 := 22#32
  let v1 : BitVec 32 := Scalar.muli arg1 c22_i32
  let c21_i32 : BitVec 32 := 21#32
  let v2 : BitVec 32 := Scalar.muli c21_i32 arg1
  let c7_i32_0 : BitVec 32 := 7#32
  let v3 : BitVec 32 := Scalar.addi v2 c7_i32_0
  let v4 : BitVec 32 := Scalar.select v0 v1 v3
  let c1000_i32_12 : BitVec 32 := 1000#32
  let v31 : BitVec 32 := Scalar.muli v4 c1000_i32_12
  let c8_i32_48 : BitVec 32 := 8#32
  let c0_i32_19 : BitVec 32 := 0#32
  let arg0 : BitVec 32 := BitVec.ofNat 32 (i 0).val
  let c0_i32 : BitVec 32 := 0#32
  let v7 : BitVec 1 := Scalar.cmpi .eq arg0 c0_i32
  let c7_i32_1 : BitVec 32 := 7#32
  let v5 : BitVec 1 := Scalar.cmpi .slt arg1 c7_i32_1
  let c22_i32_2 : BitVec 32 := 22#32
  let c21_i32_3 : BitVec 32 := 21#32
  let v6 : BitVec 32 := Scalar.select v5 c22_i32_2 c21_i32_3
  let c1000_i32 : BitVec 32 := 1000#32
  let v8 : BitVec 32 := Scalar.muli v6 c1000_i32
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c64_i32 : BitVec 32 := 64#32
  let c0_i32_6 : BitVec 32 := 0#32
  let v15 : BitVec 1 := Scalar.cmpi .sgt c64_i32 c0_i32_6
  let v16 : BitVec 32 := Scalar.extui v15
  let c0_i32_7 : BitVec 32 := 0#32
  let v17 : BitVec 1 := Scalar.cmpi .slt c64_i32 c0_i32_7
  let v18 : BitVec 32 := Scalar.extui v17
  let v19 : BitVec 32 := Scalar.subi v16 v18
  let v20 : BitVec 1 := Scalar.cmpi .ne v14 v19
  let v21 : BitVec 32 := Scalar.remsi v8 c64_i32
  let c0_i32_8 : BitVec 32 := 0#32
  let v22 : BitVec 1 := Scalar.cmpi .ne v21 c0_i32_8
  let v23 : BitVec 1 := Scalar.andi v20 v22
  let v9 : BitVec 32 := Scalar.divsi v8 c64_i32
  let c1_i32 : BitVec 32 := 1#32
  let v24 : BitVec 32 := Scalar.subi v9 c1_i32
  let v25 : BitVec 32 := Scalar.select v23 v24 v9
  let c0_i32_9 : BitVec 32 := 0#32
  let v26 : BitVec 32 := Scalar.select v7 v25 c0_i32_9
  let c14_i32 : BitVec 32 := 14#32
  let v32 : BitVec 32 := Scalar.addi v26 c14_i32
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c8_i32 : BitVec 32 := 8#32
  let c0_i32_15 : BitVec 32 := 0#32
  let v39 : BitVec 1 := Scalar.cmpi .sgt c8_i32 c0_i32_15
  let v40 : BitVec 32 := Scalar.extui v39
  let c0_i32_16 : BitVec 32 := 0#32
  let v41 : BitVec 1 := Scalar.cmpi .slt c8_i32 c0_i32_16
  let v42 : BitVec 32 := Scalar.extui v41
  let v43 : BitVec 32 := Scalar.subi v40 v42
  let v44 : BitVec 1 := Scalar.cmpi .ne v38 v43
  let v45 : BitVec 32 := Scalar.remsi v32 c8_i32
  let c0_i32_17 : BitVec 32 := 0#32
  let v46 : BitVec 1 := Scalar.cmpi .ne v45 c0_i32_17
  let v47 : BitVec 1 := Scalar.andi v44 v46
  let v33 : BitVec 32 := Scalar.divsi v32 c8_i32
  let c1_i32_18 : BitVec 32 := 1#32
  let v48 : BitVec 32 := Scalar.subi v33 c1_i32_18
  let v49 : BitVec 32 := Scalar.select v47 v48 v33
  let v50 : BitVec 32 := Scalar.subi v49 c0_i32_19
  let c1_i32_20 : BitVec 32 := 1#32
  let v52 : BitVec 32 := Scalar.divsi v50 c1_i32_20
  let v53 : BitVec 32 := Scalar.muli v52 c1_i32_20
  let v54 : BitVec 32 := Scalar.addi c0_i32_19 v53
  let c1_i32_22 : BitVec 32 := 1#32
  let arg38 : BitVec 32 := Scf.iv v54 c1_i32_22 k0_t4
  let v104 : BitVec 32 := Scalar.muli c8_i32_48 arg38
  let c2_i32_49 : BitVec 32 := 2#32
  let v105 : BitVec 32 := Scalar.addi v104 c2_i32_49
  let c7_i32_51 : BitVec 32 := 7#32
  let v109 : BitVec 32 := Scalar.subi v105 c7_i32_51
  let c64_i32_87 : BitVec 32 := 64#32
  let v172 : BitVec 32 := Scalar.muli v109 c64_i32_87
  let v173 : BitVec 32 := Scalar.addi v31 v172
  let c0_i32_88 : BitVec 32 := 0#32
  ![v173.toNat, 0]
def k0_cond35 (i : grid0.Coords) (k0_t4 : Fin (k0_t4_loop i).trips) : BitVec 1 :=
  let c8_i32_54 : BitVec 32 := 8#32
  let c0_i32_19 : BitVec 32 := 0#32
  let arg0 : BitVec 32 := BitVec.ofNat 32 (i 0).val
  let c0_i32 : BitVec 32 := 0#32
  let v7 : BitVec 1 := Scalar.cmpi .eq arg0 c0_i32
  let arg1 : BitVec 32 := BitVec.ofNat 32 (i 1).val
  let c7_i32_1 : BitVec 32 := 7#32
  let v5 : BitVec 1 := Scalar.cmpi .slt arg1 c7_i32_1
  let c22_i32_2 : BitVec 32 := 22#32
  let c21_i32_3 : BitVec 32 := 21#32
  let v6 : BitVec 32 := Scalar.select v5 c22_i32_2 c21_i32_3
  let c1000_i32 : BitVec 32 := 1000#32
  let v8 : BitVec 32 := Scalar.muli v6 c1000_i32
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c64_i32 : BitVec 32 := 64#32
  let c0_i32_6 : BitVec 32 := 0#32
  let v15 : BitVec 1 := Scalar.cmpi .sgt c64_i32 c0_i32_6
  let v16 : BitVec 32 := Scalar.extui v15
  let c0_i32_7 : BitVec 32 := 0#32
  let v17 : BitVec 1 := Scalar.cmpi .slt c64_i32 c0_i32_7
  let v18 : BitVec 32 := Scalar.extui v17
  let v19 : BitVec 32 := Scalar.subi v16 v18
  let v20 : BitVec 1 := Scalar.cmpi .ne v14 v19
  let v21 : BitVec 32 := Scalar.remsi v8 c64_i32
  let c0_i32_8 : BitVec 32 := 0#32
  let v22 : BitVec 1 := Scalar.cmpi .ne v21 c0_i32_8
  let v23 : BitVec 1 := Scalar.andi v20 v22
  let v9 : BitVec 32 := Scalar.divsi v8 c64_i32
  let c1_i32 : BitVec 32 := 1#32
  let v24 : BitVec 32 := Scalar.subi v9 c1_i32
  let v25 : BitVec 32 := Scalar.select v23 v24 v9
  let c0_i32_9 : BitVec 32 := 0#32
  let v26 : BitVec 32 := Scalar.select v7 v25 c0_i32_9
  let c14_i32 : BitVec 32 := 14#32
  let v32 : BitVec 32 := Scalar.addi v26 c14_i32
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c8_i32 : BitVec 32 := 8#32
  let c0_i32_15 : BitVec 32 := 0#32
  let v39 : BitVec 1 := Scalar.cmpi .sgt c8_i32 c0_i32_15
  let v40 : BitVec 32 := Scalar.extui v39
  let c0_i32_16 : BitVec 32 := 0#32
  let v41 : BitVec 1 := Scalar.cmpi .slt c8_i32 c0_i32_16
  let v42 : BitVec 32 := Scalar.extui v41
  let v43 : BitVec 32 := Scalar.subi v40 v42
  let v44 : BitVec 1 := Scalar.cmpi .ne v38 v43
  let v45 : BitVec 32 := Scalar.remsi v32 c8_i32
  let c0_i32_17 : BitVec 32 := 0#32
  let v46 : BitVec 1 := Scalar.cmpi .ne v45 c0_i32_17
  let v47 : BitVec 1 := Scalar.andi v44 v46
  let v33 : BitVec 32 := Scalar.divsi v32 c8_i32
  let c1_i32_18 : BitVec 32 := 1#32
  let v48 : BitVec 32 := Scalar.subi v33 c1_i32_18
  let v49 : BitVec 32 := Scalar.select v47 v48 v33
  let v50 : BitVec 32 := Scalar.subi v49 c0_i32_19
  let c1_i32_20 : BitVec 32 := 1#32
  let v52 : BitVec 32 := Scalar.divsi v50 c1_i32_20
  let v53 : BitVec 32 := Scalar.muli v52 c1_i32_20
  let v54 : BitVec 32 := Scalar.addi c0_i32_19 v53
  let c1_i32_22 : BitVec 32 := 1#32
  let arg38 : BitVec 32 := Scf.iv v54 c1_i32_22 k0_t4
  let v115 : BitVec 32 := Scalar.muli c8_i32_54 arg38
  let c3_i32_55 : BitVec 32 := 3#32
  let v116 : BitVec 32 := Scalar.addi v115 c3_i32_55
  let v117 : BitVec 1 := Scalar.cmpi .slt v116 v26
  let v118 : BitVec 32 := Scalar.extui v117
  let c0_i32_56 : BitVec 32 := 0#32
  let v119 : BitVec 1 := Scalar.cmpi .ne v118 c0_i32_56
  v119

def k0_off94 (i : grid0.Coords) (k0_t4 : Fin (k0_t4_loop i).trips) : Fin 1 → Nat :=
  let c8_i32_54 : BitVec 32 := 8#32
  let c0_i32_19 : BitVec 32 := 0#32
  let arg0 : BitVec 32 := BitVec.ofNat 32 (i 0).val
  let c0_i32 : BitVec 32 := 0#32
  let v7 : BitVec 1 := Scalar.cmpi .eq arg0 c0_i32
  let arg1 : BitVec 32 := BitVec.ofNat 32 (i 1).val
  let c7_i32_1 : BitVec 32 := 7#32
  let v5 : BitVec 1 := Scalar.cmpi .slt arg1 c7_i32_1
  let c22_i32_2 : BitVec 32 := 22#32
  let c21_i32_3 : BitVec 32 := 21#32
  let v6 : BitVec 32 := Scalar.select v5 c22_i32_2 c21_i32_3
  let c1000_i32 : BitVec 32 := 1000#32
  let v8 : BitVec 32 := Scalar.muli v6 c1000_i32
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c64_i32 : BitVec 32 := 64#32
  let c0_i32_6 : BitVec 32 := 0#32
  let v15 : BitVec 1 := Scalar.cmpi .sgt c64_i32 c0_i32_6
  let v16 : BitVec 32 := Scalar.extui v15
  let c0_i32_7 : BitVec 32 := 0#32
  let v17 : BitVec 1 := Scalar.cmpi .slt c64_i32 c0_i32_7
  let v18 : BitVec 32 := Scalar.extui v17
  let v19 : BitVec 32 := Scalar.subi v16 v18
  let v20 : BitVec 1 := Scalar.cmpi .ne v14 v19
  let v21 : BitVec 32 := Scalar.remsi v8 c64_i32
  let c0_i32_8 : BitVec 32 := 0#32
  let v22 : BitVec 1 := Scalar.cmpi .ne v21 c0_i32_8
  let v23 : BitVec 1 := Scalar.andi v20 v22
  let v9 : BitVec 32 := Scalar.divsi v8 c64_i32
  let c1_i32 : BitVec 32 := 1#32
  let v24 : BitVec 32 := Scalar.subi v9 c1_i32
  let v25 : BitVec 32 := Scalar.select v23 v24 v9
  let c0_i32_9 : BitVec 32 := 0#32
  let v26 : BitVec 32 := Scalar.select v7 v25 c0_i32_9
  let c14_i32 : BitVec 32 := 14#32
  let v32 : BitVec 32 := Scalar.addi v26 c14_i32
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c8_i32 : BitVec 32 := 8#32
  let c0_i32_15 : BitVec 32 := 0#32
  let v39 : BitVec 1 := Scalar.cmpi .sgt c8_i32 c0_i32_15
  let v40 : BitVec 32 := Scalar.extui v39
  let c0_i32_16 : BitVec 32 := 0#32
  let v41 : BitVec 1 := Scalar.cmpi .slt c8_i32 c0_i32_16
  let v42 : BitVec 32 := Scalar.extui v41
  let v43 : BitVec 32 := Scalar.subi v40 v42
  let v44 : BitVec 1 := Scalar.cmpi .ne v38 v43
  let v45 : BitVec 32 := Scalar.remsi v32 c8_i32
  let c0_i32_17 : BitVec 32 := 0#32
  let v46 : BitVec 1 := Scalar.cmpi .ne v45 c0_i32_17
  let v47 : BitVec 1 := Scalar.andi v44 v46
  let v33 : BitVec 32 := Scalar.divsi v32 c8_i32
  let c1_i32_18 : BitVec 32 := 1#32
  let v48 : BitVec 32 := Scalar.subi v33 c1_i32_18
  let v49 : BitVec 32 := Scalar.select v47 v48 v33
  let v50 : BitVec 32 := Scalar.subi v49 c0_i32_19
  let c1_i32_20 : BitVec 32 := 1#32
  let v52 : BitVec 32 := Scalar.divsi v50 c1_i32_20
  let v53 : BitVec 32 := Scalar.muli v52 c1_i32_20
  let v54 : BitVec 32 := Scalar.addi c0_i32_19 v53
  let c1_i32_22 : BitVec 32 := 1#32
  let arg38 : BitVec 32 := Scf.iv v54 c1_i32_22 k0_t4
  let v115 : BitVec 32 := Scalar.muli c8_i32_54 arg38
  let c3_i32_55 : BitVec 32 := 3#32
  let v116 : BitVec 32 := Scalar.addi v115 c3_i32_55
  let c64_i32_86 : BitVec 32 := 64#32
  let v173 : BitVec 32 := Scalar.muli v116 c64_i32_86
  ![v173.toNat]
def k0_cond37 (i : grid0.Coords) (k0_t4 : Fin (k0_t4_loop i).trips) : BitVec 1 :=
  let c8_i32_54 : BitVec 32 := 8#32
  let c0_i32_19 : BitVec 32 := 0#32
  let arg0 : BitVec 32 := BitVec.ofNat 32 (i 0).val
  let c0_i32 : BitVec 32 := 0#32
  let v7 : BitVec 1 := Scalar.cmpi .eq arg0 c0_i32
  let arg1 : BitVec 32 := BitVec.ofNat 32 (i 1).val
  let c7_i32_1 : BitVec 32 := 7#32
  let v5 : BitVec 1 := Scalar.cmpi .slt arg1 c7_i32_1
  let c22_i32_2 : BitVec 32 := 22#32
  let c21_i32_3 : BitVec 32 := 21#32
  let v6 : BitVec 32 := Scalar.select v5 c22_i32_2 c21_i32_3
  let c1000_i32 : BitVec 32 := 1000#32
  let v8 : BitVec 32 := Scalar.muli v6 c1000_i32
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c64_i32 : BitVec 32 := 64#32
  let c0_i32_6 : BitVec 32 := 0#32
  let v15 : BitVec 1 := Scalar.cmpi .sgt c64_i32 c0_i32_6
  let v16 : BitVec 32 := Scalar.extui v15
  let c0_i32_7 : BitVec 32 := 0#32
  let v17 : BitVec 1 := Scalar.cmpi .slt c64_i32 c0_i32_7
  let v18 : BitVec 32 := Scalar.extui v17
  let v19 : BitVec 32 := Scalar.subi v16 v18
  let v20 : BitVec 1 := Scalar.cmpi .ne v14 v19
  let v21 : BitVec 32 := Scalar.remsi v8 c64_i32
  let c0_i32_8 : BitVec 32 := 0#32
  let v22 : BitVec 1 := Scalar.cmpi .ne v21 c0_i32_8
  let v23 : BitVec 1 := Scalar.andi v20 v22
  let v9 : BitVec 32 := Scalar.divsi v8 c64_i32
  let c1_i32 : BitVec 32 := 1#32
  let v24 : BitVec 32 := Scalar.subi v9 c1_i32
  let v25 : BitVec 32 := Scalar.select v23 v24 v9
  let c0_i32_9 : BitVec 32 := 0#32
  let v26 : BitVec 32 := Scalar.select v7 v25 c0_i32_9
  let c14_i32 : BitVec 32 := 14#32
  let v32 : BitVec 32 := Scalar.addi v26 c14_i32
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c8_i32 : BitVec 32 := 8#32
  let c0_i32_15 : BitVec 32 := 0#32
  let v39 : BitVec 1 := Scalar.cmpi .sgt c8_i32 c0_i32_15
  let v40 : BitVec 32 := Scalar.extui v39
  let c0_i32_16 : BitVec 32 := 0#32
  let v41 : BitVec 1 := Scalar.cmpi .slt c8_i32 c0_i32_16
  let v42 : BitVec 32 := Scalar.extui v41
  let v43 : BitVec 32 := Scalar.subi v40 v42
  let v44 : BitVec 1 := Scalar.cmpi .ne v38 v43
  let v45 : BitVec 32 := Scalar.remsi v32 c8_i32
  let c0_i32_17 : BitVec 32 := 0#32
  let v46 : BitVec 1 := Scalar.cmpi .ne v45 c0_i32_17
  let v47 : BitVec 1 := Scalar.andi v44 v46
  let v33 : BitVec 32 := Scalar.divsi v32 c8_i32
  let c1_i32_18 : BitVec 32 := 1#32
  let v48 : BitVec 32 := Scalar.subi v33 c1_i32_18
  let v49 : BitVec 32 := Scalar.select v47 v48 v33
  let v50 : BitVec 32 := Scalar.subi v49 c0_i32_19
  let c1_i32_20 : BitVec 32 := 1#32
  let v52 : BitVec 32 := Scalar.divsi v50 c1_i32_20
  let v53 : BitVec 32 := Scalar.muli v52 c1_i32_20
  let v54 : BitVec 32 := Scalar.addi c0_i32_19 v53
  let c1_i32_22 : BitVec 32 := 1#32
  let arg38 : BitVec 32 := Scf.iv v54 c1_i32_22 k0_t4
  let v115 : BitVec 32 := Scalar.muli c8_i32_54 arg38
  let c3_i32_55 : BitVec 32 := 3#32
  let v116 : BitVec 32 := Scalar.addi v115 c3_i32_55
  let c7_i32_57 : BitVec 32 := 7#32
  let v120 : BitVec 32 := Scalar.subi v116 c7_i32_57
  let c0_i32_58 : BitVec 32 := 0#32
  let v121 : BitVec 1 := Scalar.cmpi .sge v120 c0_i32_58
  let v122 : BitVec 1 := Scalar.cmpi .slt v120 v26
  let v123 : BitVec 1 := Scalar.andi v121 v122
  let v124 : BitVec 32 := Scalar.extui v123
  let c0_i32_59 : BitVec 32 := 0#32
  let v125 : BitVec 1 := Scalar.cmpi .ne v124 c0_i32_59
  v125

def k0_off95 (i : grid0.Coords) (k0_t4 : Fin (k0_t4_loop i).trips) : Fin 2 → Nat :=
  let arg1 : BitVec 32 := BitVec.ofNat 32 (i 1).val
  let c7_i32 : BitVec 32 := 7#32
  let v0 : BitVec 1 := Scalar.cmpi .slt arg1 c7_i32
  let c22_i32 : BitVec 32 := 22#32
  let v1 : BitVec 32 := Scalar.muli arg1 c22_i32
  let c21_i32 : BitVec 32 := 21#32
  let v2 : BitVec 32 := Scalar.muli c21_i32 arg1
  let c7_i32_0 : BitVec 32 := 7#32
  let v3 : BitVec 32 := Scalar.addi v2 c7_i32_0
  let v4 : BitVec 32 := Scalar.select v0 v1 v3
  let c1000_i32_12 : BitVec 32 := 1000#32
  let v31 : BitVec 32 := Scalar.muli v4 c1000_i32_12
  let c8_i32_54 : BitVec 32 := 8#32
  let c0_i32_19 : BitVec 32 := 0#32
  let arg0 : BitVec 32 := BitVec.ofNat 32 (i 0).val
  let c0_i32 : BitVec 32 := 0#32
  let v7 : BitVec 1 := Scalar.cmpi .eq arg0 c0_i32
  let c7_i32_1 : BitVec 32 := 7#32
  let v5 : BitVec 1 := Scalar.cmpi .slt arg1 c7_i32_1
  let c22_i32_2 : BitVec 32 := 22#32
  let c21_i32_3 : BitVec 32 := 21#32
  let v6 : BitVec 32 := Scalar.select v5 c22_i32_2 c21_i32_3
  let c1000_i32 : BitVec 32 := 1000#32
  let v8 : BitVec 32 := Scalar.muli v6 c1000_i32
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c64_i32 : BitVec 32 := 64#32
  let c0_i32_6 : BitVec 32 := 0#32
  let v15 : BitVec 1 := Scalar.cmpi .sgt c64_i32 c0_i32_6
  let v16 : BitVec 32 := Scalar.extui v15
  let c0_i32_7 : BitVec 32 := 0#32
  let v17 : BitVec 1 := Scalar.cmpi .slt c64_i32 c0_i32_7
  let v18 : BitVec 32 := Scalar.extui v17
  let v19 : BitVec 32 := Scalar.subi v16 v18
  let v20 : BitVec 1 := Scalar.cmpi .ne v14 v19
  let v21 : BitVec 32 := Scalar.remsi v8 c64_i32
  let c0_i32_8 : BitVec 32 := 0#32
  let v22 : BitVec 1 := Scalar.cmpi .ne v21 c0_i32_8
  let v23 : BitVec 1 := Scalar.andi v20 v22
  let v9 : BitVec 32 := Scalar.divsi v8 c64_i32
  let c1_i32 : BitVec 32 := 1#32
  let v24 : BitVec 32 := Scalar.subi v9 c1_i32
  let v25 : BitVec 32 := Scalar.select v23 v24 v9
  let c0_i32_9 : BitVec 32 := 0#32
  let v26 : BitVec 32 := Scalar.select v7 v25 c0_i32_9
  let c14_i32 : BitVec 32 := 14#32
  let v32 : BitVec 32 := Scalar.addi v26 c14_i32
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c8_i32 : BitVec 32 := 8#32
  let c0_i32_15 : BitVec 32 := 0#32
  let v39 : BitVec 1 := Scalar.cmpi .sgt c8_i32 c0_i32_15
  let v40 : BitVec 32 := Scalar.extui v39
  let c0_i32_16 : BitVec 32 := 0#32
  let v41 : BitVec 1 := Scalar.cmpi .slt c8_i32 c0_i32_16
  let v42 : BitVec 32 := Scalar.extui v41
  let v43 : BitVec 32 := Scalar.subi v40 v42
  let v44 : BitVec 1 := Scalar.cmpi .ne v38 v43
  let v45 : BitVec 32 := Scalar.remsi v32 c8_i32
  let c0_i32_17 : BitVec 32 := 0#32
  let v46 : BitVec 1 := Scalar.cmpi .ne v45 c0_i32_17
  let v47 : BitVec 1 := Scalar.andi v44 v46
  let v33 : BitVec 32 := Scalar.divsi v32 c8_i32
  let c1_i32_18 : BitVec 32 := 1#32
  let v48 : BitVec 32 := Scalar.subi v33 c1_i32_18
  let v49 : BitVec 32 := Scalar.select v47 v48 v33
  let v50 : BitVec 32 := Scalar.subi v49 c0_i32_19
  let c1_i32_20 : BitVec 32 := 1#32
  let v52 : BitVec 32 := Scalar.divsi v50 c1_i32_20
  let v53 : BitVec 32 := Scalar.muli v52 c1_i32_20
  let v54 : BitVec 32 := Scalar.addi c0_i32_19 v53
  let c1_i32_22 : BitVec 32 := 1#32
  let arg38 : BitVec 32 := Scf.iv v54 c1_i32_22 k0_t4
  let v115 : BitVec 32 := Scalar.muli c8_i32_54 arg38
  let c3_i32_55 : BitVec 32 := 3#32
  let v116 : BitVec 32 := Scalar.addi v115 c3_i32_55
  let c7_i32_57 : BitVec 32 := 7#32
  let v120 : BitVec 32 := Scalar.subi v116 c7_i32_57
  let c64_i32_87 : BitVec 32 := 64#32
  let v172 : BitVec 32 := Scalar.muli v120 c64_i32_87
  let v173 : BitVec 32 := Scalar.addi v31 v172
  let c0_i32_88 : BitVec 32 := 0#32
  ![v173.toNat, 0]
def k0_cond38 (i : grid0.Coords) (k0_t4 : Fin (k0_t4_loop i).trips) : BitVec 1 :=
  let c8_i32_60 : BitVec 32 := 8#32
  let c0_i32_19 : BitVec 32 := 0#32
  let arg0 : BitVec 32 := BitVec.ofNat 32 (i 0).val
  let c0_i32 : BitVec 32 := 0#32
  let v7 : BitVec 1 := Scalar.cmpi .eq arg0 c0_i32
  let arg1 : BitVec 32 := BitVec.ofNat 32 (i 1).val
  let c7_i32_1 : BitVec 32 := 7#32
  let v5 : BitVec 1 := Scalar.cmpi .slt arg1 c7_i32_1
  let c22_i32_2 : BitVec 32 := 22#32
  let c21_i32_3 : BitVec 32 := 21#32
  let v6 : BitVec 32 := Scalar.select v5 c22_i32_2 c21_i32_3
  let c1000_i32 : BitVec 32 := 1000#32
  let v8 : BitVec 32 := Scalar.muli v6 c1000_i32
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c64_i32 : BitVec 32 := 64#32
  let c0_i32_6 : BitVec 32 := 0#32
  let v15 : BitVec 1 := Scalar.cmpi .sgt c64_i32 c0_i32_6
  let v16 : BitVec 32 := Scalar.extui v15
  let c0_i32_7 : BitVec 32 := 0#32
  let v17 : BitVec 1 := Scalar.cmpi .slt c64_i32 c0_i32_7
  let v18 : BitVec 32 := Scalar.extui v17
  let v19 : BitVec 32 := Scalar.subi v16 v18
  let v20 : BitVec 1 := Scalar.cmpi .ne v14 v19
  let v21 : BitVec 32 := Scalar.remsi v8 c64_i32
  let c0_i32_8 : BitVec 32 := 0#32
  let v22 : BitVec 1 := Scalar.cmpi .ne v21 c0_i32_8
  let v23 : BitVec 1 := Scalar.andi v20 v22
  let v9 : BitVec 32 := Scalar.divsi v8 c64_i32
  let c1_i32 : BitVec 32 := 1#32
  let v24 : BitVec 32 := Scalar.subi v9 c1_i32
  let v25 : BitVec 32 := Scalar.select v23 v24 v9
  let c0_i32_9 : BitVec 32 := 0#32
  let v26 : BitVec 32 := Scalar.select v7 v25 c0_i32_9
  let c14_i32 : BitVec 32 := 14#32
  let v32 : BitVec 32 := Scalar.addi v26 c14_i32
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c8_i32 : BitVec 32 := 8#32
  let c0_i32_15 : BitVec 32 := 0#32
  let v39 : BitVec 1 := Scalar.cmpi .sgt c8_i32 c0_i32_15
  let v40 : BitVec 32 := Scalar.extui v39
  let c0_i32_16 : BitVec 32 := 0#32
  let v41 : BitVec 1 := Scalar.cmpi .slt c8_i32 c0_i32_16
  let v42 : BitVec 32 := Scalar.extui v41
  let v43 : BitVec 32 := Scalar.subi v40 v42
  let v44 : BitVec 1 := Scalar.cmpi .ne v38 v43
  let v45 : BitVec 32 := Scalar.remsi v32 c8_i32
  let c0_i32_17 : BitVec 32 := 0#32
  let v46 : BitVec 1 := Scalar.cmpi .ne v45 c0_i32_17
  let v47 : BitVec 1 := Scalar.andi v44 v46
  let v33 : BitVec 32 := Scalar.divsi v32 c8_i32
  let c1_i32_18 : BitVec 32 := 1#32
  let v48 : BitVec 32 := Scalar.subi v33 c1_i32_18
  let v49 : BitVec 32 := Scalar.select v47 v48 v33
  let v50 : BitVec 32 := Scalar.subi v49 c0_i32_19
  let c1_i32_20 : BitVec 32 := 1#32
  let v52 : BitVec 32 := Scalar.divsi v50 c1_i32_20
  let v53 : BitVec 32 := Scalar.muli v52 c1_i32_20
  let v54 : BitVec 32 := Scalar.addi c0_i32_19 v53
  let c1_i32_22 : BitVec 32 := 1#32
  let arg38 : BitVec 32 := Scf.iv v54 c1_i32_22 k0_t4
  let v126 : BitVec 32 := Scalar.muli c8_i32_60 arg38
  let c4_i32_61 : BitVec 32 := 4#32
  let v127 : BitVec 32 := Scalar.addi v126 c4_i32_61
  let v128 : BitVec 1 := Scalar.cmpi .slt v127 v26
  let v129 : BitVec 32 := Scalar.extui v128
  let c0_i32_62 : BitVec 32 := 0#32
  let v130 : BitVec 1 := Scalar.cmpi .ne v129 c0_i32_62
  v130

def k0_off96 (i : grid0.Coords) (k0_t4 : Fin (k0_t4_loop i).trips) : Fin 1 → Nat :=
  let c8_i32_60 : BitVec 32 := 8#32
  let c0_i32_19 : BitVec 32 := 0#32
  let arg0 : BitVec 32 := BitVec.ofNat 32 (i 0).val
  let c0_i32 : BitVec 32 := 0#32
  let v7 : BitVec 1 := Scalar.cmpi .eq arg0 c0_i32
  let arg1 : BitVec 32 := BitVec.ofNat 32 (i 1).val
  let c7_i32_1 : BitVec 32 := 7#32
  let v5 : BitVec 1 := Scalar.cmpi .slt arg1 c7_i32_1
  let c22_i32_2 : BitVec 32 := 22#32
  let c21_i32_3 : BitVec 32 := 21#32
  let v6 : BitVec 32 := Scalar.select v5 c22_i32_2 c21_i32_3
  let c1000_i32 : BitVec 32 := 1000#32
  let v8 : BitVec 32 := Scalar.muli v6 c1000_i32
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c64_i32 : BitVec 32 := 64#32
  let c0_i32_6 : BitVec 32 := 0#32
  let v15 : BitVec 1 := Scalar.cmpi .sgt c64_i32 c0_i32_6
  let v16 : BitVec 32 := Scalar.extui v15
  let c0_i32_7 : BitVec 32 := 0#32
  let v17 : BitVec 1 := Scalar.cmpi .slt c64_i32 c0_i32_7
  let v18 : BitVec 32 := Scalar.extui v17
  let v19 : BitVec 32 := Scalar.subi v16 v18
  let v20 : BitVec 1 := Scalar.cmpi .ne v14 v19
  let v21 : BitVec 32 := Scalar.remsi v8 c64_i32
  let c0_i32_8 : BitVec 32 := 0#32
  let v22 : BitVec 1 := Scalar.cmpi .ne v21 c0_i32_8
  let v23 : BitVec 1 := Scalar.andi v20 v22
  let v9 : BitVec 32 := Scalar.divsi v8 c64_i32
  let c1_i32 : BitVec 32 := 1#32
  let v24 : BitVec 32 := Scalar.subi v9 c1_i32
  let v25 : BitVec 32 := Scalar.select v23 v24 v9
  let c0_i32_9 : BitVec 32 := 0#32
  let v26 : BitVec 32 := Scalar.select v7 v25 c0_i32_9
  let c14_i32 : BitVec 32 := 14#32
  let v32 : BitVec 32 := Scalar.addi v26 c14_i32
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c8_i32 : BitVec 32 := 8#32
  let c0_i32_15 : BitVec 32 := 0#32
  let v39 : BitVec 1 := Scalar.cmpi .sgt c8_i32 c0_i32_15
  let v40 : BitVec 32 := Scalar.extui v39
  let c0_i32_16 : BitVec 32 := 0#32
  let v41 : BitVec 1 := Scalar.cmpi .slt c8_i32 c0_i32_16
  let v42 : BitVec 32 := Scalar.extui v41
  let v43 : BitVec 32 := Scalar.subi v40 v42
  let v44 : BitVec 1 := Scalar.cmpi .ne v38 v43
  let v45 : BitVec 32 := Scalar.remsi v32 c8_i32
  let c0_i32_17 : BitVec 32 := 0#32
  let v46 : BitVec 1 := Scalar.cmpi .ne v45 c0_i32_17
  let v47 : BitVec 1 := Scalar.andi v44 v46
  let v33 : BitVec 32 := Scalar.divsi v32 c8_i32
  let c1_i32_18 : BitVec 32 := 1#32
  let v48 : BitVec 32 := Scalar.subi v33 c1_i32_18
  let v49 : BitVec 32 := Scalar.select v47 v48 v33
  let v50 : BitVec 32 := Scalar.subi v49 c0_i32_19
  let c1_i32_20 : BitVec 32 := 1#32
  let v52 : BitVec 32 := Scalar.divsi v50 c1_i32_20
  let v53 : BitVec 32 := Scalar.muli v52 c1_i32_20
  let v54 : BitVec 32 := Scalar.addi c0_i32_19 v53
  let c1_i32_22 : BitVec 32 := 1#32
  let arg38 : BitVec 32 := Scf.iv v54 c1_i32_22 k0_t4
  let v126 : BitVec 32 := Scalar.muli c8_i32_60 arg38
  let c4_i32_61 : BitVec 32 := 4#32
  let v127 : BitVec 32 := Scalar.addi v126 c4_i32_61
  let c64_i32_86 : BitVec 32 := 64#32
  let v173 : BitVec 32 := Scalar.muli v127 c64_i32_86
  ![v173.toNat]
def k0_cond40 (i : grid0.Coords) (k0_t4 : Fin (k0_t4_loop i).trips) : BitVec 1 :=
  let c8_i32_60 : BitVec 32 := 8#32
  let c0_i32_19 : BitVec 32 := 0#32
  let arg0 : BitVec 32 := BitVec.ofNat 32 (i 0).val
  let c0_i32 : BitVec 32 := 0#32
  let v7 : BitVec 1 := Scalar.cmpi .eq arg0 c0_i32
  let arg1 : BitVec 32 := BitVec.ofNat 32 (i 1).val
  let c7_i32_1 : BitVec 32 := 7#32
  let v5 : BitVec 1 := Scalar.cmpi .slt arg1 c7_i32_1
  let c22_i32_2 : BitVec 32 := 22#32
  let c21_i32_3 : BitVec 32 := 21#32
  let v6 : BitVec 32 := Scalar.select v5 c22_i32_2 c21_i32_3
  let c1000_i32 : BitVec 32 := 1000#32
  let v8 : BitVec 32 := Scalar.muli v6 c1000_i32
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c64_i32 : BitVec 32 := 64#32
  let c0_i32_6 : BitVec 32 := 0#32
  let v15 : BitVec 1 := Scalar.cmpi .sgt c64_i32 c0_i32_6
  let v16 : BitVec 32 := Scalar.extui v15
  let c0_i32_7 : BitVec 32 := 0#32
  let v17 : BitVec 1 := Scalar.cmpi .slt c64_i32 c0_i32_7
  let v18 : BitVec 32 := Scalar.extui v17
  let v19 : BitVec 32 := Scalar.subi v16 v18
  let v20 : BitVec 1 := Scalar.cmpi .ne v14 v19
  let v21 : BitVec 32 := Scalar.remsi v8 c64_i32
  let c0_i32_8 : BitVec 32 := 0#32
  let v22 : BitVec 1 := Scalar.cmpi .ne v21 c0_i32_8
  let v23 : BitVec 1 := Scalar.andi v20 v22
  let v9 : BitVec 32 := Scalar.divsi v8 c64_i32
  let c1_i32 : BitVec 32 := 1#32
  let v24 : BitVec 32 := Scalar.subi v9 c1_i32
  let v25 : BitVec 32 := Scalar.select v23 v24 v9
  let c0_i32_9 : BitVec 32 := 0#32
  let v26 : BitVec 32 := Scalar.select v7 v25 c0_i32_9
  let c14_i32 : BitVec 32 := 14#32
  let v32 : BitVec 32 := Scalar.addi v26 c14_i32
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c8_i32 : BitVec 32 := 8#32
  let c0_i32_15 : BitVec 32 := 0#32
  let v39 : BitVec 1 := Scalar.cmpi .sgt c8_i32 c0_i32_15
  let v40 : BitVec 32 := Scalar.extui v39
  let c0_i32_16 : BitVec 32 := 0#32
  let v41 : BitVec 1 := Scalar.cmpi .slt c8_i32 c0_i32_16
  let v42 : BitVec 32 := Scalar.extui v41
  let v43 : BitVec 32 := Scalar.subi v40 v42
  let v44 : BitVec 1 := Scalar.cmpi .ne v38 v43
  let v45 : BitVec 32 := Scalar.remsi v32 c8_i32
  let c0_i32_17 : BitVec 32 := 0#32
  let v46 : BitVec 1 := Scalar.cmpi .ne v45 c0_i32_17
  let v47 : BitVec 1 := Scalar.andi v44 v46
  let v33 : BitVec 32 := Scalar.divsi v32 c8_i32
  let c1_i32_18 : BitVec 32 := 1#32
  let v48 : BitVec 32 := Scalar.subi v33 c1_i32_18
  let v49 : BitVec 32 := Scalar.select v47 v48 v33
  let v50 : BitVec 32 := Scalar.subi v49 c0_i32_19
  let c1_i32_20 : BitVec 32 := 1#32
  let v52 : BitVec 32 := Scalar.divsi v50 c1_i32_20
  let v53 : BitVec 32 := Scalar.muli v52 c1_i32_20
  let v54 : BitVec 32 := Scalar.addi c0_i32_19 v53
  let c1_i32_22 : BitVec 32 := 1#32
  let arg38 : BitVec 32 := Scf.iv v54 c1_i32_22 k0_t4
  let v126 : BitVec 32 := Scalar.muli c8_i32_60 arg38
  let c4_i32_61 : BitVec 32 := 4#32
  let v127 : BitVec 32 := Scalar.addi v126 c4_i32_61
  let c7_i32_63 : BitVec 32 := 7#32
  let v131 : BitVec 32 := Scalar.subi v127 c7_i32_63
  let c0_i32_64 : BitVec 32 := 0#32
  let v132 : BitVec 1 := Scalar.cmpi .sge v131 c0_i32_64
  let v133 : BitVec 1 := Scalar.cmpi .slt v131 v26
  let v134 : BitVec 1 := Scalar.andi v132 v133
  let v135 : BitVec 32 := Scalar.extui v134
  let c0_i32_65 : BitVec 32 := 0#32
  let v136 : BitVec 1 := Scalar.cmpi .ne v135 c0_i32_65
  v136

def k0_off97 (i : grid0.Coords) (k0_t4 : Fin (k0_t4_loop i).trips) : Fin 2 → Nat :=
  let arg1 : BitVec 32 := BitVec.ofNat 32 (i 1).val
  let c7_i32 : BitVec 32 := 7#32
  let v0 : BitVec 1 := Scalar.cmpi .slt arg1 c7_i32
  let c22_i32 : BitVec 32 := 22#32
  let v1 : BitVec 32 := Scalar.muli arg1 c22_i32
  let c21_i32 : BitVec 32 := 21#32
  let v2 : BitVec 32 := Scalar.muli c21_i32 arg1
  let c7_i32_0 : BitVec 32 := 7#32
  let v3 : BitVec 32 := Scalar.addi v2 c7_i32_0
  let v4 : BitVec 32 := Scalar.select v0 v1 v3
  let c1000_i32_12 : BitVec 32 := 1000#32
  let v31 : BitVec 32 := Scalar.muli v4 c1000_i32_12
  let c8_i32_60 : BitVec 32 := 8#32
  let c0_i32_19 : BitVec 32 := 0#32
  let arg0 : BitVec 32 := BitVec.ofNat 32 (i 0).val
  let c0_i32 : BitVec 32 := 0#32
  let v7 : BitVec 1 := Scalar.cmpi .eq arg0 c0_i32
  let c7_i32_1 : BitVec 32 := 7#32
  let v5 : BitVec 1 := Scalar.cmpi .slt arg1 c7_i32_1
  let c22_i32_2 : BitVec 32 := 22#32
  let c21_i32_3 : BitVec 32 := 21#32
  let v6 : BitVec 32 := Scalar.select v5 c22_i32_2 c21_i32_3
  let c1000_i32 : BitVec 32 := 1000#32
  let v8 : BitVec 32 := Scalar.muli v6 c1000_i32
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c64_i32 : BitVec 32 := 64#32
  let c0_i32_6 : BitVec 32 := 0#32
  let v15 : BitVec 1 := Scalar.cmpi .sgt c64_i32 c0_i32_6
  let v16 : BitVec 32 := Scalar.extui v15
  let c0_i32_7 : BitVec 32 := 0#32
  let v17 : BitVec 1 := Scalar.cmpi .slt c64_i32 c0_i32_7
  let v18 : BitVec 32 := Scalar.extui v17
  let v19 : BitVec 32 := Scalar.subi v16 v18
  let v20 : BitVec 1 := Scalar.cmpi .ne v14 v19
  let v21 : BitVec 32 := Scalar.remsi v8 c64_i32
  let c0_i32_8 : BitVec 32 := 0#32
  let v22 : BitVec 1 := Scalar.cmpi .ne v21 c0_i32_8
  let v23 : BitVec 1 := Scalar.andi v20 v22
  let v9 : BitVec 32 := Scalar.divsi v8 c64_i32
  let c1_i32 : BitVec 32 := 1#32
  let v24 : BitVec 32 := Scalar.subi v9 c1_i32
  let v25 : BitVec 32 := Scalar.select v23 v24 v9
  let c0_i32_9 : BitVec 32 := 0#32
  let v26 : BitVec 32 := Scalar.select v7 v25 c0_i32_9
  let c14_i32 : BitVec 32 := 14#32
  let v32 : BitVec 32 := Scalar.addi v26 c14_i32
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c8_i32 : BitVec 32 := 8#32
  let c0_i32_15 : BitVec 32 := 0#32
  let v39 : BitVec 1 := Scalar.cmpi .sgt c8_i32 c0_i32_15
  let v40 : BitVec 32 := Scalar.extui v39
  let c0_i32_16 : BitVec 32 := 0#32
  let v41 : BitVec 1 := Scalar.cmpi .slt c8_i32 c0_i32_16
  let v42 : BitVec 32 := Scalar.extui v41
  let v43 : BitVec 32 := Scalar.subi v40 v42
  let v44 : BitVec 1 := Scalar.cmpi .ne v38 v43
  let v45 : BitVec 32 := Scalar.remsi v32 c8_i32
  let c0_i32_17 : BitVec 32 := 0#32
  let v46 : BitVec 1 := Scalar.cmpi .ne v45 c0_i32_17
  let v47 : BitVec 1 := Scalar.andi v44 v46
  let v33 : BitVec 32 := Scalar.divsi v32 c8_i32
  let c1_i32_18 : BitVec 32 := 1#32
  let v48 : BitVec 32 := Scalar.subi v33 c1_i32_18
  let v49 : BitVec 32 := Scalar.select v47 v48 v33
  let v50 : BitVec 32 := Scalar.subi v49 c0_i32_19
  let c1_i32_20 : BitVec 32 := 1#32
  let v52 : BitVec 32 := Scalar.divsi v50 c1_i32_20
  let v53 : BitVec 32 := Scalar.muli v52 c1_i32_20
  let v54 : BitVec 32 := Scalar.addi c0_i32_19 v53
  let c1_i32_22 : BitVec 32 := 1#32
  let arg38 : BitVec 32 := Scf.iv v54 c1_i32_22 k0_t4
  let v126 : BitVec 32 := Scalar.muli c8_i32_60 arg38
  let c4_i32_61 : BitVec 32 := 4#32
  let v127 : BitVec 32 := Scalar.addi v126 c4_i32_61
  let c7_i32_63 : BitVec 32 := 7#32
  let v131 : BitVec 32 := Scalar.subi v127 c7_i32_63
  let c64_i32_87 : BitVec 32 := 64#32
  let v172 : BitVec 32 := Scalar.muli v131 c64_i32_87
  let v173 : BitVec 32 := Scalar.addi v31 v172
  let c0_i32_88 : BitVec 32 := 0#32
  ![v173.toNat, 0]
def k0_cond41 (i : grid0.Coords) (k0_t4 : Fin (k0_t4_loop i).trips) : BitVec 1 :=
  let c8_i32_66 : BitVec 32 := 8#32
  let c0_i32_19 : BitVec 32 := 0#32
  let arg0 : BitVec 32 := BitVec.ofNat 32 (i 0).val
  let c0_i32 : BitVec 32 := 0#32
  let v7 : BitVec 1 := Scalar.cmpi .eq arg0 c0_i32
  let arg1 : BitVec 32 := BitVec.ofNat 32 (i 1).val
  let c7_i32_1 : BitVec 32 := 7#32
  let v5 : BitVec 1 := Scalar.cmpi .slt arg1 c7_i32_1
  let c22_i32_2 : BitVec 32 := 22#32
  let c21_i32_3 : BitVec 32 := 21#32
  let v6 : BitVec 32 := Scalar.select v5 c22_i32_2 c21_i32_3
  let c1000_i32 : BitVec 32 := 1000#32
  let v8 : BitVec 32 := Scalar.muli v6 c1000_i32
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c64_i32 : BitVec 32 := 64#32
  let c0_i32_6 : BitVec 32 := 0#32
  let v15 : BitVec 1 := Scalar.cmpi .sgt c64_i32 c0_i32_6
  let v16 : BitVec 32 := Scalar.extui v15
  let c0_i32_7 : BitVec 32 := 0#32
  let v17 : BitVec 1 := Scalar.cmpi .slt c64_i32 c0_i32_7
  let v18 : BitVec 32 := Scalar.extui v17
  let v19 : BitVec 32 := Scalar.subi v16 v18
  let v20 : BitVec 1 := Scalar.cmpi .ne v14 v19
  let v21 : BitVec 32 := Scalar.remsi v8 c64_i32
  let c0_i32_8 : BitVec 32 := 0#32
  let v22 : BitVec 1 := Scalar.cmpi .ne v21 c0_i32_8
  let v23 : BitVec 1 := Scalar.andi v20 v22
  let v9 : BitVec 32 := Scalar.divsi v8 c64_i32
  let c1_i32 : BitVec 32 := 1#32
  let v24 : BitVec 32 := Scalar.subi v9 c1_i32
  let v25 : BitVec 32 := Scalar.select v23 v24 v9
  let c0_i32_9 : BitVec 32 := 0#32
  let v26 : BitVec 32 := Scalar.select v7 v25 c0_i32_9
  let c14_i32 : BitVec 32 := 14#32
  let v32 : BitVec 32 := Scalar.addi v26 c14_i32
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c8_i32 : BitVec 32 := 8#32
  let c0_i32_15 : BitVec 32 := 0#32
  let v39 : BitVec 1 := Scalar.cmpi .sgt c8_i32 c0_i32_15
  let v40 : BitVec 32 := Scalar.extui v39
  let c0_i32_16 : BitVec 32 := 0#32
  let v41 : BitVec 1 := Scalar.cmpi .slt c8_i32 c0_i32_16
  let v42 : BitVec 32 := Scalar.extui v41
  let v43 : BitVec 32 := Scalar.subi v40 v42
  let v44 : BitVec 1 := Scalar.cmpi .ne v38 v43
  let v45 : BitVec 32 := Scalar.remsi v32 c8_i32
  let c0_i32_17 : BitVec 32 := 0#32
  let v46 : BitVec 1 := Scalar.cmpi .ne v45 c0_i32_17
  let v47 : BitVec 1 := Scalar.andi v44 v46
  let v33 : BitVec 32 := Scalar.divsi v32 c8_i32
  let c1_i32_18 : BitVec 32 := 1#32
  let v48 : BitVec 32 := Scalar.subi v33 c1_i32_18
  let v49 : BitVec 32 := Scalar.select v47 v48 v33
  let v50 : BitVec 32 := Scalar.subi v49 c0_i32_19
  let c1_i32_20 : BitVec 32 := 1#32
  let v52 : BitVec 32 := Scalar.divsi v50 c1_i32_20
  let v53 : BitVec 32 := Scalar.muli v52 c1_i32_20
  let v54 : BitVec 32 := Scalar.addi c0_i32_19 v53
  let c1_i32_22 : BitVec 32 := 1#32
  let arg38 : BitVec 32 := Scf.iv v54 c1_i32_22 k0_t4
  let v137 : BitVec 32 := Scalar.muli c8_i32_66 arg38
  let c5_i32_67 : BitVec 32 := 5#32
  let v138 : BitVec 32 := Scalar.addi v137 c5_i32_67
  let v139 : BitVec 1 := Scalar.cmpi .slt v138 v26
  let v140 : BitVec 32 := Scalar.extui v139
  let c0_i32_68 : BitVec 32 := 0#32
  let v141 : BitVec 1 := Scalar.cmpi .ne v140 c0_i32_68
  v141

def k0_off98 (i : grid0.Coords) (k0_t4 : Fin (k0_t4_loop i).trips) : Fin 1 → Nat :=
  let c8_i32_66 : BitVec 32 := 8#32
  let c0_i32_19 : BitVec 32 := 0#32
  let arg0 : BitVec 32 := BitVec.ofNat 32 (i 0).val
  let c0_i32 : BitVec 32 := 0#32
  let v7 : BitVec 1 := Scalar.cmpi .eq arg0 c0_i32
  let arg1 : BitVec 32 := BitVec.ofNat 32 (i 1).val
  let c7_i32_1 : BitVec 32 := 7#32
  let v5 : BitVec 1 := Scalar.cmpi .slt arg1 c7_i32_1
  let c22_i32_2 : BitVec 32 := 22#32
  let c21_i32_3 : BitVec 32 := 21#32
  let v6 : BitVec 32 := Scalar.select v5 c22_i32_2 c21_i32_3
  let c1000_i32 : BitVec 32 := 1000#32
  let v8 : BitVec 32 := Scalar.muli v6 c1000_i32
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c64_i32 : BitVec 32 := 64#32
  let c0_i32_6 : BitVec 32 := 0#32
  let v15 : BitVec 1 := Scalar.cmpi .sgt c64_i32 c0_i32_6
  let v16 : BitVec 32 := Scalar.extui v15
  let c0_i32_7 : BitVec 32 := 0#32
  let v17 : BitVec 1 := Scalar.cmpi .slt c64_i32 c0_i32_7
  let v18 : BitVec 32 := Scalar.extui v17
  let v19 : BitVec 32 := Scalar.subi v16 v18
  let v20 : BitVec 1 := Scalar.cmpi .ne v14 v19
  let v21 : BitVec 32 := Scalar.remsi v8 c64_i32
  let c0_i32_8 : BitVec 32 := 0#32
  let v22 : BitVec 1 := Scalar.cmpi .ne v21 c0_i32_8
  let v23 : BitVec 1 := Scalar.andi v20 v22
  let v9 : BitVec 32 := Scalar.divsi v8 c64_i32
  let c1_i32 : BitVec 32 := 1#32
  let v24 : BitVec 32 := Scalar.subi v9 c1_i32
  let v25 : BitVec 32 := Scalar.select v23 v24 v9
  let c0_i32_9 : BitVec 32 := 0#32
  let v26 : BitVec 32 := Scalar.select v7 v25 c0_i32_9
  let c14_i32 : BitVec 32 := 14#32
  let v32 : BitVec 32 := Scalar.addi v26 c14_i32
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c8_i32 : BitVec 32 := 8#32
  let c0_i32_15 : BitVec 32 := 0#32
  let v39 : BitVec 1 := Scalar.cmpi .sgt c8_i32 c0_i32_15
  let v40 : BitVec 32 := Scalar.extui v39
  let c0_i32_16 : BitVec 32 := 0#32
  let v41 : BitVec 1 := Scalar.cmpi .slt c8_i32 c0_i32_16
  let v42 : BitVec 32 := Scalar.extui v41
  let v43 : BitVec 32 := Scalar.subi v40 v42
  let v44 : BitVec 1 := Scalar.cmpi .ne v38 v43
  let v45 : BitVec 32 := Scalar.remsi v32 c8_i32
  let c0_i32_17 : BitVec 32 := 0#32
  let v46 : BitVec 1 := Scalar.cmpi .ne v45 c0_i32_17
  let v47 : BitVec 1 := Scalar.andi v44 v46
  let v33 : BitVec 32 := Scalar.divsi v32 c8_i32
  let c1_i32_18 : BitVec 32 := 1#32
  let v48 : BitVec 32 := Scalar.subi v33 c1_i32_18
  let v49 : BitVec 32 := Scalar.select v47 v48 v33
  let v50 : BitVec 32 := Scalar.subi v49 c0_i32_19
  let c1_i32_20 : BitVec 32 := 1#32
  let v52 : BitVec 32 := Scalar.divsi v50 c1_i32_20
  let v53 : BitVec 32 := Scalar.muli v52 c1_i32_20
  let v54 : BitVec 32 := Scalar.addi c0_i32_19 v53
  let c1_i32_22 : BitVec 32 := 1#32
  let arg38 : BitVec 32 := Scf.iv v54 c1_i32_22 k0_t4
  let v137 : BitVec 32 := Scalar.muli c8_i32_66 arg38
  let c5_i32_67 : BitVec 32 := 5#32
  let v138 : BitVec 32 := Scalar.addi v137 c5_i32_67
  let c64_i32_86 : BitVec 32 := 64#32
  let v173 : BitVec 32 := Scalar.muli v138 c64_i32_86
  ![v173.toNat]
def k0_cond43 (i : grid0.Coords) (k0_t4 : Fin (k0_t4_loop i).trips) : BitVec 1 :=
  let c8_i32_66 : BitVec 32 := 8#32
  let c0_i32_19 : BitVec 32 := 0#32
  let arg0 : BitVec 32 := BitVec.ofNat 32 (i 0).val
  let c0_i32 : BitVec 32 := 0#32
  let v7 : BitVec 1 := Scalar.cmpi .eq arg0 c0_i32
  let arg1 : BitVec 32 := BitVec.ofNat 32 (i 1).val
  let c7_i32_1 : BitVec 32 := 7#32
  let v5 : BitVec 1 := Scalar.cmpi .slt arg1 c7_i32_1
  let c22_i32_2 : BitVec 32 := 22#32
  let c21_i32_3 : BitVec 32 := 21#32
  let v6 : BitVec 32 := Scalar.select v5 c22_i32_2 c21_i32_3
  let c1000_i32 : BitVec 32 := 1000#32
  let v8 : BitVec 32 := Scalar.muli v6 c1000_i32
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c64_i32 : BitVec 32 := 64#32
  let c0_i32_6 : BitVec 32 := 0#32
  let v15 : BitVec 1 := Scalar.cmpi .sgt c64_i32 c0_i32_6
  let v16 : BitVec 32 := Scalar.extui v15
  let c0_i32_7 : BitVec 32 := 0#32
  let v17 : BitVec 1 := Scalar.cmpi .slt c64_i32 c0_i32_7
  let v18 : BitVec 32 := Scalar.extui v17
  let v19 : BitVec 32 := Scalar.subi v16 v18
  let v20 : BitVec 1 := Scalar.cmpi .ne v14 v19
  let v21 : BitVec 32 := Scalar.remsi v8 c64_i32
  let c0_i32_8 : BitVec 32 := 0#32
  let v22 : BitVec 1 := Scalar.cmpi .ne v21 c0_i32_8
  let v23 : BitVec 1 := Scalar.andi v20 v22
  let v9 : BitVec 32 := Scalar.divsi v8 c64_i32
  let c1_i32 : BitVec 32 := 1#32
  let v24 : BitVec 32 := Scalar.subi v9 c1_i32
  let v25 : BitVec 32 := Scalar.select v23 v24 v9
  let c0_i32_9 : BitVec 32 := 0#32
  let v26 : BitVec 32 := Scalar.select v7 v25 c0_i32_9
  let c14_i32 : BitVec 32 := 14#32
  let v32 : BitVec 32 := Scalar.addi v26 c14_i32
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c8_i32 : BitVec 32 := 8#32
  let c0_i32_15 : BitVec 32 := 0#32
  let v39 : BitVec 1 := Scalar.cmpi .sgt c8_i32 c0_i32_15
  let v40 : BitVec 32 := Scalar.extui v39
  let c0_i32_16 : BitVec 32 := 0#32
  let v41 : BitVec 1 := Scalar.cmpi .slt c8_i32 c0_i32_16
  let v42 : BitVec 32 := Scalar.extui v41
  let v43 : BitVec 32 := Scalar.subi v40 v42
  let v44 : BitVec 1 := Scalar.cmpi .ne v38 v43
  let v45 : BitVec 32 := Scalar.remsi v32 c8_i32
  let c0_i32_17 : BitVec 32 := 0#32
  let v46 : BitVec 1 := Scalar.cmpi .ne v45 c0_i32_17
  let v47 : BitVec 1 := Scalar.andi v44 v46
  let v33 : BitVec 32 := Scalar.divsi v32 c8_i32
  let c1_i32_18 : BitVec 32 := 1#32
  let v48 : BitVec 32 := Scalar.subi v33 c1_i32_18
  let v49 : BitVec 32 := Scalar.select v47 v48 v33
  let v50 : BitVec 32 := Scalar.subi v49 c0_i32_19
  let c1_i32_20 : BitVec 32 := 1#32
  let v52 : BitVec 32 := Scalar.divsi v50 c1_i32_20
  let v53 : BitVec 32 := Scalar.muli v52 c1_i32_20
  let v54 : BitVec 32 := Scalar.addi c0_i32_19 v53
  let c1_i32_22 : BitVec 32 := 1#32
  let arg38 : BitVec 32 := Scf.iv v54 c1_i32_22 k0_t4
  let v137 : BitVec 32 := Scalar.muli c8_i32_66 arg38
  let c5_i32_67 : BitVec 32 := 5#32
  let v138 : BitVec 32 := Scalar.addi v137 c5_i32_67
  let c7_i32_69 : BitVec 32 := 7#32
  let v142 : BitVec 32 := Scalar.subi v138 c7_i32_69
  let c0_i32_70 : BitVec 32 := 0#32
  let v143 : BitVec 1 := Scalar.cmpi .sge v142 c0_i32_70
  let v144 : BitVec 1 := Scalar.cmpi .slt v142 v26
  let v145 : BitVec 1 := Scalar.andi v143 v144
  let v146 : BitVec 32 := Scalar.extui v145
  let c0_i32_71 : BitVec 32 := 0#32
  let v147 : BitVec 1 := Scalar.cmpi .ne v146 c0_i32_71
  v147

def k0_off99 (i : grid0.Coords) (k0_t4 : Fin (k0_t4_loop i).trips) : Fin 2 → Nat :=
  let arg1 : BitVec 32 := BitVec.ofNat 32 (i 1).val
  let c7_i32 : BitVec 32 := 7#32
  let v0 : BitVec 1 := Scalar.cmpi .slt arg1 c7_i32
  let c22_i32 : BitVec 32 := 22#32
  let v1 : BitVec 32 := Scalar.muli arg1 c22_i32
  let c21_i32 : BitVec 32 := 21#32
  let v2 : BitVec 32 := Scalar.muli c21_i32 arg1
  let c7_i32_0 : BitVec 32 := 7#32
  let v3 : BitVec 32 := Scalar.addi v2 c7_i32_0
  let v4 : BitVec 32 := Scalar.select v0 v1 v3
  let c1000_i32_12 : BitVec 32 := 1000#32
  let v31 : BitVec 32 := Scalar.muli v4 c1000_i32_12
  let c8_i32_66 : BitVec 32 := 8#32
  let c0_i32_19 : BitVec 32 := 0#32
  let arg0 : BitVec 32 := BitVec.ofNat 32 (i 0).val
  let c0_i32 : BitVec 32 := 0#32
  let v7 : BitVec 1 := Scalar.cmpi .eq arg0 c0_i32
  let c7_i32_1 : BitVec 32 := 7#32
  let v5 : BitVec 1 := Scalar.cmpi .slt arg1 c7_i32_1
  let c22_i32_2 : BitVec 32 := 22#32
  let c21_i32_3 : BitVec 32 := 21#32
  let v6 : BitVec 32 := Scalar.select v5 c22_i32_2 c21_i32_3
  let c1000_i32 : BitVec 32 := 1000#32
  let v8 : BitVec 32 := Scalar.muli v6 c1000_i32
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c64_i32 : BitVec 32 := 64#32
  let c0_i32_6 : BitVec 32 := 0#32
  let v15 : BitVec 1 := Scalar.cmpi .sgt c64_i32 c0_i32_6
  let v16 : BitVec 32 := Scalar.extui v15
  let c0_i32_7 : BitVec 32 := 0#32
  let v17 : BitVec 1 := Scalar.cmpi .slt c64_i32 c0_i32_7
  let v18 : BitVec 32 := Scalar.extui v17
  let v19 : BitVec 32 := Scalar.subi v16 v18
  let v20 : BitVec 1 := Scalar.cmpi .ne v14 v19
  let v21 : BitVec 32 := Scalar.remsi v8 c64_i32
  let c0_i32_8 : BitVec 32 := 0#32
  let v22 : BitVec 1 := Scalar.cmpi .ne v21 c0_i32_8
  let v23 : BitVec 1 := Scalar.andi v20 v22
  let v9 : BitVec 32 := Scalar.divsi v8 c64_i32
  let c1_i32 : BitVec 32 := 1#32
  let v24 : BitVec 32 := Scalar.subi v9 c1_i32
  let v25 : BitVec 32 := Scalar.select v23 v24 v9
  let c0_i32_9 : BitVec 32 := 0#32
  let v26 : BitVec 32 := Scalar.select v7 v25 c0_i32_9
  let c14_i32 : BitVec 32 := 14#32
  let v32 : BitVec 32 := Scalar.addi v26 c14_i32
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c8_i32 : BitVec 32 := 8#32
  let c0_i32_15 : BitVec 32 := 0#32
  let v39 : BitVec 1 := Scalar.cmpi .sgt c8_i32 c0_i32_15
  let v40 : BitVec 32 := Scalar.extui v39
  let c0_i32_16 : BitVec 32 := 0#32
  let v41 : BitVec 1 := Scalar.cmpi .slt c8_i32 c0_i32_16
  let v42 : BitVec 32 := Scalar.extui v41
  let v43 : BitVec 32 := Scalar.subi v40 v42
  let v44 : BitVec 1 := Scalar.cmpi .ne v38 v43
  let v45 : BitVec 32 := Scalar.remsi v32 c8_i32
  let c0_i32_17 : BitVec 32 := 0#32
  let v46 : BitVec 1 := Scalar.cmpi .ne v45 c0_i32_17
  let v47 : BitVec 1 := Scalar.andi v44 v46
  let v33 : BitVec 32 := Scalar.divsi v32 c8_i32
  let c1_i32_18 : BitVec 32 := 1#32
  let v48 : BitVec 32 := Scalar.subi v33 c1_i32_18
  let v49 : BitVec 32 := Scalar.select v47 v48 v33
  let v50 : BitVec 32 := Scalar.subi v49 c0_i32_19
  let c1_i32_20 : BitVec 32 := 1#32
  let v52 : BitVec 32 := Scalar.divsi v50 c1_i32_20
  let v53 : BitVec 32 := Scalar.muli v52 c1_i32_20
  let v54 : BitVec 32 := Scalar.addi c0_i32_19 v53
  let c1_i32_22 : BitVec 32 := 1#32
  let arg38 : BitVec 32 := Scf.iv v54 c1_i32_22 k0_t4
  let v137 : BitVec 32 := Scalar.muli c8_i32_66 arg38
  let c5_i32_67 : BitVec 32 := 5#32
  let v138 : BitVec 32 := Scalar.addi v137 c5_i32_67
  let c7_i32_69 : BitVec 32 := 7#32
  let v142 : BitVec 32 := Scalar.subi v138 c7_i32_69
  let c64_i32_87 : BitVec 32 := 64#32
  let v172 : BitVec 32 := Scalar.muli v142 c64_i32_87
  let v173 : BitVec 32 := Scalar.addi v31 v172
  let c0_i32_88 : BitVec 32 := 0#32
  ![v173.toNat, 0]
def k0_cond44 (i : grid0.Coords) (k0_t4 : Fin (k0_t4_loop i).trips) : BitVec 1 :=
  let c8_i32_72 : BitVec 32 := 8#32
  let c0_i32_19 : BitVec 32 := 0#32
  let arg0 : BitVec 32 := BitVec.ofNat 32 (i 0).val
  let c0_i32 : BitVec 32 := 0#32
  let v7 : BitVec 1 := Scalar.cmpi .eq arg0 c0_i32
  let arg1 : BitVec 32 := BitVec.ofNat 32 (i 1).val
  let c7_i32_1 : BitVec 32 := 7#32
  let v5 : BitVec 1 := Scalar.cmpi .slt arg1 c7_i32_1
  let c22_i32_2 : BitVec 32 := 22#32
  let c21_i32_3 : BitVec 32 := 21#32
  let v6 : BitVec 32 := Scalar.select v5 c22_i32_2 c21_i32_3
  let c1000_i32 : BitVec 32 := 1000#32
  let v8 : BitVec 32 := Scalar.muli v6 c1000_i32
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c64_i32 : BitVec 32 := 64#32
  let c0_i32_6 : BitVec 32 := 0#32
  let v15 : BitVec 1 := Scalar.cmpi .sgt c64_i32 c0_i32_6
  let v16 : BitVec 32 := Scalar.extui v15
  let c0_i32_7 : BitVec 32 := 0#32
  let v17 : BitVec 1 := Scalar.cmpi .slt c64_i32 c0_i32_7
  let v18 : BitVec 32 := Scalar.extui v17
  let v19 : BitVec 32 := Scalar.subi v16 v18
  let v20 : BitVec 1 := Scalar.cmpi .ne v14 v19
  let v21 : BitVec 32 := Scalar.remsi v8 c64_i32
  let c0_i32_8 : BitVec 32 := 0#32
  let v22 : BitVec 1 := Scalar.cmpi .ne v21 c0_i32_8
  let v23 : BitVec 1 := Scalar.andi v20 v22
  let v9 : BitVec 32 := Scalar.divsi v8 c64_i32
  let c1_i32 : BitVec 32 := 1#32
  let v24 : BitVec 32 := Scalar.subi v9 c1_i32
  let v25 : BitVec 32 := Scalar.select v23 v24 v9
  let c0_i32_9 : BitVec 32 := 0#32
  let v26 : BitVec 32 := Scalar.select v7 v25 c0_i32_9
  let c14_i32 : BitVec 32 := 14#32
  let v32 : BitVec 32 := Scalar.addi v26 c14_i32
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c8_i32 : BitVec 32 := 8#32
  let c0_i32_15 : BitVec 32 := 0#32
  let v39 : BitVec 1 := Scalar.cmpi .sgt c8_i32 c0_i32_15
  let v40 : BitVec 32 := Scalar.extui v39
  let c0_i32_16 : BitVec 32 := 0#32
  let v41 : BitVec 1 := Scalar.cmpi .slt c8_i32 c0_i32_16
  let v42 : BitVec 32 := Scalar.extui v41
  let v43 : BitVec 32 := Scalar.subi v40 v42
  let v44 : BitVec 1 := Scalar.cmpi .ne v38 v43
  let v45 : BitVec 32 := Scalar.remsi v32 c8_i32
  let c0_i32_17 : BitVec 32 := 0#32
  let v46 : BitVec 1 := Scalar.cmpi .ne v45 c0_i32_17
  let v47 : BitVec 1 := Scalar.andi v44 v46
  let v33 : BitVec 32 := Scalar.divsi v32 c8_i32
  let c1_i32_18 : BitVec 32 := 1#32
  let v48 : BitVec 32 := Scalar.subi v33 c1_i32_18
  let v49 : BitVec 32 := Scalar.select v47 v48 v33
  let v50 : BitVec 32 := Scalar.subi v49 c0_i32_19
  let c1_i32_20 : BitVec 32 := 1#32
  let v52 : BitVec 32 := Scalar.divsi v50 c1_i32_20
  let v53 : BitVec 32 := Scalar.muli v52 c1_i32_20
  let v54 : BitVec 32 := Scalar.addi c0_i32_19 v53
  let c1_i32_22 : BitVec 32 := 1#32
  let arg38 : BitVec 32 := Scf.iv v54 c1_i32_22 k0_t4
  let v148 : BitVec 32 := Scalar.muli c8_i32_72 arg38
  let c6_i32_73 : BitVec 32 := 6#32
  let v149 : BitVec 32 := Scalar.addi v148 c6_i32_73
  let v150 : BitVec 1 := Scalar.cmpi .slt v149 v26
  let v151 : BitVec 32 := Scalar.extui v150
  let c0_i32_74 : BitVec 32 := 0#32
  let v152 : BitVec 1 := Scalar.cmpi .ne v151 c0_i32_74
  v152

def k0_off100 (i : grid0.Coords) (k0_t4 : Fin (k0_t4_loop i).trips) : Fin 1 → Nat :=
  let c8_i32_72 : BitVec 32 := 8#32
  let c0_i32_19 : BitVec 32 := 0#32
  let arg0 : BitVec 32 := BitVec.ofNat 32 (i 0).val
  let c0_i32 : BitVec 32 := 0#32
  let v7 : BitVec 1 := Scalar.cmpi .eq arg0 c0_i32
  let arg1 : BitVec 32 := BitVec.ofNat 32 (i 1).val
  let c7_i32_1 : BitVec 32 := 7#32
  let v5 : BitVec 1 := Scalar.cmpi .slt arg1 c7_i32_1
  let c22_i32_2 : BitVec 32 := 22#32
  let c21_i32_3 : BitVec 32 := 21#32
  let v6 : BitVec 32 := Scalar.select v5 c22_i32_2 c21_i32_3
  let c1000_i32 : BitVec 32 := 1000#32
  let v8 : BitVec 32 := Scalar.muli v6 c1000_i32
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c64_i32 : BitVec 32 := 64#32
  let c0_i32_6 : BitVec 32 := 0#32
  let v15 : BitVec 1 := Scalar.cmpi .sgt c64_i32 c0_i32_6
  let v16 : BitVec 32 := Scalar.extui v15
  let c0_i32_7 : BitVec 32 := 0#32
  let v17 : BitVec 1 := Scalar.cmpi .slt c64_i32 c0_i32_7
  let v18 : BitVec 32 := Scalar.extui v17
  let v19 : BitVec 32 := Scalar.subi v16 v18
  let v20 : BitVec 1 := Scalar.cmpi .ne v14 v19
  let v21 : BitVec 32 := Scalar.remsi v8 c64_i32
  let c0_i32_8 : BitVec 32 := 0#32
  let v22 : BitVec 1 := Scalar.cmpi .ne v21 c0_i32_8
  let v23 : BitVec 1 := Scalar.andi v20 v22
  let v9 : BitVec 32 := Scalar.divsi v8 c64_i32
  let c1_i32 : BitVec 32 := 1#32
  let v24 : BitVec 32 := Scalar.subi v9 c1_i32
  let v25 : BitVec 32 := Scalar.select v23 v24 v9
  let c0_i32_9 : BitVec 32 := 0#32
  let v26 : BitVec 32 := Scalar.select v7 v25 c0_i32_9
  let c14_i32 : BitVec 32 := 14#32
  let v32 : BitVec 32 := Scalar.addi v26 c14_i32
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c8_i32 : BitVec 32 := 8#32
  let c0_i32_15 : BitVec 32 := 0#32
  let v39 : BitVec 1 := Scalar.cmpi .sgt c8_i32 c0_i32_15
  let v40 : BitVec 32 := Scalar.extui v39
  let c0_i32_16 : BitVec 32 := 0#32
  let v41 : BitVec 1 := Scalar.cmpi .slt c8_i32 c0_i32_16
  let v42 : BitVec 32 := Scalar.extui v41
  let v43 : BitVec 32 := Scalar.subi v40 v42
  let v44 : BitVec 1 := Scalar.cmpi .ne v38 v43
  let v45 : BitVec 32 := Scalar.remsi v32 c8_i32
  let c0_i32_17 : BitVec 32 := 0#32
  let v46 : BitVec 1 := Scalar.cmpi .ne v45 c0_i32_17
  let v47 : BitVec 1 := Scalar.andi v44 v46
  let v33 : BitVec 32 := Scalar.divsi v32 c8_i32
  let c1_i32_18 : BitVec 32 := 1#32
  let v48 : BitVec 32 := Scalar.subi v33 c1_i32_18
  let v49 : BitVec 32 := Scalar.select v47 v48 v33
  let v50 : BitVec 32 := Scalar.subi v49 c0_i32_19
  let c1_i32_20 : BitVec 32 := 1#32
  let v52 : BitVec 32 := Scalar.divsi v50 c1_i32_20
  let v53 : BitVec 32 := Scalar.muli v52 c1_i32_20
  let v54 : BitVec 32 := Scalar.addi c0_i32_19 v53
  let c1_i32_22 : BitVec 32 := 1#32
  let arg38 : BitVec 32 := Scf.iv v54 c1_i32_22 k0_t4
  let v148 : BitVec 32 := Scalar.muli c8_i32_72 arg38
  let c6_i32_73 : BitVec 32 := 6#32
  let v149 : BitVec 32 := Scalar.addi v148 c6_i32_73
  let c64_i32_86 : BitVec 32 := 64#32
  let v173 : BitVec 32 := Scalar.muli v149 c64_i32_86
  ![v173.toNat]
def k0_cond46 (i : grid0.Coords) (k0_t4 : Fin (k0_t4_loop i).trips) : BitVec 1 :=
  let c8_i32_72 : BitVec 32 := 8#32
  let c0_i32_19 : BitVec 32 := 0#32
  let arg0 : BitVec 32 := BitVec.ofNat 32 (i 0).val
  let c0_i32 : BitVec 32 := 0#32
  let v7 : BitVec 1 := Scalar.cmpi .eq arg0 c0_i32
  let arg1 : BitVec 32 := BitVec.ofNat 32 (i 1).val
  let c7_i32_1 : BitVec 32 := 7#32
  let v5 : BitVec 1 := Scalar.cmpi .slt arg1 c7_i32_1
  let c22_i32_2 : BitVec 32 := 22#32
  let c21_i32_3 : BitVec 32 := 21#32
  let v6 : BitVec 32 := Scalar.select v5 c22_i32_2 c21_i32_3
  let c1000_i32 : BitVec 32 := 1000#32
  let v8 : BitVec 32 := Scalar.muli v6 c1000_i32
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c64_i32 : BitVec 32 := 64#32
  let c0_i32_6 : BitVec 32 := 0#32
  let v15 : BitVec 1 := Scalar.cmpi .sgt c64_i32 c0_i32_6
  let v16 : BitVec 32 := Scalar.extui v15
  let c0_i32_7 : BitVec 32 := 0#32
  let v17 : BitVec 1 := Scalar.cmpi .slt c64_i32 c0_i32_7
  let v18 : BitVec 32 := Scalar.extui v17
  let v19 : BitVec 32 := Scalar.subi v16 v18
  let v20 : BitVec 1 := Scalar.cmpi .ne v14 v19
  let v21 : BitVec 32 := Scalar.remsi v8 c64_i32
  let c0_i32_8 : BitVec 32 := 0#32
  let v22 : BitVec 1 := Scalar.cmpi .ne v21 c0_i32_8
  let v23 : BitVec 1 := Scalar.andi v20 v22
  let v9 : BitVec 32 := Scalar.divsi v8 c64_i32
  let c1_i32 : BitVec 32 := 1#32
  let v24 : BitVec 32 := Scalar.subi v9 c1_i32
  let v25 : BitVec 32 := Scalar.select v23 v24 v9
  let c0_i32_9 : BitVec 32 := 0#32
  let v26 : BitVec 32 := Scalar.select v7 v25 c0_i32_9
  let c14_i32 : BitVec 32 := 14#32
  let v32 : BitVec 32 := Scalar.addi v26 c14_i32
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c8_i32 : BitVec 32 := 8#32
  let c0_i32_15 : BitVec 32 := 0#32
  let v39 : BitVec 1 := Scalar.cmpi .sgt c8_i32 c0_i32_15
  let v40 : BitVec 32 := Scalar.extui v39
  let c0_i32_16 : BitVec 32 := 0#32
  let v41 : BitVec 1 := Scalar.cmpi .slt c8_i32 c0_i32_16
  let v42 : BitVec 32 := Scalar.extui v41
  let v43 : BitVec 32 := Scalar.subi v40 v42
  let v44 : BitVec 1 := Scalar.cmpi .ne v38 v43
  let v45 : BitVec 32 := Scalar.remsi v32 c8_i32
  let c0_i32_17 : BitVec 32 := 0#32
  let v46 : BitVec 1 := Scalar.cmpi .ne v45 c0_i32_17
  let v47 : BitVec 1 := Scalar.andi v44 v46
  let v33 : BitVec 32 := Scalar.divsi v32 c8_i32
  let c1_i32_18 : BitVec 32 := 1#32
  let v48 : BitVec 32 := Scalar.subi v33 c1_i32_18
  let v49 : BitVec 32 := Scalar.select v47 v48 v33
  let v50 : BitVec 32 := Scalar.subi v49 c0_i32_19
  let c1_i32_20 : BitVec 32 := 1#32
  let v52 : BitVec 32 := Scalar.divsi v50 c1_i32_20
  let v53 : BitVec 32 := Scalar.muli v52 c1_i32_20
  let v54 : BitVec 32 := Scalar.addi c0_i32_19 v53
  let c1_i32_22 : BitVec 32 := 1#32
  let arg38 : BitVec 32 := Scf.iv v54 c1_i32_22 k0_t4
  let v148 : BitVec 32 := Scalar.muli c8_i32_72 arg38
  let c6_i32_73 : BitVec 32 := 6#32
  let v149 : BitVec 32 := Scalar.addi v148 c6_i32_73
  let c7_i32_75 : BitVec 32 := 7#32
  let v153 : BitVec 32 := Scalar.subi v149 c7_i32_75
  let c0_i32_76 : BitVec 32 := 0#32
  let v154 : BitVec 1 := Scalar.cmpi .sge v153 c0_i32_76
  let v155 : BitVec 1 := Scalar.cmpi .slt v153 v26
  let v156 : BitVec 1 := Scalar.andi v154 v155
  let v157 : BitVec 32 := Scalar.extui v156
  let c0_i32_77 : BitVec 32 := 0#32
  let v158 : BitVec 1 := Scalar.cmpi .ne v157 c0_i32_77
  v158

def k0_off101 (i : grid0.Coords) (k0_t4 : Fin (k0_t4_loop i).trips) : Fin 2 → Nat :=
  let arg1 : BitVec 32 := BitVec.ofNat 32 (i 1).val
  let c7_i32 : BitVec 32 := 7#32
  let v0 : BitVec 1 := Scalar.cmpi .slt arg1 c7_i32
  let c22_i32 : BitVec 32 := 22#32
  let v1 : BitVec 32 := Scalar.muli arg1 c22_i32
  let c21_i32 : BitVec 32 := 21#32
  let v2 : BitVec 32 := Scalar.muli c21_i32 arg1
  let c7_i32_0 : BitVec 32 := 7#32
  let v3 : BitVec 32 := Scalar.addi v2 c7_i32_0
  let v4 : BitVec 32 := Scalar.select v0 v1 v3
  let c1000_i32_12 : BitVec 32 := 1000#32
  let v31 : BitVec 32 := Scalar.muli v4 c1000_i32_12
  let c8_i32_72 : BitVec 32 := 8#32
  let c0_i32_19 : BitVec 32 := 0#32
  let arg0 : BitVec 32 := BitVec.ofNat 32 (i 0).val
  let c0_i32 : BitVec 32 := 0#32
  let v7 : BitVec 1 := Scalar.cmpi .eq arg0 c0_i32
  let c7_i32_1 : BitVec 32 := 7#32
  let v5 : BitVec 1 := Scalar.cmpi .slt arg1 c7_i32_1
  let c22_i32_2 : BitVec 32 := 22#32
  let c21_i32_3 : BitVec 32 := 21#32
  let v6 : BitVec 32 := Scalar.select v5 c22_i32_2 c21_i32_3
  let c1000_i32 : BitVec 32 := 1000#32
  let v8 : BitVec 32 := Scalar.muli v6 c1000_i32
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c64_i32 : BitVec 32 := 64#32
  let c0_i32_6 : BitVec 32 := 0#32
  let v15 : BitVec 1 := Scalar.cmpi .sgt c64_i32 c0_i32_6
  let v16 : BitVec 32 := Scalar.extui v15
  let c0_i32_7 : BitVec 32 := 0#32
  let v17 : BitVec 1 := Scalar.cmpi .slt c64_i32 c0_i32_7
  let v18 : BitVec 32 := Scalar.extui v17
  let v19 : BitVec 32 := Scalar.subi v16 v18
  let v20 : BitVec 1 := Scalar.cmpi .ne v14 v19
  let v21 : BitVec 32 := Scalar.remsi v8 c64_i32
  let c0_i32_8 : BitVec 32 := 0#32
  let v22 : BitVec 1 := Scalar.cmpi .ne v21 c0_i32_8
  let v23 : BitVec 1 := Scalar.andi v20 v22
  let v9 : BitVec 32 := Scalar.divsi v8 c64_i32
  let c1_i32 : BitVec 32 := 1#32
  let v24 : BitVec 32 := Scalar.subi v9 c1_i32
  let v25 : BitVec 32 := Scalar.select v23 v24 v9
  let c0_i32_9 : BitVec 32 := 0#32
  let v26 : BitVec 32 := Scalar.select v7 v25 c0_i32_9
  let c14_i32 : BitVec 32 := 14#32
  let v32 : BitVec 32 := Scalar.addi v26 c14_i32
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c8_i32 : BitVec 32 := 8#32
  let c0_i32_15 : BitVec 32 := 0#32
  let v39 : BitVec 1 := Scalar.cmpi .sgt c8_i32 c0_i32_15
  let v40 : BitVec 32 := Scalar.extui v39
  let c0_i32_16 : BitVec 32 := 0#32
  let v41 : BitVec 1 := Scalar.cmpi .slt c8_i32 c0_i32_16
  let v42 : BitVec 32 := Scalar.extui v41
  let v43 : BitVec 32 := Scalar.subi v40 v42
  let v44 : BitVec 1 := Scalar.cmpi .ne v38 v43
  let v45 : BitVec 32 := Scalar.remsi v32 c8_i32
  let c0_i32_17 : BitVec 32 := 0#32
  let v46 : BitVec 1 := Scalar.cmpi .ne v45 c0_i32_17
  let v47 : BitVec 1 := Scalar.andi v44 v46
  let v33 : BitVec 32 := Scalar.divsi v32 c8_i32
  let c1_i32_18 : BitVec 32 := 1#32
  let v48 : BitVec 32 := Scalar.subi v33 c1_i32_18
  let v49 : BitVec 32 := Scalar.select v47 v48 v33
  let v50 : BitVec 32 := Scalar.subi v49 c0_i32_19
  let c1_i32_20 : BitVec 32 := 1#32
  let v52 : BitVec 32 := Scalar.divsi v50 c1_i32_20
  let v53 : BitVec 32 := Scalar.muli v52 c1_i32_20
  let v54 : BitVec 32 := Scalar.addi c0_i32_19 v53
  let c1_i32_22 : BitVec 32 := 1#32
  let arg38 : BitVec 32 := Scf.iv v54 c1_i32_22 k0_t4
  let v148 : BitVec 32 := Scalar.muli c8_i32_72 arg38
  let c6_i32_73 : BitVec 32 := 6#32
  let v149 : BitVec 32 := Scalar.addi v148 c6_i32_73
  let c7_i32_75 : BitVec 32 := 7#32
  let v153 : BitVec 32 := Scalar.subi v149 c7_i32_75
  let c64_i32_87 : BitVec 32 := 64#32
  let v172 : BitVec 32 := Scalar.muli v153 c64_i32_87
  let v173 : BitVec 32 := Scalar.addi v31 v172
  let c0_i32_88 : BitVec 32 := 0#32
  ![v173.toNat, 0]
def k0_cond47 (i : grid0.Coords) (k0_t4 : Fin (k0_t4_loop i).trips) : BitVec 1 :=
  let c8_i32_78 : BitVec 32 := 8#32
  let c0_i32_19 : BitVec 32 := 0#32
  let arg0 : BitVec 32 := BitVec.ofNat 32 (i 0).val
  let c0_i32 : BitVec 32 := 0#32
  let v7 : BitVec 1 := Scalar.cmpi .eq arg0 c0_i32
  let arg1 : BitVec 32 := BitVec.ofNat 32 (i 1).val
  let c7_i32_1 : BitVec 32 := 7#32
  let v5 : BitVec 1 := Scalar.cmpi .slt arg1 c7_i32_1
  let c22_i32_2 : BitVec 32 := 22#32
  let c21_i32_3 : BitVec 32 := 21#32
  let v6 : BitVec 32 := Scalar.select v5 c22_i32_2 c21_i32_3
  let c1000_i32 : BitVec 32 := 1000#32
  let v8 : BitVec 32 := Scalar.muli v6 c1000_i32
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c64_i32 : BitVec 32 := 64#32
  let c0_i32_6 : BitVec 32 := 0#32
  let v15 : BitVec 1 := Scalar.cmpi .sgt c64_i32 c0_i32_6
  let v16 : BitVec 32 := Scalar.extui v15
  let c0_i32_7 : BitVec 32 := 0#32
  let v17 : BitVec 1 := Scalar.cmpi .slt c64_i32 c0_i32_7
  let v18 : BitVec 32 := Scalar.extui v17
  let v19 : BitVec 32 := Scalar.subi v16 v18
  let v20 : BitVec 1 := Scalar.cmpi .ne v14 v19
  let v21 : BitVec 32 := Scalar.remsi v8 c64_i32
  let c0_i32_8 : BitVec 32 := 0#32
  let v22 : BitVec 1 := Scalar.cmpi .ne v21 c0_i32_8
  let v23 : BitVec 1 := Scalar.andi v20 v22
  let v9 : BitVec 32 := Scalar.divsi v8 c64_i32
  let c1_i32 : BitVec 32 := 1#32
  let v24 : BitVec 32 := Scalar.subi v9 c1_i32
  let v25 : BitVec 32 := Scalar.select v23 v24 v9
  let c0_i32_9 : BitVec 32 := 0#32
  let v26 : BitVec 32 := Scalar.select v7 v25 c0_i32_9
  let c14_i32 : BitVec 32 := 14#32
  let v32 : BitVec 32 := Scalar.addi v26 c14_i32
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c8_i32 : BitVec 32 := 8#32
  let c0_i32_15 : BitVec 32 := 0#32
  let v39 : BitVec 1 := Scalar.cmpi .sgt c8_i32 c0_i32_15
  let v40 : BitVec 32 := Scalar.extui v39
  let c0_i32_16 : BitVec 32 := 0#32
  let v41 : BitVec 1 := Scalar.cmpi .slt c8_i32 c0_i32_16
  let v42 : BitVec 32 := Scalar.extui v41
  let v43 : BitVec 32 := Scalar.subi v40 v42
  let v44 : BitVec 1 := Scalar.cmpi .ne v38 v43
  let v45 : BitVec 32 := Scalar.remsi v32 c8_i32
  let c0_i32_17 : BitVec 32 := 0#32
  let v46 : BitVec 1 := Scalar.cmpi .ne v45 c0_i32_17
  let v47 : BitVec 1 := Scalar.andi v44 v46
  let v33 : BitVec 32 := Scalar.divsi v32 c8_i32
  let c1_i32_18 : BitVec 32 := 1#32
  let v48 : BitVec 32 := Scalar.subi v33 c1_i32_18
  let v49 : BitVec 32 := Scalar.select v47 v48 v33
  let v50 : BitVec 32 := Scalar.subi v49 c0_i32_19
  let c1_i32_20 : BitVec 32 := 1#32
  let v52 : BitVec 32 := Scalar.divsi v50 c1_i32_20
  let v53 : BitVec 32 := Scalar.muli v52 c1_i32_20
  let v54 : BitVec 32 := Scalar.addi c0_i32_19 v53
  let c1_i32_22 : BitVec 32 := 1#32
  let arg38 : BitVec 32 := Scf.iv v54 c1_i32_22 k0_t4
  let v159 : BitVec 32 := Scalar.muli c8_i32_78 arg38
  let c7_i32_79 : BitVec 32 := 7#32
  let v160 : BitVec 32 := Scalar.addi v159 c7_i32_79
  let v161 : BitVec 1 := Scalar.cmpi .slt v160 v26
  let v162 : BitVec 32 := Scalar.extui v161
  let c0_i32_80 : BitVec 32 := 0#32
  let v163 : BitVec 1 := Scalar.cmpi .ne v162 c0_i32_80
  v163

def k0_off102 (i : grid0.Coords) (k0_t4 : Fin (k0_t4_loop i).trips) : Fin 1 → Nat :=
  let c8_i32_78 : BitVec 32 := 8#32
  let c0_i32_19 : BitVec 32 := 0#32
  let arg0 : BitVec 32 := BitVec.ofNat 32 (i 0).val
  let c0_i32 : BitVec 32 := 0#32
  let v7 : BitVec 1 := Scalar.cmpi .eq arg0 c0_i32
  let arg1 : BitVec 32 := BitVec.ofNat 32 (i 1).val
  let c7_i32_1 : BitVec 32 := 7#32
  let v5 : BitVec 1 := Scalar.cmpi .slt arg1 c7_i32_1
  let c22_i32_2 : BitVec 32 := 22#32
  let c21_i32_3 : BitVec 32 := 21#32
  let v6 : BitVec 32 := Scalar.select v5 c22_i32_2 c21_i32_3
  let c1000_i32 : BitVec 32 := 1000#32
  let v8 : BitVec 32 := Scalar.muli v6 c1000_i32
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c64_i32 : BitVec 32 := 64#32
  let c0_i32_6 : BitVec 32 := 0#32
  let v15 : BitVec 1 := Scalar.cmpi .sgt c64_i32 c0_i32_6
  let v16 : BitVec 32 := Scalar.extui v15
  let c0_i32_7 : BitVec 32 := 0#32
  let v17 : BitVec 1 := Scalar.cmpi .slt c64_i32 c0_i32_7
  let v18 : BitVec 32 := Scalar.extui v17
  let v19 : BitVec 32 := Scalar.subi v16 v18
  let v20 : BitVec 1 := Scalar.cmpi .ne v14 v19
  let v21 : BitVec 32 := Scalar.remsi v8 c64_i32
  let c0_i32_8 : BitVec 32 := 0#32
  let v22 : BitVec 1 := Scalar.cmpi .ne v21 c0_i32_8
  let v23 : BitVec 1 := Scalar.andi v20 v22
  let v9 : BitVec 32 := Scalar.divsi v8 c64_i32
  let c1_i32 : BitVec 32 := 1#32
  let v24 : BitVec 32 := Scalar.subi v9 c1_i32
  let v25 : BitVec 32 := Scalar.select v23 v24 v9
  let c0_i32_9 : BitVec 32 := 0#32
  let v26 : BitVec 32 := Scalar.select v7 v25 c0_i32_9
  let c14_i32 : BitVec 32 := 14#32
  let v32 : BitVec 32 := Scalar.addi v26 c14_i32
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c8_i32 : BitVec 32 := 8#32
  let c0_i32_15 : BitVec 32 := 0#32
  let v39 : BitVec 1 := Scalar.cmpi .sgt c8_i32 c0_i32_15
  let v40 : BitVec 32 := Scalar.extui v39
  let c0_i32_16 : BitVec 32 := 0#32
  let v41 : BitVec 1 := Scalar.cmpi .slt c8_i32 c0_i32_16
  let v42 : BitVec 32 := Scalar.extui v41
  let v43 : BitVec 32 := Scalar.subi v40 v42
  let v44 : BitVec 1 := Scalar.cmpi .ne v38 v43
  let v45 : BitVec 32 := Scalar.remsi v32 c8_i32
  let c0_i32_17 : BitVec 32 := 0#32
  let v46 : BitVec 1 := Scalar.cmpi .ne v45 c0_i32_17
  let v47 : BitVec 1 := Scalar.andi v44 v46
  let v33 : BitVec 32 := Scalar.divsi v32 c8_i32
  let c1_i32_18 : BitVec 32 := 1#32
  let v48 : BitVec 32 := Scalar.subi v33 c1_i32_18
  let v49 : BitVec 32 := Scalar.select v47 v48 v33
  let v50 : BitVec 32 := Scalar.subi v49 c0_i32_19
  let c1_i32_20 : BitVec 32 := 1#32
  let v52 : BitVec 32 := Scalar.divsi v50 c1_i32_20
  let v53 : BitVec 32 := Scalar.muli v52 c1_i32_20
  let v54 : BitVec 32 := Scalar.addi c0_i32_19 v53
  let c1_i32_22 : BitVec 32 := 1#32
  let arg38 : BitVec 32 := Scf.iv v54 c1_i32_22 k0_t4
  let v159 : BitVec 32 := Scalar.muli c8_i32_78 arg38
  let c7_i32_79 : BitVec 32 := 7#32
  let v160 : BitVec 32 := Scalar.addi v159 c7_i32_79
  let c64_i32_86 : BitVec 32 := 64#32
  let v173 : BitVec 32 := Scalar.muli v160 c64_i32_86
  ![v173.toNat]
def k0_cond49 (i : grid0.Coords) (k0_t4 : Fin (k0_t4_loop i).trips) : BitVec 1 :=
  let c8_i32_78 : BitVec 32 := 8#32
  let c0_i32_19 : BitVec 32 := 0#32
  let arg0 : BitVec 32 := BitVec.ofNat 32 (i 0).val
  let c0_i32 : BitVec 32 := 0#32
  let v7 : BitVec 1 := Scalar.cmpi .eq arg0 c0_i32
  let arg1 : BitVec 32 := BitVec.ofNat 32 (i 1).val
  let c7_i32_1 : BitVec 32 := 7#32
  let v5 : BitVec 1 := Scalar.cmpi .slt arg1 c7_i32_1
  let c22_i32_2 : BitVec 32 := 22#32
  let c21_i32_3 : BitVec 32 := 21#32
  let v6 : BitVec 32 := Scalar.select v5 c22_i32_2 c21_i32_3
  let c1000_i32 : BitVec 32 := 1000#32
  let v8 : BitVec 32 := Scalar.muli v6 c1000_i32
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c64_i32 : BitVec 32 := 64#32
  let c0_i32_6 : BitVec 32 := 0#32
  let v15 : BitVec 1 := Scalar.cmpi .sgt c64_i32 c0_i32_6
  let v16 : BitVec 32 := Scalar.extui v15
  let c0_i32_7 : BitVec 32 := 0#32
  let v17 : BitVec 1 := Scalar.cmpi .slt c64_i32 c0_i32_7
  let v18 : BitVec 32 := Scalar.extui v17
  let v19 : BitVec 32 := Scalar.subi v16 v18
  let v20 : BitVec 1 := Scalar.cmpi .ne v14 v19
  let v21 : BitVec 32 := Scalar.remsi v8 c64_i32
  let c0_i32_8 : BitVec 32 := 0#32
  let v22 : BitVec 1 := Scalar.cmpi .ne v21 c0_i32_8
  let v23 : BitVec 1 := Scalar.andi v20 v22
  let v9 : BitVec 32 := Scalar.divsi v8 c64_i32
  let c1_i32 : BitVec 32 := 1#32
  let v24 : BitVec 32 := Scalar.subi v9 c1_i32
  let v25 : BitVec 32 := Scalar.select v23 v24 v9
  let c0_i32_9 : BitVec 32 := 0#32
  let v26 : BitVec 32 := Scalar.select v7 v25 c0_i32_9
  let c14_i32 : BitVec 32 := 14#32
  let v32 : BitVec 32 := Scalar.addi v26 c14_i32
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c8_i32 : BitVec 32 := 8#32
  let c0_i32_15 : BitVec 32 := 0#32
  let v39 : BitVec 1 := Scalar.cmpi .sgt c8_i32 c0_i32_15
  let v40 : BitVec 32 := Scalar.extui v39
  let c0_i32_16 : BitVec 32 := 0#32
  let v41 : BitVec 1 := Scalar.cmpi .slt c8_i32 c0_i32_16
  let v42 : BitVec 32 := Scalar.extui v41
  let v43 : BitVec 32 := Scalar.subi v40 v42
  let v44 : BitVec 1 := Scalar.cmpi .ne v38 v43
  let v45 : BitVec 32 := Scalar.remsi v32 c8_i32
  let c0_i32_17 : BitVec 32 := 0#32
  let v46 : BitVec 1 := Scalar.cmpi .ne v45 c0_i32_17
  let v47 : BitVec 1 := Scalar.andi v44 v46
  let v33 : BitVec 32 := Scalar.divsi v32 c8_i32
  let c1_i32_18 : BitVec 32 := 1#32
  let v48 : BitVec 32 := Scalar.subi v33 c1_i32_18
  let v49 : BitVec 32 := Scalar.select v47 v48 v33
  let v50 : BitVec 32 := Scalar.subi v49 c0_i32_19
  let c1_i32_20 : BitVec 32 := 1#32
  let v52 : BitVec 32 := Scalar.divsi v50 c1_i32_20
  let v53 : BitVec 32 := Scalar.muli v52 c1_i32_20
  let v54 : BitVec 32 := Scalar.addi c0_i32_19 v53
  let c1_i32_22 : BitVec 32 := 1#32
  let arg38 : BitVec 32 := Scf.iv v54 c1_i32_22 k0_t4
  let v159 : BitVec 32 := Scalar.muli c8_i32_78 arg38
  let c7_i32_79 : BitVec 32 := 7#32
  let v160 : BitVec 32 := Scalar.addi v159 c7_i32_79
  let c7_i32_81 : BitVec 32 := 7#32
  let v164 : BitVec 32 := Scalar.subi v160 c7_i32_81
  let c0_i32_82 : BitVec 32 := 0#32
  let v165 : BitVec 1 := Scalar.cmpi .sge v164 c0_i32_82
  let v166 : BitVec 1 := Scalar.cmpi .slt v164 v26
  let v167 : BitVec 1 := Scalar.andi v165 v166
  let v168 : BitVec 32 := Scalar.extui v167
  let c0_i32_83 : BitVec 32 := 0#32
  let v169 : BitVec 1 := Scalar.cmpi .ne v168 c0_i32_83
  v169

def k0_off103 (i : grid0.Coords) (k0_t4 : Fin (k0_t4_loop i).trips) : Fin 2 → Nat :=
  let arg1 : BitVec 32 := BitVec.ofNat 32 (i 1).val
  let c7_i32 : BitVec 32 := 7#32
  let v0 : BitVec 1 := Scalar.cmpi .slt arg1 c7_i32
  let c22_i32 : BitVec 32 := 22#32
  let v1 : BitVec 32 := Scalar.muli arg1 c22_i32
  let c21_i32 : BitVec 32 := 21#32
  let v2 : BitVec 32 := Scalar.muli c21_i32 arg1
  let c7_i32_0 : BitVec 32 := 7#32
  let v3 : BitVec 32 := Scalar.addi v2 c7_i32_0
  let v4 : BitVec 32 := Scalar.select v0 v1 v3
  let c1000_i32_12 : BitVec 32 := 1000#32
  let v31 : BitVec 32 := Scalar.muli v4 c1000_i32_12
  let c8_i32_78 : BitVec 32 := 8#32
  let c0_i32_19 : BitVec 32 := 0#32
  let arg0 : BitVec 32 := BitVec.ofNat 32 (i 0).val
  let c0_i32 : BitVec 32 := 0#32
  let v7 : BitVec 1 := Scalar.cmpi .eq arg0 c0_i32
  let c7_i32_1 : BitVec 32 := 7#32
  let v5 : BitVec 1 := Scalar.cmpi .slt arg1 c7_i32_1
  let c22_i32_2 : BitVec 32 := 22#32
  let c21_i32_3 : BitVec 32 := 21#32
  let v6 : BitVec 32 := Scalar.select v5 c22_i32_2 c21_i32_3
  let c1000_i32 : BitVec 32 := 1000#32
  let v8 : BitVec 32 := Scalar.muli v6 c1000_i32
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c64_i32 : BitVec 32 := 64#32
  let c0_i32_6 : BitVec 32 := 0#32
  let v15 : BitVec 1 := Scalar.cmpi .sgt c64_i32 c0_i32_6
  let v16 : BitVec 32 := Scalar.extui v15
  let c0_i32_7 : BitVec 32 := 0#32
  let v17 : BitVec 1 := Scalar.cmpi .slt c64_i32 c0_i32_7
  let v18 : BitVec 32 := Scalar.extui v17
  let v19 : BitVec 32 := Scalar.subi v16 v18
  let v20 : BitVec 1 := Scalar.cmpi .ne v14 v19
  let v21 : BitVec 32 := Scalar.remsi v8 c64_i32
  let c0_i32_8 : BitVec 32 := 0#32
  let v22 : BitVec 1 := Scalar.cmpi .ne v21 c0_i32_8
  let v23 : BitVec 1 := Scalar.andi v20 v22
  let v9 : BitVec 32 := Scalar.divsi v8 c64_i32
  let c1_i32 : BitVec 32 := 1#32
  let v24 : BitVec 32 := Scalar.subi v9 c1_i32
  let v25 : BitVec 32 := Scalar.select v23 v24 v9
  let c0_i32_9 : BitVec 32 := 0#32
  let v26 : BitVec 32 := Scalar.select v7 v25 c0_i32_9
  let c14_i32 : BitVec 32 := 14#32
  let v32 : BitVec 32 := Scalar.addi v26 c14_i32
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c8_i32 : BitVec 32 := 8#32
  let c0_i32_15 : BitVec 32 := 0#32
  let v39 : BitVec 1 := Scalar.cmpi .sgt c8_i32 c0_i32_15
  let v40 : BitVec 32 := Scalar.extui v39
  let c0_i32_16 : BitVec 32 := 0#32
  let v41 : BitVec 1 := Scalar.cmpi .slt c8_i32 c0_i32_16
  let v42 : BitVec 32 := Scalar.extui v41
  let v43 : BitVec 32 := Scalar.subi v40 v42
  let v44 : BitVec 1 := Scalar.cmpi .ne v38 v43
  let v45 : BitVec 32 := Scalar.remsi v32 c8_i32
  let c0_i32_17 : BitVec 32 := 0#32
  let v46 : BitVec 1 := Scalar.cmpi .ne v45 c0_i32_17
  let v47 : BitVec 1 := Scalar.andi v44 v46
  let v33 : BitVec 32 := Scalar.divsi v32 c8_i32
  let c1_i32_18 : BitVec 32 := 1#32
  let v48 : BitVec 32 := Scalar.subi v33 c1_i32_18
  let v49 : BitVec 32 := Scalar.select v47 v48 v33
  let v50 : BitVec 32 := Scalar.subi v49 c0_i32_19
  let c1_i32_20 : BitVec 32 := 1#32
  let v52 : BitVec 32 := Scalar.divsi v50 c1_i32_20
  let v53 : BitVec 32 := Scalar.muli v52 c1_i32_20
  let v54 : BitVec 32 := Scalar.addi c0_i32_19 v53
  let c1_i32_22 : BitVec 32 := 1#32
  let arg38 : BitVec 32 := Scf.iv v54 c1_i32_22 k0_t4
  let v159 : BitVec 32 := Scalar.muli c8_i32_78 arg38
  let c7_i32_79 : BitVec 32 := 7#32
  let v160 : BitVec 32 := Scalar.addi v159 c7_i32_79
  let c7_i32_81 : BitVec 32 := 7#32
  let v164 : BitVec 32 := Scalar.subi v160 c7_i32_81
  let c64_i32_87 : BitVec 32 := 64#32
  let v172 : BitVec 32 := Scalar.muli v164 c64_i32_87
  let v173 : BitVec 32 := Scalar.addi v31 v172
  let c0_i32_88 : BitVec 32 := 0#32
  ![v173.toNat, 0]
def k0_cond58 (i : grid0.Coords) : BitVec 1 :=
  let arg0 : BitVec 32 := BitVec.ofNat 32 (i 0).val
  let c0_i32_34 : BitVec 32 := 0#32
  let v79 : BitVec 1 := Scalar.cmpi .eq arg0 c0_i32_34
  let v80 : BitVec 32 := Scalar.extui v79
  let c0_i32_35 : BitVec 32 := 0#32
  let v81 : BitVec 1 := Scalar.cmpi .ne v80 c0_i32_35
  v81

def k0_cond59 (i : grid0.Coords) : BitVec 1 :=
  let arg1 : BitVec 32 := BitVec.ofNat 32 (i 1).val
  let c7_i32_37 : BitVec 32 := 7#32
  let v83 : BitVec 1 := Scalar.cmpi .slt arg1 c7_i32_37
  let v85 : BitVec 32 := Scalar.extui v83
  let c0_i32_39 : BitVec 32 := 0#32
  let v86 : BitVec 1 := Scalar.cmpi .ne v85 c0_i32_39
  v86

def k0_off104 (i : grid0.Coords) : Fin 1 → Nat :=
  let arg0 : BitVec 32 := BitVec.ofNat 32 (i 0).val
  let c0_i32 : BitVec 32 := 0#32
  let v7 : BitVec 1 := Scalar.cmpi .eq arg0 c0_i32
  let arg1 : BitVec 32 := BitVec.ofNat 32 (i 1).val
  let c7_i32_1 : BitVec 32 := 7#32
  let v5 : BitVec 1 := Scalar.cmpi .slt arg1 c7_i32_1
  let c22_i32_2 : BitVec 32 := 22#32
  let c21_i32_3 : BitVec 32 := 21#32
  let v6 : BitVec 32 := Scalar.select v5 c22_i32_2 c21_i32_3
  let c1000_i32 : BitVec 32 := 1000#32
  let v8 : BitVec 32 := Scalar.muli v6 c1000_i32
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c64_i32 : BitVec 32 := 64#32
  let c0_i32_6 : BitVec 32 := 0#32
  let v15 : BitVec 1 := Scalar.cmpi .sgt c64_i32 c0_i32_6
  let v16 : BitVec 32 := Scalar.extui v15
  let c0_i32_7 : BitVec 32 := 0#32
  let v17 : BitVec 1 := Scalar.cmpi .slt c64_i32 c0_i32_7
  let v18 : BitVec 32 := Scalar.extui v17
  let v19 : BitVec 32 := Scalar.subi v16 v18
  let v20 : BitVec 1 := Scalar.cmpi .ne v14 v19
  let v21 : BitVec 32 := Scalar.remsi v8 c64_i32
  let c0_i32_8 : BitVec 32 := 0#32
  let v22 : BitVec 1 := Scalar.cmpi .ne v21 c0_i32_8
  let v23 : BitVec 1 := Scalar.andi v20 v22
  let v9 : BitVec 32 := Scalar.divsi v8 c64_i32
  let c1_i32 : BitVec 32 := 1#32
  let v24 : BitVec 32 := Scalar.subi v9 c1_i32
  let v25 : BitVec 32 := Scalar.select v23 v24 v9
  let c0_i32_9 : BitVec 32 := 0#32
  let v26 : BitVec 32 := Scalar.select v7 v25 c0_i32_9
  let c64_i32_36 : BitVec 32 := 64#32
  let v82 : BitVec 32 := Scalar.muli v26 c64_i32_36
  ![v82.toNat]
def k0_off105 (i : grid0.Coords) : Fin 2 → Nat :=
  let arg1 : BitVec 32 := BitVec.ofNat 32 (i 1).val
  let c7_i32 : BitVec 32 := 7#32
  let v0 : BitVec 1 := Scalar.cmpi .slt arg1 c7_i32
  let c22_i32 : BitVec 32 := 22#32
  let v1 : BitVec 32 := Scalar.muli arg1 c22_i32
  let c21_i32 : BitVec 32 := 21#32
  let v2 : BitVec 32 := Scalar.muli c21_i32 arg1
  let c7_i32_0 : BitVec 32 := 7#32
  let v3 : BitVec 32 := Scalar.addi v2 c7_i32_0
  let v4 : BitVec 32 := Scalar.select v0 v1 v3
  let c1000_i32_12 : BitVec 32 := 1000#32
  let v31 : BitVec 32 := Scalar.muli v4 c1000_i32_12
  let arg0 : BitVec 32 := BitVec.ofNat 32 (i 0).val
  let c0_i32 : BitVec 32 := 0#32
  let v7 : BitVec 1 := Scalar.cmpi .eq arg0 c0_i32
  let c7_i32_1 : BitVec 32 := 7#32
  let v5 : BitVec 1 := Scalar.cmpi .slt arg1 c7_i32_1
  let c22_i32_2 : BitVec 32 := 22#32
  let c21_i32_3 : BitVec 32 := 21#32
  let v6 : BitVec 32 := Scalar.select v5 c22_i32_2 c21_i32_3
  let c1000_i32 : BitVec 32 := 1000#32
  let v8 : BitVec 32 := Scalar.muli v6 c1000_i32
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c64_i32 : BitVec 32 := 64#32
  let c0_i32_6 : BitVec 32 := 0#32
  let v15 : BitVec 1 := Scalar.cmpi .sgt c64_i32 c0_i32_6
  let v16 : BitVec 32 := Scalar.extui v15
  let c0_i32_7 : BitVec 32 := 0#32
  let v17 : BitVec 1 := Scalar.cmpi .slt c64_i32 c0_i32_7
  let v18 : BitVec 32 := Scalar.extui v17
  let v19 : BitVec 32 := Scalar.subi v16 v18
  let v20 : BitVec 1 := Scalar.cmpi .ne v14 v19
  let v21 : BitVec 32 := Scalar.remsi v8 c64_i32
  let c0_i32_8 : BitVec 32 := 0#32
  let v22 : BitVec 1 := Scalar.cmpi .ne v21 c0_i32_8
  let v23 : BitVec 1 := Scalar.andi v20 v22
  let v9 : BitVec 32 := Scalar.divsi v8 c64_i32
  let c1_i32 : BitVec 32 := 1#32
  let v24 : BitVec 32 := Scalar.subi v9 c1_i32
  let v25 : BitVec 32 := Scalar.select v23 v24 v9
  let c0_i32_9 : BitVec 32 := 0#32
  let v26 : BitVec 32 := Scalar.select v7 v25 c0_i32_9
  let c64_i32_36 : BitVec 32 := 64#32
  let v82 : BitVec 32 := Scalar.muli v26 c64_i32_36
  let v93 : BitVec 32 := Scalar.addi v31 v82
  let c0_i32_45 : BitVec 32 := 0#32
  ![v93.toNat, 0]
def k0_cond60 (i : grid0.Coords) : BitVec 1 :=
  let arg1 : BitVec 32 := BitVec.ofNat 32 (i 1).val
  let c7_i32_38 : BitVec 32 := 7#32
  let v84 : BitVec 1 := Scalar.cmpi .sge arg1 c7_i32_38
  let v87 : BitVec 32 := Scalar.extui v84
  let c0_i32_40 : BitVec 32 := 0#32
  let v88 : BitVec 1 := Scalar.cmpi .ne v87 c0_i32_40
  v88

def k0_off106 (i : grid0.Coords) : Fin 1 → Nat :=
  let arg0 : BitVec 32 := BitVec.ofNat 32 (i 0).val
  let c0_i32 : BitVec 32 := 0#32
  let v7 : BitVec 1 := Scalar.cmpi .eq arg0 c0_i32
  let arg1 : BitVec 32 := BitVec.ofNat 32 (i 1).val
  let c7_i32_1 : BitVec 32 := 7#32
  let v5 : BitVec 1 := Scalar.cmpi .slt arg1 c7_i32_1
  let c22_i32_2 : BitVec 32 := 22#32
  let c21_i32_3 : BitVec 32 := 21#32
  let v6 : BitVec 32 := Scalar.select v5 c22_i32_2 c21_i32_3
  let c1000_i32 : BitVec 32 := 1000#32
  let v8 : BitVec 32 := Scalar.muli v6 c1000_i32
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c64_i32 : BitVec 32 := 64#32
  let c0_i32_6 : BitVec 32 := 0#32
  let v15 : BitVec 1 := Scalar.cmpi .sgt c64_i32 c0_i32_6
  let v16 : BitVec 32 := Scalar.extui v15
  let c0_i32_7 : BitVec 32 := 0#32
  let v17 : BitVec 1 := Scalar.cmpi .slt c64_i32 c0_i32_7
  let v18 : BitVec 32 := Scalar.extui v17
  let v19 : BitVec 32 := Scalar.subi v16 v18
  let v20 : BitVec 1 := Scalar.cmpi .ne v14 v19
  let v21 : BitVec 32 := Scalar.remsi v8 c64_i32
  let c0_i32_8 : BitVec 32 := 0#32
  let v22 : BitVec 1 := Scalar.cmpi .ne v21 c0_i32_8
  let v23 : BitVec 1 := Scalar.andi v20 v22
  let v9 : BitVec 32 := Scalar.divsi v8 c64_i32
  let c1_i32 : BitVec 32 := 1#32
  let v24 : BitVec 32 := Scalar.subi v9 c1_i32
  let v25 : BitVec 32 := Scalar.select v23 v24 v9
  let c0_i32_9 : BitVec 32 := 0#32
  let v26 : BitVec 32 := Scalar.select v7 v25 c0_i32_9
  let c64_i32_36 : BitVec 32 := 64#32
  let v82 : BitVec 32 := Scalar.muli v26 c64_i32_36
  ![v82.toNat]
def k0_off107 (i : grid0.Coords) : Fin 2 → Nat :=
  let arg1 : BitVec 32 := BitVec.ofNat 32 (i 1).val
  let c7_i32 : BitVec 32 := 7#32
  let v0 : BitVec 1 := Scalar.cmpi .slt arg1 c7_i32
  let c22_i32 : BitVec 32 := 22#32
  let v1 : BitVec 32 := Scalar.muli arg1 c22_i32
  let c21_i32 : BitVec 32 := 21#32
  let v2 : BitVec 32 := Scalar.muli c21_i32 arg1
  let c7_i32_0 : BitVec 32 := 7#32
  let v3 : BitVec 32 := Scalar.addi v2 c7_i32_0
  let v4 : BitVec 32 := Scalar.select v0 v1 v3
  let c1000_i32_12 : BitVec 32 := 1000#32
  let v31 : BitVec 32 := Scalar.muli v4 c1000_i32_12
  let arg0 : BitVec 32 := BitVec.ofNat 32 (i 0).val
  let c0_i32 : BitVec 32 := 0#32
  let v7 : BitVec 1 := Scalar.cmpi .eq arg0 c0_i32
  let c7_i32_1 : BitVec 32 := 7#32
  let v5 : BitVec 1 := Scalar.cmpi .slt arg1 c7_i32_1
  let c22_i32_2 : BitVec 32 := 22#32
  let c21_i32_3 : BitVec 32 := 21#32
  let v6 : BitVec 32 := Scalar.select v5 c22_i32_2 c21_i32_3
  let c1000_i32 : BitVec 32 := 1000#32
  let v8 : BitVec 32 := Scalar.muli v6 c1000_i32
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c64_i32 : BitVec 32 := 64#32
  let c0_i32_6 : BitVec 32 := 0#32
  let v15 : BitVec 1 := Scalar.cmpi .sgt c64_i32 c0_i32_6
  let v16 : BitVec 32 := Scalar.extui v15
  let c0_i32_7 : BitVec 32 := 0#32
  let v17 : BitVec 1 := Scalar.cmpi .slt c64_i32 c0_i32_7
  let v18 : BitVec 32 := Scalar.extui v17
  let v19 : BitVec 32 := Scalar.subi v16 v18
  let v20 : BitVec 1 := Scalar.cmpi .ne v14 v19
  let v21 : BitVec 32 := Scalar.remsi v8 c64_i32
  let c0_i32_8 : BitVec 32 := 0#32
  let v22 : BitVec 1 := Scalar.cmpi .ne v21 c0_i32_8
  let v23 : BitVec 1 := Scalar.andi v20 v22
  let v9 : BitVec 32 := Scalar.divsi v8 c64_i32
  let c1_i32 : BitVec 32 := 1#32
  let v24 : BitVec 32 := Scalar.subi v9 c1_i32
  let v25 : BitVec 32 := Scalar.select v23 v24 v9
  let c0_i32_9 : BitVec 32 := 0#32
  let v26 : BitVec 32 := Scalar.select v7 v25 c0_i32_9
  let c64_i32_36 : BitVec 32 := 64#32
  let v82 : BitVec 32 := Scalar.muli v26 c64_i32_36
  let v93 : BitVec 32 := Scalar.addi v31 v82
  let c0_i32_45 : BitVec 32 := 0#32
  ![v93.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "five_sixths" => some ((5 / 6 : ℝ) : EReal)
  | "sixth" => some ((1 / 6 : ℝ) : EReal)
  | "third" => some ((1 / 3 : ℝ) : EReal)
  | "two_thirds" => some ((2 / 3 : ℝ) : EReal)
  | _ => none
-- ==== ReferenceIdeal.lean ====
abbrev S2x128x32x64x64 : Shape := ⟨5, ![2, 128, 32, 64, 64]⟩
abbrev S1000x7 : Shape := ⟨2, ![1000, 7]⟩
abbrev S1000x1 : Shape := ⟨2, ![1000, 1]⟩
abbrev S1000 : Shape := ⟨1, ![1000]⟩
abbrev S_ : Shape := ⟨0, ![]⟩
abbrev S6 : Shape := ⟨1, ![6]⟩
abbrev S1x6 : Shape := ⟨2, ![1, 6]⟩
abbrev S1000x6 : Shape := ⟨2, ![1000, 6]⟩
abbrev S1 : Shape := ⟨1, ![1]⟩
abbrev S1x1 : Shape := ⟨2, ![1, 1]⟩
abbrev S1000x128x32x64x64 : Shape := ⟨5, ![1000, 128, 32, 64, 64]⟩
abbrev S1000x7x1x1 : Shape := ⟨4, ![1000, 7, 1, 1]⟩
abbrev S1000x1x7x1 : Shape := ⟨4, ![1000, 1, 7, 1]⟩
abbrev S1000x1x1x7 : Shape := ⟨4, ![1000, 1, 1, 7]⟩
abbrev S1000x7x7x7 : Shape := ⟨4, ![1000, 7, 7, 7]⟩
abbrev S1000x7x7x7x1 : Shape := ⟨5, ![1000, 7, 7, 7, 1]⟩
abbrev S1000x7x7x7x3 : Shape := ⟨5, ![1000, 7, 7, 7, 3]⟩
abbrev S1000x128x7x7x7 : Shape := ⟨5, ![1000, 128, 7, 7, 7]⟩

abbrev nBuf : Space → Nat
  | .hbm => 219
  | .vmem => 0
  | .smem => 0
  | _ => 0

abbrev hbmTy0_0 (i : Nat) : BufTy := match i % 128 with
  | 0 => ⟨S2x128x32x64x64, .f32⟩
  | 1 => ⟨S1000x7, .f32⟩
  | 2 => ⟨S1000x1, .f32⟩
  | 3 => ⟨S1000, .f32⟩
  | 4 => ⟨S1000, .i32⟩
  | 5 => ⟨S1000x1, .f32⟩
  | 6 => ⟨S1000, .f32⟩
  | 7 => ⟨S_, .f32⟩
  | 8 => ⟨S_, .i32⟩
  | 9 => ⟨S_, .f32⟩
  | 10 => ⟨S1000, .f32⟩
  | 11 => ⟨S1000, .f32⟩
  | 12 => ⟨S_, .f32⟩
  | 13 => ⟨S1000, .f32⟩
  | 14 => ⟨S1000, .f32⟩
  | 15 => ⟨S1000x1, .f32⟩
  | 16 => ⟨S1000, .f32⟩
  | 17 => ⟨S_, .f32⟩
  | 18 => ⟨S_, .i32⟩
  | 19 => ⟨S_, .f32⟩
  | 20 => ⟨S1000, .f32⟩
  | 21 => ⟨S1000, .f32⟩
  | 22 => ⟨S_, .f32⟩
  | 23 => ⟨S1000, .f32⟩
  | 24 => ⟨S1000, .f32⟩
  | 25 => ⟨S1000x1, .f32⟩
  | 26 => ⟨S1000, .f32⟩
  | 27 => ⟨S_, .f32⟩
  | 28 => ⟨S_, .i32⟩
  | 29 => ⟨S_, .f32⟩
  | 30 => ⟨S1000, .f32⟩
  | 31 => ⟨S1000, .f32⟩
  | 32 => ⟨S_, .f32⟩
  | 33 => ⟨S1000, .f32⟩
  | 34 => ⟨S1000, .f32⟩
  | 35 => ⟨S1000x1, .f32⟩
  | 36 => ⟨S1000, .f32⟩
  | 37 => ⟨S_, .f32⟩
  | 38 => ⟨S_, .i32⟩
  | 39 => ⟨S_, .f32⟩
  | 40 => ⟨S1000, .f32⟩
  | 41 => ⟨S1000, .f32⟩
  | 42 => ⟨S_, .f32⟩
  | 43 => ⟨S1000, .f32⟩
  | 44 => ⟨S1000, .f32⟩
  | 45 => ⟨S1000x1, .f32⟩
  | 46 => ⟨S1000, .f32⟩
  | 47 => ⟨S_, .f32⟩
  | 48 => ⟨S_, .i32⟩
  | 49 => ⟨S_, .f32⟩
  | 50 => ⟨S1000, .f32⟩
  | 51 => ⟨S1000, .f32⟩
  | 52 => ⟨S_, .f32⟩
  | 53 => ⟨S1000, .f32⟩
  | 54 => ⟨S1000, .f32⟩
  | 55 => ⟨S1000x1, .f32⟩
  | 56 => ⟨S1000, .f32⟩
  | 57 => ⟨S_, .f32⟩
  | 58 => ⟨S_, .i32⟩
  | 59 => ⟨S_, .f32⟩
  | 60 => ⟨S1000, .f32⟩
  | 61 => ⟨S1000, .f32⟩
  | 62 => ⟨S_, .f32⟩
  | 63 => ⟨S1000, .f32⟩
  | 64 => ⟨S1000, .f32⟩
  | 65 => ⟨S1000, .f32⟩
  | 66 => ⟨S_, .f32⟩
  | 67 => ⟨S1000, .f32⟩
  | 68 => ⟨S1000, .f32⟩
  | 69 => ⟨S6, .f32⟩
  | 70 => ⟨S_, .f32⟩
  | 71 => ⟨S6, .f32⟩
  | 72 => ⟨S6, .f32⟩
  | 73 => ⟨S1000x1, .f32⟩
  | 74 => ⟨S_, .f32⟩
  | 75 => ⟨S6, .f32⟩
  | 76 => ⟨S6, .f32⟩
  | 77 => ⟨S1x6, .f32⟩
  | 78 => ⟨S1000x6, .f32⟩
  | 79 => ⟨S1000x6, .f32⟩
  | 80 => ⟨S1000x6, .f32⟩
  | 81 => ⟨S1000x1, .f32⟩
  | 82 => ⟨S1x6, .f32⟩
  | 83 => ⟨S1000x6, .f32⟩
  | 84 => ⟨S1000x6, .f32⟩
  | 85 => ⟨S1000x6, .f32⟩
  | 86 => ⟨S1000x6, .f32⟩
  | 87 => ⟨S1000x1, .f32⟩
  | 88 => ⟨S1000x7, .f32⟩
  | 89 => ⟨S1000, .f32⟩
  | 90 => ⟨S_, .f32⟩
  | 91 => ⟨S1000, .f32⟩
  | 92 => ⟨S1000, .f32⟩
  | 93 => ⟨S6, .f32⟩
  | 94 => ⟨S_, .f32⟩
  | 95 => ⟨S6, .f32⟩
  | 96 => ⟨S6, .f32⟩
  | 97 => ⟨S1000x1, .f32⟩
  | 98 => ⟨S_, .f32⟩
  | 99 => ⟨S6, .f32⟩
  | 100 => ⟨S6, .f32⟩
  | 101 => ⟨S1x6, .f32⟩
  | 102 => ⟨S1000x6, .f32⟩
  | 103 => ⟨S1000x6, .f32⟩
  | 104 => ⟨S1000x6, .f32⟩
  | 105 => ⟨S1000x1, .f32⟩
  | 106 => ⟨S1x6, .f32⟩
  | 107 => ⟨S1000x6, .f32⟩
  | 108 => ⟨S1000x6, .f32⟩
  | 109 => ⟨S1000x6, .f32⟩
  | 110 => ⟨S1000x6, .f32⟩
  | 111 => ⟨S1000x1, .f32⟩
  | 112 => ⟨S1000x7, .f32⟩
  | 113 => ⟨S1000, .f32⟩
  | 114 => ⟨S_, .f32⟩
  | 115 => ⟨S1000, .f32⟩
  | 116 => ⟨S1000, .f32⟩
  | 117 => ⟨S6, .f32⟩
  | 118 => ⟨S_, .f32⟩
  | 119 => ⟨S6, .f32⟩
  | 120 => ⟨S6, .f32⟩
  | 121 => ⟨S1000x1, .f32⟩
  | 122 => ⟨S_, .f32⟩
  | 123 => ⟨S6, .f32⟩
  | 124 => ⟨S6, .f32⟩
  | 125 => ⟨S1x6, .f32⟩
  | 126 => ⟨S1000x6, .f32⟩
  | 127 => ⟨S1000x6, .f32⟩
  | _ => ⟨S2x128x32x64x64, .f32⟩

abbrev hbmTy0_1 (i : Nat) : BufTy := match i % 128 with
  | 0 => ⟨S1000x6, .f32⟩
  | 1 => ⟨S1000x1, .f32⟩
  | 2 => ⟨S1x6, .f32⟩
  | 3 => ⟨S1000x6, .f32⟩
  | 4 => ⟨S1000x6, .f32⟩
  | 5 => ⟨S1000x6, .f32⟩
  | 6 => ⟨S1000x6, .f32⟩
  | 7 => ⟨S1000x1, .f32⟩
  | 8 => ⟨S1000x7, .f32⟩
  | 9 => ⟨S1000x7, .i32⟩
  | 10 => ⟨S_, .i32⟩
  | 11 => ⟨S_, .i32⟩
  | 12 => ⟨S_, .i32⟩
  | 13 => ⟨S1000x7, .i32⟩
  | 14 => ⟨S1000x7, .i32⟩
  | 15 => ⟨S_, .i32⟩
  | 16 => ⟨S1000x7, .i32⟩
  | 17 => ⟨S1000x7, .i32⟩
  | 18 => ⟨S1000x7, .i32⟩
  | 19 => ⟨S_, .i32⟩
  | 20 => ⟨S_, .i32⟩
  | 21 => ⟨S_, .i32⟩
  | 22 => ⟨S1000x7, .i32⟩
  | 23 => ⟨S1000x7, .i32⟩
  | 24 => ⟨S_, .i32⟩
  | 25 => ⟨S1000x7, .i32⟩
  | 26 => ⟨S1000x7, .i32⟩
  | 27 => ⟨S1000x7, .i32⟩
  | 28 => ⟨S_, .i32⟩
  | 29 => ⟨S_, .i32⟩
  | 30 => ⟨S_, .i32⟩
  | 31 => ⟨S1000x7, .i32⟩
  | 32 => ⟨S1000x7, .i32⟩
  | 33 => ⟨S_, .i32⟩
  | 34 => ⟨S1000x7, .i32⟩
  | 35 => ⟨S1000x7, .i32⟩
  | 36 => ⟨S_, .i32⟩
  | 37 => ⟨S1000, .i32⟩
  | 38 => ⟨S1000, .i1⟩
  | 39 => ⟨S_, .i32⟩
  | 40 => ⟨S1000, .i32⟩
  | 41 => ⟨S1000, .i32⟩
  | 42 => ⟨S1000, .i32⟩
  | 43 => ⟨S1000x1, .i32⟩
  | 44 => ⟨S1, .i32⟩
  | 45 => ⟨S_, .i32⟩
  | 46 => ⟨S1000x1, .i32⟩
  | 47 => ⟨S1000x1, .i1⟩
  | 48 => ⟨S1x1, .i32⟩
  | 49 => ⟨S1000x1, .i32⟩
  | 50 => ⟨S1000x1, .i1⟩
  | 51 => ⟨S1000x1, .i1⟩
  | 52 => ⟨S_, .i1⟩
  | 53 => ⟨S1000, .i1⟩
  | 54 => ⟨S1000x128x32x64x64, .f32⟩
  | 55 => ⟨S1000x128x32x64x64, .i1⟩
  | 56 => ⟨S_, .f32⟩
  | 57 => ⟨S1000x128x32x64x64, .f32⟩
  | 58 => ⟨S1000x128x32x64x64, .f32⟩
  | 59 => ⟨S1000x7x1x1, .i32⟩
  | 60 => ⟨S1000x1x7x1, .i32⟩
  | 61 => ⟨S1000x1x1x7, .i32⟩
  | 62 => ⟨S_, .i32⟩
  | 63 => ⟨S1000x7x1x1, .i32⟩
  | 64 => ⟨S1000x7x1x1, .i1⟩
  | 65 => ⟨S_, .i32⟩
  | 66 => ⟨S1000x7x1x1, .i32⟩
  | 67 => ⟨S1000x7x1x1, .i32⟩
  | 68 => ⟨S1000x7x1x1, .i32⟩
  | 69 => ⟨S_, .i32⟩
  | 70 => ⟨S1000x1x7x1, .i32⟩
  | 71 => ⟨S1000x1x7x1, .i1⟩
  | 72 => ⟨S_, .i32⟩
  | 73 => ⟨S1000x1x7x1, .i32⟩
  | 74 => ⟨S1000x1x7x1, .i32⟩
  | 75 => ⟨S1000x1x7x1, .i32⟩
  | 76 => ⟨S_, .i32⟩
  | 77 => ⟨S1000x1x1x7, .i32⟩
  | 78 => ⟨S1000x1x1x7, .i1⟩
  | 79 => ⟨S_, .i32⟩
  | 80 => ⟨S1000x1x1x7, .i32⟩
  | 81 => ⟨S1000x1x1x7, .i32⟩
  | 82 => ⟨S1000x1x1x7, .i32⟩
  | 83 => ⟨S1000x7x7x7, .i32⟩
  | 84 => ⟨S1000x7x7x7, .i32⟩
  | 85 => ⟨S1000x7x7x7, .i32⟩
  | 86 => ⟨S1000x7x7x7x1, .i32⟩
  | 87 => ⟨S1000x7x7x7x1, .i32⟩
  | 88 => ⟨S1000x7x7x7x1, .i32⟩
  | 89 => ⟨S1000x7x7x7x3, .i32⟩
  | 90 => ⟨S1000x128x7x7x7, .f32⟩
  | _ => ⟨S2x128x32x64x64, .f32⟩

abbrev hbmTy (i : Nat) : BufTy := match i / 128 with
  | 0 => hbmTy0_0 i
  | 1 => hbmTy0_1 i
  | _ => ⟨S2x128x32x64x64, .f32⟩

abbrev bufTy : (tb : Table) → Fin (tcTables nBuf tb) → BufTy
  | .hbm, ⟨i, _⟩ => hbmTy i
  | _, _ => ⟨S2x128x32x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_c_1 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_2 : Ref sig .tc := ⟨.hbm, 27, rfl⟩
abbrev main_c_3 : Ref sig .tc := ⟨.hbm, 28, rfl⟩
abbrev main_call2_v0 : Ref sig .tc := ⟨.hbm, 29, rfl⟩
abbrev main_call2_v1 : Ref sig .tc := ⟨.hbm, 30, rfl⟩
abbrev main_call2_v2 : Ref sig .tc := ⟨.hbm, 31, rfl⟩
abbrev main_call2_v3 : Ref sig .tc := ⟨.hbm, 32, rfl⟩
abbrev main_call2_v4 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_cst_4 : Ref sig .tc := ⟨.hbm, 37, rfl⟩
abbrev main_c_5 : Ref sig .tc := ⟨.hbm, 38, rfl⟩
abbrev main_call3_v0 : Ref sig .tc := ⟨.hbm, 39, rfl⟩
abbrev main_call3_v1 : Ref sig .tc := ⟨.hbm, 40, rfl⟩
abbrev main_call3_v2 : Ref sig .tc := ⟨.hbm, 41, rfl⟩
abbrev main_call3_v3 : Ref sig .tc := ⟨.hbm, 42, rfl⟩
abbrev main_call3_v4 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_cst_6 : Ref sig .tc := ⟨.hbm, 47, rfl⟩
abbrev main_c_7 : Ref sig .tc := ⟨.hbm, 48, rfl⟩
abbrev main_call4_v0 : Ref sig .tc := ⟨.hbm, 49, rfl⟩
abbrev main_call4_v1 : Ref sig .tc := ⟨.hbm, 50, rfl⟩
abbrev main_call4_v2 : Ref sig .tc := ⟨.hbm, 51, rfl⟩
abbrev main_call4_v3 : Ref sig .tc := ⟨.hbm, 52, rfl⟩
abbrev main_call4_v4 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_cst_8 : Ref sig .tc := ⟨.hbm, 57, rfl⟩
abbrev main_c_9 : Ref sig .tc := ⟨.hbm, 58, rfl⟩
abbrev main_call5_v0 : Ref sig .tc := ⟨.hbm, 59, rfl⟩
abbrev main_call5_v1 : Ref sig .tc := ⟨.hbm, 60, rfl⟩
abbrev main_call5_v2 : Ref sig .tc := ⟨.hbm, 61, rfl⟩
abbrev main_call5_v3 : Ref sig .tc := ⟨.hbm, 62, rfl⟩
abbrev main_call5_v4 : Ref sig .tc := ⟨.hbm, 63, rfl⟩
abbrev main_v20 : Ref sig .tc := ⟨.hbm, 64, rfl⟩
abbrev main_call6_v0 : Ref sig .tc := ⟨.hbm, 65, rfl⟩
abbrev main_call6_cst : Ref sig .tc := ⟨.hbm, 66, rfl⟩
abbrev main_call6_v1 : Ref sig .tc := ⟨.hbm, 67, rfl⟩
abbrev main_call6_v2 : Ref sig .tc := ⟨.hbm, 68, rfl⟩
abbrev main_call6_v3 : Ref sig .tc := ⟨.hbm, 69, rfl⟩
abbrev main_call6_cst_0 : Ref sig .tc := ⟨.hbm, 70, rfl⟩
abbrev main_call6_v4 : Ref sig .tc := ⟨.hbm, 71, rfl⟩
abbrev main_call6_v5 : Ref sig .tc := ⟨.hbm, 72, rfl⟩
abbrev main_call6_v6 : Ref sig .tc := ⟨.hbm, 73, rfl⟩
abbrev main_call6_cst_1 : Ref sig .tc := ⟨.hbm, 74, rfl⟩
abbrev main_call6_v7 : Ref sig .tc := ⟨.hbm, 75, rfl⟩
abbrev main_call6_v8 : Ref sig .tc := ⟨.hbm, 76, rfl⟩
abbrev main_call6_v9 : Ref sig .tc := ⟨.hbm, 77, rfl⟩
abbrev main_call6_v10 : Ref sig .tc := ⟨.hbm, 78, rfl⟩
abbrev main_call6_v11 : Ref sig .tc := ⟨.hbm, 79, rfl⟩
abbrev main_call6_v12 : Ref sig .tc := ⟨.hbm, 80, rfl⟩
abbrev main_call6_v13 : Ref sig .tc := ⟨.hbm, 81, rfl⟩
abbrev main_call6_v14 : Ref sig .tc := ⟨.hbm, 82, rfl⟩
abbrev main_call6_v15 : Ref sig .tc := ⟨.hbm, 83, rfl⟩
abbrev main_call6_v16 : Ref sig .tc := ⟨.hbm, 84, rfl⟩
abbrev main_call6_v17 : Ref sig .tc := ⟨.hbm, 85, rfl⟩
abbrev main_call6_v18 : Ref sig .tc := ⟨.hbm, 86, rfl⟩
abbrev main_call6_v19 : Ref sig .tc := ⟨.hbm, 87, rfl⟩
abbrev main_v21 : Ref sig .tc := ⟨.hbm, 88, rfl⟩
abbrev main_call7_v0 : Ref sig .tc := ⟨.hbm, 89, rfl⟩
abbrev main_call7_cst : Ref sig .tc := ⟨.hbm, 90, rfl⟩
abbrev main_call7_v1 : Ref sig .tc := ⟨.hbm, 91, rfl⟩
abbrev main_call7_v2 : Ref sig .tc := ⟨.hbm, 92, rfl⟩
abbrev main_call7_v3 : Ref sig .tc := ⟨.hbm, 93, rfl⟩
abbrev main_call7_cst_0 : Ref sig .tc := ⟨.hbm, 94, rfl⟩
abbrev main_call7_v4 : Ref sig .tc := ⟨.hbm, 95, rfl⟩
abbrev main_call7_v5 : Ref sig .tc := ⟨.hbm, 96, rfl⟩
abbrev main_call7_v6 : Ref sig .tc := ⟨.hbm, 97, rfl⟩
abbrev main_call7_cst_1 : Ref sig .tc := ⟨.hbm, 98, rfl⟩
abbrev main_call7_v7 : Ref sig .tc := ⟨.hbm, 99, rfl⟩
abbrev main_call7_v8 : Ref sig .tc := ⟨.hbm, 100, rfl⟩
abbrev main_call7_v9 : Ref sig .tc := ⟨.hbm, 101, rfl⟩
abbrev main_call7_v10 : Ref sig .tc := ⟨.hbm, 102, rfl⟩
abbrev main_call7_v11 : Ref sig .tc := ⟨.hbm, 103, rfl⟩
abbrev main_call7_v12 : Ref sig .tc := ⟨.hbm, 104, rfl⟩
abbrev main_call7_v13 : Ref sig .tc := ⟨.hbm, 105, rfl⟩
abbrev main_call7_v14 : Ref sig .tc := ⟨.hbm, 106, rfl⟩
abbrev main_call7_v15 : Ref sig .tc := ⟨.hbm, 107, rfl⟩
abbrev main_call7_v16 : Ref sig .tc := ⟨.hbm, 108, rfl⟩
abbrev main_call7_v17 : Ref sig .tc := ⟨.hbm, 109, rfl⟩
abbrev main_call7_v18 : Ref sig .tc := ⟨.hbm, 110, rfl⟩
abbrev main_call7_v19 : Ref sig .tc := ⟨.hbm, 111, rfl⟩
abbrev main_v22 : Ref sig .tc := ⟨.hbm, 112, rfl⟩
abbrev main_call8_v0 : Ref sig .tc := ⟨.hbm, 113, rfl⟩
abbrev main_call8_cst : Ref sig .tc := ⟨.hbm, 114, rfl⟩
abbrev main_call8_v1 : Ref sig .tc := ⟨.hbm, 115, rfl⟩
abbrev main_call8_v2 : Ref sig .tc := ⟨.hbm, 116, rfl⟩
abbrev main_call8_v3 : Ref sig .tc := ⟨.hbm, 117, rfl⟩
abbrev main_call8_cst_0 : Ref sig .tc := ⟨.hbm, 118, rfl⟩
abbrev main_call8_v4 : Ref sig .tc := ⟨.hbm, 119, rfl⟩
abbrev main_call8_v5 : Ref sig .tc := ⟨.hbm, 120, rfl⟩
abbrev main_call8_v6 : Ref sig .tc := ⟨.hbm, 121, rfl⟩
abbrev main_call8_cst_1 : Ref sig .tc := ⟨.hbm, 122, rfl⟩
abbrev main_call8_v7 : Ref sig .tc := ⟨.hbm, 123, rfl⟩
abbrev main_call8_v8 : Ref sig .tc := ⟨.hbm, 124, rfl⟩
abbrev main_call8_v9 : Ref sig .tc := ⟨.hbm, 125, rfl⟩
abbrev main_call8_v10 : Ref sig .tc := ⟨.hbm, 126, rfl⟩
abbrev main_call8_v11 : Ref sig .tc := ⟨.hbm, 127, rfl⟩
abbrev main_call8_v12 : Ref sig .tc := ⟨.hbm, 128, rfl⟩
abbrev main_call8_v13 : Ref sig .tc := ⟨.hbm, 129, rfl⟩
abbrev main_call8_v14 : Ref sig .tc := ⟨.hbm, 130, rfl⟩
abbrev main_call8_v15 : Ref sig .tc := ⟨.hbm, 131, rfl⟩
abbrev main_call8_v16 : Ref sig .tc := ⟨.hbm, 132, rfl⟩
abbrev main_call8_v17 : Ref sig .tc := ⟨.hbm, 133, rfl⟩
abbrev main_call8_v18 : Ref sig .tc := ⟨.hbm, 134, rfl⟩
abbrev main_call8_v19 : Ref sig .tc := ⟨.hbm, 135, rfl⟩
abbrev main_v23 : Ref sig .tc := ⟨.hbm, 136, rfl⟩
abbrev main_v24 : Ref sig .tc := ⟨.hbm, 137, rfl⟩
abbrev main_c_10 : Ref sig .tc := ⟨.hbm, 138, rfl⟩
abbrev main_c_11 : Ref sig .tc := ⟨.hbm, 139, rfl⟩
abbrev main_call9_v0 : Ref sig .tc := ⟨.hbm, 140, rfl⟩
abbrev main_call9_v1 : Ref sig .tc := ⟨.hbm, 141, rfl⟩
abbrev main_call9_v2 : Ref sig .tc := ⟨.hbm, 142, rfl⟩
abbrev main_call9_v3 : Ref sig .tc := ⟨.hbm, 143, rfl⟩
abbrev main_call9_v4 : Ref sig .tc := ⟨.hbm, 144, rfl⟩
abbrev main_v25 : Ref sig .tc := ⟨.hbm, 145, rfl⟩
abbrev main_v26 : Ref sig .tc := ⟨.hbm, 146, rfl⟩
abbrev main_c_12 : Ref sig .tc := ⟨.hbm, 147, rfl⟩
abbrev main_c_13 : Ref sig .tc := ⟨.hbm, 148, rfl⟩
abbrev main_call10_v0 : Ref sig .tc := ⟨.hbm, 149, rfl⟩
abbrev main_call10_v1 : Ref sig .tc := ⟨.hbm, 150, rfl⟩
abbrev main_call10_v2 : Ref sig .tc := ⟨.hbm, 151, rfl⟩
abbrev main_call10_v3 : Ref sig .tc := ⟨.hbm, 152, rfl⟩
abbrev main_call10_v4 : Ref sig .tc := ⟨.hbm, 153, rfl⟩
abbrev main_v27 : Ref sig .tc := ⟨.hbm, 154, rfl⟩
abbrev main_v28 : Ref sig .tc := ⟨.hbm, 155, rfl⟩
abbrev main_c_14 : Ref sig .tc := ⟨.hbm, 156, rfl⟩
abbrev main_c_15 : Ref sig .tc := ⟨.hbm, 157, rfl⟩
abbrev main_call11_v0 : Ref sig .tc := ⟨.hbm, 158, rfl⟩
abbrev main_call11_v1 : Ref sig .tc := ⟨.hbm, 159, rfl⟩
abbrev main_call11_v2 : Ref sig .tc := ⟨.hbm, 160, rfl⟩
abbrev main_call11_v3 : Ref sig .tc := ⟨.hbm, 161, rfl⟩
abbrev main_call11_v4 : Ref sig .tc := ⟨.hbm, 162, rfl⟩
abbrev main_v29 : Ref sig .tc := ⟨.hbm, 163, rfl⟩
abbrev main_call12_c : Ref sig .tc := ⟨.hbm, 164, rfl⟩
abbrev main_call12_v0 : Ref sig .tc := ⟨.hbm, 165, rfl⟩
abbrev main_call12_v1 : Ref sig .tc := ⟨.hbm, 166, rfl⟩
abbrev main_call12_c_0 : Ref sig .tc := ⟨.hbm, 167, rfl⟩
abbrev main_call12_v2 : Ref sig .tc := ⟨.hbm, 168, rfl⟩
abbrev main_call12_v3 : Ref sig .tc := ⟨.hbm, 169, rfl⟩
abbrev main_call12_v4 : Ref sig .tc := ⟨.hbm, 170, rfl⟩
abbrev main_call12_v5 : Ref sig .tc := ⟨.hbm, 171, rfl⟩
abbrev main_call12_c_1 : Ref sig .tc := ⟨.hbm, 172, rfl⟩
abbrev main_call12_c_2 : Ref sig .tc := ⟨.hbm, 173, rfl⟩
abbrev main_call12_v6 : Ref sig .tc := ⟨.hbm, 174, rfl⟩
abbrev main_call12_v7 : Ref sig .tc := ⟨.hbm, 175, rfl⟩
abbrev main_call12_v8 : Ref sig .tc := ⟨.hbm, 176, rfl⟩
abbrev main_call12_v9 : Ref sig .tc := ⟨.hbm, 177, rfl⟩
abbrev main_call12_v10 : Ref sig .tc := ⟨.hbm, 178, rfl⟩
abbrev main_call12_v11 : Ref sig .tc := ⟨.hbm, 179, rfl⟩
abbrev main_call12_c_3 : Ref sig .tc := ⟨.hbm, 180, rfl⟩
abbrev main_call12_v12 : Ref sig .tc := ⟨.hbm, 181, rfl⟩
abbrev main_call12_v13 : Ref sig .tc := ⟨.hbm, 182, rfl⟩
abbrev main_call12_v14 : Ref sig .tc := ⟨.hbm, 183, rfl⟩
abbrev main_call12_cst : Ref sig .tc := ⟨.hbm, 184, rfl⟩
abbrev main_call12_v15 : Ref sig .tc := ⟨.hbm, 185, rfl⟩
abbrev main_v30 : Ref sig .tc := ⟨.hbm, 186, rfl⟩
abbrev main_v31 : Ref sig .tc := ⟨.hbm, 187, rfl⟩
abbrev main_v32 : Ref sig .tc := ⟨.hbm, 188, rfl⟩
abbrev main_v33 : Ref sig .tc := ⟨.hbm, 189, rfl⟩
abbrev main_c_16 : Ref sig .tc := ⟨.hbm, 190, rfl⟩
abbrev main_v34 : Ref sig .tc := ⟨.hbm, 191, rfl⟩
abbrev main_v35 : Ref sig .tc := ⟨.hbm, 192, rfl⟩
abbrev main_c_17 : Ref sig .tc := ⟨.hbm, 193, rfl⟩
abbrev main_v36 : Ref sig .tc := ⟨.hbm, 194, rfl⟩
abbrev main_v37 : Ref sig .tc := ⟨.hbm, 195, rfl⟩
abbrev main_v38 : Ref sig .tc := ⟨.hbm, 196, rfl⟩
abbrev main_c_18 : Ref sig .tc := ⟨.hbm, 197, rfl⟩
abbrev main_v39 : Ref sig .tc := ⟨.hbm, 198, rfl⟩
abbrev main_v40 : Ref sig .tc := ⟨.hbm, 199, rfl⟩
abbrev main_c_19 : Ref sig .tc := ⟨.hbm, 200, rfl⟩
abbrev main_v41 : Ref sig .tc := ⟨.hbm, 201, rfl⟩
abbrev main_v42 : Ref sig .tc := ⟨.hbm, 202, rfl⟩
abbrev main_v43 : Ref sig .tc := ⟨.hbm, 203, rfl⟩
abbrev main_c_20 : Ref sig .tc := ⟨.hbm, 204, rfl⟩
abbrev main_v44 : Ref sig .tc := ⟨.hbm, 205, rfl⟩
abbrev main_v45 : Ref sig .tc := ⟨.hbm, 206, rfl⟩
abbrev main_c_21 : Ref sig .tc := ⟨.hbm, 207, rfl⟩
abbrev main_v46 : Ref sig .tc := ⟨.hbm, 208, rfl⟩
abbrev main_v47 : Ref sig .tc := ⟨.hbm, 209, rfl⟩
abbrev main_v48 : Ref sig .tc := ⟨.hbm, 210, rfl⟩
abbrev main_v49 : Ref sig .tc := ⟨.hbm, 211, rfl⟩
abbrev main_v50 : Ref sig .tc := ⟨.hbm, 212, rfl⟩
abbrev main_v51 : Ref sig .tc := ⟨.hbm, 213, rfl⟩
abbrev main_v52 : Ref sig .tc := ⟨.hbm, 214, rfl⟩
abbrev main_v53 : Ref sig .tc := ⟨.hbm, 215, rfl⟩
abbrev main_v54 : Ref sig .tc := ⟨.hbm, 216, rfl⟩
abbrev main_v55 : Ref sig .tc := ⟨.hbm, 217, rfl⟩
abbrev main_v56 : Ref sig .tc := ⟨.hbm, 218, rfl⟩

abbrev nD : Nat := 1
abbrev τ : Topo := Topo.v7x

variable {F : FTy → Type} [FloatOps F]
-- ==== Proof.Common.lean ====
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.ShareLeaves
public import Idealize.ShloMosaic.Lib.Tactic
public import proofs.«01_k».proof.Proof.Gen.KernelIdeal
public import proofs.«01_k».proof.Proof.Gen.KernelIdeal.Skeleton

/-! What every module of the kernel's proof speaks of: the program as the launch theorem sees it, the tile's
thread, its buffers and cells, and the row ranges of the result. -/

@[expose] public section

noncomputable section

namespace Cert.Proof.Roi

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 0) fun p => (pcfgs (F := F) p).Adm
abbrev K : SparseCore.Cfg τ sig (ΛP (F := F)) 1 := sc (F := F)
abbrev D [FloatOps F] [Named F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UU : Type := UH × Counters
abbrev MM (F : FTy → Type) := MT nD τ sig (HIx 1) (Elt F) ℕ UU ℕ

local notation "𝕄" => MM F

abbrev EH : Emb UH (MT nD τ sig (HIx 1) (Elt F) ℕ UU ℕ) := embL

/-! ## The tile -/

abbrev cV (L : grid0.Coords) : Fin τ.nSC := (L 0).castLE hcore0
abbrev jV (L : grid0.Coords) : Fin τ.nSub := (L 1).castLE hsub0
abbrev VT (d : Dev nD) (L : grid0.Coords) : Thread nD τ := V d (cV L) (jV L)

abbrev csem (k : Nat) (hk : k < 21 := by decide) : DmaSem sig := ⟨k, hk⟩

abbrev tabV : Memref sig .scVector .hbm S262144x128 .f32 := Memref.whole main_v1_scv
abbrev roisV : Memref sig .scVector .hbm S8192 .f32 := Memref.whole main_v3_scv
abbrev outV : Memref sig .scVector .hbm S343000x128 .f32 := Memref.whole main_v4_scv
abbrev roiB : Memref sig .scVector .vmem S8192 .f32 := Memref.whole cc0_scratch0
abbrev ctrB : Memref sig .scVector .vmem S21008 .i32 := Memref.whole cc0_scratch1
abbrev idxB : Memref sig .scVector .vmem S22008 .i32 := Memref.whole cc0_scratch2

/-- Cells' first index of a tile, its number of cells, and its number of whole chunks of 64 rows. -/
def cellBase (s : ℕ) : ℕ := if s < 7 then 22 * s else 21 * s + 7
def cellCount (s : ℕ) : ℕ := if s < 7 then 22 else 21
def chunkCount (c s : ℕ) : ℕ := if c = 0 then 1000 * cellCount s / 64 else 0

/-- Rows `lo ≤ r < hi` of the result. -/
def rowsIn (lo hi : ℕ) : Finset S343000x128.Idx := Finset.univ.filter fun x => lo ≤ (x 0).val ∧ (x 0).val < hi

theorem mem_rowsIn {lo hi : ℕ} {x : S343000x128.Idx} : x ∈ rowsIn lo hi ↔ lo ≤ (x 0).val ∧ (x 0).val < hi := by
  simp [rowsIn]

theorem rowsIn_split {lo mid hi : ℕ} (h₁ : lo ≤ mid) (h₂ : mid ≤ hi) : rowsIn lo hi = rowsIn lo mid ∪ rowsIn mid hi := by
  ext x; simp only [Finset.mem_union, mem_rowsIn]; omega

theorem rowsIn_disj {a b c d : ℕ} (h : b ≤ c) : Disjoint (rowsIn a b) (rowsIn c d) := by
  rw [Finset.disjoint_left]; intro x; simp only [mem_rowsIn]; omega

/-- Element `r` of a one-axis shape, element `(r, l)` of a two-axis one. -/
abbrev ix1 {n : ℕ} (r : Fin n) : (⟨1, ![n]⟩ : Shape).Idx := fun | 0 => r
abbrev ix2 {n m : ℕ} (r : Fin n) (l : Fin m) : (⟨2, ![n, m]⟩ : Shape).Idx := fun | 0 => r | 1 => l

end Cert.Proof.Roi
-- ==== Proof.Ring.lean ====
module

public import proofs.«01_k».proof.Proof.Common
public import Idealize.ShloMosaic.Lib.SparseCore.FromWhole

/-! The ring of eight row buffers: what each buffer, its two cells and its two read shares hold between two slots,
and what one slot's two halves do — gather the chunk of the slot into the slot's buffer, and copy out the chunk
gathered seven slots before. -/

@[expose] public section

noncomputable section

namespace Cert.Proof.Roi

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F]

local notation "𝕄" => MM F

/-- Contents of the row table, of the index list, and of the result. -/
abbrev TabC (F : FTy → Type) := S262144x128.Idx → Elt F .f32
abbrev LstC := S22008.Idx → BitVec 32
abbrev OutC (F : FTy → Type) := S343000x128.Idx → Elt F .f32

/-- Row `r` of the result is the table's row that entry `p` of the list names. -/
def Serves (tb : TabC F) (xf : LstC) (G : OutC F) (lo cnt : ℕ) : Prop :=
  ∀ p : Fin 22008, p.val < cnt → ∃ h : (xf (ix1 p)).toNat < 262144, ∀ (r : Fin 343000) (l : Fin 128), r.val = lo + p.val →
    G (ix2 r l) = tb (ix2 ⟨(xf (ix1 p)).toNat, h⟩ l)

/-- A block of rows of the result from row `r`, as a row buffer of any height holds it. -/
def rowsVal {n : ℕ} (G : OutC F) (r : ℕ) : (⟨2, ![n, 128]⟩ : Shape).Idx → Elt F .f32 :=
  fun y => G (ix2 ⟨(r + (y 0).val) % 343000, Nat.mod_lt _ (by decide)⟩ (y 1))

/-- The weakest precondition of a program of the tile. -/
abbrev WPt (d : Dev nD) (L : grid0.Coords) {α : Type} (p : Prog (TpuEff nD τ sig (Elt F) Λ₀ (VT d L).2) α) (Q : α → sProp 𝕄) : sProp 𝕄 :=
  wp frame (wpE (defs₀ (F := F)) 𝒱₀ (VT d L) none) Set.univ p Q

/-- A piece of the tile's program, then the rest of it. -/
theorem wpt_bind (d : Dev nD) (L : grid0.Coords) {α β : Type} {P : sProp 𝕄} {p : Prog (TpuEff nD τ sig (Elt F) Λ₀ (VT d L).2) α} {Q' : α → sProp 𝕄}
    {k : α → Prog (TpuEff nD τ sig (Elt F) Λ₀ (VT d L).2) β} {Q : β → sProp 𝕄} (h : P ⊢ WPt d L p Q') :
    P ⊢ iprop((∀ v, Q' v -∗ WPt d L (k v) Q) -∗ WPt d L (p >>= k) Q) := by
  unfold WPt at *
  rw [wp_bind]
  iintro HP Hk
  iapply wp_wand_r
  isplitl [HP]
  · iapply h; iexact HP
  · iexact Hk

section Ring

variable (d : Dev nD) (L : grid0.Coords)

/-- What the tile owes, its waits recorded under no counter of the program. -/
def Own (O : CellTallies nD τ sig (HIx 1)) (W : Waits sig (HIx 1)) : sProp 𝕄 :=
  iprop(∃ W', ⌜∀ p ∈ W', p ∈ W ∨ p.2 = none⌝ ∗ owes (VT d L) O W')

variable (tb : TabC F) (xf : LstC) (G : OutC F) (lo : ℕ)

/-- Read shares of the table and of the list. -/
def Shares (tq xq : PosShare TreeShare) : sProp 𝕄 :=
  iprop(((tabV.view.loc (VT d L)) ↦{tq} (tb : Buf (Elt F) (tabV.view.loc (VT d L))))
    ∗ ((idxB.view.loc (VT d L)) ↦{xq} (xf : Buf (Elt F) (idxB.view.loc (VT d L)))))

/-- Rows `a ≤ r < b` of the result at `f`. -/
def OutAt (a b : ℕ) (f : OutC F) : sProp 𝕄 :=
  (outV.view.loc (VT d L)) ↦[rowsIn a b]{fullShare} (f : Buf (Elt F) (outV.view.loc (VT d L)))

variable {n : ℕ} (B : Memref sig .scVector .vmem ⟨2, ![n, 128]⟩ .f32) (g w : DmaSem sig) (tq xq : PosShare TreeShare)

/-- The buffer at rest. -/
def Idle : sProp 𝕄 :=
  iprop((∃ f : Buf (Elt F) (B.view.loc (VT d L)), (B.view.loc (VT d L)) ↦{fullShare} f)
    ∗ semVal (VT d L, SemLoc.dma g) 0 ∗ semVal (VT d L, SemLoc.dma w) 0 ∗ Shares d L tb xf tq xq)

/-- A gather of the rows from `r` under way into the buffer. -/
def Gat (r : ℕ) : sProp 𝕄 :=
  iprop(Transfers.Flight countersEmb (VT d L) (.dma g) (default : HIx 1) B.view.dmaCredit
      (iprop((∃ f : Buf (Elt F) (B.view.loc (VT d L)), ⌜B.view.read (Elt F) f = rowsVal G r⌝ ∗ (B.view.loc (VT d L)) ↦{fullShare} f)
        ∗ Shares d L tb xf tq xq))
    ∗ semVal (VT d L, SemLoc.dma w) 0)

/-- A copy of the buffer to the rows from `r` under way. -/
def Wri (r : ℕ) : sProp 𝕄 :=
  iprop(Transfers.Flight countersEmb (VT d L) (.dma w) (default : HIx 1) ((⟨2, ![n, 128]⟩ : Shape).numel * 32)
      (iprop(OutAt d L r (r + n) G
        ∗ (∃ f : Buf (Elt F) (B.view.loc (VT d L)), (B.view.loc (VT d L)) ↦{fullShare} f)))
    ∗ semVal (VT d L, SemLoc.dma g) 0 ∗ Shares d L tb xf tq xq)

end Ring

section Steps

variable (d : Dev nD) (L : grid0.Coords) (O : CellTallies nD τ sig (HIx 1)) (W : Waits sig (HIx 1))
variable (tb : TabC F) (xf : LstC) (G : OutC F)
variable {n : ℕ} (B : Memref sig .scVector .vmem ⟨2, ![n, 128]⟩ .f32) (g w : DmaSem sig) (tq xq : PosShare TreeShare)

/-- A slice of the result as the body takes it. -/
abbrev outSl (n : ℕ) (off : Fin 2 → ℕ) (inb : ∀ a, off a + (⟨2, ![n, 128]⟩ : Shape).size a ≤ S343000x128.size a) :
    Memref sig .scVector .hbm ⟨2, ![n, 128]⟩ .f32 :=
  outV.slice (Rect.unit (s := S343000x128) off (⟨2, ![n, 128]⟩ : Shape).size inb) (fun _ => rfl)

theorem outSl_emb (off : Fin 2 → ℕ) (inb) (y : (⟨2, ![n, 128]⟩ : Shape).Idx) (a : Fin 2) :
    ((outSl n off inb).view.emb y a).val = off a + (y a).val := by
  show off a + 1 * (y a).val = _
  omega

theorem outSl_set (off : Fin 2 → ℕ) (inb) (r : ℕ) (h : off = ![r, 0]) : (outSl n off inb).view.set = rowsIn r (r + n) := by
  subst h
  ext x
  rw [mem_rowsIn]
  constructor
  · intro hx
    obtain ⟨y, -, rfl⟩ := Finset.mem_map.mp hx
    have := outSl_emb (n := n) _ inb y 0
    have h0 : (y 0).val < n := (y 0).isLt
    have e : (![r, 0] : Fin 2 → ℕ) 0 = r := rfl
    rw [e] at this
    omega
  · rintro ⟨h₁, h₂⟩
    refine Finset.mem_map.mpr ⟨ix2 ⟨(x 0).val - r, by omega⟩ (x 1), Finset.mem_univ _, ?_⟩
    funext a
    apply Fin.ext
    erw [outSl_emb]
    match a with
    | 0 => show r + ((x 0).val - r) = _; omega
    | 1 => show 0 + (x 1).val = _; omega

/-- Waiting for a transfer under way: what it delivers, the cell back at zero, the wait recorded. -/
theorem wp_wait {sp : Space} {s s' : Shape} {e e' : EltTy} {sp' : Space} {sem : DmaSem sig}
    {srcw : Memref sig (VT d L).2.kind sp' s' e'} {dstw : Memref sig (VT d L).2.kind sp s e} {hsrc : srcw.view.WordExact} {hdst : dstw.view.WordExact}
    {α : Type} {k : PUnit → Prog (TpuEff nD τ sig (Elt F) Λ₀ (VT d L).2) α} {Q : α → sProp 𝕄} {N : ℕ} (hN : dstw.view.dmaCredit = N) {D : sProp 𝕄} :
    iprop(□ Transfers.MayWaits (VT d L) (default : HIx 1) O ∗ Transfers.Flight countersEmb (VT d L) (.dma sem) (default : HIx 1) N D ∗ Own d L O W)
      ⊢ iprop((iprop(D ∗ semVal (VT d L, .dma sem) 0 ∗ Own d L O W) -∗ WPt d L (k ⟨⟩) Q)
        -∗ WPt d L (.op (.waitDma2 sem srcw dstw hsrc hdst) k) Q) := by
  unfold Own
  iintro ⟨#Hmw, Hfl, %W', %hW', HO⟩ Hk
  iapply (Transfers.wp_waitLocalO countersEmb 𝒱₀ (VT d L) none (default : HIx 1) hN) $$ [Hfl HO]
  · isplitl [Hfl]; · iexact Hfl
    isplitl [HO]; · iexact HO
    iapply (Transfers.MayWaits.elim (SemLoc.dma sem)) $$ Hmw
  iintro ⟨HD, Hw, HO⟩
  iapply Hk
  isplitl [HD]; · iexact HD
  isplitl [Hw]; · iexact Hw
  iexists (insert (SemLoc.dma sem, (default : HIx 1)) W')
  isplitr
  · ipureintro; intro p hp
    rcases Finset.mem_insert.mp hp with hp | hp
    · exact .inr (hp ▸ rfl)
    · exact hW' p hp
  · iexact HO

/-- Waiting for the copy out of a buffer. -/
theorem wp_waitCopy {off} {inb} {hs} {hd} (r : ℕ) {α : Type}
    {k : PUnit → Prog (TpuEff nD τ sig (Elt F) Λ₀ (VT d L).2) α} {Q : α → sProp 𝕄} :
    iprop(□ Transfers.MayWaits (VT d L) (default : HIx 1) O ∗ Wri d L tb xf G B g w tq xq r ∗ Own d L O W)
      ⊢ iprop((iprop(Idle d L tb xf B g w tq xq ∗ OutAt d L r (r + n) G ∗ Own d L O W) -∗ WPt d L (k ⟨⟩) Q)
        -∗ WPt d L (.op (.waitDma2 w B (outSl n off inb) hs hd) k) Q) := by
  unfold Wri Idle
  iintro ⟨#Hmw, ⟨Hfl, Hg, Hsh⟩, HO⟩ Hk
  iapply (wp_wait d L O W (dstw := outSl n off inb) (N := (⟨2, ![n, 128]⟩ : Shape).numel * 32) rfl) $$ [Hfl HO]
  · iframe Hfl HO Hmw
  iintro ⟨⟨Ho, Hb⟩, Hw, HO⟩
  iapply Hk
  iframe Hb Hg Hw Hsh Ho HO

/-- Issuing the gather of a chunk into a buffer at rest. -/
theorem wp_gather (lo cnt p : ℕ) (hS : Serves tb xf G lo cnt) (hp : p + n ≤ cnt) (hlo : lo + cnt ≤ 343000) (hn : 0 < n)
    {off : Fin 1 → ℕ} {inb : ∀ a, off a + (⟨1, ![n]⟩ : Shape).size a ≤ S22008.size a} (hoff : off = ![p])
    {hg : S262144x128.Gathers 0 ⟨2, ![n, 128]⟩} {hnn : (⟨1, ![n]⟩ : Shape).numel = (⟨2, ![n, 128]⟩ : Shape).size hg.axis'}
    {inb0 : ∀ a, (![0, 0] : Fin 2 → ℕ) a + S262144x128.size a ≤ S262144x128.size a}
    {hp' hsrc he hsp hr}
    (hcr : ∀ s' : Shape, sig.dmaCredit .scVector (Kind.scVector.table .vmem) B.view.buf s' .f32 = s'.numel * EltTy.f32.bits)
    {α : Type} {k : PUnit → Prog (TpuEff nD τ sig (Elt F) Λ₀ (VT d L).2) α} {Q : α → sProp 𝕄} :
    (Idle d L tb xf B g w tq xq : sProp 𝕄)
      ⊢ iprop((Gat d L tb xf G B g w tq xq (lo + p) -∗ WPt d L (k ⟨⟩) Q)
        -∗ WPt d L (SparseCore.enqueueIndirectGather hp'
              (tabV.slice (Rect.unit (s := S262144x128) ![0, 0] S262144x128.size inb0) (fun _ => rfl)) B hg
              (idxB.slice (Rect.unit (s := S22008) off (⟨1, ![n]⟩ : Shape).size inb) (fun _ => rfl)) hnn g hsrc he hsp hr >>= k) Q) := by
  subst hoff
  have hrd : ∀ x : (⟨1, ![n]⟩ : Shape).Idx, ∃ q : Fin 22008, q.val = p + (x 0).val ∧ q.val < cnt ∧
      (idxB.slice (Rect.unit (s := S22008) ![p] (⟨1, ![n]⟩ : Shape).size inb) (fun _ => rfl)).view.read (Elt F)
        (xf : Buf (Elt F) (idxB.view.loc (VT d L))) x = xf (ix1 q) := by
    intro x
    have hx : (x 0).val < n := (x 0).isLt
    have hb : p + n ≤ 22008 := by simpa using inb 0
    refine ⟨⟨p + (x 0).val, by omega⟩, rfl, by show p + (x 0).val < cnt; omega, ?_⟩
    rw [View.read_apply, cast_eq]
    congr 1
    funext a
    match a with
    | 0 => apply Fin.ext; show p + 1 * (x 0).val = p + (x 0).val; omega
  have hin : ∀ x, ((idxB.slice (Rect.unit (s := S22008) ![p] (⟨1, ![n]⟩ : Shape).size inb) (fun _ => rfl)).view.read (Elt F)
        (xf : Buf (Elt F) (idxB.view.loc (VT d L))) x).toNat < S262144x128.size hg.axis := by
    intro x
    obtain ⟨q, -, hq, e⟩ := hrd x
    rw [e]
    exact (hS q hq).1
  unfold Idle Shares
  iintro ⟨⟨%f, Hb⟩, Hg, Hw, Ht, Hx⟩ Hk
  iapply (SparseCore.wp_gatherFromWhole countersEmb 𝒱₀ (VT d L) none (hg := hg)
      (src := tabV.slice (Rect.unit (s := S262144x128) ![0, 0] S262144x128.size inb0) (fun _ => rfl))
      (offs := idxB.slice (Rect.unit (s := S22008) ![p] (⟨1, ![n]⟩ : Shape).size inb) (fun _ => rfl))
      (fs := (tb : Buf (Elt F) (tabV.view.loc (VT d L)))) (fo := (xf : Buf (Elt F) (idxB.view.loc (VT d L))))
      (default : HIx 1)
      B.view.dmaCredit (SparseCore.sum_rowCredit_eq_dmaCredit B _ hcr) (by simp [Shape.numel, Fin.prod_univ_two]; omega) hin) $$ [Ht Hb Hx Hg]
  · iframe Ht Hb Hx Hg
  iintro Hfl
  iapply Hk
  unfold Gat Shares
  iframe Hw
  iapply (Transfers.Flight_mono countersEmb (VT d L) ?_) $$ Hfl
  iintro ⟨Hb, Ht, Hx⟩
  isplitl [Hb]
  · iexists _
    iframe Hb
    ipureintro
    rw [View.read_write_univ]
    funext y
    have hy : (y 0).val < n := (y 0).isLt
    unfold SparseCore.gatherPayload
    obtain ⟨q, hq, hqc, e⟩ := hrd ((⟨1, ![n]⟩ : Shape).rowMajor.symm ((y hg.axis').cast hnn.symm))
    have hz : ((⟨1, ![n]⟩ : Shape).rowMajor.symm ((y hg.axis').cast hnn.symm) 0).val = (y 0).val := by
      rw [← Shape.rowMajor_val_one, Equiv.apply_symm_apply]
      rfl
    rw [hz] at hq
    obtain ⟨h, hG⟩ := hS q hqc
    rw [View.read_apply, cast_eq]
    unfold rowsVal
    have hm : (lo + p + (y 0).val) % 343000 = lo + q.val := by rw [Nat.mod_eq_of_lt] <;> omega
    rw [hG ⟨_, _⟩ (y 1) hm]
    congr 1
    funext a
    apply Fin.ext
    match a with
    | 0 =>
      show 0 + 1 * (hg.idx _ y 0).val = (xf (ix1 q)).toNat
      rw [show (0 : Fin S262144x128.rank) = hg.axis from rfl, Shape.Gathers.idx_axis]
      unfold SparseCore.rows
      rw [← e]
      simp
      rfl
    | 1 =>
      show 0 + 1 * (hg.idx _ y 1).val = (y 1).val
      rw [Shape.Gathers.idx_of_ne _ _ _ _ (by decide)]
      simp
  · iframe Ht Hx

/-- Waiting for a gather, then issuing the copy of its rows out to the result. -/
theorem wp_copy (r : ℕ) (hr : r + n ≤ 343000) (hn : 0 < n) (f₀ : OutC F) {off : Fin 2 → ℕ} {inb} (hoff : off = ![r, 0])
    {inb0 : ∀ a, (![0, 0] : Fin 2 → ℕ) a + S262144x128.size a ≤ S262144x128.size a} {h₁ h₂ h₃ h₄ h₅}
    {α : Type} {k : PUnit → Prog (TpuEff nD τ sig (Elt F) Λ₀ (VT d L).2) α} {Q : α → sProp 𝕄} :
    iprop(□ Transfers.MayWaits (VT d L) (default : HIx 1) O ∗ Gat d L tb xf G B g w tq xq r ∗ OutAt d L r (r + n) f₀ ∗ Own d L O W)
      ⊢ iprop((iprop(Wri d L tb xf G B g w tq xq r ∗ Own d L O W) -∗ WPt d L (k ⟨⟩) Q)
        -∗ WPt d L (SparseCore.waitIndirectGather g
              (tabV.slice (Rect.unit (s := S262144x128) ![0, 0] S262144x128.size inb0) (fun _ => rfl)) B h₁ h₂ >>= fun _ =>
            Prog.lift (.enqueueDma B (.here (outSl n off inb)) (.dma w) h₃ h₄ h₅) >>= k) Q) := by
  erw [SparseCore.waitIndirectGather_bind]
  simp only [Prog.lift, Prog.bind_op, Prog.bind_ret]
  unfold Gat
  iintro ⟨#Hmw, ⟨Hfl, Hw⟩, Ho, HO⟩ Hk
  iapply (wp_wait d L O W (srcw := tabV.slice (Rect.unit (s := S262144x128) ![0, 0] S262144x128.size inb0) (fun _ => rfl)) (dstw := B)
    (hsrc := h₁) (hdst := h₂) rfl) $$ [Hfl HO]
  · iframe Hfl HO Hmw
  iintro ⟨⟨⟨%f, %hf, Hb⟩, Hsh⟩, Hg, HO⟩
  unfold OutAt
  rw [← outSl_set off inb r hoff]
  iapply (Transfers.wp_dmaFromWhole countersEmb 𝒱₀ (VT d L) none (src := B) (dst := outSl n off inb) (default : HIx 1)
    ((⟨2, ![n, 128]⟩ : Shape).numel * 32) rfl (by simp [Shape.numel, Fin.prod_univ_two]; omega) (subset_refl _)) $$ [Hb Ho Hw]
  · iframe Hb Ho Hw
  iintro Hfl
  iapply Hk
  unfold Wri OutAt
  iframe Hg Hsh HO
  iapply (Transfers.Flight_mono countersEmb (VT d L) ?_) $$ Hfl
  iintro ⟨Ho, Hb⟩
  isplitl [Ho]
  · rw [← outSl_set off inb r hoff]
    iapply (Entails.of_eq (pointsTo_congr ?_)) $$ Ho
    intro x hx
    obtain ⟨y, -, rfl⟩ := Finset.mem_map.mp hx
    have hy : (y 0).val < n := (y 0).isLt
    rw [View.write_emb_of_mem _ _ (Finset.mem_univ _)]
    subst hoff
    show cast _ (B.view.read (Elt F) f y) = _
    rw [hf, cast_eq]
    unfold rowsVal
    congr 1
    funext a
    apply Fin.ext
    erw [outSl_emb]
    match a with
    | 0 => show (r + (y 0).val) % 343000 = r + (y 0).val; exact Nat.mod_eq_of_lt (by omega)
    | 1 => show (y 1).val = 0 + (y 1).val; omega
  · iexists f; iexact Hb

end Steps

section Slots

variable (d : Dev nD) (L : grid0.Coords) (O : CellTallies nD τ sig (HIx 1)) (W : Waits sig (HIx 1))
variable (tb : TabC F) (xf : LstC) (G : OutC F) (f₀ : OutC F) (lo nch : ℕ)
variable (B : Memref sig .scVector .vmem S64x128 .f32) (g w : DmaSem sig) (tq xq : PosShare TreeShare)

/-- The last chunk that buffer `β` of eight has taken, when `M` chunks have been taken and `β < M`. -/
def lastOf (β M : ℕ) : ℕ := β + 8 * ((M - 1 - β) / 8)

/-- Buffer `β` at the start of slot `t`. -/
def St (β t : ℕ) : sProp 𝕄 :=
  if min t nch ≤ β then Idle d L tb xf B g w tq xq
  else if t ≤ lastOf β (min t nch) + 7 then Gat d L tb xf G B g w tq xq (lo + 64 * lastOf β (min t nch))
  else Wri d L tb xf G B g w tq xq (lo + 64 * lastOf β (min t nch))

/-- The rows copied out for good, and the rows not yet touched, at the start of slot `t`. -/
def Done (t : ℕ) : sProp 𝕄 := OutAt d L lo (lo + 64 * (min t nch - 8)) G
def Rest (hi t : ℕ) : sProp 𝕄 := OutAt d L (lo + 64 * min (t - 7) nch) hi f₀

/-- A slot leaves every buffer but two as it is. -/
theorem St_other (β t : ℕ) (hβ : β < 8) (h₁ : t % 8 ≠ β) (h₂ : (t + 1) % 8 ≠ β) :
    St d L tb xf G lo nch B g w tq xq β (t + 1) = St d L tb xf G lo nch B g w tq xq β t := by
  unfold St
  have e₁ : (min (t + 1) nch ≤ β) ↔ (min t nch ≤ β) := by omega
  by_cases hm : min t nch ≤ β
  · rw [if_pos hm, if_pos (e₁.mpr hm)]
  have hl : lastOf β (min (t + 1) nch) = lastOf β (min t nch) := by unfold lastOf; omega
  rw [if_neg hm, if_neg (fun h => hm (e₁.mp h)), hl]
  have e₂ : (t + 1 ≤ lastOf β (min t nch) + 7) ↔ (t ≤ lastOf β (min t nch) + 7) := by unfold lastOf; omega
  by_cases hg : t ≤ lastOf β (min t nch) + 7
  · rw [if_pos hg, if_pos (e₂.mpr hg)]
  · rw [if_neg hg, if_neg (fun h => hg (e₂.mp h))]

theorem OutAt_split (a b c : ℕ) (f : OutC F) (h₁ : a ≤ b) (h₂ : b ≤ c) :
    (OutAt d L a c f : sProp 𝕄) ⊣⊢ iprop(OutAt d L a b f ∗ OutAt d L b c f) := by
  unfold OutAt
  rw [rowsIn_split h₁ h₂]
  exact pointsTo_union (rowsIn_disj le_rfl)

/-- The slot's first half: its buffer, free again, takes the slot's chunk. -/
theorem wp_issue (β t cnt : ℕ) (hβ : β < 8) (ht : t % 8 = β) (hS : Serves tb xf G lo cnt) (hc : 64 * nch ≤ cnt) (hlo : lo + cnt ≤ 343000)
    (hcr : ∀ s' : Shape, sig.dmaCredit .scVector (Kind.scVector.table .vmem) B.view.buf s' .f32 = s'.numel * EltTy.f32.bits)
    {C C' : BitVec 1} (hC : C = 1#1 ↔ t < nch) (hC' : C' = 1#1 ↔ 8 ≤ t)
    {off : Fin 1 → ℕ} {inb : C = 1#1 → ∀ a, off a + S64.size a ≤ S22008.size a} (hoff : C = 1#1 → off = ![64 * t])
    {ow : Fin 2 → ℕ} {inbw h₁ h₂}
    {hg : S262144x128.Gathers 0 S64x128} {hnn : S64.numel = S64x128.size hg.axis'}
    {inb0 : ∀ a, (![0, 0] : Fin 2 → ℕ) a + S262144x128.size a ≤ S262144x128.size a}
    {hp' hsrc he hsp hr}
    {α : Type} {k : Prog (TpuEff nD τ sig (Elt F) Λ₀ (VT d L).2) α} {Q : α → sProp 𝕄} :
    iprop(□ Transfers.MayWaits (VT d L) (default : HIx 1) O ∗ St d L tb xf G lo nch B g w tq xq β t ∗ Done d L G lo nch t ∗ Own d L O W)
      ⊢ iprop((iprop(St d L tb xf G lo nch B g w tq xq β (t + 1) ∗ Done d L G lo nch (t + 1) ∗ Own d L O W) -∗ WPt d L k Q)
        -∗ WPt d L (if h : C = 1#1 then
            (if h' : C' = 1#1 then
              (Prog.lift (.waitDma2 w B (outSl 64 ow inbw) h₁ h₂) >>= fun _ =>
                SparseCore.enqueueIndirectGather hp'
                  (tabV.slice (Rect.unit (s := S262144x128) ![0, 0] S262144x128.size inb0) (fun _ => rfl)) B hg
                  (idxB.slice (Rect.unit (s := S22008) off S64.size (inb h)) (fun _ => rfl)) hnn g hsrc he hsp hr >>= fun _ => k)
            else
              (SparseCore.enqueueIndirectGather hp'
                  (tabV.slice (Rect.unit (s := S262144x128) ![0, 0] S262144x128.size inb0) (fun _ => rfl)) B hg
                  (idxB.slice (Rect.unit (s := S22008) off S64.size (inb h)) (fun _ => rfl)) hnn g hsrc he hsp hr >>= fun _ => k))
          else k) Q) := by
  have hgat : ∀ (h : C = 1#1), (Idle d L tb xf B g w tq xq : sProp 𝕄)
      ⊢ iprop((Gat d L tb xf G B g w tq xq (lo + 64 * t) -∗ WPt d L k Q)
        -∗ WPt d L (SparseCore.enqueueIndirectGather hp'
                  (tabV.slice (Rect.unit (s := S262144x128) ![0, 0] S262144x128.size inb0) (fun _ => rfl)) B hg
                  (idxB.slice (Rect.unit (s := S22008) off S64.size (inb h)) (fun _ => rfl)) hnn g hsrc he hsp hr >>= fun _ => k) Q) := fun h => by
    have := hC.mp h
    exact wp_gather d L tb xf G B g w tq xq lo cnt (64 * t) hS (by omega) hlo (by decide) (hoff h) hcr (k := fun _ => k)
  by_cases h : C = 1#1
  · have htn := hC.mp h
    rw [dif_pos h]
    have hend : (St d L tb xf G lo nch B g w tq xq β (t + 1) : sProp 𝕄) = Gat d L tb xf G B g w tq xq (lo + 64 * t) := by
      unfold St
      have hl : lastOf β (min (t + 1) nch) = t := by unfold lastOf; omega
      rw [if_neg (by omega), hl, if_pos (by omega)]
    rw [hend]
    by_cases h' : C' = 1#1
    · have h8 := hC'.mp h'
      rw [dif_pos h']
      have hbeg : (St d L tb xf G lo nch B g w tq xq β t : sProp 𝕄) = Wri d L tb xf G B g w tq xq (lo + 64 * (t - 8)) := by
        unfold St
        have hl : lastOf β (min t nch) = t - 8 := by unfold lastOf; omega
        rw [if_neg (by omega), hl, if_neg (by omega)]
      rw [hbeg]
      simp only [Prog.lift, Prog.bind_op, Prog.bind_ret]
      iintro ⟨#Hmw, Hs, Hd, HO⟩ Hk
      iapply (wp_waitCopy d L O W tb xf G B g w tq xq (lo + 64 * (t - 8))) $$ [Hs HO]
      · iframe Hs HO Hmw
      iintro ⟨Hi, Hn, HO⟩
      iapply (hgat h) $$ Hi
      iintro Hg
      iapply Hk
      iframe Hg HO
      unfold Done
      iapply ((OutAt_split d L lo (lo + 64 * (min t nch - 8)) (lo + 64 * (min (t + 1) nch - 8)) G (by omega) (by omega)).2)
      rw [show lo + 64 * (min t nch - 8) = lo + 64 * (t - 8) by omega, show lo + 64 * (min (t + 1) nch - 8) = lo + 64 * (t - 8) + 64 by omega]
      iframe Hd Hn
    · have h8 : ¬ 8 ≤ t := fun x => h' (hC'.mpr x)
      rw [dif_neg h']
      have hbeg : (St d L tb xf G lo nch B g w tq xq β t : sProp 𝕄) = Idle d L tb xf B g w tq xq := by
        unfold St; rw [if_pos (by omega)]
      rw [hbeg]
      iintro ⟨#Hmw, Hs, Hd, HO⟩ Hk
      iapply (hgat h) $$ Hs
      iintro Hg
      iapply Hk
      iframe Hg HO
      unfold Done
      rw [show min t nch - 8 = min (t + 1) nch - 8 by omega]
      iexact Hd
  · have htn : ¬ t < nch := fun x => h (hC.mpr x)
    rw [dif_neg h]
    have e : min (t + 1) nch = min t nch := by omega
    have hsame : (St d L tb xf G lo nch B g w tq xq β (t + 1) : sProp 𝕄) = St d L tb xf G lo nch B g w tq xq β t := by
      unfold St
      rw [e]
      by_cases hm : min t nch ≤ β
      · rw [if_pos hm, if_pos hm]
      · rw [if_neg hm, if_neg hm, if_neg (by unfold lastOf; omega), if_neg (by unfold lastOf; omega)]
    rw [hsame]
    unfold Done
    rw [e]
    iintro ⟨#Hmw, Hs, Hd, HO⟩ Hk
    iapply Hk
    iframe Hs Hd HO

/-- The slot's second half: the chunk gathered seven slots before starts on its way out. -/
theorem wp_drainSlot (β t hi : ℕ) (hβ : β < 8) (ht : (t + 1) % 8 = β) (hhi : lo + 64 * nch ≤ hi) (hhi' : hi ≤ 343000)
    {C : BitVec 1} (hC : C = 1#1 ↔ (7 ≤ t ∧ t - 7 < nch))
    {off : Fin 2 → ℕ} {inb : C = 1#1 → ∀ a, off a + S64x128.size a ≤ S343000x128.size a} (hoff : C = 1#1 → off = ![lo + 64 * (t - 7), 0])
    {inb0 : ∀ a, (![0, 0] : Fin 2 → ℕ) a + S262144x128.size a ≤ S262144x128.size a} {h₁ h₂ h₃}
    {h₄ : ∀ h : C = 1#1, (outSl 64 off (inb h)).view.WordExact}
    {h₅ : ∀ h : C = 1#1, DmaTarget.Typed (nD := nD) Space.vmem (SemLoc.dma w) (DmaTarget.here (p := (VT d L).2) (outSl 64 off (inb h)))}
    {α : Type} {k : Prog (TpuEff nD τ sig (Elt F) Λ₀ (VT d L).2) α} {Q : α → sProp 𝕄} :
    iprop(□ Transfers.MayWaits (VT d L) (default : HIx 1) O ∗ St d L tb xf G lo nch B g w tq xq β t ∗ Rest d L f₀ lo nch hi t ∗ Own d L O W)
      ⊢ iprop((iprop(St d L tb xf G lo nch B g w tq xq β (t + 1) ∗ Rest d L f₀ lo nch hi (t + 1) ∗ Own d L O W) -∗ WPt d L k Q)
        -∗ WPt d L (if h : C = 1#1 then
            (SparseCore.waitIndirectGather g
              (tabV.slice (Rect.unit (s := S262144x128) ![0, 0] S262144x128.size inb0) (fun _ => rfl)) B h₁ h₂ >>= fun _ =>
            Prog.lift (.enqueueDma B (.here (outSl 64 off (inb h))) (.dma w) h₃ (h₄ h) (h₅ h)) >>= fun _ => k)
          else k) Q) := by
  by_cases h : C = 1#1
  · obtain ⟨h7, htn⟩ := hC.mp h
    rw [dif_pos h]
    have hl : lastOf β (min t nch) = t - 7 := by unfold lastOf; omega
    have hl' : lastOf β (min (t + 1) nch) = t - 7 := by unfold lastOf; omega
    have hbeg : (St d L tb xf G lo nch B g w tq xq β t : sProp 𝕄) = Gat d L tb xf G B g w tq xq (lo + 64 * (t - 7)) := by
      unfold St; rw [if_neg (by omega), hl, if_pos (by omega)]
    have hend : (St d L tb xf G lo nch B g w tq xq β (t + 1) : sProp 𝕄) = Wri d L tb xf G B g w tq xq (lo + 64 * (t - 7)) := by
      unfold St; rw [if_neg (by omega), hl', if_neg (by omega)]
    rw [hbeg, hend]
    unfold Rest
    iintro ⟨#Hmw, Hs, Hr, HO⟩ Hk
    ihave Hr' := ((OutAt_split d L (lo + 64 * min (t - 7) nch) (lo + 64 * min (t + 1 - 7) nch) hi f₀ (by omega) (by omega)).1) $$ Hr
    icases Hr' with ⟨Hn, Hr⟩
    iapply (wp_copy d L O W tb xf G B g w tq xq (lo + 64 * (t - 7)) (by omega) (by decide) f₀ (hoff h) (k := fun _ => k)) $$ [Hs Hn HO]
    · rw [show lo + 64 * min (t - 7) nch = lo + 64 * (t - 7) by omega, show lo + 64 * min (t + 1 - 7) nch = lo + 64 * (t - 7) + 64 by omega]
      iframe Hs Hn HO Hmw
    iintro ⟨Hs, HO⟩
    iapply Hk
    iframe Hs Hr HO
  · have htn : ¬ (7 ≤ t ∧ t - 7 < nch) := fun x => h (hC.mpr x)
    rw [dif_neg h]
    have hsame : (St d L tb xf G lo nch B g w tq xq β (t + 1) : sProp 𝕄) = St d L tb xf G lo nch B g w tq xq β t := by
      unfold St
      by_cases hm : min t nch ≤ β
      · rw [if_pos hm, if_pos (by omega)]
      · have hl : lastOf β (min (t + 1) nch) = lastOf β (min t nch) := by unfold lastOf; omega
        rw [if_neg hm, if_neg (by omega), hl, if_neg (by unfold lastOf; omega), if_neg (by unfold lastOf; omega)]
    have e : min (t + 1 - 7) nch = min (t - 7) nch := by omega
    rw [hsame]
    unfold Rest
    rw [e]
    iintro ⟨#Hmw, Hs, Hd, HO⟩ Hk
    iapply Hk
    iframe Hs Hd HO

end Slots

end Cert.Proof.Roi
-- ==== Proof.Args.lean ====
module

public import proofs.«01_k».proof.Proof.Common

/-! A piece of the kernel's body at the tile's own arrays, buffers and cells. -/

@[expose] public section

noncomputable section

namespace Cert.Proof.Roi

open Cert.KernelIdeal Cert.KernelIdeal.Gen

open Idealize.ShloMosaic

/-- A function of the body's operands, at the operands the launch gives it. -/
abbrev onArgs {β : Type 1} (f : ∀ (m2 : Memref sig .scVector .hbm S262144x128 .f32), m2.IsWhole →
    ∀ (m3 : Memref sig .scVector .hbm S8192 .f32), m3.IsWhole →
    ∀ (m4 : Memref sig .scVector .hbm S343000x128 .f32), m4.IsWhole →
    ∀ (m5 : Memref sig .scVector .vmem S8192 .f32), m5.IsWhole →
    ∀ (m6 : Memref sig .scVector .vmem S21008 .i32), m6.IsWhole →
    ∀ (m7 : Memref sig .scVector .vmem S22008 .i32), m7.IsWhole →
    ∀ (m8 : Memref sig .scVector .vmem S64x128 .f32), m8.IsWhole →
    ∀ (m9 : Memref sig .scVector .vmem S64x128 .f32), m9.IsWhole →
    ∀ (m10 : Memref sig .scVector .vmem S64x128 .f32), m10.IsWhole →
    ∀ (m11 : Memref sig .scVector .vmem S64x128 .f32), m11.IsWhole →
    ∀ (m12 : Memref sig .scVector .vmem S64x128 .f32), m12.IsWhole →
    ∀ (m13 : Memref sig .scVector .vmem S64x128 .f32), m13.IsWhole →
    ∀ (m14 : Memref sig .scVector .vmem S64x128 .f32), m14.IsWhole →
    ∀ (m15 : Memref sig .scVector .vmem S64x128 .f32), m15.IsWhole →
    DmaSems sig S_ → DmaSems sig S_ → DmaSems sig S_ → DmaSems sig S_ → DmaSems sig S_ → DmaSems sig S_ → DmaSems sig S_ → DmaSems sig S_ → DmaSems sig S_ → DmaSems sig S_ → DmaSems sig S_ → DmaSems sig S_ → DmaSems sig S_ → DmaSems sig S_ → DmaSems sig S_ → DmaSems sig S_ →
    ∀ (m32 : Memref sig .scVector .vmem S48x128 .f32), m32.IsWhole →
    ∀ (m33 : Memref sig .scVector .vmem S8x128 .f32), m33.IsWhole →
    DmaSems sig S_ → DmaSems sig S_ → DmaSems sig S_ → DmaSems sig S_ → DmaSems sig S_ → β) : β :=
  f (Memref.whole main_v1_scv) (Memref.isWhole_whole _) (Memref.whole main_v3_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _)
    cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25 cc0_scratch26
    (Memref.whole cc0_scratch27) (Memref.isWhole_whole _) (Memref.whole cc0_scratch28) (Memref.isWhole_whole _) cc0_scratch29 cc0_scratch30 cc0_scratch31 cc0_scratch32 cc0_scoped0

end Cert.Proof.Roi
-- ==== Proof.RingTrip.lean ====
module

public import proofs.«01_k».proof.Proof.Ring
public import proofs.«01_k».proof.Proof.Args

/-! One trip of the ring's loop: eight slots. -/

@[expose] public section

noncomputable section

namespace Cert.Proof.Roi

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.ShareLeaves (leaf)

variable {F : FTy → Type} [FloatOps F] [Named F]

local notation "𝕄" => MM F

variable (d : Dev nD) (L : grid0.Coords) (O : CellTallies nD τ sig (HIx 1)) (W : Waits sig (HIx 1))

/-! ## The words a trip computes -/

abbrev nchI (i : grid0.Coords) : ℕ := chunkCount (i 0).val (i 1).val
abbrev loI (i : grid0.Coords) : ℕ := 1000 * cellBase (i 1).val
/-- How many rows of the result the tile makes: none on the second core. -/
abbrev cntI (i : grid0.Coords) : ℕ := if (i 0).val = 0 then 1000 * cellCount (i 1).val else 0

/-- What slot `b` of a trip computes: whether it gathers, whether it waits first, whether it copies out, and where. -/
abbrev SlotWords (b : ℕ) (c₁ c₂ : ∀ i : grid0.Coords, Fin (k0_t3_loop i).trips → BitVec 1)
    (o₁ : ∀ i : grid0.Coords, Fin (k0_t3_loop i).trips → Fin 1 → ℕ) (o₂ : ∀ i : grid0.Coords, Fin (k0_t3_loop i).trips → Fin 2 → ℕ) : Prop :=
  ∀ (i : grid0.Coords) (t : Fin (k0_t3_loop i).trips),
    (c₁ i t = 1#1 ↔ 8 * t.val + b < nchI i)
      ∧ (Scalar.cmpi .ne (Scalar.extui (Scalar.cmpi .sge (Scalar.addi (Scalar.muli 8#32 (Scf.iv 0#32 1#32 t.val)) (BitVec.ofNat 32 b)) 8#32) : BitVec 32) 0#32 = 1#1
          ↔ 8 ≤ 8 * t.val + b)
      ∧ (c₂ i t = 1#1 ↔ (7 ≤ 8 * t.val + b ∧ 8 * t.val + b - 7 < nchI i))
      ∧ o₁ i t = ![64 * (8 * t.val + b)] ∧ (c₂ i t = 1#1 → o₂ i t = ![loI i + 64 * (8 * t.val + b - 7), 0])

theorem words0 : SlotWords 0 k0_cond2 k0_cond4 k0_off72 k0_off73 := by decide +kernel
theorem words1 : SlotWords 1 k0_cond5 k0_cond7 k0_off74 k0_off75 := by decide +kernel
theorem words2 : SlotWords 2 k0_cond8 k0_cond10 k0_off76 k0_off77 := by decide +kernel
theorem words3 : SlotWords 3 k0_cond11 k0_cond13 k0_off78 k0_off79 := by decide +kernel
theorem words4 : SlotWords 4 k0_cond14 k0_cond16 k0_off80 k0_off81 := by decide +kernel
theorem words5 : SlotWords 5 k0_cond17 k0_cond19 k0_off82 k0_off83 := by decide +kernel
theorem words6 : SlotWords 6 k0_cond20 k0_cond22 k0_off84 k0_off85 := by decide +kernel
theorem words7 : SlotWords 7 k0_cond23 k0_cond25 k0_off86 k0_off87 := by decide +kernel

/-! ## The eight buffers -/

variable (tb : TabC F) (xf : LstC) (G f₀ : OutC F) (tq xq : PosShare TreeShare)

/-- Buffer `β`, on its two cells and its eighth of the tile's shares, at the start of slot `t`. -/
abbrev Buf8 (β : Fin 8) (B : Memref sig .scVector .vmem S64x128 .f32) (g w : DmaSems sig S_) (t : ℕ) : sProp 𝕄 :=
  St d L tb xf G (loI L) (nchI L) B g.sem w.sem (leaf 3 tq β) (leaf 3 xq β) β.val t

abbrev Buf0 (t : ℕ) : sProp 𝕄 := Buf8 d L tb xf G tq xq 0 (Memref.whole cc0_scratch3) cc0_scratch11 cc0_scratch19 t
abbrev Buf1 (t : ℕ) : sProp 𝕄 := Buf8 d L tb xf G tq xq 1 (Memref.whole cc0_scratch4) cc0_scratch12 cc0_scratch20 t
abbrev Buf2 (t : ℕ) : sProp 𝕄 := Buf8 d L tb xf G tq xq 2 (Memref.whole cc0_scratch5) cc0_scratch13 cc0_scratch21 t
abbrev Buf3 (t : ℕ) : sProp 𝕄 := Buf8 d L tb xf G tq xq 3 (Memref.whole cc0_scratch6) cc0_scratch14 cc0_scratch22 t
abbrev Buf4 (t : ℕ) : sProp 𝕄 := Buf8 d L tb xf G tq xq 4 (Memref.whole cc0_scratch7) cc0_scratch15 cc0_scratch23 t
abbrev Buf5 (t : ℕ) : sProp 𝕄 := Buf8 d L tb xf G tq xq 5 (Memref.whole cc0_scratch8) cc0_scratch16 cc0_scratch24 t
abbrev Buf6 (t : ℕ) : sProp 𝕄 := Buf8 d L tb xf G tq xq 6 (Memref.whole cc0_scratch9) cc0_scratch17 cc0_scratch25 t
abbrev Buf7 (t : ℕ) : sProp 𝕄 := Buf8 d L tb xf G tq xq 7 (Memref.whole cc0_scratch10) cc0_scratch18 cc0_scratch26 t

/-- What every slot uses beside its buffers: the rows already out, the rows untouched, the waits recorded. -/
abbrev Flow (t : ℕ) : sProp 𝕄 :=
  iprop(Done d L G (loI L) (nchI L) t ∗ Rest d L f₀ (loI L) (nchI L) (loI L + cntI L) t ∗ Own d L O W)

theorem bounds : ∀ i : grid0.Coords, loI i + cntI i ≤ 343000 ∧ 64 * nchI i ≤ cntI i := by decide +kernel

set_option maxHeartbeats 4000000 in
/-- Slots 0, 1 and 2. -/
theorem part66_wp (hS : Serves tb xf G (loI L) (cntI L)) (v26 v31 : BitVec 32) (t : Fin (k0_t3_loop L).trips) :
    iprop(□ Transfers.MayWaits (VT d L) (default : HIx 1) O ∗ Buf0 d L tb xf G tq xq (8 * t.val) ∗ Buf1 d L tb xf G tq xq (8 * t.val)
        ∗ Buf2 d L tb xf G tq xq (8 * t.val + 1) ∗ Buf3 d L tb xf G tq xq (8 * t.val + 2) ∗ Flow d L O W G f₀ (8 * t.val))
      ⊢ WPt d L (onArgs (k0_part66 (F := F) L) v26 v31 0#32 1#32 t) fun v =>
        iprop(⌜v = ⟨Scf.iv 0#32 1#32 t, Scalar.muli 8#32 (Scf.iv 0#32 1#32 t)⟩⌝
          ∗ Buf0 d L tb xf G tq xq (8 * t.val + 1) ∗ Buf1 d L tb xf G tq xq (8 * t.val + 2)
          ∗ Buf2 d L tb xf G tq xq (8 * t.val + 3) ∗ Buf3 d L tb xf G tq xq (8 * t.val + 3) ∗ Flow d L O W G f₀ (8 * t.val + 3)) := by
  have hb := bounds L
  unfold onArgs
  rw [k0_part66_eq_skeleton]
  delta k0_part66_skel
  beta_reduce
  iintro ⟨#Hmw, H0, H1, H2, H3, Hd, Hr, HO⟩
  iapply (wp_issue d L O W tb xf G (loI L) (nchI L) _ _ _ _ _ 0 (8 * t.val) (cntI L) (by decide) (by omega) hS hb.2 hb.1 (fun _ => rfl)
    (words0 L t).1 (words0 L t).2.1 (fun _ => (words0 L t).2.2.2.1)) $$ [H0 Hd HO]
  · iframe H0 Hd HO Hmw
  iintro ⟨H0, Hd, HO⟩
  iapply (wp_drainSlot d L O W tb xf G f₀ (loI L) (nchI L) _ _ _ _ _ 1 (8 * t.val) (loI L + cntI L) (by decide) (by omega) (by omega) hb.1
    (words0 L t).2.2.1 (words0 L t).2.2.2.2) $$ [H1 Hr HO]
  · iframe H1 Hr HO Hmw
  iintro ⟨H1, Hr, HO⟩
  iapply (wp_issue d L O W tb xf G (loI L) (nchI L) _ _ _ _ _ 1 (8 * t.val + 1) (cntI L) (by decide) (by omega) hS hb.2 hb.1 (fun _ => rfl)
    (words1 L t).1 (words1 L t).2.1 (fun _ => (words1 L t).2.2.2.1)) $$ [H1 Hd HO]
  · iframe H1 Hd HO Hmw
  iintro ⟨H1, Hd, HO⟩
  iapply (wp_drainSlot d L O W tb xf G f₀ (loI L) (nchI L) _ _ _ _ _ 2 (8 * t.val + 1) (loI L + cntI L) (by decide) (by omega) (by omega) hb.1
    (words1 L t).2.2.1 (words1 L t).2.2.2.2) $$ [H2 Hr HO]
  · iframe H2 Hr HO Hmw
  iintro ⟨H2, Hr, HO⟩
  iapply (wp_issue d L O W tb xf G (loI L) (nchI L) _ _ _ _ _ 2 (8 * t.val + 2) (cntI L) (by decide) (by omega) hS hb.2 hb.1 (fun _ => rfl)
    (words2 L t).1 (words2 L t).2.1 (fun _ => (words2 L t).2.2.2.1)) $$ [H2 Hd HO]
  · iframe H2 Hd HO Hmw
  iintro ⟨H2, Hd, HO⟩
  iapply (wp_drainSlot d L O W tb xf G f₀ (loI L) (nchI L) _ _ _ _ _ 3 (8 * t.val + 2) (loI L + cntI L) (by decide) (by omega) (by omega) hb.1
    (words2 L t).2.2.1 (words2 L t).2.2.2.2) $$ [H3 Hr HO]
  · iframe H3 Hr HO Hmw
  iintro ⟨H3, Hr, HO⟩
  iapply le_wp_ret
  iframe H0 H1 H2 H3 Hd Hr HO
  ipureintro; rfl

set_option maxHeartbeats 4000000 in
/-- Slots 3, 4 and 5. -/
theorem part67_wp (hS : Serves tb xf G (loI L) (cntI L)) (v26 v31 : BitVec 32) (t : Fin (k0_t3_loop L).trips) :
    iprop(□ Transfers.MayWaits (VT d L) (default : HIx 1) O ∗ Buf3 d L tb xf G tq xq (8 * t.val + 3) ∗ Buf4 d L tb xf G tq xq (8 * t.val + 3)
        ∗ Buf5 d L tb xf G tq xq (8 * t.val + 4) ∗ Buf6 d L tb xf G tq xq (8 * t.val + 5) ∗ Flow d L O W G f₀ (8 * t.val + 3))
      ⊢ WPt d L (onArgs (k0_part67 (F := F) L) v26 v31 t (Scf.iv 0#32 1#32 t) (Scalar.muli 8#32 (Scf.iv 0#32 1#32 t))) fun v =>
        iprop(⌜v.1 = Scalar.addi (Scalar.muli 8#32 (Scf.iv 0#32 1#32 t)) 6#32⌝
          ∗ Buf3 d L tb xf G tq xq (8 * t.val + 4) ∗ Buf4 d L tb xf G tq xq (8 * t.val + 5)
          ∗ Buf5 d L tb xf G tq xq (8 * t.val + 6) ∗ Buf6 d L tb xf G tq xq (8 * t.val + 6) ∗ Flow d L O W G f₀ (8 * t.val + 6)) := by
  have hb := bounds L
  unfold onArgs
  rw [k0_part67_eq_skeleton]
  delta k0_part67_skel
  beta_reduce
  iintro ⟨#Hmw, H3, H4, H5, H6, Hd, Hr, HO⟩
  iapply (wp_issue d L O W tb xf G (loI L) (nchI L) _ _ _ _ _ 3 (8 * t.val + 3) (cntI L) (by decide) (by omega) hS hb.2 hb.1 (fun _ => rfl)
    (words3 L t).1 (words3 L t).2.1 (fun _ => (words3 L t).2.2.2.1)) $$ [H3 Hd HO]
  · iframe H3 Hd HO Hmw
  iintro ⟨H3, Hd, HO⟩
  iapply (wp_drainSlot d L O W tb xf G f₀ (loI L) (nchI L) _ _ _ _ _ 4 (8 * t.val + 3) (loI L + cntI L) (by decide) (by omega) (by omega) hb.1
    (words3 L t).2.2.1 (words3 L t).2.2.2.2) $$ [H4 Hr HO]
  · iframe H4 Hr HO Hmw
  iintro ⟨H4, Hr, HO⟩
  iapply (wp_issue d L O W tb xf G (loI L) (nchI L) _ _ _ _ _ 4 (8 * t.val + 4) (cntI L) (by decide) (by omega) hS hb.2 hb.1 (fun _ => rfl)
    (words4 L t).1 (words4 L t).2.1 (fun _ => (words4 L t).2.2.2.1)) $$ [H4 Hd HO]
  · iframe H4 Hd HO Hmw
  iintro ⟨H4, Hd, HO⟩
  iapply (wp_drainSlot d L O W tb xf G f₀ (loI L) (nchI L) _ _ _ _ _ 5 (8 * t.val + 4) (loI L + cntI L) (by decide) (by omega) (by omega) hb.1
    (words4 L t).2.2.1 (words4 L t).2.2.2.2) $$ [H5 Hr HO]
  · iframe H5 Hr HO Hmw
  iintro ⟨H5, Hr, HO⟩
  iapply (wp_issue d L O W tb xf G (loI L) (nchI L) _ _ _ _ _ 5 (8 * t.val + 5) (cntI L) (by decide) (by omega) hS hb.2 hb.1 (fun _ => rfl)
    (words5 L t).1 (words5 L t).2.1 (fun _ => (words5 L t).2.2.2.1)) $$ [H5 Hd HO]
  · iframe H5 Hd HO Hmw
  iintro ⟨H5, Hd, HO⟩
  iapply (wp_drainSlot d L O W tb xf G f₀ (loI L) (nchI L) _ _ _ _ _ 6 (8 * t.val + 5) (loI L + cntI L) (by decide) (by omega) (by omega) hb.1
    (words5 L t).2.2.1 (words5 L t).2.2.2.2) $$ [H6 Hr HO]
  · iframe H6 Hr HO Hmw
  iintro ⟨H6, Hr, HO⟩
  iapply le_wp_ret
  iframe H3 H4 H5 H6 Hd Hr HO
  ipureintro; rfl

/-- A buffer none of `n` slots touches stays as it is. -/
theorem St_skip (lo nch : ℕ) (B : Memref sig .scVector .vmem S64x128 .f32) (g w : DmaSem sig) (tq xq : PosShare TreeShare) (β t n : ℕ) (hβ : β < 8)
    (h : ∀ j < n, (t + j) % 8 ≠ β ∧ (t + j + 1) % 8 ≠ β) :
    St d L tb xf G lo nch B g w tq xq β t ⊢ St d L tb xf G lo nch B g w tq xq β (t + n) := by
  induction n with
  | zero => exact .rfl
  | succ n ih =>
    rw [← Nat.add_assoc, St_other d L tb xf G lo nch B g w tq xq β (t + n) hβ (h n (by omega)).1 (h n (by omega)).2]
    exact ih fun j hj => h j (by omega)

theorem Buf_skip (β : Fin 8) (B : Memref sig .scVector .vmem S64x128 .f32) (g w : DmaSems sig S_) (k t n : ℕ) (hk : β.val = k)
    (h : ∀ j < n, (t + j) % 8 ≠ k ∧ (t + j + 1) % 8 ≠ k) :
    Buf8 d L tb xf G tq xq β B g w t ⊢ Buf8 d L tb xf G tq xq β B g w (t + n) :=
  St_skip d L tb xf G (loI L) (nchI L) B g.sem w.sem (leaf 3 tq β) (leaf 3 xq β) β.val t n β.isLt (hk ▸ h)

/-- The eight buffers and the flow, at the start of slot `t`. -/
def Ring8 (t : ℕ) : sProp 𝕄 :=
  iprop(Buf0 d L tb xf G tq xq t ∗ Buf1 d L tb xf G tq xq t ∗ Buf2 d L tb xf G tq xq t ∗ Buf3 d L tb xf G tq xq t
    ∗ Buf4 d L tb xf G tq xq t ∗ Buf5 d L tb xf G tq xq t ∗ Buf6 d L tb xf G tq xq t ∗ Buf7 d L tb xf G tq xq t ∗ Flow d L O W G f₀ t)

set_option maxHeartbeats 8000000 in
/-- One trip. -/
theorem trip_wp (hS : Serves tb xf G (loI L) (cntI L)) (v26 v31 v32 c8 v33 c0 : BitVec 32) (t : Fin (k0_t3_loop L).trips) (u : Unit) :
    iprop(□ Transfers.MayWaits (VT d L) (default : HIx 1) O ∗ Ring8 d L O W tb xf G f₀ tq xq (8 * t.val))
      ⊢ WPt d L (onArgs (k0_t3_body (F := F) L) v26 v31 v32 c8 v33 c0 t u) fun _ => Ring8 d L O W tb xf G f₀ tq xq (8 * (t.val + 1)) := by
  have hb := bounds L
  unfold onArgs Ring8
  delta k0_t3_body
  beta_reduce
  iintro ⟨#Hmw, H0, H1, H2, H3, H4, H5, H6, H7, Hf⟩
  ihave H2 := (Buf_skip d L tb xf G tq xq 2 _ _ _ 2 (8 * t.val) 1 rfl (by omega)) $$ H2
  ihave H3 := (Buf_skip d L tb xf G tq xq 3 _ _ _ 3 (8 * t.val) 2 rfl (by omega)) $$ H3
  ihave H4 := (Buf_skip d L tb xf G tq xq 4 _ _ _ 4 (8 * t.val) 3 rfl (by omega)) $$ H4
  ihave H5 := (Buf_skip d L tb xf G tq xq 5 _ _ _ 5 (8 * t.val) 4 rfl (by omega)) $$ H5
  ihave H6 := (Buf_skip d L tb xf G tq xq 6 _ _ _ 6 (8 * t.val) 5 rfl (by omega)) $$ H6
  ihave H7 := (Buf_skip d L tb xf G tq xq 7 _ _ _ 7 (8 * t.val) 6 rfl (by omega)) $$ H7
  iapply (wpt_bind d L (part66_wp d L O W tb xf G f₀ tq xq hS v26 v31 t)) $$ [H0 H1 H2 H3 Hf]
  · iframe H0 H1 H2 H3 Hf Hmw
  iintro %v ⟨%hv, H0, H1, H2, H3, Hf⟩
  subst hv
  dsimp only
  iapply (wpt_bind d L (part67_wp d L O W tb xf G f₀ tq xq hS v26 v31 t)) $$ [H3 H4 H5 H6 Hf]
  · iframe H3 H4 H5 H6 Hf Hmw
  iintro %v ⟨%hv, H3, H4, H5, H6, Hd, Hr, HO⟩
  obtain ⟨v, v'⟩ := v
  dsimp only at hv ⊢
  subst hv
  ihave H0 := (Buf_skip d L tb xf G tq xq 0 _ _ _ 0 (8 * t.val + 1) 6 rfl (by omega)) $$ H0
  iapply (wp_issue d L O W tb xf G (loI L) (nchI L) _ _ _ _ _ 6 (8 * t.val + 6) (cntI L) (by decide) (by omega) hS hb.2 hb.1 (fun _ => rfl)
    (words6 L t).1 (words6 L t).2.1 (fun _ => (words6 L t).2.2.2.1)) $$ [H6 Hd HO]
  · iframe H6 Hd HO Hmw
  iintro ⟨H6, Hd, HO⟩
  iapply (wp_drainSlot d L O W tb xf G f₀ (loI L) (nchI L) _ _ _ _ _ 7 (8 * t.val + 6) (loI L + cntI L) (by decide) (by omega) (by omega) hb.1
    (words6 L t).2.2.1 (words6 L t).2.2.2.2) $$ [H7 Hr HO]
  · iframe H7 Hr HO Hmw
  iintro ⟨H7, Hr, HO⟩
  iapply (wp_issue d L O W tb xf G (loI L) (nchI L) _ _ _ _ _ 7 (8 * t.val + 7) (cntI L) (by decide) (by omega) hS hb.2 hb.1 (fun _ => rfl)
    (words7 L t).1 (words7 L t).2.1 (fun _ => (words7 L t).2.2.2.1)) $$ [H7 Hd HO]
  · iframe H7 Hd HO Hmw
  iintro ⟨H7, Hd, HO⟩
  iapply (wp_drainSlot d L O W tb xf G f₀ (loI L) (nchI L) _ _ _ _ _ 0 (8 * t.val + 7) (loI L + cntI L) (by decide) (by omega) (by omega) hb.1
    (words7 L t).2.2.1 (words7 L t).2.2.2.2) $$ [H0 Hr HO]
  · iframe H0 Hr HO Hmw
  iintro ⟨H0, Hr, HO⟩
  iapply le_wp_ret
  ihave H1 := (Buf_skip d L tb xf G tq xq 1 _ _ _ 1 (8 * t.val + 2) 6 rfl (by omega)) $$ H1
  ihave H2 := (Buf_skip d L tb xf G tq xq 2 _ _ _ 2 (8 * t.val + 3) 5 rfl (by omega)) $$ H2
  ihave H3 := (Buf_skip d L tb xf G tq xq 3 _ _ _ 3 (8 * t.val + 4) 4 rfl (by omega)) $$ H3
  ihave H4 := (Buf_skip d L tb xf G tq xq 4 _ _ _ 4 (8 * t.val + 5) 3 rfl (by omega)) $$ H4
  ihave H5 := (Buf_skip d L tb xf G tq xq 5 _ _ _ 5 (8 * t.val + 6) 2 rfl (by omega)) $$ H5
  ihave H6 := (St_skip d L tb xf G (loI L) (nchI L) _ _ _ _ _ 6 (8 * t.val + 6 + 1) 1 (by decide) (by omega)) $$ H6
  iframe H0 H1 H2 H3 H4 H5 H6 H7 Hd Hr HO

end Cert.Proof.Roi
-- ==== Proof.Fill.lean ====
module

public import proofs.«01_k».proof.Proof.Ring
public import proofs.«01_k».proof.Proof.Args

/-! A tile's word buffer that is filled row by row: 1000 words to a row, sixteen at a time, and the last eight of a
row by a masked scatter. -/

@[expose] public section

noncomputable section

namespace Cert.Proof.Roi

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F]

local notation "𝕄" => MM F

variable (d : Dev nD) (L : grid0.Coords)

/-! ## What a store leaves -/

/-- Entry `k * 1000 + n` is done for the rows before the `a`-th column, and up to `a + w` in the first `K` rows. -/
def Upto (a w K k n : ℕ) : Prop := n < a ∨ (k < K ∧ n < a + w)

/-- The first `R` rows of `f` hold `T` wherever they are done. -/
def Good {N : ℕ} (T : ℕ → ℕ → BitVec 32) (R a w K : ℕ) (f : (⟨1, ![N]⟩ : Shape).Idx → BitVec 32) : Prop :=
  ∀ k n, k < R → n < 1000 → Upto a w K k n → ∀ j, (j 0).val = 1000 * k + n → f j = T k n

/-- `f'` is `f` with the first `w` lanes of `v` at `lo`. -/
def Put {N : ℕ} (f : (⟨1, ![N]⟩ : Shape).Idx → BitVec 32) (lo w : ℕ) (v : S16.Idx → BitVec 32)
    (f' : (⟨1, ![N]⟩ : Shape).Idx → BitVec 32) : Prop :=
  (∀ x : Fin 16, x.val < w → ∀ j, (j 0).val = lo + x.val → f' j = v (ix1 x)) ∧ ∀ j, (j 0).val < lo ∨ lo + w ≤ (j 0).val → f' j = f j

theorem Good.put {N : ℕ} {T : ℕ → ℕ → BitVec 32} {R a w K : ℕ} {f f' : (⟨1, ![N]⟩ : Shape).Idx → BitVec 32} {v : S16.Idx → BitVec 32}
    (h : Good T R a w K f) (hw : w ≤ 16) (ha : a + w ≤ 1000) (hp : Put f (1000 * K + a) w v f')
    (hv : ∀ x : Fin 16, x.val < w → v (ix1 x) = T K (a + x.val)) : Good T R a w (K + 1) f' := by
  intro k n hk hn hu j hj
  by_cases hin : k = K ∧ a ≤ n ∧ n < a + w
  · obtain ⟨rfl, h1, h2⟩ := hin
    rw [hp.1 ⟨n - a, by omega⟩ (by show n - a < w; omega) j (by show _ = _ + (n - a); omega), hv _ (by show n - a < w; omega)]
    show T k (a + (n - a)) = T k n
    rw [Nat.add_sub_cancel' h1]
  · rw [hp.2 j (by
      rcases Nat.lt_trichotomy k K with hkK | hkK | hkK
      · omega
      · subst hkK
        have : n < a ∨ a + w ≤ n := by omega
        omega
      · omega)]
    refine h k n hk hn ?_ j hj
    unfold Upto at hu ⊢
    omega

theorem Good.next {N : ℕ} {T : ℕ → ℕ → BitVec 32} {R a w K : ℕ} {f : (⟨1, ![N]⟩ : Shape).Idx → BitVec 32}
    (h : Good T R a w R f) (w' : ℕ) : Good T R (a + w) w' 0 f := by
  intro k n hk hn hu
  refine h k n hk hn ?_
  unfold Upto at *
  omega

theorem good_zero {N : ℕ} (T : ℕ → ℕ → BitVec 32) (R w : ℕ) (f : (⟨1, ![N]⟩ : Shape).Idx → BitVec 32) : Good T R 0 w 0 f := by
  intro k n hk hn hu
  unfold Upto at hu
  omega

/-- A scatter of the first eight lanes at consecutive words. -/
theorem put_storeIdx {N : ℕ} (f : Vec F ⟨1, ![N]⟩ .i32) (idx : IVec S16 32) (v : Vec F S16 .i32) (mask : IVec S16 1) (lo : ℕ)
    (h : ∀ a x, ((![idx] : Fin 1 → IVec S16 32) a x).toNat < (⟨1, ![N]⟩ : Shape).size a)
    (hi : ∀ x : Fin 16, (idx (ix1 x)).toNat = lo + x.val) (hm : ∀ x : Fin 16, mask (ix1 x) = 1 ↔ x.val < 8) :
    Put f lo 8 v (storeIdx f ![idx] v mask false h) := by
  have key : ∀ (l : List (Fin 16)) (g : Vec F ⟨1, ![N]⟩ .i32), l.Nodup → ∀ j : (⟨1, ![N]⟩ : Shape).Idx,
      (∀ x ∈ l, x.val < 8 → (j 0).val = lo + x.val →
        (l.foldl (fun g k => if mask (ix1 k) = 1 then fun j => if (∀ a, (j a).val = (idxAt ![idx] h (ix1 k) a).val) then v (ix1 k) else g j else g) g) j = v (ix1 x))
      ∧ ((∀ x ∈ l, x.val < 8 → (j 0).val ≠ lo + x.val) →
        (l.foldl (fun g k => if mask (ix1 k) = 1 then fun j => if (∀ a, (j a).val = (idxAt ![idx] h (ix1 k) a).val) then v (ix1 k) else g j else g) g) j = g j) := by
    intro l
    induction l with
    | nil => intro g _ j; exact ⟨fun x hx => absurd hx (List.not_mem_nil), fun _ => rfl⟩
    | cons k l ih =>
      intro g hnd j
      rw [List.nodup_cons] at hnd
      have hstep : (if mask (ix1 k) = 1 then fun j : (⟨1, ![N]⟩ : Shape).Idx => if (∀ a, (j a).val = (idxAt ![idx] h (ix1 k) a).val) then v (ix1 k) else g j else g) j
          = if k.val < 8 ∧ (j 0).val = lo + k.val then v (ix1 k) else g j := by
        have e : (∀ a, (j a).val = (idxAt ![idx] h (ix1 k) a).val) ↔ (j 0).val = lo + k.val := by
          constructor
          · intro hh; rw [hh 0]; exact hi k
          · intro hh a; obtain rfl := Fin.eq_zero a; rw [hh]; exact (hi k).symm
        by_cases hk : k.val < 8
        · rw [if_pos ((hm k).mpr hk)]
          by_cases hj : (j 0).val = lo + k.val
          · rw [if_pos (show k.val < 8 ∧ (j 0).val = lo + k.val from ⟨hk, hj⟩)]; exact if_pos (e.mpr hj)
          · rw [if_neg (fun hh : k.val < 8 ∧ (j 0).val = lo + k.val => hj hh.2)]; exact if_neg (fun hh => hj (e.mp hh))
        · rw [if_neg (fun hh => hk ((hm k).mp hh)), if_neg (fun hh : k.val < 8 ∧ (j 0).val = lo + k.val => hk hh.1)]
      rw [List.foldl_cons]
      obtain ⟨i1, i2⟩ := ih (if mask (ix1 k) = 1 then fun j : (⟨1, ![N]⟩ : Shape).Idx => if (∀ a, (j a).val = (idxAt ![idx] h (ix1 k) a).val) then v (ix1 k) else g j else g) hnd.2 j
      constructor
      · intro x hx hx8 hj
        rcases List.mem_cons.mp hx with rfl | hx
        · rw [i2 (fun y hy hy8 hjy => hnd.1 (by rwa [show x = y from Fin.ext (by omega)])), hstep, if_pos ⟨hx8, hj⟩]
        · exact i1 x hx hx8 hj
      · intro hall
        rw [i2 (fun y hy => hall y (List.mem_cons_of_mem _ hy)), hstep,
          if_neg (fun hh => hall k (List.mem_cons_self) hh.1 hh.2)]
  have hof : ∀ k : Fin 16, (Shape.ofLane k : S16.Idx) = ix1 k := fun k => by
    funext a; obtain rfl := Fin.eq_zero a; rfl
  have hst : storeIdx f ![idx] v mask false h
      = (List.finRange 16).foldl (fun g k => if mask (ix1 k) = 1 then fun j => if (∀ a, (j a).val = (idxAt ![idx] h (ix1 k) a).val) then v (ix1 k) else g j else g) f := by
    unfold storeIdx
    congr 1
    funext g k
    rw [← hof k]
    simp only [Bool.false_eq_true, if_false]
  rw [hst]
  constructor
  · intro x hx j hj
    exact (key _ f (List.nodup_finRange 16) j).1 x (List.mem_finRange x) hx hj
  · intro j hj
    exact (key _ f (List.nodup_finRange 16) j).2 (fun x _ hx8 hjx => by omega)

/-! ## The buffer, and the operations on it -/

variable {N : ℕ} (B : Memref sig .scVector .vmem ⟨1, ![N]⟩ .i32)

/-- The buffer, held outright, its done entries at `T`. -/
def Filled (T : ℕ → ℕ → BitVec 32) (R a w K : ℕ) : sProp 𝕄 :=
  iprop(∃ g : Buf (Elt F) (B.view.loc (VT d L)), ⌜Good T R a w K (B.view.read (Elt F) g)⌝ ∗ ((B.view.loc (VT d L)) ↦{fullShare} g))

theorem Filled_next {T : ℕ → ℕ → BitVec 32} {R a w : ℕ} (w' : ℕ) : Filled (F := F) d L B T R a w R ⊢ Filled d L B T R (a + w) w' 0 := by
  unfold Filled
  iintro ⟨%g, %hg, H⟩
  iexists g
  iframe H
  ipureintro; exact hg.next (K := 0) w'

/-- A load of sixteen words of row `k₀`. -/
theorem wp_fillLoad {T : ℕ → ℕ → BitVec 32} {R a w K : ℕ} {α : Type} {Q : α → sProp 𝕄}
    {off : Fin 1 → ℕ} {inb : ∀ a, off a + S16.size a ≤ (⟨1, ![N]⟩ : Shape).size a}
    {hl : B.view.LoadsAt (Rect.unit (s := ⟨1, ![N]⟩) off S16.size inb).toLoadRect}
    {k : (S16.Idx → BitVec 32) → Prog (TpuEff nD τ sig (Elt F) Λ₀ (VT d L).2) α} :
    Filled d L B T R a w K ⊢ iprop((∀ u : S16.Idx → BitVec 32,
        ⌜∀ k₀ n₀, k₀ < R → off = ![1000 * k₀ + n₀] → ∀ x : Fin 16, n₀ + x.val < 1000 → Upto a w K k₀ (n₀ + x.val) → u (ix1 x) = T k₀ (n₀ + x.val)⌝
          -∗ Filled d L B T R a w K -∗ WPt d L (k u) Q)
        -∗ WPt d L (Prog.lift (.load B (Rect.unit (s := ⟨1, ![N]⟩) off S16.size inb).toLoadRect hl) >>= k) Q) := by
  unfold Filled
  iintro ⟨%g, %hg, H⟩ Hk
  simp only [Prog.lift, Prog.bind_op, Prog.bind_ret]
  iapply (wp_load_rect (defs := defs₀ (F := F)) 𝒱₀ (VT d L) none Set.univ (m := B) (r := Rect.unit (s := ⟨1, ![N]⟩) off S16.size inb)
    (S := Finset.univ) (f := g) (Finset.subset_univ _)) $$ H
  iintro H
  iapply Hk $$ [] [H]
  · ipureintro
    rintro k₀ n₀ hk₀ rfl x hx hu
    refine hg k₀ (n₀ + x.val) hk₀ hx hu _ ?_
    show 1000 * k₀ + n₀ + 1 * x.val = _
    omega
  · iexists g
    iframe H
    ipureintro; exact hg

theorem put_store (lo : ℕ) {inb : ∀ a, (![lo] : Fin 1 → ℕ) a + S16.size a ≤ (⟨1, ![N]⟩ : Shape).size a} (g : Buf (Elt F) (B.view.loc (VT d L)))
    (v : S16.Idx → BitVec 32) :
    Put (B.view.read (Elt F) g) lo 16 v (B.view.read (Elt F) ((B.access (Rect.unit (s := ⟨1, ![N]⟩) ![lo] S16.size inb)).write (Elt F) g v Finset.univ)) := by
  refine ⟨?_, ?_⟩
  · intro x _ j hj
    have : j = (Rect.unit (s := ⟨1, ![N]⟩) ![lo] S16.size inb).emb (ix1 x) := by
      funext c
      obtain rfl := Fin.eq_zero c
      apply Fin.ext
      show (j 0).val = lo + 1 * x.val
      omega
    rw [this]
    exact View.read_slice_write_emb _ _ _ (Finset.mem_univ _)
  · intro j hj
    refine View.read_slice_write_of_not_mem _ _ _ _ ?_
    intro hm
    obtain ⟨y, -, rfl⟩ := Finset.mem_map.mp hm
    have h1 : (((Rect.unit (s := ⟨1, ![N]⟩) ![lo] S16.size inb).emb y) 0).val = lo + 1 * (y 0).val := rfl
    have h2 : (y 0).val < 16 := (y 0).isLt
    omega

/-- A store of sixteen words. -/
theorem wp_fillStore {T : ℕ → ℕ → BitVec 32} {R a K : ℕ} {α : Type} {Q : α → sProp 𝕄}
    {off : Fin 1 → ℕ} {inb : ∀ a, off a + S16.size a ≤ (⟨1, ![N]⟩ : Shape).size a}
    {v : S16.Idx → BitVec 32} {hx : (B.access (Rect.unit (s := ⟨1, ![N]⟩) off S16.size inb)).Stores Finset.univ}
    {k : PUnit → Prog (TpuEff nD τ sig (Elt F) Λ₀ (VT d L).2) α}
    (hoff : off = ![1000 * K + a]) (ha : a + 16 ≤ 1000) (hv : ∀ x : Fin 16, v (ix1 x) = T K (a + x.val)) :
    Filled d L B T R a 16 K ⊢ iprop((Filled d L B T R a 16 (K + 1) -∗ WPt d L (k ⟨⟩) Q)
        -∗ WPt d L (Prog.lift (.store B (Rect.unit (s := ⟨1, ![N]⟩) off S16.size inb) v Finset.univ hx (.inl rfl)) >>= k) Q) := by
  subst hoff
  unfold Filled
  iintro ⟨%g, %hg, H⟩ Hk
  simp only [Prog.lift, Prog.bind_op, Prog.bind_ret]
  iapply (wp_store (defs := defs₀ (F := F)) 𝒱₀ (VT d L) none Set.univ (m := B) (r := Rect.unit (s := ⟨1, ![N]⟩) ![1000 * K + a] S16.size inb)
    (w := v) (Mk := Finset.univ) (hx := hx) (hm := .inl rfl) (k := k) (S := (Finset.univ : Finset (Idx (B.view.loc (VT d L))))) (f := g) (Finset.subset_univ _)) $$ H
  iintro H
  iapply Hk
  iexists ((B.access (Rect.unit (s := ⟨1, ![N]⟩) ![1000 * K + a] S16.size inb)).write (Elt F) g v Finset.univ)
  iframe H
  ipureintro
  exact hg.put (v := v) (by omega) ha (put_store d L B (1000 * K + a) g v) fun x _ => hv x

/-- A scatter into a buffer held outright. -/
theorem wp_scatter {α : Type} {Q : α → sProp 𝕄} {idx : IVec S16 32} {v : Vec F S16 .i32} {mask : IVec S16 1}
    {hin : ∀ a x, ((![idx] : Fin 1 → IVec S16 32) a x).toNat < (⟨1, ![N]⟩ : Shape).size a} {hs : (B.access (Rect.whole (⟨1, ![N]⟩ : Shape))).Stores Finset.univ}
    {k : PUnit → Prog (TpuEff nD τ sig (Elt F) Λ₀ (VT d L).2) α} {g : Buf (Elt F) (B.view.loc (VT d L))} :
    ((B.view.loc (VT d L)) ↦{fullShare} g) ⊢ iprop((((B.view.loc (VT d L)) ↦{fullShare} ((B.access (Rect.whole _)).write (Elt F) g
          (storeIdx ((B.access (Rect.whole _)).read (Elt F) g) ![idx] v mask false hin) Finset.univ : Buf (Elt F) (B.view.loc (VT d L)))) -∗ WPt d L (k ⟨⟩) Q)
        -∗ WPt d L (SparseCore.vectorStoreIdx B ![idx] v mask false hin hs >>= k) Q) := by
  have e := SparseCore.vectorStoreIdx_bind (c := VT d L) B ![idx] v mask false hin hs k
  refine Eq.mpr (congrArg (fun p => (_ ⊢ iprop(_ -∗ WPt d L p Q))) e) ?_
  iintro H Hk
  iapply (wp_load_rect (defs := defs₀ (F := F)) 𝒱₀ (VT d L) none Set.univ (m := B) (r := Rect.whole _) (hl := View.loadsAt_rect hs.loads)
    (S := Finset.univ) (k := fun f' => .op (.store B (.whole _) (storeIdx f' ![idx] v mask false hin) Finset.univ hs (.inl rfl)) k) (f := g) (Finset.subset_univ _)) $$ H
  iintro H
  iapply (wp_store (defs := defs₀ (F := F)) 𝒱₀ (VT d L) none Set.univ (m := B) (r := Rect.whole _) (Mk := Finset.univ) (hx := hs) (hm := .inl rfl) (k := k)
    (S := Finset.univ) (f := g) (Finset.subset_univ _)) $$ H
  iexact Hk

/-- The last eight words of a row, by a masked scatter. -/
theorem wp_fillScatterAt {T : ℕ → ℕ → BitVec 32} {R K : ℕ} {α : Type} {Q : α → sProp 𝕄}
    {idx : IVec S16 32} {v : Vec F S16 .i32} {mask : IVec S16 1}
    {hin : ∀ a x, ((![idx] : Fin 1 → IVec S16 32) a x).toNat < (⟨1, ![N]⟩ : Shape).size a} {hs : (B.access (Rect.whole (⟨1, ![N]⟩ : Shape))).Stores Finset.univ}
    {k : PUnit → Prog (TpuEff nD τ sig (Elt F) Λ₀ (VT d L).2) α}
    (hi : ∀ x : Fin 16, (idx (ix1 x)).toNat = 1000 * K + 992 + x.val) (hm : ∀ x : Fin 16, mask (ix1 x) = 1 ↔ x.val < 8)
    (hv : ∀ x : Fin 16, x.val < 8 → v (ix1 x) = T K (992 + x.val)) :
    Filled d L B T R 992 8 K ⊢ iprop((Filled d L B T R 992 8 (K + 1) -∗ WPt d L (k ⟨⟩) Q)
        -∗ WPt d L (SparseCore.vectorStoreIdx B ![idx] v mask false hin hs >>= k) Q) := by
  unfold Filled
  iintro ⟨%g, %hg, H⟩ Hk
  iapply (wp_scatter d L B) $$ H
  iintro H
  iapply Hk
  iexists ((B.access (Rect.whole _)).write (Elt F) g
      (storeIdx ((B.access (Rect.whole _)).read (Elt F) g) ![idx] v mask false hin) Finset.univ)
  iframe H
  ipureintro
  refine hg.put (v := v) (by omega) (by omega) ?_ hv
  have e : B.view.read (Elt F) ((B.access (Rect.whole _)).write (Elt F) g
      (storeIdx ((B.access (Rect.whole _)).read (Elt F) g) ![idx] v mask false hin) Finset.univ)
      = storeIdx (B.view.read (Elt F) g) ![idx] v mask false hin := by
    have he : ∀ y, (Rect.whole (⟨1, ![N]⟩ : Shape)).emb y = y := fun y => by
      funext c; apply Fin.ext; show 0 + 1 * (y c).val = _; omega
    have hr : (B.access (Rect.whole _)).read (Elt F) g = B.view.read (Elt F) g := by
      funext y
      show B.view.read (Elt F) g ((Rect.whole (⟨1, ![N]⟩ : Shape)).emb y) = _
      rw [he]
    rw [hr]
    funext y
    have h2 := View.read_slice_write_emb (v := B.view) (Val := Elt F) (Rect.whole _) g (storeIdx (B.view.read (Elt F) g) ![idx] v mask false hin) (Finset.mem_univ (y : (Rect.whole (⟨1, ![N]⟩ : Shape)).shape.Idx))
    rw [he] at h2
    exact h2
  rw [e]
  exact put_storeIdx _ _ _ _ _ _ hi hm

/-- A check that holds. -/
theorem wp_check {α : Type} {Q : α → sProp 𝕄} {P : Prop} {dec : Decidable P} (hP : P)
    {k : PLift P → Prog (TpuEff nD τ sig (Elt F) Λ₀ (VT d L).2) α} :
    WPt d L (k ⟨hP⟩) Q ⊢ WPt d L (Prog.lift (.assume P dec) >>= k) Q := by
  iintro H
  simp only [Prog.lift, Prog.bind_op, Prog.bind_ret]
  iapply (wp_assume (defs := defs₀ (F := F)) 𝒱₀ (VT d L) none Set.univ hP)
  iexact H

/-- A check that holds, then the scatter it is for. -/
theorem wp_fillScatter {T : ℕ → ℕ → BitVec 32} {R K : ℕ} {α : Type} {Q : α → sProp 𝕄}
    {P : Prop} {dec : Decidable P} (hP : P) {idx : IVec S16 32} {v : Vec F S16 .i32} {mask : IVec S16 1}
    {hin : PLift P → ∀ a x, ((![idx] : Fin 1 → IVec S16 32) a x).toNat < (⟨1, ![N]⟩ : Shape).size a} {hs : (B.access (Rect.whole (⟨1, ![N]⟩ : Shape))).Stores Finset.univ}
    {k : PUnit → Prog (TpuEff nD τ sig (Elt F) Λ₀ (VT d L).2) α}
    (hi : ∀ x : Fin 16, (idx (ix1 x)).toNat = 1000 * K + 992 + x.val) (hm : ∀ x : Fin 16, mask (ix1 x) = 1 ↔ x.val < 8)
    (hv : ∀ x : Fin 16, x.val < 8 → v (ix1 x) = T K (992 + x.val)) :
    Filled d L B T R 992 8 K ⊢ iprop((Filled d L B T R 992 8 (K + 1) -∗ WPt d L (k ⟨⟩) Q)
        -∗ WPt d L (Prog.lift (.assume P dec) >>= fun hw => SparseCore.vectorStoreIdx B ![idx] v mask false (hin hw) hs >>= k) Q) := by
  iintro H Hk
  simp only [Prog.lift, Prog.bind_op, Prog.bind_ret]
  iapply (wp_assume (defs := defs₀ (F := F)) 𝒱₀ (VT d L) none Set.univ hP)
  iapply (wp_fillScatterAt d L B hi hm hv) $$ H
  iexact Hk

end Cert.Proof.Roi
-- ==== Proof.Index.lean ====
module

public import proofs.«01_k».proof.Proof.Fill

/-! The words of the list: which row of the table a row of the result takes. -/

@[expose] public section

noncomputable section

namespace Cert.Proof.Roi

open Cert.KernelIdeal Cert.KernelIdeal.Gen

open Idealize.ShloMosaic

variable {F : FTy → Type} [FloatOps F] [Named F]

/-! ## A region's grid points, as words -/

/-- The two weights of sample `k` of seven: that of the far end, and that of the near one. -/
def lin (k : ℕ) : F .f32 :=
  match k with
  | 0 => Scalar.ofBits .f32 0x00000000#32
  | 1 => Named.named κ "sixth" 0x3E2AAAAB#32
  | 2 => Named.named κ "third" 0x3EAAAAAB#32
  | 3 => Scalar.ofBits .f32 0x3F000000#32
  | 4 => Named.named κ "two_thirds" 0x3F2AAAAB#32
  | _ => Named.named κ "five_sixths" 0x3F555555#32

def omt (k : ℕ) : F .f32 :=
  match k with
  | 0 => Scalar.ofBits .f32 0x3F800000#32
  | 1 => Named.named κ "five_sixths" 0x3F555555#32
  | 2 => Scalar.subf (Scalar.ofBits .f32 0x3F800000#32) (Named.named κ "third" 0x3EAAAAAB#32)
  | 3 => Scalar.ofBits .f32 0x3F000000#32
  | 4 => Scalar.subf (Scalar.ofBits .f32 0x3F800000#32) (Named.named κ "two_thirds" 0x3F2AAAAB#32)
  | _ => Scalar.subf (Scalar.ofBits .f32 0x3F800000#32) (Named.named κ "five_sixths" 0x3F555555#32)

/-- An end of a region, held to the feature map. -/
def clip (hi : BitVec 32) (a : F .f32) : F .f32 := FloatOps.minimumf (Scalar.ofBits .f32 hi) (FloatOps.maximumf (Scalar.ofBits .f32 0x00000000#32) a)

/-- Sample `k` between the ends `a` and `b`; the last one is the far end itself. -/
def gridF (hi : BitVec 32) (k : ℕ) (a b : F .f32) : F .f32 :=
  match k with
  | 6 => clip hi b
  | k => FloatOps.addf (FloatOps.mulf (clip hi a) (omt k)) (FloatOps.mulf (clip hi b) (lin k))

/-- The number's whole part, held to `0 … top`. -/
def toCell (top : BitVec 32) (x : F .f32) : BitVec 32 := IntOp.minsi top (IntOp.maxsi 0#32 (FloatOps.fptosi 32 x))

/-- What coordinate-and-sample `m` of a region `v` adds to the row of the table: 0–6 the batch and depth, 7–13 the height, 14–20 the width. -/
def tabW (m : ℕ) (v : ℕ → F .f32) : BitVec 32 :=
  if m < 7 then IntOp.addi (IntOp.muli (toCell 1#32 (v 0)) 131072#32) (IntOp.muli (toCell 31#32 (gridF 0x41F80000#32 m (v 3) (v 6))) 4096#32)
  else if m < 14 then IntOp.muli (toCell 63#32 (gridF 0x427C0000#32 (m - 7) (v 2) (v 5))) 64#32
  else toCell 63#32 (gridF 0x427C0000#32 (m - 14) (v 1) (v 4))

/-- Field `f` of region `n`. -/
def roiAt (rb : S8192.Idx → F .f32) (n f : ℕ) : F .f32 := rb (ix1 (Fin.ofNat 8192 (8 * n + f)))

/-- The row of the table for cell `j` of region `n`. -/
def idxW (rb : S8192.Idx → F .f32) (j n : ℕ) : BitVec 32 :=
  IntOp.addi (IntOp.addi (tabW (j / 49) (roiAt rb n)) (tabW (7 + j / 7 % 7) (roiAt rb n))) (tabW (14 + j % 7) (roiAt rb n))

/-! ## Every row named is one of the table's -/

theorem minsi_maxsi_le {top : BitVec 32} (ht : top.toNat < 2 ^ 31) (w : BitVec 32) : (IntOp.minsi top (IntOp.maxsi 0#32 w)).toNat ≤ top.toNat := by
  unfold IntOp.minsi IntOp.maxsi
  simp only [BitVec.slt, decide_eq_true_eq, BitVec.toInt_eq_toNat_cond, BitVec.toNat_ofNat]
  split_ifs <;> (try simp only [BitVec.toNat_ofNat] at *) <;> omega

theorem toCell_le {top : BitVec 32} (ht : top.toNat < 2 ^ 31) (x : F .f32) : (toCell top x).toNat ≤ top.toNat := minsi_maxsi_le ht _

theorem tabW_z {m : ℕ} (hm : m < 7) (v : ℕ → F .f32) :
    (tabW m v).toNat = (toCell 1#32 (v 0)).toNat * 131072 + (toCell 31#32 (gridF 0x41F80000#32 m (v 3) (v 6))).toNat * 4096 := by
  have h1 := toCell_le (top := 1#32) (by decide) (v 0)
  have h2 := toCell_le (top := 31#32) (by decide) (gridF 0x41F80000#32 m (v 3) (v 6))
  rw [show (1#32).toNat = 1 from rfl] at h1
  rw [show (31#32).toNat = 31 from rfl] at h2
  unfold tabW IntOp.addi IntOp.muli
  rw [if_pos hm, BitVec.toNat_add, BitVec.toNat_mul, BitVec.toNat_mul, show (131072#32).toNat = 131072 from rfl, show (4096#32).toNat = 4096 from rfl]
  omega

theorem tabW_y {m : ℕ} (hm : 7 ≤ m) (hm' : m < 14) (v : ℕ → F .f32) :
    (tabW m v).toNat = (toCell 63#32 (gridF 0x427C0000#32 (m - 7) (v 2) (v 5))).toNat * 64 := by
  have h2 := toCell_le (top := 63#32) (by decide) (gridF 0x427C0000#32 (m - 7) (v 2) (v 5))
  rw [show (63#32).toNat = 63 from rfl] at h2
  unfold tabW IntOp.muli
  rw [if_neg (by omega), if_pos hm', BitVec.toNat_mul, show (64#32).toNat = 64 from rfl]
  omega

theorem tabW_x {m : ℕ} (hm : 14 ≤ m) (v : ℕ → F .f32) :
    tabW m v = toCell 63#32 (gridF 0x427C0000#32 (m - 14) (v 1) (v 4)) := by
  unfold tabW
  rw [if_neg (by omega), if_neg (by omega)]

theorem idxW_toNat (rb : S8192.Idx → F .f32) {j : ℕ} (hj : j < 343) (n : ℕ) :
    (idxW rb j n).toNat = (toCell 1#32 (roiAt rb n 0)).toNat * 131072
        + (toCell 31#32 (gridF 0x41F80000#32 (j / 49) (roiAt rb n 3) (roiAt rb n 6))).toNat * 4096
        + (toCell 63#32 (gridF 0x427C0000#32 (j / 7 % 7) (roiAt rb n 2) (roiAt rb n 5))).toNat * 64
        + (toCell 63#32 (gridF 0x427C0000#32 (j % 7) (roiAt rb n 1) (roiAt rb n 4))).toNat
      ∧ (idxW rb j n).toNat < 262144 := by
  have h1 := toCell_le (top := 1#32) (by decide) (roiAt rb n 0)
  have h2 := toCell_le (top := 31#32) (by decide) (gridF 0x41F80000#32 (j / 49) (roiAt rb n 3) (roiAt rb n 6))
  have h3 := toCell_le (top := 63#32) (by decide) (gridF 0x427C0000#32 (j / 7 % 7) (roiAt rb n 2) (roiAt rb n 5))
  have h4 := toCell_le (top := 63#32) (by decide) (gridF 0x427C0000#32 (j % 7) (roiAt rb n 1) (roiAt rb n 4))
  rw [show (1#32).toNat = 1 from rfl] at h1
  rw [show (31#32).toNat = 31 from rfl] at h2
  rw [show (63#32).toNat = 63 from rfl] at h3 h4
  have hz := tabW_z (m := j / 49) (by omega) (roiAt rb n)
  have hy := tabW_y (m := 7 + j / 7 % 7) (by omega) (by omega) (roiAt rb n)
  have hx := tabW_x (m := 14 + j % 7) (by omega) (roiAt rb n)
  rw [Nat.add_sub_cancel_left] at hy hx
  unfold idxW IntOp.addi
  rw [BitVec.toNat_add, BitVec.toNat_add, hz, hy, hx]
  omega

/-! ## The result of the gather -/

/-- The row of the table that row `r` of the result takes. -/
def rowOf (rb : S8192.Idx → F .f32) (r : Fin 343000) : Fin 262144 :=
  ⟨(idxW rb (r.val / 1000) (r.val % 1000)).toNat, (idxW_toNat rb (by have := r.isLt; omega) _).2⟩

/-- What the gather leaves. -/
def gathered (tb : S262144x128.Idx → Elt F .f32) (rb : S8192.Idx → F .f32) : S343000x128.Idx → Elt F .f32 := fun x => tb (ix2 (rowOf rb (x 0)) (x 1))

/-- A list that holds the rows of `cells` cells from cell `base` serves the result's rows of those cells. -/
theorem serves_of_good (tb : S262144x128.Idx → Elt F .f32) (rb : S8192.Idx → F .f32) (xf : LstC) (base cells R w : ℕ) (hb : base + cells ≤ 343)
    (hR : cells ≤ R) (h : Good (fun k n => idxW rb (base + k) n) R 1000 w 0 xf) : Serves tb xf (gathered tb rb) (1000 * base) (1000 * cells) := by
  intro p hp
  have e : xf (ix1 p) = idxW rb (base + p.val / 1000) (p.val % 1000) :=
    h (p.val / 1000) (p.val % 1000) (by omega) (by omega) (Or.inl (by omega)) (ix1 p) (by show p.val = _; omega)
  have hlt : (xf (ix1 p)).toNat < 262144 := by rw [e]; exact (idxW_toNat rb (by omega) _).2
  refine ⟨hlt, fun r l hr => ?_⟩
  show tb (ix2 (rowOf rb r) l) = _
  congr 2
  apply Fin.ext
  show (idxW rb (r.val / 1000) (r.val % 1000)).toNat = (xf (ix1 p)).toNat
  rw [e, show r.val / 1000 = base + p.val / 1000 by omega, show r.val % 1000 = p.val % 1000 by omega]

end Cert.Proof.Roi
-- ==== Proof.Words.lean ====
module

public import proofs.«01_k».proof.Proof.RingTrip
public import proofs.«01_k».proof.Proof.Index

/-! The words of the index phases: offsets, lane indices and masks. -/

@[expose] public section

namespace Cert.Proof.Roi

open Cert.KernelIdeal Cert.KernelIdeal.Gen

open Idealize.ShloMosaic

abbrev baseI (i : grid0.Coords) : ℕ := cellBase (i 1).val

theorem iv16 : ∀ t : Fin k0_t2_loop.trips, (Scalar.muli (Scf.iv 0#32 1#32 t.val) 16#32).toNat = 16 * t.val ∧ t.val < 62 := by decide +kernel

theorem off_step {f : Fin k0_t2_loop.trips → Fin 1 → ℕ} {A : ℕ} (hA : A ≤ 20000)
    (h : ∃ X : BitVec 32, ∀ t, f t = ![(Scalar.addi X (Scalar.muli (Scf.iv 0#32 1#32 t.val) 16#32)).toNat])
    (h0 : f ⟨0, by decide⟩ = ![A]) (t : Fin k0_t2_loop.trips) : f t = ![A + 16 * t.val] := by
  obtain ⟨X, hX⟩ := h
  have e0 := congrFun ((hX ⟨0, by decide⟩).symm.trans h0) 0
  have e1 := iv16 ⟨0, by decide⟩
  have e2 := iv16 t
  rw [hX t]
  congr 1
  change (X + _).toNat = A at e0
  change (X + _).toNat = _
  rw [BitVec.toNat_add] at e0 ⊢
  rw [e1.1] at e0
  rw [e2.1]
  have := X.isLt
  simp only at e0
  omega

theorem off2_zero : ∀ (i : grid0.Coords) (r : Fin 22), k0_off2 i ⟨0, by decide⟩ (BitVec.ofNat 32 r.val) = ![1000 * ((baseI i + r.val) / 49)] := by
  decide +kernel
theorem off3_zero : ∀ (i : grid0.Coords) (r : Fin 22), k0_off3 i ⟨0, by decide⟩ (BitVec.ofNat 32 r.val) = ![1000 * (7 + (baseI i + r.val) / 7 % 7)] := by
  decide +kernel
theorem off4_zero : ∀ (i : grid0.Coords) (r : Fin 22), k0_off4 i ⟨0, by decide⟩ (BitVec.ofNat 32 r.val) = ![1000 * (14 + (baseI i + r.val) % 7)] := by
  decide +kernel

theorem baseI_le : ∀ i : grid0.Coords, baseI i + 22 ≤ 344 := by decide +kernel

theorem off2_eq (i : grid0.Coords) (t : Fin k0_t2_loop.trips) (r : Fin 22) :
    k0_off2 i t (BitVec.ofNat 32 r.val) = ![1000 * ((baseI i + r.val) / 49) + 16 * t.val] :=
  off_step (f := fun t => k0_off2 i t (BitVec.ofNat 32 r.val)) (by have := baseI_le i; omega) ⟨_, fun _ => rfl⟩ (off2_zero i r) t
theorem off3_eq (i : grid0.Coords) (t : Fin k0_t2_loop.trips) (r : Fin 22) :
    k0_off3 i t (BitVec.ofNat 32 r.val) = ![1000 * (7 + (baseI i + r.val) / 7 % 7) + 16 * t.val] :=
  off_step (f := fun t => k0_off3 i t (BitVec.ofNat 32 r.val)) (by omega) ⟨_, fun _ => rfl⟩ (off3_zero i r) t
theorem off4_eq (i : grid0.Coords) (t : Fin k0_t2_loop.trips) (r : Fin 22) :
    k0_off4 i t (BitVec.ofNat 32 r.val) = ![1000 * (14 + (baseI i + r.val) % 7) + 16 * t.val] :=
  off_step (f := fun t => k0_off4 i t (BitVec.ofNat 32 r.val)) (by omega) ⟨_, fun _ => rfl⟩ (off4_zero i r) t

/-- The lanes' numbers. -/
noncomputable abbrev lanes : IVec S16 32 := iota .scVector S16 32 [0] iota_S16_d0_w32_scVector

theorem lanes_lt {N : ℕ} {v : IVec S16 32} (h : ∀ x : Fin 16, (v (ix1 x)).toNat < N) :
    ∀ a x, ((![v] : Fin 1 → IVec S16 32) a x).toNat < (⟨1, ![N]⟩ : Shape).size a := by
  intro a x
  obtain rfl := Fin.eq_zero a
  have : x = ix1 (x 0) := by funext c; obtain rfl := Fin.eq_zero c; rfl
  rw [this]
  exact h (x 0)

theorem roi_lanes : ∀ (t : Fin k0_t1_loop.trips) (x : Fin 16),
    (k0_pay2 lanes 0#32 1#32 t (ix1 x)).toNat = 8 * (16 * t.val + x.val) + 0 ∧ (k0_pay4 lanes 0#32 1#32 t (ix1 x)).toNat = 8 * (16 * t.val + x.val) + 1
      ∧ (k0_pay5 lanes 0#32 1#32 t (ix1 x)).toNat = 8 * (16 * t.val + x.val) + 2 ∧ (k0_pay6 lanes 0#32 1#32 t (ix1 x)).toNat = 8 * (16 * t.val + x.val) + 3
      ∧ (k0_pay7 lanes 0#32 1#32 t (ix1 x)).toNat = 8 * (16 * t.val + x.val) + 4 ∧ (k0_pay8 lanes 0#32 1#32 t (ix1 x)).toNat = 8 * (16 * t.val + x.val) + 5
      ∧ (k0_pay9 lanes 0#32 1#32 t (ix1 x)).toNat = 8 * (16 * t.val + x.val) + 6 ∧ t.val < 62 := by decide +kernel

theorem roi_tail_lanes : ∀ x : Fin 16,
    (k0_pay81 lanes (ix1 x)).toNat = 8 * (992 + x.val) + 0 ∧ (k0_pay83 lanes (ix1 x)).toNat = 8 * (992 + x.val) + 1
      ∧ (k0_pay84 lanes (ix1 x)).toNat = 8 * (992 + x.val) + 2 ∧ (k0_pay85 lanes (ix1 x)).toNat = 8 * (992 + x.val) + 3
      ∧ (k0_pay86 lanes (ix1 x)).toNat = 8 * (992 + x.val) + 4 ∧ (k0_pay87 lanes (ix1 x)).toNat = 8 * (992 + x.val) + 5
      ∧ (k0_pay88 lanes (ix1 x)).toNat = 8 * (992 + x.val) + 6 := by decide +kernel

theorem mask_lanes : ∀ x : Fin 16, k0_pay133 lanes (ix1 x) = 1 ↔ x.val < 8 := by decide +kernel

end Cert.Proof.Roi
-- ==== Proof.PhaseOne.lean ====
module

public import proofs.«01_k».proof.Proof.Words

/-! The first index phase: what each region adds to the row of the table, for each coordinate and sample. -/

@[expose] public section

noncomputable section

namespace Cert.Proof.Roi

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F]

local notation "𝕄" => MM F

variable (d : Dev nD) (L : grid0.Coords)

/-! ## Steps through a program -/

/-- Into a piece of a program, the rest of it waiting for its result. -/
theorem wpt_into {α β : Type} {p : Prog (TpuEff nD τ sig (Elt F) Λ₀ (VT d L).2) α}
    {k : α → Prog (TpuEff nD τ sig (Elt F) Λ₀ (VT d L).2) β} {Q : β → sProp 𝕄} :
    WPt d L p (fun v => WPt d L (k v) Q) ⊢ WPt d L (p >>= k) Q := by
  unfold WPt
  rw [wp_bind]

/-- The regions' buffer. -/
def RoiAt (rb : S8192.Idx → F .f32) : sProp 𝕄 := (roiB.view.loc (VT d L)) ↦{fullShare} (rb : Buf (Elt F) (roiB.view.loc (VT d L)))

/-- With no row begun, how wide the rows' pieces are says nothing. -/
theorem good_again {N : ℕ} {T : ℕ → ℕ → BitVec 32} {R a b w w' : ℕ} {f : (⟨1, ![N]⟩ : Shape).Idx → BitVec 32} (h : a = b) :
    Good T R a w 0 f = Good T R b w' 0 f := by
  subst h
  unfold Good Upto
  simp only [Nat.not_lt_zero, false_and, or_false]

/-- Field `f` of sixteen regions from region `a`. -/
def fieldsAt (rb : S8192.Idx → F .f32) (a f : ℕ) : S16.Idx → F .f32 := fun y => roiAt rb (a + (y 0).val) f

theorem wp_fields {α : Type} {Q : α → sProp 𝕄} (rb : S8192.Idx → F .f32) (a f : ℕ) {P : Prop} {dec : Decidable P} (hP : P) {idx : IVec S16 32}
    {hin : PLift P → ∀ a x, ((![idx] : Fin 1 → IVec S16 32) a x).toNat < S8192.size a} {hl}
    {k : (S16.Idx → F .f32) → Prog (TpuEff nD τ sig (Elt F) Λ₀ (VT d L).2) α}
    (hi : ∀ x : Fin 16, (idx (ix1 x)).toNat = 8 * (a + x.val) + f) :
    RoiAt d L rb ⊢ iprop((RoiAt d L rb -∗ WPt d L (k (fieldsAt rb a f)) Q)
        -∗ WPt d L (Prog.lift (.assume P dec) >>= fun hw => SparseCore.vectorLoadIdx roiB ![idx] (hin hw) hl >>= k) Q) := by
  unfold RoiAt
  iintro H Hk
  simp only [Prog.lift, Prog.bind_op, Prog.bind_ret]
  iapply (wp_assume (defs := defs₀ (F := F)) 𝒱₀ (VT d L) none Set.univ hP)
  iapply (SparseCore.wp_vectorLoadIdx (defs := defs₀ (F := F)) 𝒱₀ (VT d L) none Set.univ (base := roiB) (S := Finset.univ) (q := fullShare)
    (f := (rb : Buf (Elt F) (roiB.view.loc (VT d L)))) (h := hin ⟨hP⟩) (Finset.subset_univ _)) $$ H
  iintro H
  have e : loadIdx ((roiB.access (Rect.whole S8192)).read (Elt F) (rb : Buf (Elt F) (roiB.view.loc (VT d L)))) ![idx] (hin ⟨hP⟩) = fieldsAt rb a f := by
    funext y
    have hy : y = ix1 (y 0) := by funext c; obtain rfl := Fin.eq_zero c; rfl
    show rb _ = rb _
    congr 1
    funext c
    obtain rfl := Fin.eq_zero c
    apply Fin.ext
    have h1 : (idx y).toNat = 8 * (a + (y 0).val) + f := (congrArg (fun z => (idx z).toNat) hy).trans (hi (y 0))
    have h2 := hin ⟨hP⟩ 0 y
    change (idx y).toNat < 8192 at h2
    show 0 + 1 * (idx y).toNat = (8 * (a + (y 0).val) + f) % 8192
    rw [h1] at h2 ⊢
    omega
  rw [e]
  iapply Hk $$ H

/-- Word `n` of row `k`: what coordinate-and-sample `k` of region `n` adds. -/
abbrev tabT (rb : S8192.Idx → F .f32) (k n : ℕ) : BitVec 32 := tabW k (roiAt rb n)

/-- One trip of the loop: sixteen regions. -/
theorem trip1_wp (rb : S8192.Idx → F .f32) (h1 : k0_cond1 L = 1#1) (t : Fin k0_t1_loop.trips) (u : Unit) :
    iprop(RoiAt d L rb ∗ Filled d L ctrB (tabT rb) 21 (16 * t.val) 16 0)
      ⊢ WPt d L (onArgs (k0_t1_body (F := F) L) lanes h1 t u) fun _ => iprop(RoiAt d L rb ∗ Filled d L ctrB (tabT rb) 21 (16 * (t.val + 1)) 16 0) := by
  have hw := roi_lanes t
  have ht : 16 * t.val + 16 ≤ 1000 := by have := (hw 0).2.2.2.2.2.2.2; omega
  unfold onArgs
  delta k0_t1_body
  beta_reduce
  iintro ⟨Hr, Hc⟩
  iapply (wpt_into d L)
  rw [k0_part1_eq_skeleton]
  delta k0_part1_skel
  beta_reduce
  iapply (wp_fields d L rb (16 * t.val) 0 ?_ (fun x => (hw x).1)) $$ Hr
  · exact fun _ => lanes_lt fun x => by rw [(hw x).1]; omega
  iintro Hr
  iapply (wp_fields d L rb (16 * t.val) 1 ?_ (fun x => (hw x).2.1)) $$ Hr
  · exact fun _ => lanes_lt fun x => by rw [(hw x).2.1]; omega
  iintro Hr
  iapply (wp_fields d L rb (16 * t.val) 2 ?_ (fun x => (hw x).2.2.1)) $$ Hr
  · exact fun _ => lanes_lt fun x => by rw [(hw x).2.2.1]; omega
  iintro Hr
  iapply (wp_fields d L rb (16 * t.val) 3 ?_ (fun x => (hw x).2.2.2.1)) $$ Hr
  · exact fun _ => lanes_lt fun x => by rw [(hw x).2.2.2.1]; omega
  iintro Hr
  iapply (wp_fields d L rb (16 * t.val) 4 ?_ (fun x => (hw x).2.2.2.2.1)) $$ Hr
  · exact fun _ => lanes_lt fun x => by rw [(hw x).2.2.2.2.1]; omega
  iintro Hr
  iapply (wp_fields d L rb (16 * t.val) 5 ?_ (fun x => (hw x).2.2.2.2.2.1)) $$ Hr
  · exact fun _ => lanes_lt fun x => by rw [(hw x).2.2.2.2.2.1]; omega
  iintro Hr
  iapply (wp_fields d L rb (16 * t.val) 6 ?_ (fun x => (hw x).2.2.2.2.2.2.1)) $$ Hr
  · exact fun _ => lanes_lt fun x => by rw [(hw x).2.2.2.2.2.2.1]; omega
  iintro Hr
  iapply le_wp_ret
  dsimp only
  iapply (wpt_into d L)
  rw [k0_part2_eq_skeleton]
  delta k0_part2_skel
  beta_reduce
  iapply le_wp_ret
  dsimp only
  iapply (wpt_into d L)
  rw [k0_part3_eq_skeleton]
  delta k0_part3_skel
  beta_reduce
  iapply le_wp_ret
  dsimp only
  iapply (wpt_into d L)
  rw [k0_part4_eq_skeleton]
  delta k0_part4_skel
  beta_reduce
  iapply le_wp_ret
  dsimp only
  iapply (wpt_into d L)
  rw [k0_part5_eq_skeleton]
  delta k0_part5_skel
  beta_reduce
  iapply le_wp_ret
  dsimp only
  iapply (wpt_into d L)
  rw [k0_part6_eq_skeleton]
  delta k0_part6_skel
  beta_reduce
  iapply le_wp_ret
  dsimp only
  iapply (wpt_into d L)
  rw [k0_part7_eq_skeleton]
  delta k0_part7_skel
  beta_reduce
  iapply le_wp_ret
  dsimp only
  iapply (wpt_into d L)
  rw [k0_part8_eq_skeleton]
  delta k0_part8_skel
  beta_reduce
  iapply (wp_fillLoad d L ctrB) $$ Hc
  iintro %_ %_ Hc
  iapply (wp_fillStore d L ctrB (T := tabT rb) (R := 21) (k0_off1_eq t ⟨0, _⟩) ht ?_) $$ Hc
  · intro x; rfl
  iintro Hc
  iapply (wp_fillLoad d L ctrB) $$ Hc
  iintro %_ %_ Hc
  iapply (wp_fillStore d L ctrB (T := tabT rb) (R := 21) (k0_off1_eq t ⟨1, _⟩) ht ?_) $$ Hc
  · intro x; rfl
  iintro Hc
  iapply (wp_fillLoad d L ctrB) $$ Hc
  iintro %_ %_ Hc
  iapply (wp_fillStore d L ctrB (T := tabT rb) (R := 21) (k0_off1_eq t ⟨2, _⟩) ht ?_) $$ Hc
  · intro x; rfl
  iintro Hc
  iapply (wp_fillLoad d L ctrB) $$ Hc
  iintro %_ %_ Hc
  iapply (wp_fillStore d L ctrB (T := tabT rb) (R := 21) (k0_off1_eq t ⟨3, _⟩) ht ?_) $$ Hc
  · intro x; rfl
  iintro Hc
  iapply (wp_fillLoad d L ctrB) $$ Hc
  iintro %_ %_ Hc
  iapply (wp_fillStore d L ctrB (T := tabT rb) (R := 21) (k0_off1_eq t ⟨4, _⟩) ht ?_) $$ Hc
  · intro x; rfl
  iintro Hc
  iapply (wp_fillLoad d L ctrB) $$ Hc
  iintro %_ %_ Hc
  iapply (wp_fillStore d L ctrB (T := tabT rb) (R := 21) (k0_off1_eq t ⟨5, _⟩) ht ?_) $$ Hc
  · intro x; rfl
  iintro Hc
  iapply (wp_fillLoad d L ctrB) $$ Hc
  iintro %_ %_ Hc
  iapply (wp_fillStore d L ctrB (T := tabT rb) (R := 21) (k0_off1_eq t ⟨6, _⟩) ht ?_) $$ Hc
  · intro x; rfl
  iintro Hc
  iapply le_wp_ret
  dsimp only
  iapply (wpt_into d L)
  rw [k0_part9_eq_skeleton]
  delta k0_part9_skel
  beta_reduce
  iapply (wp_fillLoad d L ctrB) $$ Hc
  iintro %_ %_ Hc
  iapply (wp_fillStore d L ctrB (T := tabT rb) (R := 21) (k0_off1_eq t ⟨7, _⟩) ht ?_) $$ Hc
  · intro x; rfl
  iintro Hc
  iapply (wp_fillLoad d L ctrB) $$ Hc
  iintro %_ %_ Hc
  iapply (wp_fillStore d L ctrB (T := tabT rb) (R := 21) (k0_off1_eq t ⟨8, _⟩) ht ?_) $$ Hc
  · intro x; rfl
  iintro Hc
  iapply (wp_fillLoad d L ctrB) $$ Hc
  iintro %_ %_ Hc
  iapply (wp_fillStore d L ctrB (T := tabT rb) (R := 21) (k0_off1_eq t ⟨9, _⟩) ht ?_) $$ Hc
  · intro x; rfl
  iintro Hc
  iapply (wp_fillLoad d L ctrB) $$ Hc
  iintro %_ %_ Hc
  iapply (wp_fillStore d L ctrB (T := tabT rb) (R := 21) (k0_off1_eq t ⟨10, _⟩) ht ?_) $$ Hc
  · intro x; rfl
  iintro Hc
  iapply (wp_fillLoad d L ctrB) $$ Hc
  iintro %_ %_ Hc
  iapply (wp_fillStore d L ctrB (T := tabT rb) (R := 21) (k0_off1_eq t ⟨11, _⟩) ht ?_) $$ Hc
  · intro x; rfl
  iintro Hc
  iapply (wp_fillLoad d L ctrB) $$ Hc
  iintro %_ %_ Hc
  iapply (wp_fillStore d L ctrB (T := tabT rb) (R := 21) (k0_off1_eq t ⟨12, _⟩) ht ?_) $$ Hc
  · intro x; rfl
  iintro Hc
  iapply (wp_fillLoad d L ctrB) $$ Hc
  iintro %_ %_ Hc
  iapply (wp_fillStore d L ctrB (T := tabT rb) (R := 21) (k0_off1_eq t ⟨13, _⟩) ht ?_) $$ Hc
  · intro x; rfl
  iintro Hc
  iapply (wp_fillLoad d L ctrB) $$ Hc
  iintro %_ %_ Hc
  iapply (wp_fillStore d L ctrB (T := tabT rb) (R := 21) (k0_off1_eq t ⟨14, _⟩) ht ?_) $$ Hc
  · intro x; rfl
  iintro Hc
  iapply (wp_fillLoad d L ctrB) $$ Hc
  iintro %_ %_ Hc
  iapply le_wp_ret
  dsimp only
  iapply (wp_fillStore d L ctrB (T := tabT rb) (R := 21) (k0_off1_eq t ⟨15, _⟩) ht ?_) $$ Hc
  · intro x; rfl
  iintro Hc
  iapply (wp_fillLoad d L ctrB) $$ Hc
  iintro %_ %_ Hc
  iapply (wp_fillStore d L ctrB (T := tabT rb) (R := 21) (k0_off1_eq t ⟨16, _⟩) ht ?_) $$ Hc
  · intro x; rfl
  iintro Hc
  iapply (wp_fillLoad d L ctrB) $$ Hc
  iintro %_ %_ Hc
  iapply (wp_fillStore d L ctrB (T := tabT rb) (R := 21) (k0_off1_eq t ⟨17, _⟩) ht ?_) $$ Hc
  · intro x; rfl
  iintro Hc
  iapply (wp_fillLoad d L ctrB) $$ Hc
  iintro %_ %_ Hc
  iapply (wp_fillStore d L ctrB (T := tabT rb) (R := 21) (k0_off1_eq t ⟨18, _⟩) ht ?_) $$ Hc
  · intro x; rfl
  iintro Hc
  iapply (wp_fillLoad d L ctrB) $$ Hc
  iintro %_ %_ Hc
  iapply (wp_fillStore d L ctrB (T := tabT rb) (R := 21) (k0_off1_eq t ⟨19, _⟩) ht ?_) $$ Hc
  · intro x; rfl
  iintro Hc
  iapply (wp_fillLoad d L ctrB) $$ Hc
  iintro %_ %_ Hc
  iapply (wp_fillStore d L ctrB (T := tabT rb) (R := 21) (k0_off1_eq t ⟨20, _⟩) ht ?_) $$ Hc
  · intro x; rfl
  iintro Hc
  iapply le_wp_ret
  iframe Hr
  iapply (Filled_next d L ctrB (w := 16) 16) $$ Hc

/-- The regions' array, as the tile may read it. -/
def RoisAt (q : PosShare TreeShare) (rb : S8192.Idx → F .f32) : sProp 𝕄 := (roisV.view.loc (VT d L)) ↦{q} (rb : Buf (Elt F) (roisV.view.loc (VT d L)))

/-- The regions' array copied in, and the copy waited for. -/
theorem wp_fetch {α : Type} {Q : α → sProp 𝕄} (O : CellTallies nD τ sig (HIx 1)) (W : Waits sig (HIx 1)) (q : PosShare TreeShare) (rb : S8192.Idx → F .f32)
    (f : Buf (Elt F) (roiB.view.loc (VT d L))) {h₁ h₂ h₃ h₄ h₅} {k : PUnit → Prog (TpuEff nD τ sig (Elt F) Λ₀ (VT d L).2) α} :
    iprop(□ Transfers.MayWaits (VT d L) (default : HIx 1) O ∗ RoisAt d L q rb ∗ ((roiB.view.loc (VT d L)) ↦{fullShare} f) ∗ semVal (VT d L, SemLoc.dma (csem 20)) 0 ∗ Own d L O W)
      ⊢ iprop((iprop(RoisAt d L q rb ∗ RoiAt d L rb ∗ semVal (VT d L, SemLoc.dma (csem 20)) 0 ∗ Own d L O W) -∗ WPt d L (k ⟨⟩) Q)
        -∗ WPt d L (Prog.lift (.enqueueDma roisV (.here roiB) (.dma cc0_scoped0.sem) h₁ h₂ h₃) >>= fun _ =>
            Prog.lift (.waitDma2 cc0_scoped0.sem roisV roiB h₄ h₅) >>= k) Q) := by
  iintro ⟨#Hmw, Hs, Hr, Hw, HO⟩ Hk
  simp only [Prog.lift, Prog.bind_op, Prog.bind_ret]
  unfold RoisAt
  iapply (Transfers.wp_dmaFromWhole countersEmb 𝒱₀ (VT d L) none (src := roisV) (dst := roiB) (default : HIx 1)
    (8192 * 32) rfl (by decide) (Finset.subset_univ _)) $$ [Hs Hr Hw]
  · iframe Hs Hr Hw
  iintro Hfl
  iapply (wp_wait d L O W (srcw := roisV) (dstw := roiB) (N := 8192 * 32) rfl) $$ [Hfl HO]
  · iframe Hfl HO Hmw
  iintro ⟨⟨Hr, Hs⟩, Hw, HO⟩
  ihave Hr := (show _ ⊢ RoiAt d L rb from Entails.of_eq (pointsTo_congr fun x _ => by
    have h := View.write_emb_of_mem (v := roiB.view) (Val := Elt F) f ((roisV.view.read (Elt F) (rb : Buf (Elt F) (roisV.view.loc (VT d L))))) (Finset.mem_univ (x : S8192.Idx))
    exact h)) $$ Hr
  iapply Hk
  iframe Hs Hr Hw HO

/-- The regions come in, the loop runs, and the last eight regions' fields are read. -/
theorem part16_wp (O : CellTallies nD τ sig (HIx 1)) (W : Waits sig (HIx 1)) (q : PosShare TreeShare) (rb : S8192.Idx → F .f32) (h1 : k0_cond1 L = 1#1) :
    iprop(□ Transfers.MayWaits (VT d L) (default : HIx 1) O ∗ RoisAt d L q rb ∗ (∃ f : Buf (Elt F) (roiB.view.loc (VT d L)), (roiB.view.loc (VT d L)) ↦{fullShare} f)
        ∗ (∃ f : Buf (Elt F) (ctrB.view.loc (VT d L)), (ctrB.view.loc (VT d L)) ↦{fullShare} f) ∗ semVal (VT d L, SemLoc.dma (csem 20)) 0 ∗ Own d L O W)
      ⊢ WPt d L (onArgs (k0_part16 (F := F) L) lanes h1) fun v =>
        iprop(⌜v = ⟨k0_pay82 (fieldsAt rb 992 0), fieldsAt rb 992 2, fieldsAt rb 992 3, fieldsAt rb 992 4, fieldsAt rb 992 5, fieldsAt rb 992 6,
            Scalar.ofBits .f32 0x427C0000#32, k0_pay89 (fieldsAt rb 992 1)⟩⌝
          ∗ RoisAt d L q rb ∗ RoiAt d L rb ∗ Filled d L ctrB (tabT rb) 21 992 8 0 ∗ semVal (VT d L, SemLoc.dma (csem 20)) 0 ∗ Own d L O W) := by
  have ht := roi_tail_lanes
  unfold onArgs
  rw [k0_part16_eq_skeleton]
  delta k0_part16_skel
  beta_reduce
  iintro ⟨#Hmw, Hs, ⟨%f, Hr⟩, ⟨%g, Hc⟩, Hw, HO⟩
  iapply (wp_fetch d L O W q rb f) $$ [Hs Hr Hw HO]
  · iframe Hs Hr Hw HO Hmw
  iintro ⟨Hs, Hr, Hw, HO⟩
  iapply (Scf.wp_for_bind frame (wpE (defs₀ (F := F)) 𝒱₀ (VT d L) none) Set.univ _ _ _ (k0_t1_ok L h1) _ _
    (fun t (_ : PUnit) => iprop(RoiAt d L rb ∗ Filled d L ctrB (tabT rb) 21 (16 * t) 16 0)) ?_) $$ [Hr Hc]
  · intro t u
    iintro H
    iapply (trip1_wp d L rb h1 t u) $$ H
  · iframe Hr
    unfold Filled
    iexists g
    iframe Hc
    ipureintro; exact good_zero _ _ _ _
  iintro %u ⟨Hr, Hc⟩
  iapply (wp_fields d L rb 992 0 ?_ (fun x => (ht x).1)) $$ Hr
  · exact fun _ => lanes_lt fun x => by rw [(ht x).1]; omega
  iintro Hr
  iapply (wp_fields d L rb 992 1 ?_ (fun x => (ht x).2.1)) $$ Hr
  · exact fun _ => lanes_lt fun x => by rw [(ht x).2.1]; omega
  iintro Hr
  iapply (wp_fields d L rb 992 2 ?_ (fun x => (ht x).2.2.1)) $$ Hr
  · exact fun _ => lanes_lt fun x => by rw [(ht x).2.2.1]; omega
  iintro Hr
  iapply (wp_fields d L rb 992 3 ?_ (fun x => (ht x).2.2.2.1)) $$ Hr
  · exact fun _ => lanes_lt fun x => by rw [(ht x).2.2.2.1]; omega
  iintro Hr
  iapply (wp_fields d L rb 992 4 ?_ (fun x => (ht x).2.2.2.2.1)) $$ Hr
  · exact fun _ => lanes_lt fun x => by rw [(ht x).2.2.2.2.1]; omega
  iintro Hr
  iapply (wp_fields d L rb 992 5 ?_ (fun x => (ht x).2.2.2.2.2.1)) $$ Hr
  · exact fun _ => lanes_lt fun x => by rw [(ht x).2.2.2.2.2.1]; omega
  iintro Hr
  iapply (wp_fields d L rb 992 6 ?_ (fun x => (ht x).2.2.2.2.2.2)) $$ Hr
  · exact fun _ => lanes_lt fun x => by rw [(ht x).2.2.2.2.2.2]; omega
  iintro Hr
  iapply le_wp_ret
  isplitr
  · ipureintro; rfl
  iframe Hs Hr Hw HO
  iapply (Entails.of_eq (show _ = _ from ?_)) $$ Hc
  unfold Filled
  congr 1; funext g; congr 2
  exact good_again (by decide)

end Cert.Proof.Roi
-- ==== Proof.PhaseTwo.lean ====
module

public import proofs.«01_k».proof.Proof.PhaseOne

/-! The second index phase: the row of the table for each cell of each region. -/

@[expose] public section

noncomputable section

namespace Cert.Proof.Roi

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F]

local notation "𝕄" => MM F

variable (d : Dev nD) (L : grid0.Coords)

/-- Word `n` of row `r`: the table's row for the tile's cell `r` of region `n`. -/
abbrev idxT (L : grid0.Coords) (rb : S8192.Idx → F .f32) (r n : ℕ) : BitVec 32 := idxW rb (baseI L + r) n

/-- The table of words, whole. -/
abbrev CtrDone (rb : S8192.Idx → F .f32) : sProp 𝕄 := Filled d L ctrB (tabT rb) 21 1000 16 0

/-- A load of sixteen words of a row of the table of words. -/
theorem wp_word {α : Type} {Q : α → sProp 𝕄} (rb : S8192.Idx → F .f32) (m n : ℕ)
    {off : Fin 1 → ℕ} {inb : ∀ a, off a + S16.size a ≤ S21008.size a} {hl : ctrB.view.LoadsAt (Rect.unit (s := S21008) off S16.size inb).toLoadRect}
    {k : (S16.Idx → BitVec 32) → Prog (TpuEff nD τ sig (Elt F) Λ₀ (VT d L).2) α} (hoff : off = ![1000 * m + n]) (hm : m < 21) :
    CtrDone d L rb ⊢ iprop((∀ u : S16.Idx → BitVec 32, ⌜∀ x : Fin 16, n + x.val < 1000 → u (ix1 x) = tabT rb m (n + x.val)⌝ -∗ CtrDone d L rb -∗ WPt d L (k u) Q)
        -∗ WPt d L (Prog.lift (.load ctrB (Rect.unit (s := S21008) off S16.size inb).toLoadRect hl) >>= k) Q) := by
  iintro H Hk
  iapply (wp_fillLoad d L ctrB (inb := inb) (hl := hl)) $$ H
  iintro %u %h H
  iapply Hk $$ [] [H]
  · ipureintro; exact fun x hx => h m n hm hoff x hx (.inl hx)
  · iexact H

/-- Three words of three rows add to the row of the table. -/
theorem sum_words (rb : S8192.Idx → F .f32) (r : ℕ) {n : ℕ} {u2 u3 u4 : S16.Idx → BitVec 32} {x : S16.Idx}
    (h2 : u2 x = tabT rb ((baseI L + r) / 49) n) (h3 : u3 x = tabT rb (7 + (baseI L + r) / 7 % 7) n) (h4 : u4 x = tabT rb (14 + (baseI L + r) % 7) n) :
    addi (addi u2 u3) u4 x = idxT L rb r n := by
  show IntOp.addi (IntOp.addi (u2 x) (u3 x)) (u4 x) = _
  rw [h2, h3, h4]
  rfl

/-- One trip of the loop: sixteen regions. -/
theorem trip2_wp (rb : S8192.Idx → F .f32) (h1 : k0_cond1 L = 1#1) (t : Fin k0_t2_loop.trips) (u : Unit)
    (v479 v481 v483 v539 v541 v543 v599 v601 v603 v659 v661 v663 v719 v721 v723 v779 v781 v783 v839 v841 v843 v899 v901 v903 v959 v961 v963 v1019 v1021 v1023 v1079 v1081 v1083 v1139 v1141 v1143 v1199 v1201 v1203 v1259 v1261 v1263 v1319 v1321 v1323 v1379 v1381 v1383 v1439 v1441 v1443 v1499 v1501 v1503 v1559 v1561 v1563 v1619 v1621 v1623 v1679 v1681 v1683 v1684 v1701 c7_i32_829 v1702 v1707 v1712 v1739 v1741 v1743 : BitVec 32) :
    iprop(CtrDone d L rb ∗ Filled d L idxB (idxT L rb) 22 (16 * t.val) 16 0)
      ⊢ WPt d L (onArgs (k0_t2_body (F := F) L) h1 v479 v481 v483 v539 v541 v543 v599 v601 v603 v659 v661 v663 v719 v721 v723 v779 v781 v783 v839 v841 v843 v899 v901 v903 v959 v961 v963 v1019 v1021 v1023 v1079 v1081 v1083 v1139 v1141 v1143 v1199 v1201 v1203 v1259 v1261 v1263 v1319 v1321 v1323 v1379 v1381 v1383 v1439 v1441 v1443 v1499 v1501 v1503 v1559 v1561 v1563 v1619 v1621 v1623 v1679 v1681 v1683 v1684 v1701 c7_i32_829 v1702 v1707 v1712 v1739 v1741 v1743 t u) fun _ =>
        iprop(CtrDone d L rb ∗ Filled d L idxB (idxT L rb) 22 (16 * (t.val + 1)) 16 0) := by
  have hb := baseI_le L
  have ht : 16 * t.val + 16 ≤ 1000 := by have := (iv16 t).2; omega
  unfold onArgs
  delta k0_t2_body
  beta_reduce
  iintro ⟨Hc, Hx⟩
  iapply (wpt_into d L)
  rw [k0_part15_eq_skeleton]
  delta k0_part15_skel
  beta_reduce
  iapply (wpt_into d L)
  rw [k0_part10_eq_skeleton]
  delta k0_part10_skel
  beta_reduce
  iapply (wp_word d L rb ((baseI L + 0) / 49) (16 * t.val) ?_ (by omega)) $$ Hc
  · exact off2_eq L t ⟨0, by decide⟩
  iintro %u2 %h2 Hc
  iapply (wp_word d L rb (7 + (baseI L + 0) / 7 % 7) (16 * t.val) ?_ (by omega)) $$ Hc
  · exact off3_eq L t ⟨0, by decide⟩
  iintro %u3 %h3 Hc
  iapply (wp_word d L rb (14 + (baseI L + 0) % 7) (16 * t.val) ?_ (by omega)) $$ Hc
  · exact off4_eq L t ⟨0, by decide⟩
  iintro %u4 %h4 Hc
  iapply (wp_fillLoad d L idxB) $$ Hx
  iintro %_ %_ Hx
  iapply (wp_fillStore d L idxB (T := idxT L rb) (R := 22) (k0_off5_eq t ⟨0, _⟩) ht ?_) $$ Hx
  · exact fun x => sum_words L rb 0 (h2 x (by omega)) (h3 x (by omega)) (h4 x (by omega))
  iintro Hx
  iapply (wp_word d L rb ((baseI L + 1) / 49) (16 * t.val) ?_ (by omega)) $$ Hc
  · exact off2_eq L t ⟨1, by decide⟩
  iintro %u2 %h2 Hc
  iapply (wp_word d L rb (7 + (baseI L + 1) / 7 % 7) (16 * t.val) ?_ (by omega)) $$ Hc
  · exact off3_eq L t ⟨1, by decide⟩
  iintro %u3 %h3 Hc
  iapply (wp_word d L rb (14 + (baseI L + 1) % 7) (16 * t.val) ?_ (by omega)) $$ Hc
  · exact off4_eq L t ⟨1, by decide⟩
  iintro %u4 %h4 Hc
  iapply (wp_fillLoad d L idxB) $$ Hx
  iintro %_ %_ Hx
  iapply (wp_fillStore d L idxB (T := idxT L rb) (R := 22) (k0_off5_eq t ⟨1, _⟩) ht ?_) $$ Hx
  · exact fun x => sum_words L rb 1 (h2 x (by omega)) (h3 x (by omega)) (h4 x (by omega))
  iintro Hx
  iapply (wp_word d L rb ((baseI L + 2) / 49) (16 * t.val) ?_ (by omega)) $$ Hc
  · exact off2_eq L t ⟨2, by decide⟩
  iintro %u2 %h2 Hc
  iapply (wp_word d L rb (7 + (baseI L + 2) / 7 % 7) (16 * t.val) ?_ (by omega)) $$ Hc
  · exact off3_eq L t ⟨2, by decide⟩
  iintro %u3 %h3 Hc
  iapply (wp_word d L rb (14 + (baseI L + 2) % 7) (16 * t.val) ?_ (by omega)) $$ Hc
  · exact off4_eq L t ⟨2, by decide⟩
  iintro %u4 %h4 Hc
  iapply (wp_fillLoad d L idxB) $$ Hx
  iintro %_ %_ Hx
  iapply (wp_fillStore d L idxB (T := idxT L rb) (R := 22) (k0_off5_eq t ⟨2, _⟩) ht ?_) $$ Hx
  · exact fun x => sum_words L rb 2 (h2 x (by omega)) (h3 x (by omega)) (h4 x (by omega))
  iintro Hx
  iapply (wp_word d L rb ((baseI L + 3) / 49) (16 * t.val) ?_ (by omega)) $$ Hc
  · exact off2_eq L t ⟨3, by decide⟩
  iintro %u2 %h2 Hc
  iapply (wp_word d L rb (7 + (baseI L + 3) / 7 % 7) (16 * t.val) ?_ (by omega)) $$ Hc
  · exact off3_eq L t ⟨3, by decide⟩
  iintro %u3 %h3 Hc
  iapply le_wp_ret
  dsimp only
  iapply (wpt_into d L)
  rw [k0_part11_eq_skeleton]
  delta k0_part11_skel
  beta_reduce
  iapply (wp_word d L rb (14 + (baseI L + 3) % 7) (16 * t.val) ?_ (by omega)) $$ Hc
  · exact off4_eq L t ⟨3, by decide⟩
  iintro %u4 %h4 Hc
  iapply (wp_fillLoad d L idxB) $$ Hx
  iintro %_ %_ Hx
  iapply (wp_fillStore d L idxB (T := idxT L rb) (R := 22) (k0_off5_eq t ⟨3, _⟩) ht ?_) $$ Hx
  · exact fun x => sum_words L rb 3 (h2 x (by omega)) (h3 x (by omega)) (h4 x (by omega))
  iintro Hx
  iapply (wp_word d L rb ((baseI L + 4) / 49) (16 * t.val) ?_ (by omega)) $$ Hc
  · exact off2_eq L t ⟨4, by decide⟩
  iintro %u2 %h2 Hc
  iapply (wp_word d L rb (7 + (baseI L + 4) / 7 % 7) (16 * t.val) ?_ (by omega)) $$ Hc
  · exact off3_eq L t ⟨4, by decide⟩
  iintro %u3 %h3 Hc
  iapply (wp_word d L rb (14 + (baseI L + 4) % 7) (16 * t.val) ?_ (by omega)) $$ Hc
  · exact off4_eq L t ⟨4, by decide⟩
  iintro %u4 %h4 Hc
  iapply (wp_fillLoad d L idxB) $$ Hx
  iintro %_ %_ Hx
  iapply (wp_fillStore d L idxB (T := idxT L rb) (R := 22) (k0_off5_eq t ⟨4, _⟩) ht ?_) $$ Hx
  · exact fun x => sum_words L rb 4 (h2 x (by omega)) (h3 x (by omega)) (h4 x (by omega))
  iintro Hx
  iapply (wp_word d L rb ((baseI L + 5) / 49) (16 * t.val) ?_ (by omega)) $$ Hc
  · exact off2_eq L t ⟨5, by decide⟩
  iintro %u2 %h2 Hc
  iapply (wp_word d L rb (7 + (baseI L + 5) / 7 % 7) (16 * t.val) ?_ (by omega)) $$ Hc
  · exact off3_eq L t ⟨5, by decide⟩
  iintro %u3 %h3 Hc
  iapply (wp_word d L rb (14 + (baseI L + 5) % 7) (16 * t.val) ?_ (by omega)) $$ Hc
  · exact off4_eq L t ⟨5, by decide⟩
  iintro %u4 %h4 Hc
  iapply (wp_fillLoad d L idxB) $$ Hx
  iintro %_ %_ Hx
  iapply (wp_fillStore d L idxB (T := idxT L rb) (R := 22) (k0_off5_eq t ⟨5, _⟩) ht ?_) $$ Hx
  · exact fun x => sum_words L rb 5 (h2 x (by omega)) (h3 x (by omega)) (h4 x (by omega))
  iintro Hx
  iapply (wp_word d L rb ((baseI L + 6) / 49) (16 * t.val) ?_ (by omega)) $$ Hc
  · exact off2_eq L t ⟨6, by decide⟩
  iintro %u2 %h2 Hc
  iapply (wp_word d L rb (7 + (baseI L + 6) / 7 % 7) (16 * t.val) ?_ (by omega)) $$ Hc
  · exact off3_eq L t ⟨6, by decide⟩
  iintro %u3 %h3 Hc
  iapply (wp_word d L rb (14 + (baseI L + 6) % 7) (16 * t.val) ?_ (by omega)) $$ Hc
  · exact off4_eq L t ⟨6, by decide⟩
  iintro %u4 %h4 Hc
  iapply (wp_fillLoad d L idxB) $$ Hx
  iintro %_ %_ Hx
  iapply (wp_fillStore d L idxB (T := idxT L rb) (R := 22) (k0_off5_eq t ⟨6, _⟩) ht ?_) $$ Hx
  · exact fun x => sum_words L rb 6 (h2 x (by omega)) (h3 x (by omega)) (h4 x (by omega))
  iintro Hx
  iapply (wp_word d L rb ((baseI L + 7) / 49) (16 * t.val) ?_ (by omega)) $$ Hc
  · exact off2_eq L t ⟨7, by decide⟩
  iintro %u2 %h2 Hc
  iapply le_wp_ret
  dsimp only
  iapply (wpt_into d L)
  rw [k0_part12_eq_skeleton]
  delta k0_part12_skel
  beta_reduce
  iapply (wp_word d L rb (7 + (baseI L + 7) / 7 % 7) (16 * t.val) ?_ (by omega)) $$ Hc
  · exact off3_eq L t ⟨7, by decide⟩
  iintro %u3 %h3 Hc
  iapply (wp_word d L rb (14 + (baseI L + 7) % 7) (16 * t.val) ?_ (by omega)) $$ Hc
  · exact off4_eq L t ⟨7, by decide⟩
  iintro %u4 %h4 Hc
  iapply (wp_fillLoad d L idxB) $$ Hx
  iintro %_ %_ Hx
  iapply (wp_fillStore d L idxB (T := idxT L rb) (R := 22) (k0_off5_eq t ⟨7, _⟩) ht ?_) $$ Hx
  · exact fun x => sum_words L rb 7 (h2 x (by omega)) (h3 x (by omega)) (h4 x (by omega))
  iintro Hx
  iapply (wp_word d L rb ((baseI L + 8) / 49) (16 * t.val) ?_ (by omega)) $$ Hc
  · exact off2_eq L t ⟨8, by decide⟩
  iintro %u2 %h2 Hc
  iapply (wp_word d L rb (7 + (baseI L + 8) / 7 % 7) (16 * t.val) ?_ (by omega)) $$ Hc
  · exact off3_eq L t ⟨8, by decide⟩
  iintro %u3 %h3 Hc
  iapply (wp_word d L rb (14 + (baseI L + 8) % 7) (16 * t.val) ?_ (by omega)) $$ Hc
  · exact off4_eq L t ⟨8, by decide⟩
  iintro %u4 %h4 Hc
  iapply (wp_fillLoad d L idxB) $$ Hx
  iintro %_ %_ Hx
  iapply (wp_fillStore d L idxB (T := idxT L rb) (R := 22) (k0_off5_eq t ⟨8, _⟩) ht ?_) $$ Hx
  · exact fun x => sum_words L rb 8 (h2 x (by omega)) (h3 x (by omega)) (h4 x (by omega))
  iintro Hx
  iapply (wp_word d L rb ((baseI L + 9) / 49) (16 * t.val) ?_ (by omega)) $$ Hc
  · exact off2_eq L t ⟨9, by decide⟩
  iintro %u2 %h2 Hc
  iapply (wp_word d L rb (7 + (baseI L + 9) / 7 % 7) (16 * t.val) ?_ (by omega)) $$ Hc
  · exact off3_eq L t ⟨9, by decide⟩
  iintro %u3 %h3 Hc
  iapply (wp_word d L rb (14 + (baseI L + 9) % 7) (16 * t.val) ?_ (by omega)) $$ Hc
  · exact off4_eq L t ⟨9, by decide⟩
  iintro %u4 %h4 Hc
  iapply (wp_fillLoad d L idxB) $$ Hx
  iintro %_ %_ Hx
  iapply (wp_fillStore d L idxB (T := idxT L rb) (R := 22) (k0_off5_eq t ⟨9, _⟩) ht ?_) $$ Hx
  · exact fun x => sum_words L rb 9 (h2 x (by omega)) (h3 x (by omega)) (h4 x (by omega))
  iintro Hx
  iapply (wp_word d L rb ((baseI L + 10) / 49) (16 * t.val) ?_ (by omega)) $$ Hc
  · exact off2_eq L t ⟨10, by decide⟩
  iintro %u2 %h2 Hc
  iapply (wp_word d L rb (7 + (baseI L + 10) / 7 % 7) (16 * t.val) ?_ (by omega)) $$ Hc
  · exact off3_eq L t ⟨10, by decide⟩
  iintro %u3 %h3 Hc
  iapply (wp_word d L rb (14 + (baseI L + 10) % 7) (16 * t.val) ?_ (by omega)) $$ Hc
  · exact off4_eq L t ⟨10, by decide⟩
  iintro %u4 %h4 Hc
  iapply (wp_fillLoad d L idxB) $$ Hx
  iintro %_ %_ Hx
  iapply (wp_fillStore d L idxB (T := idxT L rb) (R := 22) (k0_off5_eq t ⟨10, _⟩) ht ?_) $$ Hx
  · exact fun x => sum_words L rb 10 (h2 x (by omega)) (h3 x (by omega)) (h4 x (by omega))
  iintro Hx
  iapply le_wp_ret
  dsimp only
  iapply (wpt_into d L)
  rw [k0_part13_eq_skeleton]
  delta k0_part13_skel
  beta_reduce
  iapply (wp_word d L rb ((baseI L + 11) / 49) (16 * t.val) ?_ (by omega)) $$ Hc
  · exact off2_eq L t ⟨11, by decide⟩
  iintro %u2 %h2 Hc
  iapply (wp_word d L rb (7 + (baseI L + 11) / 7 % 7) (16 * t.val) ?_ (by omega)) $$ Hc
  · exact off3_eq L t ⟨11, by decide⟩
  iintro %u3 %h3 Hc
  iapply (wp_word d L rb (14 + (baseI L + 11) % 7) (16 * t.val) ?_ (by omega)) $$ Hc
  · exact off4_eq L t ⟨11, by decide⟩
  iintro %u4 %h4 Hc
  iapply (wp_fillLoad d L idxB) $$ Hx
  iintro %_ %_ Hx
  iapply (wp_fillStore d L idxB (T := idxT L rb) (R := 22) (k0_off5_eq t ⟨11, _⟩) ht ?_) $$ Hx
  · exact fun x => sum_words L rb 11 (h2 x (by omega)) (h3 x (by omega)) (h4 x (by omega))
  iintro Hx
  iapply (wp_word d L rb ((baseI L + 12) / 49) (16 * t.val) ?_ (by omega)) $$ Hc
  · exact off2_eq L t ⟨12, by decide⟩
  iintro %u2 %h2 Hc
  iapply (wp_word d L rb (7 + (baseI L + 12) / 7 % 7) (16 * t.val) ?_ (by omega)) $$ Hc
  · exact off3_eq L t ⟨12, by decide⟩
  iintro %u3 %h3 Hc
  iapply (wp_word d L rb (14 + (baseI L + 12) % 7) (16 * t.val) ?_ (by omega)) $$ Hc
  · exact off4_eq L t ⟨12, by decide⟩
  iintro %u4 %h4 Hc
  iapply (wp_fillLoad d L idxB) $$ Hx
  iintro %_ %_ Hx
  iapply (wp_fillStore d L idxB (T := idxT L rb) (R := 22) (k0_off5_eq t ⟨12, _⟩) ht ?_) $$ Hx
  · exact fun x => sum_words L rb 12 (h2 x (by omega)) (h3 x (by omega)) (h4 x (by omega))
  iintro Hx
  iapply (wp_word d L rb ((baseI L + 13) / 49) (16 * t.val) ?_ (by omega)) $$ Hc
  · exact off2_eq L t ⟨13, by decide⟩
  iintro %u2 %h2 Hc
  iapply (wp_word d L rb (7 + (baseI L + 13) / 7 % 7) (16 * t.val) ?_ (by omega)) $$ Hc
  · exact off3_eq L t ⟨13, by decide⟩
  iintro %u3 %h3 Hc
  iapply (wp_word d L rb (14 + (baseI L + 13) % 7) (16 * t.val) ?_ (by omega)) $$ Hc
  · exact off4_eq L t ⟨13, by decide⟩
  iintro %u4 %h4 Hc
  iapply (wp_fillLoad d L idxB) $$ Hx
  iintro %_ %_ Hx
  iapply (wp_fillStore d L idxB (T := idxT L rb) (R := 22) (k0_off5_eq t ⟨13, _⟩) ht ?_) $$ Hx
  · exact fun x => sum_words L rb 13 (h2 x (by omega)) (h3 x (by omega)) (h4 x (by omega))
  iintro Hx
  iapply (wp_word d L rb ((baseI L + 14) / 49) (16 * t.val) ?_ (by omega)) $$ Hc
  · exact off2_eq L t ⟨14, by decide⟩
  iintro %u2 %h2 Hc
  iapply (wp_word d L rb (7 + (baseI L + 14) / 7 % 7) (16 * t.val) ?_ (by omega)) $$ Hc
  · exact off3_eq L t ⟨14, by decide⟩
  iintro %u3 %h3 Hc
  iapply (wp_word d L rb (14 + (baseI L + 14) % 7) (16 * t.val) ?_ (by omega)) $$ Hc
  · exact off4_eq L t ⟨14, by decide⟩
  iintro %u4 %h4 Hc
  iapply le_wp_ret
  dsimp only
  iapply (wpt_into d L)
  rw [k0_part14_eq_skeleton]
  delta k0_part14_skel
  beta_reduce
  iapply (wp_fillLoad d L idxB) $$ Hx
  iintro %_ %_ Hx
  iapply (wp_fillStore d L idxB (T := idxT L rb) (R := 22) (k0_off5_eq t ⟨14, _⟩) ht ?_) $$ Hx
  · exact fun x => sum_words L rb 14 (h2 x (by omega)) (h3 x (by omega)) (h4 x (by omega))
  iintro Hx
  iapply (wp_word d L rb ((baseI L + 15) / 49) (16 * t.val) ?_ (by omega)) $$ Hc
  · exact off2_eq L t ⟨15, by decide⟩
  iintro %u2 %h2 Hc
  iapply (wp_word d L rb (7 + (baseI L + 15) / 7 % 7) (16 * t.val) ?_ (by omega)) $$ Hc
  · exact off3_eq L t ⟨15, by decide⟩
  iintro %u3 %h3 Hc
  iapply (wp_word d L rb (14 + (baseI L + 15) % 7) (16 * t.val) ?_ (by omega)) $$ Hc
  · exact off4_eq L t ⟨15, by decide⟩
  iintro %u4 %h4 Hc
  iapply (wp_fillLoad d L idxB) $$ Hx
  iintro %_ %_ Hx
  iapply (wp_fillStore d L idxB (T := idxT L rb) (R := 22) (k0_off5_eq t ⟨15, _⟩) ht ?_) $$ Hx
  · exact fun x => sum_words L rb 15 (h2 x (by omega)) (h3 x (by omega)) (h4 x (by omega))
  iintro Hx
  iapply (wp_word d L rb ((baseI L + 16) / 49) (16 * t.val) ?_ (by omega)) $$ Hc
  · exact off2_eq L t ⟨16, by decide⟩
  iintro %u2 %h2 Hc
  iapply (wp_word d L rb (7 + (baseI L + 16) / 7 % 7) (16 * t.val) ?_ (by omega)) $$ Hc
  · exact off3_eq L t ⟨16, by decide⟩
  iintro %u3 %h3 Hc
  iapply (wp_word d L rb (14 + (baseI L + 16) % 7) (16 * t.val) ?_ (by omega)) $$ Hc
  · exact off4_eq L t ⟨16, by decide⟩
  iintro %u4 %h4 Hc
  iapply (wp_fillLoad d L idxB) $$ Hx
  iintro %_ %_ Hx
  iapply (wp_fillStore d L idxB (T := idxT L rb) (R := 22) (k0_off5_eq t ⟨16, _⟩) ht ?_) $$ Hx
  · exact fun x => sum_words L rb 16 (h2 x (by omega)) (h3 x (by omega)) (h4 x (by omega))
  iintro Hx
  iapply (wp_word d L rb ((baseI L + 17) / 49) (16 * t.val) ?_ (by omega)) $$ Hc
  · exact off2_eq L t ⟨17, by decide⟩
  iintro %u2 %h2 Hc
  iapply (wp_word d L rb (7 + (baseI L + 17) / 7 % 7) (16 * t.val) ?_ (by omega)) $$ Hc
  · exact off3_eq L t ⟨17, by decide⟩
  iintro %u3 %h3 Hc
  iapply (wp_word d L rb (14 + (baseI L + 17) % 7) (16 * t.val) ?_ (by omega)) $$ Hc
  · exact off4_eq L t ⟨17, by decide⟩
  iintro %u4 %h4 Hc
  iapply (wp_fillLoad d L idxB) $$ Hx
  iintro %_ %_ Hx
  iapply (wp_fillStore d L idxB (T := idxT L rb) (R := 22) (k0_off5_eq t ⟨17, _⟩) ht ?_) $$ Hx
  · exact fun x => sum_words L rb 17 (h2 x (by omega)) (h3 x (by omega)) (h4 x (by omega))
  iintro Hx
  iapply (wp_word d L rb ((baseI L + 18) / 49) (16 * t.val) ?_ (by omega)) $$ Hc
  · exact off2_eq L t ⟨18, by decide⟩
  iintro %u2 %h2 Hc
  iapply (wp_word d L rb (7 + (baseI L + 18) / 7 % 7) (16 * t.val) ?_ (by omega)) $$ Hc
  · exact off3_eq L t ⟨18, by decide⟩
  iintro %u3 %h3 Hc
  iapply le_wp_ret
  dsimp only
  iapply (wp_word d L rb (14 + (baseI L + 18) % 7) (16 * t.val) ?_ (by omega)) $$ Hc
  · exact off4_eq L t ⟨18, by decide⟩
  iintro %u4 %h4 Hc
  iapply (wp_fillLoad d L idxB) $$ Hx
  iintro %_ %_ Hx
  iapply (wp_fillStore d L idxB (T := idxT L rb) (R := 22) (k0_off5_eq t ⟨18, _⟩) ht ?_) $$ Hx
  · exact fun x => sum_words L rb 18 (h2 x (by omega)) (h3 x (by omega)) (h4 x (by omega))
  iintro Hx
  iapply (wp_word d L rb ((baseI L + 19) / 49) (16 * t.val) ?_ (by omega)) $$ Hc
  · exact off2_eq L t ⟨19, by decide⟩
  iintro %u2 %h2 Hc
  iapply (wp_word d L rb (7 + (baseI L + 19) / 7 % 7) (16 * t.val) ?_ (by omega)) $$ Hc
  · exact off3_eq L t ⟨19, by decide⟩
  iintro %u3 %h3 Hc
  iapply (wp_word d L rb (14 + (baseI L + 19) % 7) (16 * t.val) ?_ (by omega)) $$ Hc
  · exact off4_eq L t ⟨19, by decide⟩
  iintro %u4 %h4 Hc
  iapply (wp_fillLoad d L idxB) $$ Hx
  iintro %_ %_ Hx
  iapply (wp_fillStore d L idxB (T := idxT L rb) (R := 22) (k0_off5_eq t ⟨19, _⟩) ht ?_) $$ Hx
  · exact fun x => sum_words L rb 19 (h2 x (by omega)) (h3 x (by omega)) (h4 x (by omega))
  iintro Hx
  iapply (wp_word d L rb ((baseI L + 20) / 49) (16 * t.val) ?_ (by omega)) $$ Hc
  · exact off2_eq L t ⟨20, by decide⟩
  iintro %u2 %h2 Hc
  iapply (wp_word d L rb (7 + (baseI L + 20) / 7 % 7) (16 * t.val) ?_ (by omega)) $$ Hc
  · exact off3_eq L t ⟨20, by decide⟩
  iintro %u3 %h3 Hc
  iapply (wp_word d L rb (14 + (baseI L + 20) % 7) (16 * t.val) ?_ (by omega)) $$ Hc
  · exact off4_eq L t ⟨20, by decide⟩
  iintro %u4 %h4 Hc
  iapply (wp_fillLoad d L idxB) $$ Hx
  iintro %_ %_ Hx
  iapply (wp_fillStore d L idxB (T := idxT L rb) (R := 22) (k0_off5_eq t ⟨20, _⟩) ht ?_) $$ Hx
  · exact fun x => sum_words L rb 20 (h2 x (by omega)) (h3 x (by omega)) (h4 x (by omega))
  iintro Hx
  iapply (wp_word d L rb ((baseI L + 21) / 49) (16 * t.val) ?_ (by omega)) $$ Hc
  · exact off2_eq L t ⟨21, by decide⟩
  iintro %u2 %h2 Hc
  iapply (wp_word d L rb (7 + (baseI L + 21) / 7 % 7) (16 * t.val) ?_ (by omega)) $$ Hc
  · exact off3_eq L t ⟨21, by decide⟩
  iintro %u3 %h3 Hc
  iapply (wp_word d L rb (14 + (baseI L + 21) % 7) (16 * t.val) ?_ (by omega)) $$ Hc
  · exact off4_eq L t ⟨21, by decide⟩
  iintro %u4 %h4 Hc
  iapply (wp_fillLoad d L idxB) $$ Hx
  iintro %_ %_ Hx
  iapply (wp_fillStore d L idxB (T := idxT L rb) (R := 22) (k0_off5_eq t ⟨21, _⟩) ht ?_) $$ Hx
  · exact fun x => sum_words L rb 21 (h2 x (by omega)) (h3 x (by omega)) (h4 x (by omega))
  iintro Hx
  iapply le_wp_ret
  dsimp only
  iapply le_wp_ret
  iframe Hc
  iapply (Filled_next d L idxB (w := 16) 16) $$ Hx

end Cert.Proof.Roi
-- ==== Proof.RingRun.lean ====
module

public import proofs.«01_k».proof.Proof.RingTrip

/-! The ring's loop, the waits that empty the ring after it, and the rows left over. -/

@[expose] public section

noncomputable section

namespace Cert.Proof.Roi

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.ShareLeaves (leaf)

variable {F : FTy → Type} [FloatOps F] [Named F]

local notation "𝕄" => MM F

variable (d : Dev nD) (L : grid0.Coords) (O : CellTallies nD τ sig (HIx 1)) (W : Waits sig (HIx 1))
variable (tb : TabC F) (xf : LstC) (G f₀ : OutC F) (tq xq : PosShare TreeShare)

theorem trips_facts : ∀ i : grid0.Coords, (nchI i = 0 ∨ (nchI i = 343 ∨ nchI i = 328)) ∧ nchI i + 7 ≤ 8 * (k0_t3_loop i).trips := by decide +kernel

theorem drain_words : ∀ (i : grid0.Coords) (β : Fin 8),
    Scalar.cmpi .ne (Scalar.extui (Scalar.cmpi .sgt (BitVec.ofNat 32 (nchI i)) (BitVec.ofNat 32 β.val)) : BitVec 32) 0#32 = 1#1 ↔ β.val < nchI i := by decide +kernel

theorem drain_word (i : grid0.Coords) (v26 : BitVec 32) (hv : v26 = BitVec.ofNat 32 (nchI i)) (β : Fin 8) :
    Scalar.cmpi .ne (Scalar.extui (Scalar.cmpi .sgt v26 (BitVec.ofNat 32 β.val)) : BitVec 32) 0#32 = 1#1 ↔ β.val < nchI i := by
  subst hv; exact drain_words i β

/-- Buffer `β` of the ring at rest, on its eighth of the tile's shares. -/
abbrev Idle8 (β : Fin 8) (B : Memref sig .scVector .vmem S64x128 .f32) (g w : DmaSems sig S_) : sProp 𝕄 :=
  Idle d L tb xf B g.sem w.sem (leaf 3 tq β) (leaf 3 xq β)

/-- The rows that buffer `β` still had under way after the loop. -/
def Out1 (β : ℕ) : sProp 𝕄 :=
  if β < nchI L then OutAt d L (loI L + 64 * lastOf β (nchI L)) (loI L + 64 * lastOf β (nchI L) + 64) G else iprop(emp)

/-- Emptying one buffer of the ring. -/
theorem wp_drain (β : Fin 8) (k T : ℕ) (hk : β.val = k) (hT : nchI L + 7 ≤ T) (B : Memref sig .scVector .vmem S64x128 .f32) (g w : DmaSems sig S_)
    {C : BitVec 1} (hC : C = 1#1 ↔ k < nchI L) {ow : Fin 2 → ℕ} {inbw h₁ h₂}
    {α : Type} {k' : Prog (TpuEff nD τ sig (Elt F) Λ₀ (VT d L).2) α} {Q : α → sProp 𝕄} :
    iprop(□ Transfers.MayWaits (VT d L) (default : HIx 1) O ∗ Buf8 d L tb xf G tq xq β B g w T ∗ Own d L O W)
      ⊢ iprop((iprop(Idle8 d L tb xf tq xq β B g w ∗ Out1 d L G k ∗ Own d L O W) -∗ WPt d L k' Q)
        -∗ WPt d L (if h : C = 1#1 then (Prog.lift (.waitDma2 w.sem B (outSl 64 ow inbw) h₁ h₂) >>= fun _ => k') else k') Q) := by
  subst hk
  by_cases h : C = 1#1
  · have hn := hC.mp h
    rw [dif_pos h]
    have hbeg : Buf8 d L tb xf G tq xq β B g w T
        = Wri d L tb xf G B g.sem w.sem (leaf 3 tq β) (leaf 3 xq β) (loI L + 64 * lastOf β.val (nchI L)) := by
      unfold Buf8 St
      have hm : min T (nchI L) = nchI L := by omega
      have hl : lastOf β.val (nchI L) < nchI L := by unfold lastOf; omega
      rw [hm, if_neg (by omega), if_neg (by omega)]
    rw [hbeg]
    unfold Out1
    rw [if_pos hn]
    simp only [Prog.lift, Prog.bind_op, Prog.bind_ret]
    iintro ⟨#Hmw, Hs, HO⟩ Hk
    iapply (wp_waitCopy d L O W tb xf G B g.sem w.sem _ _ (loI L + 64 * lastOf β.val (nchI L))) $$ [Hs HO]
    · iframe Hs HO Hmw
    iintro ⟨Hi, Hn, HO⟩
    iapply Hk
    iframe Hi Hn HO
  · have hn : ¬ β.val < nchI L := fun x => h (hC.mpr x)
    rw [dif_neg h]
    have hbeg : Buf8 d L tb xf G tq xq β B g w T = Idle8 d L tb xf tq xq β B g w := by
      unfold Buf8 St
      rw [if_pos (by omega)]
    rw [hbeg]
    unfold Out1
    rw [if_neg hn]
    iintro ⟨#Hmw, Hs, HO⟩ Hk
    iapply Hk
    iframe Hs HO

/-- Two adjoining blocks of rows. -/
theorem OutAt_join (a b c : ℕ) (f : OutC F) (h₁ : a ≤ b) (h₂ : b ≤ c) : iprop(OutAt d L a b f ∗ OutAt d L b c f) ⊢ OutAt d L a c f :=
  (OutAt_split d L a b c f h₁ h₂).2

/-- What was out before the end of the loop and what the buffers still had under way are all the whole chunks. -/
theorem out_join (T : ℕ) (hT : nchI L + 7 ≤ T) (hn : nchI L = 0 ∨ (nchI L = 343 ∨ nchI L = 328)) :
    iprop(Done d L G (loI L) (nchI L) T ∗ Out1 d L G 0 ∗ Out1 d L G 1 ∗ Out1 d L G 2 ∗ Out1 d L G 3 ∗ Out1 d L G 4 ∗ Out1 d L G 5 ∗ Out1 d L G 6 ∗ Out1 d L G 7)
      ⊢ OutAt d L (loI L) (loI L + 64 * nchI L) G := by
  have hm : min T (nchI L) = nchI L := by omega
  unfold Done Out1
  rw [hm]
  rcases hn with hn | hn | hn
  · simp only [hn, Nat.not_lt_zero, if_false]
    iintro ⟨H, -, -, -, -, -, -, -, -⟩
    iexact H
  · simp only [hn, lastOf]
    simp only [Nat.reduceLT, if_true, Nat.reduceSub, Nat.reduceDiv, Nat.reduceMul, Nat.reduceAdd]
    iintro ⟨H, H0, H1, H2, H3, H4, H5, H6, H7⟩
    ihave H := (OutAt_join d L (loI L) (loI L + 21440) (loI L + 21440 + 64) G (by omega) (by omega)) $$ [H H7]
    · iframe H H7
    ihave H := (OutAt_join d L (loI L) (loI L + 21504) (loI L + 21504 + 64) G (by omega) (by omega)) $$ [H H0]
    · iframe H H0
    ihave H := (OutAt_join d L (loI L) (loI L + 21568) (loI L + 21568 + 64) G (by omega) (by omega)) $$ [H H1]
    · iframe H H1
    ihave H := (OutAt_join d L (loI L) (loI L + 21632) (loI L + 21632 + 64) G (by omega) (by omega)) $$ [H H2]
    · iframe H H2
    ihave H := (OutAt_join d L (loI L) (loI L + 21696) (loI L + 21696 + 64) G (by omega) (by omega)) $$ [H H3]
    · iframe H H3
    ihave H := (OutAt_join d L (loI L) (loI L + 21760) (loI L + 21760 + 64) G (by omega) (by omega)) $$ [H H4]
    · iframe H H4
    ihave H := (OutAt_join d L (loI L) (loI L + 21824) (loI L + 21824 + 64) G (by omega) (by omega)) $$ [H H5]
    · iframe H H5
    ihave H := (OutAt_join d L (loI L) (loI L + 21888) (loI L + 21888 + 64) G (by omega) (by omega)) $$ [H H6]
    · iframe H H6
    iexact H
  · simp only [hn, lastOf]
    simp only [Nat.reduceLT, if_true, Nat.reduceSub, Nat.reduceDiv, Nat.reduceMul, Nat.reduceAdd]
    iintro ⟨H, H0, H1, H2, H3, H4, H5, H6, H7⟩
    ihave H := (OutAt_join d L (loI L) (loI L + 20480) (loI L + 20480 + 64) G (by omega) (by omega)) $$ [H H0]
    · iframe H H0
    ihave H := (OutAt_join d L (loI L) (loI L + 20544) (loI L + 20544 + 64) G (by omega) (by omega)) $$ [H H1]
    · iframe H H1
    ihave H := (OutAt_join d L (loI L) (loI L + 20608) (loI L + 20608 + 64) G (by omega) (by omega)) $$ [H H2]
    · iframe H H2
    ihave H := (OutAt_join d L (loI L) (loI L + 20672) (loI L + 20672 + 64) G (by omega) (by omega)) $$ [H H3]
    · iframe H H3
    ihave H := (OutAt_join d L (loI L) (loI L + 20736) (loI L + 20736 + 64) G (by omega) (by omega)) $$ [H H4]
    · iframe H H4
    ihave H := (OutAt_join d L (loI L) (loI L + 20800) (loI L + 20800 + 64) G (by omega) (by omega)) $$ [H H5]
    · iframe H H5
    ihave H := (OutAt_join d L (loI L) (loI L + 20864) (loI L + 20864 + 64) G (by omega) (by omega)) $$ [H H6]
    · iframe H H6
    ihave H := (OutAt_join d L (loI L) (loI L + 20928) (loI L + 20928 + 64) G (by omega) (by omega)) $$ [H H7]
    · iframe H H7
    iexact H

set_option maxHeartbeats 8000000 in
theorem part71_wp (hS : Serves tb xf G (loI L) (cntI L)) (v26 v31 v32 c8 v33 c0 : BitVec 32) (hv : v26 = BitVec.ofNat 32 (nchI L)) :
    iprop(□ Transfers.MayWaits (VT d L) (default : HIx 1) O ∗ Ring8 d L O W tb xf G f₀ tq xq 0)
      ⊢ WPt d L (onArgs (k0_part71 (F := F) L) v26 v31 v32 c8 v33 c0) fun v =>
        iprop(⌜v = ⟨Scalar.extui (Scalar.cmpi .sgt v26 4#32), 0#32⟩⌝ ∗ ∃ T, ⌜nchI L + 7 ≤ T⌝
          ∗ Idle8 d L tb xf tq xq 0 (Memref.whole cc0_scratch3) cc0_scratch11 cc0_scratch19 ∗ Out1 d L G 0
          ∗ Idle8 d L tb xf tq xq 1 (Memref.whole cc0_scratch4) cc0_scratch12 cc0_scratch20 ∗ Out1 d L G 1
          ∗ Idle8 d L tb xf tq xq 2 (Memref.whole cc0_scratch5) cc0_scratch13 cc0_scratch21 ∗ Out1 d L G 2
          ∗ Idle8 d L tb xf tq xq 3 (Memref.whole cc0_scratch6) cc0_scratch14 cc0_scratch22 ∗ Out1 d L G 3
          ∗ Buf4 d L tb xf G tq xq (T) ∗ Buf5 d L tb xf G tq xq (T) ∗ Buf6 d L tb xf G tq xq (T) ∗ Buf7 d L tb xf G tq xq (T) ∗ Flow d L O W G f₀ T) := by
  have hT := trips_facts L
  have h4 : ¬ 0 < (k0_t4_loop L).trips := by have := (k0_t4_abs L).2.1; omega
  unfold onArgs
  rw [k0_part71_eq_skeleton]
  delta k0_part71_skel
  beta_reduce
  iintro ⟨#Hmw, Hr⟩
  iapply (Scf.wp_for_bind frame (wpE (defs₀ (F := F)) 𝒱₀ (VT d L) none) Set.univ _ _ _ (k0_t3_ok L) _ _
    (fun t (_ : PUnit) => iprop(□ Transfers.MayWaits (VT d L) (default : HIx 1) O ∗ Ring8 d L O W tb xf G f₀ tq xq (8 * t)))
    ?_) $$ [Hr]
  · intro t u
    iintro ⟨#Hmw, Hr⟩
    iapply wp_wand_r
    isplitl [Hr]
    · iapply (trip_wp d L O W tb xf G f₀ tq xq hS v26 v31 v32 c8 v33 c0 t u)
      iframe Hr Hmw
    iintro %v Hr
    iframe Hr Hmw
  · iframe Hr Hmw
  iintro %u ⟨-, Hr⟩
  iapply (Scf.wp_for_bind frame (wpE (defs₀ (F := F)) 𝒱₀ (VT d L) none) Set.univ _ _ _ (k0_t4_ok L) _ _
    (fun t (_ : PUnit) => Ring8 d L O W tb xf G f₀ tq xq (8 * (k0_t3_loop L).trips))
    (fun t u => absurd (Nat.lt_of_le_of_lt (Nat.zero_le _) t.isLt) h4)) $$ Hr
  iintro %u' Hr
  unfold Ring8
  icases Hr with ⟨H0, H1, H2, H3, H4, H5, H6, H7, Hd, Hr, HO⟩
  iapply (wp_drain d L O W tb xf G tq xq 0 0 (8 * (k0_t3_loop L).trips) rfl hT.2 (Memref.whole cc0_scratch3) cc0_scratch11 cc0_scratch19 (drain_word L v26 hv 0)) $$ [H0 HO]
  · iframe H0 HO Hmw
  iintro ⟨H0, R0, HO⟩
  iapply (wp_drain d L O W tb xf G tq xq 1 1 (8 * (k0_t3_loop L).trips) rfl hT.2 (Memref.whole cc0_scratch4) cc0_scratch12 cc0_scratch20 (drain_word L v26 hv 1)) $$ [H1 HO]
  · iframe H1 HO Hmw
  iintro ⟨H1, R1, HO⟩
  iapply (wp_drain d L O W tb xf G tq xq 2 2 (8 * (k0_t3_loop L).trips) rfl hT.2 (Memref.whole cc0_scratch5) cc0_scratch13 cc0_scratch21 (drain_word L v26 hv 2)) $$ [H2 HO]
  · iframe H2 HO Hmw
  iintro ⟨H2, R2, HO⟩
  iapply (wp_drain d L O W tb xf G tq xq 3 3 (8 * (k0_t3_loop L).trips) rfl hT.2 (Memref.whole cc0_scratch6) cc0_scratch14 cc0_scratch22 (drain_word L v26 hv 3)) $$ [H3 HO]
  · iframe H3 HO Hmw
  iintro ⟨H3, R3, HO⟩
  iapply le_wp_ret
  isplitr
  · ipureintro; rfl
  iexists (8 * (k0_t3_loop L).trips)
  iframe H0 R0 H1 R1 H2 R2 H3 R3 H4 H5 H6 H7 Hd Hr HO
  ipureintro; exact hT.2

/-! ## The rows left over -/

/-- A row buffer and its two cells, free. -/
def Free {n : ℕ} (B : Memref sig .scVector .vmem ⟨2, ![n, 128]⟩ .f32) (g w : DmaSem sig) : sProp 𝕄 :=
  iprop((∃ f : Buf (Elt F) (B.view.loc (VT d L)), (B.view.loc (VT d L)) ↦{fullShare} f)
    ∗ semVal (VT d L, SemLoc.dma g) 0 ∗ semVal (VT d L, SemLoc.dma w) 0)

theorem wp_left {n : ℕ} (B : Memref sig .scVector .vmem ⟨2, ![n, 128]⟩ .f32) (g w : DmaSem sig) (sq yq : PosShare TreeShare)
    (lo cnt p : ℕ) (hS : Serves tb xf G lo cnt) (hp : p + n ≤ cnt) (hlo : lo + cnt ≤ 343000) (hn : 0 < n)
    {off : Fin 1 → ℕ} {inb : ∀ a, off a + (⟨1, ![n]⟩ : Shape).size a ≤ S22008.size a} (hoff : off = ![p])
    {off' : Fin 2 → ℕ} {inb'} (hoff' : off' = ![lo + p, 0]) {off'' : Fin 2 → ℕ} {inb''}
    {hg : S262144x128.Gathers 0 ⟨2, ![n, 128]⟩} {hnn : (⟨1, ![n]⟩ : Shape).numel = (⟨2, ![n, 128]⟩ : Shape).size hg.axis'}
    {inb0 : ∀ a, (![0, 0] : Fin 2 → ℕ) a + S262144x128.size a ≤ S262144x128.size a}
    {hp' hsrc he hsp hr h₁ h₂ h₃ h₄ h₅ h₆ h₇}
    (hcr : ∀ s' : Shape, sig.dmaCredit .scVector (Kind.scVector.table .vmem) B.view.buf s' .f32 = s'.numel * EltTy.f32.bits)
    {α : Type} {k : Prog (TpuEff nD τ sig (Elt F) Λ₀ (VT d L).2) α} {Q : α → sProp 𝕄} :
    iprop(□ Transfers.MayWaits (VT d L) (default : HIx 1) O ∗ Free d L B g w ∗ Shares d L tb xf sq yq ∗ OutAt d L (lo + p) (lo + p + n) f₀ ∗ Own d L O W)
      ⊢ iprop((iprop(Free d L B g w ∗ Shares d L tb xf sq yq ∗ OutAt d L (lo + p) (lo + p + n) G ∗ Own d L O W) -∗ WPt d L k Q)
        -∗ WPt d L (SparseCore.enqueueIndirectGather hp'
              (tabV.slice (Rect.unit (s := S262144x128) ![0, 0] S262144x128.size inb0) (fun _ => rfl)) B hg
              (idxB.slice (Rect.unit (s := S22008) off (⟨1, ![n]⟩ : Shape).size inb) (fun _ => rfl)) hnn g hsrc he hsp hr >>= fun _ =>
            SparseCore.waitIndirectGather g
              (tabV.slice (Rect.unit (s := S262144x128) ![0, 0] S262144x128.size inb0) (fun _ => rfl)) B h₁ h₂ >>= fun _ =>
            Prog.lift (.enqueueDma B (.here (outSl n off' inb')) (.dma w) h₃ h₄ h₅) >>= fun _ =>
            Prog.lift (.waitDma2 w B (outSl n off'' inb'') h₆ h₇) >>= fun _ => k) Q) := by
  unfold Free
  iintro ⟨#Hmw, ⟨Hb, Hg, Hw⟩, Hsh, Ho, HO⟩ Hk
  iapply (wp_gather d L tb xf G B g w sq yq lo cnt p hS hp hlo hn hoff hcr) $$ [Hb Hg Hw Hsh]
  · unfold Idle; iframe Hb Hg Hw Hsh
  iintro H
  iapply (wp_copy d L O W tb xf G B g w sq yq (lo + p) (by omega) hn f₀ hoff') $$ [H Ho HO]
  · iframe H Ho HO Hmw
  iintro ⟨H, HO⟩
  simp only [Prog.lift, Prog.bind_op, Prog.bind_ret]
  iapply (wp_waitCopy d L O W tb xf G B g w sq yq (lo + p)) $$ [H HO]
  · iframe H HO Hmw
  iintro ⟨H, Ho, HO⟩
  iapply Hk
  unfold Idle
  icases H with ⟨Hb, Hg, Hw, Hsh⟩
  iframe Hb Hg Hw Hsh Ho HO

theorem wpt_pos {α : Type} {C : BitVec 1} (h : C = 1#1) {t : C = 1#1 → Prog (TpuEff nD τ sig (Elt F) Λ₀ (VT d L).2) α}
    {e : ¬ C = 1#1 → Prog (TpuEff nD τ sig (Elt F) Λ₀ (VT d L).2) α} {Q : α → sProp 𝕄} : WPt d L (t h) Q ⊢ WPt d L (dite (C = 1#1) t e) Q := by
  rw [dif_pos h]

theorem wpt_neg {α : Type} {C : BitVec 1} (h : ¬ C = 1#1) {t : C = 1#1 → Prog (TpuEff nD τ sig (Elt F) Λ₀ (VT d L).2) α}
    {e : ¬ C = 1#1 → Prog (TpuEff nD τ sig (Elt F) Λ₀ (VT d L).2) α} {Q : α → sProp 𝕄} : WPt d L (e h) Q ⊢ WPt d L (dite (C = 1#1) t e) Q := by
  rw [dif_neg h]

theorem left_words : ∀ i : grid0.Coords, (k0_cond58 i = 1#1 ↔ (i 0).val = 0) ∧ (k0_cond59 i = 1#1 ↔ (i 1).val < 7) ∧ (k0_cond60 i = 1#1 ↔ ¬ (i 1).val < 7)
    ∧ ((i 0).val = 0 → (i 1).val < 7 → k0_off104 i = ![64 * nchI i] ∧ k0_off105 i = ![loI i + 64 * nchI i, 0] ∧ cntI i = 64 * nchI i + 48)
    ∧ ((i 0).val = 0 → ¬ (i 1).val < 7 → k0_off106 i = ![64 * nchI i] ∧ k0_off107 i = ![loI i + 64 * nchI i, 0] ∧ cntI i = 64 * nchI i + 8)
    ∧ ((i 0).val ≠ 0 → cntI i = 0 ∧ nchI i = 0) := by decide +kernel

abbrev Free48 : sProp 𝕄 := Free d L (n := 48) (Memref.whole cc0_scratch27) cc0_scratch29.sem cc0_scratch30.sem
abbrev Free8 : sProp 𝕄 := Free d L (n := 8) (Memref.whole cc0_scratch28) cc0_scratch31.sem cc0_scratch32.sem

/-- The eight buffers at rest. -/
def Idles : sProp 𝕄 :=
  iprop(Idle8 d L tb xf tq xq 0 (Memref.whole cc0_scratch3) cc0_scratch11 cc0_scratch19
    ∗ Idle8 d L tb xf tq xq 1 (Memref.whole cc0_scratch4) cc0_scratch12 cc0_scratch20
    ∗ Idle8 d L tb xf tq xq 2 (Memref.whole cc0_scratch5) cc0_scratch13 cc0_scratch21
    ∗ Idle8 d L tb xf tq xq 3 (Memref.whole cc0_scratch6) cc0_scratch14 cc0_scratch22
    ∗ Idle8 d L tb xf tq xq 4 (Memref.whole cc0_scratch7) cc0_scratch15 cc0_scratch23
    ∗ Idle8 d L tb xf tq xq 5 (Memref.whole cc0_scratch8) cc0_scratch16 cc0_scratch24
    ∗ Idle8 d L tb xf tq xq 6 (Memref.whole cc0_scratch9) cc0_scratch17 cc0_scratch25
    ∗ Idle8 d L tb xf tq xq 7 (Memref.whole cc0_scratch10) cc0_scratch18 cc0_scratch26)

set_option maxHeartbeats 8000000 in
/-- The kernel's body on a tile, from its first piece: the ring run through, every row of the tile out. -/
theorem body_wp {P R : sProp 𝕄}
    (h70 : P ⊢ WPt d L (onArgs (k0_part70 (F := F) L)) fun v =>
      iprop(⌜v.2.2.1 = BitVec.ofNat 32 (nchI L)⌝ ∗ ∃ xf : LstC, ⌜Serves tb xf G (loI L) (cntI L)⌝ ∗ Ring8 d L O W tb xf G f₀ tq xq 0 ∗ R)) :
    iprop(□ Transfers.MayWaits (VT d L) (default : HIx 1) O ∗ P ∗ Free48 d L ∗ Free8 d L)
      ⊢ WPt d L (onArgs (cc0__body (F := F) L)) fun _ =>
        iprop((∃ xf : LstC, Idles d L tb xf tq xq) ∗ Free48 d L ∗ Free8 d L ∗ OutAt d L (loI L) (loI L + cntI L) G ∗ Own d L O W ∗ R) := by
  have hT := trips_facts L
  have hb := bounds L
  have hl := left_words L
  unfold onArgs
  rw [cc0__body_eq_skeleton]
  delta cc0__body_skel
  beta_reduce
  iintro ⟨#Hmw, HP, Hf1, Hf2⟩
  iapply (wpt_bind d L h70) $$ HP
  iintro %v ⟨%hv, %xf, %hS, Hr, HR⟩
  obtain ⟨a0, a1, v26, v31, v32, c8, v33, c0⟩ := v
  dsimp only at hv ⊢
  iapply (wpt_bind d L (part71_wp d L O W tb xf G f₀ tq xq hS v26 v31 v32 c8 v33 c0 hv)) $$ [Hr]
  · iframe Hr Hmw
  iintro %v ⟨%hv', %T, %hT', H0, R0, H1, R1, H2, R2, H3, R3, H4, H5, H6, H7, Hd, Hr, HO⟩
  subst hv'
  dsimp only
  iapply (wp_drain d L O W tb xf G tq xq 4 4 T rfl hT' (Memref.whole cc0_scratch7) cc0_scratch15 cc0_scratch23 (drain_word L v26 hv 4)) $$ [H4 HO]
  · iframe H4 HO Hmw
  iintro ⟨H4, R4, HO⟩
  iapply (wp_drain d L O W tb xf G tq xq 5 5 T rfl hT' (Memref.whole cc0_scratch8) cc0_scratch16 cc0_scratch24 (drain_word L v26 hv 5)) $$ [H5 HO]
  · iframe H5 HO Hmw
  iintro ⟨H5, R5, HO⟩
  iapply (wp_drain d L O W tb xf G tq xq 6 6 T rfl hT' (Memref.whole cc0_scratch9) cc0_scratch17 cc0_scratch25 (drain_word L v26 hv 6)) $$ [H6 HO]
  · iframe H6 HO Hmw
  iintro ⟨H6, R6, HO⟩
  iapply (wp_drain d L O W tb xf G tq xq 7 7 T rfl hT' (Memref.whole cc0_scratch10) cc0_scratch18 cc0_scratch26 (drain_word L v26 hv 7)) $$ [H7 HO]
  · iframe H7 HO Hmw
  iintro ⟨H7, R7, HO⟩
  ihave Hout := (out_join d L G T hT' hT.1) $$ [Hd R0 R1 R2 R3 R4 R5 R6 R7]
  · iframe Hd R0 R1 R2 R3 R4 R5 R6 R7
  unfold Rest
  rw [show min (T - 7) (nchI L) = nchI L by omega]
  by_cases hc : (L 0).val = 0
  · iapply (wpt_pos d L (hl.1.mpr hc))
    unfold Idle8 Idle
    by_cases h7 : (L 1).val < 7
    · iapply (wpt_pos d L (hl.2.1.mpr h7))
      icases H0 with ⟨Hb0, Hg0, Hw0, Hs0⟩
      obtain ⟨e₁, e₂, e₃⟩ := hl.2.2.2.1 hc h7
      iapply (wp_left d L O W tb xf G f₀ (n := 48) (Memref.whole cc0_scratch27) cc0_scratch29.sem cc0_scratch30.sem _ _ (loI L) (cntI L) (64 * nchI L) hS (by omega) hb.1 (by decide)
        e₁ e₂ (fun _ => rfl)) $$ [Hf1 Hs0 Hr HO]
      · rw [show loI L + 64 * nchI L + 48 = loI L + cntI L by omega]
        iframe Hf1 Hs0 Hr HO Hmw
      iintro ⟨Hf1, Hs0, Hr, HO⟩
      rw [show loI L + 64 * nchI L + 48 = loI L + cntI L by omega]
      iapply (wpt_neg d L (fun h => hl.2.2.1.mp h h7))
      iapply le_wp_ret
      ihave Hout := (OutAt_join d L (loI L) (loI L + 64 * nchI L) (loI L + cntI L) G (by omega) (by omega)) $$ [Hout Hr]
      · iframe Hout Hr
      iframe Hf1 Hf2 Hout HO HR
      iexists xf
      unfold Idles Idle8 Idle
      iframe Hb0 Hg0 Hw0 Hs0 H1 H2 H3 H4 H5 H6 H7
    · iapply (wpt_neg d L (fun h => h7 (hl.2.1.mp h)))
      iapply (wpt_pos d L (hl.2.2.1.mpr h7))
      icases H0 with ⟨Hb0, Hg0, Hw0, Hs0⟩
      obtain ⟨e₁, e₂, e₃⟩ := hl.2.2.2.2.1 hc h7
      iapply (wp_left d L O W tb xf G f₀ (n := 8) (Memref.whole cc0_scratch28) cc0_scratch31.sem cc0_scratch32.sem _ _ (loI L) (cntI L) (64 * nchI L) hS (by omega) hb.1 (by decide)
        e₁ e₂ (fun _ => rfl)) $$ [Hf2 Hs0 Hr HO]
      · rw [show loI L + 64 * nchI L + 8 = loI L + cntI L by omega]
        iframe Hf2 Hs0 Hr HO Hmw
      iintro ⟨Hf2, Hs0, Hr, HO⟩
      rw [show loI L + 64 * nchI L + 8 = loI L + cntI L by omega]
      iapply le_wp_ret
      ihave Hout := (OutAt_join d L (loI L) (loI L + 64 * nchI L) (loI L + cntI L) G (by omega) (by omega)) $$ [Hout Hr]
      · iframe Hout Hr
      iframe Hf1 Hf2 Hout HO HR
      iexists xf
      unfold Idles Idle8 Idle
      iframe Hb0 Hg0 Hw0 Hs0 H1 H2 H3 H4 H5 H6 H7
  · obtain ⟨e₁, e₂⟩ := hl.2.2.2.2.2 hc
    iapply (wpt_neg d L (fun h => hc (hl.1.mp h)))
    iapply le_wp_ret
    rw [show loI L + 64 * nchI L = loI L + cntI L by omega]
    iframe Hf1 Hf2 Hout HO HR
    iexists xf
    unfold Idles
    iframe H0 H1 H2 H3 H4 H5 H6 H7

end Cert.Proof.Roi
-- ==== Proof.IndexList.lean ====
module

public import proofs.«01_k».proof.Proof.PhaseTwo
public import proofs.«01_k».proof.Proof.RingRun

/-! The index phases whole: the list of rows that the tile's ring reads. -/

@[expose] public section

noncomputable section

namespace Cert.Proof.Roi

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F]

local notation "𝕄" => MM F

variable (d : Dev nD) (L : grid0.Coords)

/-- Where the last eight words of each row lie, in the table of words and in the list. -/
def ctrLanes : Fin 21 → IVec S16 32 := ![k0_pay135 lanes, k0_pay136 lanes, k0_pay137 lanes, k0_pay138 lanes, k0_pay139 lanes, k0_pay140 lanes, k0_pay141 lanes, k0_pay142 lanes, k0_pay143 (k0_pay134 lanes), k0_pay144 (k0_pay134 lanes), k0_pay145 (k0_pay134 lanes), k0_pay146 (k0_pay134 lanes), k0_pay147 (k0_pay134 lanes), k0_pay148 (k0_pay134 lanes), k0_pay149 (k0_pay134 lanes), k0_pay150 (k0_pay134 lanes), k0_pay151 (k0_pay134 lanes), k0_pay152 (k0_pay134 lanes), k0_pay153 (k0_pay134 lanes), k0_pay154 (k0_pay134 lanes), k0_pay155 (k0_pay134 lanes)]
theorem ctrLanes_eq : ∀ (k : Fin 21) (x : Fin 16), (ctrLanes k (ix1 x)).toNat = 1000 * k.val + 992 + x.val := by decide +kernel
def idxLanes : Fin 22 → IVec S16 32 := ![k0_pay157 lanes, k0_pay159 lanes, k0_pay161 lanes, k0_pay163 lanes, k0_pay165 lanes, k0_pay167 lanes, k0_pay170 lanes, k0_pay172 lanes, k0_pay174 lanes, k0_pay177 lanes, k0_pay179 lanes, k0_pay181 lanes, addi k0_pay183 lanes, k0_pay185 lanes, k0_pay187 lanes, k0_pay189 lanes, k0_pay191 lanes, k0_pay193 lanes, k0_pay195 lanes, k0_pay197, k0_pay199, k0_pay201]
theorem idxLanes_eq : ∀ (k : Fin 22) (x : Fin 16), (idxLanes k (ix1 x)).toNat = 1000 * k.val + 992 + x.val := by decide +kernel

/-- Where the last words of the three rows that a cell adds lie. -/
def tail2 : Fin 22 → grid0.Coords → Fin 1 → ℕ := ![k0_off6, k0_off9, k0_off12, k0_off15, k0_off18, k0_off21, k0_off24, k0_off27, k0_off30, k0_off33, k0_off36, k0_off39, k0_off42, k0_off45, k0_off48, k0_off51, k0_off54, k0_off57, k0_off60, k0_off63, k0_off66, k0_off69]
def tail3 : Fin 22 → grid0.Coords → Fin 1 → ℕ := ![k0_off7, k0_off10, k0_off13, k0_off16, k0_off19, k0_off22, k0_off25, k0_off28, k0_off31, k0_off34, k0_off37, k0_off40, k0_off43, k0_off46, k0_off49, k0_off52, k0_off55, k0_off58, k0_off61, k0_off64, k0_off67, k0_off70]
def tail4 : Fin 22 → grid0.Coords → Fin 1 → ℕ := ![k0_off8, k0_off11, k0_off14, k0_off17, k0_off20, k0_off23, k0_off26, k0_off29, k0_off32, k0_off35, k0_off38, k0_off41, k0_off44, k0_off47, k0_off50, k0_off53, k0_off56, k0_off59, k0_off62, k0_off65, k0_off68, k0_off71]
theorem tail2_eq : ∀ (r : Fin 22) (i : grid0.Coords), tail2 r i = ![1000 * ((baseI i + r.val) / 49) + 992] := by decide +kernel
theorem tail3_eq : ∀ (r : Fin 22) (i : grid0.Coords), tail3 r i = ![1000 * (7 + (baseI i + r.val) / 7 % 7) + 992] := by decide +kernel
theorem tail4_eq : ∀ (r : Fin 22) (i : grid0.Coords), tail4 r i = ![1000 * (14 + (baseI i + r.val) % 7) + 992] := by decide +kernel

/-- The word that counts the tile's whole chunks. -/
def chunksW (i : grid0.Coords) : BitVec 32 :=
  let arg0 : BitVec 32 := BitVec.ofNat 32 (i 0).val
  let arg1 : BitVec 32 := BitVec.ofNat 32 (i 1).val
  let v0 : BitVec 1 := Scalar.cmpi .slt arg1 7#32
  let v1 : BitVec 32 := Scalar.muli arg1 22#32
  let v2 : BitVec 32 := Scalar.muli 21#32 arg1
  let v3 : BitVec 32 := Scalar.addi v2 7#32
  let v4 : BitVec 32 := Scalar.select v0 v1 v3
  let v5 : BitVec 1 := Scalar.cmpi .slt arg1 7#32
  let v6 : BitVec 32 := Scalar.select v5 22#32 21#32
  let v7 : BitVec 1 := Scalar.cmpi .eq arg0 0#32
  let v8 : BitVec 32 := Scalar.muli v6 1000#32
  let v9 : BitVec 32 := Scalar.divsi v8 64#32
  let v10 : BitVec 1 := Scalar.cmpi .sgt v8 0#32
  let v11 : BitVec 32 := Scalar.extui v10
  let v12 : BitVec 1 := Scalar.cmpi .slt v8 0#32
  let v13 : BitVec 32 := Scalar.extui v12
  let v14 : BitVec 32 := Scalar.subi v11 v13
  let v15 : BitVec 1 := Scalar.cmpi .sgt 64#32 0#32
  let v16 : BitVec 32 := Scalar.extui v15
  let v17 : BitVec 1 := Scalar.cmpi .slt 64#32 0#32
  let v18 : BitVec 32 := Scalar.extui v17
  let v19 : BitVec 32 := Scalar.subi v16 v18
  let v20 : BitVec 1 := Scalar.cmpi .ne v14 v19
  let v21 : BitVec 32 := Scalar.remsi v8 64#32
  let v22 : BitVec 1 := Scalar.cmpi .ne v21 0#32
  let v23 : BitVec 1 := Scalar.andi v20 v22
  let v24 : BitVec 32 := Scalar.subi v9 1#32
  let v25 : BitVec 32 := Scalar.select v23 v24 v9
  Scalar.select v7 v25 0#32
theorem chunksW_eq : ∀ i : grid0.Coords, chunksW i = BitVec.ofNat 32 (nchI i) := by decide +kernel
theorem works_iff : ∀ i : grid0.Coords, (k0_cond1 i = 1#1 → (i 0).val = 0) ∧ (¬ k0_cond1 i = 1#1 → cntI i = 0) := by decide +kernel

/-- A piece of the program that computes words only. -/
theorem wpt_any {α : Type} {Q : α → sProp 𝕄} {p : Prog (TpuEff nD τ sig (Elt F) Λ₀ (VT d L).2) α} (h : ∃ a, p = Pure.pure a) :
    iprop(∀ a, Q a) ⊢ WPt d L p Q := by
  obtain ⟨a, rfl⟩ := h
  iintro H
  iapply le_wp_ret
  iapply H

theorem Filled_again {N : ℕ} (B : Memref sig .scVector .vmem ⟨1, ![N]⟩ .i32) {T : ℕ → ℕ → BitVec 32} {R a b w w' : ℕ} (h : a = b) :
    Filled (F := F) d L B T R a w 0 ⊢ Filled d L B T R b w' 0 := by
  refine Entails.of_eq ?_
  unfold Filled
  congr 1; funext g; congr 2
  exact good_again h

set_option maxHeartbeats 8000000 in
/-- The list, but for the last words of the last three cells. -/
theorem part65_wp (O : CellTallies nD τ sig (HIx 1)) (W : Waits sig (HIx 1)) (q : PosShare TreeShare) (rb : S8192.Idx → F .f32) (h1 : k0_cond1 L = 1#1) (v4 : BitVec 32) :
    iprop(□ Transfers.MayWaits (VT d L) (default : HIx 1) O ∗ RoisAt d L q rb ∗ (∃ f : Buf (Elt F) (roiB.view.loc (VT d L)), (roiB.view.loc (VT d L)) ↦{fullShare} f)
        ∗ (∃ f : Buf (Elt F) (ctrB.view.loc (VT d L)), (ctrB.view.loc (VT d L)) ↦{fullShare} f)
        ∗ (∃ f : Buf (Elt F) (idxB.view.loc (VT d L)), (idxB.view.loc (VT d L)) ↦{fullShare} f) ∗ semVal (VT d L, SemLoc.dma (csem 20)) 0 ∗ Own d L O W)
      ⊢ WPt d L (onArgs (k0_part65 (F := F) L) v4 lanes h1) fun v =>
        iprop(⌜v.1 = k0_pay133 lanes ∧ ∀ x : Fin 16, x.val < 8 → v.2.2.2.2.2.2.2 (ix1 x) = idxT L rb 19 (992 + x.val)⌝
          ∗ RoisAt d L q rb ∗ RoiAt d L rb ∗ CtrDone d L rb ∗ Filled d L idxB (idxT L rb) 22 992 8 19 ∗ semVal (VT d L, SemLoc.dma (csem 20)) 0 ∗ Own d L O W) := by
  have hb := baseI_le L
  unfold onArgs
  rw [k0_part65_eq_skeleton]
  delta k0_part65_skel
  beta_reduce
  iintro ⟨#Hmw, Hs, Hr, Hc, ⟨%g, Hx⟩, Hw, HO⟩
  iapply (wpt_bind d L (part16_wp d L O W q rb h1)) $$ [Hs Hr Hc Hw HO]
  · iframe Hs Hr Hc Hw HO Hmw
  iintro %v ⟨%hv, Hs, Hr, Hc, Hw, HO⟩
  subst hv
  dsimp only
  iapply (wpt_into d L)
  rw [k0_part17_eq_skeleton]
  delta k0_part17_skel
  beta_reduce
  iapply le_wp_ret
  dsimp only
  iapply (wpt_into d L)
  rw [k0_part18_eq_skeleton]
  delta k0_part18_skel
  beta_reduce
  iapply le_wp_ret
  dsimp only
  iapply (wpt_into d L)
  rw [k0_part19_eq_skeleton]
  delta k0_part19_skel
  beta_reduce
  iapply le_wp_ret
  dsimp only
  iapply (wpt_into d L)
  rw [k0_part20_eq_skeleton]
  delta k0_part20_skel
  beta_reduce
  iapply le_wp_ret
  dsimp only
  iapply (wpt_into d L)
  rw [k0_part21_eq_skeleton]
  delta k0_part21_skel
  beta_reduce
  iapply le_wp_ret
  dsimp only
  iapply (wpt_into d L)
  rw [k0_part22_eq_skeleton]
  delta k0_part22_skel
  beta_reduce
  iapply le_wp_ret
  dsimp only
  iapply (wpt_into d L)
  rw [k0_part23_eq_skeleton]
  delta k0_part23_skel
  beta_reduce
  iapply (wp_fillScatter d L ctrB (T := tabT rb) (R := 21) (K := 0) ?_ ?_ mask_lanes ?_) $$ Hc
  · exact fun _ => lanes_lt (v := ctrLanes 0) fun x => by rw [ctrLanes_eq 0 x]; show 1000 * 0 + 992 + x.val < 21008; omega
  · exact ctrLanes_eq 0
  · intro x _; rfl
  iintro Hc
  iapply (wp_fillScatter d L ctrB (T := tabT rb) (R := 21) (K := 1) ?_ ?_ mask_lanes ?_) $$ Hc
  · exact fun _ => lanes_lt (v := ctrLanes 1) fun x => by rw [ctrLanes_eq 1 x]; show 1000 * 1 + 992 + x.val < 21008; omega
  · exact ctrLanes_eq 1
  · intro x _; rfl
  iintro Hc
  iapply (wp_fillScatter d L ctrB (T := tabT rb) (R := 21) (K := 2) ?_ ?_ mask_lanes ?_) $$ Hc
  · exact fun _ => lanes_lt (v := ctrLanes 2) fun x => by rw [ctrLanes_eq 2 x]; show 1000 * 2 + 992 + x.val < 21008; omega
  · exact ctrLanes_eq 2
  · intro x _; rfl
  iintro Hc
  iapply (wp_fillScatter d L ctrB (T := tabT rb) (R := 21) (K := 3) ?_ ?_ mask_lanes ?_) $$ Hc
  · exact fun _ => lanes_lt (v := ctrLanes 3) fun x => by rw [ctrLanes_eq 3 x]; show 1000 * 3 + 992 + x.val < 21008; omega
  · exact ctrLanes_eq 3
  · intro x _; rfl
  iintro Hc
  iapply (wp_fillScatter d L ctrB (T := tabT rb) (R := 21) (K := 4) ?_ ?_ mask_lanes ?_) $$ Hc
  · exact fun _ => lanes_lt (v := ctrLanes 4) fun x => by rw [ctrLanes_eq 4 x]; show 1000 * 4 + 992 + x.val < 21008; omega
  · exact ctrLanes_eq 4
  · intro x _; rfl
  iintro Hc
  iapply (wp_fillScatter d L ctrB (T := tabT rb) (R := 21) (K := 5) ?_ ?_ mask_lanes ?_) $$ Hc
  · exact fun _ => lanes_lt (v := ctrLanes 5) fun x => by rw [ctrLanes_eq 5 x]; show 1000 * 5 + 992 + x.val < 21008; omega
  · exact ctrLanes_eq 5
  · intro x _; rfl
  iintro Hc
  iapply (wp_fillScatter d L ctrB (T := tabT rb) (R := 21) (K := 6) ?_ ?_ mask_lanes ?_) $$ Hc
  · exact fun _ => lanes_lt (v := ctrLanes 6) fun x => by rw [ctrLanes_eq 6 x]; show 1000 * 6 + 992 + x.val < 21008; omega
  · exact ctrLanes_eq 6
  · intro x _; rfl
  iintro Hc
  iapply (wp_check d L (P := k0_chk22 L (k0_pay142 lanes)) (fun _ => lanes_lt (v := ctrLanes 7) fun x => by rw [ctrLanes_eq 7 x]; show 1000 * 7 + 992 + x.val < 21008; omega))
  iapply le_wp_ret
  dsimp only
  iapply (wpt_into d L)
  rw [k0_part24_eq_skeleton]
  delta k0_part24_skel
  beta_reduce
  iapply (wp_fillScatterAt d L ctrB (T := tabT rb) (R := 21) (K := 7) ?_ mask_lanes ?_) $$ Hc
  · exact ctrLanes_eq 7
  · intro x _; rfl
  iintro Hc
  iapply (wp_fillScatter d L ctrB (T := tabT rb) (R := 21) (K := 8) ?_ ?_ mask_lanes ?_) $$ Hc
  · exact fun _ => lanes_lt (v := ctrLanes 8) fun x => by rw [ctrLanes_eq 8 x]; show 1000 * 8 + 992 + x.val < 21008; omega
  · exact ctrLanes_eq 8
  · intro x _; rfl
  iintro Hc
  iapply (wp_fillScatter d L ctrB (T := tabT rb) (R := 21) (K := 9) ?_ ?_ mask_lanes ?_) $$ Hc
  · exact fun _ => lanes_lt (v := ctrLanes 9) fun x => by rw [ctrLanes_eq 9 x]; show 1000 * 9 + 992 + x.val < 21008; omega
  · exact ctrLanes_eq 9
  · intro x _; rfl
  iintro Hc
  iapply (wp_fillScatter d L ctrB (T := tabT rb) (R := 21) (K := 10) ?_ ?_ mask_lanes ?_) $$ Hc
  · exact fun _ => lanes_lt (v := ctrLanes 10) fun x => by rw [ctrLanes_eq 10 x]; show 1000 * 10 + 992 + x.val < 21008; omega
  · exact ctrLanes_eq 10
  · intro x _; rfl
  iintro Hc
  iapply (wp_fillScatter d L ctrB (T := tabT rb) (R := 21) (K := 11) ?_ ?_ mask_lanes ?_) $$ Hc
  · exact fun _ => lanes_lt (v := ctrLanes 11) fun x => by rw [ctrLanes_eq 11 x]; show 1000 * 11 + 992 + x.val < 21008; omega
  · exact ctrLanes_eq 11
  · intro x _; rfl
  iintro Hc
  iapply (wp_fillScatter d L ctrB (T := tabT rb) (R := 21) (K := 12) ?_ ?_ mask_lanes ?_) $$ Hc
  · exact fun _ => lanes_lt (v := ctrLanes 12) fun x => by rw [ctrLanes_eq 12 x]; show 1000 * 12 + 992 + x.val < 21008; omega
  · exact ctrLanes_eq 12
  · intro x _; rfl
  iintro Hc
  iapply (wp_fillScatter d L ctrB (T := tabT rb) (R := 21) (K := 13) ?_ ?_ mask_lanes ?_) $$ Hc
  · exact fun _ => lanes_lt (v := ctrLanes 13) fun x => by rw [ctrLanes_eq 13 x]; show 1000 * 13 + 992 + x.val < 21008; omega
  · exact ctrLanes_eq 13
  · intro x _; rfl
  iintro Hc
  iapply (wp_fillScatter d L ctrB (T := tabT rb) (R := 21) (K := 14) ?_ ?_ mask_lanes ?_) $$ Hc
  · exact fun _ => lanes_lt (v := ctrLanes 14) fun x => by rw [ctrLanes_eq 14 x]; show 1000 * 14 + 992 + x.val < 21008; omega
  · exact ctrLanes_eq 14
  · intro x _; rfl
  iintro Hc
  iapply (wp_fillScatter d L ctrB (T := tabT rb) (R := 21) (K := 15) ?_ ?_ mask_lanes ?_) $$ Hc
  · exact fun _ => lanes_lt (v := ctrLanes 15) fun x => by rw [ctrLanes_eq 15 x]; show 1000 * 15 + 992 + x.val < 21008; omega
  · exact ctrLanes_eq 15
  · intro x _; rfl
  iintro Hc
  iapply (wp_fillScatter d L ctrB (T := tabT rb) (R := 21) (K := 16) ?_ ?_ mask_lanes ?_) $$ Hc
  · exact fun _ => lanes_lt (v := ctrLanes 16) fun x => by rw [ctrLanes_eq 16 x]; show 1000 * 16 + 992 + x.val < 21008; omega
  · exact ctrLanes_eq 16
  · intro x _; rfl
  iintro Hc
  iapply (wp_fillScatter d L ctrB (T := tabT rb) (R := 21) (K := 17) ?_ ?_ mask_lanes ?_) $$ Hc
  · exact fun _ => lanes_lt (v := ctrLanes 17) fun x => by rw [ctrLanes_eq 17 x]; show 1000 * 17 + 992 + x.val < 21008; omega
  · exact ctrLanes_eq 17
  · intro x _; rfl
  iintro Hc
  iapply (wp_fillScatter d L ctrB (T := tabT rb) (R := 21) (K := 18) ?_ ?_ mask_lanes ?_) $$ Hc
  · exact fun _ => lanes_lt (v := ctrLanes 18) fun x => by rw [ctrLanes_eq 18 x]; show 1000 * 18 + 992 + x.val < 21008; omega
  · exact ctrLanes_eq 18
  · intro x _; rfl
  iintro Hc
  iapply (wp_check d L (P := k0_chk34 L (k0_pay154 (k0_pay134 lanes))) (fun _ => lanes_lt (v := ctrLanes 19) fun x => by rw [ctrLanes_eq 19 x]; show 1000 * 19 + 992 + x.val < 21008; omega))
  iapply le_wp_ret
  dsimp only
  iapply (wpt_into d L)
  rw [k0_part25_eq_skeleton]
  delta k0_part25_skel
  beta_reduce
  iapply (wp_fillScatterAt d L ctrB (T := tabT rb) (R := 21) (K := 19) ?_ mask_lanes ?_) $$ Hc
  · exact ctrLanes_eq 19
  · intro x _; rfl
  iintro Hc
  iapply (wp_fillScatter d L ctrB (T := tabT rb) (R := 21) (K := 20) ?_ ?_ mask_lanes ?_) $$ Hc
  · exact fun _ => lanes_lt (v := ctrLanes 20) fun x => by rw [ctrLanes_eq 20 x]; show 1000 * 20 + 992 + x.val < 21008; omega
  · exact ctrLanes_eq 20
  · intro x _; rfl
  iintro Hc
  ihave Hc := (show _ ⊢ CtrDone d L rb from (Filled_next d L ctrB (w := 8) 16)) $$ Hc
  iapply (wpt_any d L ?_)
  · exact ⟨_, rfl⟩
  iintro %v
  obtain ⟨w25_0, w25_1, w25_2, w25_3, w25_4, w25_5⟩ := v
  dsimp only
  iapply (wpt_into d L)
  iapply (wpt_any d L ?_)
  · exact ⟨_, rfl⟩
  iintro %v
  obtain ⟨w26_0, w26_1, w26_2, w26_3, w26_4, w26_5, w26_6⟩ := v
  dsimp only
  iapply (wpt_into d L)
  iapply (wpt_any d L ?_)
  · exact ⟨_, rfl⟩
  iintro %v
  obtain ⟨w27_0, w27_1, w27_2⟩ := v
  dsimp only
  iapply (wpt_into d L)
  iapply (wpt_any d L ?_)
  · exact ⟨_, rfl⟩
  iintro %v
  obtain ⟨w28_0, w28_1, w28_2, w28_3, w28_4, w28_5⟩ := v
  dsimp only
  iapply (wpt_into d L)
  iapply (wpt_any d L ?_)
  · exact ⟨_, rfl⟩
  iintro %v
  obtain ⟨w29_0, w29_1, w29_2, w29_3, w29_4, w29_5, w29_6, w29_7⟩ := v
  dsimp only
  iapply (wpt_into d L)
  iapply (wpt_any d L ?_)
  · exact ⟨_, rfl⟩
  iintro %v
  obtain ⟨w30_0, w30_1, w30_2, w30_3, w30_4, w30_5, w30_6⟩ := v
  dsimp only
  iapply (wpt_into d L)
  iapply (wpt_any d L ?_)
  · exact ⟨_, rfl⟩
  iintro %v
  obtain ⟨w31_0, w31_1, w31_2, w31_3, w31_4, w31_5, w31_6, w31_7⟩ := v
  dsimp only
  iapply (wpt_into d L)
  iapply (wpt_any d L ?_)
  · exact ⟨_, rfl⟩
  iintro %v
  obtain ⟨w32_0, w32_1, w32_2, w32_3, w32_4, w32_5, w32_6, w32_7⟩ := v
  dsimp only
  iapply (wpt_into d L)
  iapply (wpt_any d L ?_)
  · exact ⟨_, rfl⟩
  iintro %v
  obtain ⟨w33_0, w33_1, w33_2, w33_3, w33_4⟩ := v
  dsimp only
  iapply (wpt_into d L)
  iapply (wpt_any d L ?_)
  · exact ⟨_, rfl⟩
  iintro %v
  obtain ⟨w34_0, w34_1, w34_2, w34_3, w34_4, w34_5, w34_6, w34_7, w34_8⟩ := v
  dsimp only
  iapply (wpt_into d L)
  iapply (wpt_any d L ?_)
  · exact ⟨_, rfl⟩
  iintro %v
  obtain ⟨w35_0, w35_1, w35_2, w35_3, w35_4, w35_5, w35_6, w35_7⟩ := v
  dsimp only
  iapply (wpt_into d L)
  iapply (wpt_any d L ?_)
  · exact ⟨_, rfl⟩
  iintro %v
  obtain ⟨w36_0, w36_1, w36_2, w36_3, w36_4⟩ := v
  dsimp only
  iapply (wpt_into d L)
  iapply (wpt_any d L ?_)
  · exact ⟨_, rfl⟩
  iintro %v
  obtain ⟨w37_0, w37_1, w37_2, w37_3, w37_4, w37_5, w37_6, w37_7, w37_8⟩ := v
  dsimp only
  iapply (wpt_into d L)
  iapply (wpt_any d L ?_)
  · exact ⟨_, rfl⟩
  iintro %v
  obtain ⟨w38_0, w38_1, w38_2, w38_3, w38_4, w38_5, w38_6⟩ := v
  dsimp only
  iapply (wpt_into d L)
  iapply (wpt_any d L ?_)
  · exact ⟨_, rfl⟩
  iintro %v
  obtain ⟨w39_0, w39_1⟩ := v
  dsimp only
  iapply (wpt_into d L)
  iapply (wpt_any d L ?_)
  · exact ⟨_, rfl⟩
  iintro %v
  obtain ⟨w40_0, w40_1, w40_2, w40_3, w40_4, w40_5, w40_6, w40_7, w40_8⟩ := v
  dsimp only
  iapply (wpt_into d L)
  iapply (wpt_any d L ?_)
  · exact ⟨_, rfl⟩
  iintro %v
  obtain ⟨w41_0, w41_1, w41_2, w41_3⟩ := v
  dsimp only
  iapply (wpt_into d L)
  iapply (wpt_any d L ?_)
  · exact ⟨_, rfl⟩
  iintro %v
  obtain ⟨w42_0, w42_1, w42_2, w42_3, w42_4, w42_5⟩ := v
  dsimp only
  iapply (wpt_into d L)
  iapply (wpt_any d L ?_)
  · exact ⟨_, rfl⟩
  iintro %v
  obtain ⟨w43_0, w43_1, w43_2, w43_3, w43_4, w43_5, w43_6, w43_7⟩ := v
  dsimp only
  iapply (wpt_into d L)
  iapply (wpt_any d L ?_)
  · exact ⟨_, rfl⟩
  iintro %v
  obtain ⟨w44_0, w44_1, w44_2⟩ := v
  dsimp only
  iapply (wpt_into d L)
  iapply (wpt_any d L ?_)
  · exact ⟨_, rfl⟩
  iintro %v
  obtain ⟨w45_0, w45_1, w45_2, w45_3, w45_4, w45_5⟩ := v
  dsimp only
  iapply (wpt_into d L)
  iapply (wpt_any d L ?_)
  · exact ⟨_, rfl⟩
  iintro %v
  obtain ⟨w46_0, w46_1, w46_2, w46_3, w46_4⟩ := v
  dsimp only
  iapply (wpt_into d L)
  iapply (wpt_any d L ?_)
  · exact ⟨_, rfl⟩
  iintro %v
  obtain ⟨w47_0, w47_1, w47_2⟩ := v
  dsimp only
  iapply (wpt_into d L)
  iapply (wpt_any d L ?_)
  · exact ⟨_, rfl⟩
  iintro %v
  obtain ⟨w48_0, w48_1, w48_2, w48_3, w48_4, w48_5, w48_6, w48_7⟩ := v
  dsimp only
  iapply (wpt_into d L)
  iapply (wpt_any d L ?_)
  · exact ⟨_, rfl⟩
  iintro %v
  obtain ⟨w49_0, w49_1, w49_2, w49_3, w49_4, w49_5, w49_6⟩ := v
  dsimp only
  iapply (wpt_into d L)
  iapply (wpt_any d L ?_)
  · exact ⟨_, rfl⟩
  iintro %v
  obtain ⟨w50_0, w50_1, w50_2⟩ := v
  dsimp only
  iapply (wpt_into d L)
  iapply (wpt_any d L ?_)
  · exact ⟨_, rfl⟩
  iintro %v
  obtain ⟨w51_0, w51_1, w51_2, w51_3, w51_4, w51_5⟩ := v
  dsimp only
  iapply (wpt_into d L)
  iapply (wpt_any d L ?_)
  · exact ⟨_, rfl⟩
  iintro %v
  obtain ⟨w52_0, w52_1, w52_2, w52_3, w52_4, w52_5, w52_6, w52_7⟩ := v
  dsimp only
  iapply (wpt_into d L)
  iapply (wpt_any d L ?_)
  · exact ⟨_, rfl⟩
  iintro %v
  obtain ⟨w53_0, w53_1, w53_2, w53_3, w53_4, w53_5, w53_6⟩ := v
  dsimp only
  iapply (wpt_into d L)
  iapply (wpt_any d L ?_)
  · exact ⟨_, rfl⟩
  iintro %v
  obtain ⟨w54_0, w54_1, w54_2, w54_3, w54_4, w54_5, w54_6, w54_7⟩ := v
  dsimp only
  iapply (wpt_into d L)
  iapply (wpt_any d L ?_)
  · exact ⟨_, rfl⟩
  iintro %v
  obtain ⟨w55_0, w55_1, w55_2, w55_3, w55_4, w55_5, w55_6, w55_7⟩ := v
  dsimp only
  iapply (wpt_into d L)
  iapply (wpt_any d L ?_)
  · exact ⟨_, rfl⟩
  iintro %v
  obtain ⟨w56_0, w56_1, w56_2, w56_3, w56_4⟩ := v
  dsimp only
  iapply (wpt_into d L)
  iapply (wpt_any d L ?_)
  · exact ⟨_, rfl⟩
  iintro %v
  obtain ⟨w57_0, w57_1, w57_2, w57_3, w57_4, w57_5, w57_6, w57_7, w57_8⟩ := v
  dsimp only
  iapply (wpt_into d L)
  rw [k0_part58_eq_skeleton]
  delta k0_part58_skel
  beta_reduce
  iapply (Scf.wp_for_bind frame (wpE (defs₀ (F := F)) 𝒱₀ (VT d L) none) Set.univ _ _ _ (k0_t2_ok L h1) _ _
    (fun t (_ : PUnit) => iprop(CtrDone d L rb ∗ Filled d L idxB (idxT L rb) 22 (16 * t) 16 0)) ?_) $$ [Hc Hx]
  · intro t u
    iintro H
    iapply (trip2_wp d L rb h1 t u) $$ H
  · iframe Hc
    unfold Filled
    iexists g
    iframe Hx
    ipureintro; exact good_zero _ _ _ _
  iintro %u ⟨Hc, Hx⟩
  ihave Hx := (Filled_again d L idxB (b := 992) (w' := 8) (by decide)) $$ Hx
  iapply (wp_word d L rb ((baseI L + 0) / 49) 992 ?_ (by omega)) $$ Hc
  · exact tail2_eq ⟨0, by decide⟩ L
  iintro %u2 %h2 Hc
  iapply le_wp_ret
  dsimp only
  iapply (wpt_into d L)
  rw [k0_part59_eq_skeleton]
  delta k0_part59_skel
  beta_reduce
  iapply (wp_word d L rb (7 + (baseI L + 0) / 7 % 7) 992 ?_ (by omega)) $$ Hc
  · exact tail3_eq ⟨0, by decide⟩ L
  iintro %u3 %h3 Hc
  iapply (wp_word d L rb (14 + (baseI L + 0) % 7) 992 ?_ (by omega)) $$ Hc
  · exact tail4_eq ⟨0, by decide⟩ L
  iintro %u4 %h4 Hc
  iapply (wp_fillScatter d L idxB (T := idxT L rb) (R := 22) (K := 0) ?_ ?_ mask_lanes ?_) $$ Hx
  · exact fun _ => lanes_lt (v := idxLanes 0) fun x => by rw [idxLanes_eq 0 x]; show 1000 * 0 + 992 + x.val < 22008; omega
  · exact idxLanes_eq 0
  · exact fun x hx => sum_words L rb 0 (h2 x (by omega)) (h3 x (by omega)) (h4 x (by omega))
  iintro Hx
  iapply (wp_word d L rb ((baseI L + 1) / 49) 992 ?_ (by omega)) $$ Hc
  · exact tail2_eq ⟨1, by decide⟩ L
  iintro %u2 %h2 Hc
  iapply (wp_word d L rb (7 + (baseI L + 1) / 7 % 7) 992 ?_ (by omega)) $$ Hc
  · exact tail3_eq ⟨1, by decide⟩ L
  iintro %u3 %h3 Hc
  iapply (wp_word d L rb (14 + (baseI L + 1) % 7) 992 ?_ (by omega)) $$ Hc
  · exact tail4_eq ⟨1, by decide⟩ L
  iintro %u4 %h4 Hc
  iapply (wp_fillScatter d L idxB (T := idxT L rb) (R := 22) (K := 1) ?_ ?_ mask_lanes ?_) $$ Hx
  · exact fun _ => lanes_lt (v := idxLanes 1) fun x => by rw [idxLanes_eq 1 x]; show 1000 * 1 + 992 + x.val < 22008; omega
  · exact idxLanes_eq 1
  · exact fun x hx => sum_words L rb 1 (h2 x (by omega)) (h3 x (by omega)) (h4 x (by omega))
  iintro Hx
  iapply (wp_word d L rb ((baseI L + 2) / 49) 992 ?_ (by omega)) $$ Hc
  · exact tail2_eq ⟨2, by decide⟩ L
  iintro %u2 %h2 Hc
  iapply (wp_word d L rb (7 + (baseI L + 2) / 7 % 7) 992 ?_ (by omega)) $$ Hc
  · exact tail3_eq ⟨2, by decide⟩ L
  iintro %u3 %h3 Hc
  iapply (wp_word d L rb (14 + (baseI L + 2) % 7) 992 ?_ (by omega)) $$ Hc
  · exact tail4_eq ⟨2, by decide⟩ L
  iintro %u4 %h4 Hc
  iapply (wp_fillScatter d L idxB (T := idxT L rb) (R := 22) (K := 2) ?_ ?_ mask_lanes ?_) $$ Hx
  · exact fun _ => lanes_lt (v := idxLanes 2) fun x => by rw [idxLanes_eq 2 x]; show 1000 * 2 + 992 + x.val < 22008; omega
  · exact idxLanes_eq 2
  · exact fun x hx => sum_words L rb 2 (h2 x (by omega)) (h3 x (by omega)) (h4 x (by omega))
  iintro Hx
  iapply (wp_word d L rb ((baseI L + 3) / 49) 992 ?_ (by omega)) $$ Hc
  · exact tail2_eq ⟨3, by decide⟩ L
  iintro %u2 %h2 Hc
  iapply le_wp_ret
  iapply (wpt_into d L)
  rw [k0_part60_eq_skeleton]
  delta k0_part60_skel
  beta_reduce
  iapply (wp_word d L rb (7 + (baseI L + 3) / 7 % 7) 992 ?_ (by omega)) $$ Hc
  · exact tail3_eq ⟨3, by decide⟩ L
  iintro %u3 %h3 Hc
  iapply (wp_word d L rb (14 + (baseI L + 3) % 7) 992 ?_ (by omega)) $$ Hc
  · exact tail4_eq ⟨3, by decide⟩ L
  iintro %u4 %h4 Hc
  iapply (wp_fillScatter d L idxB (T := idxT L rb) (R := 22) (K := 3) ?_ ?_ mask_lanes ?_) $$ Hx
  · exact fun _ => lanes_lt (v := idxLanes 3) fun x => by rw [idxLanes_eq 3 x]; show 1000 * 3 + 992 + x.val < 22008; omega
  · exact idxLanes_eq 3
  · exact fun x hx => sum_words L rb 3 (h2 x (by omega)) (h3 x (by omega)) (h4 x (by omega))
  iintro Hx
  iapply (wp_word d L rb ((baseI L + 4) / 49) 992 ?_ (by omega)) $$ Hc
  · exact tail2_eq ⟨4, by decide⟩ L
  iintro %u2 %h2 Hc
  iapply (wp_word d L rb (7 + (baseI L + 4) / 7 % 7) 992 ?_ (by omega)) $$ Hc
  · exact tail3_eq ⟨4, by decide⟩ L
  iintro %u3 %h3 Hc
  iapply (wp_word d L rb (14 + (baseI L + 4) % 7) 992 ?_ (by omega)) $$ Hc
  · exact tail4_eq ⟨4, by decide⟩ L
  iintro %u4 %h4 Hc
  iapply (wp_fillScatter d L idxB (T := idxT L rb) (R := 22) (K := 4) ?_ ?_ mask_lanes ?_) $$ Hx
  · exact fun _ => lanes_lt (v := idxLanes 4) fun x => by rw [idxLanes_eq 4 x]; show 1000 * 4 + 992 + x.val < 22008; omega
  · exact idxLanes_eq 4
  · exact fun x hx => sum_words L rb 4 (h2 x (by omega)) (h3 x (by omega)) (h4 x (by omega))
  iintro Hx
  iapply (wp_word d L rb ((baseI L + 5) / 49) 992 ?_ (by omega)) $$ Hc
  · exact tail2_eq ⟨5, by decide⟩ L
  iintro %u2 %h2 Hc
  iapply (wp_word d L rb (7 + (baseI L + 5) / 7 % 7) 992 ?_ (by omega)) $$ Hc
  · exact tail3_eq ⟨5, by decide⟩ L
  iintro %u3 %h3 Hc
  iapply (wp_word d L rb (14 + (baseI L + 5) % 7) 992 ?_ (by omega)) $$ Hc
  · exact tail4_eq ⟨5, by decide⟩ L
  iintro %u4 %h4 Hc
  iapply (wp_fillScatter d L idxB (T := idxT L rb) (R := 22) (K := 5) ?_ ?_ mask_lanes ?_) $$ Hx
  · exact fun _ => lanes_lt (v := idxLanes 5) fun x => by rw [idxLanes_eq 5 x]; show 1000 * 5 + 992 + x.val < 22008; omega
  · exact idxLanes_eq 5
  · exact fun x hx => sum_words L rb 5 (h2 x (by omega)) (h3 x (by omega)) (h4 x (by omega))
  iintro Hx
  iapply (wp_word d L rb ((baseI L + 6) / 49) 992 ?_ (by omega)) $$ Hc
  · exact tail2_eq ⟨6, by decide⟩ L
  iintro %u2 %h2 Hc
  iapply (wp_word d L rb (7 + (baseI L + 6) / 7 % 7) 992 ?_ (by omega)) $$ Hc
  · exact tail3_eq ⟨6, by decide⟩ L
  iintro %u3 %h3 Hc
  iapply le_wp_ret
  dsimp only
  iapply (wpt_into d L)
  rw [k0_part61_eq_skeleton]
  delta k0_part61_skel
  beta_reduce
  iapply (wp_word d L rb (14 + (baseI L + 6) % 7) 992 ?_ (by omega)) $$ Hc
  · exact tail4_eq ⟨6, by decide⟩ L
  iintro %u4 %h4 Hc
  iapply (wp_fillScatter d L idxB (T := idxT L rb) (R := 22) (K := 6) ?_ ?_ mask_lanes ?_) $$ Hx
  · exact fun _ => lanes_lt (v := idxLanes 6) fun x => by rw [idxLanes_eq 6 x]; show 1000 * 6 + 992 + x.val < 22008; omega
  · exact idxLanes_eq 6
  · exact fun x hx => sum_words L rb 6 (h2 x (by omega)) (h3 x (by omega)) (h4 x (by omega))
  iintro Hx
  iapply (wp_word d L rb ((baseI L + 7) / 49) 992 ?_ (by omega)) $$ Hc
  · exact tail2_eq ⟨7, by decide⟩ L
  iintro %u2 %h2 Hc
  iapply (wp_word d L rb (7 + (baseI L + 7) / 7 % 7) 992 ?_ (by omega)) $$ Hc
  · exact tail3_eq ⟨7, by decide⟩ L
  iintro %u3 %h3 Hc
  iapply (wp_word d L rb (14 + (baseI L + 7) % 7) 992 ?_ (by omega)) $$ Hc
  · exact tail4_eq ⟨7, by decide⟩ L
  iintro %u4 %h4 Hc
  iapply (wp_fillScatter d L idxB (T := idxT L rb) (R := 22) (K := 7) ?_ ?_ mask_lanes ?_) $$ Hx
  · exact fun _ => lanes_lt (v := idxLanes 7) fun x => by rw [idxLanes_eq 7 x]; show 1000 * 7 + 992 + x.val < 22008; omega
  · exact idxLanes_eq 7
  · exact fun x hx => sum_words L rb 7 (h2 x (by omega)) (h3 x (by omega)) (h4 x (by omega))
  iintro Hx
  iapply (wp_word d L rb ((baseI L + 8) / 49) 992 ?_ (by omega)) $$ Hc
  · exact tail2_eq ⟨8, by decide⟩ L
  iintro %u2 %h2 Hc
  iapply (wp_word d L rb (7 + (baseI L + 8) / 7 % 7) 992 ?_ (by omega)) $$ Hc
  · exact tail3_eq ⟨8, by decide⟩ L
  iintro %u3 %h3 Hc
  iapply (wp_word d L rb (14 + (baseI L + 8) % 7) 992 ?_ (by omega)) $$ Hc
  · exact tail4_eq ⟨8, by decide⟩ L
  iintro %u4 %h4 Hc
  iapply (wp_fillScatter d L idxB (T := idxT L rb) (R := 22) (K := 8) ?_ ?_ mask_lanes ?_) $$ Hx
  · exact fun _ => lanes_lt (v := idxLanes 8) fun x => by rw [idxLanes_eq 8 x]; show 1000 * 8 + 992 + x.val < 22008; omega
  · exact idxLanes_eq 8
  · exact fun x hx => sum_words L rb 8 (h2 x (by omega)) (h3 x (by omega)) (h4 x (by omega))
  iintro Hx
  iapply (wp_word d L rb ((baseI L + 9) / 49) 992 ?_ (by omega)) $$ Hc
  · exact tail2_eq ⟨9, by decide⟩ L
  iintro %u2 %h2 Hc
  iapply (wp_word d L rb (7 + (baseI L + 9) / 7 % 7) 992 ?_ (by omega)) $$ Hc
  · exact tail3_eq ⟨9, by decide⟩ L
  iintro %u3 %h3 Hc
  iapply (wp_word d L rb (14 + (baseI L + 9) % 7) 992 ?_ (by omega)) $$ Hc
  · exact tail4_eq ⟨9, by decide⟩ L
  iintro %u4 %h4 Hc
  iapply le_wp_ret
  dsimp only
  iapply (wpt_into d L)
  rw [k0_part62_eq_skeleton]
  delta k0_part62_skel
  beta_reduce
  iapply (wp_fillScatter d L idxB (T := idxT L rb) (R := 22) (K := 9) ?_ ?_ mask_lanes ?_) $$ Hx
  · exact fun _ => lanes_lt (v := idxLanes 9) fun x => by rw [idxLanes_eq 9 x]; show 1000 * 9 + 992 + x.val < 22008; omega
  · exact idxLanes_eq 9
  · exact fun x hx => sum_words L rb 9 (h2 x (by omega)) (h3 x (by omega)) (h4 x (by omega))
  iintro Hx
  iapply (wp_word d L rb ((baseI L + 10) / 49) 992 ?_ (by omega)) $$ Hc
  · exact tail2_eq ⟨10, by decide⟩ L
  iintro %u2 %h2 Hc
  iapply (wp_word d L rb (7 + (baseI L + 10) / 7 % 7) 992 ?_ (by omega)) $$ Hc
  · exact tail3_eq ⟨10, by decide⟩ L
  iintro %u3 %h3 Hc
  iapply (wp_word d L rb (14 + (baseI L + 10) % 7) 992 ?_ (by omega)) $$ Hc
  · exact tail4_eq ⟨10, by decide⟩ L
  iintro %u4 %h4 Hc
  iapply (wp_fillScatter d L idxB (T := idxT L rb) (R := 22) (K := 10) ?_ ?_ mask_lanes ?_) $$ Hx
  · exact fun _ => lanes_lt (v := idxLanes 10) fun x => by rw [idxLanes_eq 10 x]; show 1000 * 10 + 992 + x.val < 22008; omega
  · exact idxLanes_eq 10
  · exact fun x hx => sum_words L rb 10 (h2 x (by omega)) (h3 x (by omega)) (h4 x (by omega))
  iintro Hx
  iapply (wp_word d L rb ((baseI L + 11) / 49) 992 ?_ (by omega)) $$ Hc
  · exact tail2_eq ⟨11, by decide⟩ L
  iintro %u2 %h2 Hc
  iapply (wp_word d L rb (7 + (baseI L + 11) / 7 % 7) 992 ?_ (by omega)) $$ Hc
  · exact tail3_eq ⟨11, by decide⟩ L
  iintro %u3 %h3 Hc
  iapply (wp_word d L rb (14 + (baseI L + 11) % 7) 992 ?_ (by omega)) $$ Hc
  · exact tail4_eq ⟨11, by decide⟩ L
  iintro %u4 %h4 Hc
  iapply (wp_fillScatter d L idxB (T := idxT L rb) (R := 22) (K := 11) ?_ ?_ mask_lanes ?_) $$ Hx
  · exact fun _ => lanes_lt (v := idxLanes 11) fun x => by rw [idxLanes_eq 11 x]; show 1000 * 11 + 992 + x.val < 22008; omega
  · exact idxLanes_eq 11
  · exact fun x hx => sum_words L rb 11 (h2 x (by omega)) (h3 x (by omega)) (h4 x (by omega))
  iintro Hx
  iapply (wp_word d L rb ((baseI L + 12) / 49) 992 ?_ (by omega)) $$ Hc
  · exact tail2_eq ⟨12, by decide⟩ L
  iintro %u2 %h2 Hc
  iapply (wp_word d L rb (7 + (baseI L + 12) / 7 % 7) 992 ?_ (by omega)) $$ Hc
  · exact tail3_eq ⟨12, by decide⟩ L
  iintro %u3 %h3 Hc
  iapply (wp_word d L rb (14 + (baseI L + 12) % 7) 992 ?_ (by omega)) $$ Hc
  · exact tail4_eq ⟨12, by decide⟩ L
  iintro %u4 %h4 Hc
  iapply le_wp_ret
  dsimp only
  iapply (wpt_into d L)
  rw [k0_part63_eq_skeleton]
  delta k0_part63_skel
  beta_reduce
  iapply (wp_fillScatter d L idxB (T := idxT L rb) (R := 22) (K := 12) ?_ ?_ mask_lanes ?_) $$ Hx
  · exact fun _ => lanes_lt (v := idxLanes 12) fun x => by rw [idxLanes_eq 12 x]; show 1000 * 12 + 992 + x.val < 22008; omega
  · exact idxLanes_eq 12
  · exact fun x hx => sum_words L rb 12 (h2 x (by omega)) (h3 x (by omega)) (h4 x (by omega))
  iintro Hx
  iapply (wp_word d L rb ((baseI L + 13) / 49) 992 ?_ (by omega)) $$ Hc
  · exact tail2_eq ⟨13, by decide⟩ L
  iintro %u2 %h2 Hc
  iapply (wp_word d L rb (7 + (baseI L + 13) / 7 % 7) 992 ?_ (by omega)) $$ Hc
  · exact tail3_eq ⟨13, by decide⟩ L
  iintro %u3 %h3 Hc
  iapply (wp_word d L rb (14 + (baseI L + 13) % 7) 992 ?_ (by omega)) $$ Hc
  · exact tail4_eq ⟨13, by decide⟩ L
  iintro %u4 %h4 Hc
  iapply (wp_fillScatter d L idxB (T := idxT L rb) (R := 22) (K := 13) ?_ ?_ mask_lanes ?_) $$ Hx
  · exact fun _ => lanes_lt (v := idxLanes 13) fun x => by rw [idxLanes_eq 13 x]; show 1000 * 13 + 992 + x.val < 22008; omega
  · exact idxLanes_eq 13
  · exact fun x hx => sum_words L rb 13 (h2 x (by omega)) (h3 x (by omega)) (h4 x (by omega))
  iintro Hx
  iapply (wp_word d L rb ((baseI L + 14) / 49) 992 ?_ (by omega)) $$ Hc
  · exact tail2_eq ⟨14, by decide⟩ L
  iintro %u2 %h2 Hc
  iapply (wp_word d L rb (7 + (baseI L + 14) / 7 % 7) 992 ?_ (by omega)) $$ Hc
  · exact tail3_eq ⟨14, by decide⟩ L
  iintro %u3 %h3 Hc
  iapply (wp_word d L rb (14 + (baseI L + 14) % 7) 992 ?_ (by omega)) $$ Hc
  · exact tail4_eq ⟨14, by decide⟩ L
  iintro %u4 %h4 Hc
  iapply (wp_fillScatter d L idxB (T := idxT L rb) (R := 22) (K := 14) ?_ ?_ mask_lanes ?_) $$ Hx
  · exact fun _ => lanes_lt (v := idxLanes 14) fun x => by rw [idxLanes_eq 14 x]; show 1000 * 14 + 992 + x.val < 22008; omega
  · exact idxLanes_eq 14
  · exact fun x hx => sum_words L rb 14 (h2 x (by omega)) (h3 x (by omega)) (h4 x (by omega))
  iintro Hx
  iapply (wp_word d L rb ((baseI L + 15) / 49) 992 ?_ (by omega)) $$ Hc
  · exact tail2_eq ⟨15, by decide⟩ L
  iintro %u2 %h2 Hc
  iapply (wp_word d L rb (7 + (baseI L + 15) / 7 % 7) 992 ?_ (by omega)) $$ Hc
  · exact tail3_eq ⟨15, by decide⟩ L
  iintro %u3 %h3 Hc
  iapply (wp_word d L rb (14 + (baseI L + 15) % 7) 992 ?_ (by omega)) $$ Hc
  · exact tail4_eq ⟨15, by decide⟩ L
  iintro %u4 %h4 Hc
  iapply (wp_fillScatter d L idxB (T := idxT L rb) (R := 22) (K := 15) ?_ ?_ mask_lanes ?_) $$ Hx
  · exact fun _ => lanes_lt (v := idxLanes 15) fun x => by rw [idxLanes_eq 15 x]; show 1000 * 15 + 992 + x.val < 22008; omega
  · exact idxLanes_eq 15
  · exact fun x hx => sum_words L rb 15 (h2 x (by omega)) (h3 x (by omega)) (h4 x (by omega))
  iintro Hx
  iapply le_wp_ret
  iapply (wpt_into d L)
  rw [k0_part64_eq_skeleton]
  delta k0_part64_skel
  beta_reduce
  iapply (wp_word d L rb ((baseI L + 16) / 49) 992 ?_ (by omega)) $$ Hc
  · exact tail2_eq ⟨16, by decide⟩ L
  iintro %u2 %h2 Hc
  iapply (wp_word d L rb (7 + (baseI L + 16) / 7 % 7) 992 ?_ (by omega)) $$ Hc
  · exact tail3_eq ⟨16, by decide⟩ L
  iintro %u3 %h3 Hc
  iapply (wp_word d L rb (14 + (baseI L + 16) % 7) 992 ?_ (by omega)) $$ Hc
  · exact tail4_eq ⟨16, by decide⟩ L
  iintro %u4 %h4 Hc
  iapply (wp_fillScatter d L idxB (T := idxT L rb) (R := 22) (K := 16) ?_ ?_ mask_lanes ?_) $$ Hx
  · exact fun _ => lanes_lt (v := idxLanes 16) fun x => by rw [idxLanes_eq 16 x]; show 1000 * 16 + 992 + x.val < 22008; omega
  · exact idxLanes_eq 16
  · exact fun x hx => sum_words L rb 16 (h2 x (by omega)) (h3 x (by omega)) (h4 x (by omega))
  iintro Hx
  iapply (wp_word d L rb ((baseI L + 17) / 49) 992 ?_ (by omega)) $$ Hc
  · exact tail2_eq ⟨17, by decide⟩ L
  iintro %u2 %h2 Hc
  iapply (wp_word d L rb (7 + (baseI L + 17) / 7 % 7) 992 ?_ (by omega)) $$ Hc
  · exact tail3_eq ⟨17, by decide⟩ L
  iintro %u3 %h3 Hc
  iapply (wp_word d L rb (14 + (baseI L + 17) % 7) 992 ?_ (by omega)) $$ Hc
  · exact tail4_eq ⟨17, by decide⟩ L
  iintro %u4 %h4 Hc
  iapply (wp_fillScatter d L idxB (T := idxT L rb) (R := 22) (K := 17) ?_ ?_ mask_lanes ?_) $$ Hx
  · exact fun _ => lanes_lt (v := idxLanes 17) fun x => by rw [idxLanes_eq 17 x]; show 1000 * 17 + 992 + x.val < 22008; omega
  · exact idxLanes_eq 17
  · exact fun x hx => sum_words L rb 17 (h2 x (by omega)) (h3 x (by omega)) (h4 x (by omega))
  iintro Hx
  iapply (wp_word d L rb ((baseI L + 18) / 49) 992 ?_ (by omega)) $$ Hc
  · exact tail2_eq ⟨18, by decide⟩ L
  iintro %u2 %h2 Hc
  iapply (wp_word d L rb (7 + (baseI L + 18) / 7 % 7) 992 ?_ (by omega)) $$ Hc
  · exact tail3_eq ⟨18, by decide⟩ L
  iintro %u3 %h3 Hc
  iapply (wp_word d L rb (14 + (baseI L + 18) % 7) 992 ?_ (by omega)) $$ Hc
  · exact tail4_eq ⟨18, by decide⟩ L
  iintro %u4 %h4 Hc
  iapply (wp_fillScatter d L idxB (T := idxT L rb) (R := 22) (K := 18) ?_ ?_ mask_lanes ?_) $$ Hx
  · exact fun _ => lanes_lt (v := idxLanes 18) fun x => by rw [idxLanes_eq 18 x]; show 1000 * 18 + 992 + x.val < 22008; omega
  · exact idxLanes_eq 18
  · exact fun x hx => sum_words L rb 18 (h2 x (by omega)) (h3 x (by omega)) (h4 x (by omega))
  iintro Hx
  iapply le_wp_ret
  iapply (wp_word d L rb ((baseI L + 19) / 49) 992 ?_ (by omega)) $$ Hc
  · exact tail2_eq ⟨19, by decide⟩ L
  iintro %u2 %h2 Hc
  iapply (wp_word d L rb (7 + (baseI L + 19) / 7 % 7) 992 ?_ (by omega)) $$ Hc
  · exact tail3_eq ⟨19, by decide⟩ L
  iintro %u3 %h3 Hc
  iapply (wp_word d L rb (14 + (baseI L + 19) % 7) 992 ?_ (by omega)) $$ Hc
  · exact tail4_eq ⟨19, by decide⟩ L
  iintro %u4 %h4 Hc
  iapply le_wp_ret
  isplitr
  · ipureintro
    exact ⟨rfl, fun x hx => sum_words L rb 19 (h2 x (by omega)) (h3 x (by omega)) (h4 x (by omega))⟩
  iframe Hs Hr Hc Hx Hw HO

set_option maxHeartbeats 8000000 in
/-- The first piece of the body: the list of rows. -/
theorem part70_wp (O : CellTallies nD τ sig (HIx 1)) (W : Waits sig (HIx 1)) (q : PosShare TreeShare) (tb : TabC F) (rb : S8192.Idx → F .f32) :
    iprop(□ Transfers.MayWaits (VT d L) (default : HIx 1) O ∗ RoisAt d L q rb ∗ (∃ f : Buf (Elt F) (roiB.view.loc (VT d L)), (roiB.view.loc (VT d L)) ↦{fullShare} f)
        ∗ (∃ f : Buf (Elt F) (ctrB.view.loc (VT d L)), (ctrB.view.loc (VT d L)) ↦{fullShare} f)
        ∗ (∃ f : Buf (Elt F) (idxB.view.loc (VT d L)), (idxB.view.loc (VT d L)) ↦{fullShare} f) ∗ semVal (VT d L, SemLoc.dma (csem 20)) 0 ∗ Own d L O W)
      ⊢ WPt d L (onArgs (k0_part70 (F := F) L)) fun v =>
        iprop(⌜v.2.2.1 = BitVec.ofNat 32 (nchI L)⌝ ∗ RoisAt d L q rb ∗ (∃ f : Buf (Elt F) (roiB.view.loc (VT d L)), (roiB.view.loc (VT d L)) ↦{fullShare} f)
          ∗ (∃ f : Buf (Elt F) (ctrB.view.loc (VT d L)), (ctrB.view.loc (VT d L)) ↦{fullShare} f)
          ∗ (∃ xf : LstC, ⌜Serves tb xf (gathered tb rb) (loI L) (cntI L)⌝ ∗ (idxB.view.loc (VT d L)) ↦{fullShare} (xf : Buf (Elt F) (idxB.view.loc (VT d L))))
          ∗ semVal (VT d L, SemLoc.dma (csem 20)) 0 ∗ Own d L O W) := by
  have hb := baseI_le L
  unfold onArgs
  rw [k0_part70_eq_skeleton]
  delta k0_part70_skel
  beta_reduce
  iintro ⟨#Hmw, Hs, Hr, Hc, Hx, Hw, HO⟩
  dsimp only
  by_cases h1 : k0_cond1 L = 1#1
  · iapply (wpt_pos d L h1)
    iapply (wpt_bind d L (part65_wp d L O W q rb h1 _)) $$ [Hs Hr Hc Hx Hw HO]
    · iframe Hs Hr Hc Hx Hw HO Hmw
    iintro %v ⟨%hv, Hs, Hr, Hc, Hx, Hw, HO⟩
    obtain ⟨v379, v1679, v1681, v1683, v1739, v1741, v1743, v2002⟩ := v
    dsimp only at hv ⊢
    obtain ⟨rfl, hv⟩ := hv
    iapply (wp_fillScatter d L idxB (T := idxT L rb) (R := 22) (K := 19) ?_ ?_ mask_lanes ?_) $$ Hx
    · exact fun _ => lanes_lt (v := idxLanes 19) fun x => by rw [idxLanes_eq 19 x]; show 1000 * 19 + 992 + x.val < 22008; omega
    · exact idxLanes_eq 19
    · exact hv
    iintro Hx
    iapply (wp_word d L rb ((baseI L + 20) / 49) 992 ?_ (by omega)) $$ Hc
    · exact tail2_eq ⟨20, by decide⟩ L
    iintro %u2 %h2 Hc
    iapply (wp_word d L rb (7 + (baseI L + 20) / 7 % 7) 992 ?_ (by omega)) $$ Hc
    · exact tail3_eq ⟨20, by decide⟩ L
    iintro %u3 %h3 Hc
    iapply (wp_word d L rb (14 + (baseI L + 20) % 7) 992 ?_ (by omega)) $$ Hc
    · exact tail4_eq ⟨20, by decide⟩ L
    iintro %u4 %h4 Hc
    iapply (wp_fillScatter d L idxB (T := idxT L rb) (R := 22) (K := 20) ?_ ?_ mask_lanes ?_) $$ Hx
    · exact fun _ => lanes_lt (v := idxLanes 20) fun x => by rw [idxLanes_eq 20 x]; show 1000 * 20 + 992 + x.val < 22008; omega
    · exact idxLanes_eq 20
    · exact fun x hx => sum_words L rb 20 (h2 x (by omega)) (h3 x (by omega)) (h4 x (by omega))
    iintro Hx
    iapply (wp_word d L rb ((baseI L + 21) / 49) 992 ?_ (by omega)) $$ Hc
    · exact tail2_eq ⟨21, by decide⟩ L
    iintro %u2 %h2 Hc
    iapply (wp_word d L rb (7 + (baseI L + 21) / 7 % 7) 992 ?_ (by omega)) $$ Hc
    · exact tail3_eq ⟨21, by decide⟩ L
    iintro %u3 %h3 Hc
    iapply (wp_word d L rb (14 + (baseI L + 21) % 7) 992 ?_ (by omega)) $$ Hc
    · exact tail4_eq ⟨21, by decide⟩ L
    iintro %u4 %h4 Hc
    iapply (wp_fillScatter d L idxB (T := idxT L rb) (R := 22) (K := 21) ?_ ?_ mask_lanes ?_) $$ Hx
    · exact fun _ => lanes_lt (v := idxLanes 21) fun x => by rw [idxLanes_eq 21 x]; show 1000 * 21 + 992 + x.val < 22008; omega
    · exact idxLanes_eq 21
    · exact fun x hx => sum_words L rb 21 (h2 x (by omega)) (h3 x (by omega)) (h4 x (by omega))
    iintro Hx
    iapply le_wp_ret
    isplitr
    · ipureintro; exact chunksW_eq L
    iframe Hs Hw HO
    isplitl [Hr]
    · unfold RoiAt
      iexists _; iexact Hr
    isplitl [Hc]
    · unfold CtrDone Filled
      icases Hc with ⟨%g, -, Hc⟩
      iexists g; iexact Hc
    ihave Hx := (Filled_next d L idxB (w := 8) 16) $$ Hx
    unfold Filled
    icases Hx with ⟨%g, %hg, Hx⟩
    iexists g
    iframe Hx
    ipureintro
    have hw := (works_iff L).1 h1
    have hc : cntI L = 1000 * cellCount (L 1) := if_pos hw
    rw [hc]
    have hcc : cellBase (L 1).val + cellCount (L 1).val ≤ 343 ∧ cellCount (L 1).val ≤ 22 := by
      have h16 : (L 1).val < 16 := (L 1).isLt
      unfold cellBase cellCount
      split <;> omega
    exact serves_of_good tb rb g (baseI L) _ 22 _ hcc.1 hcc.2 hg
  · iapply (wpt_neg d L h1)
    iapply le_wp_ret
    isplitr
    · ipureintro; exact chunksW_eq L
    icases Hx with ⟨%g, Hx⟩
    iframe Hs Hr Hc Hw HO
    iexists g
    iframe Hx
    ipureintro
    intro p hp
    rw [(works_iff L).2 h1] at hp
    omega

end Cert.Proof.Roi
-- ==== Proof.Tile.lean ====
module

public import proofs.«01_k».proof.Proof.IndexList

/-! The tile's whole task: from its share of the table and of the boxes, its rows of the result and its own buffers
and cells, to the same with the rows gathered. -/

@[expose] public section

noncomputable section

namespace Cert.Proof.Roi

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells)
open Idealize.ShloMosaic.ShareLeaves (leaf pointsTo_leaves)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F]

local notation "𝕄" => MM F

variable (d : Dev nD) (L : grid0.Coords)

/-- A share of a buffer is its eight leaves' at once. -/
theorem leaves8 {ℓ : Loc nD τ sig} (f : Buf (Elt F) ℓ) (q : PosShare TreeShare) :
    (ℓ ↦{q} f : sProp 𝕄) = iprop((ℓ ↦{leaf 3 q 0} f) ∗ (ℓ ↦{leaf 3 q 1} f) ∗ (ℓ ↦{leaf 3 q 2} f) ∗ (ℓ ↦{leaf 3 q 3} f) ∗ (ℓ ↦{leaf 3 q 4} f) ∗ (ℓ ↦{leaf 3 q 5} f) ∗ (ℓ ↦{leaf 3 q 6} f) ∗ (ℓ ↦{leaf 3 q 7} f)) := by
  rw [pointsTo_leaves Finset.univ f 3 q, show (Finset.univ : Finset (Fin (2 ^ 3))) = {0, 1, 2, 3, 4, 5, 6, 7} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

/-- The tile's transfer cells. -/
abbrev dcell (d : Dev nD) (L : grid0.Coords) (k : Fin 21) : GSem nD τ sig := (VT d L, SemLoc.dma (csem k.val k.isLt))

theorem dcell_mem (k : Fin 21) : dcell d L k ∈ ownCells (VT d L) :=
  mem_ownCells.mpr ⟨rfl, (show ∀ s : DmaSem sig, (SemLoc.dma s : SemLoc sig).isScoped .scVector = true by decide) _⟩

/-- The tile's cells that the body does not name. -/
def RestSems : sProp 𝕄 := bigSep (ownCells (VT d L) \ Finset.univ.image (dcell d L)) fun g => semVal g 0

theorem ownSems0_V : (ownSems0 (VT d L) : sProp 𝕄) = iprop((semVal (VT d L, SemLoc.dma (csem 0)) 0 ∗ semVal (VT d L, SemLoc.dma (csem 1)) 0 ∗ semVal (VT d L, SemLoc.dma (csem 2)) 0 ∗ semVal (VT d L, SemLoc.dma (csem 3)) 0 ∗ semVal (VT d L, SemLoc.dma (csem 4)) 0 ∗ semVal (VT d L, SemLoc.dma (csem 5)) 0 ∗ semVal (VT d L, SemLoc.dma (csem 6)) 0 ∗ semVal (VT d L, SemLoc.dma (csem 7)) 0 ∗ semVal (VT d L, SemLoc.dma (csem 8)) 0 ∗ semVal (VT d L, SemLoc.dma (csem 9)) 0 ∗ semVal (VT d L, SemLoc.dma (csem 10)) 0 ∗ semVal (VT d L, SemLoc.dma (csem 11)) 0 ∗ semVal (VT d L, SemLoc.dma (csem 12)) 0 ∗ semVal (VT d L, SemLoc.dma (csem 13)) 0 ∗ semVal (VT d L, SemLoc.dma (csem 14)) 0 ∗ semVal (VT d L, SemLoc.dma (csem 15)) 0 ∗ semVal (VT d L, SemLoc.dma (csem 16)) 0 ∗ semVal (VT d L, SemLoc.dma (csem 17)) 0 ∗ semVal (VT d L, SemLoc.dma (csem 18)) 0 ∗ semVal (VT d L, SemLoc.dma (csem 19)) 0 ∗ semVal (VT d L, SemLoc.dma (csem 20)) 0) ∗ RestSems d L) := by
  unfold SparseCore.Cfg.ownSems0 RestSems
  rw [SparseCore.bigSep_sdiff_split' (t := Finset.univ.image (dcell d L)) (Finset.image_subset_iff.mpr fun k _ => dcell_mem d L k),
    SparseCore.bigSep_image_of_injOn (fun a _ b _ h => by
      have := congrArg (fun g : GSem nD τ sig => g.2) h
      simp only [SemLoc.dma.injEq, Fin.mk.injEq] at this; exact Fin.ext this),
    show (Finset.univ : Finset (Fin 21)) = {0, 1, 2, 3, 4, 5, 6, 7, 8, 9, 10, 11, 12, 13, 14, 15, 16, 17, 18, 19, 20} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]
  rfl

/-- The tile's buffers that the body names. -/
abbrev tref : Fin 13 → Ref sig .scVector := fun k => ⟨.vmem, k, rfl⟩

/-- The tile's buffers that the body does not name. -/
def RestBufs : sProp 𝕄 :=
  bigSep (ownRefs (τ := τ) (.scVector (cV L) (jV L)) \ Finset.univ.image fun k => (Proc.scVector (cV L) (jV L)).devRef (tref k))
    fun b => iprop(∃ f, ((d, b) : Loc nD τ sig) ↦{fullShare} f)

theorem ownBufs_V : (ownBufs (VT d L) : sProp 𝕄)
    = iprop(((∃ f, (VT d L).loc cc0_scratch0 ↦{fullShare} f)
        ∗ (∃ f, (VT d L).loc cc0_scratch1 ↦{fullShare} f)
        ∗ (∃ f, (VT d L).loc cc0_scratch2 ↦{fullShare} f)
        ∗ (∃ f, (VT d L).loc cc0_scratch3 ↦{fullShare} f)
        ∗ (∃ f, (VT d L).loc cc0_scratch4 ↦{fullShare} f)
        ∗ (∃ f, (VT d L).loc cc0_scratch5 ↦{fullShare} f)
        ∗ (∃ f, (VT d L).loc cc0_scratch6 ↦{fullShare} f)
        ∗ (∃ f, (VT d L).loc cc0_scratch7 ↦{fullShare} f)
        ∗ (∃ f, (VT d L).loc cc0_scratch8 ↦{fullShare} f)
        ∗ (∃ f, (VT d L).loc cc0_scratch9 ↦{fullShare} f)
        ∗ (∃ f, (VT d L).loc cc0_scratch10 ↦{fullShare} f)
        ∗ (∃ f, (VT d L).loc cc0_scratch27 ↦{fullShare} f)
        ∗ (∃ f, (VT d L).loc cc0_scratch28 ↦{fullShare} f)) ∗ RestBufs d L) := by
  unfold SparseCore.Cfg.ownBufs RestBufs
  rw [SparseCore.bigSep_sdiff_split' (t := Finset.univ.image fun k => (Proc.scVector (cV L) (jV L)).devRef (tref k))
      (Finset.image_subset_iff.mpr fun k _ => SparseCore.Cfg.mem_ownRefs_of_owner (p := Proc.scVector (cV L) (jV L)) rfl),
    SparseCore.bigSep_image_of_injOn (fun a _ b _ h => by
      have h' := Proc.devRef_injective _ h
      revert h'
      exact (show ∀ a b : Fin 13, tref a = tref b → a = b by decide) a b),
    show (Finset.univ : Finset (Fin 13)) = {0, 1, 2, 3, 4, 5, 6, 7, 8, 9, 10, 11, 12} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

/-- The ring at its start: every buffer at rest, no row out. -/
theorem ring_start (O : CellTallies nD τ sig (HIx 1)) (W : Waits sig (HIx 1)) (tb : TabC F) (xf : LstC) (G f₀ : OutC F) (tq : PosShare TreeShare) :
    iprop(Idles d L tb xf tq fullShare ∗ OutAt d L (loI L) (loI L + cntI L) f₀ ∗ Own d L O W) ⊢ Ring8 d L O W tb xf G f₀ tq fullShare 0 := by
  have e (β : ℕ) : min 0 (nchI L) ≤ β := by omega
  unfold Ring8 Idles Buf0 Buf1 Buf2 Buf3 Buf4 Buf5 Buf6 Buf7 Buf8 Idle8 Flow St Done Rest
  simp only [e, if_true]
  rw [show loI L + 64 * min (0 - 7) (nchI L) = loI L by omega, show loI L + 64 * (min 0 (nchI L) - 8) = loI L by omega,
    show (OutAt d L (loI L) (loI L) G : sProp 𝕄) = iprop(emp) by
      unfold OutAt
      rw [show rowsIn (loI L) (loI L) = ∅ from Finset.eq_empty_of_forall_notMem fun x h => by rw [mem_rowsIn] at h; omega, pointsTo_empty]]
  iintro ⟨⟨H0, H1, H2, H3, H4, H5, H6, H7⟩, Hr, HO⟩
  iframe H0 H1 H2 H3 H4 H5 H6 H7 Hr HO

/-- The ring's eight buffers and their cells, and the table's share and the list: the ring at rest. -/
theorem idles_eq (tb : TabC F) (xf : LstC) (tq : PosShare TreeShare) :
    (Idles d L tb xf tq fullShare : sProp 𝕄)
      ⊣⊢ iprop(((∃ f, (VT d L).loc cc0_scratch3 ↦{fullShare} f) ∗ (∃ f, (VT d L).loc cc0_scratch4 ↦{fullShare} f) ∗ (∃ f, (VT d L).loc cc0_scratch5 ↦{fullShare} f) ∗ (∃ f, (VT d L).loc cc0_scratch6 ↦{fullShare} f) ∗ (∃ f, (VT d L).loc cc0_scratch7 ↦{fullShare} f) ∗ (∃ f, (VT d L).loc cc0_scratch8 ↦{fullShare} f) ∗ (∃ f, (VT d L).loc cc0_scratch9 ↦{fullShare} f) ∗ (∃ f, (VT d L).loc cc0_scratch10 ↦{fullShare} f))
        ∗ (semVal (VT d L, SemLoc.dma (csem 0)) 0 ∗ semVal (VT d L, SemLoc.dma (csem 1)) 0 ∗ semVal (VT d L, SemLoc.dma (csem 2)) 0 ∗ semVal (VT d L, SemLoc.dma (csem 3)) 0 ∗ semVal (VT d L, SemLoc.dma (csem 4)) 0 ∗ semVal (VT d L, SemLoc.dma (csem 5)) 0 ∗ semVal (VT d L, SemLoc.dma (csem 6)) 0 ∗ semVal (VT d L, SemLoc.dma (csem 7)) 0 ∗ semVal (VT d L, SemLoc.dma (csem 8)) 0 ∗ semVal (VT d L, SemLoc.dma (csem 9)) 0 ∗ semVal (VT d L, SemLoc.dma (csem 10)) 0 ∗ semVal (VT d L, SemLoc.dma (csem 11)) 0 ∗ semVal (VT d L, SemLoc.dma (csem 12)) 0 ∗ semVal (VT d L, SemLoc.dma (csem 13)) 0 ∗ semVal (VT d L, SemLoc.dma (csem 14)) 0 ∗ semVal (VT d L, SemLoc.dma (csem 15)) 0)
        ∗ ((tabV.view.loc (VT d L)) ↦{tq} (tb : Buf (Elt F) (tabV.view.loc (VT d L))))
        ∗ ((idxB.view.loc (VT d L)) ↦{fullShare} (xf : Buf (Elt F) (idxB.view.loc (VT d L))))) := by
  rw [leaves8 (F := F) (ℓ := tabV.view.loc (VT d L)) tb tq, leaves8 (F := F) (ℓ := idxB.view.loc (VT d L)) xf fullShare]
  unfold Idles Idle8 Idle Shares
  constructor
  · iintro ⟨⟨B0, G0, W0, T0, X0⟩, ⟨B1, G1, W1, T1, X1⟩, ⟨B2, G2, W2, T2, X2⟩, ⟨B3, G3, W3, T3, X3⟩, ⟨B4, G4, W4, T4, X4⟩, ⟨B5, G5, W5, T5, X5⟩, ⟨B6, G6, W6, T6, X6⟩, ⟨B7, G7, W7, T7, X7⟩⟩
    iframe B0 B1 B2 B3 B4 B5 B6 B7 T0 T1 T2 T3 T4 T5 T6 T7 X0 X1 X2 X3 X4 X5 X6 X7 G0 G1 G2 G3 G4 G5 G6 G7 W0 W1 W2 W3 W4 W5 W6 W7
  · iintro ⟨⟨B0, B1, B2, B3, B4, B5, B6, B7⟩, ⟨G0, G1, G2, G3, G4, G5, G6, G7, W0, W1, W2, W3, W4, W5, W6, W7⟩, ⟨T0, T1, T2, T3, T4, T5, T6, T7⟩, X0, X1, X2, X3, X4, X5, X6, X7⟩
    iframe B0 B1 B2 B3 B4 B5 B6 B7 T0 T1 T2 T3 T4 T5 T6 T7 X0 X1 X2 X3 X4 X5 X6 X7 G0 G1 G2 G3 G4 G5 G6 G7 W0 W1 W2 W3 W4 W5 W6 W7

/-- What a tile is given: its share of the table and of the boxes, and its rows of the result. -/
abbrev Piece (L : grid0.Coords) (q : PosShare TreeShare) (tb : TabC F) (rb : S8192.Idx → F .f32) (f : OutC F) : sProp 𝕄 :=
  iprop(((tabV.view.loc (VT d L)) ↦{q} (tb : Buf (Elt F) (tabV.view.loc (VT d L))))
    ∗ ((roisV.view.loc (VT d L)) ↦{q} (rb : Buf (Elt F) (roisV.view.loc (VT d L)))) ∗ OutAt d L (loI L) (loI L + cntI L) f)

/-- What the index phases need, and what the ring needs beside the list. -/
def Start (O : CellTallies nD τ sig (HIx 1)) (W : Waits sig (HIx 1)) (q : PosShare TreeShare) (tb : TabC F) (rb : S8192.Idx → F .f32) (f₀ : OutC F) : sProp 𝕄 :=
  iprop((□ Transfers.MayWaits (VT d L) (default : HIx 1) O ∗ RoisAt d L q rb ∗ (∃ f, (roiB.view.loc (VT d L)) ↦{fullShare} f)
      ∗ (∃ f, (ctrB.view.loc (VT d L)) ↦{fullShare} f) ∗ (∃ f, (idxB.view.loc (VT d L)) ↦{fullShare} f) ∗ semVal (VT d L, SemLoc.dma (csem 20)) 0 ∗ Own d L O W)
    ∗ ((∃ f, (VT d L).loc cc0_scratch3 ↦{fullShare} f) ∗ (∃ f, (VT d L).loc cc0_scratch4 ↦{fullShare} f) ∗ (∃ f, (VT d L).loc cc0_scratch5 ↦{fullShare} f) ∗ (∃ f, (VT d L).loc cc0_scratch6 ↦{fullShare} f) ∗ (∃ f, (VT d L).loc cc0_scratch7 ↦{fullShare} f) ∗ (∃ f, (VT d L).loc cc0_scratch8 ↦{fullShare} f) ∗ (∃ f, (VT d L).loc cc0_scratch9 ↦{fullShare} f) ∗ (∃ f, (VT d L).loc cc0_scratch10 ↦{fullShare} f))
    ∗ (semVal (VT d L, SemLoc.dma (csem 0)) 0 ∗ semVal (VT d L, SemLoc.dma (csem 1)) 0 ∗ semVal (VT d L, SemLoc.dma (csem 2)) 0 ∗ semVal (VT d L, SemLoc.dma (csem 3)) 0 ∗ semVal (VT d L, SemLoc.dma (csem 4)) 0 ∗ semVal (VT d L, SemLoc.dma (csem 5)) 0 ∗ semVal (VT d L, SemLoc.dma (csem 6)) 0 ∗ semVal (VT d L, SemLoc.dma (csem 7)) 0 ∗ semVal (VT d L, SemLoc.dma (csem 8)) 0 ∗ semVal (VT d L, SemLoc.dma (csem 9)) 0 ∗ semVal (VT d L, SemLoc.dma (csem 10)) 0 ∗ semVal (VT d L, SemLoc.dma (csem 11)) 0 ∗ semVal (VT d L, SemLoc.dma (csem 12)) 0 ∗ semVal (VT d L, SemLoc.dma (csem 13)) 0 ∗ semVal (VT d L, SemLoc.dma (csem 14)) 0 ∗ semVal (VT d L, SemLoc.dma (csem 15)) 0)
    ∗ ((tabV.view.loc (VT d L)) ↦{q} (tb : Buf (Elt F) (tabV.view.loc (VT d L)))) ∗ OutAt d L (loI L) (loI L + cntI L) f₀)

theorem start_wp (O : CellTallies nD τ sig (HIx 1)) (W : Waits sig (HIx 1)) (q : PosShare TreeShare) (tb : TabC F) (rb : S8192.Idx → F .f32) (f₀ : OutC F) :
    Start d L O W q tb rb f₀ ⊢ WPt d L (onArgs (k0_part70 (F := F) L)) fun v =>
      iprop(⌜v.2.2.1 = BitVec.ofNat 32 (nchI L)⌝ ∗ ∃ xf : LstC, ⌜Serves tb xf (gathered tb rb) (loI L) (cntI L)⌝
        ∗ Ring8 d L O W tb xf (gathered tb rb) f₀ q fullShare 0
        ∗ (RoisAt d L q rb ∗ (∃ f, (roiB.view.loc (VT d L)) ↦{fullShare} f) ∗ (∃ f, (ctrB.view.loc (VT d L)) ↦{fullShare} f) ∗ semVal (VT d L, SemLoc.dma (csem 20)) 0)) := by
  unfold Start
  iintro ⟨Hp, Hb, Hc, Ht, Ho⟩
  iapply (wp_wand_r Idealize.ShloMosaic.frame (wpE (defs₀ (F := F)) 𝒱₀ (VT d L) none) Set.univ)
  isplitl [Hp]
  · iapply (part70_wp d L O W q tb rb); iexact Hp
  iintro %v ⟨%hv, Hr, H0, H1, ⟨%xf, %hS, Hx⟩, Hs, HO⟩
  isplitr; · ipureintro; exact hv
  iexists xf
  isplitr; · ipureintro; exact hS
  iframe Hr H0 H1 Hs
  iapply (ring_start d L O W tb xf (gathered tb rb) f₀ q)
  iframe Ho HO
  iapply (idles_eq d L tb xf q).2
  iframe Hb Hc Ht Hx

theorem tile_body (hF : (K (F := F)).Facts) (q : PosShare TreeShare) (tb : TabC F) (rb : S8192.Idx → F .f32) (f₀ : OutC F)
    (O : CellTallies nD τ sig (HIx 1)) (W : Waits sig (HIx 1)) (hO : ∀ g, O g none = 0) :
    iprop(levAts (K (F := F)).L (K (F := F)).lev ∗ emp ∗ Piece d L q tb rb f₀ ∗ scopedBufs (VT d L) ∗ scopedSems0 (VT d L) ∗ owes (VT d L) O W)
      ⊢ WPt d L (onArgs (cc0__body (F := F) L)) fun _ => iprop(Piece d L q tb rb (gathered tb rb) ∗ scopedBufs (VT d L) ∗ scopedSems0 (VT d L)
            ∗ ∃ W', ⌜∀ p ∈ W', p ∈ W ∨ p.2 = none ∨ p.2 = some (0 : Fin 1)⌝ ∗ owes (VT d L) O W') := by
  rw [(K (F := F)).scopedBufs_V hF d (cV L) (jV L), SparseCore.Cfg.scopedSems0_V (Val := Elt F) d (cV L) (jV L), ownSems0_V, ownBufs_V]
  iintro ⟨#Hlv, -, ⟨Ht, Hr, Ho⟩, ⟨⟨B0, B1, B2, B3, B4, B5, B6, B7, B8, B9, B10, B27, B28⟩, Hbufs⟩, ⟨⟨C0, C1, C2, C3, C4, C5, C6, C7, C8, C9, C10, C11, C12, C13, C14, C15, C16, C17, C18, C19, C20⟩, Hsems⟩, HO⟩
  ihave #Hmw := (show levAts (K (F := F)).L (K (F := F)).lev ⊢ Transfers.MayWaits (VT d L) (default : HIx 1) O from
    (K (F := F)).mayWaits_none (thr := VT d L) hO) $$ Hlv
  iapply (wp_wand_r Idealize.ShloMosaic.frame (wpE (defs₀ (F := F)) 𝒱₀ (VT d L) none) Set.univ)
  isplitl [Ht Hr Ho B0 B1 B2 B3 B4 B5 B6 B7 B8 B9 B10 B27 B28 C0 C1 C2 C3 C4 C5 C6 C7 C8 C9 C10 C11 C12 C13 C14 C15 C16 C17 C18 C19 C20 HO]
  · iapply (body_wp d L O W tb (gathered tb rb) f₀ q fullShare (start_wp d L O W q tb rb f₀))
    isplitr; · imodintro; iexact Hmw
    isplitl [Ht Hr Ho B0 B1 B2 B3 B4 B5 B6 B7 B8 B9 B10 C0 C1 C2 C3 C4 C5 C6 C7 C8 C9 C10 C11 C12 C13 C14 C15 C20 HO]
    · unfold Start
      isplitl [Hr B0 B1 B2 C20 HO]
      · isplitr; · imodintro; iexact Hmw
        isplitl [Hr]; · unfold RoisAt; iexact Hr
        isplitl [B0]; · iexact B0
        isplitl [B1]; · iexact B1
        isplitl [B2]; · iexact B2
        isplitl [C20]; · iexact C20
        unfold Own
        iexists W
        isplitr; · ipureintro; exact fun p h => Or.inl h
        iexact HO
      iframe B3 B4 B5 B6 B7 B8 B9 B10 C0 C1 C2 C3 C4 C5 C6 C7 C8 C9 C10 C11 C12 C13 C14 C15 Ht Ho
    unfold Free48 Free8 Free
    iframe B27 B28 C16 C17 C18 C19
  iintro %_ ⟨⟨%xf, Hi⟩, Hf1, Hf2, Ho, HO, Hr, B0, B1, C20⟩
  ihave Hi' := (idles_eq d L tb xf q).1 $$ Hi
  icases Hi' with ⟨⟨B3, B4, B5, B6, B7, B8, B9, B10⟩, ⟨C0, C1, C2, C3, C4, C5, C6, C7, C8, C9, C10, C11, C12, C13, C14, C15⟩, Ht, Hx⟩
  unfold Free48 Free8 Free RoisAt Own
  icases Hf1 with ⟨B27, C16, C17⟩
  icases Hf2 with ⟨B28, C18, C19⟩
  icases HO with ⟨%W', %hW, HO⟩
  isplitl [Ht Hr Ho]; · iframe Ht Hr Ho
  isplitl [Hbufs B0 B1 Hx B3 B4 B5 B6 B7 B8 B9 B10 B27 B28]
  · iframe Hbufs
    isplitl [B0]; · iexact B0
    isplitl [B1]; · iexact B1
    isplitl [Hx]; · iexists _; iexact Hx
    iframe B3 B4 B5 B6 B7 B8 B9 B10 B27 B28
  isplitl [Hsems C0 C1 C2 C3 C4 C5 C6 C7 C8 C9 C10 C11 C12 C13 C14 C15 C16 C17 C18 C19 C20]
  · iframe Hsems C0 C1 C2 C3 C4 C5 C6 C7 C8 C9 C10 C11 C12 C13 C14 C15 C16 C17 C18 C19 C20
  iexists W'
  isplitr
  · ipureintro; intro p hp
    rcases hW p hp with h | h
    · exact .inl h
    · exact .inr (.inl h)
  iexact HO

end Cert.Proof.Roi
-- ==== Proof.Split.lean ====
module

public import proofs.«01_k».proof.Proof.Tile

/-! The whole table, the whole boxes and the whole result, as the tiles' pieces. -/

@[expose] public section

noncomputable section

namespace Cert.Proof.Roi

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells)
open Idealize.ShloMosaic.ShareLeaves (leaf pointsTo_leaves)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F]

local notation "𝕄" => MM F

variable (d : Dev nD) (L : grid0.Coords)

/-- The tile of core `c`, subcore `s`. -/
def coordsV (c : Fin 2) (s : Fin 16) : grid0.Coords :=
  fun | 0 => c | 1 => s | ⟨_ + 2, h⟩ => absurd h (Nat.not_lt.2 (Nat.le_add_left _ _))

/-- A tile's share of what all tiles read. -/
abbrev tileQ (p : Fin 2 × Fin 16) : PosShare TreeShare := leaf 5 fullShare ((finProdFinEquiv : Fin 2 × Fin 16 ≃ Fin (2 * 16)) p : Fin (2 * 16))

/-- A tile's rows of the result. -/
abbrev tileRows (p : Fin 2 × Fin 16) : Finset S343000x128.Idx :=
  rowsIn (loI (coordsV p.1 p.2)) (loI (coordsV p.1 p.2) + cntI (coordsV p.1 p.2))

theorem tileRows_disjoint : ∀ p ∈ (Finset.univ : Finset (Fin 2 × Fin 16)), ∀ p' ∈ (Finset.univ : Finset (Fin 2 × Fin 16)), p ≠ p' →
    Disjoint (tileRows p) (tileRows p') := by
  have h : ∀ c c' : Fin 2, ∀ s s' : Fin 16, (c, s) ≠ (c', s') →
      loI (coordsV c s) + cntI (coordsV c s) ≤ loI (coordsV c' s') ∨ loI (coordsV c' s') + cntI (coordsV c' s') ≤ loI (coordsV c s)
        ∨ cntI (coordsV c s) = 0 ∨ cntI (coordsV c' s') = 0 := by decide +kernel
  rintro ⟨c, s⟩ - ⟨c', s'⟩ - hne
  rw [Finset.disjoint_left]
  intro x
  simp only [mem_rowsIn]
  have := h c c' s s' hne
  omega

theorem tileRows_cover : (Finset.univ : Finset (Fin 2 × Fin 16)).biUnion tileRows = Finset.univ := by
  refine Finset.eq_univ_of_forall fun x => Finset.mem_biUnion.mpr ?_
  have hx : (x 0).val < 343000 := (x 0).isLt
  have e (s : Fin 16) : loI (coordsV 0 s) = 1000 * cellBase s.val ∧ cntI (coordsV 0 s) = 1000 * cellCount s.val := ⟨rfl, if_pos rfl⟩
  by_cases h : (x 0).val / 1000 < 154
  · refine ⟨(0, ⟨(x 0).val / 1000 / 22, by omega⟩), Finset.mem_univ _, mem_rowsIn.mpr ?_⟩
    rw [(e _).1, (e _).2]
    unfold cellBase cellCount
    rw [if_pos (show (x 0).val / 1000 / 22 < 7 by omega), if_pos (show (x 0).val / 1000 / 22 < 7 by omega)]
    dsimp only
    omega
  · refine ⟨(0, ⟨((x 0).val / 1000 - 7) / 21, by omega⟩), Finset.mem_univ _, mem_rowsIn.mpr ?_⟩
    rw [(e _).1, (e _).2]
    unfold cellBase cellCount
    rw [if_neg (show ¬ ((x 0).val / 1000 - 7) / 21 < 7 by omega), if_neg (show ¬ ((x 0).val / 1000 - 7) / 21 < 7 by omega)]
    dsimp only
    omega

/-- A buffer whole is the tiles' shares of it. -/
theorem shares_eq {ℓ : Loc nD τ sig} (f : Buf (Elt F) ℓ) :
    (ℓ ↦{fullShare} f : sProp 𝕄) = bigSep Finset.univ fun c : Fin 2 => bigSep Finset.univ fun s : Fin 16 => ℓ ↦{tileQ (c, s)} f := by
  rw [pointsTo_leaves Finset.univ f 5 fullShare]
  refine (BI.bigSep_univ_equiv (finProdFinEquiv : Fin 2 × Fin 16 ≃ Fin (2 * 16)) (fun i : Fin (2 * 16) => (ℓ ↦{leaf 5 fullShare i} f : sProp 𝕄))).trans ?_
  rw [BI.bigSep_univ_prod]

abbrev tabLoc (d : Dev nD) : Loc nD τ sig := (SparseCore.T d).loc main_v1
abbrev roisLoc (d : Dev nD) : Loc nD τ sig := (SparseCore.T d).loc main_v3
abbrev outLoc (d : Dev nD) : Loc nD τ sig := (SparseCore.T d).loc main_v4

/-- The result whole is the tiles' rows of it. -/
theorem rows_eq (f : Buf (Elt F) (outLoc d)) :
    (outLoc d ↦{fullShare} f : sProp 𝕄) = bigSep Finset.univ fun c : Fin 2 => bigSep Finset.univ fun s : Fin 16 => outLoc d ↦[tileRows (c, s)]{fullShare} f := by
  rw [← BI.bigSep_univ_prod (fun p : Fin 2 × Fin 16 => (outLoc d ↦[tileRows p]{fullShare} f : sProp 𝕄)),
    ← pointsTo_biUnion Finset.univ (ℓ := outLoc d) tileRows tileRows_disjoint, tileRows_cover]
  try rfl

/-- What core `c` is given: its tiles' pieces. -/
abbrev CorePiece (d : Dev nD) (c : Fin 2) (tb : TabC F) (rb : S8192.Idx → F .f32) (f : OutC F) : sProp 𝕄 :=
  bigSep Finset.univ fun s : Fin 16 => Piece d (coordsV c s) (tileQ (c, s)) tb rb f

/-- The three arrays of the call, whole, are the cores' pieces. -/
theorem pieces_eq (tb : TabC F) (rb : S8192.Idx → F .f32) (f : OutC F) :
    (iprop((tabLoc d ↦{fullShare} (tb : Buf (Elt F) (tabLoc d))) ∗ (roisLoc d ↦{fullShare} (rb : Buf (Elt F) (roisLoc d)))
        ∗ (outLoc d ↦{fullShare} (f : Buf (Elt F) (outLoc d)))) : sProp 𝕄)
      = bigSep Finset.univ fun c : Fin 2 => CorePiece d c tb rb f := by
  rw [shares_eq (F := F) (ℓ := tabLoc d) tb, shares_eq (F := F) (ℓ := roisLoc d) rb, rows_eq]
  unfold CorePiece Piece
  simp only [bigSep_sep']
  rfl

end Cert.Proof.Roi
-- ==== Proof.Launch.lean ====
module

public import proofs.«01_k».proof.Proof.Split

/-! The launch: what the call carries to the tiles and back, the host's operations around it, and the run whole. -/

@[expose] public section

noncomputable section

namespace Cert.Proof.Roi

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells)
open Idealize.ShloMosaic.ShareLeaves (leaf pointsTo_leaves)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr wp_hlo_within)
open Idealize.ShloMosaic.Tactic

variable {F : FTy → Type} [FloatOps F] [Named F]

local notation "𝕄" => MM F

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide, fun _ => rfl⟩

theorem nCore_zero : (K (F := F)).nCore 0 = 2 := rfl
theorem nSub_zero : (K (F := F)).nSub 0 = 16 := rfl

/-! ## The host's operations -/

abbrev dr (r : Ref sig .tc) : DevRef τ sig := Proc.devRef .tc r

abbrev opTr : HloOp τ sig (Elt F) := StableHlo.unary main_arg0 main_v0 ((transpose S2x32x64x64x128 [0, 2, 3, 4, 1] · transposes_S2x128x32x64x64_S2x32x64x64x128_0_2_3_4_1) : (⟨S2x128x32x64x64, .f32⟩ : BufTy).Contents (Elt F) → (⟨S2x32x64x64x128, .f32⟩ : BufTy).Contents (Elt F))
abbrev opTab : HloOp τ sig (Elt F) := StableHlo.reshape main_v0 main_v1 (rfl : (.f32 : EltTy) = .f32) shapeCasts_S2x32x64x64x128_S262144x128
abbrev opZero : HloOp τ sig (Elt F) := StableHlo.nullary main_c (constantI S_ 32 0#32)
abbrev opConv : HloOp τ sig (Elt F) := StableHlo.TRef.unary (.of main_c : StableHlo.TRef sig ⟨S_, .i32⟩) main_call0.v0 (sitofp .f32)
abbrev opPad : HloOp τ sig (Elt F) := StableHlo.TRef.binary (.of main_arg1 : StableHlo.TRef sig ⟨S1000x7, .f32⟩) main_call0.v0 main_call0.v1 (fun x v => pad S1024x8 ![0, 0] ![24, 1] ![0, 0] x v pads_S1000x7_S1024x8_0240_010 h_S_)
abbrev opRois : HloOp τ sig (Elt F) := StableHlo.reshape main_v2 main_v3 (rfl : (.f32 : EltTy) = .f32) shapeCasts_S1024x8_S8192
abbrev opGrid : HloOp τ sig (Elt F) := StableHlo.reshape main_v4 main_v5 (rfl : (.f32 : EltTy) = .f32) shapeCasts_S343000x128_S7x7x7x1000x128
abbrev opOut : HloOp τ sig (Elt F) := StableHlo.unary main_v5 main_v6 ((transpose S1000x128x7x7x7 [3, 4, 0, 1, 2] · transposes_S7x7x7x1000x128_S1000x128x7x7x7_3_4_0_1_2) : (⟨S7x7x7x1000x128, .f32⟩ : BufTy).Contents (Elt F) → (⟨S1000x128x7x7x7, .f32⟩ : BufTy).Contents (Elt F))

abbrev SAll : Finset (DevRef τ sig) :=
  {dr main_arg0, dr main_arg1, dr main_v0, dr main_v1, dr main_c, dr main_call0_v0, dr main_v2, dr main_v3, dr main_v4, dr main_v5, dr main_v6}
abbrev SCall : Finset (DevRef τ sig) := {dr main_v1, dr main_v3, dr main_v4}
abbrev SFin : Finset (DevRef τ sig) := {dr main_arg0, dr main_arg1, dr main_v6}

variable (m : (ℓ : Loc nD τ sig) → Buf (Elt F) ℓ) (ρ : Dev nD → PrngReg)

/-- What the device's arrays hold: at the launch, at the call, after the call, at the end. -/
def V0 (d : Dev nD) : Valuation τ sig (Elt F) := fun b => m (d, b)
def V1 (d : Dev nD) : Valuation τ sig (Elt F) :=
  (opRois (F := F)).result ((opPad (F := F)).result ((opConv (F := F)).result ((opZero (F := F)).result ((opTab (F := F)).result ((opTr (F := F)).result (V0 m d))))))
abbrev tbOf (d : Dev nD) : TabC F := V1 m d (dr main_v1)
abbrev rbOf (d : Dev nD) : S8192.Idx → F .f32 := V1 m d (dr main_v3)
abbrev outOf (d : Dev nD) : OutC F := V1 m d (dr main_v4)
abbrev G (d : Dev nD) : OutC F := gathered (tbOf m d) (rbOf m d)
def V2 (d : Dev nD) : Valuation τ sig (Elt F) := Function.update (V1 m d) (dr main_v4) (G m d)
def V3 (d : Dev nD) : Valuation τ sig (Elt F) := (opOut (F := F)).result ((opGrid (F := F)).result (V2 m d))

/-! ## What the call carries -/

def P : (K (F := F)).Pay (nD := nD) (Val := Elt F) (Name := ℕ) (U := UU) where
  st := fun q d c => match q with | 0 => CorePiece d (Fin.cast nCore_zero c) (tbOf m d) (rbOf m d) (outOf m d)
  dn := fun q d c => match q with | 0 => CorePiece d (Fin.cast nCore_zero c) (tbOf m d) (rbOf m d) (G m d)
  go := fun q d c i => match q with
    | 0 => Piece d (coordsV (Fin.cast nCore_zero c) (Fin.cast nSub_zero i)) (tileQ (Fin.cast nCore_zero c, Fin.cast nSub_zero i)) (tbOf m d) (rbOf m d) (outOf m d)
  td := fun q d c i => match q with
    | 0 => Piece d (coordsV (Fin.cast nCore_zero c) (Fin.cast nSub_zero i)) (tileQ (Fin.cast nCore_zero c, Fin.cast nSub_zero i)) (tbOf m d) (rbOf m d) (G m d)
  x := fun _ _ => iprop(emp)

/-- A piece's parts are plain ownership of memory, so a handshake may carry it. -/
instance piece_storable (d : Dev nD) (L : grid0.Coords) (q : PosShare TreeShare) (tb : TabC F) (rb : S8192.Idx → F .f32) (f : OutC F) :
    BI.Storable (upEmb : UEmb _ 𝕄) (Piece d L q tb rb f) := by
  unfold Piece OutAt
  infer_instance

instance P_storable : (P (F := F) m).IsStorable where
  st q d c := match q with
    | 0 => (inferInstance : BI.Storable (upEmb : UEmb _ 𝕄) (CorePiece d (Fin.cast nCore_zero c) (tbOf m d) (rbOf m d) (outOf m d)))
  dn q d c := match q with
    | 0 => (inferInstance : BI.Storable (upEmb : UEmb _ 𝕄) (CorePiece d (Fin.cast nCore_zero c) (tbOf m d) (rbOf m d) (G m d)))
  go q d c i := match q with
    | 0 => piece_storable d (coordsV (Fin.cast nCore_zero c) (Fin.cast nSub_zero i)) (tileQ (Fin.cast nCore_zero c, Fin.cast nSub_zero i)) (tbOf m d) (rbOf m d) (outOf m d)
  td q d c i := match q with
    | 0 => piece_storable d (coordsV (Fin.cast nCore_zero c) (Fin.cast nSub_zero i)) (tileQ (Fin.cast nCore_zero c, Fin.cast nSub_zero i)) (tbOf m d) (rbOf m d) (G m d)

/-! ## The tasks -/

theorem defs₀_vector (c : Fin τ.nSC) (s : Fin τ.nSub) :
    defs₀ (F := F) (.scVector c s) 0 () = SparseCore.onTile hcore0 hsub0 (fun c s => onArgs (cc0__body (F := F) (coordsV c s))) ⟨⟩ c s := rfl

theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body d (coordsV ⟨_, hci.1⟩ ⟨_, hci.2⟩) hF _ (tbOf m d) (rbOf m d) (outOf m d) O W hO

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem bigSep_cores (Φ : Fin 2 → sProp 𝕄) :
    (bigSep Finset.univ fun i : Fin ((K (F := F)).nCore 0) => Φ (Fin.cast nCore_zero i)) = bigSep Finset.univ Φ :=
  bigSep_congr fun _ _ => congrArg Φ (Fin.ext rfl)

theorem vecSplit : (K (F := F)).VecSplit' (P m) 0 := by
  intro d c
  show CorePiece d (Fin.cast nCore_zero c) (tbOf m d) (rbOf m d) (outOf m d) ⊢ |={Set.univ}=> iprop(
      (bigSep Finset.univ fun i : Fin ((K (F := F)).nSub 0) =>
        (fun s => Piece d (coordsV (Fin.cast nCore_zero c) s) (tileQ (Fin.cast nCore_zero c, s)) (tbOf m d) (rbOf m d) (outOf m d)) (Fin.cast nSub_zero i))
      ∗ ((bigSep Finset.univ fun i : Fin ((K (F := F)).nSub 0) =>
          (fun s => Piece d (coordsV (Fin.cast nCore_zero c) s) (tileQ (Fin.cast nCore_zero c, s)) (tbOf m d) (rbOf m d) (G m d)) (Fin.cast nSub_zero i))
          -∗ CorePiece d (Fin.cast nCore_zero c) (tbOf m d) (rbOf m d) (G m d)))
  rw [bigSep_tasks (F := F) (fun s => Piece d (coordsV (Fin.cast nCore_zero c) s) (tileQ (Fin.cast nCore_zero c, s)) (tbOf m d) (rbOf m d) (outOf m d)),
    bigSep_tasks (F := F) (fun s => Piece d (coordsV (Fin.cast nCore_zero c) s) (tileQ (Fin.cast nCore_zero c, s)) (tbOf m d) (rbOf m d) (G m d))]
  iintro H; imodintro
  isplitl [H]; · iexact H
  iintro H; iexact H

/-! ## The launch element -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The program on the TensorCore -/

theorem held_all (d : Dev nD) : (unscopedBufs d (fun b => m ((SparseCore.T d).loc b)) : sProp 𝕄) = held (SparseCore.T d) SAll (V0 m d) := by
  unfold unscopedBufs held SAll
  rw [show (Finset.univ.filter fun b : Ref sig .tc => ¬ b.isScoped)
      = {main_arg0, main_arg1, main_v0, main_v1, main_c, main_call0_v0, main_v2, main_v3, main_v4, main_v5, main_v6} by decide]
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton, bigSep_singleton]
  rfl

theorem held_call (d : Dev nD) (V : Valuation τ sig (Elt F)) :
    (held (SparseCore.T d) SCall V : sProp 𝕄) = iprop((tabLoc d ↦{fullShare} V (dr main_v1)) ∗ (roisLoc d ↦{fullShare} V (dr main_v3)) ∗ (outLoc d ↦{fullShare} V (dr main_v4))) := by
  unfold held SCall
  rw [SparseCore.bigSep_insert' (by decide), SparseCore.bigSep_insert' (by decide), bigSep_singleton]

theorem held_fin (d : Dev nD) (V : Valuation τ sig (Elt F)) :
    (held (SparseCore.T d) SFin V : sProp 𝕄) = iprop(((SparseCore.T d).loc main_arg0 ↦{fullShare} V (dr main_arg0)) ∗ ((SparseCore.T d).loc main_arg1 ↦{fullShare} V (dr main_arg1))
      ∗ ((SparseCore.T d).loc main_v6 ↦{fullShare} V (dr main_v6))) := by
  unfold held SFin
  rw [SparseCore.bigSep_insert' (by decide), SparseCore.bigSep_insert' (by decide), bigSep_singleton]

theorem st0_eq (d : Dev nD) : (bigSep Finset.univ fun c : Fin ((K (F := F)).nCore 0) => (P m).st 0 d c) = (held (SparseCore.T d) SCall (V1 m d) : sProp 𝕄) := by
  rw [held_call]
  exact (bigSep_cores (fun c => CorePiece d c (tbOf m d) (rbOf m d) (outOf m d))).trans (pieces_eq d (tbOf m d) (rbOf m d) (outOf m d)).symm

theorem V2_v1 (d : Dev nD) : V2 m d (dr main_v1) = V1 m d (dr main_v1) := Function.update_of_ne (show dr main_v1 ≠ dr main_v4 by decide) _ _
theorem V2_v3 (d : Dev nD) : V2 m d (dr main_v3) = V1 m d (dr main_v3) := Function.update_of_ne (show dr main_v3 ≠ dr main_v4 by decide) _ _
theorem V2_v4 (d : Dev nD) : V2 m d (dr main_v4) = G m d := Function.update_self _ _ _

theorem dn0_eq (d : Dev nD) : (bigSep Finset.univ fun c : Fin ((K (F := F)).nCore 0) => (P m).dn 0 d c) = (held (SparseCore.T d) SCall (V2 m d) : sProp 𝕄) := by
  rw [held_call, V2_v1, V2_v3, V2_v4]
  exact (bigSep_cores (fun c => CorePiece d c (tbOf m d) (rbOf m d) (G m d))).trans (pieces_eq d (tbOf m d) (rbOf m d) (G m d)).symm

theorem held_rest (d : Dev nD) : (held (SparseCore.T d) (SAll \ SCall) (V1 m d) : sProp 𝕄) = held (SparseCore.T d) (SAll \ SCall) (V2 m d) :=
  held_congr (SparseCore.T d) fun b hb => (Function.update_of_ne (fun e => by rw [e] at hb; exact absurd hb (by decide)) _ _).symm

theorem call_split (d : Dev nD) :
    (held (SparseCore.T d) SAll ((opRois (F := F)).result ((opPad (F := F)).result ((opConv (F := F)).result ((opZero (F := F)).result
        ((opTab (F := F)).result ((opTr (F := F)).result (V0 m d))))))) : sProp 𝕄)
      = iprop(held (SparseCore.T d) SCall (V1 m d) ∗ held (SparseCore.T d) (SAll \ SCall) (V1 m d)) :=
  held_sub_split (SparseCore.T d) (by decide) (V1 m d)

theorem fin_split (d : Dev nD) :
    (held (SparseCore.T d) SAll ((opOut (F := F)).result ((opGrid (F := F)).result (V2 m d))) : sProp 𝕄)
      = iprop(held (SparseCore.T d) SFin (V3 m d) ∗ held (SparseCore.T d) (SAll \ SFin) (V3 m d)) :=
  held_sub_split (SparseCore.T d) (by decide) (V3 m d)

/-- What @main leaves the claim. -/
abbrev FIN (d : Dev nD) : sProp 𝕄 := held (SparseCore.T d) SFin (V3 m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [held_all]
  simp only [main, fn_pad.body, wp_bind, wp_pure]
  iintro ⟨#Hctx, Hst, ⟨Hb, Hh, Hts, -⟩, -⟩
  iapply (wp_hlo_within 𝒱 (SparseCore.T d) none Set.univ (op := opTr) (S := SAll) (show ({dr main_arg0, dr main_v0} : Finset (DevRef τ sig)) ⊆ SAll by decide)) $$ [Hb Hh]
  · iframe Hb Hh
  iintro ⟨Hb, Hh⟩
  rw [wp_ret]; imodintro
  iapply (wp_hlo_within 𝒱 (SparseCore.T d) none Set.univ (op := opTab) (S := SAll) (show ({dr main_v0, dr main_v1} : Finset (DevRef τ sig)) ⊆ SAll by decide)) $$ [Hb Hh]
  · iframe Hb Hh
  iintro ⟨Hb, Hh⟩
  rw [wp_ret]; imodintro
  iapply (wp_hlo_within 𝒱 (SparseCore.T d) none Set.univ (op := opZero) (S := SAll) (show ({dr main_c} : Finset (DevRef τ sig)) ⊆ SAll by decide)) $$ [Hb Hh]
  · iframe Hb Hh
  iintro ⟨Hb, Hh⟩
  rw [wp_ret]; imodintro
  iapply (wp_hlo_within 𝒱 (SparseCore.T d) none Set.univ (op := opConv) (S := SAll) (show ({dr main_c, dr main_call0_v0} : Finset (DevRef τ sig)) ⊆ SAll by decide)) $$ [Hb Hh]
  · iframe Hb Hh
  iintro ⟨Hb, Hh⟩
  rw [wp_ret]; imodintro
  iapply (wp_hlo_within 𝒱 (SparseCore.T d) none Set.univ (op := opPad) (S := SAll) (show ({dr main_arg1, dr main_call0_v0, dr main_v2} : Finset (DevRef τ sig)) ⊆ SAll by decide)) $$ [Hb Hh]
  · iframe Hb Hh
  iintro ⟨Hb, Hh⟩
  rw [wp_ret]; imodintro; imodintro
  iapply (wp_hlo_within 𝒱 (SparseCore.T d) none Set.univ (op := opRois) (S := SAll) (show ({dr main_v2, dr main_v3} : Finset (DevRef τ sig)) ⊆ SAll by decide)) $$ [Hb Hh]
  · iframe Hb Hh
  iintro ⟨Hb, Hh⟩
  rw [wp_ret]; imodintro
  ihave Hh := (Entails.of_eq (call_split m d)) $$ Hh
  icases Hh with ⟨Hc, Hr⟩
  iapply ((K (F := F)).wp_run (D (F := F)) 𝒱 (EH := EH) (P := P m) κ d 0) $$ [Hst Hc Hb Hr Hts]
  isplitr; · iexact Hctx
  isplitl [Hst]; · iexact Hst
  isplitl [Hc]; · rw [st0_eq]; iexact Hc
  iintro ⟨Hst, Hdn⟩
  ihave Hc := (Entails.of_eq (dn0_eq m d)) $$ Hdn
  ihave Hr := (Entails.of_eq (held_rest m d)) $$ Hr
  ihave Hh := (Entails.of_eq (show iprop(held (SparseCore.T d) SCall (V2 m d) ∗ held (SparseCore.T d) (SAll \ SCall) (V2 m d)) = held (SparseCore.T d) SAll (V2 m d) from (held_sub_split (SparseCore.T d) (by decide) _).symm)) $$ [Hc Hr]
  · iframe Hc Hr
  iapply (wp_hlo_within 𝒱 (SparseCore.T d) none Set.univ (op := opGrid) (S := SAll) (show ({dr main_v4, dr main_v5} : Finset (DevRef τ sig)) ⊆ SAll by decide)) $$ [Hb Hh]
  · iframe Hb Hh
  iintro ⟨Hb, Hh⟩
  rw [wp_ret]; imodintro
  iapply (wp_hlo_within 𝒱 (SparseCore.T d) none Set.univ (op := opOut) (S := SAll) (show ({dr main_v5, dr main_v6} : Finset (DevRef τ sig)) ⊆ SAll by decide)) $$ [Hb Hh]
  · iframe Hb Hh
  iintro ⟨Hb, Hh⟩
  rw [wp_ret]; imodintro
  ihave Hh := (Entails.of_eq (fin_split m d)) $$ Hh
  icases Hh with ⟨Hf, -⟩
  imodintro
  isplitl [Hst]; · iexact Hst
  isplitl [Hf]; · iexact Hf
  isplitl [Hb] <;> iassumption

/-! ## The run -/

theorem V3_arg (d : Dev nD) (r : Ref sig .tc) (hr : ∀ y ∈ [main_v0, main_v1, main_c, main_call0_v0, main_v2, main_v3, main_v4, main_v5, main_v6], r ≠ y) :
    V3 m d (dr r) = m ((SparseCore.T d).loc r) := by
  have n (y : Ref sig .tc) (hy : r ≠ y) : dr r ∉ ({dr y} : Finset (DevRef τ sig)) := by
    rw [Finset.mem_singleton]; exact StableHlo.devRef_ne_of_ne hy
  simp only [List.forall_mem_cons] at hr
  obtain ⟨h0, h1, hc, hk, h2, h3, h4, h5, h6, -⟩ := hr
  unfold V3
  rw [HloOp.result_of_not_mem _ _ (n main_v6 h6), HloOp.result_of_not_mem _ _ (n main_v5 h5)]
  unfold V2 V1
  rw [Function.update_of_ne (StableHlo.devRef_ne_of_ne h4), HloOp.result_of_not_mem _ _ (n main_v3 h3), HloOp.result_of_not_mem _ _ (n main_v2 h2),
    HloOp.result_of_not_mem _ _ (n main_call0_v0 hk), HloOp.result_of_not_mem _ _ (n main_c hc), HloOp.result_of_not_mem _ _ (n main_v1 h1),
    HloOp.result_of_not_mem _ _ (n main_v0 h0)]
  rfl

/-- The arguments as at the launch, the result at what the host's last operations make of the gathered rows. -/
def fq (d : Dev nD) (s' : Phys nD τ sig (Elt F)) : Prop :=
  s'.mem.mem ((SparseCore.T d).loc main_arg0) = m ((SparseCore.T d).loc main_arg0) ∧ s'.mem.mem ((SparseCore.T d).loc main_arg1) = m ((SparseCore.T d).loc main_arg1)
    ∧ s'.mem.mem ((SparseCore.T d).loc main_v6) = V3 m d (dr main_v6)

theorem hfin (d : Dev nD) (s' : Phys nD τ sig (Elt F)) : iprop(FIN m d ∗ SI s') ⊢ (⌜fq m d s'⌝ : sProp 𝕄) := by
  unfold FIN
  rw [held_fin]
  iintro ⟨⟨H0, H1, H6⟩, HSI⟩
  ihave H := (persistent_entails_right (SI_pointsTo_agree (st := s') (ℓ := (SparseCore.T d).loc main_arg0) (I := Finset.univ) (q := fullShare) (f := V3 m d (dr main_arg0)))) $$ [HSI H0]
  · isplitl [HSI] <;> iassumption
  icases H with ⟨%h0, HSI, -⟩
  ihave H := (persistent_entails_right (SI_pointsTo_agree (st := s') (ℓ := (SparseCore.T d).loc main_arg1) (I := Finset.univ) (q := fullShare) (f := V3 m d (dr main_arg1)))) $$ [HSI H1]
  · isplitl [HSI] <;> iassumption
  icases H with ⟨%h1, HSI, -⟩
  ihave H := (SI_pointsTo_agree (st := s') (ℓ := (SparseCore.T d).loc main_v6) (I := Finset.univ) (q := fullShare) (f := V3 m d (dr main_v6))) $$ [HSI H6]
  · isplitl [HSI] <;> iassumption
  icases H with %h6
  ipureintro
  exact ⟨(funext fun i => h0 i (Finset.mem_univ i)).trans (V3_arg m d main_arg0 (by decide)),
    (funext fun i => h1 i (Finset.mem_univ i)).trans (V3_arg m d main_arg1 (by decide)), funext fun i => h6 i (Finset.mem_univ i)⟩

/-- What every run ends with. -/
def QC : PUnit × MemSt nD τ sig (Elt F) → Prop := fun r =>
  (∀ c : Dev nD, r.2.mem ((SparseCore.T c).loc main_arg0) = m ((SparseCore.T c).loc main_arg0) ∧ r.2.mem ((SparseCore.T c).loc main_arg1) = m ((SparseCore.T c).loc main_arg1)
    ∧ r.2.mem ((SparseCore.T c).loc main_v6) = V3 m c (dr main_v6)) ∧ r.2.sem = fun _ => 0

theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Roi
-- ==== Proof.KernelFrame.lean ====
module

public import proofs.«01_k».proof.Proof.Gen.Kernel
public import proofs.«01_k».proof.Proof.Launch

/-! The kernel as printed runs: it is the idealized program with each named constant read as its bits. -/

@[expose] public section

noncomputable section

namespace Cert.Proof.Roi

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells)
open Idealize.ShloMosaic.ShareLeaves (leaf pointsTo_leaves)
open Idealize.SL Idealize.SL.RA Idealize.SL.BI
open scoped Idealize.SL.BI
open Idealize.SL.BI.BIBase Idealize.SL.BI.Laws Idealize.SL.ProofMode Idealize.SL.Sem
open Idealize.ShloMosaic.Tactic

/-- A named constant, on bit patterns, is its bits. -/
local instance namedBits : Named Bits where
  named _ _ _ bits := FloatOps.ofBits _ bits

theorem frame_kernel : Cert.quiescent_Kernel (hKernel := Cert.Kernel.Gen.facts) := fun m ρ _ =>
  (θ_run Cert.KernelIdeal.defs _ _).mono (fun _ h => ⟨fun c => ⟨(h.1 c).1, (h.1 c).2.1⟩, h.2⟩) (run_main (F := Bits) m ρ)

end Cert.Proof.Roi
-- ==== Proof.Frames.lean ====
module

public import proofs.«01_k».proof.Proof.Gen.ReferenceIdeal.Run
public import proofs.«01_k».proof.Proof.Gen.Pre_names_a_sample
public import proofs.«01_k».proof.Proof.Launch

/-! The frames at the ideal instance, and what the named constants stand for. -/

@[expose] public section

noncomputable section

namespace Cert.Proof.Roi

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells)
open Idealize.ShloMosaic.ShareLeaves (leaf pointsTo_leaves)
open Idealize.SL Idealize.SL.RA Idealize.SL.BI
open scoped Idealize.SL.BI
open Idealize.SL.BI.BIBase Idealize.SL.BI.Laws Idealize.SL.ProofMode Idealize.SL.Sem
open Idealize.ShloMosaic.Tactic

/-- The kernel at the ideal instance runs, keeps its arguments and leaves every counter at zero. -/
theorem frame_ideal : Cert.quiescent_KernelIdeal := fun m ρ _ =>
  (θ_run Cert.KernelIdeal.defs _ _).mono (fun _ h => ⟨fun c => ⟨(h.1 c).1, (h.1 c).2.1⟩, h.2⟩) (run_main (F := Ideal) m ρ)

theorem frame_ideal_pre : Cert.quiescent_KernelIdeal_pre_names_a_sample := fun m ρ _ => frame_ideal m ρ trivial

/-- The reference runs and keeps its arguments; it has no counters. -/
theorem frame_ref : Cert.quiescent_ReferenceIdeal := fun m ρ _ =>
  (θ_run Cert.ReferenceIdeal.defs _ _).mono (fun r h => ⟨fun c => ⟨(h c).2.1, (h c).2.2⟩, Idealize.ShloMosaic.sem_eq_zero_of_no_sems (by decide) r.2⟩)
    (Cert.ReferenceIdeal.Value.run (F := Ideal) m ρ)

theorem frame_ref_pre : Cert.quiescent_ReferenceIdeal_pre_names_a_sample := fun m ρ _ => frame_ref m ρ trivial

/-- Each named constant's value is what its bits round. -/
theorem preserves : Cert.preserves_Kernel_KernelIdeal :=
  ⟨IdealRules.named_const.statement _ _ _ _ _ rfl, IdealRules.named_const.statement _ _ _ _ _ rfl, IdealRules.named_const.statement _ _ _ _ _ rfl,
    IdealRules.named_const.statement _ _ _ _ _ rfl⟩

end Cert.Proof.Roi
-- ==== Proof.KernelValue.lean ====
module

public import proofs.«01_k».proof.Proof.Launch
public import Idealize.ShloMosaic.Lib.KernelVsHost
public import Idealize.ShloMosaic.Lib.ValueIdxCore
public import Idealize.ShloMosaic.Lib.Pipeline.Value

/-! What the run leaves in the kernel's result: each entry is one of the feature map's, at the region's sample. -/

@[expose] public section

noncomputable section

namespace Cert.Proof.Roi

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells)
open Idealize.ShloMosaic.ShareLeaves (leaf pointsTo_leaves)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr wp_hlo_within)
open Idealize.ShloMosaic.Tactic
open Idealize.ShloMosaic.ValueIdx (ix5)

variable {F : FTy → Type} [FloatOps F] [Named F]
variable (m : (ℓ : Loc nD τ sig) → Buf (Elt F) ℓ)

/-- Entry `(ch, i, j, k)` of a region with fields `q`: channel `ch` of the sample that `q 0` names, at the grid point `(i, j, k)`. -/
def sample {α : Type} (ft : S2x128x32x64x64.Idx → α) (q : ℕ → F .f32) (ch : Fin 128) (i j k : Fin 7) : α :=
  ft (ix5 (Fin.ofNat 2 (toCell 1#32 (q 0)).toNat) ch (Fin.ofNat 32 (toCell 31#32 (gridF 0x41F80000#32 i.val (q 3) (q 6))).toNat)
    (Fin.ofNat 64 (toCell 63#32 (gridF 0x427C0000#32 j.val (q 2) (q 5))).toNat) (Fin.ofNat 64 (toCell 63#32 (gridF 0x427C0000#32 k.val (q 1) (q 4))).toNat))

/-- Field `f` of region `n`, as the argument holds it. -/
def field {α : Type} (rois : S1000x7.Idx → α) (n : Fin 1000) (f : ℕ) : α := rois (ix2 n (Fin.ofNat 7 f))

abbrev ftOf (d : Dev nD) : S2x128x32x64x64.Idx → F .f32 := m ((SparseCore.T d).loc main_arg0)
abbrev roisOf (d : Dev nD) : S1000x7.Idx → F .f32 := m ((SparseCore.T d).loc main_arg1)

/-! ## The table and the padded regions -/

theorem tbOf_eq (d : Dev nD) : tbOf m d = shapeCast S262144x128 (transpose S2x32x64x64x128 [0, 2, 3, 4, 1] (ftOf m d)
    transposes_S2x128x32x64x64_S2x32x64x64x128_0_2_3_4_1) shapeCasts_S2x32x64x64x128_S262144x128 := by
  show V1 m d (dr main_v1) = _
  unfold V1
  after_results_simp
  rfl

theorem rbOf_eq (d : Dev nD) : rbOf m d = shapeCast S8192 (pad S1024x8 ![0, 0] ![24, 1] ![0, 0] (roisOf m d) (sitofp (F := F) .f32 (constantI S_ 32 0#32))
    pads_S1000x7_S1024x8_0240_010 h_S_) shapeCasts_S1024x8_S8192 := by
  show V1 m d (dr main_v3) = _
  unfold V1
  after_results_simp
  rfl

theorem V3_out (d : Dev nD) : V3 m d (dr main_v6) = transpose S1000x128x7x7x7 [3, 4, 0, 1, 2] (shapeCast S7x7x7x1000x128 (G m d)
    shapeCasts_S343000x128_S7x7x7x1000x128) transposes_S7x7x7x1000x128_S1000x128x7x7x7_3_4_0_1_2 := by
  have e : V2 m d (Proc.devRef .tc main_v4) = G m d := V2_v4 m d
  unfold V3
  after_results_simp
  rw [e]
  rfl

theorem tb_apply (d : Dev nD) (b : Fin 2) (z : Fin 32) (y x : Fin 64) (ch : Fin 128) (r : Fin 262144) (hr : r.val = b.val * 131072 + z.val * 4096 + y.val * 64 + x.val) :
    tbOf m d (ix2 r ch) = ftOf m d (ix5 b ch z y x) := by
  rw [tbOf_eq, shapeCast_apply _ _ (ix2 r ch) (ix5 b z y x ch), transpose_apply _ _ _ (ix5 b z y x ch) (ix5 b ch z y x)]
  · intro a; fin_cases a <;> rfl
  · rw [Shape.rowMajor_val_five, Shape.rowMajor_val_two]
    show (((b.val * 32 + z.val) * 64 + y.val) * 64 + x.val) * 128 + ch.val = r.val * 128 + ch.val
    omega

theorem rb_apply (d : Dev nD) (n : Fin 1000) (f : ℕ) (hf : f < 7) : roiAt (rbOf m d) n.val f = field (roisOf m d) n f := by
  have hn := n.isLt
  unfold roiAt field
  rw [rbOf_eq, shapeCast_apply _ _ _ (ix2 (⟨n.val, by omega⟩ : Fin 1024) (⟨f, by omega⟩ : Fin 8)),
    pad_apply_of_inside _ _ _ _ _ _ _ _ (ix2 n (Fin.ofNat 7 f))]
  · intro a
    match a with
    | ⟨0, _⟩ => show n.val = 0 + n.val * 1; omega
    | ⟨1, _⟩ => show f = 0 + (f % 7) * 1; omega
  · rw [Shape.rowMajor_val_two, Shape.rowMajor_val_one]
    show n.val * 8 + f = (8 * n.val + f) % 8192
    omega

/-! ## The result -/

theorem fin_of {N : ℕ} [NeZero N] {v : ℕ} (h : v < N) : (Fin.ofNat N v).val = v := Nat.mod_eq_of_lt h

theorem V3_apply (d : Dev nD) (n : Fin 1000) (ch : Fin 128) (i j k : Fin 7) :
    (V3 m d (dr main_v6) : S1000x128x7x7x7.Idx → F .f32) (ix5 n ch i j k) = sample (ftOf m d) (field (roisOf m d) n) ch i j k := by
  have hn := n.isLt; have hi := i.isLt; have hj := j.isLt; have hk := k.isLt
  rw [V3_out, transpose_apply _ _ _ (ix5 n ch i j k) (ix5 i j k n ch),
    shapeCast_apply _ _ (ix5 i j k n ch) (ix2 (⟨(i.val * 49 + j.val * 7 + k.val) * 1000 + n.val, by omega⟩ : Fin 343000) ch)]
  · have h1 := toCell_le (top := 1#32) (by decide) (field (roisOf m d) n 0)
    have h2 := toCell_le (top := 31#32) (by decide) (gridF 0x41F80000#32 i.val (field (roisOf m d) n 3) (field (roisOf m d) n 6))
    have h3 := toCell_le (top := 63#32) (by decide) (gridF 0x427C0000#32 j.val (field (roisOf m d) n 2) (field (roisOf m d) n 5))
    have h4 := toCell_le (top := 63#32) (by decide) (gridF 0x427C0000#32 k.val (field (roisOf m d) n 1) (field (roisOf m d) n 4))
    rw [show (1#32).toNat = 1 from rfl] at h1
    rw [show (31#32).toNat = 31 from rfl] at h2
    rw [show (63#32).toNat = 63 from rfl] at h3 h4
    unfold sample
    refine tb_apply m d _ _ _ _ ch (rowOf (rbOf m d) _) ?_
    show (idxW (rbOf m d) (((i.val * 49 + j.val * 7 + k.val) * 1000 + n.val) / 1000) (((i.val * 49 + j.val * 7 + k.val) * 1000 + n.val) % 1000)).toNat = _
    rw [show ((i.val * 49 + j.val * 7 + k.val) * 1000 + n.val) / 1000 = i.val * 49 + j.val * 7 + k.val by omega,
      show ((i.val * 49 + j.val * 7 + k.val) * 1000 + n.val) % 1000 = n.val by omega, (idxW_toNat (rbOf m d) (by omega) n.val).1,
      show (i.val * 49 + j.val * 7 + k.val) / 49 = i.val by omega, show (i.val * 49 + j.val * 7 + k.val) / 7 % 7 = j.val by omega,
      show (i.val * 49 + j.val * 7 + k.val) % 7 = k.val by omega]
    simp only [rb_apply m d n _ (show 0 < 7 by omega), rb_apply m d n _ (show 1 < 7 by omega), rb_apply m d n _ (show 2 < 7 by omega),
      rb_apply m d n _ (show 3 < 7 by omega), rb_apply m d n _ (show 4 < 7 by omega), rb_apply m d n _ (show 5 < 7 by omega), rb_apply m d n _ (show 6 < 7 by omega)]
    rw [fin_of (by omega), fin_of (by omega), fin_of (by omega), fin_of (by omega)]
  · rw [Shape.rowMajor_val_five, Shape.rowMajor_val_two]
    show ((i.val * 49 + j.val * 7 + k.val) * 1000 + n.val) * 128 + ch.val = (((i.val * 7 + j.val) * 7 + k.val) * 1000 + n.val) * 128 + ch.val
    omega
  · intro a; fin_cases a <;> rfl

end Cert.Proof.Roi
-- ==== Proof.RefParts.lean ====
module

public import proofs.«01_k».proof.Proof.KernelValue
public import proofs.«01_k».proof.Proof.Gen.ReferenceIdeal.Run
public import Idealize.ShloMosaic.Lib.ReduceAll
public import Idealize.ShloMosaic.Lib.Affine

/-! The reference's operations read at an index: the columns of the regions, the grid, the two gathers. -/

@[expose] public section

noncomputable section

namespace Cert.Proof.Roi

open Cert.ReferenceIdeal Cert.ReferenceIdeal.Gen Cert.ReferenceIdeal.Value

open Idealize.ShloMosaic
open Idealize.ShloMosaic.ValueIdx (ix4 ix5)

variable {F : FTy → Type} [FloatOps F] [Named F]
variable {α : Type}

/-! ## The regions' fields -/

theorem col_apply (x : S1000x7.Idx → α) (f : ℕ) (hf : f < 7) (hs : S1000x7.Slices ![0, f] S1000x1) (hc : S1000x1.ShapeCasts S1000) (n : Fin 1000) :
    shapeCast S1000 (extractStridedSlice S1000x1 ![0, f] x hs) hc (ix1 n) = field x n f := by
  rw [shapeCast_apply _ _ (ix1 n) (ix2 n (0 : Fin 1))]
  · unfold extractStridedSlice field
    refine congrArg x (funext fun a => Fin.ext ?_)
    match a with
    | ⟨0, _⟩ => show 0 + n.val = n.val; omega
    | ⟨1, _⟩ => show f + 0 = f % 7; omega
  · rw [Shape.rowMajor_val_two, Shape.rowMajor_val_one]
    show n.val * 1 + 0 = n.val
    omega

/-- An end of a region, held to the feature map, as the reference does it. -/
def refClip (hi : BitVec 32) (a : F .f32) : F .f32 := FloatOps.minimumf (FloatOps.sitofp .f32 hi) (FloatOps.maximumf (FloatOps.ofBits .f32 0x00000000#32) a)

variable (V : Valuation τ sig (Elt F))

abbrev roisR : S1000x7.Idx → F .f32 := V (Proc.devRef .tc main_arg1)
abbrev ftR : S2x128x32x64x64.Idx → F .f32 := V (Proc.devRef .tc main_arg0)

theorem v5_apply (n : Fin 1000) : res_main_v5 V (ix1 n) = refClip 63#32 (field (roisR V) n 1) :=
  congrArg (fun t => FloatOps.minimumf _ (FloatOps.maximumf _ t)) (col_apply (roisR V) 1 (by decide) _ _ n)
theorem v8_apply (n : Fin 1000) : res_main_v8 V (ix1 n) = refClip 63#32 (field (roisR V) n 2) :=
  congrArg (fun t => FloatOps.minimumf _ (FloatOps.maximumf _ t)) (col_apply (roisR V) 2 (by decide) _ _ n)
theorem v11_apply (n : Fin 1000) : res_main_v11 V (ix1 n) = refClip 31#32 (field (roisR V) n 3) :=
  congrArg (fun t => FloatOps.minimumf _ (FloatOps.maximumf _ t)) (col_apply (roisR V) 3 (by decide) _ _ n)
theorem v14_apply (n : Fin 1000) : res_main_v14 V (ix1 n) = refClip 63#32 (field (roisR V) n 4) :=
  congrArg (fun t => FloatOps.minimumf _ (FloatOps.maximumf _ t)) (col_apply (roisR V) 4 (by decide) _ _ n)
theorem v17_apply (n : Fin 1000) : res_main_v17 V (ix1 n) = refClip 63#32 (field (roisR V) n 5) :=
  congrArg (fun t => FloatOps.minimumf _ (FloatOps.maximumf _ t)) (col_apply (roisR V) 5 (by decide) _ _ n)
theorem v20_apply (n : Fin 1000) : res_main_v20 V (ix1 n) = refClip 31#32 (field (roisR V) n 6) :=
  congrArg (fun t => FloatOps.minimumf _ (FloatOps.maximumf _ t)) (col_apply (roisR V) 6 (by decide) _ _ n)

/-! ## The grid -/

/-- The steps of a grid of seven: `k / 6` for `k < 6`. -/
def steps : FVec F S6 .f32 := Host.divf (sitofp .f32 (iotaInDim S6 32 0)) (broadcastInDim S6 ![] bcast_S_S6 (constant S_ .f32 0x40C00000#32))

/-- The seven points from `a` to `b`, of all regions. -/
def points (a b : FVec F S1000 .f32) : FVec F S1000x7 .f32 :=
  concatenate S1000x7 1 [⟨S1000x6, (addf (mulf (broadcastInDim S1000x6 ![0, 1] bcast_S1000x1_S1000x6_0_1 (shapeCast _ a shapeCasts_S1000_S1000x1)) (broadcastInDim S1000x6 ![0, 1] bcast_S1x6_S1000x6_0_1 (broadcastInDim S1x6 ![1] bcast_S6_S1x6_1 (subf (broadcastInDim S6 ![] bcast_S_S6 (constant S_ .f32 0x3F800000#32)) steps)))) (mulf (broadcastInDim S1000x6 ![0, 1] bcast_S1000x1_S1000x6_0_1 (shapeCast _ b shapeCasts_S1000_S1000x1)) (broadcastInDim S1000x6 ![0, 1] bcast_S1x6_S1000x6_0_1 (broadcastInDim S1x6 ![1] bcast_S6_S1x6_1 steps))))⟩,
    ⟨S1000x1, (broadcastInDim S1000x1 ![0] bcast_S1000_S1000x1_0 b)⟩] concatenates_S1000x6_S1000x1_S1000x7_d1

/-- Point `k` from `a` to `b`. -/
def point (k : Fin 7) (a b : F .f32) : F .f32 :=
  if h : k.val < 6 then FloatOps.addf (FloatOps.mulf a (FloatOps.subf (FloatOps.ofBits .f32 0x3F800000#32) (steps (ix1 ⟨k.val, h⟩)))) (FloatOps.mulf b (steps (ix1 ⟨k.val, h⟩)))
  else b

theorem near_apply (a : FVec F S1000 .f32) (n : Fin 1000) (k : Fin 6) :
    broadcastInDim S1000x6 ![0, 1] bcast_S1000x1_S1000x6_0_1 (shapeCast _ a shapeCasts_S1000_S1000x1) (ix2 n k) = a (ix1 n) := by
  rw [broadcastInDim_apply _ _ _ (ix2 n k) (ix2 n (0 : Fin 1)), shapeCast_apply _ _ (ix2 n (0 : Fin 1)) (ix1 n)]
  · rw [Shape.rowMajor_val_two, Shape.rowMajor_val_one]
    show n.val = n.val * 1 + 0
    omega
  · intro b; fin_cases b <;> rfl

theorem step_apply (t : FVec F S6 .f32) (n : Fin 1000) (k : Fin 6) :
    broadcastInDim S1000x6 ![0, 1] bcast_S1x6_S1000x6_0_1 (broadcastInDim S1x6 ![1] bcast_S6_S1x6_1 t) (ix2 n k) = t (ix1 k) := by
  rw [broadcastInDim_apply _ _ _ (ix2 n k) (ix2 (0 : Fin 1) k), broadcastInDim_apply _ _ _ (ix2 (0 : Fin 1) k) (ix1 k)]
  · intro b; fin_cases b <;> rfl
  · intro b; fin_cases b <;> rfl

theorem points_apply (a b : FVec F S1000 .f32) (n : Fin 1000) (k : Fin 7) : points a b (ix2 n k) = point k (a (ix1 n)) (b (ix1 n)) := by
  unfold points point
  by_cases h : k.val < 6
  · rw [dif_pos h, concatenate_pair_apply_left (s₁ := S1000x6) (s₂ := S1000x1) _ _ _ _ (ix2 n k) rfl (ix2 n (⟨k.val, h⟩ : Fin 6))]
    · show FloatOps.addf (FloatOps.mulf _ _) (FloatOps.mulf _ _) = _
      rw [near_apply, near_apply, step_apply, step_apply]
      rfl
    · intro b; fin_cases b <;> rfl
  · have hk := k.isLt
    rw [dif_neg h, concatenate_pair_apply_right (s₁ := S1000x6) (s₂ := S1000x1) _ _ _ _ (ix2 n k) rfl rfl (ix2 n (0 : Fin 1))]
    · rw [broadcastInDim_apply _ _ _ (ix2 n (0 : Fin 1)) (ix1 n)]
      intro b; fin_cases b; rfl
    · intro b hb
      match b with
      | ⟨0, _⟩ => rfl
      | ⟨1, _⟩ => exact absurd rfl hb
    · show 0 + 6 = k.val
      omega

theorem v31_apply (n : Fin 1000) (i : Fin 7) : res_main_v31 V (ix4 n i (0 : Fin 1) (0 : Fin 1))
    = toCell 31#32 (point i (refClip 31#32 (field (roisR V) n 3)) (refClip 31#32 (field (roisR V) n 6))) := by
  rw [← v11_apply, ← v20_apply, ← points_apply]
  unfold res_main_v31
  exact (broadcastInDim_apply _ _ _ _ (ix2 n i) (by intro b; fin_cases b <;> rfl)).trans rfl

theorem v32_apply (n : Fin 1000) (j : Fin 7) : res_main_v32 V (ix4 n (0 : Fin 1) j (0 : Fin 1))
    = toCell 63#32 (point j (refClip 63#32 (field (roisR V) n 2)) (refClip 63#32 (field (roisR V) n 5))) := by
  rw [← v8_apply, ← v17_apply, ← points_apply]
  unfold res_main_v32
  exact (broadcastInDim_apply _ _ _ _ (ix2 n j) (by intro b; fin_cases b <;> rfl)).trans rfl

theorem v33_apply (n : Fin 1000) (k : Fin 7) : res_main_v33 V (ix4 n (0 : Fin 1) (0 : Fin 1) k)
    = toCell 63#32 (point k (refClip 63#32 (field (roisR V) n 1)) (refClip 63#32 (field (roisR V) n 4))) := by
  rw [← v5_apply, ← v14_apply, ← points_apply]
  unfold res_main_v33
  exact (broadcastInDim_apply _ _ _ _ (ix2 n k) (by intro b; fin_cases b <;> rfl)).trans rfl

/-! ## An index that is not negative is not wrapped -/

theorem wrap_apply {s : Shape} (v z c : IVec s 32) (x : s.Idx) (hz : z x = 0#32) (hv : (v x).toNat < 2 ^ 31) :
    select (cmpi .slt v z) (addi v c) v x = v x := by
  show Scalar.select (IntOp.cmpi .slt (v x) (z x)) (IntOp.addi (v x) (c x)) (v x) = v x
  rw [hz]
  have : IntOp.cmpi .slt (v x) 0#32 ≠ 1#1 := by
    rw [ne_eq, IntOp.cmpi_slt, BitVec.toInt_eq_toNat_of_lt (by omega)]
    simp
  exact if_neg this

/-! ## The list of cells -/

/-- The three coordinates of every cell, side by side. -/
def cellList (a : IVec S1000x7x1x1 32) (b : IVec S1000x1x7x1 32) (c : IVec S1000x1x1x7 32) : IVec S1000x7x7x7x3 32 :=
  concatenate S1000x7x7x7x3 4 [⟨S1000x7x7x7x1, broadcastInDim S1000x7x7x7x1 ![0, 1, 2, 3] bcast_S1000x7x7x7_S1000x7x7x7x1_0_1_2_3 (broadcastInDim S1000x7x7x7 ![0, 1, 2, 3] bcast_S1000x7x1x1_S1000x7x7x7_0_1_2_3 a)⟩,
    ⟨S1000x7x7x7x1, broadcastInDim S1000x7x7x7x1 ![0, 1, 2, 3] bcast_S1000x7x7x7_S1000x7x7x7x1_0_1_2_3 (broadcastInDim S1000x7x7x7 ![0, 1, 2, 3] bcast_S1000x1x7x1_S1000x7x7x7_0_1_2_3 b)⟩,
    ⟨S1000x7x7x7x1, broadcastInDim S1000x7x7x7x1 ![0, 1, 2, 3] bcast_S1000x7x7x7_S1000x7x7x7x1_0_1_2_3 (broadcastInDim S1000x7x7x7 ![0, 1, 2, 3] bcast_S1000x1x1x7_S1000x7x7x7_0_1_2_3 c)⟩] concatenates_S1000x7x7x7x1_S1000x7x7x7x1_S1000x7x7x7x1_S1000x7x7x7x3_d4

theorem cellList_zero (a : IVec S1000x7x1x1 32) (b : IVec S1000x1x7x1 32) (c : IVec S1000x1x1x7 32) (n : Fin 1000) (i j k : Fin 7) :
    cellList a b c (ix5 n i j k (0 : Fin 3)) = a (ix4 n i (0 : Fin 1) (0 : Fin 1)) := by
  unfold cellList
  rw [concatenate_apply_piece _ _ _ (ix5 n i j k (0 : Fin 3)) 0 (by simp) S1000x7x7x7x1 _ rfl rfl 0 rfl (ix5 n i j k (0 : Fin 1)) (by intro b hb; fin_cases b <;> first | rfl | exact absurd rfl hb) rfl,
    broadcastInDim_apply _ _ _ _ (ix4 n i j k) (by intro b; fin_cases b <;> rfl), broadcastInDim_apply _ _ _ _ (ix4 n i (0 : Fin 1) (0 : Fin 1)) (by intro b; fin_cases b <;> rfl)]

theorem cellList_one (a : IVec S1000x7x1x1 32) (b : IVec S1000x1x7x1 32) (c : IVec S1000x1x1x7 32) (n : Fin 1000) (i j k : Fin 7) :
    cellList a b c (ix5 n i j k (1 : Fin 3)) = b (ix4 n (0 : Fin 1) j (0 : Fin 1)) := by
  unfold cellList
  rw [concatenate_apply_piece _ _ _ (ix5 n i j k (1 : Fin 3)) 1 (by simp) S1000x7x7x7x1 _ rfl rfl 1 rfl (ix5 n i j k (0 : Fin 1)) (by intro b hb; fin_cases b <;> first | rfl | exact absurd rfl hb) rfl,
    broadcastInDim_apply _ _ _ _ (ix4 n i j k) (by intro b; fin_cases b <;> rfl), broadcastInDim_apply _ _ _ _ (ix4 n (0 : Fin 1) j (0 : Fin 1)) (by intro b; fin_cases b <;> rfl)]

theorem cellList_two (a : IVec S1000x7x1x1 32) (b : IVec S1000x1x7x1 32) (c : IVec S1000x1x1x7 32) (n : Fin 1000) (i j k : Fin 7) :
    cellList a b c (ix5 n i j k (2 : Fin 3)) = c (ix4 n (0 : Fin 1) (0 : Fin 1) k) := by
  unfold cellList
  rw [concatenate_apply_piece _ _ _ (ix5 n i j k (2 : Fin 3)) 2 (by simp) S1000x7x7x7x1 _ rfl rfl 2 rfl (ix5 n i j k (0 : Fin 1)) (by intro b hb; fin_cases b <;> first | rfl | exact absurd rfl hb) rfl,
    broadcastInDim_apply _ _ _ _ (ix4 n i j k) (by intro b; fin_cases b <;> rfl), broadcastInDim_apply _ _ _ _ (ix4 n (0 : Fin 1) (0 : Fin 1) k) (by intro b; fin_cases b <;> rfl)]

/-! ## The gathers -/

theorem samples_apply (x : S2x128x32x64x64.Idx → α) (idx : IVec S1000x1 32) (n : Fin 1000) (ch : Fin 128) (z : Fin 32) (y w : Fin 64) :
    Host.gather gather_S2x128x32x64x64_S1000x1_S1000x128x32x64x64_1234_0_n_n_0_1_1128326464 x idx (ix5 n ch z y w)
      = x (ix5 (⟨min (idx (ix2 n (0 : Fin 1))).toInt.toNat 1, by omega⟩ : Fin 2) ch z y w) := by
  have si (c : Fin 1) : GatherDims.siIdx gather_S2x128x32x64x64_S1000x1_S1000x128x32x64x64_1234_0_n_n_0_1_1128326464 (ix5 n ch z y w) c = ix2 n (0 : Fin 1) :=
    funext fun b => Fin.ext (by fin_cases c; fin_cases b <;> rfl)
  unfold Host.gather
  refine congrArg x (funext fun a => Fin.ext ?_)
  match a with
  | ⟨0, _⟩ => exact congrArg (fun t => min (idx t).toInt.toNat 1 + 0 + 0) (si 0)
  | ⟨1, _⟩ => show 0 + 0 + ch.val = ch.val; omega
  | ⟨2, _⟩ => show 0 + 0 + z.val = z.val; omega
  | ⟨3, _⟩ => show 0 + 0 + y.val = y.val; omega
  | ⟨4, _⟩ => show 0 + 0 + w.val = w.val; omega

theorem cells_apply (x : S1000x128x32x64x64.Idx → α) (idx : IVec S1000x7x7x7x3 32) (n : Fin 1000) (ch : Fin 128) (i j k : Fin 7) :
    Host.gather gather_S1000x128x32x64x64_S1000x7x7x7x3_S1000x128x7x7x7_1_234_0_0_234_4_1128111 x idx (ix5 n ch i j k)
      = x (ix5 n ch (⟨min (idx (ix5 n i j k (0 : Fin 3))).toInt.toNat 31, by omega⟩ : Fin 32)
          (⟨min (idx (ix5 n i j k (1 : Fin 3))).toInt.toNat 63, by omega⟩ : Fin 64) (⟨min (idx (ix5 n i j k (2 : Fin 3))).toInt.toNat 63, by omega⟩ : Fin 64)) := by
  have si (c : Fin 3) : GatherDims.siIdx gather_S1000x128x32x64x64_S1000x7x7x7x3_S1000x128x7x7x7_1_234_0_0_234_4_1128111 (ix5 n ch i j k) c = ix5 n i j k c :=
    funext fun b => Fin.ext (by fin_cases b <;> rfl)
  unfold Host.gather
  refine congrArg x (funext fun a => Fin.ext ?_)
  match a with
  | ⟨0, _⟩ => show 0 + n.val + 0 = n.val; omega
  | ⟨1, _⟩ => show 0 + 0 + ch.val = ch.val; omega
  | ⟨2, _⟩ => exact congrArg (fun t => min (idx t).toInt.toNat 31 + 0 + 0) (si 0)
  | ⟨3, _⟩ => exact congrArg (fun t => min (idx t).toInt.toNat 63 + 0 + 0) (si 1)
  | ⟨4, _⟩ => exact congrArg (fun t => min (idx t).toInt.toNat 63 + 0 + 0) (si 2)

end Cert.Proof.Roi
-- ==== Proof.RefPoints.lean ====
module

public import proofs.«01_k».proof.Proof.RefParts
public import Idealize.ShloMosaic.PureOps.Ideal.Laws
public import Idealize.ShloMosaic.Lib.IdealHost

/-! Over the extended reals the reference's grid is the kernel's, and a sample's index in range is left as it is. -/

@[expose] public section

noncomputable section

namespace Cert.Proof.Roi

open Cert.ReferenceIdeal Cert.ReferenceIdeal.Gen

open Idealize.ShloMosaic
open Idealize.ShloMosaic.ValueIdx (ix4 ix5)

/-! ## The constants' values -/

theorem bits_half : Ideal.ofBits .f32 0x3F000000#32 = ((1 / 2 : ℝ) : EReal) := by
  simp [Ideal.ofBits, Ideal.ieee, -EReal.coe_mul]; norm_num
theorem bits_six : Ideal.ofBits .f32 0x40C00000#32 = ((6 : ℝ) : EReal) := by
  simp [Ideal.ofBits, Ideal.ieee, -EReal.coe_mul]; norm_num
theorem bits_two : Ideal.ofBits .f32 0x40000000#32 = ((2 : ℝ) : EReal) := by
  simp [Ideal.ofBits, Ideal.ieee, -EReal.coe_mul]; norm_num
theorem bits_neg_one : Ideal.ofBits .f32 0xBF800000#32 = ((-1 : ℝ) : EReal) := by
  simp [Ideal.ofBits, Ideal.ieee, -EReal.coe_mul, -EReal.coe_neg]; norm_num
theorem bits_top31 : Ideal.ofBits .f32 0x41F80000#32 = ((31 : ℝ) : EReal) := by
  simp [Ideal.ofBits, Ideal.ieee, -EReal.coe_mul]; norm_num
theorem bits_top63 : Ideal.ofBits .f32 0x427C0000#32 = ((63 : ℝ) : EReal) := by
  simp [Ideal.ofBits, Ideal.ieee, -EReal.coe_mul]; norm_num
theorem bits_one : Ideal.ofBits .f32 0x3F800000#32 = ((1 : ℝ) : EReal) := by
  rw [Ideal.ofBits_one_f32]; rfl
theorem bits_zero : Ideal.ofBits .f32 0x00000000#32 = ((0 : ℝ) : EReal) := by
  rw [Ideal.ofBits_zero_f32]; rfl

theorem clip63 (a : Ideal .f32) : refClip 63#32 a = clip 0x427C0000#32 a := by
  show min (((63#32 : BitVec 32).toInt : ℝ) : EReal) _ = min (Ideal.ofBits .f32 0x427C0000#32) _
  rw [bits_top63]
  norm_num
  rfl
theorem clip31 (a : Ideal .f32) : refClip 31#32 a = clip 0x41F80000#32 a := by
  show min (((31#32 : BitVec 32).toInt : ℝ) : EReal) _ = min (Ideal.ofBits .f32 0x41F80000#32) _
  rw [bits_top31]
  norm_num
  rfl

/-! ## The steps -/

theorem steps_eq (k : Fin 6) : (steps (ix1 k) : Ideal .f32) = ((k.val / 6 : ℝ) : EReal) := by
  show Ideal.div (((BitVec.ofNat 32 k.val).toInt : ℝ) : EReal) (Ideal.ofBits .f32 0x40C00000#32) = _
  rw [bits_six]
  have h : (BitVec.ofNat 32 k.val).toInt = k.val := by fin_cases k <;> rfl
  rw [h]
  unfold Ideal.div
  rw [if_neg (by norm_num), ← EReal.coe_inv, ← EReal.coe_mul]
  norm_num [div_eq_mul_inv]

open Cert.KernelIdeal in
theorem lin_eq (k : Fin 6) : (lin k.val : Ideal .f32) = ((k.val / 6 : ℝ) : EReal) := by
  fin_cases k
  · show Ideal.ofBits .f32 0x00000000#32 = _
    rw [bits_zero]; norm_num
  · show ((1 / 6 : ℝ) : EReal) = _
    norm_num
  · show ((1 / 3 : ℝ) : EReal) = _
    norm_num
  · show Ideal.ofBits .f32 0x3F000000#32 = _
    rw [bits_half]; norm_num
  · show ((2 / 3 : ℝ) : EReal) = _
    norm_num
  · show ((5 / 6 : ℝ) : EReal) = _
    norm_num

theorem omt_eq (k : Fin 6) : (omt k.val : Ideal .f32) = ((1 - k.val / 6 : ℝ) : EReal) := by
  fin_cases k
  · show Ideal.ofBits .f32 0x3F800000#32 = _
    rw [bits_one]; norm_num
  · show ((5 / 6 : ℝ) : EReal) = _
    norm_num
  · show Ideal.ofBits .f32 0x3F800000#32 - ((1 / 3 : ℝ) : EReal) = _
    rw [bits_one, ← EReal.coe_sub]; norm_num
  · show Ideal.ofBits .f32 0x3F000000#32 = _
    rw [bits_half]; norm_num
  · show Ideal.ofBits .f32 0x3F800000#32 - ((2 / 3 : ℝ) : EReal) = _
    rw [bits_one, ← EReal.coe_sub]; norm_num
  · show Ideal.ofBits .f32 0x3F800000#32 - ((5 / 6 : ℝ) : EReal) = _
    rw [bits_one, ← EReal.coe_sub]; norm_num

theorem one_sub_steps (k : Fin 6) : (FloatOps.subf (FloatOps.ofBits .f32 0x3F800000#32) (steps (ix1 k)) : Ideal .f32) = omt k.val := by
  rw [omt_eq, steps_eq]
  show Ideal.ofBits .f32 0x3F800000#32 - _ = _
  rw [bits_one, ← EReal.coe_sub]

theorem gridF_lt (hi : BitVec 32) (k : Fin 7) (h : k.val < 6) (a b : Ideal .f32) :
    gridF hi k.val a b = FloatOps.addf (FloatOps.mulf (clip hi a) (omt k.val)) (FloatOps.mulf (clip hi b) (lin k.val)) := by
  fin_cases k <;> first | rfl | exact absurd h (by decide)

theorem point_eq (hi : BitVec 32) (k : Fin 7) (a b : Ideal .f32) : point k (clip hi a) (clip hi b) = gridF hi k.val a b := by
  unfold point
  by_cases h : k.val < 6
  · rw [dif_pos h, gridF_lt hi k h, one_sub_steps ⟨k.val, h⟩, steps_eq ⟨k.val, h⟩, ← lin_eq ⟨k.val, h⟩]
  · rw [dif_neg h]
    have : k = 6 := Fin.ext (by have := k.isLt; show k.val = 6; omega)
    subst this
    rfl

/-! ## A sample's index -/

/-- Strictly between -1 and 2 an index rounds towards zero to 0 or 1. -/
theorem round_sample (q : Ideal .f32) (h₁ : Ideal.ofBits .f32 0xBF800000#32 < q) (h₂ : q < Ideal.ofBits .f32 0x40000000#32) :
    (FloatOps.fptosi 32 q : BitVec 32) = 0#32 ∨ (FloatOps.fptosi 32 q : BitVec 32) = 1#32 := by
  rw [bits_neg_one] at h₁
  rw [bits_two] at h₂
  induction q using EReal.rec with
  | bot => exact absurd h₁ (by simp)
  | top => exact absurd h₂ (by simp)
  | coe r =>
    have h₁ : (-1 : ℝ) < r := EReal.coe_lt_coe_iff.mp h₁
    have h₂ : r < 2 := EReal.coe_lt_coe_iff.mp h₂
    show BitVec.ofInt 32 (max (-(2 ^ 31)) (min (2 ^ 31 - 1) (if 0 ≤ r then ⌊r⌋ else ⌈r⌉))) = _ ∨ BitVec.ofInt 32 (max (-(2 ^ 31)) (min (2 ^ 31 - 1) (if 0 ≤ r then ⌊r⌋ else ⌈r⌉))) = _
    have : (if 0 ≤ r then ⌊r⌋ else ⌈r⌉) = 0 ∨ (if 0 ≤ r then ⌊r⌋ else ⌈r⌉) = 1 := by
      split
      · rename_i h
        have a : 0 ≤ ⌊r⌋ := Int.floor_nonneg.mpr h
        have b : ⌊r⌋ < 2 := Int.floor_lt.mpr (by exact_mod_cast h₂)
        omega
      · rename_i h
        left
        rw [Int.ceil_eq_iff]
        have h : r < 0 := not_le.mp h
        constructor <;> push_cast <;> linarith
    rcases this with e | e <;> rw [e]
    · left; rfl
    · right; rfl

end Cert.Proof.Roi
-- ==== Proof.Algebraic.lean ====
module

public import proofs.«01_k».proof.Proof.RefPoints
public import proofs.«01_k».proof.Proof.Frames

/-! The kernel and the reference agree over the extended reals when every region names a sample of the batch. -/

@[expose] public section

noncomputable section

namespace Cert.Proof.Roi

open Cert.ReferenceIdeal Cert.ReferenceIdeal.Gen Cert.ReferenceIdeal.Value

open Idealize.ShloMosaic
open Idealize.ShloMosaic.ValueIdx (ix4 ix5)

variable (V : Valuation τ sig (Elt Ideal))

/-! ## The sample a region names -/

/-- The index of region `n`'s sample is 0 or 1. -/
def NamesSample (n : Fin 1000) : Prop := (FloatOps.fptosi 32 (field (roisR V) n 0) : BitVec 32) = 0#32 ∨ (FloatOps.fptosi 32 (field (roisR V) n 0) : BitVec 32) = 1#32

theorem v2_apply (n : Fin 1000) : (res_main_v2 V : IVec S1000 32) (ix1 n) = FloatOps.fptosi 32 (field (roisR V) n 0) :=
  congrArg (FloatOps.fptosi 32) (col_apply (roisR V) 0 (by decide) _ _ n)

theorem sampleIdx_apply (n : Fin 1000) (u : Fin 1) (h : NamesSample V n) :
    (res_main_call12_v5 V : IVec S1000x1 32) (ix2 n u) = FloatOps.fptosi 32 (field (roisR V) n 0) := by
  unfold res_main_call12_v5
  refine (broadcastInDim_apply _ _ _ _ (ix1 n) (by intro b; fin_cases b; rfl)).trans ?_
  rw [wrap_apply _ _ _ (ix1 n) rfl, v2_apply]
  rw [v2_apply]
  rcases h with h | h <;> rw [h] <;> decide

/-- Whether a region's sample is one of the batch's, as the reference masks it. -/
def inBatch : IVec S1000 1 :=
  Host.reduce IntOp.andi (andi (cmpi .sge (res_main_call12_v5 V) (broadcastInDim S1000x1 ![] bcast_S_S1000x1 (constantI S_ 32 0#32))) (cmpi .sle (res_main_call12_v5 V) (broadcastInDim S1000x1 ![0, 1] bcast_S1x1_S1000x1_0_1 (broadcastInDim S1x1 ![1] bcast_S1_S1x1_1 (constantI S1 32 1#32))))) (constantI S_ 1 1#1) reducesTo_S1000x1_S1000_d1 h_S_

theorem inBatch_apply (h : ∀ n, NamesSample V n) (n : S1000.Idx) : inBatch V n = 1#1 := by
  refine Host.reduce_andi_one _ _ _ _ n rfl fun x => ?_
  obtain ⟨n, u, rfl⟩ : ∃ (n : Fin 1000) (u : Fin 1), x = ix2 n u := ⟨x 0, x 1, funext fun b => by fin_cases b <;> rfl⟩
  show IntOp.andi (IntOp.cmpi .sge (res_main_call12_v5 V (ix2 n u)) 0#32) (IntOp.cmpi .sle (res_main_call12_v5 V (ix2 n u)) 1#32) = 1#1
  rw [sampleIdx_apply V n u (h n)]
  rcases h n with e | e <;> rw [e] <;> decide

theorem toCell_names (n : Fin 1000) (h : NamesSample V n) : toCell 1#32 (field (roisR V) n 0) = FloatOps.fptosi 32 (field (roisR V) n 0) := by
  unfold toCell
  rcases h with e | e
  · show IntOp.minsi 1#32 (IntOp.maxsi 0#32 (FloatOps.fptosi 32 (field (roisR V) n 0))) = _
    rw [e]; decide
  · show IntOp.minsi 1#32 (IntOp.maxsi 0#32 (FloatOps.fptosi 32 (field (roisR V) n 0))) = _
    rw [e]; decide

/-! ## The reference's result -/

/-- The rows of the cells, as the reference wraps them. -/
def wrapZ : IVec S1000x7x1x1 32 :=
  select (cmpi .slt (res_main_v31 V) (broadcastInDim S1000x7x1x1 ![] bcast_S_S1000x7x1x1 (constantI S_ 32 0#32))) (addi (res_main_v31 V) (broadcastInDim S1000x7x1x1 ![] bcast_S_S1000x7x1x1 (constantI S_ 32 32#32))) (res_main_v31 V)
def wrapY : IVec S1000x1x7x1 32 :=
  select (cmpi .slt (res_main_v32 V) (broadcastInDim S1000x1x7x1 ![] bcast_S_S1000x1x7x1 (constantI S_ 32 0#32))) (addi (res_main_v32 V) (broadcastInDim S1000x1x7x1 ![] bcast_S_S1000x1x7x1 (constantI S_ 32 64#32))) (res_main_v32 V)
def wrapX : IVec S1000x1x1x7 32 :=
  select (cmpi .slt (res_main_v33 V) (broadcastInDim S1000x1x1x7 ![] bcast_S_S1000x1x1x7 (constantI S_ 32 0#32))) (addi (res_main_v33 V) (broadcastInDim S1000x1x1x7 ![] bcast_S_S1000x1x1x7 (constantI S_ 32 64#32))) (res_main_v33 V)

/-- What the reference returns. -/
def refOut : S1000x128x7x7x7.Idx → Ideal .f32 :=
  Host.gather gather_S1000x128x32x64x64_S1000x7x7x7x3_S1000x128x7x7x7_1_234_0_0_234_4_1128111
    (select (broadcastInDim S1000x128x32x64x64 ![0] bcast_S1000_S1000x128x32x64x64_0 (inBatch V))
      (Host.gather gather_S2x128x32x64x64_S1000x1_S1000x128x32x64x64_1234_0_n_n_0_1_1128326464 (ftR V) (res_main_call12_v5 V))
      (broadcastInDim S1000x128x32x64x64 ![] bcast_S_S1000x128x32x64x64 (constant S_ .f32 0x7FC00000#32)))
    (cellList (wrapZ V) (wrapY V) (wrapX V))

/-- A word up to `top`, read as an index and held to `top`, is itself. -/
theorem cell_val (t N : ℕ) [NeZero N] (hN : t + 1 = N) (ht : t < 2 ^ 31) (v : BitVec 32) (hv : v.toNat ≤ t) : min v.toInt.toNat t = (Fin.ofNat N v.toNat).val := by
  rw [BitVec.toInt_eq_toNat_of_lt (by omega), Int.toNat_natCast, min_eq_left hv]
  exact (Nat.mod_eq_of_lt (by omega)).symm

theorem wrapZ_apply (n : Fin 1000) (i : Fin 7) : wrapZ V (ix4 n i (0 : Fin 1) (0 : Fin 1)) = toCell 31#32 (gridF 0x41F80000#32 i.val (field (roisR V) n 3) (field (roisR V) n 6)) := by
  have e := v31_apply V n i
  rw [clip31, clip31, point_eq] at e
  exact (wrap_apply _ _ _ _ rfl (by rw [e]; exact (toCell_le (top := 31#32) (by decide) _).trans_lt (by decide))).trans e

theorem wrapY_apply (n : Fin 1000) (j : Fin 7) : wrapY V (ix4 n (0 : Fin 1) j (0 : Fin 1)) = toCell 63#32 (gridF 0x427C0000#32 j.val (field (roisR V) n 2) (field (roisR V) n 5)) := by
  have e := v32_apply V n j
  rw [clip63, clip63, point_eq] at e
  exact (wrap_apply _ _ _ _ rfl (by rw [e]; exact (toCell_le (top := 63#32) (by decide) _).trans_lt (by decide))).trans e

theorem wrapX_apply (n : Fin 1000) (k : Fin 7) : wrapX V (ix4 n (0 : Fin 1) (0 : Fin 1) k) = toCell 63#32 (gridF 0x427C0000#32 k.val (field (roisR V) n 1) (field (roisR V) n 4)) := by
  have e := v33_apply V n k
  rw [clip63, clip63, point_eq] at e
  exact (wrap_apply _ _ _ _ rfl (by rw [e]; exact (toCell_le (top := 63#32) (by decide) _).trans_lt (by decide))).trans e

theorem refOut_apply (h : ∀ n, NamesSample V n) (n : Fin 1000) (ch : Fin 128) (i j k : Fin 7) :
    refOut V (ix5 n ch i j k) = sample (ftR V) (field (roisR V) n) ch i j k := by
  unfold refOut
  rw [cells_apply]
  refine (congrArg (fun c => Scalar.select c _ _) (inBatch_apply V h _)).trans ?_
  refine (ValueIdx.select_one _ _).trans ?_
  refine (samples_apply _ _ _ _ _ _ _).trans ?_
  unfold sample
  refine congrArg (ftR V) ?_
  refine congr (congr (congr (congrArg (fun b => ix5 b ch) (Fin.ext ?_)) (Fin.ext ?_)) (Fin.ext ?_)) (Fin.ext ?_)
  · show min (res_main_call12_v5 V (ix2 n (0 : Fin 1))).toInt.toNat 1 = _
    rw [sampleIdx_apply V n 0 (h n), ← toCell_names V n (h n)]
    exact cell_val 1 2 rfl (by decide) _ (toCell_le (top := 1#32) (by decide) _)
  · show min (cellList (wrapZ V) (wrapY V) (wrapX V) (ix5 n i j k (0 : Fin 3))).toInt.toNat 31 = _
    rw [cellList_zero, wrapZ_apply]
    exact cell_val 31 32 rfl (by decide) _ (toCell_le (top := 31#32) (by decide) _)
  · show min (cellList (wrapZ V) (wrapY V) (wrapX V) (ix5 n i j k (1 : Fin 3))).toInt.toNat 63 = _
    rw [cellList_one, wrapY_apply]
    exact cell_val 63 64 rfl (by decide) _ (toCell_le (top := 63#32) (by decide) _)
  · show min (cellList (wrapZ V) (wrapY V) (wrapX V) (ix5 n i j k (2 : Fin 3))).toInt.toNat 63 = _
    rw [cellList_two, wrapX_apply]
    exact cell_val 63 64 rfl (by decide) _ (toCell_le (top := 63#32) (by decide) _)

/-! ## The precondition -/

/-- The precondition's test of every region: its index is above -1 and below 2. -/
def named (r : S1000x7.Idx → Ideal .f32) : IVec S1000 1 :=
  andi (cmpf .ogt (shapeCast S1000 (extractStridedSlice S1000x1 ![0, 0] r slices_S1000x7_S1000x1_0_0) shapeCasts_S1000x1_S1000) (broadcastInDim S1000 ![] bcast_S_S1000 (constant S_ .f32 0xBF800000#32)))
    (cmpf .olt (shapeCast S1000 (extractStridedSlice S1000x1 ![0, 0] r slices_S1000x7_S1000x1_0_0) shapeCasts_S1000x1_S1000) (broadcastInDim S1000 ![] bcast_S_S1000 (constant S_ .f32 0x40000000#32)))

instance : Subsingleton S_.Idx := ⟨fun a b => funext fun i => i.elim0⟩

theorem named_of_pre (a : S2x128x32x64x64.Idx → Ideal .f32) (r : S1000x7.Idx → Ideal .f32) (h : Cert.Pre_names_a_sample.fn (F := Ideal) a r = fun _ => 1#1) (n : S1000.Idx) : named r n = 1#1 :=
  Host.reduce_andi_all (t := S_) (named r) (constantI S_ 1 1#1) Cert.Pre_names_a_sample.Gen.facts.reducesTo_S1000_S_d0 Cert.Pre_names_a_sample.Gen.facts.h_S_ (fun i => i.elim0) (congrFun h (fun i => i.elim0)) n

theorem names_of_pre (a : S2x128x32x64x64.Idx → Ideal .f32) (h : Cert.Pre_names_a_sample.fn (F := Ideal) a (roisR V) = fun _ => 1#1) (n : Fin 1000) : NamesSample V n := by
  have e := named_of_pre a (roisR V) h (ix1 n)
  obtain ⟨e₁, e₂⟩ := IntOp.andi_eq_one.mp e
  have c := col_apply (roisR V) 0 (by decide) slices_S1000x7_S1000x1_0_0 shapeCasts_S1000x1_S1000 n
  refine round_sample _ ?_ ?_
  · have e₁ : BitVec.ofBool (decide (Ideal.ofBits .f32 0xBF800000#32 < shapeCast S1000 (extractStridedSlice S1000x1 ![0, 0] (roisR V) slices_S1000x7_S1000x1_0_0) shapeCasts_S1000x1_S1000 (ix1 n))) = 1#1 := e₁
    rw [c] at e₁
    by_contra hn
    rw [decide_eq_false hn] at e₁
    exact absurd e₁ (by decide)
  · have e₂ : BitVec.ofBool (decide (shapeCast S1000 (extractStridedSlice S1000x1 ![0, 0] (roisR V) slices_S1000x7_S1000x1_0_0) shapeCasts_S1000x1_S1000 (ix1 n) < Ideal.ofBits .f32 0x40000000#32)) = 1#1 := e₂
    rw [c] at e₂
    by_contra hn
    rw [decide_eq_false hn] at e₂
    exact absurd e₂ (by decide)

/-! ## The claim -/

/-- The reference's run, its result named. -/
theorem run_ref (m : (ℓ : Loc nD τ sig) → Buf (Elt Ideal) ℓ) (ρ : Dev nD → PrngReg) :
    θ_run (Cert.ReferenceIdeal.defs (F := Ideal)) (onTc (τ := τ) (main (F := Ideal))) ⟨m, fun _ => 0, ρ⟩ fun r => ∀ c : Dev nD,
      r.2.mem ((c.tc : Thread nD τ).loc main_v56) = refOut (StableHlo.launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  Cert.ReferenceIdeal.Value.run (F := Ideal) m ρ

/-- The two results are equal. -/
theorem out_eq (m : (ℓ : Loc Cert.KernelIdeal.nD Cert.KernelIdeal.τ Cert.KernelIdeal.sig) → Buf (Elt Ideal) ℓ) (c : Dev Cert.KernelIdeal.nD)
    (hf : ftR V = ftOf m c) (hr : roisR V = roisOf m c) (hpre : Cert.Pre_names_a_sample.fn (F := Ideal) (ftOf m c) (roisOf m c) = fun _ => 1#1) :
    refOut V = (V3 m c (Proc.devRef .tc Cert.KernelIdeal.main_v6) : S1000x128x7x7x7.Idx → Ideal .f32) := by
  have hn : ∀ n, NamesSample V n := names_of_pre V (ftOf m c) (by rw [hr]; exact hpre)
  funext x
  obtain ⟨n, ch, i, j, k, rfl⟩ : ∃ (n : Fin 1000) (ch : Fin 128) (i j k : Fin 7), x = ix5 n ch i j k := ⟨x 0, x 1, x 2, x 3, x 4, ValueIdx.eq_ix5 x⟩
  rw [refOut_apply V hn, hf, hr]
  exact (V3_apply m c _ _ _ _ _).symm

theorem algebraic : Cert.algebraic_KernelIdeal_ReferenceIdeal_pre_names_a_sample := by
  intro m g m' g' hpre hargs
  refine ⟨fun c => V3 m c (Proc.devRef .tc Cert.KernelIdeal.main_v6), ?_, ?_⟩
  · exact (θ_run Cert.KernelIdeal.defs _ _).mono (fun r h c => ⟨(h.1 c).2.2, (h.1 c).1, (h.1 c).2.1⟩) (run_main (F := Ideal) m g)
  · exact (θ_run Cert.ReferenceIdeal.defs _ _).mono
      (fun r h c => ⟨(h c).1.trans (out_eq (StableHlo.launchContents m' c) m c (hargs c).1 (hargs c).2 (hpre c)), (h c).2.1, (h c).2.2⟩) (run_ref m' g')

end Cert.Proof.Roi
-- ==== Proof.lean ====
module

public import proofs.«01_k».proof.Defs
public import proofs.«01_k».proof.Proof.KernelFrame
public import proofs.«01_k».proof.Proof.Frames
public import proofs.«01_k».proof.Proof.Algebraic

/-! The claims, assembled. -/

@[expose] public section

noncomputable section

namespace Cert.Proof

theorem claim : Cert.Claim := ⟨Cert.Kernel.Gen.facts, Cert.KernelIdeal.Gen.facts, Cert.ReferenceIdeal.Gen.facts, Cert.Pre_names_a_sample.Gen.facts,
  Roi.frame_kernel, Roi.frame_ideal, Roi.frame_ideal_pre, Roi.frame_ref, Roi.frame_ref_pre, Roi.preserves, Roi.algebraic⟩

end Cert.Proof

end
